-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DHf (m : (ℓ : Loc Cert.DHf.nD Cert.DHf.τ Cert.DHf.sig) → Buf (Elt Bits) ℓ) : Prop :=
  True

def Pre_DHfIdeal (m : (ℓ : Loc Cert.DHfIdeal.nD Cert.DHfIdeal.τ Cert.DHfIdeal.sig) → Buf (Elt Ideal) ℓ) : Prop :=
  True

def Pre_DHfRefIdeal (m : (ℓ : Loc Cert.DHfRefIdeal.nD Cert.DHfRefIdeal.τ Cert.DHfRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_DCatRefIdeal (m : (ℓ : Loc Cert.DCatRefIdeal.nD Cert.DCatRefIdeal.τ Cert.DCatRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InSwa (m : (ℓ : Loc Cert.InSwa.nD Cert.InSwa.τ Cert.InSwa.sig) → Buf (Elt Bits) ℓ) : Prop :=
  True

def Pre_InSwaIdeal (m : (ℓ : Loc Cert.InSwaIdeal.nD Cert.InSwaIdeal.τ Cert.InSwaIdeal.sig) → Buf (Elt Ideal) ℓ) : Prop :=
  True

def Pre_InSwaRefIdeal (m : (ℓ : Loc Cert.InSwaRefIdeal.nD Cert.InSwaRefIdeal.τ Cert.InSwaRefIdeal.sig) → Buf (Elt Ideal) ℓ) : Prop :=
  True

def Pre_DInSwa (m : (ℓ : Loc Cert.DInSwa.nD Cert.DInSwa.τ Cert.DInSwa.sig) → Buf (Elt Bits) ℓ) : Prop :=
  True

def Pre_DInSwaIdeal (m : (ℓ : Loc Cert.DInSwaIdeal.nD Cert.DInSwaIdeal.τ Cert.DInSwaIdeal.sig) → Buf (Elt Ideal) ℓ) : Prop :=
  True

def Pre_DInSwaRefIdeal (m : (ℓ : Loc Cert.DInSwaRefIdeal.nD Cert.DInSwaRefIdeal.τ Cert.DInSwaRefIdeal.sig) → Buf (Elt Ideal) ℓ) : Prop :=
  True

def Pre_DwInSwa (m : (ℓ : Loc Cert.DwInSwa.nD Cert.DwInSwa.τ Cert.DwInSwa.sig) → Buf (Elt Bits) ℓ) : Prop :=
  True

def Pre_DwInSwaIdeal (m : (ℓ : Loc Cert.DwInSwaIdeal.nD Cert.DwInSwaIdeal.τ Cert.DwInSwaIdeal.sig) → Buf (Elt Ideal) ℓ) : Prop :=
  True

def Pre_DwInSwaRefIdeal (m : (ℓ : Loc Cert.DwInSwaRefIdeal.nD Cert.DwInSwaRefIdeal.τ Cert.DwInSwaRefIdeal.sig) → Buf (Elt Ideal) ℓ) : Prop :=
  True

def Pre_InRwkv (m : (ℓ : Loc Cert.InRwkv.nD Cert.InRwkv.τ Cert.InRwkv.sig) → Buf (Elt Bits) ℓ) : Prop :=
  True

def Pre_InRwkvIdeal (m : (ℓ : Loc Cert.InRwkvIdeal.nD Cert.InRwkvIdeal.τ Cert.InRwkvIdeal.sig) → Buf (Elt Ideal) ℓ) : Prop :=
  True

def Pre_InRwkvRefIdeal (m : (ℓ : Loc Cert.InRwkvRefIdeal.nD Cert.InRwkvRefIdeal.τ Cert.InRwkvRefIdeal.sig) → Buf (Elt Ideal) ℓ) : Prop :=
  True

def Pre_DInRwkv (m : (ℓ : Loc Cert.DInRwkv.nD Cert.DInRwkv.τ Cert.DInRwkv.sig) → Buf (Elt Bits) ℓ) : Prop :=
  True

def Pre_DInRwkvIdeal (m : (ℓ : Loc Cert.DInRwkvIdeal.nD Cert.DInRwkvIdeal.τ Cert.DInRwkvIdeal.sig) → Buf (Elt Ideal) ℓ) : Prop :=
  True

def Pre_DInRwkvRefIdeal (m : (ℓ : Loc Cert.DInRwkvRefIdeal.nD Cert.DInRwkvRefIdeal.τ Cert.DInRwkvRefIdeal.sig) → Buf (Elt Ideal) ℓ) : Prop :=
  True

def Pre_DwInRwkv (m : (ℓ : Loc Cert.DwInRwkv.nD Cert.DwInRwkv.τ Cert.DwInRwkv.sig) → Buf (Elt Bits) ℓ) : Prop :=
  True

def Pre_DwInRwkvIdeal (m : (ℓ : Loc Cert.DwInRwkvIdeal.nD Cert.DwInRwkvIdeal.τ Cert.DwInRwkvIdeal.sig) → Buf (Elt Ideal) ℓ) : Prop :=
  True

def Pre_DwInRwkvRefIdeal (m : (ℓ : Loc Cert.DwInRwkvRefIdeal.nD Cert.DwInRwkvRefIdeal.τ Cert.DwInRwkvRefIdeal.sig) → Buf (Elt Ideal) ℓ) : Prop :=
  True

def Pre_InGdn (m : (ℓ : Loc Cert.InGdn.nD Cert.InGdn.τ Cert.InGdn.sig) → Buf (Elt Bits) ℓ) : Prop :=
  True

def Pre_InGdnIdeal (m : (ℓ : Loc Cert.InGdnIdeal.nD Cert.InGdnIdeal.τ Cert.InGdnIdeal.sig) → Buf (Elt Ideal) ℓ) : Prop :=
  True

def Pre_InGdnRefIdeal (m : (ℓ : Loc Cert.InGdnRefIdeal.nD Cert.InGdnRefIdeal.τ Cert.InGdnRefIdeal.sig) → Buf (Elt Ideal) ℓ) : Prop :=
  True

def Pre_DInGdn (m : (ℓ : Loc Cert.DInGdn.nD Cert.DInGdn.τ Cert.DInGdn.sig) → Buf (Elt Bits) ℓ) : Prop :=
  True

def Pre_DInGdnIdeal (m : (ℓ : Loc Cert.DInGdnIdeal.nD Cert.DInGdnIdeal.τ Cert.DInGdnIdeal.sig) → Buf (Elt Ideal) ℓ) : Prop :=
  True

def Pre_DInGdnRefIdeal (m : (ℓ : Loc Cert.DInGdnRefIdeal.nD Cert.DInGdnRefIdeal.τ Cert.DInGdnRefIdeal.sig) → Buf (Elt Ideal) ℓ) : Prop :=
  True

def Pre_DwInGdn (m : (ℓ : Loc Cert.DwInGdn.nD Cert.DwInGdn.τ Cert.DwInGdn.sig) → Buf (Elt Bits) ℓ) : Prop :=
  True

def Pre_DwInGdnIdeal (m : (ℓ : Loc Cert.DwInGdnIdeal.nD Cert.DwInGdnIdeal.τ Cert.DwInGdnIdeal.sig) → Buf (Elt Ideal) ℓ) : Prop :=
  True

def Pre_DwInGdnRefIdeal (m : (ℓ : Loc Cert.DwInGdnRefIdeal.nD Cert.DwInGdnRefIdeal.τ Cert.DwInGdnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_DMemKv (m : (ℓ : Loc Cert.DMemKv.nD Cert.DMemKv.τ Cert.DMemKv.sig) → Buf (Elt Bits) ℓ) : Prop :=
  True

def Pre_DMemKvIdeal (m : (ℓ : Loc Cert.DMemKvIdeal.nD Cert.DMemKvIdeal.τ Cert.DMemKvIdeal.sig) → Buf (Elt Ideal) ℓ) : Prop :=
  True

def Pre_DMemKvRefIdeal (m : (ℓ : Loc Cert.DMemKvRefIdeal.nD Cert.DMemKvRefIdeal.τ Cert.DMemKvRefIdeal.sig) → Buf (Elt Ideal) ℓ) : Prop :=
  True

def Pre_DwMemKv (m : (ℓ : Loc Cert.DwMemKv.nD Cert.DwMemKv.τ Cert.DwMemKv.sig) → Buf (Elt Bits) ℓ) : Prop :=
  True

def Pre_DwMemKvIdeal (m : (ℓ : Loc Cert.DwMemKvIdeal.nD Cert.DwMemKvIdeal.τ Cert.DwMemKvIdeal.sig) → Buf (Elt Ideal) ℓ) : Prop :=
  True

def Pre_DwMemKvRefIdeal (m : (ℓ : Loc Cert.DwMemKvRefIdeal.nD Cert.DwMemKvRefIdeal.τ Cert.DwMemKvRefIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_NormM (m : (ℓ : Loc Cert.NormM.nD Cert.NormM.τ Cert.NormM.sig) → Buf (Elt Bits) ℓ) : Prop :=
  True

def Pre_NormMIdeal (m : (ℓ : Loc Cert.NormMIdeal.nD Cert.NormMIdeal.τ Cert.NormMIdeal.sig) → Buf (Elt Ideal) ℓ) : Prop :=
  True

def Pre_NormMRefIdeal (m : (ℓ : Loc Cert.NormMRefIdeal.nD Cert.NormMRefIdeal.τ Cert.NormMRefIdeal.sig) → Buf (Elt Ideal) ℓ) : Prop :=
  True

def Pre_NormD (m : (ℓ : Loc Cert.NormD.nD Cert.NormD.τ Cert.NormD.sig) → Buf (Elt Bits) ℓ) : Prop :=
  True

def Pre_NormDIdeal (m : (ℓ : Loc Cert.NormDIdeal.nD Cert.NormDIdeal.τ Cert.NormDIdeal.sig) → Buf (Elt Ideal) ℓ) : Prop :=
  True

def Pre_NormDRefIdeal (m : (ℓ : Loc Cert.NormDRefIdeal.nD Cert.NormDRefIdeal.τ Cert.NormDRefIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamInSwa (m : (ℓ : Loc Cert.AdamInSwa.nD Cert.AdamInSwa.τ Cert.AdamInSwa.sig) → Buf (Elt Bits) ℓ) : Prop :=
  True

def Pre_AdamInSwaIdeal (m : (ℓ : Loc Cert.AdamInSwaIdeal.nD Cert.AdamInSwaIdeal.τ Cert.AdamInSwaIdeal.sig) → Buf (Elt Ideal) ℓ) : Prop :=
  True

def Pre_AdamInSwaRefIdeal (m : (ℓ : Loc Cert.AdamInSwaRefIdeal.nD Cert.AdamInSwaRefIdeal.τ Cert.AdamInSwaRefIdeal.sig) → Buf (Elt Ideal) ℓ) : Prop :=
  True

def Pre_AdamInRwkv (m : (ℓ : Loc Cert.AdamInRwkv.nD Cert.AdamInRwkv.τ Cert.AdamInRwkv.sig) → Buf (Elt Bits) ℓ) : Prop :=
  True

def Pre_AdamInRwkvIdeal (m : (ℓ : Loc Cert.AdamInRwkvIdeal.nD Cert.AdamInRwkvIdeal.τ Cert.AdamInRwkvIdeal.sig) → Buf (Elt Ideal) ℓ) : Prop :=
  True

def Pre_AdamInRwkvRefIdeal (m : (ℓ : Loc Cert.AdamInRwkvRefIdeal.nD Cert.AdamInRwkvRefIdeal.τ Cert.AdamInRwkvRefIdeal.sig) → Buf (Elt Ideal) ℓ) : Prop :=
  True

def Pre_AdamInGdn (m : (ℓ : Loc Cert.AdamInGdn.nD Cert.AdamInGdn.τ Cert.AdamInGdn.sig) → Buf (Elt Bits) ℓ) : Prop :=
  True

def Pre_AdamInGdnIdeal (m : (ℓ : Loc Cert.AdamInGdnIdeal.nD Cert.AdamInGdnIdeal.τ Cert.AdamInGdnIdeal.sig) → Buf (Elt Ideal) ℓ) : Prop :=
  True

def Pre_AdamInGdnRefIdeal (m : (ℓ : Loc Cert.AdamInGdnRefIdeal.nD Cert.AdamInGdnRefIdeal.τ Cert.AdamInGdnRefIdeal.sig) → Buf (Elt Ideal) ℓ) : Prop :=
  True

def Pre_AdamRank (m : (ℓ : Loc Cert.AdamRank.nD Cert.AdamRank.τ Cert.AdamRank.sig) → Buf (Elt Bits) ℓ) : Prop :=
  True

def Pre_AdamRankIdeal (m : (ℓ : Loc Cert.AdamRankIdeal.nD Cert.AdamRankIdeal.τ Cert.AdamRankIdeal.sig) → Buf (Elt Ideal) ℓ) : Prop :=
  True

def Pre_AdamRankRefIdeal (m : (ℓ : Loc Cert.AdamRankRefIdeal.nD Cert.AdamRankRefIdeal.τ Cert.AdamRankRefIdeal.sig) → Buf (Elt Ideal) ℓ) : Prop :=
  True

def Pre_AdamRankG (m : (ℓ : Loc Cert.AdamRankG.nD Cert.AdamRankG.τ Cert.AdamRankG.sig) → Buf (Elt Bits) ℓ) : Prop :=
  True

def Pre_AdamRankGIdeal (m : (ℓ : Loc Cert.AdamRankGIdeal.nD Cert.AdamRankGIdeal.τ Cert.AdamRankGIdeal.sig) → Buf (Elt Ideal) ℓ) : Prop :=
  True

def Pre_AdamRankGRefIdeal (m : (ℓ : Loc Cert.AdamRankGRefIdeal.nD Cert.AdamRankGRefIdeal.τ Cert.AdamRankGRefIdeal.sig) → Buf (Elt Ideal) ℓ) : Prop :=
  True

def Pre_AdamConvC (m : (ℓ : Loc Cert.AdamConvC.nD Cert.AdamConvC.τ Cert.AdamConvC.sig) → Buf (Elt Bits) ℓ) : Prop :=
  True

def Pre_AdamConvCIdeal (m : (ℓ : Loc Cert.AdamConvCIdeal.nD Cert.AdamConvCIdeal.τ Cert.AdamConvCIdeal.sig) → Buf (Elt Ideal) ℓ) : Prop :=
  True

def Pre_AdamConvCRefIdeal (m : (ℓ : Loc Cert.AdamConvCRefIdeal.nD Cert.AdamConvCRefIdeal.τ Cert.AdamConvCRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DHf [hDHf : Cert.DHf.Facts] : Prop :=
  ∀ (m : (ℓ : Loc Cert.DHf.nD Cert.DHf.τ Cert.DHf.sig) → Buf (Elt Bits) ℓ) (g : Dev Cert.DHf.nD → PrngReg), Pre_DHf m →
    θ_run (Cert.DHf.defs (F := Bits)) (onTc (τ := Cert.DHf.τ) (Cert.DHf.main (F := Bits))) ⟨m, fun _ => 0, g⟩ (fun r => (∀ c : Dev Cert.DHf.nD,
      r.2.mem ((c.tc : Thread Cert.DHf.nD Cert.DHf.τ).loc Cert.DHf.main_arg0) = m ((c.tc : Thread Cert.DHf.nD Cert.DHf.τ).loc Cert.DHf.main_arg0)
      ∧ r.2.mem ((c.tc : Thread Cert.DHf.nD Cert.DHf.τ).loc Cert.DHf.main_arg1) = m ((c.tc : Thread Cert.DHf.nD Cert.DHf.τ).loc Cert.DHf.main_arg1))
      ∧ r.2.sem = fun _ => 0)

def quiescent_DHfIdeal [hDHfIdeal : Cert.DHfIdeal.Facts] : Prop :=
  ∀ (m : (ℓ : Loc Cert.DHfIdeal.nD Cert.DHfIdeal.τ Cert.DHfIdeal.sig) → Buf (Elt Ideal) ℓ) (g : Dev Cert.DHfIdeal.nD → PrngReg), Pre_DHfIdeal m →
    θ_run (Cert.DHfIdeal.defs (F := Ideal)) (onTc (τ := Cert.DHfIdeal.τ) (Cert.DHfIdeal.main (F := Ideal))) ⟨m, fun _ => 0, g⟩ (fun r => (∀ c : Dev Cert.DHfIdeal.nD,
      r.2.mem ((c.tc : Thread Cert.DHfIdeal.nD Cert.DHfIdeal.τ).loc Cert.DHfIdeal.main_arg0) = m ((c.tc : Thread Cert.DHfIdeal.nD Cert.DHfIdeal.τ).loc Cert.DHfIdeal.main_arg0)
      ∧ r.2.mem ((c.tc : Thread Cert.DHfIdeal.nD Cert.DHfIdeal.τ).loc Cert.DHfIdeal.main_arg1) = m ((c.tc : Thread Cert.DHfIdeal.nD Cert.DHfIdeal.τ).loc Cert.DHfIdeal.main_arg1))
      ∧ r.2.sem = fun _ => 0)

def quiescent_DHfRefIdeal [hDHfRefIdeal : Cert.DHfRefIdeal.Facts] : Prop :=
  ∀ (m : (ℓ : Loc Cert.DHfRefIdeal.nD Cert.DHfRefIdeal.τ Cert.DHfRefIdeal.sig) → Buf (Elt Ideal) ℓ) (g : Dev Cert.DHfRefIdeal.nD → PrngReg), Pre_DHfRefIdeal m →
    θ_run (Cert.DHfRefIdeal.defs (F := Ideal)) (onTc (τ := Cert.DHfRefIdeal.τ) (Cert.DHfRefIdeal.main (F := Ideal))) ⟨m, fun _ => 0, g⟩ (fun r => (∀ c : Dev Cert.DHfRefIdeal.nD,
      r.2.mem ((c.tc : Thread Cert.DHfRefIdeal.nD Cert.DHfRefIdeal.τ).loc Cert.DHfRefIdeal.main_arg0) = m ((c.tc : Thread Cert.DHfRefIdeal.nD Cert.DHfRefIdeal.τ).loc Cert.DHfRefIdeal.main_arg0)
      ∧ r.2.mem ((c.tc : Thread Cert.DHfRefIdeal.nD Cert.DHfRefIdeal.τ).loc Cert.DHfRefIdeal.main_arg1) = m ((c.tc : Thread Cert.DHfRefIdeal.nD Cert.DHfRefIdeal.τ).loc Cert.DHfRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ r.2.sem = fun _ => 0)

def quiescent_DCatRefIdeal [hDCatRefIdeal : Cert.DCatRefIdeal.Facts] : Prop :=
  ∀ (m : (ℓ : Loc Cert.DCatRefIdeal.nD Cert.DCatRefIdeal.τ Cert.DCatRefIdeal.sig) → Buf (Elt Ideal) ℓ) (g : Dev Cert.DCatRefIdeal.nD → PrngReg), Pre_DCatRefIdeal m →
    θ_run (Cert.DCatRefIdeal.defs (F := Ideal)) (onTc (τ := Cert.DCatRefIdeal.τ) (Cert.DCatRefIdeal.main (F := Ideal))) ⟨m, fun _ => 0, g⟩ (fun r => (∀ c : Dev Cert.DCatRefIdeal.nD,
      r.2.mem ((c.tc : Thread Cert.DCatRefIdeal.nD Cert.DCatRefIdeal.τ).loc Cert.DCatRefIdeal.main_arg0) = m ((c.tc : Thread Cert.DCatRefIdeal.nD Cert.DCatRefIdeal.τ).loc Cert.DCatRefIdeal.main_arg0)
      ∧ r.2.mem ((c.tc : Thread Cert.DCatRefIdeal.nD Cert.DCatRefIdeal.τ).loc Cert.DCatRefIdeal.main_arg1) = m ((c.tc : Thread Cert.DCatRefIdeal.nD Cert.DCatRefIdeal.τ).loc Cert.DCatRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_InSwa [hInSwa : Cert.InSwa.Facts] : Prop :=
  ∀ (m : (ℓ : Loc Cert.InSwa.nD Cert.InSwa.τ Cert.InSwa.sig) → Buf (Elt Bits) ℓ) (g : Dev Cert.InSwa.nD → PrngReg), Pre_InSwa m →
    θ_run (Cert.InSwa.defs (F := Bits)) (onTc (τ := Cert.InSwa.τ) (Cert.InSwa.main (F := Bits))) ⟨m, fun _ => 0, g⟩ (fun r => (∀ c : Dev Cert.InSwa.nD,
      r.2.mem ((c.tc : Thread Cert.InSwa.nD Cert.InSwa.τ).loc Cert.InSwa.main_arg0) = m ((c.tc : Thread Cert.InSwa.nD Cert.InSwa.τ).loc Cert.InSwa.main_arg0)
      ∧ r.2.mem ((c.tc : Thread Cert.InSwa.nD Cert.InSwa.τ).loc Cert.InSwa.main_arg1) = m ((c.tc : Thread Cert.InSwa.nD Cert.InSwa.τ).loc Cert.InSwa.main_arg1))
      ∧ r.2.sem = fun _ => 0)

def quiescent_InSwaIdeal [hInSwaIdeal : Cert.InSwaIdeal.Facts] : Prop :=
  ∀ (m : (ℓ : Loc Cert.InSwaIdeal.nD Cert.InSwaIdeal.τ Cert.InSwaIdeal.sig) → Buf (Elt Ideal) ℓ) (g : Dev Cert.InSwaIdeal.nD → PrngReg), Pre_InSwaIdeal m →
    θ_run (Cert.InSwaIdeal.defs (F := Ideal)) (onTc (τ := Cert.InSwaIdeal.τ) (Cert.InSwaIdeal.main (F := Ideal))) ⟨m, fun _ => 0, g⟩ (fun r => (∀ c : Dev Cert.InSwaIdeal.nD,
      r.2.mem ((c.tc : Thread Cert.InSwaIdeal.nD Cert.InSwaIdeal.τ).loc Cert.InSwaIdeal.main_arg0) = m ((c.tc : Thread Cert.InSwaIdeal.nD Cert.InSwaIdeal.τ).loc Cert.InSwaIdeal.main_arg0)
      ∧ r.2.mem ((c.tc : Thread Cert.InSwaIdeal.nD Cert.InSwaIdeal.τ).loc Cert.InSwaIdeal.main_arg1) = m ((c.tc : Thread Cert.InSwaIdeal.nD Cert.InSwaIdeal.τ).loc Cert.InSwaIdeal.main_arg1))
      ∧ r.2.sem = fun _ => 0)

def quiescent_InSwaRefIdeal [hInSwaRefIdeal : Cert.InSwaRefIdeal.Facts] : Prop :=
  ∀ (m : (ℓ : Loc Cert.InSwaRefIdeal.nD Cert.InSwaRefIdeal.τ Cert.InSwaRefIdeal.sig) → Buf (Elt Ideal) ℓ) (g : Dev Cert.InSwaRefIdeal.nD → PrngReg), Pre_InSwaRefIdeal m →
    θ_run (Cert.InSwaRefIdeal.defs (F := Ideal)) (onTc (τ := Cert.InSwaRefIdeal.τ) (Cert.InSwaRefIdeal.main (F := Ideal))) ⟨m, fun _ => 0, g⟩ (fun r => (∀ c : Dev Cert.InSwaRefIdeal.nD,
      r.2.mem ((c.tc : Thread Cert.InSwaRefIdeal.nD Cert.InSwaRefIdeal.τ).loc Cert.InSwaRefIdeal.main_arg0) = m ((c.tc : Thread Cert.InSwaRefIdeal.nD Cert.InSwaRefIdeal.τ).loc Cert.InSwaRefIdeal.main_arg0)
      ∧ r.2.mem ((c.tc : Thread Cert.InSwaRefIdeal.nD Cert.InSwaRefIdeal.τ).loc Cert.InSwaRefIdeal.main_arg1) = m ((c.tc : Thread Cert.InSwaRefIdeal.nD Cert.InSwaRefIdeal.τ).loc Cert.InSwaRefIdeal.main_arg1))
      ∧ r.2.sem = fun _ => 0)

def quiescent_DInSwa [hDInSwa : Cert.DInSwa.Facts] : Prop :=
  ∀ (m : (ℓ : Loc Cert.DInSwa.nD Cert.DInSwa.τ Cert.DInSwa.sig) → Buf (Elt Bits) ℓ) (g : Dev Cert.DInSwa.nD → PrngReg), Pre_DInSwa m →
    θ_run (Cert.DInSwa.defs (F := Bits)) (onTc (τ := Cert.DInSwa.τ) (Cert.DInSwa.main (F := Bits))) ⟨m, fun _ => 0, g⟩ (fun r => (∀ c : Dev Cert.DInSwa.nD,
      r.2.mem ((c.tc : Thread Cert.DInSwa.nD Cert.DInSwa.τ).loc Cert.DInSwa.main_arg0) = m ((c.tc : Thread Cert.DInSwa.nD Cert.DInSwa.τ).loc Cert.DInSwa.main_arg0)
      ∧ r.2.mem ((c.tc : Thread Cert.DInSwa.nD Cert.DInSwa.τ).loc Cert.DInSwa.main_arg1) = m ((c.tc : Thread Cert.DInSwa.nD Cert.DInSwa.τ).loc Cert.DInSwa.main_arg1))
      ∧ r.2.sem = fun _ => 0)

def quiescent_DInSwaIdeal [hDInSwaIdeal : Cert.DInSwaIdeal.Facts] : Prop :=
  ∀ (m : (ℓ : Loc Cert.DInSwaIdeal.nD Cert.DInSwaIdeal.τ Cert.DInSwaIdeal.sig) → Buf (Elt Ideal) ℓ) (g : Dev Cert.DInSwaIdeal.nD → PrngReg), Pre_DInSwaIdeal m →
    θ_run (Cert.DInSwaIdeal.defs (F := Ideal)) (onTc (τ := Cert.DInSwaIdeal.τ) (Cert.DInSwaIdeal.main (F := Ideal))) ⟨m, fun _ => 0, g⟩ (fun r => (∀ c : Dev Cert.DInSwaIdeal.nD,
      r.2.mem ((c.tc : Thread Cert.DInSwaIdeal.nD Cert.DInSwaIdeal.τ).loc Cert.DInSwaIdeal.main_arg0) = m ((c.tc : Thread Cert.DInSwaIdeal.nD Cert.DInSwaIdeal.τ).loc Cert.DInSwaIdeal.main_arg0)
      ∧ r.2.mem ((c.tc : Thread Cert.DInSwaIdeal.nD Cert.DInSwaIdeal.τ).loc Cert.DInSwaIdeal.main_arg1) = m ((c.tc : Thread Cert.DInSwaIdeal.nD Cert.DInSwaIdeal.τ).loc Cert.DInSwaIdeal.main_arg1))
      ∧ r.2.sem = fun _ => 0)

def quiescent_DInSwaRefIdeal [hDInSwaRefIdeal : Cert.DInSwaRefIdeal.Facts] : Prop :=
  ∀ (m : (ℓ : Loc Cert.DInSwaRefIdeal.nD Cert.DInSwaRefIdeal.τ Cert.DInSwaRefIdeal.sig) → Buf (Elt Ideal) ℓ) (g : Dev Cert.DInSwaRefIdeal.nD → PrngReg), Pre_DInSwaRefIdeal m →
    θ_run (Cert.DInSwaRefIdeal.defs (F := Ideal)) (onTc (τ := Cert.DInSwaRefIdeal.τ) (Cert.DInSwaRefIdeal.main (F := Ideal))) ⟨m, fun _ => 0, g⟩ (fun r => (∀ c : Dev Cert.DInSwaRefIdeal.nD,
      r.2.mem ((c.tc : Thread Cert.DInSwaRefIdeal.nD Cert.DInSwaRefIdeal.τ).loc Cert.DInSwaRefIdeal.main_arg0) = m ((c.tc : Thread Cert.DInSwaRefIdeal.nD Cert.DInSwaRefIdeal.τ).loc Cert.DInSwaRefIdeal.main_arg0)
      ∧ r.2.mem ((c.tc : Thread Cert.DInSwaRefIdeal.nD Cert.DInSwaRefIdeal.τ).loc Cert.DInSwaRefIdeal.main_arg1) = m ((c.tc : Thread Cert.DInSwaRefIdeal.nD Cert.DInSwaRefIdeal.τ).loc Cert.DInSwaRefIdeal.main_arg1))
      ∧ r.2.sem = fun _ => 0)

def quiescent_DwInSwa [hDwInSwa : Cert.DwInSwa.Facts] : Prop :=
  ∀ (m : (ℓ : Loc Cert.DwInSwa.nD Cert.DwInSwa.τ Cert.DwInSwa.sig) → Buf (Elt Bits) ℓ) (g : Dev Cert.DwInSwa.nD → PrngReg), Pre_DwInSwa m →
    θ_run (Cert.DwInSwa.defs (F := Bits)) (onTc (τ := Cert.DwInSwa.τ) (Cert.DwInSwa.main (F := Bits))) ⟨m, fun _ => 0, g⟩ (fun r => (∀ c : Dev Cert.DwInSwa.nD,
      r.2.mem ((c.tc : Thread Cert.DwInSwa.nD Cert.DwInSwa.τ).loc Cert.DwInSwa.main_arg0) = m ((c.tc : Thread Cert.DwInSwa.nD Cert.DwInSwa.τ).loc Cert.DwInSwa.main_arg0)
      ∧ r.2.mem ((c.tc : Thread Cert.DwInSwa.nD Cert.DwInSwa.τ).loc Cert.DwInSwa.main_arg1) = m ((c.tc : Thread Cert.DwInSwa.nD Cert.DwInSwa.τ).loc Cert.DwInSwa.main_arg1))
      ∧ r.2.sem = fun _ => 0)

def quiescent_DwInSwaIdeal [hDwInSwaIdeal : Cert.DwInSwaIdeal.Facts] : Prop :=
  ∀ (m : (ℓ : Loc Cert.DwInSwaIdeal.nD Cert.DwInSwaIdeal.τ Cert.DwInSwaIdeal.sig) → Buf (Elt Ideal) ℓ) (g : Dev Cert.DwInSwaIdeal.nD → PrngReg), Pre_DwInSwaIdeal m →
    θ_run (Cert.DwInSwaIdeal.defs (F := Ideal)) (onTc (τ := Cert.DwInSwaIdeal.τ) (Cert.DwInSwaIdeal.main (F := Ideal))) ⟨m, fun _ => 0, g⟩ (fun r => (∀ c : Dev Cert.DwInSwaIdeal.nD,
      r.2.mem ((c.tc : Thread Cert.DwInSwaIdeal.nD Cert.DwInSwaIdeal.τ).loc Cert.DwInSwaIdeal.main_arg0) = m ((c.tc : Thread Cert.DwInSwaIdeal.nD Cert.DwInSwaIdeal.τ).loc Cert.DwInSwaIdeal.main_arg0)
      ∧ r.2.mem ((c.tc : Thread Cert.DwInSwaIdeal.nD Cert.DwInSwaIdeal.τ).loc Cert.DwInSwaIdeal.main_arg1) = m ((c.tc : Thread Cert.DwInSwaIdeal.nD Cert.DwInSwaIdeal.τ).loc Cert.DwInSwaIdeal.main_arg1))
      ∧ r.2.sem = fun _ => 0)

def quiescent_DwInSwaRefIdeal [hDwInSwaRefIdeal : Cert.DwInSwaRefIdeal.Facts] : Prop :=
  ∀ (m : (ℓ : Loc Cert.DwInSwaRefIdeal.nD Cert.DwInSwaRefIdeal.τ Cert.DwInSwaRefIdeal.sig) → Buf (Elt Ideal) ℓ) (g : Dev Cert.DwInSwaRefIdeal.nD → PrngReg), Pre_DwInSwaRefIdeal m →
    θ_run (Cert.DwInSwaRefIdeal.defs (F := Ideal)) (onTc (τ := Cert.DwInSwaRefIdeal.τ) (Cert.DwInSwaRefIdeal.main (F := Ideal))) ⟨m, fun _ => 0, g⟩ (fun r => (∀ c : Dev Cert.DwInSwaRefIdeal.nD,
      r.2.mem ((c.tc : Thread Cert.DwInSwaRefIdeal.nD Cert.DwInSwaRefIdeal.τ).loc Cert.DwInSwaRefIdeal.main_arg0) = m ((c.tc : Thread Cert.DwInSwaRefIdeal.nD Cert.DwInSwaRefIdeal.τ).loc Cert.DwInSwaRefIdeal.main_arg0)
      ∧ r.2.mem ((c.tc : Thread Cert.DwInSwaRefIdeal.nD Cert.DwInSwaRefIdeal.τ).loc Cert.DwInSwaRefIdeal.main_arg1) = m ((c.tc : Thread Cert.DwInSwaRefIdeal.nD Cert.DwInSwaRefIdeal.τ).loc Cert.DwInSwaRefIdeal.main_arg1))
      ∧ r.2.sem = fun _ => 0)

def quiescent_InRwkv [hInRwkv : Cert.InRwkv.Facts] : Prop :=
  ∀ (m : (ℓ : Loc Cert.InRwkv.nD Cert.InRwkv.τ Cert.InRwkv.sig) → Buf (Elt Bits) ℓ) (g : Dev Cert.InRwkv.nD → PrngReg), Pre_InRwkv m →
    θ_run (Cert.InRwkv.defs (F := Bits)) (onTc (τ := Cert.InRwkv.τ) (Cert.InRwkv.main (F := Bits))) ⟨m, fun _ => 0, g⟩ (fun r => (∀ c : Dev Cert.InRwkv.nD,
      r.2.mem ((c.tc : Thread Cert.InRwkv.nD Cert.InRwkv.τ).loc Cert.InRwkv.main_arg0) = m ((c.tc : Thread Cert.InRwkv.nD Cert.InRwkv.τ).loc Cert.InRwkv.main_arg0)
      ∧ r.2.mem ((c.tc : Thread Cert.InRwkv.nD Cert.InRwkv.τ).loc Cert.InRwkv.main_arg1) = m ((c.tc : Thread Cert.InRwkv.nD Cert.InRwkv.τ).loc Cert.InRwkv.main_arg1))
      ∧ r.2.sem = fun _ => 0)

def quiescent_InRwkvIdeal [hInRwkvIdeal : Cert.InRwkvIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg), Pre_InRwkvIdeal m →
    θ_run (Cert.InRwkvIdeal.defs (F := Ideal)) (onTc (τ := Cert.InRwkvIdeal.τ) (Cert.InRwkvIdeal.main (F := Ideal))) ⟨m, fun _ => 0, g⟩ (fun r => (∀ c : Dev Cert.InRwkvIdeal.nD,
      r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
      ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ r.2.sem = fun _ => 0)

def quiescent_InRwkvRefIdeal [hInRwkvRefIdeal : Cert.InRwkvRefIdeal.Facts] : Prop :=
  ∀ (m : (ℓ : Loc Cert.InRwkvRefIdeal.nD Cert.InRwkvRefIdeal.τ Cert.InRwkvRefIdeal.sig) → Buf (Elt Ideal) ℓ) (g : Dev Cert.InRwkvRefIdeal.nD → PrngReg), Pre_InRwkvRefIdeal m →
    θ_run (Cert.InRwkvRefIdeal.defs (F := Ideal)) (onTc (τ := Cert.InRwkvRefIdeal.τ) (Cert.InRwkvRefIdeal.main (F := Ideal))) ⟨m, fun _ => 0, g⟩ (fun r => (∀ c : Dev Cert.InRwkvRefIdeal.nD,
      r.2.mem ((c.tc : Thread Cert.InRwkvRefIdeal.nD Cert.InRwkvRefIdeal.τ).loc Cert.InRwkvRefIdeal.main_arg0) = m ((c.tc : Thread Cert.InRwkvRefIdeal.nD Cert.InRwkvRefIdeal.τ).loc Cert.InRwkvRefIdeal.main_arg0)
      ∧ r.2.mem ((c.tc : Thread Cert.InRwkvRefIdeal.nD Cert.InRwkvRefIdeal.τ).loc Cert.InRwkvRefIdeal.main_arg1) = m ((c.tc : Thread Cert.InRwkvRefIdeal.nD Cert.InRwkvRefIdeal.τ).loc Cert.InRwkvRefIdeal.main_arg1))
      ∧ r.2.sem = fun _ => 0)

def quiescent_DInRwkv [hDInRwkv : Cert.DInRwkv.Facts] : Prop :=
  ∀ (m : (ℓ : Loc Cert.DInRwkv.nD Cert.DInRwkv.τ Cert.DInRwkv.sig) → Buf (Elt Bits) ℓ) (g : Dev Cert.DInRwkv.nD → PrngReg), Pre_DInRwkv m →
    θ_run (Cert.DInRwkv.defs (F := Bits)) (onTc (τ := Cert.DInRwkv.τ) (Cert.DInRwkv.main (F := Bits))) ⟨m, fun _ => 0, g⟩ (fun r => (∀ c : Dev Cert.DInRwkv.nD,
      r.2.mem ((c.tc : Thread Cert.DInRwkv.nD Cert.DInRwkv.τ).loc Cert.DInRwkv.main_arg0) = m ((c.tc : Thread Cert.DInRwkv.nD Cert.DInRwkv.τ).loc Cert.DInRwkv.main_arg0)
      ∧ r.2.mem ((c.tc : Thread Cert.DInRwkv.nD Cert.DInRwkv.τ).loc Cert.DInRwkv.main_arg1) = m ((c.tc : Thread Cert.DInRwkv.nD Cert.DInRwkv.τ).loc Cert.DInRwkv.main_arg1))
      ∧ r.2.sem = fun _ => 0)

def quiescent_DInRwkvIdeal [hDInRwkvIdeal : Cert.DInRwkvIdeal.Facts] : Prop :=
  ∀ (m : (ℓ : Loc Cert.DInRwkvIdeal.nD Cert.DInRwkvIdeal.τ Cert.DInRwkvIdeal.sig) → Buf (Elt Ideal) ℓ) (g : Dev Cert.DInRwkvIdeal.nD → PrngReg), Pre_DInRwkvIdeal m →
    θ_run (Cert.DInRwkvIdeal.defs (F := Ideal)) (onTc (τ := Cert.DInRwkvIdeal.τ) (Cert.DInRwkvIdeal.main (F := Ideal))) ⟨m, fun _ => 0, g⟩ (fun r => (∀ c : Dev Cert.DInRwkvIdeal.nD,
      r.2.mem ((c.tc : Thread Cert.DInRwkvIdeal.nD Cert.DInRwkvIdeal.τ).loc Cert.DInRwkvIdeal.main_arg0) = m ((c.tc : Thread Cert.DInRwkvIdeal.nD Cert.DInRwkvIdeal.τ).loc Cert.DInRwkvIdeal.main_arg0)
      ∧ r.2.mem ((c.tc : Thread Cert.DInRwkvIdeal.nD Cert.DInRwkvIdeal.τ).loc Cert.DInRwkvIdeal.main_arg1) = m ((c.tc : Thread Cert.DInRwkvIdeal.nD Cert.DInRwkvIdeal.τ).loc Cert.DInRwkvIdeal.main_arg1))
      ∧ r.2.sem = fun _ => 0)

def quiescent_DInRwkvRefIdeal [hDInRwkvRefIdeal : Cert.DInRwkvRefIdeal.Facts] : Prop :=
  ∀ (m : (ℓ : Loc Cert.DInRwkvRefIdeal.nD Cert.DInRwkvRefIdeal.τ Cert.DInRwkvRefIdeal.sig) → Buf (Elt Ideal) ℓ) (g : Dev Cert.DInRwkvRefIdeal.nD → PrngReg), Pre_DInRwkvRefIdeal m →
    θ_run (Cert.DInRwkvRefIdeal.defs (F := Ideal)) (onTc (τ := Cert.DInRwkvRefIdeal.τ) (Cert.DInRwkvRefIdeal.main (F := Ideal))) ⟨m, fun _ => 0, g⟩ (fun r => (∀ c : Dev Cert.DInRwkvRefIdeal.nD,
      r.2.mem ((c.tc : Thread Cert.DInRwkvRefIdeal.nD Cert.DInRwkvRefIdeal.τ).loc Cert.DInRwkvRefIdeal.main_arg0) = m ((c.tc : Thread Cert.DInRwkvRefIdeal.nD Cert.DInRwkvRefIdeal.τ).loc Cert.DInRwkvRefIdeal.main_arg0)
      ∧ r.2.mem ((c.tc : Thread Cert.DInRwkvRefIdeal.nD Cert.DInRwkvRefIdeal.τ).loc Cert.DInRwkvRefIdeal.main_arg1) = m ((c.tc : Thread Cert.DInRwkvRefIdeal.nD Cert.DInRwkvRefIdeal.τ).loc Cert.DInRwkvRefIdeal.main_arg1))
      ∧ r.2.sem = fun _ => 0)

def quiescent_DwInRwkv [hDwInRwkv : Cert.DwInRwkv.Facts] : Prop :=
  ∀ (m : (ℓ : Loc Cert.DwInRwkv.nD Cert.DwInRwkv.τ Cert.DwInRwkv.sig) → Buf (Elt Bits) ℓ) (g : Dev Cert.DwInRwkv.nD → PrngReg), Pre_DwInRwkv m →
    θ_run (Cert.DwInRwkv.defs (F := Bits)) (onTc (τ := Cert.DwInRwkv.τ) (Cert.DwInRwkv.main (F := Bits))) ⟨m, fun _ => 0, g⟩ (fun r => (∀ c : Dev Cert.DwInRwkv.nD,
      r.2.mem ((c.tc : Thread Cert.DwInRwkv.nD Cert.DwInRwkv.τ).loc Cert.DwInRwkv.main_arg0) = m ((c.tc : Thread Cert.DwInRwkv.nD Cert.DwInRwkv.τ).loc Cert.DwInRwkv.main_arg0)
      ∧ r.2.mem ((c.tc : Thread Cert.DwInRwkv.nD Cert.DwInRwkv.τ).loc Cert.DwInRwkv.main_arg1) = m ((c.tc : Thread Cert.DwInRwkv.nD Cert.DwInRwkv.τ).loc Cert.DwInRwkv.main_arg1))
      ∧ r.2.sem = fun _ => 0)

def quiescent_DwInRwkvIdeal [hDwInRwkvIdeal : Cert.DwInRwkvIdeal.Facts] : Prop :=
  ∀ (m : (ℓ : Loc Cert.DwInRwkvIdeal.nD Cert.DwInRwkvIdeal.τ Cert.DwInRwkvIdeal.sig) → Buf (Elt Ideal) ℓ) (g : Dev Cert.DwInRwkvIdeal.nD → PrngReg), Pre_DwInRwkvIdeal m →
    θ_run (Cert.DwInRwkvIdeal.defs (F := Ideal)) (onTc (τ := Cert.DwInRwkvIdeal.τ) (Cert.DwInRwkvIdeal.main (F := Ideal))) ⟨m, fun _ => 0, g⟩ (fun r => (∀ c : Dev Cert.DwInRwkvIdeal.nD,
      r.2.mem ((c.tc : Thread Cert.DwInRwkvIdeal.nD Cert.DwInRwkvIdeal.τ).loc Cert.DwInRwkvIdeal.main_arg0) = m ((c.tc : Thread Cert.DwInRwkvIdeal.nD Cert.DwInRwkvIdeal.τ).loc Cert.DwInRwkvIdeal.main_arg0)
      ∧ r.2.mem ((c.tc : Thread Cert.DwInRwkvIdeal.nD Cert.DwInRwkvIdeal.τ).loc Cert.DwInRwkvIdeal.main_arg1) = m ((c.tc : Thread Cert.DwInRwkvIdeal.nD Cert.DwInRwkvIdeal.τ).loc Cert.DwInRwkvIdeal.main_arg1))
      ∧ r.2.sem = fun _ => 0)

def quiescent_DwInRwkvRefIdeal [hDwInRwkvRefIdeal : Cert.DwInRwkvRefIdeal.Facts] : Prop :=
  ∀ (m : (ℓ : Loc Cert.DwInRwkvRefIdeal.nD Cert.DwInRwkvRefIdeal.τ Cert.DwInRwkvRefIdeal.sig) → Buf (Elt Ideal) ℓ) (g : Dev Cert.DwInRwkvRefIdeal.nD → PrngReg), Pre_DwInRwkvRefIdeal m →
    θ_run (Cert.DwInRwkvRefIdeal.defs (F := Ideal)) (onTc (τ := Cert.DwInRwkvRefIdeal.τ) (Cert.DwInRwkvRefIdeal.main (F := Ideal))) ⟨m, fun _ => 0, g⟩ (fun r => (∀ c : Dev Cert.DwInRwkvRefIdeal.nD,
      r.2.mem ((c.tc : Thread Cert.DwInRwkvRefIdeal.nD Cert.DwInRwkvRefIdeal.τ).loc Cert.DwInRwkvRefIdeal.main_arg0) = m ((c.tc : Thread Cert.DwInRwkvRefIdeal.nD Cert.DwInRwkvRefIdeal.τ).loc Cert.DwInRwkvRefIdeal.main_arg0)
      ∧ r.2.mem ((c.tc : Thread Cert.DwInRwkvRefIdeal.nD Cert.DwInRwkvRefIdeal.τ).loc Cert.DwInRwkvRefIdeal.main_arg1) = m ((c.tc : Thread Cert.DwInRwkvRefIdeal.nD Cert.DwInRwkvRefIdeal.τ).loc Cert.DwInRwkvRefIdeal.main_arg1))
      ∧ r.2.sem = fun _ => 0)

def quiescent_InGdn [hInGdn : Cert.InGdn.Facts] : Prop :=
  ∀ (m : (ℓ : Loc Cert.InGdn.nD Cert.InGdn.τ Cert.InGdn.sig) → Buf (Elt Bits) ℓ) (g : Dev Cert.InGdn.nD → PrngReg), Pre_InGdn m →
    θ_run (Cert.InGdn.defs (F := Bits)) (onTc (τ := Cert.InGdn.τ) (Cert.InGdn.main (F := Bits))) ⟨m, fun _ => 0, g⟩ (fun r => (∀ c : Dev Cert.InGdn.nD,
      r.2.mem ((c.tc : Thread Cert.InGdn.nD Cert.InGdn.τ).loc Cert.InGdn.main_arg0) = m ((c.tc : Thread Cert.InGdn.nD Cert.InGdn.τ).loc Cert.InGdn.main_arg0)
      ∧ r.2.mem ((c.tc : Thread Cert.InGdn.nD Cert.InGdn.τ).loc Cert.InGdn.main_arg1) = m ((c.tc : Thread Cert.InGdn.nD Cert.InGdn.τ).loc Cert.InGdn.main_arg1))
      ∧ r.2.sem = fun _ => 0)

def quiescent_InGdnIdeal [hInGdnIdeal : Cert.InGdnIdeal.Facts] : Prop :=
  ∀ (m : (ℓ : Loc Cert.InGdnIdeal.nD Cert.InGdnIdeal.τ Cert.InGdnIdeal.sig) → Buf (Elt Ideal) ℓ) (g : Dev Cert.InGdnIdeal.nD → PrngReg), Pre_InGdnIdeal m →
    θ_run (Cert.InGdnIdeal.defs (F := Ideal)) (onTc (τ := Cert.InGdnIdeal.τ) (Cert.InGdnIdeal.main (F := Ideal))) ⟨m, fun _ => 0, g⟩ (fun r => (∀ c : Dev Cert.InGdnIdeal.nD,
      r.2.mem ((c.tc : Thread Cert.InGdnIdeal.nD Cert.InGdnIdeal.τ).loc Cert.InGdnIdeal.main_arg0) = m ((c.tc : Thread Cert.InGdnIdeal.nD Cert.InGdnIdeal.τ).loc Cert.InGdnIdeal.main_arg0)
      ∧ r.2.mem ((c.tc : Thread Cert.InGdnIdeal.nD Cert.InGdnIdeal.τ).loc Cert.InGdnIdeal.main_arg1) = m ((c.tc : Thread Cert.InGdnIdeal.nD Cert.InGdnIdeal.τ).loc Cert.InGdnIdeal.main_arg1))
      ∧ r.2.sem = fun _ => 0)

def quiescent_InGdnRefIdeal [hInGdnRefIdeal : Cert.InGdnRefIdeal.Facts] : Prop :=
  ∀ (m : (ℓ : Loc Cert.InGdnRefIdeal.nD Cert.InGdnRefIdeal.τ Cert.InGdnRefIdeal.sig) → Buf (Elt Ideal) ℓ) (g : Dev Cert.InGdnRefIdeal.nD → PrngReg), Pre_InGdnRefIdeal m →
    θ_run (Cert.InGdnRefIdeal.defs (F := Ideal)) (onTc (τ := Cert.InGdnRefIdeal.τ) (Cert.InGdnRefIdeal.main (F := Ideal))) ⟨m, fun _ => 0, g⟩ (fun r => (∀ c : Dev Cert.InGdnRefIdeal.nD,
      r.2.mem ((c.tc : Thread Cert.InGdnRefIdeal.nD Cert.InGdnRefIdeal.τ).loc Cert.InGdnRefIdeal.main_arg0) = m ((c.tc : Thread Cert.InGdnRefIdeal.nD Cert.InGdnRefIdeal.τ).loc Cert.InGdnRefIdeal.main_arg0)
      ∧ r.2.mem ((c.tc : Thread Cert.InGdnRefIdeal.nD Cert.InGdnRefIdeal.τ).loc Cert.InGdnRefIdeal.main_arg1) = m ((c.tc : Thread Cert.InGdnRefIdeal.nD Cert.InGdnRefIdeal.τ).loc Cert.InGdnRefIdeal.main_arg1))
      ∧ r.2.sem = fun _ => 0)

def quiescent_DInGdn [hDInGdn : Cert.DInGdn.Facts] : Prop :=
  ∀ (m : (ℓ : Loc Cert.DInGdn.nD Cert.DInGdn.τ Cert.DInGdn.sig) → Buf (Elt Bits) ℓ) (g : Dev Cert.DInGdn.nD → PrngReg), Pre_DInGdn m →
    θ_run (Cert.DInGdn.defs (F := Bits)) (onTc (τ := Cert.DInGdn.τ) (Cert.DInGdn.main (F := Bits))) ⟨m, fun _ => 0, g⟩ (fun r => (∀ c : Dev Cert.DInGdn.nD,
      r.2.mem ((c.tc : Thread Cert.DInGdn.nD Cert.DInGdn.τ).loc Cert.DInGdn.main_arg0) = m ((c.tc : Thread Cert.DInGdn.nD Cert.DInGdn.τ).loc Cert.DInGdn.main_arg0)
      ∧ r.2.mem ((c.tc : Thread Cert.DInGdn.nD Cert.DInGdn.τ).loc Cert.DInGdn.main_arg1) = m ((c.tc : Thread Cert.DInGdn.nD Cert.DInGdn.τ).loc Cert.DInGdn.main_arg1))
      ∧ r.2.sem = fun _ => 0)

def quiescent_DInGdnIdeal [hDInGdnIdeal : Cert.DInGdnIdeal.Facts] : Prop :=
  ∀ (m : (ℓ : Loc Cert.DInGdnIdeal.nD Cert.DInGdnIdeal.τ Cert.DInGdnIdeal.sig) → Buf (Elt Ideal) ℓ) (g : Dev Cert.DInGdnIdeal.nD → PrngReg), Pre_DInGdnIdeal m →
    θ_run (Cert.DInGdnIdeal.defs (F := Ideal)) (onTc (τ := Cert.DInGdnIdeal.τ) (Cert.DInGdnIdeal.main (F := Ideal))) ⟨m, fun _ => 0, g⟩ (fun r => (∀ c : Dev Cert.DInGdnIdeal.nD,
      r.2.mem ((c.tc : Thread Cert.DInGdnIdeal.nD Cert.DInGdnIdeal.τ).loc Cert.DInGdnIdeal.main_arg0) = m ((c.tc : Thread Cert.DInGdnIdeal.nD Cert.DInGdnIdeal.τ).loc Cert.DInGdnIdeal.main_arg0)
      ∧ r.2.mem ((c.tc : Thread Cert.DInGdnIdeal.nD Cert.DInGdnIdeal.τ).loc Cert.DInGdnIdeal.main_arg1) = m ((c.tc : Thread Cert.DInGdnIdeal.nD Cert.DInGdnIdeal.τ).loc Cert.DInGdnIdeal.main_arg1))
      ∧ r.2.sem = fun _ => 0)

def quiescent_DInGdnRefIdeal [hDInGdnRefIdeal : Cert.DInGdnRefIdeal.Facts] : Prop :=
  ∀ (m : (ℓ : Loc Cert.DInGdnRefIdeal.nD Cert.DInGdnRefIdeal.τ Cert.DInGdnRefIdeal.sig) → Buf (Elt Ideal) ℓ) (g : Dev Cert.DInGdnRefIdeal.nD → PrngReg), Pre_DInGdnRefIdeal m →
    θ_run (Cert.DInGdnRefIdeal.defs (F := Ideal)) (onTc (τ := Cert.DInGdnRefIdeal.τ) (Cert.DInGdnRefIdeal.main (F := Ideal))) ⟨m, fun _ => 0, g⟩ (fun r => (∀ c : Dev Cert.DInGdnRefIdeal.nD,
      r.2.mem ((c.tc : Thread Cert.DInGdnRefIdeal.nD Cert.DInGdnRefIdeal.τ).loc Cert.DInGdnRefIdeal.main_arg0) = m ((c.tc : Thread Cert.DInGdnRefIdeal.nD Cert.DInGdnRefIdeal.τ).loc Cert.DInGdnRefIdeal.main_arg0)
      ∧ r.2.mem ((c.tc : Thread Cert.DInGdnRefIdeal.nD Cert.DInGdnRefIdeal.τ).loc Cert.DInGdnRefIdeal.main_arg1) = m ((c.tc : Thread Cert.DInGdnRefIdeal.nD Cert.DInGdnRefIdeal.τ).loc Cert.DInGdnRefIdeal.main_arg1))
      ∧ r.2.sem = fun _ => 0)

def quiescent_DwInGdn [hDwInGdn : Cert.DwInGdn.Facts] : Prop :=
  ∀ (m : (ℓ : Loc Cert.DwInGdn.nD Cert.DwInGdn.τ Cert.DwInGdn.sig) → Buf (Elt Bits) ℓ) (g : Dev Cert.DwInGdn.nD → PrngReg), Pre_DwInGdn m →
    θ_run (Cert.DwInGdn.defs (F := Bits)) (onTc (τ := Cert.DwInGdn.τ) (Cert.DwInGdn.main (F := Bits))) ⟨m, fun _ => 0, g⟩ (fun r => (∀ c : Dev Cert.DwInGdn.nD,
      r.2.mem ((c.tc : Thread Cert.DwInGdn.nD Cert.DwInGdn.τ).loc Cert.DwInGdn.main_arg0) = m ((c.tc : Thread Cert.DwInGdn.nD Cert.DwInGdn.τ).loc Cert.DwInGdn.main_arg0)
      ∧ r.2.mem ((c.tc : Thread Cert.DwInGdn.nD Cert.DwInGdn.τ).loc Cert.DwInGdn.main_arg1) = m ((c.tc : Thread Cert.DwInGdn.nD Cert.DwInGdn.τ).loc Cert.DwInGdn.main_arg1))
      ∧ r.2.sem = fun _ => 0)

def quiescent_DwInGdnIdeal [hDwInGdnIdeal : Cert.DwInGdnIdeal.Facts] : Prop :=
  ∀ (m : (ℓ : Loc Cert.DwInGdnIdeal.nD Cert.DwInGdnIdeal.τ Cert.DwInGdnIdeal.sig) → Buf (Elt Ideal) ℓ) (g : Dev Cert.DwInGdnIdeal.nD → PrngReg), Pre_DwInGdnIdeal m →
    θ_run (Cert.DwInGdnIdeal.defs (F := Ideal)) (onTc (τ := Cert.DwInGdnIdeal.τ) (Cert.DwInGdnIdeal.main (F := Ideal))) ⟨m, fun _ => 0, g⟩ (fun r => (∀ c : Dev Cert.DwInGdnIdeal.nD,
      r.2.mem ((c.tc : Thread Cert.DwInGdnIdeal.nD Cert.DwInGdnIdeal.τ).loc Cert.DwInGdnIdeal.main_arg0) = m ((c.tc : Thread Cert.DwInGdnIdeal.nD Cert.DwInGdnIdeal.τ).loc Cert.DwInGdnIdeal.main_arg0)
      ∧ r.2.mem ((c.tc : Thread Cert.DwInGdnIdeal.nD Cert.DwInGdnIdeal.τ).loc Cert.DwInGdnIdeal.main_arg1) = m ((c.tc : Thread Cert.DwInGdnIdeal.nD Cert.DwInGdnIdeal.τ).loc Cert.DwInGdnIdeal.main_arg1))
      ∧ r.2.sem = fun _ => 0)

def quiescent_DwInGdnRefIdeal [hDwInGdnRefIdeal : Cert.DwInGdnRefIdeal.Facts] : Prop :=
  ∀ (m : (ℓ : Loc Cert.DwInGdnRefIdeal.nD Cert.DwInGdnRefIdeal.τ Cert.DwInGdnRefIdeal.sig) → Buf (Elt Ideal) ℓ) (g : Dev Cert.DwInGdnRefIdeal.nD → PrngReg), Pre_DwInGdnRefIdeal m →
    θ_run (Cert.DwInGdnRefIdeal.defs (F := Ideal)) (onTc (τ := Cert.DwInGdnRefIdeal.τ) (Cert.DwInGdnRefIdeal.main (F := Ideal))) ⟨m, fun _ => 0, g⟩ (fun r => (∀ c : Dev Cert.DwInGdnRefIdeal.nD,
      r.2.mem ((c.tc : Thread Cert.DwInGdnRefIdeal.nD Cert.DwInGdnRefIdeal.τ).loc Cert.DwInGdnRefIdeal.main_arg0) = m ((c.tc : Thread Cert.DwInGdnRefIdeal.nD Cert.DwInGdnRefIdeal.τ).loc Cert.DwInGdnRefIdeal.main_arg0)
      ∧ r.2.mem ((c.tc : Thread Cert.DwInGdnRefIdeal.nD Cert.DwInGdnRefIdeal.τ).loc Cert.DwInGdnRefIdeal.main_arg1) = m ((c.tc : Thread Cert.DwInGdnRefIdeal.nD Cert.DwInGdnRefIdeal.τ).loc Cert.DwInGdnRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_DMemKv [hDMemKv : Cert.DMemKv.Facts] : Prop :=
  ∀ (m : (ℓ : Loc Cert.DMemKv.nD Cert.DMemKv.τ Cert.DMemKv.sig) → Buf (Elt Bits) ℓ) (g : Dev Cert.DMemKv.nD → PrngReg), Pre_DMemKv m →
    θ_run (Cert.DMemKv.defs (F := Bits)) (onTc (τ := Cert.DMemKv.τ) (Cert.DMemKv.main (F := Bits))) ⟨m, fun _ => 0, g⟩ (fun r => (∀ c : Dev Cert.DMemKv.nD,
      r.2.mem ((c.tc : Thread Cert.DMemKv.nD Cert.DMemKv.τ).loc Cert.DMemKv.main_arg0) = m ((c.tc : Thread Cert.DMemKv.nD Cert.DMemKv.τ).loc Cert.DMemKv.main_arg0)
      ∧ r.2.mem ((c.tc : Thread Cert.DMemKv.nD Cert.DMemKv.τ).loc Cert.DMemKv.main_arg1) = m ((c.tc : Thread Cert.DMemKv.nD Cert.DMemKv.τ).loc Cert.DMemKv.main_arg1))
      ∧ r.2.sem = fun _ => 0)

def quiescent_DMemKvIdeal [hDMemKvIdeal : Cert.DMemKvIdeal.Facts] : Prop :=
  ∀ (m : (ℓ : Loc Cert.DMemKvIdeal.nD Cert.DMemKvIdeal.τ Cert.DMemKvIdeal.sig) → Buf (Elt Ideal) ℓ) (g : Dev Cert.DMemKvIdeal.nD → PrngReg), Pre_DMemKvIdeal m →
    θ_run (Cert.DMemKvIdeal.defs (F := Ideal)) (onTc (τ := Cert.DMemKvIdeal.τ) (Cert.DMemKvIdeal.main (F := Ideal))) ⟨m, fun _ => 0, g⟩ (fun r => (∀ c : Dev Cert.DMemKvIdeal.nD,
      r.2.mem ((c.tc : Thread Cert.DMemKvIdeal.nD Cert.DMemKvIdeal.τ).loc Cert.DMemKvIdeal.main_arg0) = m ((c.tc : Thread Cert.DMemKvIdeal.nD Cert.DMemKvIdeal.τ).loc Cert.DMemKvIdeal.main_arg0)
      ∧ r.2.mem ((c.tc : Thread Cert.DMemKvIdeal.nD Cert.DMemKvIdeal.τ).loc Cert.DMemKvIdeal.main_arg1) = m ((c.tc : Thread Cert.DMemKvIdeal.nD Cert.DMemKvIdeal.τ).loc Cert.DMemKvIdeal.main_arg1))
      ∧ r.2.sem = fun _ => 0)

def quiescent_DMemKvRefIdeal [hDMemKvRefIdeal : Cert.DMemKvRefIdeal.Facts] : Prop :=
  ∀ (m : (ℓ : Loc Cert.DMemKvRefIdeal.nD Cert.DMemKvRefIdeal.τ Cert.DMemKvRefIdeal.sig) → Buf (Elt Ideal) ℓ) (g : Dev Cert.DMemKvRefIdeal.nD → PrngReg), Pre_DMemKvRefIdeal m →
    θ_run (Cert.DMemKvRefIdeal.defs (F := Ideal)) (onTc (τ := Cert.DMemKvRefIdeal.τ) (Cert.DMemKvRefIdeal.main (F := Ideal))) ⟨m, fun _ => 0, g⟩ (fun r => (∀ c : Dev Cert.DMemKvRefIdeal.nD,
      r.2.mem ((c.tc : Thread Cert.DMemKvRefIdeal.nD Cert.DMemKvRefIdeal.τ).loc Cert.DMemKvRefIdeal.main_arg0) = m ((c.tc : Thread Cert.DMemKvRefIdeal.nD Cert.DMemKvRefIdeal.τ).loc Cert.DMemKvRefIdeal.main_arg0)
      ∧ r.2.mem ((c.tc : Thread Cert.DMemKvRefIdeal.nD Cert.DMemKvRefIdeal.τ).loc Cert.DMemKvRefIdeal.main_arg1) = m ((c.tc : Thread Cert.DMemKvRefIdeal.nD Cert.DMemKvRefIdeal.τ).loc Cert.DMemKvRefIdeal.main_arg1))
      ∧ r.2.sem = fun _ => 0)

def quiescent_DwMemKv [hDwMemKv : Cert.DwMemKv.Facts] : Prop :=
  ∀ (m : (ℓ : Loc Cert.DwMemKv.nD Cert.DwMemKv.τ Cert.DwMemKv.sig) → Buf (Elt Bits) ℓ) (g : Dev Cert.DwMemKv.nD → PrngReg), Pre_DwMemKv m →
    θ_run (Cert.DwMemKv.defs (F := Bits)) (onTc (τ := Cert.DwMemKv.τ) (Cert.DwMemKv.main (F := Bits))) ⟨m, fun _ => 0, g⟩ (fun r => (∀ c : Dev Cert.DwMemKv.nD,
      r.2.mem ((c.tc : Thread Cert.DwMemKv.nD Cert.DwMemKv.τ).loc Cert.DwMemKv.main_arg0) = m ((c.tc : Thread Cert.DwMemKv.nD Cert.DwMemKv.τ).loc Cert.DwMemKv.main_arg0)
      ∧ r.2.mem ((c.tc : Thread Cert.DwMemKv.nD Cert.DwMemKv.τ).loc Cert.DwMemKv.main_arg1) = m ((c.tc : Thread Cert.DwMemKv.nD Cert.DwMemKv.τ).loc Cert.DwMemKv.main_arg1))
      ∧ r.2.sem = fun _ => 0)

def quiescent_DwMemKvIdeal [hDwMemKvIdeal : Cert.DwMemKvIdeal.Facts] : Prop :=
  ∀ (m : (ℓ : Loc Cert.DwMemKvIdeal.nD Cert.DwMemKvIdeal.τ Cert.DwMemKvIdeal.sig) → Buf (Elt Ideal) ℓ) (g : Dev Cert.DwMemKvIdeal.nD → PrngReg), Pre_DwMemKvIdeal m →
    θ_run (Cert.DwMemKvIdeal.defs (F := Ideal)) (onTc (τ := Cert.DwMemKvIdeal.τ) (Cert.DwMemKvIdeal.main (F := Ideal))) ⟨m, fun _ => 0, g⟩ (fun r => (∀ c : Dev Cert.DwMemKvIdeal.nD,
      r.2.mem ((c.tc : Thread Cert.DwMemKvIdeal.nD Cert.DwMemKvIdeal.τ).loc Cert.DwMemKvIdeal.main_arg0) = m ((c.tc : Thread Cert.DwMemKvIdeal.nD Cert.DwMemKvIdeal.τ).loc Cert.DwMemKvIdeal.main_arg0)
      ∧ r.2.mem ((c.tc : Thread Cert.DwMemKvIdeal.nD Cert.DwMemKvIdeal.τ).loc Cert.DwMemKvIdeal.main_arg1) = m ((c.tc : Thread Cert.DwMemKvIdeal.nD Cert.DwMemKvIdeal.τ).loc Cert.DwMemKvIdeal.main_arg1))
      ∧ r.2.sem = fun _ => 0)

def quiescent_DwMemKvRefIdeal [hDwMemKvRefIdeal : Cert.DwMemKvRefIdeal.Facts] : Prop :=
  ∀ (m : (ℓ : Loc Cert.DwMemKvRefIdeal.nD Cert.DwMemKvRefIdeal.τ Cert.DwMemKvRefIdeal.sig) → Buf (Elt Ideal) ℓ) (g : Dev Cert.DwMemKvRefIdeal.nD → PrngReg), Pre_DwMemKvRefIdeal m →
    θ_run (Cert.DwMemKvRefIdeal.defs (F := Ideal)) (onTc (τ := Cert.DwMemKvRefIdeal.τ) (Cert.DwMemKvRefIdeal.main (F := Ideal))) ⟨m, fun _ => 0, g⟩ (fun r => (∀ c : Dev Cert.DwMemKvRefIdeal.nD,
      r.2.mem ((c.tc : Thread Cert.DwMemKvRefIdeal.nD Cert.DwMemKvRefIdeal.τ).loc Cert.DwMemKvRefIdeal.main_arg0) = m ((c.tc : Thread Cert.DwMemKvRefIdeal.nD Cert.DwMemKvRefIdeal.τ).loc Cert.DwMemKvRefIdeal.main_arg0)
      ∧ r.2.mem ((c.tc : Thread Cert.DwMemKvRefIdeal.nD Cert.DwMemKvRefIdeal.τ).loc Cert.DwMemKvRefIdeal.main_arg1) = m ((c.tc : Thread Cert.DwMemKvRefIdeal.nD Cert.DwMemKvRefIdeal.τ).loc Cert.DwMemKvRefIdeal.main_arg1))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1))
      ∧ r.2.sem = fun _ => 0)

def quiescent_NormM [hNormM : Cert.NormM.Facts] : Prop :=
  ∀ (m : (ℓ : Loc Cert.NormM.nD Cert.NormM.τ Cert.NormM.sig) → Buf (Elt Bits) ℓ) (g : Dev Cert.NormM.nD → PrngReg), Pre_NormM m →
    θ_run (Cert.NormM.defs (F := Bits)) (onTc (τ := Cert.NormM.τ) (Cert.NormM.main (F := Bits))) ⟨m, fun _ => 0, g⟩ (fun r => (∀ c : Dev Cert.NormM.nD,
      r.2.mem ((c.tc : Thread Cert.NormM.nD Cert.NormM.τ).loc Cert.NormM.main_arg0) = m ((c.tc : Thread Cert.NormM.nD Cert.NormM.τ).loc Cert.NormM.main_arg0)
      ∧ r.2.mem ((c.tc : Thread Cert.NormM.nD Cert.NormM.τ).loc Cert.NormM.main_arg1) = m ((c.tc : Thread Cert.NormM.nD Cert.NormM.τ).loc Cert.NormM.main_arg1))
      ∧ r.2.sem = fun _ => 0)

def quiescent_NormMIdeal [hNormMIdeal : Cert.NormMIdeal.Facts] : Prop :=
  ∀ (m : (ℓ : Loc Cert.NormMIdeal.nD Cert.NormMIdeal.τ Cert.NormMIdeal.sig) → Buf (Elt Ideal) ℓ) (g : Dev Cert.NormMIdeal.nD → PrngReg), Pre_NormMIdeal m →
    θ_run (Cert.NormMIdeal.defs (F := Ideal)) (onTc (τ := Cert.NormMIdeal.τ) (Cert.NormMIdeal.main (F := Ideal))) ⟨m, fun _ => 0, g⟩ (fun r => (∀ c : Dev Cert.NormMIdeal.nD,
      r.2.mem ((c.tc : Thread Cert.NormMIdeal.nD Cert.NormMIdeal.τ).loc Cert.NormMIdeal.main_arg0) = m ((c.tc : Thread Cert.NormMIdeal.nD Cert.NormMIdeal.τ).loc Cert.NormMIdeal.main_arg0)
      ∧ r.2.mem ((c.tc : Thread Cert.NormMIdeal.nD Cert.NormMIdeal.τ).loc Cert.NormMIdeal.main_arg1) = m ((c.tc : Thread Cert.NormMIdeal.nD Cert.NormMIdeal.τ).loc Cert.NormMIdeal.main_arg1))
      ∧ r.2.sem = fun _ => 0)

def quiescent_NormMRefIdeal [hNormMRefIdeal : Cert.NormMRefIdeal.Facts] : Prop :=
  ∀ (m : (ℓ : Loc Cert.NormMRefIdeal.nD Cert.NormMRefIdeal.τ Cert.NormMRefIdeal.sig) → Buf (Elt Ideal) ℓ) (g : Dev Cert.NormMRefIdeal.nD → PrngReg), Pre_NormMRefIdeal m →
    θ_run (Cert.NormMRefIdeal.defs (F := Ideal)) (onTc (τ := Cert.NormMRefIdeal.τ) (Cert.NormMRefIdeal.main (F := Ideal))) ⟨m, fun _ => 0, g⟩ (fun r => (∀ c : Dev Cert.NormMRefIdeal.nD,
      r.2.mem ((c.tc : Thread Cert.NormMRefIdeal.nD Cert.NormMRefIdeal.τ).loc Cert.NormMRefIdeal.main_arg0) = m ((c.tc : Thread Cert.NormMRefIdeal.nD Cert.NormMRefIdeal.τ).loc Cert.NormMRefIdeal.main_arg0)
      ∧ r.2.mem ((c.tc : Thread Cert.NormMRefIdeal.nD Cert.NormMRefIdeal.τ).loc Cert.NormMRefIdeal.main_arg1) = m ((c.tc : Thread Cert.NormMRefIdeal.nD Cert.NormMRefIdeal.τ).loc Cert.NormMRefIdeal.main_arg1))
      ∧ r.2.sem = fun _ => 0)

def quiescent_NormD [hNormD : Cert.NormD.Facts] : Prop :=
  ∀ (m : (ℓ : Loc Cert.NormD.nD Cert.NormD.τ Cert.NormD.sig) → Buf (Elt Bits) ℓ) (g : Dev Cert.NormD.nD → PrngReg), Pre_NormD m →
    θ_run (Cert.NormD.defs (F := Bits)) (onTc (τ := Cert.NormD.τ) (Cert.NormD.main (F := Bits))) ⟨m, fun _ => 0, g⟩ (fun r => (∀ c : Dev Cert.NormD.nD,
      r.2.mem ((c.tc : Thread Cert.NormD.nD Cert.NormD.τ).loc Cert.NormD.main_arg0) = m ((c.tc : Thread Cert.NormD.nD Cert.NormD.τ).loc Cert.NormD.main_arg0)
      ∧ r.2.mem ((c.tc : Thread Cert.NormD.nD Cert.NormD.τ).loc Cert.NormD.main_arg1) = m ((c.tc : Thread Cert.NormD.nD Cert.NormD.τ).loc Cert.NormD.main_arg1)
      ∧ r.2.mem ((c.tc : Thread Cert.NormD.nD Cert.NormD.τ).loc Cert.NormD.main_arg2) = m ((c.tc : Thread Cert.NormD.nD Cert.NormD.τ).loc Cert.NormD.main_arg2))
      ∧ r.2.sem = fun _ => 0)

def quiescent_NormDIdeal [hNormDIdeal : Cert.NormDIdeal.Facts] : Prop :=
  ∀ (m : (ℓ : Loc Cert.NormDIdeal.nD Cert.NormDIdeal.τ Cert.NormDIdeal.sig) → Buf (Elt Ideal) ℓ) (g : Dev Cert.NormDIdeal.nD → PrngReg), Pre_NormDIdeal m →
    θ_run (Cert.NormDIdeal.defs (F := Ideal)) (onTc (τ := Cert.NormDIdeal.τ) (Cert.NormDIdeal.main (F := Ideal))) ⟨m, fun _ => 0, g⟩ (fun r => (∀ c : Dev Cert.NormDIdeal.nD,
      r.2.mem ((c.tc : Thread Cert.NormDIdeal.nD Cert.NormDIdeal.τ).loc Cert.NormDIdeal.main_arg0) = m ((c.tc : Thread Cert.NormDIdeal.nD Cert.NormDIdeal.τ).loc Cert.NormDIdeal.main_arg0)
      ∧ r.2.mem ((c.tc : Thread Cert.NormDIdeal.nD Cert.NormDIdeal.τ).loc Cert.NormDIdeal.main_arg1) = m ((c.tc : Thread Cert.NormDIdeal.nD Cert.NormDIdeal.τ).loc Cert.NormDIdeal.main_arg1)
      ∧ r.2.mem ((c.tc : Thread Cert.NormDIdeal.nD Cert.NormDIdeal.τ).loc Cert.NormDIdeal.main_arg2) = m ((c.tc : Thread Cert.NormDIdeal.nD Cert.NormDIdeal.τ).loc Cert.NormDIdeal.main_arg2))
      ∧ r.2.sem = fun _ => 0)

def quiescent_NormDRefIdeal [hNormDRefIdeal : Cert.NormDRefIdeal.Facts] : Prop :=
  ∀ (m : (ℓ : Loc Cert.NormDRefIdeal.nD Cert.NormDRefIdeal.τ Cert.NormDRefIdeal.sig) → Buf (Elt Ideal) ℓ) (g : Dev Cert.NormDRefIdeal.nD → PrngReg), Pre_NormDRefIdeal m →
    θ_run (Cert.NormDRefIdeal.defs (F := Ideal)) (onTc (τ := Cert.NormDRefIdeal.τ) (Cert.NormDRefIdeal.main (F := Ideal))) ⟨m, fun _ => 0, g⟩ (fun r => (∀ c : Dev Cert.NormDRefIdeal.nD,
      r.2.mem ((c.tc : Thread Cert.NormDRefIdeal.nD Cert.NormDRefIdeal.τ).loc Cert.NormDRefIdeal.main_arg0) = m ((c.tc : Thread Cert.NormDRefIdeal.nD Cert.NormDRefIdeal.τ).loc Cert.NormDRefIdeal.main_arg0)
      ∧ r.2.mem ((c.tc : Thread Cert.NormDRefIdeal.nD Cert.NormDRefIdeal.τ).loc Cert.NormDRefIdeal.main_arg1) = m ((c.tc : Thread Cert.NormDRefIdeal.nD Cert.NormDRefIdeal.τ).loc Cert.NormDRefIdeal.main_arg1)
      ∧ r.2.mem ((c.tc : Thread Cert.NormDRefIdeal.nD Cert.NormDRefIdeal.τ).loc Cert.NormDRefIdeal.main_arg2) = m ((c.tc : Thread Cert.NormDRefIdeal.nD Cert.NormDRefIdeal.τ).loc Cert.NormDRefIdeal.main_arg2))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamInSwa [hAdamInSwa : Cert.AdamInSwa.Facts] : Prop :=
  ∀ (m : (ℓ : Loc Cert.AdamInSwa.nD Cert.AdamInSwa.τ Cert.AdamInSwa.sig) → Buf (Elt Bits) ℓ) (g : Dev Cert.AdamInSwa.nD → PrngReg), Pre_AdamInSwa m →
    θ_run (Cert.AdamInSwa.defs (F := Bits)) (onTc (τ := Cert.AdamInSwa.τ) (Cert.AdamInSwa.main (F := Bits))) ⟨m, fun _ => 0, g⟩ (fun r => (∀ c : Dev Cert.AdamInSwa.nD,
      r.2.mem ((c.tc : Thread Cert.AdamInSwa.nD Cert.AdamInSwa.τ).loc Cert.AdamInSwa.main_arg0) = m ((c.tc : Thread Cert.AdamInSwa.nD Cert.AdamInSwa.τ).loc Cert.AdamInSwa.main_arg0)
      ∧ r.2.mem ((c.tc : Thread Cert.AdamInSwa.nD Cert.AdamInSwa.τ).loc Cert.AdamInSwa.main_arg1) = m ((c.tc : Thread Cert.AdamInSwa.nD Cert.AdamInSwa.τ).loc Cert.AdamInSwa.main_arg1)
      ∧ r.2.mem ((c.tc : Thread Cert.AdamInSwa.nD Cert.AdamInSwa.τ).loc Cert.AdamInSwa.main_arg2) = m ((c.tc : Thread Cert.AdamInSwa.nD Cert.AdamInSwa.τ).loc Cert.AdamInSwa.main_arg2)
      ∧ r.2.mem ((c.tc : Thread Cert.AdamInSwa.nD Cert.AdamInSwa.τ).loc Cert.AdamInSwa.main_arg3) = m ((c.tc : Thread Cert.AdamInSwa.nD Cert.AdamInSwa.τ).loc Cert.AdamInSwa.main_arg3))
      ∧ r.2.sem = fun _ => 0)

def quiescent_AdamInSwaIdeal [hAdamInSwaIdeal : Cert.AdamInSwaIdeal.Facts] : Prop :=
  ∀ (m : (ℓ : Loc Cert.AdamInSwaIdeal.nD Cert.AdamInSwaIdeal.τ Cert.AdamInSwaIdeal.sig) → Buf (Elt Ideal) ℓ) (g : Dev Cert.AdamInSwaIdeal.nD → PrngReg), Pre_AdamInSwaIdeal m →
    θ_run (Cert.AdamInSwaIdeal.defs (F := Ideal)) (onTc (τ := Cert.AdamInSwaIdeal.τ) (Cert.AdamInSwaIdeal.main (F := Ideal))) ⟨m, fun _ => 0, g⟩ (fun r => (∀ c : Dev Cert.AdamInSwaIdeal.nD,
      r.2.mem ((c.tc : Thread Cert.AdamInSwaIdeal.nD Cert.AdamInSwaIdeal.τ).loc Cert.AdamInSwaIdeal.main_arg0) = m ((c.tc : Thread Cert.AdamInSwaIdeal.nD Cert.AdamInSwaIdeal.τ).loc Cert.AdamInSwaIdeal.main_arg0)
      ∧ r.2.mem ((c.tc : Thread Cert.AdamInSwaIdeal.nD Cert.AdamInSwaIdeal.τ).loc Cert.AdamInSwaIdeal.main_arg1) = m ((c.tc : Thread Cert.AdamInSwaIdeal.nD Cert.AdamInSwaIdeal.τ).loc Cert.AdamInSwaIdeal.main_arg1)
      ∧ r.2.mem ((c.tc : Thread Cert.AdamInSwaIdeal.nD Cert.AdamInSwaIdeal.τ).loc Cert.AdamInSwaIdeal.main_arg2) = m ((c.tc : Thread Cert.AdamInSwaIdeal.nD Cert.AdamInSwaIdeal.τ).loc Cert.AdamInSwaIdeal.main_arg2)
      ∧ r.2.mem ((c.tc : Thread Cert.AdamInSwaIdeal.nD Cert.AdamInSwaIdeal.τ).loc Cert.AdamInSwaIdeal.main_arg3) = m ((c.tc : Thread Cert.AdamInSwaIdeal.nD Cert.AdamInSwaIdeal.τ).loc Cert.AdamInSwaIdeal.main_arg3))
      ∧ r.2.sem = fun _ => 0)

def quiescent_AdamInSwaRefIdeal [hAdamInSwaRefIdeal : Cert.AdamInSwaRefIdeal.Facts] : Prop :=
  ∀ (m : (ℓ : Loc Cert.AdamInSwaRefIdeal.nD Cert.AdamInSwaRefIdeal.τ Cert.AdamInSwaRefIdeal.sig) → Buf (Elt Ideal) ℓ) (g : Dev Cert.AdamInSwaRefIdeal.nD → PrngReg), Pre_AdamInSwaRefIdeal m →
    θ_run (Cert.AdamInSwaRefIdeal.defs (F := Ideal)) (onTc (τ := Cert.AdamInSwaRefIdeal.τ) (Cert.AdamInSwaRefIdeal.main (F := Ideal))) ⟨m, fun _ => 0, g⟩ (fun r => (∀ c : Dev Cert.AdamInSwaRefIdeal.nD,
      r.2.mem ((c.tc : Thread Cert.AdamInSwaRefIdeal.nD Cert.AdamInSwaRefIdeal.τ).loc Cert.AdamInSwaRefIdeal.main_arg0) = m ((c.tc : Thread Cert.AdamInSwaRefIdeal.nD Cert.AdamInSwaRefIdeal.τ).loc Cert.AdamInSwaRefIdeal.main_arg0)
      ∧ r.2.mem ((c.tc : Thread Cert.AdamInSwaRefIdeal.nD Cert.AdamInSwaRefIdeal.τ).loc Cert.AdamInSwaRefIdeal.main_arg1) = m ((c.tc : Thread Cert.AdamInSwaRefIdeal.nD Cert.AdamInSwaRefIdeal.τ).loc Cert.AdamInSwaRefIdeal.main_arg1)
      ∧ r.2.mem ((c.tc : Thread Cert.AdamInSwaRefIdeal.nD Cert.AdamInSwaRefIdeal.τ).loc Cert.AdamInSwaRefIdeal.main_arg2) = m ((c.tc : Thread Cert.AdamInSwaRefIdeal.nD Cert.AdamInSwaRefIdeal.τ).loc Cert.AdamInSwaRefIdeal.main_arg2)
      ∧ r.2.mem ((c.tc : Thread Cert.AdamInSwaRefIdeal.nD Cert.AdamInSwaRefIdeal.τ).loc Cert.AdamInSwaRefIdeal.main_arg3) = m ((c.tc : Thread Cert.AdamInSwaRefIdeal.nD Cert.AdamInSwaRefIdeal.τ).loc Cert.AdamInSwaRefIdeal.main_arg3))
      ∧ r.2.sem = fun _ => 0)

def quiescent_AdamInRwkv [hAdamInRwkv : Cert.AdamInRwkv.Facts] : Prop :=
  ∀ (m : (ℓ : Loc Cert.AdamInRwkv.nD Cert.AdamInRwkv.τ Cert.AdamInRwkv.sig) → Buf (Elt Bits) ℓ) (g : Dev Cert.AdamInRwkv.nD → PrngReg), Pre_AdamInRwkv m →
    θ_run (Cert.AdamInRwkv.defs (F := Bits)) (onTc (τ := Cert.AdamInRwkv.τ) (Cert.AdamInRwkv.main (F := Bits))) ⟨m, fun _ => 0, g⟩ (fun r => (∀ c : Dev Cert.AdamInRwkv.nD,
      r.2.mem ((c.tc : Thread Cert.AdamInRwkv.nD Cert.AdamInRwkv.τ).loc Cert.AdamInRwkv.main_arg0) = m ((c.tc : Thread Cert.AdamInRwkv.nD Cert.AdamInRwkv.τ).loc Cert.AdamInRwkv.main_arg0)
      ∧ r.2.mem ((c.tc : Thread Cert.AdamInRwkv.nD Cert.AdamInRwkv.τ).loc Cert.AdamInRwkv.main_arg1) = m ((c.tc : Thread Cert.AdamInRwkv.nD Cert.AdamInRwkv.τ).loc Cert.AdamInRwkv.main_arg1)
      ∧ r.2.mem ((c.tc : Thread Cert.AdamInRwkv.nD Cert.AdamInRwkv.τ).loc Cert.AdamInRwkv.main_arg2) = m ((c.tc : Thread Cert.AdamInRwkv.nD Cert.AdamInRwkv.τ).loc Cert.AdamInRwkv.main_arg2)
      ∧ r.2.mem ((c.tc : Thread Cert.AdamInRwkv.nD Cert.AdamInRwkv.τ).loc Cert.AdamInRwkv.main_arg3) = m ((c.tc : Thread Cert.AdamInRwkv.nD Cert.AdamInRwkv.τ).loc Cert.AdamInRwkv.main_arg3))
      ∧ r.2.sem = fun _ => 0)

def quiescent_AdamInRwkvIdeal [hAdamInRwkvIdeal : Cert.AdamInRwkvIdeal.Facts] : Prop :=
  ∀ (m : (ℓ : Loc Cert.AdamInRwkvIdeal.nD Cert.AdamInRwkvIdeal.τ Cert.AdamInRwkvIdeal.sig) → Buf (Elt Ideal) ℓ) (g : Dev Cert.AdamInRwkvIdeal.nD → PrngReg), Pre_AdamInRwkvIdeal m →
    θ_run (Cert.AdamInRwkvIdeal.defs (F := Ideal)) (onTc (τ := Cert.AdamInRwkvIdeal.τ) (Cert.AdamInRwkvIdeal.main (F := Ideal))) ⟨m, fun _ => 0, g⟩ (fun r => (∀ c : Dev Cert.AdamInRwkvIdeal.nD,
      r.2.mem ((c.tc : Thread Cert.AdamInRwkvIdeal.nD Cert.AdamInRwkvIdeal.τ).loc Cert.AdamInRwkvIdeal.main_arg0) = m ((c.tc : Thread Cert.AdamInRwkvIdeal.nD Cert.AdamInRwkvIdeal.τ).loc Cert.AdamInRwkvIdeal.main_arg0)
      ∧ r.2.mem ((c.tc : Thread Cert.AdamInRwkvIdeal.nD Cert.AdamInRwkvIdeal.τ).loc Cert.AdamInRwkvIdeal.main_arg1) = m ((c.tc : Thread Cert.AdamInRwkvIdeal.nD Cert.AdamInRwkvIdeal.τ).loc Cert.AdamInRwkvIdeal.main_arg1)
      ∧ r.2.mem ((c.tc : Thread Cert.AdamInRwkvIdeal.nD Cert.AdamInRwkvIdeal.τ).loc Cert.AdamInRwkvIdeal.main_arg2) = m ((c.tc : Thread Cert.AdamInRwkvIdeal.nD Cert.AdamInRwkvIdeal.τ).loc Cert.AdamInRwkvIdeal.main_arg2)
      ∧ r.2.mem ((c.tc : Thread Cert.AdamInRwkvIdeal.nD Cert.AdamInRwkvIdeal.τ).loc Cert.AdamInRwkvIdeal.main_arg3) = m ((c.tc : Thread Cert.AdamInRwkvIdeal.nD Cert.AdamInRwkvIdeal.τ).loc Cert.AdamInRwkvIdeal.main_arg3))
      ∧ r.2.sem = fun _ => 0)

def quiescent_AdamInRwkvRefIdeal [hAdamInRwkvRefIdeal : Cert.AdamInRwkvRefIdeal.Facts] : Prop :=
  ∀ (m : (ℓ : Loc Cert.AdamInRwkvRefIdeal.nD Cert.AdamInRwkvRefIdeal.τ Cert.AdamInRwkvRefIdeal.sig) → Buf (Elt Ideal) ℓ) (g : Dev Cert.AdamInRwkvRefIdeal.nD → PrngReg), Pre_AdamInRwkvRefIdeal m →
    θ_run (Cert.AdamInRwkvRefIdeal.defs (F := Ideal)) (onTc (τ := Cert.AdamInRwkvRefIdeal.τ) (Cert.AdamInRwkvRefIdeal.main (F := Ideal))) ⟨m, fun _ => 0, g⟩ (fun r => (∀ c : Dev Cert.AdamInRwkvRefIdeal.nD,
      r.2.mem ((c.tc : Thread Cert.AdamInRwkvRefIdeal.nD Cert.AdamInRwkvRefIdeal.τ).loc Cert.AdamInRwkvRefIdeal.main_arg0) = m ((c.tc : Thread Cert.AdamInRwkvRefIdeal.nD Cert.AdamInRwkvRefIdeal.τ).loc Cert.AdamInRwkvRefIdeal.main_arg0)
      ∧ r.2.mem ((c.tc : Thread Cert.AdamInRwkvRefIdeal.nD Cert.AdamInRwkvRefIdeal.τ).loc Cert.AdamInRwkvRefIdeal.main_arg1) = m ((c.tc : Thread Cert.AdamInRwkvRefIdeal.nD Cert.AdamInRwkvRefIdeal.τ).loc Cert.AdamInRwkvRefIdeal.main_arg1)
      ∧ r.2.mem ((c.tc : Thread Cert.AdamInRwkvRefIdeal.nD Cert.AdamInRwkvRefIdeal.τ).loc Cert.AdamInRwkvRefIdeal.main_arg2) = m ((c.tc : Thread Cert.AdamInRwkvRefIdeal.nD Cert.AdamInRwkvRefIdeal.τ).loc Cert.AdamInRwkvRefIdeal.main_arg2)
      ∧ r.2.mem ((c.tc : Thread Cert.AdamInRwkvRefIdeal.nD Cert.AdamInRwkvRefIdeal.τ).loc Cert.AdamInRwkvRefIdeal.main_arg3) = m ((c.tc : Thread Cert.AdamInRwkvRefIdeal.nD Cert.AdamInRwkvRefIdeal.τ).loc Cert.AdamInRwkvRefIdeal.main_arg3))
      ∧ r.2.sem = fun _ => 0)

def quiescent_AdamInGdn [hAdamInGdn : Cert.AdamInGdn.Facts] : Prop :=
  ∀ (m : (ℓ : Loc Cert.AdamInGdn.nD Cert.AdamInGdn.τ Cert.AdamInGdn.sig) → Buf (Elt Bits) ℓ) (g : Dev Cert.AdamInGdn.nD → PrngReg), Pre_AdamInGdn m →
    θ_run (Cert.AdamInGdn.defs (F := Bits)) (onTc (τ := Cert.AdamInGdn.τ) (Cert.AdamInGdn.main (F := Bits))) ⟨m, fun _ => 0, g⟩ (fun r => (∀ c : Dev Cert.AdamInGdn.nD,
      r.2.mem ((c.tc : Thread Cert.AdamInGdn.nD Cert.AdamInGdn.τ).loc Cert.AdamInGdn.main_arg0) = m ((c.tc : Thread Cert.AdamInGdn.nD Cert.AdamInGdn.τ).loc Cert.AdamInGdn.main_arg0)
      ∧ r.2.mem ((c.tc : Thread Cert.AdamInGdn.nD Cert.AdamInGdn.τ).loc Cert.AdamInGdn.main_arg1) = m ((c.tc : Thread Cert.AdamInGdn.nD Cert.AdamInGdn.τ).loc Cert.AdamInGdn.main_arg1)
      ∧ r.2.mem ((c.tc : Thread Cert.AdamInGdn.nD Cert.AdamInGdn.τ).loc Cert.AdamInGdn.main_arg2) = m ((c.tc : Thread Cert.AdamInGdn.nD Cert.AdamInGdn.τ).loc Cert.AdamInGdn.main_arg2)
      ∧ r.2.mem ((c.tc : Thread Cert.AdamInGdn.nD Cert.AdamInGdn.τ).loc Cert.AdamInGdn.main_arg3) = m ((c.tc : Thread Cert.AdamInGdn.nD Cert.AdamInGdn.τ).loc Cert.AdamInGdn.main_arg3))
      ∧ r.2.sem = fun _ => 0)

def quiescent_AdamInGdnIdeal [hAdamInGdnIdeal : Cert.AdamInGdnIdeal.Facts] : Prop :=
  ∀ (m : (ℓ : Loc Cert.AdamInGdnIdeal.nD Cert.AdamInGdnIdeal.τ Cert.AdamInGdnIdeal.sig) → Buf (Elt Ideal) ℓ) (g : Dev Cert.AdamInGdnIdeal.nD → PrngReg), Pre_AdamInGdnIdeal m →
    θ_run (Cert.AdamInGdnIdeal.defs (F := Ideal)) (onTc (τ := Cert.AdamInGdnIdeal.τ) (Cert.AdamInGdnIdeal.main (F := Ideal))) ⟨m, fun _ => 0, g⟩ (fun r => (∀ c : Dev Cert.AdamInGdnIdeal.nD,
      r.2.mem ((c.tc : Thread Cert.AdamInGdnIdeal.nD Cert.AdamInGdnIdeal.τ).loc Cert.AdamInGdnIdeal.main_arg0) = m ((c.tc : Thread Cert.AdamInGdnIdeal.nD Cert.AdamInGdnIdeal.τ).loc Cert.AdamInGdnIdeal.main_arg0)
      ∧ r.2.mem ((c.tc : Thread Cert.AdamInGdnIdeal.nD Cert.AdamInGdnIdeal.τ).loc Cert.AdamInGdnIdeal.main_arg1) = m ((c.tc : Thread Cert.AdamInGdnIdeal.nD Cert.AdamInGdnIdeal.τ).loc Cert.AdamInGdnIdeal.main_arg1)
      ∧ r.2.mem ((c.tc : Thread Cert.AdamInGdnIdeal.nD Cert.AdamInGdnIdeal.τ).loc Cert.AdamInGdnIdeal.main_arg2) = m ((c.tc : Thread Cert.AdamInGdnIdeal.nD Cert.AdamInGdnIdeal.τ).loc Cert.AdamInGdnIdeal.main_arg2)
      ∧ r.2.mem ((c.tc : Thread Cert.AdamInGdnIdeal.nD Cert.AdamInGdnIdeal.τ).loc Cert.AdamInGdnIdeal.main_arg3) = m ((c.tc : Thread Cert.AdamInGdnIdeal.nD Cert.AdamInGdnIdeal.τ).loc Cert.AdamInGdnIdeal.main_arg3))
      ∧ r.2.sem = fun _ => 0)

def quiescent_AdamInGdnRefIdeal [hAdamInGdnRefIdeal : Cert.AdamInGdnRefIdeal.Facts] : Prop :=
  ∀ (m : (ℓ : Loc Cert.AdamInGdnRefIdeal.nD Cert.AdamInGdnRefIdeal.τ Cert.AdamInGdnRefIdeal.sig) → Buf (Elt Ideal) ℓ) (g : Dev Cert.AdamInGdnRefIdeal.nD → PrngReg), Pre_AdamInGdnRefIdeal m →
    θ_run (Cert.AdamInGdnRefIdeal.defs (F := Ideal)) (onTc (τ := Cert.AdamInGdnRefIdeal.τ) (Cert.AdamInGdnRefIdeal.main (F := Ideal))) ⟨m, fun _ => 0, g⟩ (fun r => (∀ c : Dev Cert.AdamInGdnRefIdeal.nD,
      r.2.mem ((c.tc : Thread Cert.AdamInGdnRefIdeal.nD Cert.AdamInGdnRefIdeal.τ).loc Cert.AdamInGdnRefIdeal.main_arg0) = m ((c.tc : Thread Cert.AdamInGdnRefIdeal.nD Cert.AdamInGdnRefIdeal.τ).loc Cert.AdamInGdnRefIdeal.main_arg0)
      ∧ r.2.mem ((c.tc : Thread Cert.AdamInGdnRefIdeal.nD Cert.AdamInGdnRefIdeal.τ).loc Cert.AdamInGdnRefIdeal.main_arg1) = m ((c.tc : Thread Cert.AdamInGdnRefIdeal.nD Cert.AdamInGdnRefIdeal.τ).loc Cert.AdamInGdnRefIdeal.main_arg1)
      ∧ r.2.mem ((c.tc : Thread Cert.AdamInGdnRefIdeal.nD Cert.AdamInGdnRefIdeal.τ).loc Cert.AdamInGdnRefIdeal.main_arg2) = m ((c.tc : Thread Cert.AdamInGdnRefIdeal.nD Cert.AdamInGdnRefIdeal.τ).loc Cert.AdamInGdnRefIdeal.main_arg2)
      ∧ r.2.mem ((c.tc : Thread Cert.AdamInGdnRefIdeal.nD Cert.AdamInGdnRefIdeal.τ).loc Cert.AdamInGdnRefIdeal.main_arg3) = m ((c.tc : Thread Cert.AdamInGdnRefIdeal.nD Cert.AdamInGdnRefIdeal.τ).loc Cert.AdamInGdnRefIdeal.main_arg3))
      ∧ r.2.sem = fun _ => 0)

def quiescent_AdamRank [hAdamRank : Cert.AdamRank.Facts] : Prop :=
  ∀ (m : (ℓ : Loc Cert.AdamRank.nD Cert.AdamRank.τ Cert.AdamRank.sig) → Buf (Elt Bits) ℓ) (g : Dev Cert.AdamRank.nD → PrngReg), Pre_AdamRank m →
    θ_run (Cert.AdamRank.defs (F := Bits)) (onTc (τ := Cert.AdamRank.τ) (Cert.AdamRank.main (F := Bits))) ⟨m, fun _ => 0, g⟩ (fun r => (∀ c : Dev Cert.AdamRank.nD,
      r.2.mem ((c.tc : Thread Cert.AdamRank.nD Cert.AdamRank.τ).loc Cert.AdamRank.main_arg0) = m ((c.tc : Thread Cert.AdamRank.nD Cert.AdamRank.τ).loc Cert.AdamRank.main_arg0)
      ∧ r.2.mem ((c.tc : Thread Cert.AdamRank.nD Cert.AdamRank.τ).loc Cert.AdamRank.main_arg1) = m ((c.tc : Thread Cert.AdamRank.nD Cert.AdamRank.τ).loc Cert.AdamRank.main_arg1)
      ∧ r.2.mem ((c.tc : Thread Cert.AdamRank.nD Cert.AdamRank.τ).loc Cert.AdamRank.main_arg2) = m ((c.tc : Thread Cert.AdamRank.nD Cert.AdamRank.τ).loc Cert.AdamRank.main_arg2)
      ∧ r.2.mem ((c.tc : Thread Cert.AdamRank.nD Cert.AdamRank.τ).loc Cert.AdamRank.main_arg3) = m ((c.tc : Thread Cert.AdamRank.nD Cert.AdamRank.τ).loc Cert.AdamRank.main_arg3))
      ∧ r.2.sem = fun _ => 0)

def quiescent_AdamRankIdeal [hAdamRankIdeal : Cert.AdamRankIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg), Pre_AdamRankIdeal m →
    θ_run (Cert.AdamRankIdeal.defs (F := Ideal)) (onTc (τ := Cert.AdamRankIdeal.τ) (Cert.AdamRankIdeal.main (F := Ideal))) ⟨m, fun _ => 0, g⟩ (fun r => (∀ c : Dev Cert.AdamRankIdeal.nD,
      r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
      ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
      ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
      ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ r.2.sem = fun _ => 0)

def quiescent_AdamRankRefIdeal [hAdamRankRefIdeal : Cert.AdamRankRefIdeal.Facts] : Prop :=
  ∀ (m : (ℓ : Loc Cert.AdamRankRefIdeal.nD Cert.AdamRankRefIdeal.τ Cert.AdamRankRefIdeal.sig) → Buf (Elt Ideal) ℓ) (g : Dev Cert.AdamRankRefIdeal.nD → PrngReg), Pre_AdamRankRefIdeal m →
    θ_run (Cert.AdamRankRefIdeal.defs (F := Ideal)) (onTc (τ := Cert.AdamRankRefIdeal.τ) (Cert.AdamRankRefIdeal.main (F := Ideal))) ⟨m, fun _ => 0, g⟩ (fun r => (∀ c : Dev Cert.AdamRankRefIdeal.nD,
      r.2.mem ((c.tc : Thread Cert.AdamRankRefIdeal.nD Cert.AdamRankRefIdeal.τ).loc Cert.AdamRankRefIdeal.main_arg0) = m ((c.tc : Thread Cert.AdamRankRefIdeal.nD Cert.AdamRankRefIdeal.τ).loc Cert.AdamRankRefIdeal.main_arg0)
      ∧ r.2.mem ((c.tc : Thread Cert.AdamRankRefIdeal.nD Cert.AdamRankRefIdeal.τ).loc Cert.AdamRankRefIdeal.main_arg1) = m ((c.tc : Thread Cert.AdamRankRefIdeal.nD Cert.AdamRankRefIdeal.τ).loc Cert.AdamRankRefIdeal.main_arg1)
      ∧ r.2.mem ((c.tc : Thread Cert.AdamRankRefIdeal.nD Cert.AdamRankRefIdeal.τ).loc Cert.AdamRankRefIdeal.main_arg2) = m ((c.tc : Thread Cert.AdamRankRefIdeal.nD Cert.AdamRankRefIdeal.τ).loc Cert.AdamRankRefIdeal.main_arg2)
      ∧ r.2.mem ((c.tc : Thread Cert.AdamRankRefIdeal.nD Cert.AdamRankRefIdeal.τ).loc Cert.AdamRankRefIdeal.main_arg3) = m ((c.tc : Thread Cert.AdamRankRefIdeal.nD Cert.AdamRankRefIdeal.τ).loc Cert.AdamRankRefIdeal.main_arg3))
      ∧ r.2.sem = fun _ => 0)

def quiescent_AdamRankG [hAdamRankG : Cert.AdamRankG.Facts] : Prop :=
  ∀ (m : (ℓ : Loc Cert.AdamRankG.nD Cert.AdamRankG.τ Cert.AdamRankG.sig) → Buf (Elt Bits) ℓ) (g : Dev Cert.AdamRankG.nD → PrngReg), Pre_AdamRankG m →
    θ_run (Cert.AdamRankG.defs (F := Bits)) (onTc (τ := Cert.AdamRankG.τ) (Cert.AdamRankG.main (F := Bits))) ⟨m, fun _ => 0, g⟩ (fun r => (∀ c : Dev Cert.AdamRankG.nD,
      r.2.mem ((c.tc : Thread Cert.AdamRankG.nD Cert.AdamRankG.τ).loc Cert.AdamRankG.main_arg0) = m ((c.tc : Thread Cert.AdamRankG.nD Cert.AdamRankG.τ).loc Cert.AdamRankG.main_arg0)
      ∧ r.2.mem ((c.tc : Thread Cert.AdamRankG.nD Cert.AdamRankG.τ).loc Cert.AdamRankG.main_arg1) = m ((c.tc : Thread Cert.AdamRankG.nD Cert.AdamRankG.τ).loc Cert.AdamRankG.main_arg1)
      ∧ r.2.mem ((c.tc : Thread Cert.AdamRankG.nD Cert.AdamRankG.τ).loc Cert.AdamRankG.main_arg2) = m ((c.tc : Thread Cert.AdamRankG.nD Cert.AdamRankG.τ).loc Cert.AdamRankG.main_arg2)
      ∧ r.2.mem ((c.tc : Thread Cert.AdamRankG.nD Cert.AdamRankG.τ).loc Cert.AdamRankG.main_arg3) = m ((c.tc : Thread Cert.AdamRankG.nD Cert.AdamRankG.τ).loc Cert.AdamRankG.main_arg3))
      ∧ r.2.sem = fun _ => 0)

def quiescent_AdamRankGIdeal [hAdamRankGIdeal : Cert.AdamRankGIdeal.Facts] : Prop :=
  ∀ (m : (ℓ : Loc Cert.AdamRankGIdeal.nD Cert.AdamRankGIdeal.τ Cert.AdamRankGIdeal.sig) → Buf (Elt Ideal) ℓ) (g : Dev Cert.AdamRankGIdeal.nD → PrngReg), Pre_AdamRankGIdeal m →
    θ_run (Cert.AdamRankGIdeal.defs (F := Ideal)) (onTc (τ := Cert.AdamRankGIdeal.τ) (Cert.AdamRankGIdeal.main (F := Ideal))) ⟨m, fun _ => 0, g⟩ (fun r => (∀ c : Dev Cert.AdamRankGIdeal.nD,
      r.2.mem ((c.tc : Thread Cert.AdamRankGIdeal.nD Cert.AdamRankGIdeal.τ).loc Cert.AdamRankGIdeal.main_arg0) = m ((c.tc : Thread Cert.AdamRankGIdeal.nD Cert.AdamRankGIdeal.τ).loc Cert.AdamRankGIdeal.main_arg0)
      ∧ r.2.mem ((c.tc : Thread Cert.AdamRankGIdeal.nD Cert.AdamRankGIdeal.τ).loc Cert.AdamRankGIdeal.main_arg1) = m ((c.tc : Thread Cert.AdamRankGIdeal.nD Cert.AdamRankGIdeal.τ).loc Cert.AdamRankGIdeal.main_arg1)
      ∧ r.2.mem ((c.tc : Thread Cert.AdamRankGIdeal.nD Cert.AdamRankGIdeal.τ).loc Cert.AdamRankGIdeal.main_arg2) = m ((c.tc : Thread Cert.AdamRankGIdeal.nD Cert.AdamRankGIdeal.τ).loc Cert.AdamRankGIdeal.main_arg2)
      ∧ r.2.mem ((c.tc : Thread Cert.AdamRankGIdeal.nD Cert.AdamRankGIdeal.τ).loc Cert.AdamRankGIdeal.main_arg3) = m ((c.tc : Thread Cert.AdamRankGIdeal.nD Cert.AdamRankGIdeal.τ).loc Cert.AdamRankGIdeal.main_arg3))
      ∧ r.2.sem = fun _ => 0)

def quiescent_AdamRankGRefIdeal [hAdamRankGRefIdeal : Cert.AdamRankGRefIdeal.Facts] : Prop :=
  ∀ (m : (ℓ : Loc Cert.AdamRankGRefIdeal.nD Cert.AdamRankGRefIdeal.τ Cert.AdamRankGRefIdeal.sig) → Buf (Elt Ideal) ℓ) (g : Dev Cert.AdamRankGRefIdeal.nD → PrngReg), Pre_AdamRankGRefIdeal m →
    θ_run (Cert.AdamRankGRefIdeal.defs (F := Ideal)) (onTc (τ := Cert.AdamRankGRefIdeal.τ) (Cert.AdamRankGRefIdeal.main (F := Ideal))) ⟨m, fun _ => 0, g⟩ (fun r => (∀ c : Dev Cert.AdamRankGRefIdeal.nD,
      r.2.mem ((c.tc : Thread Cert.AdamRankGRefIdeal.nD Cert.AdamRankGRefIdeal.τ).loc Cert.AdamRankGRefIdeal.main_arg0) = m ((c.tc : Thread Cert.AdamRankGRefIdeal.nD Cert.AdamRankGRefIdeal.τ).loc Cert.AdamRankGRefIdeal.main_arg0)
      ∧ r.2.mem ((c.tc : Thread Cert.AdamRankGRefIdeal.nD Cert.AdamRankGRefIdeal.τ).loc Cert.AdamRankGRefIdeal.main_arg1) = m ((c.tc : Thread Cert.AdamRankGRefIdeal.nD Cert.AdamRankGRefIdeal.τ).loc Cert.AdamRankGRefIdeal.main_arg1)
      ∧ r.2.mem ((c.tc : Thread Cert.AdamRankGRefIdeal.nD Cert.AdamRankGRefIdeal.τ).loc Cert.AdamRankGRefIdeal.main_arg2) = m ((c.tc : Thread Cert.AdamRankGRefIdeal.nD Cert.AdamRankGRefIdeal.τ).loc Cert.AdamRankGRefIdeal.main_arg2)
      ∧ r.2.mem ((c.tc : Thread Cert.AdamRankGRefIdeal.nD Cert.AdamRankGRefIdeal.τ).loc Cert.AdamRankGRefIdeal.main_arg3) = m ((c.tc : Thread Cert.AdamRankGRefIdeal.nD Cert.AdamRankGRefIdeal.τ).loc Cert.AdamRankGRefIdeal.main_arg3))
      ∧ r.2.sem = fun _ => 0)

def quiescent_AdamConvC [hAdamConvC : Cert.AdamConvC.Facts] : Prop :=
  ∀ (m : (ℓ : Loc Cert.AdamConvC.nD Cert.AdamConvC.τ Cert.AdamConvC.sig) → Buf (Elt Bits) ℓ) (g : Dev Cert.AdamConvC.nD → PrngReg), Pre_AdamConvC m →
    θ_run (Cert.AdamConvC.defs (F := Bits)) (onTc (τ := Cert.AdamConvC.τ) (Cert.AdamConvC.main (F := Bits))) ⟨m, fun _ => 0, g⟩ (fun r => (∀ c : Dev Cert.AdamConvC.nD,
      r.2.mem ((c.tc : Thread Cert.AdamConvC.nD Cert.AdamConvC.τ).loc Cert.AdamConvC.main_arg0) = m ((c.tc : Thread Cert.AdamConvC.nD Cert.AdamConvC.τ).loc Cert.AdamConvC.main_arg0)
      ∧ r.2.mem ((c.tc : Thread Cert.AdamConvC.nD Cert.AdamConvC.τ).loc Cert.AdamConvC.main_arg1) = m ((c.tc : Thread Cert.AdamConvC.nD Cert.AdamConvC.τ).loc Cert.AdamConvC.main_arg1)
      ∧ r.2.mem ((c.tc : Thread Cert.AdamConvC.nD Cert.AdamConvC.τ).loc Cert.AdamConvC.main_arg2) = m ((c.tc : Thread Cert.AdamConvC.nD Cert.AdamConvC.τ).loc Cert.AdamConvC.main_arg2)
      ∧ r.2.mem ((c.tc : Thread Cert.AdamConvC.nD Cert.AdamConvC.τ).loc Cert.AdamConvC.main_arg3) = m ((c.tc : Thread Cert.AdamConvC.nD Cert.AdamConvC.τ).loc Cert.AdamConvC.main_arg3))
      ∧ r.2.sem = fun _ => 0)

def quiescent_AdamConvCIdeal [hAdamConvCIdeal : Cert.AdamConvCIdeal.Facts] : Prop :=
  ∀ (m : (ℓ : Loc Cert.AdamConvCIdeal.nD Cert.AdamConvCIdeal.τ Cert.AdamConvCIdeal.sig) → Buf (Elt Ideal) ℓ) (g : Dev Cert.AdamConvCIdeal.nD → PrngReg), Pre_AdamConvCIdeal m →
    θ_run (Cert.AdamConvCIdeal.defs (F := Ideal)) (onTc (τ := Cert.AdamConvCIdeal.τ) (Cert.AdamConvCIdeal.main (F := Ideal))) ⟨m, fun _ => 0, g⟩ (fun r => (∀ c : Dev Cert.AdamConvCIdeal.nD,
      r.2.mem ((c.tc : Thread Cert.AdamConvCIdeal.nD Cert.AdamConvCIdeal.τ).loc Cert.AdamConvCIdeal.main_arg0) = m ((c.tc : Thread Cert.AdamConvCIdeal.nD Cert.AdamConvCIdeal.τ).loc Cert.AdamConvCIdeal.main_arg0)
      ∧ r.2.mem ((c.tc : Thread Cert.AdamConvCIdeal.nD Cert.AdamConvCIdeal.τ).loc Cert.AdamConvCIdeal.main_arg1) = m ((c.tc : Thread Cert.AdamConvCIdeal.nD Cert.AdamConvCIdeal.τ).loc Cert.AdamConvCIdeal.main_arg1)
      ∧ r.2.mem ((c.tc : Thread Cert.AdamConvCIdeal.nD Cert.AdamConvCIdeal.τ).loc Cert.AdamConvCIdeal.main_arg2) = m ((c.tc : Thread Cert.AdamConvCIdeal.nD Cert.AdamConvCIdeal.τ).loc Cert.AdamConvCIdeal.main_arg2)
      ∧ r.2.mem ((c.tc : Thread Cert.AdamConvCIdeal.nD Cert.AdamConvCIdeal.τ).loc Cert.AdamConvCIdeal.main_arg3) = m ((c.tc : Thread Cert.AdamConvCIdeal.nD Cert.AdamConvCIdeal.τ).loc Cert.AdamConvCIdeal.main_arg3))
      ∧ r.2.sem = fun _ => 0)

def quiescent_AdamConvCRefIdeal [hAdamConvCRefIdeal : Cert.AdamConvCRefIdeal.Facts] : Prop :=
  ∀ (m : (ℓ : Loc Cert.AdamConvCRefIdeal.nD Cert.AdamConvCRefIdeal.τ Cert.AdamConvCRefIdeal.sig) → Buf (Elt Ideal) ℓ) (g : Dev Cert.AdamConvCRefIdeal.nD → PrngReg), Pre_AdamConvCRefIdeal m →
    θ_run (Cert.AdamConvCRefIdeal.defs (F := Ideal)) (onTc (τ := Cert.AdamConvCRefIdeal.τ) (Cert.AdamConvCRefIdeal.main (F := Ideal))) ⟨m, fun _ => 0, g⟩ (fun r => (∀ c : Dev Cert.AdamConvCRefIdeal.nD,
      r.2.mem ((c.tc : Thread Cert.AdamConvCRefIdeal.nD Cert.AdamConvCRefIdeal.τ).loc Cert.AdamConvCRefIdeal.main_arg0) = m ((c.tc : Thread Cert.AdamConvCRefIdeal.nD Cert.AdamConvCRefIdeal.τ).loc Cert.AdamConvCRefIdeal.main_arg0)
      ∧ r.2.mem ((c.tc : Thread Cert.AdamConvCRefIdeal.nD Cert.AdamConvCRefIdeal.τ).loc Cert.AdamConvCRefIdeal.main_arg1) = m ((c.tc : Thread Cert.AdamConvCRefIdeal.nD Cert.AdamConvCRefIdeal.τ).loc Cert.AdamConvCRefIdeal.main_arg1)
      ∧ r.2.mem ((c.tc : Thread Cert.AdamConvCRefIdeal.nD Cert.AdamConvCRefIdeal.τ).loc Cert.AdamConvCRefIdeal.main_arg2) = m ((c.tc : Thread Cert.AdamConvCRefIdeal.nD Cert.AdamConvCRefIdeal.τ).loc Cert.AdamConvCRefIdeal.main_arg2)
      ∧ r.2.mem ((c.tc : Thread Cert.AdamConvCRefIdeal.nD Cert.AdamConvCRefIdeal.τ).loc Cert.AdamConvCRefIdeal.main_arg3) = m ((c.tc : Thread Cert.AdamConvCRefIdeal.nD Cert.AdamConvCRefIdeal.τ).loc Cert.AdamConvCRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def preserves_Kernel_KernelIdeal : Prop :=
  IdealRules.bf16_pack.Statement Cert.KernelIdeal.S256x128
  ∧ IdealRules.bf16_pack.Statement Cert.KernelIdeal.S256x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v3) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DHf_DHfIdeal : Prop :=
  True

def algebraic_DHfIdeal_DHfRefIdeal [hDHfIdeal : Cert.DHfIdeal.Facts] [hDHfRefIdeal : Cert.DHfRefIdeal.Facts] : Prop :=
  ∀ (m : (ℓ : Loc Cert.DHfIdeal.nD Cert.DHfIdeal.τ Cert.DHfIdeal.sig) → Buf (Elt Ideal) ℓ) (g : Dev Cert.DHfIdeal.nD → PrngReg)
    (m' : (ℓ : Loc Cert.DHfRefIdeal.nD Cert.DHfRefIdeal.τ Cert.DHfRefIdeal.sig) → Buf (Elt Ideal) ℓ) (g' : Dev Cert.DHfRefIdeal.nD → PrngReg), Pre_DHfIdeal m →
    (∀ c : Dev Cert.DHfIdeal.nD,
      m' ((c.tc : Thread Cert.DHfRefIdeal.nD Cert.DHfRefIdeal.τ).loc Cert.DHfRefIdeal.main_arg0) = m ((c.tc : Thread Cert.DHfIdeal.nD Cert.DHfIdeal.τ).loc Cert.DHfIdeal.main_arg0)
      ∧ m' ((c.tc : Thread Cert.DHfRefIdeal.nD Cert.DHfRefIdeal.τ).loc Cert.DHfRefIdeal.main_arg1) = m ((c.tc : Thread Cert.DHfIdeal.nD Cert.DHfIdeal.τ).loc Cert.DHfIdeal.main_arg1)) →
    ∃ (v0 : (c : Dev Cert.DHfIdeal.nD) → Buf (Elt Ideal) ((c.tc : Thread Cert.DHfIdeal.nD Cert.DHfIdeal.τ).loc Cert.DHfIdeal.main_v0)),
      θ_run (Cert.DHfIdeal.defs (F := Ideal)) (onTc (τ := Cert.DHfIdeal.τ) (Cert.DHfIdeal.main (F := Ideal))) ⟨m, fun _ => 0, g⟩ (fun r => ∀ c : Dev Cert.DHfIdeal.nD,
          r.2.mem ((c.tc : Thread Cert.DHfIdeal.nD Cert.DHfIdeal.τ).loc Cert.DHfIdeal.main_v0) = v0 c
          ∧ r.2.mem ((c.tc : Thread Cert.DHfIdeal.nD Cert.DHfIdeal.τ).loc Cert.DHfIdeal.main_arg0) = m ((c.tc : Thread Cert.DHfIdeal.nD Cert.DHfIdeal.τ).loc Cert.DHfIdeal.main_arg0)
          ∧ r.2.mem ((c.tc : Thread Cert.DHfIdeal.nD Cert.DHfIdeal.τ).loc Cert.DHfIdeal.main_arg1) = m ((c.tc : Thread Cert.DHfIdeal.nD Cert.DHfIdeal.τ).loc Cert.DHfIdeal.main_arg1))
      ∧ θ_run (Cert.DHfRefIdeal.defs (F := Ideal)) (onTc (τ := Cert.DHfRefIdeal.τ) (Cert.DHfRefIdeal.main (F := Ideal))) ⟨m', fun _ => 0, g'⟩ (fun r => ∀ c : Dev Cert.DHfRefIdeal.nD,
          r.2.mem ((c.tc : Thread Cert.DHfRefIdeal.nD Cert.DHfRefIdeal.τ).loc Cert.DHfRefIdeal.main_v4) = v0 c
          ∧ r.2.mem ((c.tc : Thread Cert.DHfRefIdeal.nD Cert.DHfRefIdeal.τ).loc Cert.DHfRefIdeal.main_arg0) = m' ((c.tc : Thread Cert.DHfRefIdeal.nD Cert.DHfRefIdeal.τ).loc Cert.DHfRefIdeal.main_arg0)
          ∧ r.2.mem ((c.tc : Thread Cert.DHfRefIdeal.nD Cert.DHfRefIdeal.τ).loc Cert.DHfRefIdeal.main_arg1) = m' ((c.tc : Thread Cert.DHfRefIdeal.nD Cert.DHfRefIdeal.τ).loc Cert.DHfRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DCat_DCatIdeal : Prop :=
  True

def algebraic_DCatIdeal_DCatRefIdeal [hDCatIdeal : Cert.DCatIdeal.Facts] [hDCatRefIdeal : Cert.DCatRefIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.DCatRefIdeal.nD Cert.DCatRefIdeal.τ Cert.DCatRefIdeal.sig) → Buf (Elt Ideal) ℓ) (g' : Dev Cert.DCatRefIdeal.nD → PrngReg), Pre_DCatIdeal m →
    (∀ c : Dev Cert.DCatIdeal.nD,
      m' ((c.tc : Thread Cert.DCatRefIdeal.nD Cert.DCatRefIdeal.τ).loc Cert.DCatRefIdeal.main_arg0) = m ((c.tc : Thread Cert.DCatIdeal.nD Cert.DCatIdeal.τ).loc Cert.DCatIdeal.main_arg0)
      ∧ m' ((c.tc : Thread Cert.DCatRefIdeal.nD Cert.DCatRefIdeal.τ).loc Cert.DCatRefIdeal.main_arg1) = m ((c.tc : Thread Cert.DCatIdeal.nD Cert.DCatIdeal.τ).loc Cert.DCatIdeal.main_arg1)) →
    ∃ (v0 : (c : Dev Cert.DCatIdeal.nD) → Buf (Elt Ideal) ((c.tc : Thread Cert.DCatIdeal.nD Cert.DCatIdeal.τ).loc Cert.DCatIdeal.main_v0)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v0) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ θ_run (Cert.DCatRefIdeal.defs (F := Ideal)) (onTc (τ := Cert.DCatRefIdeal.τ) (Cert.DCatRefIdeal.main (F := Ideal))) ⟨m', fun _ => 0, g'⟩ (fun r => ∀ c : Dev Cert.DCatRefIdeal.nD,
          r.2.mem ((c.tc : Thread Cert.DCatRefIdeal.nD Cert.DCatRefIdeal.τ).loc Cert.DCatRefIdeal.main_v3) = v0 c
          ∧ r.2.mem ((c.tc : Thread Cert.DCatRefIdeal.nD Cert.DCatRefIdeal.τ).loc Cert.DCatRefIdeal.main_arg0) = m' ((c.tc : Thread Cert.DCatRefIdeal.nD Cert.DCatRefIdeal.τ).loc Cert.DCatRefIdeal.main_arg0)
          ∧ r.2.mem ((c.tc : Thread Cert.DCatRefIdeal.nD Cert.DCatRefIdeal.τ).loc Cert.DCatRefIdeal.main_arg1) = m' ((c.tc : Thread Cert.DCatRefIdeal.nD Cert.DCatRefIdeal.τ).loc Cert.DCatRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v71) = v0 c
          ∧ r.2.mem ((c.tc : Thread Cert.GateRefIdeal.nD Cert.GateRefIdeal.τ).loc Cert.GateRefIdeal.main_v72) = v1 c
          ∧ r.2.mem ((c.tc : Thread Cert.GateRefIdeal.nD Cert.GateRefIdeal.τ).loc Cert.GateRefIdeal.main_v69) = v2 c
          ∧ r.2.mem ((c.tc : Thread Cert.GateRefIdeal.nD Cert.GateRefIdeal.τ).loc Cert.GateRefIdeal.main_v70) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_InSwa_InSwaIdeal : Prop :=
  True

def algebraic_InSwaIdeal_InSwaRefIdeal [hInSwaIdeal : Cert.InSwaIdeal.Facts] [hInSwaRefIdeal : Cert.InSwaRefIdeal.Facts] : Prop :=
  ∀ (m : (ℓ : Loc Cert.InSwaIdeal.nD Cert.InSwaIdeal.τ Cert.InSwaIdeal.sig) → Buf (Elt Ideal) ℓ) (g : Dev Cert.InSwaIdeal.nD → PrngReg)
    (m' : (ℓ : Loc Cert.InSwaRefIdeal.nD Cert.InSwaRefIdeal.τ Cert.InSwaRefIdeal.sig) → Buf (Elt Ideal) ℓ) (g' : Dev Cert.InSwaRefIdeal.nD → PrngReg), Pre_InSwaIdeal m →
    (∀ c : Dev Cert.InSwaIdeal.nD,
      m' ((c.tc : Thread Cert.InSwaRefIdeal.nD Cert.InSwaRefIdeal.τ).loc Cert.InSwaRefIdeal.main_arg0) = m ((c.tc : Thread Cert.InSwaIdeal.nD Cert.InSwaIdeal.τ).loc Cert.InSwaIdeal.main_arg0)
      ∧ m' ((c.tc : Thread Cert.InSwaRefIdeal.nD Cert.InSwaRefIdeal.τ).loc Cert.InSwaRefIdeal.main_arg1) = m ((c.tc : Thread Cert.InSwaIdeal.nD Cert.InSwaIdeal.τ).loc Cert.InSwaIdeal.main_arg1)) →
    ∃ (v0 : (c : Dev Cert.InSwaIdeal.nD) → Buf (Elt Ideal) ((c.tc : Thread Cert.InSwaIdeal.nD Cert.InSwaIdeal.τ).loc Cert.InSwaIdeal.main_v0)),
      θ_run (Cert.InSwaIdeal.defs (F := Ideal)) (onTc (τ := Cert.InSwaIdeal.τ) (Cert.InSwaIdeal.main (F := Ideal))) ⟨m, fun _ => 0, g⟩ (fun r => ∀ c : Dev Cert.InSwaIdeal.nD,
          r.2.mem ((c.tc : Thread Cert.InSwaIdeal.nD Cert.InSwaIdeal.τ).loc Cert.InSwaIdeal.main_v0) = v0 c
          ∧ r.2.mem ((c.tc : Thread Cert.InSwaIdeal.nD Cert.InSwaIdeal.τ).loc Cert.InSwaIdeal.main_arg0) = m ((c.tc : Thread Cert.InSwaIdeal.nD Cert.InSwaIdeal.τ).loc Cert.InSwaIdeal.main_arg0)
          ∧ r.2.mem ((c.tc : Thread Cert.InSwaIdeal.nD Cert.InSwaIdeal.τ).loc Cert.InSwaIdeal.main_arg1) = m ((c.tc : Thread Cert.InSwaIdeal.nD Cert.InSwaIdeal.τ).loc Cert.InSwaIdeal.main_arg1))
      ∧ θ_run (Cert.InSwaRefIdeal.defs (F := Ideal)) (onTc (τ := Cert.InSwaRefIdeal.τ) (Cert.InSwaRefIdeal.main (F := Ideal))) ⟨m', fun _ => 0, g'⟩ (fun r => ∀ c : Dev Cert.InSwaRefIdeal.nD,
          r.2.mem ((c.tc : Thread Cert.InSwaRefIdeal.nD Cert.InSwaRefIdeal.τ).loc Cert.InSwaRefIdeal.main_v2) = v0 c
          ∧ r.2.mem ((c.tc : Thread Cert.InSwaRefIdeal.nD Cert.InSwaRefIdeal.τ).loc Cert.InSwaRefIdeal.main_arg0) = m' ((c.tc : Thread Cert.InSwaRefIdeal.nD Cert.InSwaRefIdeal.τ).loc Cert.InSwaRefIdeal.main_arg0)
          ∧ r.2.mem ((c.tc : Thread Cert.InSwaRefIdeal.nD Cert.InSwaRefIdeal.τ).loc Cert.InSwaRefIdeal.main_arg1) = m' ((c.tc : Thread Cert.InSwaRefIdeal.nD Cert.InSwaRefIdeal.τ).loc Cert.InSwaRefIdeal.main_arg1))

def preserves_DInSwa_DInSwaIdeal : Prop :=
  True

def algebraic_DInSwaIdeal_DInSwaRefIdeal [hDInSwaIdeal : Cert.DInSwaIdeal.Facts] [hDInSwaRefIdeal : Cert.DInSwaRefIdeal.Facts] : Prop :=
  ∀ (m : (ℓ : Loc Cert.DInSwaIdeal.nD Cert.DInSwaIdeal.τ Cert.DInSwaIdeal.sig) → Buf (Elt Ideal) ℓ) (g : Dev Cert.DInSwaIdeal.nD → PrngReg)
    (m' : (ℓ : Loc Cert.DInSwaRefIdeal.nD Cert.DInSwaRefIdeal.τ Cert.DInSwaRefIdeal.sig) → Buf (Elt Ideal) ℓ) (g' : Dev Cert.DInSwaRefIdeal.nD → PrngReg), Pre_DInSwaIdeal m →
    (∀ c : Dev Cert.DInSwaIdeal.nD,
      m' ((c.tc : Thread Cert.DInSwaRefIdeal.nD Cert.DInSwaRefIdeal.τ).loc Cert.DInSwaRefIdeal.main_arg0) = m ((c.tc : Thread Cert.DInSwaIdeal.nD Cert.DInSwaIdeal.τ).loc Cert.DInSwaIdeal.main_arg0)
      ∧ m' ((c.tc : Thread Cert.DInSwaRefIdeal.nD Cert.DInSwaRefIdeal.τ).loc Cert.DInSwaRefIdeal.main_arg1) = m ((c.tc : Thread Cert.DInSwaIdeal.nD Cert.DInSwaIdeal.τ).loc Cert.DInSwaIdeal.main_arg1)) →
    ∃ (v0 : (c : Dev Cert.DInSwaIdeal.nD) → Buf (Elt Ideal) ((c.tc : Thread Cert.DInSwaIdeal.nD Cert.DInSwaIdeal.τ).loc Cert.DInSwaIdeal.main_v0)),
      θ_run (Cert.DInSwaIdeal.defs (F := Ideal)) (onTc (τ := Cert.DInSwaIdeal.τ) (Cert.DInSwaIdeal.main (F := Ideal))) ⟨m, fun _ => 0, g⟩ (fun r => ∀ c : Dev Cert.DInSwaIdeal.nD,
          r.2.mem ((c.tc : Thread Cert.DInSwaIdeal.nD Cert.DInSwaIdeal.τ).loc Cert.DInSwaIdeal.main_v0) = v0 c
          ∧ r.2.mem ((c.tc : Thread Cert.DInSwaIdeal.nD Cert.DInSwaIdeal.τ).loc Cert.DInSwaIdeal.main_arg0) = m ((c.tc : Thread Cert.DInSwaIdeal.nD Cert.DInSwaIdeal.τ).loc Cert.DInSwaIdeal.main_arg0)
          ∧ r.2.mem ((c.tc : Thread Cert.DInSwaIdeal.nD Cert.DInSwaIdeal.τ).loc Cert.DInSwaIdeal.main_arg1) = m ((c.tc : Thread Cert.DInSwaIdeal.nD Cert.DInSwaIdeal.τ).loc Cert.DInSwaIdeal.main_arg1))
      ∧ θ_run (Cert.DInSwaRefIdeal.defs (F := Ideal)) (onTc (τ := Cert.DInSwaRefIdeal.τ) (Cert.DInSwaRefIdeal.main (F := Ideal))) ⟨m', fun _ => 0, g'⟩ (fun r => ∀ c : Dev Cert.DInSwaRefIdeal.nD,
          r.2.mem ((c.tc : Thread Cert.DInSwaRefIdeal.nD Cert.DInSwaRefIdeal.τ).loc Cert.DInSwaRefIdeal.main_v4) = v0 c
          ∧ r.2.mem ((c.tc : Thread Cert.DInSwaRefIdeal.nD Cert.DInSwaRefIdeal.τ).loc Cert.DInSwaRefIdeal.main_arg0) = m' ((c.tc : Thread Cert.DInSwaRefIdeal.nD Cert.DInSwaRefIdeal.τ).loc Cert.DInSwaRefIdeal.main_arg0)
          ∧ r.2.mem ((c.tc : Thread Cert.DInSwaRefIdeal.nD Cert.DInSwaRefIdeal.τ).loc Cert.DInSwaRefIdeal.main_arg1) = m' ((c.tc : Thread Cert.DInSwaRefIdeal.nD Cert.DInSwaRefIdeal.τ).loc Cert.DInSwaRefIdeal.main_arg1))

def preserves_DwInSwa_DwInSwaIdeal : Prop :=
  True

def algebraic_DwInSwaIdeal_DwInSwaRefIdeal [hDwInSwaIdeal : Cert.DwInSwaIdeal.Facts] [hDwInSwaRefIdeal : Cert.DwInSwaRefIdeal.Facts] : Prop :=
  ∀ (m : (ℓ : Loc Cert.DwInSwaIdeal.nD Cert.DwInSwaIdeal.τ Cert.DwInSwaIdeal.sig) → Buf (Elt Ideal) ℓ) (g : Dev Cert.DwInSwaIdeal.nD → PrngReg)
    (m' : (ℓ : Loc Cert.DwInSwaRefIdeal.nD Cert.DwInSwaRefIdeal.τ Cert.DwInSwaRefIdeal.sig) → Buf (Elt Ideal) ℓ) (g' : Dev Cert.DwInSwaRefIdeal.nD → PrngReg), Pre_DwInSwaIdeal m →
    (∀ c : Dev Cert.DwInSwaIdeal.nD,
      m' ((c.tc : Thread Cert.DwInSwaRefIdeal.nD Cert.DwInSwaRefIdeal.τ).loc Cert.DwInSwaRefIdeal.main_arg0) = m ((c.tc : Thread Cert.DwInSwaIdeal.nD Cert.DwInSwaIdeal.τ).loc Cert.DwInSwaIdeal.main_arg0)
      ∧ m' ((c.tc : Thread Cert.DwInSwaRefIdeal.nD Cert.DwInSwaRefIdeal.τ).loc Cert.DwInSwaRefIdeal.main_arg1) = m ((c.tc : Thread Cert.DwInSwaIdeal.nD Cert.DwInSwaIdeal.τ).loc Cert.DwInSwaIdeal.main_arg1)) →
    ∃ (v0 : (c : Dev Cert.DwInSwaIdeal.nD) → Buf (Elt Ideal) ((c.tc : Thread Cert.DwInSwaIdeal.nD Cert.DwInSwaIdeal.τ).loc Cert.DwInSwaIdeal.main_v0)),
      θ_run (Cert.DwInSwaIdeal.defs (F := Ideal)) (onTc (τ := Cert.DwInSwaIdeal.τ) (Cert.DwInSwaIdeal.main (F := Ideal))) ⟨m, fun _ => 0, g⟩ (fun r => ∀ c : Dev Cert.DwInSwaIdeal.nD,
          r.2.mem ((c.tc : Thread Cert.DwInSwaIdeal.nD Cert.DwInSwaIdeal.τ).loc Cert.DwInSwaIdeal.main_v0) = v0 c
          ∧ r.2.mem ((c.tc : Thread Cert.DwInSwaIdeal.nD Cert.DwInSwaIdeal.τ).loc Cert.DwInSwaIdeal.main_arg0) = m ((c.tc : Thread Cert.DwInSwaIdeal.nD Cert.DwInSwaIdeal.τ).loc Cert.DwInSwaIdeal.main_arg0)
          ∧ r.2.mem ((c.tc : Thread Cert.DwInSwaIdeal.nD Cert.DwInSwaIdeal.τ).loc Cert.DwInSwaIdeal.main_arg1) = m ((c.tc : Thread Cert.DwInSwaIdeal.nD Cert.DwInSwaIdeal.τ).loc Cert.DwInSwaIdeal.main_arg1))
      ∧ θ_run (Cert.DwInSwaRefIdeal.defs (F := Ideal)) (onTc (τ := Cert.DwInSwaRefIdeal.τ) (Cert.DwInSwaRefIdeal.main (F := Ideal))) ⟨m', fun _ => 0, g'⟩ (fun r => ∀ c : Dev Cert.DwInSwaRefIdeal.nD,
          r.2.mem ((c.tc : Thread Cert.DwInSwaRefIdeal.nD Cert.DwInSwaRefIdeal.τ).loc Cert.DwInSwaRefIdeal.main_v6) = v0 c
          ∧ r.2.mem ((c.tc : Thread Cert.DwInSwaRefIdeal.nD Cert.DwInSwaRefIdeal.τ).loc Cert.DwInSwaRefIdeal.main_arg0) = m' ((c.tc : Thread Cert.DwInSwaRefIdeal.nD Cert.DwInSwaRefIdeal.τ).loc Cert.DwInSwaRefIdeal.main_arg0)
          ∧ r.2.mem ((c.tc : Thread Cert.DwInSwaRefIdeal.nD Cert.DwInSwaRefIdeal.τ).loc Cert.DwInSwaRefIdeal.main_arg1) = m' ((c.tc : Thread Cert.DwInSwaRefIdeal.nD Cert.DwInSwaRefIdeal.τ).loc Cert.DwInSwaRefIdeal.main_arg1))

def preserves_InRwkv_InRwkvIdeal : Prop :=
  True

def algebraic_InRwkvIdeal_InRwkvRefIdeal [hInRwkvIdeal : Cert.InRwkvIdeal.Facts] [hInRwkvRefIdeal : Cert.InRwkvRefIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg)
    (m' : (ℓ : Loc Cert.InRwkvRefIdeal.nD Cert.InRwkvRefIdeal.τ Cert.InRwkvRefIdeal.sig) → Buf (Elt Ideal) ℓ) (g' : Dev Cert.InRwkvRefIdeal.nD → PrngReg), Pre_InRwkvIdeal m →
    (∀ c : Dev Cert.InRwkvIdeal.nD,
      m' ((c.tc : Thread Cert.InRwkvRefIdeal.nD Cert.InRwkvRefIdeal.τ).loc Cert.InRwkvRefIdeal.main_arg0) = m ((c.tc : Thread Cert.InRwkvIdeal.nD Cert.InRwkvIdeal.τ).loc Cert.InRwkvIdeal.main_arg0)
      ∧ m' ((c.tc : Thread Cert.InRwkvRefIdeal.nD Cert.InRwkvRefIdeal.τ).loc Cert.InRwkvRefIdeal.main_arg1) = m ((c.tc : Thread Cert.InRwkvIdeal.nD Cert.InRwkvIdeal.τ).loc Cert.InRwkvIdeal.main_arg1)) →
    ∃ (v0 : (c : Dev Cert.InRwkvIdeal.nD) → Buf (Elt Ideal) ((c.tc : Thread Cert.InRwkvIdeal.nD Cert.InRwkvIdeal.τ).loc Cert.InRwkvIdeal.main_v0)),
      θ_run (Cert.InRwkvIdeal.defs (F := Ideal)) (onTc (τ := Cert.InRwkvIdeal.τ) (Cert.InRwkvIdeal.main (F := Ideal))) ⟨m, fun _ => 0, g⟩ (fun r => ∀ c : Dev Cert.InRwkvIdeal.nD,
          r.2.mem ((c.tc : Thread Cert.InRwkvIdeal.nD Cert.InRwkvIdeal.τ).loc Cert.InRwkvIdeal.main_v0) = v0 c
          ∧ r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
          ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ θ_run (Cert.InRwkvRefIdeal.defs (F := Ideal)) (onTc (τ := Cert.InRwkvRefIdeal.τ) (Cert.InRwkvRefIdeal.main (F := Ideal))) ⟨m', fun _ => 0, g'⟩ (fun r => ∀ c : Dev Cert.InRwkvRefIdeal.nD,
          r.2.mem ((c.tc : Thread Cert.InRwkvRefIdeal.nD Cert.InRwkvRefIdeal.τ).loc Cert.InRwkvRefIdeal.main_v2) = v0 c
          ∧ r.2.mem ((c.tc : Thread Cert.InRwkvRefIdeal.nD Cert.InRwkvRefIdeal.τ).loc Cert.InRwkvRefIdeal.main_arg0) = m' ((c.tc : Thread Cert.InRwkvRefIdeal.nD Cert.InRwkvRefIdeal.τ).loc Cert.InRwkvRefIdeal.main_arg0)
          ∧ r.2.mem ((c.tc : Thread Cert.InRwkvRefIdeal.nD Cert.InRwkvRefIdeal.τ).loc Cert.InRwkvRefIdeal.main_arg1) = m' ((c.tc : Thread Cert.InRwkvRefIdeal.nD Cert.InRwkvRefIdeal.τ).loc Cert.InRwkvRefIdeal.main_arg1))

def preserves_DInRwkv_DInRwkvIdeal : Prop :=
  True

def algebraic_DInRwkvIdeal_DInRwkvRefIdeal [hDInRwkvIdeal : Cert.DInRwkvIdeal.Facts] [hDInRwkvRefIdeal : Cert.DInRwkvRefIdeal.Facts] : Prop :=
  ∀ (m : (ℓ : Loc Cert.DInRwkvIdeal.nD Cert.DInRwkvIdeal.τ Cert.DInRwkvIdeal.sig) → Buf (Elt Ideal) ℓ) (g : Dev Cert.DInRwkvIdeal.nD → PrngReg)
    (m' : (ℓ : Loc Cert.DInRwkvRefIdeal.nD Cert.DInRwkvRefIdeal.τ Cert.DInRwkvRefIdeal.sig) → Buf (Elt Ideal) ℓ) (g' : Dev Cert.DInRwkvRefIdeal.nD → PrngReg), Pre_DInRwkvIdeal m →
    (∀ c : Dev Cert.DInRwkvIdeal.nD,
      m' ((c.tc : Thread Cert.DInRwkvRefIdeal.nD Cert.DInRwkvRefIdeal.τ).loc Cert.DInRwkvRefIdeal.main_arg0) = m ((c.tc : Thread Cert.DInRwkvIdeal.nD Cert.DInRwkvIdeal.τ).loc Cert.DInRwkvIdeal.main_arg0)
      ∧ m' ((c.tc : Thread Cert.DInRwkvRefIdeal.nD Cert.DInRwkvRefIdeal.τ).loc Cert.DInRwkvRefIdeal.main_arg1) = m ((c.tc : Thread Cert.DInRwkvIdeal.nD Cert.DInRwkvIdeal.τ).loc Cert.DInRwkvIdeal.main_arg1)) →
    ∃ (v0 : (c : Dev Cert.DInRwkvIdeal.nD) → Buf (Elt Ideal) ((c.tc : Thread Cert.DInRwkvIdeal.nD Cert.DInRwkvIdeal.τ).loc Cert.DInRwkvIdeal.main_v0)),
      θ_run (Cert.DInRwkvIdeal.defs (F := Ideal)) (onTc (τ := Cert.DInRwkvIdeal.τ) (Cert.DInRwkvIdeal.main (F := Ideal))) ⟨m, fun _ => 0, g⟩ (fun r => ∀ c : Dev Cert.DInRwkvIdeal.nD,
          r.2.mem ((c.tc : Thread Cert.DInRwkvIdeal.nD Cert.DInRwkvIdeal.τ).loc Cert.DInRwkvIdeal.main_v0) = v0 c
          ∧ r.2.mem ((c.tc : Thread Cert.DInRwkvIdeal.nD Cert.DInRwkvIdeal.τ).loc Cert.DInRwkvIdeal.main_arg0) = m ((c.tc : Thread Cert.DInRwkvIdeal.nD Cert.DInRwkvIdeal.τ).loc Cert.DInRwkvIdeal.main_arg0)
          ∧ r.2.mem ((c.tc : Thread Cert.DInRwkvIdeal.nD Cert.DInRwkvIdeal.τ).loc Cert.DInRwkvIdeal.main_arg1) = m ((c.tc : Thread Cert.DInRwkvIdeal.nD Cert.DInRwkvIdeal.τ).loc Cert.DInRwkvIdeal.main_arg1))
      ∧ θ_run (Cert.DInRwkvRefIdeal.defs (F := Ideal)) (onTc (τ := Cert.DInRwkvRefIdeal.τ) (Cert.DInRwkvRefIdeal.main (F := Ideal))) ⟨m', fun _ => 0, g'⟩ (fun r => ∀ c : Dev Cert.DInRwkvRefIdeal.nD,
          r.2.mem ((c.tc : Thread Cert.DInRwkvRefIdeal.nD Cert.DInRwkvRefIdeal.τ).loc Cert.DInRwkvRefIdeal.main_v4) = v0 c
          ∧ r.2.mem ((c.tc : Thread Cert.DInRwkvRefIdeal.nD Cert.DInRwkvRefIdeal.τ).loc Cert.DInRwkvRefIdeal.main_arg0) = m' ((c.tc : Thread Cert.DInRwkvRefIdeal.nD Cert.DInRwkvRefIdeal.τ).loc Cert.DInRwkvRefIdeal.main_arg0)
          ∧ r.2.mem ((c.tc : Thread Cert.DInRwkvRefIdeal.nD Cert.DInRwkvRefIdeal.τ).loc Cert.DInRwkvRefIdeal.main_arg1) = m' ((c.tc : Thread Cert.DInRwkvRefIdeal.nD Cert.DInRwkvRefIdeal.τ).loc Cert.DInRwkvRefIdeal.main_arg1))

def preserves_DwInRwkv_DwInRwkvIdeal : Prop :=
  True

def algebraic_DwInRwkvIdeal_DwInRwkvRefIdeal [hDwInRwkvIdeal : Cert.DwInRwkvIdeal.Facts] [hDwInRwkvRefIdeal : Cert.DwInRwkvRefIdeal.Facts] : Prop :=
  ∀ (m : (ℓ : Loc Cert.DwInRwkvIdeal.nD Cert.DwInRwkvIdeal.τ Cert.DwInRwkvIdeal.sig) → Buf (Elt Ideal) ℓ) (g : Dev Cert.DwInRwkvIdeal.nD → PrngReg)
    (m' : (ℓ : Loc Cert.DwInRwkvRefIdeal.nD Cert.DwInRwkvRefIdeal.τ Cert.DwInRwkvRefIdeal.sig) → Buf (Elt Ideal) ℓ) (g' : Dev Cert.DwInRwkvRefIdeal.nD → PrngReg), Pre_DwInRwkvIdeal m →
    (∀ c : Dev Cert.DwInRwkvIdeal.nD,
      m' ((c.tc : Thread Cert.DwInRwkvRefIdeal.nD Cert.DwInRwkvRefIdeal.τ).loc Cert.DwInRwkvRefIdeal.main_arg0) = m ((c.tc : Thread Cert.DwInRwkvIdeal.nD Cert.DwInRwkvIdeal.τ).loc Cert.DwInRwkvIdeal.main_arg0)
      ∧ m' ((c.tc : Thread Cert.DwInRwkvRefIdeal.nD Cert.DwInRwkvRefIdeal.τ).loc Cert.DwInRwkvRefIdeal.main_arg1) = m ((c.tc : Thread Cert.DwInRwkvIdeal.nD Cert.DwInRwkvIdeal.τ).loc Cert.DwInRwkvIdeal.main_arg1)) →
    ∃ (v0 : (c : Dev Cert.DwInRwkvIdeal.nD) → Buf (Elt Ideal) ((c.tc : Thread Cert.DwInRwkvIdeal.nD Cert.DwInRwkvIdeal.τ).loc Cert.DwInRwkvIdeal.main_v0)),
      θ_run (Cert.DwInRwkvIdeal.defs (F := Ideal)) (onTc (τ := Cert.DwInRwkvIdeal.τ) (Cert.DwInRwkvIdeal.main (F := Ideal))) ⟨m, fun _ => 0, g⟩ (fun r => ∀ c : Dev Cert.DwInRwkvIdeal.nD,
          r.2.mem ((c.tc : Thread Cert.DwInRwkvIdeal.nD Cert.DwInRwkvIdeal.τ).loc Cert.DwInRwkvIdeal.main_v0) = v0 c
          ∧ r.2.mem ((c.tc : Thread Cert.DwInRwkvIdeal.nD Cert.DwInRwkvIdeal.τ).loc Cert.DwInRwkvIdeal.main_arg0) = m ((c.tc : Thread Cert.DwInRwkvIdeal.nD Cert.DwInRwkvIdeal.τ).loc Cert.DwInRwkvIdeal.main_arg0)
          ∧ r.2.mem ((c.tc : Thread Cert.DwInRwkvIdeal.nD Cert.DwInRwkvIdeal.τ).loc Cert.DwInRwkvIdeal.main_arg1) = m ((c.tc : Thread Cert.DwInRwkvIdeal.nD Cert.DwInRwkvIdeal.τ).loc Cert.DwInRwkvIdeal.main_arg1))
      ∧ θ_run (Cert.DwInRwkvRefIdeal.defs (F := Ideal)) (onTc (τ := Cert.DwInRwkvRefIdeal.τ) (Cert.DwInRwkvRefIdeal.main (F := Ideal))) ⟨m', fun _ => 0, g'⟩ (fun r => ∀ c : Dev Cert.DwInRwkvRefIdeal.nD,
          r.2.mem ((c.tc : Thread Cert.DwInRwkvRefIdeal.nD Cert.DwInRwkvRefIdeal.τ).loc Cert.DwInRwkvRefIdeal.main_v6) = v0 c
          ∧ r.2.mem ((c.tc : Thread Cert.DwInRwkvRefIdeal.nD Cert.DwInRwkvRefIdeal.τ).loc Cert.DwInRwkvRefIdeal.main_arg0) = m' ((c.tc : Thread Cert.DwInRwkvRefIdeal.nD Cert.DwInRwkvRefIdeal.τ).loc Cert.DwInRwkvRefIdeal.main_arg0)
          ∧ r.2.mem ((c.tc : Thread Cert.DwInRwkvRefIdeal.nD Cert.DwInRwkvRefIdeal.τ).loc Cert.DwInRwkvRefIdeal.main_arg1) = m' ((c.tc : Thread Cert.DwInRwkvRefIdeal.nD Cert.DwInRwkvRefIdeal.τ).loc Cert.DwInRwkvRefIdeal.main_arg1))

def preserves_InGdn_InGdnIdeal : Prop :=
  True

def algebraic_InGdnIdeal_InGdnRefIdeal [hInGdnIdeal : Cert.InGdnIdeal.Facts] [hInGdnRefIdeal : Cert.InGdnRefIdeal.Facts] : Prop :=
  ∀ (m : (ℓ : Loc Cert.InGdnIdeal.nD Cert.InGdnIdeal.τ Cert.InGdnIdeal.sig) → Buf (Elt Ideal) ℓ) (g : Dev Cert.InGdnIdeal.nD → PrngReg)
    (m' : (ℓ : Loc Cert.InGdnRefIdeal.nD Cert.InGdnRefIdeal.τ Cert.InGdnRefIdeal.sig) → Buf (Elt Ideal) ℓ) (g' : Dev Cert.InGdnRefIdeal.nD → PrngReg), Pre_InGdnIdeal m →
    (∀ c : Dev Cert.InGdnIdeal.nD,
      m' ((c.tc : Thread Cert.InGdnRefIdeal.nD Cert.InGdnRefIdeal.τ).loc Cert.InGdnRefIdeal.main_arg0) = m ((c.tc : Thread Cert.InGdnIdeal.nD Cert.InGdnIdeal.τ).loc Cert.InGdnIdeal.main_arg0)
      ∧ m' ((c.tc : Thread Cert.InGdnRefIdeal.nD Cert.InGdnRefIdeal.τ).loc Cert.InGdnRefIdeal.main_arg1) = m ((c.tc : Thread Cert.InGdnIdeal.nD Cert.InGdnIdeal.τ).loc Cert.InGdnIdeal.main_arg1)) →
    ∃ (v0 : (c : Dev Cert.InGdnIdeal.nD) → Buf (Elt Ideal) ((c.tc : Thread Cert.InGdnIdeal.nD Cert.InGdnIdeal.τ).loc Cert.InGdnIdeal.main_v0)),
      θ_run (Cert.InGdnIdeal.defs (F := Ideal)) (onTc (τ := Cert.InGdnIdeal.τ) (Cert.InGdnIdeal.main (F := Ideal))) ⟨m, fun _ => 0, g⟩ (fun r => ∀ c : Dev Cert.InGdnIdeal.nD,
          r.2.mem ((c.tc : Thread Cert.InGdnIdeal.nD Cert.InGdnIdeal.τ).loc Cert.InGdnIdeal.main_v0) = v0 c
          ∧ r.2.mem ((c.tc : Thread Cert.InGdnIdeal.nD Cert.InGdnIdeal.τ).loc Cert.InGdnIdeal.main_arg0) = m ((c.tc : Thread Cert.InGdnIdeal.nD Cert.InGdnIdeal.τ).loc Cert.InGdnIdeal.main_arg0)
          ∧ r.2.mem ((c.tc : Thread Cert.InGdnIdeal.nD Cert.InGdnIdeal.τ).loc Cert.InGdnIdeal.main_arg1) = m ((c.tc : Thread Cert.InGdnIdeal.nD Cert.InGdnIdeal.τ).loc Cert.InGdnIdeal.main_arg1))
      ∧ θ_run (Cert.InGdnRefIdeal.defs (F := Ideal)) (onTc (τ := Cert.InGdnRefIdeal.τ) (Cert.InGdnRefIdeal.main (F := Ideal))) ⟨m', fun _ => 0, g'⟩ (fun r => ∀ c : Dev Cert.InGdnRefIdeal.nD,
          r.2.mem ((c.tc : Thread Cert.InGdnRefIdeal.nD Cert.InGdnRefIdeal.τ).loc Cert.InGdnRefIdeal.main_v2) = v0 c
          ∧ r.2.mem ((c.tc : Thread Cert.InGdnRefIdeal.nD Cert.InGdnRefIdeal.τ).loc Cert.InGdnRefIdeal.main_arg0) = m' ((c.tc : Thread Cert.InGdnRefIdeal.nD Cert.InGdnRefIdeal.τ).loc Cert.InGdnRefIdeal.main_arg0)
          ∧ r.2.mem ((c.tc : Thread Cert.InGdnRefIdeal.nD Cert.InGdnRefIdeal.τ).loc Cert.InGdnRefIdeal.main_arg1) = m' ((c.tc : Thread Cert.InGdnRefIdeal.nD Cert.InGdnRefIdeal.τ).loc Cert.InGdnRefIdeal.main_arg1))

def preserves_DInGdn_DInGdnIdeal : Prop :=
  True

def algebraic_DInGdnIdeal_DInGdnRefIdeal [hDInGdnIdeal : Cert.DInGdnIdeal.Facts] [hDInGdnRefIdeal : Cert.DInGdnRefIdeal.Facts] : Prop :=
  ∀ (m : (ℓ : Loc Cert.DInGdnIdeal.nD Cert.DInGdnIdeal.τ Cert.DInGdnIdeal.sig) → Buf (Elt Ideal) ℓ) (g : Dev Cert.DInGdnIdeal.nD → PrngReg)
    (m' : (ℓ : Loc Cert.DInGdnRefIdeal.nD Cert.DInGdnRefIdeal.τ Cert.DInGdnRefIdeal.sig) → Buf (Elt Ideal) ℓ) (g' : Dev Cert.DInGdnRefIdeal.nD → PrngReg), Pre_DInGdnIdeal m →
    (∀ c : Dev Cert.DInGdnIdeal.nD,
      m' ((c.tc : Thread Cert.DInGdnRefIdeal.nD Cert.DInGdnRefIdeal.τ).loc Cert.DInGdnRefIdeal.main_arg0) = m ((c.tc : Thread Cert.DInGdnIdeal.nD Cert.DInGdnIdeal.τ).loc Cert.DInGdnIdeal.main_arg0)
      ∧ m' ((c.tc : Thread Cert.DInGdnRefIdeal.nD Cert.DInGdnRefIdeal.τ).loc Cert.DInGdnRefIdeal.main_arg1) = m ((c.tc : Thread Cert.DInGdnIdeal.nD Cert.DInGdnIdeal.τ).loc Cert.DInGdnIdeal.main_arg1)) →
    ∃ (v0 : (c : Dev Cert.DInGdnIdeal.nD) → Buf (Elt Ideal) ((c.tc : Thread Cert.DInGdnIdeal.nD Cert.DInGdnIdeal.τ).loc Cert.DInGdnIdeal.main_v0)),
      θ_run (Cert.DInGdnIdeal.defs (F := Ideal)) (onTc (τ := Cert.DInGdnIdeal.τ) (Cert.DInGdnIdeal.main (F := Ideal))) ⟨m, fun _ => 0, g⟩ (fun r => ∀ c : Dev Cert.DInGdnIdeal.nD,
          r.2.mem ((c.tc : Thread Cert.DInGdnIdeal.nD Cert.DInGdnIdeal.τ).loc Cert.DInGdnIdeal.main_v0) = v0 c
          ∧ r.2.mem ((c.tc : Thread Cert.DInGdnIdeal.nD Cert.DInGdnIdeal.τ).loc Cert.DInGdnIdeal.main_arg0) = m ((c.tc : Thread Cert.DInGdnIdeal.nD Cert.DInGdnIdeal.τ).loc Cert.DInGdnIdeal.main_arg0)
          ∧ r.2.mem ((c.tc : Thread Cert.DInGdnIdeal.nD Cert.DInGdnIdeal.τ).loc Cert.DInGdnIdeal.main_arg1) = m ((c.tc : Thread Cert.DInGdnIdeal.nD Cert.DInGdnIdeal.τ).loc Cert.DInGdnIdeal.main_arg1))
      ∧ θ_run (Cert.DInGdnRefIdeal.defs (F := Ideal)) (onTc (τ := Cert.DInGdnRefIdeal.τ) (Cert.DInGdnRefIdeal.main (F := Ideal))) ⟨m', fun _ => 0, g'⟩ (fun r => ∀ c : Dev Cert.DInGdnRefIdeal.nD,
          r.2.mem ((c.tc : Thread Cert.DInGdnRefIdeal.nD Cert.DInGdnRefIdeal.τ).loc Cert.DInGdnRefIdeal.main_v4) = v0 c
          ∧ r.2.mem ((c.tc : Thread Cert.DInGdnRefIdeal.nD Cert.DInGdnRefIdeal.τ).loc Cert.DInGdnRefIdeal.main_arg0) = m' ((c.tc : Thread Cert.DInGdnRefIdeal.nD Cert.DInGdnRefIdeal.τ).loc Cert.DInGdnRefIdeal.main_arg0)
          ∧ r.2.mem ((c.tc : Thread Cert.DInGdnRefIdeal.nD Cert.DInGdnRefIdeal.τ).loc Cert.DInGdnRefIdeal.main_arg1) = m' ((c.tc : Thread Cert.DInGdnRefIdeal.nD Cert.DInGdnRefIdeal.τ).loc Cert.DInGdnRefIdeal.main_arg1))

def preserves_DwInGdn_DwInGdnIdeal : Prop :=
  True

def algebraic_DwInGdnIdeal_DwInGdnRefIdeal [hDwInGdnIdeal : Cert.DwInGdnIdeal.Facts] [hDwInGdnRefIdeal : Cert.DwInGdnRefIdeal.Facts] : Prop :=
  ∀ (m : (ℓ : Loc Cert.DwInGdnIdeal.nD Cert.DwInGdnIdeal.τ Cert.DwInGdnIdeal.sig) → Buf (Elt Ideal) ℓ) (g : Dev Cert.DwInGdnIdeal.nD → PrngReg)
    (m' : (ℓ : Loc Cert.DwInGdnRefIdeal.nD Cert.DwInGdnRefIdeal.τ Cert.DwInGdnRefIdeal.sig) → Buf (Elt Ideal) ℓ) (g' : Dev Cert.DwInGdnRefIdeal.nD → PrngReg), Pre_DwInGdnIdeal m →
    (∀ c : Dev Cert.DwInGdnIdeal.nD,
      m' ((c.tc : Thread Cert.DwInGdnRefIdeal.nD Cert.DwInGdnRefIdeal.τ).loc Cert.DwInGdnRefIdeal.main_arg0) = m ((c.tc : Thread Cert.DwInGdnIdeal.nD Cert.DwInGdnIdeal.τ).loc Cert.DwInGdnIdeal.main_arg0)
      ∧ m' ((c.tc : Thread Cert.DwInGdnRefIdeal.nD Cert.DwInGdnRefIdeal.τ).loc Cert.DwInGdnRefIdeal.main_arg1) = m ((c.tc : Thread Cert.DwInGdnIdeal.nD Cert.DwInGdnIdeal.τ).loc Cert.DwInGdnIdeal.main_arg1)) →
    ∃ (v0 : (c : Dev Cert.DwInGdnIdeal.nD) → Buf (Elt Ideal) ((c.tc : Thread Cert.DwInGdnIdeal.nD Cert.DwInGdnIdeal.τ).loc Cert.DwInGdnIdeal.main_v0)),
      θ_run (Cert.DwInGdnIdeal.defs (F := Ideal)) (onTc (τ := Cert.DwInGdnIdeal.τ) (Cert.DwInGdnIdeal.main (F := Ideal))) ⟨m, fun _ => 0, g⟩ (fun r => ∀ c : Dev Cert.DwInGdnIdeal.nD,
          r.2.mem ((c.tc : Thread Cert.DwInGdnIdeal.nD Cert.DwInGdnIdeal.τ).loc Cert.DwInGdnIdeal.main_v0) = v0 c
          ∧ r.2.mem ((c.tc : Thread Cert.DwInGdnIdeal.nD Cert.DwInGdnIdeal.τ).loc Cert.DwInGdnIdeal.main_arg0) = m ((c.tc : Thread Cert.DwInGdnIdeal.nD Cert.DwInGdnIdeal.τ).loc Cert.DwInGdnIdeal.main_arg0)
          ∧ r.2.mem ((c.tc : Thread Cert.DwInGdnIdeal.nD Cert.DwInGdnIdeal.τ).loc Cert.DwInGdnIdeal.main_arg1) = m ((c.tc : Thread Cert.DwInGdnIdeal.nD Cert.DwInGdnIdeal.τ).loc Cert.DwInGdnIdeal.main_arg1))
      ∧ θ_run (Cert.DwInGdnRefIdeal.defs (F := Ideal)) (onTc (τ := Cert.DwInGdnRefIdeal.τ) (Cert.DwInGdnRefIdeal.main (F := Ideal))) ⟨m', fun _ => 0, g'⟩ (fun r => ∀ c : Dev Cert.DwInGdnRefIdeal.nD,
          r.2.mem ((c.tc : Thread Cert.DwInGdnRefIdeal.nD Cert.DwInGdnRefIdeal.τ).loc Cert.DwInGdnRefIdeal.main_v6) = v0 c
          ∧ r.2.mem ((c.tc : Thread Cert.DwInGdnRefIdeal.nD Cert.DwInGdnRefIdeal.τ).loc Cert.DwInGdnRefIdeal.main_arg0) = m' ((c.tc : Thread Cert.DwInGdnRefIdeal.nD Cert.DwInGdnRefIdeal.τ).loc Cert.DwInGdnRefIdeal.main_arg0)
          ∧ r.2.mem ((c.tc : Thread Cert.DwInGdnRefIdeal.nD Cert.DwInGdnRefIdeal.τ).loc Cert.DwInGdnRefIdeal.main_arg1) = m' ((c.tc : Thread Cert.DwInGdnRefIdeal.nD Cert.DwInGdnRefIdeal.τ).loc Cert.DwInGdnRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_DMemKv_DMemKvIdeal : Prop :=
  True

def algebraic_DMemKvIdeal_DMemKvRefIdeal [hDMemKvIdeal : Cert.DMemKvIdeal.Facts] [hDMemKvRefIdeal : Cert.DMemKvRefIdeal.Facts] : Prop :=
  ∀ (m : (ℓ : Loc Cert.DMemKvIdeal.nD Cert.DMemKvIdeal.τ Cert.DMemKvIdeal.sig) → Buf (Elt Ideal) ℓ) (g : Dev Cert.DMemKvIdeal.nD → PrngReg)
    (m' : (ℓ : Loc Cert.DMemKvRefIdeal.nD Cert.DMemKvRefIdeal.τ Cert.DMemKvRefIdeal.sig) → Buf (Elt Ideal) ℓ) (g' : Dev Cert.DMemKvRefIdeal.nD → PrngReg), Pre_DMemKvIdeal m →
    (∀ c : Dev Cert.DMemKvIdeal.nD,
      m' ((c.tc : Thread Cert.DMemKvRefIdeal.nD Cert.DMemKvRefIdeal.τ).loc Cert.DMemKvRefIdeal.main_arg0) = m ((c.tc : Thread Cert.DMemKvIdeal.nD Cert.DMemKvIdeal.τ).loc Cert.DMemKvIdeal.main_arg0)
      ∧ m' ((c.tc : Thread Cert.DMemKvRefIdeal.nD Cert.DMemKvRefIdeal.τ).loc Cert.DMemKvRefIdeal.main_arg1) = m ((c.tc : Thread Cert.DMemKvIdeal.nD Cert.DMemKvIdeal.τ).loc Cert.DMemKvIdeal.main_arg1)) →
    ∃ (v0 : (c : Dev Cert.DMemKvIdeal.nD) → Buf (Elt Ideal) ((c.tc : Thread Cert.DMemKvIdeal.nD Cert.DMemKvIdeal.τ).loc Cert.DMemKvIdeal.main_v0)),
      θ_run (Cert.DMemKvIdeal.defs (F := Ideal)) (onTc (τ := Cert.DMemKvIdeal.τ) (Cert.DMemKvIdeal.main (F := Ideal))) ⟨m, fun _ => 0, g⟩ (fun r => ∀ c : Dev Cert.DMemKvIdeal.nD,
          r.2.mem ((c.tc : Thread Cert.DMemKvIdeal.nD Cert.DMemKvIdeal.τ).loc Cert.DMemKvIdeal.main_v0) = v0 c
          ∧ r.2.mem ((c.tc : Thread Cert.DMemKvIdeal.nD Cert.DMemKvIdeal.τ).loc Cert.DMemKvIdeal.main_arg0) = m ((c.tc : Thread Cert.DMemKvIdeal.nD Cert.DMemKvIdeal.τ).loc Cert.DMemKvIdeal.main_arg0)
          ∧ r.2.mem ((c.tc : Thread Cert.DMemKvIdeal.nD Cert.DMemKvIdeal.τ).loc Cert.DMemKvIdeal.main_arg1) = m ((c.tc : Thread Cert.DMemKvIdeal.nD Cert.DMemKvIdeal.τ).loc Cert.DMemKvIdeal.main_arg1))
      ∧ θ_run (Cert.DMemKvRefIdeal.defs (F := Ideal)) (onTc (τ := Cert.DMemKvRefIdeal.τ) (Cert.DMemKvRefIdeal.main (F := Ideal))) ⟨m', fun _ => 0, g'⟩ (fun r => ∀ c : Dev Cert.DMemKvRefIdeal.nD,
          r.2.mem ((c.tc : Thread Cert.DMemKvRefIdeal.nD Cert.DMemKvRefIdeal.τ).loc Cert.DMemKvRefIdeal.main_v3) = v0 c
          ∧ r.2.mem ((c.tc : Thread Cert.DMemKvRefIdeal.nD Cert.DMemKvRefIdeal.τ).loc Cert.DMemKvRefIdeal.main_arg0) = m' ((c.tc : Thread Cert.DMemKvRefIdeal.nD Cert.DMemKvRefIdeal.τ).loc Cert.DMemKvRefIdeal.main_arg0)
          ∧ r.2.mem ((c.tc : Thread Cert.DMemKvRefIdeal.nD Cert.DMemKvRefIdeal.τ).loc Cert.DMemKvRefIdeal.main_arg1) = m' ((c.tc : Thread Cert.DMemKvRefIdeal.nD Cert.DMemKvRefIdeal.τ).loc Cert.DMemKvRefIdeal.main_arg1))

def preserves_DwMemKv_DwMemKvIdeal : Prop :=
  True

def algebraic_DwMemKvIdeal_DwMemKvRefIdeal [hDwMemKvIdeal : Cert.DwMemKvIdeal.Facts] [hDwMemKvRefIdeal : Cert.DwMemKvRefIdeal.Facts] : Prop :=
  ∀ (m : (ℓ : Loc Cert.DwMemKvIdeal.nD Cert.DwMemKvIdeal.τ Cert.DwMemKvIdeal.sig) → Buf (Elt Ideal) ℓ) (g : Dev Cert.DwMemKvIdeal.nD → PrngReg)
    (m' : (ℓ : Loc Cert.DwMemKvRefIdeal.nD Cert.DwMemKvRefIdeal.τ Cert.DwMemKvRefIdeal.sig) → Buf (Elt Ideal) ℓ) (g' : Dev Cert.DwMemKvRefIdeal.nD → PrngReg), Pre_DwMemKvIdeal m →
    (∀ c : Dev Cert.DwMemKvIdeal.nD,
      m' ((c.tc : Thread Cert.DwMemKvRefIdeal.nD Cert.DwMemKvRefIdeal.τ).loc Cert.DwMemKvRefIdeal.main_arg0) = m ((c.tc : Thread Cert.DwMemKvIdeal.nD Cert.DwMemKvIdeal.τ).loc Cert.DwMemKvIdeal.main_arg0)
      ∧ m' ((c.tc : Thread Cert.DwMemKvRefIdeal.nD Cert.DwMemKvRefIdeal.τ).loc Cert.DwMemKvRefIdeal.main_arg1) = m ((c.tc : Thread Cert.DwMemKvIdeal.nD Cert.DwMemKvIdeal.τ).loc Cert.DwMemKvIdeal.main_arg1)) →
    ∃ (v0 : (c : Dev Cert.DwMemKvIdeal.nD) → Buf (Elt Ideal) ((c.tc : Thread Cert.DwMemKvIdeal.nD Cert.DwMemKvIdeal.τ).loc Cert.DwMemKvIdeal.main_v0)),
      θ_run (Cert.DwMemKvIdeal.defs (F := Ideal)) (onTc (τ := Cert.DwMemKvIdeal.τ) (Cert.DwMemKvIdeal.main (F := Ideal))) ⟨m, fun _ => 0, g⟩ (fun r => ∀ c : Dev Cert.DwMemKvIdeal.nD,
          r.2.mem ((c.tc : Thread Cert.DwMemKvIdeal.nD Cert.DwMemKvIdeal.τ).loc Cert.DwMemKvIdeal.main_v0) = v0 c
          ∧ r.2.mem ((c.tc : Thread Cert.DwMemKvIdeal.nD Cert.DwMemKvIdeal.τ).loc Cert.DwMemKvIdeal.main_arg0) = m ((c.tc : Thread Cert.DwMemKvIdeal.nD Cert.DwMemKvIdeal.τ).loc Cert.DwMemKvIdeal.main_arg0)
          ∧ r.2.mem ((c.tc : Thread Cert.DwMemKvIdeal.nD Cert.DwMemKvIdeal.τ).loc Cert.DwMemKvIdeal.main_arg1) = m ((c.tc : Thread Cert.DwMemKvIdeal.nD Cert.DwMemKvIdeal.τ).loc Cert.DwMemKvIdeal.main_arg1))
      ∧ θ_run (Cert.DwMemKvRefIdeal.defs (F := Ideal)) (onTc (τ := Cert.DwMemKvRefIdeal.τ) (Cert.DwMemKvRefIdeal.main (F := Ideal))) ⟨m', fun _ => 0, g'⟩ (fun r => ∀ c : Dev Cert.DwMemKvRefIdeal.nD,
          r.2.mem ((c.tc : Thread Cert.DwMemKvRefIdeal.nD Cert.DwMemKvRefIdeal.τ).loc Cert.DwMemKvRefIdeal.main_v5) = v0 c
          ∧ r.2.mem ((c.tc : Thread Cert.DwMemKvRefIdeal.nD Cert.DwMemKvRefIdeal.τ).loc Cert.DwMemKvRefIdeal.main_arg0) = m' ((c.tc : Thread Cert.DwMemKvRefIdeal.nD Cert.DwMemKvRefIdeal.τ).loc Cert.DwMemKvRefIdeal.main_arg0)
          ∧ r.2.mem ((c.tc : Thread Cert.DwMemKvRefIdeal.nD Cert.DwMemKvRefIdeal.τ).loc Cert.DwMemKvRefIdeal.main_arg1) = m' ((c.tc : Thread Cert.DwMemKvRefIdeal.nD Cert.DwMemKvRefIdeal.τ).loc Cert.DwMemKvRefIdeal.main_arg1))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)) →
    ∃ (v0 : (c : Dev Cert.NormFIdeal.nD) → Buf (Elt Ideal) ((c.tc : Thread Cert.NormFIdeal.nD Cert.NormFIdeal.τ).loc Cert.NormFIdeal.main_v1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v1) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v13) = v0 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1))

def preserves_NormM_NormMIdeal : Prop :=
  True

def algebraic_NormMIdeal_NormMRefIdeal [hNormMIdeal : Cert.NormMIdeal.Facts] [hNormMRefIdeal : Cert.NormMRefIdeal.Facts] : Prop :=
  ∀ (m : (ℓ : Loc Cert.NormMIdeal.nD Cert.NormMIdeal.τ Cert.NormMIdeal.sig) → Buf (Elt Ideal) ℓ) (g : Dev Cert.NormMIdeal.nD → PrngReg)
    (m' : (ℓ : Loc Cert.NormMRefIdeal.nD Cert.NormMRefIdeal.τ Cert.NormMRefIdeal.sig) → Buf (Elt Ideal) ℓ) (g' : Dev Cert.NormMRefIdeal.nD → PrngReg), Pre_NormMIdeal m →
    (∀ c : Dev Cert.NormMIdeal.nD,
      m' ((c.tc : Thread Cert.NormMRefIdeal.nD Cert.NormMRefIdeal.τ).loc Cert.NormMRefIdeal.main_arg0) = m ((c.tc : Thread Cert.NormMIdeal.nD Cert.NormMIdeal.τ).loc Cert.NormMIdeal.main_arg0)
      ∧ m' ((c.tc : Thread Cert.NormMRefIdeal.nD Cert.NormMRefIdeal.τ).loc Cert.NormMRefIdeal.main_arg1) = m ((c.tc : Thread Cert.NormMIdeal.nD Cert.NormMIdeal.τ).loc Cert.NormMIdeal.main_arg1)) →
    ∃ (v0 : (c : Dev Cert.NormMIdeal.nD) → Buf (Elt Ideal) ((c.tc : Thread Cert.NormMIdeal.nD Cert.NormMIdeal.τ).loc Cert.NormMIdeal.main_v1)),
      θ_run (Cert.NormMIdeal.defs (F := Ideal)) (onTc (τ := Cert.NormMIdeal.τ) (Cert.NormMIdeal.main (F := Ideal))) ⟨m, fun _ => 0, g⟩ (fun r => ∀ c : Dev Cert.NormMIdeal.nD,
          r.2.mem ((c.tc : Thread Cert.NormMIdeal.nD Cert.NormMIdeal.τ).loc Cert.NormMIdeal.main_v1) = v0 c
          ∧ r.2.mem ((c.tc : Thread Cert.NormMIdeal.nD Cert.NormMIdeal.τ).loc Cert.NormMIdeal.main_arg0) = m ((c.tc : Thread Cert.NormMIdeal.nD Cert.NormMIdeal.τ).loc Cert.NormMIdeal.main_arg0)
          ∧ r.2.mem ((c.tc : Thread Cert.NormMIdeal.nD Cert.NormMIdeal.τ).loc Cert.NormMIdeal.main_arg1) = m ((c.tc : Thread Cert.NormMIdeal.nD Cert.NormMIdeal.τ).loc Cert.NormMIdeal.main_arg1))
      ∧ θ_run (Cert.NormMRefIdeal.defs (F := Ideal)) (onTc (τ := Cert.NormMRefIdeal.τ) (Cert.NormMRefIdeal.main (F := Ideal))) ⟨m', fun _ => 0, g'⟩ (fun r => ∀ c : Dev Cert.NormMRefIdeal.nD,
          r.2.mem ((c.tc : Thread Cert.NormMRefIdeal.nD Cert.NormMRefIdeal.τ).loc Cert.NormMRefIdeal.main_v13) = v0 c
          ∧ r.2.mem ((c.tc : Thread Cert.NormMRefIdeal.nD Cert.NormMRefIdeal.τ).loc Cert.NormMRefIdeal.main_arg0) = m' ((c.tc : Thread Cert.NormMRefIdeal.nD Cert.NormMRefIdeal.τ).loc Cert.NormMRefIdeal.main_arg0)
          ∧ r.2.mem ((c.tc : Thread Cert.NormMRefIdeal.nD Cert.NormMRefIdeal.τ).loc Cert.NormMRefIdeal.main_arg1) = m' ((c.tc : Thread Cert.NormMRefIdeal.nD Cert.NormMRefIdeal.τ).loc Cert.NormMRefIdeal.main_arg1))

def preserves_NormD_NormDIdeal : Prop :=
  True

def algebraic_NormDIdeal_NormDRefIdeal [hNormDIdeal : Cert.NormDIdeal.Facts] [hNormDRefIdeal : Cert.NormDRefIdeal.Facts] : Prop :=
  ∀ (m : (ℓ : Loc Cert.NormDIdeal.nD Cert.NormDIdeal.τ Cert.NormDIdeal.sig) → Buf (Elt Ideal) ℓ) (g : Dev Cert.NormDIdeal.nD → PrngReg)
    (m' : (ℓ : Loc Cert.NormDRefIdeal.nD Cert.NormDRefIdeal.τ Cert.NormDRefIdeal.sig) → Buf (Elt Ideal) ℓ) (g' : Dev Cert.NormDRefIdeal.nD → PrngReg), Pre_NormDIdeal m →
    (∀ c : Dev Cert.NormDIdeal.nD,
      m' ((c.tc : Thread Cert.NormDRefIdeal.nD Cert.NormDRefIdeal.τ).loc Cert.NormDRefIdeal.main_arg0) = m ((c.tc : Thread Cert.NormDIdeal.nD Cert.NormDIdeal.τ).loc Cert.NormDIdeal.main_arg0)
      ∧ m' ((c.tc : Thread Cert.NormDRefIdeal.nD Cert.NormDRefIdeal.τ).loc Cert.NormDRefIdeal.main_arg1) = m ((c.tc : Thread Cert.NormDIdeal.nD Cert.NormDIdeal.τ).loc Cert.NormDIdeal.main_arg1)
      ∧ m' ((c.tc : Thread Cert.NormDRefIdeal.nD Cert.NormDRefIdeal.τ).loc Cert.NormDRefIdeal.main_arg2) = m ((c.tc : Thread Cert.NormDIdeal.nD Cert.NormDIdeal.τ).loc Cert.NormDIdeal.main_arg2)) →
    ∃ (v0 : (c : Dev Cert.NormDIdeal.nD) → Buf (Elt Ideal) ((c.tc : Thread Cert.NormDIdeal.nD Cert.NormDIdeal.τ).loc Cert.NormDIdeal.main_v1_0)) (v1 : (c : Dev Cert.NormDIdeal.nD) → Buf (Elt Ideal) ((c.tc : Thread Cert.NormDIdeal.nD Cert.NormDIdeal.τ).loc Cert.NormDIdeal.main_v1_1)),
      θ_run (Cert.NormDIdeal.defs (F := Ideal)) (onTc (τ := Cert.NormDIdeal.τ) (Cert.NormDIdeal.main (F := Ideal))) ⟨m, fun _ => 0, g⟩ (fun r => ∀ c : Dev Cert.NormDIdeal.nD,
          r.2.mem ((c.tc : Thread Cert.NormDIdeal.nD Cert.NormDIdeal.τ).loc Cert.NormDIdeal.main_v1_0) = v0 c
          ∧ r.2.mem ((c.tc : Thread Cert.NormDIdeal.nD Cert.NormDIdeal.τ).loc Cert.NormDIdeal.main_v1_1) = v1 c
          ∧ r.2.mem ((c.tc : Thread Cert.NormDIdeal.nD Cert.NormDIdeal.τ).loc Cert.NormDIdeal.main_arg0) = m ((c.tc : Thread Cert.NormDIdeal.nD Cert.NormDIdeal.τ).loc Cert.NormDIdeal.main_arg0)
          ∧ r.2.mem ((c.tc : Thread Cert.NormDIdeal.nD Cert.NormDIdeal.τ).loc Cert.NormDIdeal.main_arg1) = m ((c.tc : Thread Cert.NormDIdeal.nD Cert.NormDIdeal.τ).loc Cert.NormDIdeal.main_arg1)
          ∧ r.2.mem ((c.tc : Thread Cert.NormDIdeal.nD Cert.NormDIdeal.τ).loc Cert.NormDIdeal.main_arg2) = m ((c.tc : Thread Cert.NormDIdeal.nD Cert.NormDIdeal.τ).loc Cert.NormDIdeal.main_arg2))
      ∧ θ_run (Cert.NormDRefIdeal.defs (F := Ideal)) (onTc (τ := Cert.NormDRefIdeal.τ) (Cert.NormDRefIdeal.main (F := Ideal))) ⟨m', fun _ => 0, g'⟩ (fun r => ∀ c : Dev Cert.NormDRefIdeal.nD,
          r.2.mem ((c.tc : Thread Cert.NormDRefIdeal.nD Cert.NormDRefIdeal.τ).loc Cert.NormDRefIdeal.main_v35) = v0 c
          ∧ r.2.mem ((c.tc : Thread Cert.NormDRefIdeal.nD Cert.NormDRefIdeal.τ).loc Cert.NormDRefIdeal.main_v36) = v1 c
          ∧ r.2.mem ((c.tc : Thread Cert.NormDRefIdeal.nD Cert.NormDRefIdeal.τ).loc Cert.NormDRefIdeal.main_arg0) = m' ((c.tc : Thread Cert.NormDRefIdeal.nD Cert.NormDRefIdeal.τ).loc Cert.NormDRefIdeal.main_arg0)
          ∧ r.2.mem ((c.tc : Thread Cert.NormDRefIdeal.nD Cert.NormDRefIdeal.τ).loc Cert.NormDRefIdeal.main_arg1) = m' ((c.tc : Thread Cert.NormDRefIdeal.nD Cert.NormDRefIdeal.τ).loc Cert.NormDRefIdeal.main_arg1)
          ∧ r.2.mem ((c.tc : Thread Cert.NormDRefIdeal.nD Cert.NormDRefIdeal.τ).loc Cert.NormDRefIdeal.main_arg2) = m' ((c.tc : Thread Cert.NormDRefIdeal.nD Cert.NormDRefIdeal.τ).loc Cert.NormDRefIdeal.main_arg2))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)) →
    ∃ (v0 : (c : Dev Cert.GateFIdeal.nD) → Buf (Elt Ideal) ((c.tc : Thread Cert.GateFIdeal.nD Cert.GateFIdeal.τ).loc Cert.GateFIdeal.main_v0)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v0) = v0 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v28) = v0 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v1) = v0 c
          ∧ r.2.mem ((c.tc : Thread Cert.AdamKvRefIdeal.nD Cert.AdamKvRefIdeal.τ).loc Cert.AdamKvRefIdeal.main_v25) = v1 c
          ∧ r.2.mem ((c.tc : Thread Cert.AdamKvRefIdeal.nD Cert.AdamKvRefIdeal.τ).loc Cert.AdamKvRefIdeal.main_v6) = v2 c
          ∧ r.2.mem ((c.tc : Thread Cert.AdamKvRefIdeal.nD Cert.AdamKvRefIdeal.τ).loc Cert.AdamKvRefIdeal.main_v12) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamInSwa_AdamInSwaIdeal : Prop :=
  True

def algebraic_AdamInSwaIdeal_AdamInSwaRefIdeal [hAdamInSwaIdeal : Cert.AdamInSwaIdeal.Facts] [hAdamInSwaRefIdeal : Cert.AdamInSwaRefIdeal.Facts] : Prop :=
  ∀ (m : (ℓ : Loc Cert.AdamInSwaIdeal.nD Cert.AdamInSwaIdeal.τ Cert.AdamInSwaIdeal.sig) → Buf (Elt Ideal) ℓ) (g : Dev Cert.AdamInSwaIdeal.nD → PrngReg)
    (m' : (ℓ : Loc Cert.AdamInSwaRefIdeal.nD Cert.AdamInSwaRefIdeal.τ Cert.AdamInSwaRefIdeal.sig) → Buf (Elt Ideal) ℓ) (g' : Dev Cert.AdamInSwaRefIdeal.nD → PrngReg), Pre_AdamInSwaIdeal m →
    (∀ c : Dev Cert.AdamInSwaIdeal.nD,
      m' ((c.tc : Thread Cert.AdamInSwaRefIdeal.nD Cert.AdamInSwaRefIdeal.τ).loc Cert.AdamInSwaRefIdeal.main_arg0) = m ((c.tc : Thread Cert.AdamInSwaIdeal.nD Cert.AdamInSwaIdeal.τ).loc Cert.AdamInSwaIdeal.main_arg0)
      ∧ m' ((c.tc : Thread Cert.AdamInSwaRefIdeal.nD Cert.AdamInSwaRefIdeal.τ).loc Cert.AdamInSwaRefIdeal.main_arg1) = m ((c.tc : Thread Cert.AdamInSwaIdeal.nD Cert.AdamInSwaIdeal.τ).loc Cert.AdamInSwaIdeal.main_arg1)
      ∧ m' ((c.tc : Thread Cert.AdamInSwaRefIdeal.nD Cert.AdamInSwaRefIdeal.τ).loc Cert.AdamInSwaRefIdeal.main_arg2) = m ((c.tc : Thread Cert.AdamInSwaIdeal.nD Cert.AdamInSwaIdeal.τ).loc Cert.AdamInSwaIdeal.main_arg2)
      ∧ m' ((c.tc : Thread Cert.AdamInSwaRefIdeal.nD Cert.AdamInSwaRefIdeal.τ).loc Cert.AdamInSwaRefIdeal.main_arg3) = m ((c.tc : Thread Cert.AdamInSwaIdeal.nD Cert.AdamInSwaIdeal.τ).loc Cert.AdamInSwaIdeal.main_arg3)) →
    ∃ (v0 : (c : Dev Cert.AdamInSwaIdeal.nD) → Buf (Elt Ideal) ((c.tc : Thread Cert.AdamInSwaIdeal.nD Cert.AdamInSwaIdeal.τ).loc Cert.AdamInSwaIdeal.main_v0_0)) (v1 : (c : Dev Cert.AdamInSwaIdeal.nD) → Buf (Elt Ideal) ((c.tc : Thread Cert.AdamInSwaIdeal.nD Cert.AdamInSwaIdeal.τ).loc Cert.AdamInSwaIdeal.main_v0_1)) (v2 : (c : Dev Cert.AdamInSwaIdeal.nD) → Buf (Elt Ideal) ((c.tc : Thread Cert.AdamInSwaIdeal.nD Cert.AdamInSwaIdeal.τ).loc Cert.AdamInSwaIdeal.main_v0_2)) (v3 : (c : Dev Cert.AdamInSwaIdeal.nD) → Buf (Elt Ideal) ((c.tc : Thread Cert.AdamInSwaIdeal.nD Cert.AdamInSwaIdeal.τ).loc Cert.AdamInSwaIdeal.main_v0_3)),
      θ_run (Cert.AdamInSwaIdeal.defs (F := Ideal)) (onTc (τ := Cert.AdamInSwaIdeal.τ) (Cert.AdamInSwaIdeal.main (F := Ideal))) ⟨m, fun _ => 0, g⟩ (fun r => ∀ c : Dev Cert.AdamInSwaIdeal.nD,
          r.2.mem ((c.tc : Thread Cert.AdamInSwaIdeal.nD Cert.AdamInSwaIdeal.τ).loc Cert.AdamInSwaIdeal.main_v0_0) = v0 c
          ∧ r.2.mem ((c.tc : Thread Cert.AdamInSwaIdeal.nD Cert.AdamInSwaIdeal.τ).loc Cert.AdamInSwaIdeal.main_v0_1) = v1 c
          ∧ r.2.mem ((c.tc : Thread Cert.AdamInSwaIdeal.nD Cert.AdamInSwaIdeal.τ).loc Cert.AdamInSwaIdeal.main_v0_2) = v2 c
          ∧ r.2.mem ((c.tc : Thread Cert.AdamInSwaIdeal.nD Cert.AdamInSwaIdeal.τ).loc Cert.AdamInSwaIdeal.main_v0_3) = v3 c
          ∧ r.2.mem ((c.tc : Thread Cert.AdamInSwaIdeal.nD Cert.AdamInSwaIdeal.τ).loc Cert.AdamInSwaIdeal.main_arg0) = m ((c.tc : Thread Cert.AdamInSwaIdeal.nD Cert.AdamInSwaIdeal.τ).loc Cert.AdamInSwaIdeal.main_arg0)
          ∧ r.2.mem ((c.tc : Thread Cert.AdamInSwaIdeal.nD Cert.AdamInSwaIdeal.τ).loc Cert.AdamInSwaIdeal.main_arg1) = m ((c.tc : Thread Cert.AdamInSwaIdeal.nD Cert.AdamInSwaIdeal.τ).loc Cert.AdamInSwaIdeal.main_arg1)
          ∧ r.2.mem ((c.tc : Thread Cert.AdamInSwaIdeal.nD Cert.AdamInSwaIdeal.τ).loc Cert.AdamInSwaIdeal.main_arg2) = m ((c.tc : Thread Cert.AdamInSwaIdeal.nD Cert.AdamInSwaIdeal.τ).loc Cert.AdamInSwaIdeal.main_arg2)
          ∧ r.2.mem ((c.tc : Thread Cert.AdamInSwaIdeal.nD Cert.AdamInSwaIdeal.τ).loc Cert.AdamInSwaIdeal.main_arg3) = m ((c.tc : Thread Cert.AdamInSwaIdeal.nD Cert.AdamInSwaIdeal.τ).loc Cert.AdamInSwaIdeal.main_arg3))
      ∧ θ_run (Cert.AdamInSwaRefIdeal.defs (F := Ideal)) (onTc (τ := Cert.AdamInSwaRefIdeal.τ) (Cert.AdamInSwaRefIdeal.main (F := Ideal))) ⟨m', fun _ => 0, g'⟩ (fun r => ∀ c : Dev Cert.AdamInSwaRefIdeal.nD,
          r.2.mem ((c.tc : Thread Cert.AdamInSwaRefIdeal.nD Cert.AdamInSwaRefIdeal.τ).loc Cert.AdamInSwaRefIdeal.main_v1) = v0 c
          ∧ r.2.mem ((c.tc : Thread Cert.AdamInSwaRefIdeal.nD Cert.AdamInSwaRefIdeal.τ).loc Cert.AdamInSwaRefIdeal.main_v25) = v1 c
          ∧ r.2.mem ((c.tc : Thread Cert.AdamInSwaRefIdeal.nD Cert.AdamInSwaRefIdeal.τ).loc Cert.AdamInSwaRefIdeal.main_v6) = v2 c
          ∧ r.2.mem ((c.tc : Thread Cert.AdamInSwaRefIdeal.nD Cert.AdamInSwaRefIdeal.τ).loc Cert.AdamInSwaRefIdeal.main_v12) = v3 c
          ∧ r.2.mem ((c.tc : Thread Cert.AdamInSwaRefIdeal.nD Cert.AdamInSwaRefIdeal.τ).loc Cert.AdamInSwaRefIdeal.main_arg0) = m' ((c.tc : Thread Cert.AdamInSwaRefIdeal.nD Cert.AdamInSwaRefIdeal.τ).loc Cert.AdamInSwaRefIdeal.main_arg0)
          ∧ r.2.mem ((c.tc : Thread Cert.AdamInSwaRefIdeal.nD Cert.AdamInSwaRefIdeal.τ).loc Cert.AdamInSwaRefIdeal.main_arg1) = m' ((c.tc : Thread Cert.AdamInSwaRefIdeal.nD Cert.AdamInSwaRefIdeal.τ).loc Cert.AdamInSwaRefIdeal.main_arg1)
          ∧ r.2.mem ((c.tc : Thread Cert.AdamInSwaRefIdeal.nD Cert.AdamInSwaRefIdeal.τ).loc Cert.AdamInSwaRefIdeal.main_arg2) = m' ((c.tc : Thread Cert.AdamInSwaRefIdeal.nD Cert.AdamInSwaRefIdeal.τ).loc Cert.AdamInSwaRefIdeal.main_arg2)
          ∧ r.2.mem ((c.tc : Thread Cert.AdamInSwaRefIdeal.nD Cert.AdamInSwaRefIdeal.τ).loc Cert.AdamInSwaRefIdeal.main_arg3) = m' ((c.tc : Thread Cert.AdamInSwaRefIdeal.nD Cert.AdamInSwaRefIdeal.τ).loc Cert.AdamInSwaRefIdeal.main_arg3))

def preserves_AdamInRwkv_AdamInRwkvIdeal : Prop :=
  True

def algebraic_AdamInRwkvIdeal_AdamInRwkvRefIdeal [hAdamInRwkvIdeal : Cert.AdamInRwkvIdeal.Facts] [hAdamInRwkvRefIdeal : Cert.AdamInRwkvRefIdeal.Facts] : Prop :=
  ∀ (m : (ℓ : Loc Cert.AdamInRwkvIdeal.nD Cert.AdamInRwkvIdeal.τ Cert.AdamInRwkvIdeal.sig) → Buf (Elt Ideal) ℓ) (g : Dev Cert.AdamInRwkvIdeal.nD → PrngReg)
    (m' : (ℓ : Loc Cert.AdamInRwkvRefIdeal.nD Cert.AdamInRwkvRefIdeal.τ Cert.AdamInRwkvRefIdeal.sig) → Buf (Elt Ideal) ℓ) (g' : Dev Cert.AdamInRwkvRefIdeal.nD → PrngReg), Pre_AdamInRwkvIdeal m →
    (∀ c : Dev Cert.AdamInRwkvIdeal.nD,
      m' ((c.tc : Thread Cert.AdamInRwkvRefIdeal.nD Cert.AdamInRwkvRefIdeal.τ).loc Cert.AdamInRwkvRefIdeal.main_arg0) = m ((c.tc : Thread Cert.AdamInRwkvIdeal.nD Cert.AdamInRwkvIdeal.τ).loc Cert.AdamInRwkvIdeal.main_arg0)
      ∧ m' ((c.tc : Thread Cert.AdamInRwkvRefIdeal.nD Cert.AdamInRwkvRefIdeal.τ).loc Cert.AdamInRwkvRefIdeal.main_arg1) = m ((c.tc : Thread Cert.AdamInRwkvIdeal.nD Cert.AdamInRwkvIdeal.τ).loc Cert.AdamInRwkvIdeal.main_arg1)
      ∧ m' ((c.tc : Thread Cert.AdamInRwkvRefIdeal.nD Cert.AdamInRwkvRefIdeal.τ).loc Cert.AdamInRwkvRefIdeal.main_arg2) = m ((c.tc : Thread Cert.AdamInRwkvIdeal.nD Cert.AdamInRwkvIdeal.τ).loc Cert.AdamInRwkvIdeal.main_arg2)
      ∧ m' ((c.tc : Thread Cert.AdamInRwkvRefIdeal.nD Cert.AdamInRwkvRefIdeal.τ).loc Cert.AdamInRwkvRefIdeal.main_arg3) = m ((c.tc : Thread Cert.AdamInRwkvIdeal.nD Cert.AdamInRwkvIdeal.τ).loc Cert.AdamInRwkvIdeal.main_arg3)) →
    ∃ (v0 : (c : Dev Cert.AdamInRwkvIdeal.nD) → Buf (Elt Ideal) ((c.tc : Thread Cert.AdamInRwkvIdeal.nD Cert.AdamInRwkvIdeal.τ).loc Cert.AdamInRwkvIdeal.main_v0_0)) (v1 : (c : Dev Cert.AdamInRwkvIdeal.nD) → Buf (Elt Ideal) ((c.tc : Thread Cert.AdamInRwkvIdeal.nD Cert.AdamInRwkvIdeal.τ).loc Cert.AdamInRwkvIdeal.main_v0_1)) (v2 : (c : Dev Cert.AdamInRwkvIdeal.nD) → Buf (Elt Ideal) ((c.tc : Thread Cert.AdamInRwkvIdeal.nD Cert.AdamInRwkvIdeal.τ).loc Cert.AdamInRwkvIdeal.main_v0_2)) (v3 : (c : Dev Cert.AdamInRwkvIdeal.nD) → Buf (Elt Ideal) ((c.tc : Thread Cert.AdamInRwkvIdeal.nD Cert.AdamInRwkvIdeal.τ).loc Cert.AdamInRwkvIdeal.main_v0_3)),
      θ_run (Cert.AdamInRwkvIdeal.defs (F := Ideal)) (onTc (τ := Cert.AdamInRwkvIdeal.τ) (Cert.AdamInRwkvIdeal.main (F := Ideal))) ⟨m, fun _ => 0, g⟩ (fun r => ∀ c : Dev Cert.AdamInRwkvIdeal.nD,
          r.2.mem ((c.tc : Thread Cert.AdamInRwkvIdeal.nD Cert.AdamInRwkvIdeal.τ).loc Cert.AdamInRwkvIdeal.main_v0_0) = v0 c
          ∧ r.2.mem ((c.tc : Thread Cert.AdamInRwkvIdeal.nD Cert.AdamInRwkvIdeal.τ).loc Cert.AdamInRwkvIdeal.main_v0_1) = v1 c
          ∧ r.2.mem ((c.tc : Thread Cert.AdamInRwkvIdeal.nD Cert.AdamInRwkvIdeal.τ).loc Cert.AdamInRwkvIdeal.main_v0_2) = v2 c
          ∧ r.2.mem ((c.tc : Thread Cert.AdamInRwkvIdeal.nD Cert.AdamInRwkvIdeal.τ).loc Cert.AdamInRwkvIdeal.main_v0_3) = v3 c
          ∧ r.2.mem ((c.tc : Thread Cert.AdamInRwkvIdeal.nD Cert.AdamInRwkvIdeal.τ).loc Cert.AdamInRwkvIdeal.main_arg0) = m ((c.tc : Thread Cert.AdamInRwkvIdeal.nD Cert.AdamInRwkvIdeal.τ).loc Cert.AdamInRwkvIdeal.main_arg0)
          ∧ r.2.mem ((c.tc : Thread Cert.AdamInRwkvIdeal.nD Cert.AdamInRwkvIdeal.τ).loc Cert.AdamInRwkvIdeal.main_arg1) = m ((c.tc : Thread Cert.AdamInRwkvIdeal.nD Cert.AdamInRwkvIdeal.τ).loc Cert.AdamInRwkvIdeal.main_arg1)
          ∧ r.2.mem ((c.tc : Thread Cert.AdamInRwkvIdeal.nD Cert.AdamInRwkvIdeal.τ).loc Cert.AdamInRwkvIdeal.main_arg2) = m ((c.tc : Thread Cert.AdamInRwkvIdeal.nD Cert.AdamInRwkvIdeal.τ).loc Cert.AdamInRwkvIdeal.main_arg2)
          ∧ r.2.mem ((c.tc : Thread Cert.AdamInRwkvIdeal.nD Cert.AdamInRwkvIdeal.τ).loc Cert.AdamInRwkvIdeal.main_arg3) = m ((c.tc : Thread Cert.AdamInRwkvIdeal.nD Cert.AdamInRwkvIdeal.τ).loc Cert.AdamInRwkvIdeal.main_arg3))
      ∧ θ_run (Cert.AdamInRwkvRefIdeal.defs (F := Ideal)) (onTc (τ := Cert.AdamInRwkvRefIdeal.τ) (Cert.AdamInRwkvRefIdeal.main (F := Ideal))) ⟨m', fun _ => 0, g'⟩ (fun r => ∀ c : Dev Cert.AdamInRwkvRefIdeal.nD,
          r.2.mem ((c.tc : Thread Cert.AdamInRwkvRefIdeal.nD Cert.AdamInRwkvRefIdeal.τ).loc Cert.AdamInRwkvRefIdeal.main_v1) = v0 c
          ∧ r.2.mem ((c.tc : Thread Cert.AdamInRwkvRefIdeal.nD Cert.AdamInRwkvRefIdeal.τ).loc Cert.AdamInRwkvRefIdeal.main_v25) = v1 c
          ∧ r.2.mem ((c.tc : Thread Cert.AdamInRwkvRefIdeal.nD Cert.AdamInRwkvRefIdeal.τ).loc Cert.AdamInRwkvRefIdeal.main_v6) = v2 c
          ∧ r.2.mem ((c.tc : Thread Cert.AdamInRwkvRefIdeal.nD Cert.AdamInRwkvRefIdeal.τ).loc Cert.AdamInRwkvRefIdeal.main_v12) = v3 c
          ∧ r.2.mem ((c.tc : Thread Cert.AdamInRwkvRefIdeal.nD Cert.AdamInRwkvRefIdeal.τ).loc Cert.AdamInRwkvRefIdeal.main_arg0) = m' ((c.tc : Thread Cert.AdamInRwkvRefIdeal.nD Cert.AdamInRwkvRefIdeal.τ).loc Cert.AdamInRwkvRefIdeal.main_arg0)
          ∧ r.2.mem ((c.tc : Thread Cert.AdamInRwkvRefIdeal.nD Cert.AdamInRwkvRefIdeal.τ).loc Cert.AdamInRwkvRefIdeal.main_arg1) = m' ((c.tc : Thread Cert.AdamInRwkvRefIdeal.nD Cert.AdamInRwkvRefIdeal.τ).loc Cert.AdamInRwkvRefIdeal.main_arg1)
          ∧ r.2.mem ((c.tc : Thread Cert.AdamInRwkvRefIdeal.nD Cert.AdamInRwkvRefIdeal.τ).loc Cert.AdamInRwkvRefIdeal.main_arg2) = m' ((c.tc : Thread Cert.AdamInRwkvRefIdeal.nD Cert.AdamInRwkvRefIdeal.τ).loc Cert.AdamInRwkvRefIdeal.main_arg2)
          ∧ r.2.mem ((c.tc : Thread Cert.AdamInRwkvRefIdeal.nD Cert.AdamInRwkvRefIdeal.τ).loc Cert.AdamInRwkvRefIdeal.main_arg3) = m' ((c.tc : Thread Cert.AdamInRwkvRefIdeal.nD Cert.AdamInRwkvRefIdeal.τ).loc Cert.AdamInRwkvRefIdeal.main_arg3))

def preserves_AdamInGdn_AdamInGdnIdeal : Prop :=
  True

def algebraic_AdamInGdnIdeal_AdamInGdnRefIdeal [hAdamInGdnIdeal : Cert.AdamInGdnIdeal.Facts] [hAdamInGdnRefIdeal : Cert.AdamInGdnRefIdeal.Facts] : Prop :=
  ∀ (m : (ℓ : Loc Cert.AdamInGdnIdeal.nD Cert.AdamInGdnIdeal.τ Cert.AdamInGdnIdeal.sig) → Buf (Elt Ideal) ℓ) (g : Dev Cert.AdamInGdnIdeal.nD → PrngReg)
    (m' : (ℓ : Loc Cert.AdamInGdnRefIdeal.nD Cert.AdamInGdnRefIdeal.τ Cert.AdamInGdnRefIdeal.sig) → Buf (Elt Ideal) ℓ) (g' : Dev Cert.AdamInGdnRefIdeal.nD → PrngReg), Pre_AdamInGdnIdeal m →
    (∀ c : Dev Cert.AdamInGdnIdeal.nD,
      m' ((c.tc : Thread Cert.AdamInGdnRefIdeal.nD Cert.AdamInGdnRefIdeal.τ).loc Cert.AdamInGdnRefIdeal.main_arg0) = m ((c.tc : Thread Cert.AdamInGdnIdeal.nD Cert.AdamInGdnIdeal.τ).loc Cert.AdamInGdnIdeal.main_arg0)
      ∧ m' ((c.tc : Thread Cert.AdamInGdnRefIdeal.nD Cert.AdamInGdnRefIdeal.τ).loc Cert.AdamInGdnRefIdeal.main_arg1) = m ((c.tc : Thread Cert.AdamInGdnIdeal.nD Cert.AdamInGdnIdeal.τ).loc Cert.AdamInGdnIdeal.main_arg1)
      ∧ m' ((c.tc : Thread Cert.AdamInGdnRefIdeal.nD Cert.AdamInGdnRefIdeal.τ).loc Cert.AdamInGdnRefIdeal.main_arg2) = m ((c.tc : Thread Cert.AdamInGdnIdeal.nD Cert.AdamInGdnIdeal.τ).loc Cert.AdamInGdnIdeal.main_arg2)
      ∧ m' ((c.tc : Thread Cert.AdamInGdnRefIdeal.nD Cert.AdamInGdnRefIdeal.τ).loc Cert.AdamInGdnRefIdeal.main_arg3) = m ((c.tc : Thread Cert.AdamInGdnIdeal.nD Cert.AdamInGdnIdeal.τ).loc Cert.AdamInGdnIdeal.main_arg3)) →
    ∃ (v0 : (c : Dev Cert.AdamInGdnIdeal.nD) → Buf (Elt Ideal) ((c.tc : Thread Cert.AdamInGdnIdeal.nD Cert.AdamInGdnIdeal.τ).loc Cert.AdamInGdnIdeal.main_v0_0)) (v1 : (c : Dev Cert.AdamInGdnIdeal.nD) → Buf (Elt Ideal) ((c.tc : Thread Cert.AdamInGdnIdeal.nD Cert.AdamInGdnIdeal.τ).loc Cert.AdamInGdnIdeal.main_v0_1)) (v2 : (c : Dev Cert.AdamInGdnIdeal.nD) → Buf (Elt Ideal) ((c.tc : Thread Cert.AdamInGdnIdeal.nD Cert.AdamInGdnIdeal.τ).loc Cert.AdamInGdnIdeal.main_v0_2)) (v3 : (c : Dev Cert.AdamInGdnIdeal.nD) → Buf (Elt Ideal) ((c.tc : Thread Cert.AdamInGdnIdeal.nD Cert.AdamInGdnIdeal.τ).loc Cert.AdamInGdnIdeal.main_v0_3)),
      θ_run (Cert.AdamInGdnIdeal.defs (F := Ideal)) (onTc (τ := Cert.AdamInGdnIdeal.τ) (Cert.AdamInGdnIdeal.main (F := Ideal))) ⟨m, fun _ => 0, g⟩ (fun r => ∀ c : Dev Cert.AdamInGdnIdeal.nD,
          r.2.mem ((c.tc : Thread Cert.AdamInGdnIdeal.nD Cert.AdamInGdnIdeal.τ).loc Cert.AdamInGdnIdeal.main_v0_0) = v0 c
          ∧ r.2.mem ((c.tc : Thread Cert.AdamInGdnIdeal.nD Cert.AdamInGdnIdeal.τ).loc Cert.AdamInGdnIdeal.main_v0_1) = v1 c
          ∧ r.2.mem ((c.tc : Thread Cert.AdamInGdnIdeal.nD Cert.AdamInGdnIdeal.τ).loc Cert.AdamInGdnIdeal.main_v0_2) = v2 c
          ∧ r.2.mem ((c.tc : Thread Cert.AdamInGdnIdeal.nD Cert.AdamInGdnIdeal.τ).loc Cert.AdamInGdnIdeal.main_v0_3) = v3 c
          ∧ r.2.mem ((c.tc : Thread Cert.AdamInGdnIdeal.nD Cert.AdamInGdnIdeal.τ).loc Cert.AdamInGdnIdeal.main_arg0) = m ((c.tc : Thread Cert.AdamInGdnIdeal.nD Cert.AdamInGdnIdeal.τ).loc Cert.AdamInGdnIdeal.main_arg0)
          ∧ r.2.mem ((c.tc : Thread Cert.AdamInGdnIdeal.nD Cert.AdamInGdnIdeal.τ).loc Cert.AdamInGdnIdeal.main_arg1) = m ((c.tc : Thread Cert.AdamInGdnIdeal.nD Cert.AdamInGdnIdeal.τ).loc Cert.AdamInGdnIdeal.main_arg1)
          ∧ r.2.mem ((c.tc : Thread Cert.AdamInGdnIdeal.nD Cert.AdamInGdnIdeal.τ).loc Cert.AdamInGdnIdeal.main_arg2) = m ((c.tc : Thread Cert.AdamInGdnIdeal.nD Cert.AdamInGdnIdeal.τ).loc Cert.AdamInGdnIdeal.main_arg2)
          ∧ r.2.mem ((c.tc : Thread Cert.AdamInGdnIdeal.nD Cert.AdamInGdnIdeal.τ).loc Cert.AdamInGdnIdeal.main_arg3) = m ((c.tc : Thread Cert.AdamInGdnIdeal.nD Cert.AdamInGdnIdeal.τ).loc Cert.AdamInGdnIdeal.main_arg3))
      ∧ θ_run (Cert.AdamInGdnRefIdeal.defs (F := Ideal)) (onTc (τ := Cert.AdamInGdnRefIdeal.τ) (Cert.AdamInGdnRefIdeal.main (F := Ideal))) ⟨m', fun _ => 0, g'⟩ (fun r => ∀ c : Dev Cert.AdamInGdnRefIdeal.nD,
          r.2.mem ((c.tc : Thread Cert.AdamInGdnRefIdeal.nD Cert.AdamInGdnRefIdeal.τ).loc Cert.AdamInGdnRefIdeal.main_v1) = v0 c
          ∧ r.2.mem ((c.tc : Thread Cert.AdamInGdnRefIdeal.nD Cert.AdamInGdnRefIdeal.τ).loc Cert.AdamInGdnRefIdeal.main_v25) = v1 c
          ∧ r.2.mem ((c.tc : Thread Cert.AdamInGdnRefIdeal.nD Cert.AdamInGdnRefIdeal.τ).loc Cert.AdamInGdnRefIdeal.main_v6) = v2 c
          ∧ r.2.mem ((c.tc : Thread Cert.AdamInGdnRefIdeal.nD Cert.AdamInGdnRefIdeal.τ).loc Cert.AdamInGdnRefIdeal.main_v12) = v3 c
          ∧ r.2.mem ((c.tc : Thread Cert.AdamInGdnRefIdeal.nD Cert.AdamInGdnRefIdeal.τ).loc Cert.AdamInGdnRefIdeal.main_arg0) = m' ((c.tc : Thread Cert.AdamInGdnRefIdeal.nD Cert.AdamInGdnRefIdeal.τ).loc Cert.AdamInGdnRefIdeal.main_arg0)
          ∧ r.2.mem ((c.tc : Thread Cert.AdamInGdnRefIdeal.nD Cert.AdamInGdnRefIdeal.τ).loc Cert.AdamInGdnRefIdeal.main_arg1) = m' ((c.tc : Thread Cert.AdamInGdnRefIdeal.nD Cert.AdamInGdnRefIdeal.τ).loc Cert.AdamInGdnRefIdeal.main_arg1)
          ∧ r.2.mem ((c.tc : Thread Cert.AdamInGdnRefIdeal.nD Cert.AdamInGdnRefIdeal.τ).loc Cert.AdamInGdnRefIdeal.main_arg2) = m' ((c.tc : Thread Cert.AdamInGdnRefIdeal.nD Cert.AdamInGdnRefIdeal.τ).loc Cert.AdamInGdnRefIdeal.main_arg2)
          ∧ r.2.mem ((c.tc : Thread Cert.AdamInGdnRefIdeal.nD Cert.AdamInGdnRefIdeal.τ).loc Cert.AdamInGdnRefIdeal.main_arg3) = m' ((c.tc : Thread Cert.AdamInGdnRefIdeal.nD Cert.AdamInGdnRefIdeal.τ).loc Cert.AdamInGdnRefIdeal.main_arg3))

def preserves_AdamRank_AdamRankIdeal : Prop :=
  True

def algebraic_AdamRankIdeal_AdamRankRefIdeal [hAdamRankIdeal : Cert.AdamRankIdeal.Facts] [hAdamRankRefIdeal : Cert.AdamRankRefIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg)
    (m' : (ℓ : Loc Cert.AdamRankRefIdeal.nD Cert.AdamRankRefIdeal.τ Cert.AdamRankRefIdeal.sig) → Buf (Elt Ideal) ℓ) (g' : Dev Cert.AdamRankRefIdeal.nD → PrngReg), Pre_AdamRankIdeal m →
    (∀ c : Dev Cert.AdamRankIdeal.nD,
      m' ((c.tc : Thread Cert.AdamRankRefIdeal.nD Cert.AdamRankRefIdeal.τ).loc Cert.AdamRankRefIdeal.main_arg0) = m ((c.tc : Thread Cert.AdamRankIdeal.nD Cert.AdamRankIdeal.τ).loc Cert.AdamRankIdeal.main_arg0)
      ∧ m' ((c.tc : Thread Cert.AdamRankRefIdeal.nD Cert.AdamRankRefIdeal.τ).loc Cert.AdamRankRefIdeal.main_arg1) = m ((c.tc : Thread Cert.AdamRankIdeal.nD Cert.AdamRankIdeal.τ).loc Cert.AdamRankIdeal.main_arg1)
      ∧ m' ((c.tc : Thread Cert.AdamRankRefIdeal.nD Cert.AdamRankRefIdeal.τ).loc Cert.AdamRankRefIdeal.main_arg2) = m ((c.tc : Thread Cert.AdamRankIdeal.nD Cert.AdamRankIdeal.τ).loc Cert.AdamRankIdeal.main_arg2)
      ∧ m' ((c.tc : Thread Cert.AdamRankRefIdeal.nD Cert.AdamRankRefIdeal.τ).loc Cert.AdamRankRefIdeal.main_arg3) = m ((c.tc : Thread Cert.AdamRankIdeal.nD Cert.AdamRankIdeal.τ).loc Cert.AdamRankIdeal.main_arg3)) →
    ∃ (v0 : (c : Dev Cert.AdamRankIdeal.nD) → Buf (Elt Ideal) ((c.tc : Thread Cert.AdamRankIdeal.nD Cert.AdamRankIdeal.τ).loc Cert.AdamRankIdeal.main_v0_0)) (v1 : (c : Dev Cert.AdamRankIdeal.nD) → Buf (Elt Ideal) ((c.tc : Thread Cert.AdamRankIdeal.nD Cert.AdamRankIdeal.τ).loc Cert.AdamRankIdeal.main_v0_1)) (v2 : (c : Dev Cert.AdamRankIdeal.nD) → Buf (Elt Ideal) ((c.tc : Thread Cert.AdamRankIdeal.nD Cert.AdamRankIdeal.τ).loc Cert.AdamRankIdeal.main_v0_2)) (v3 : (c : Dev Cert.AdamRankIdeal.nD) → Buf (Elt Ideal) ((c.tc : Thread Cert.AdamRankIdeal.nD Cert.AdamRankIdeal.τ).loc Cert.AdamRankIdeal.main_v0_3)),
      θ_run (Cert.AdamRankIdeal.defs (F := Ideal)) (onTc (τ := Cert.AdamRankIdeal.τ) (Cert.AdamRankIdeal.main (F := Ideal))) ⟨m, fun _ => 0, g⟩ (fun r => ∀ c : Dev Cert.AdamRankIdeal.nD,
          r.2.mem ((c.tc : Thread Cert.AdamRankIdeal.nD Cert.AdamRankIdeal.τ).loc Cert.AdamRankIdeal.main_v0_0) = v0 c
          ∧ r.2.mem ((c.tc : Thread Cert.AdamRankIdeal.nD Cert.AdamRankIdeal.τ).loc Cert.AdamRankIdeal.main_v0_1) = v1 c
          ∧ r.2.mem ((c.tc : Thread Cert.AdamRankIdeal.nD Cert.AdamRankIdeal.τ).loc Cert.AdamRankIdeal.main_v0_2) = v2 c
          ∧ r.2.mem ((c.tc : Thread Cert.AdamRankIdeal.nD Cert.AdamRankIdeal.τ).loc Cert.AdamRankIdeal.main_v0_3) = v3 c
          ∧ r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
          ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
          ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
          ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ θ_run (Cert.AdamRankRefIdeal.defs (F := Ideal)) (onTc (τ := Cert.AdamRankRefIdeal.τ) (Cert.AdamRankRefIdeal.main (F := Ideal))) ⟨m', fun _ => 0, g'⟩ (fun r => ∀ c : Dev Cert.AdamRankRefIdeal.nD,
          r.2.mem ((c.tc : Thread Cert.AdamRankRefIdeal.nD Cert.AdamRankRefIdeal.τ).loc Cert.AdamRankRefIdeal.main_v0) = v0 c
          ∧ r.2.mem ((c.tc : Thread Cert.AdamRankRefIdeal.nD Cert.AdamRankRefIdeal.τ).loc Cert.AdamRankRefIdeal.main_v24) = v1 c
          ∧ r.2.mem ((c.tc : Thread Cert.AdamRankRefIdeal.nD Cert.AdamRankRefIdeal.τ).loc Cert.AdamRankRefIdeal.main_v5) = v2 c
          ∧ r.2.mem ((c.tc : Thread Cert.AdamRankRefIdeal.nD Cert.AdamRankRefIdeal.τ).loc Cert.AdamRankRefIdeal.main_v11) = v3 c
          ∧ r.2.mem ((c.tc : Thread Cert.AdamRankRefIdeal.nD Cert.AdamRankRefIdeal.τ).loc Cert.AdamRankRefIdeal.main_arg0) = m' ((c.tc : Thread Cert.AdamRankRefIdeal.nD Cert.AdamRankRefIdeal.τ).loc Cert.AdamRankRefIdeal.main_arg0)
          ∧ r.2.mem ((c.tc : Thread Cert.AdamRankRefIdeal.nD Cert.AdamRankRefIdeal.τ).loc Cert.AdamRankRefIdeal.main_arg1) = m' ((c.tc : Thread Cert.AdamRankRefIdeal.nD Cert.AdamRankRefIdeal.τ).loc Cert.AdamRankRefIdeal.main_arg1)
          ∧ r.2.mem ((c.tc : Thread Cert.AdamRankRefIdeal.nD Cert.AdamRankRefIdeal.τ).loc Cert.AdamRankRefIdeal.main_arg2) = m' ((c.tc : Thread Cert.AdamRankRefIdeal.nD Cert.AdamRankRefIdeal.τ).loc Cert.AdamRankRefIdeal.main_arg2)
          ∧ r.2.mem ((c.tc : Thread Cert.AdamRankRefIdeal.nD Cert.AdamRankRefIdeal.τ).loc Cert.AdamRankRefIdeal.main_arg3) = m' ((c.tc : Thread Cert.AdamRankRefIdeal.nD Cert.AdamRankRefIdeal.τ).loc Cert.AdamRankRefIdeal.main_arg3))

def preserves_AdamRankG_AdamRankGIdeal : Prop :=
  True

def algebraic_AdamRankGIdeal_AdamRankGRefIdeal [hAdamRankGIdeal : Cert.AdamRankGIdeal.Facts] [hAdamRankGRefIdeal : Cert.AdamRankGRefIdeal.Facts] : Prop :=
  ∀ (m : (ℓ : Loc Cert.AdamRankGIdeal.nD Cert.AdamRankGIdeal.τ Cert.AdamRankGIdeal.sig) → Buf (Elt Ideal) ℓ) (g : Dev Cert.AdamRankGIdeal.nD → PrngReg)
    (m' : (ℓ : Loc Cert.AdamRankGRefIdeal.nD Cert.AdamRankGRefIdeal.τ Cert.AdamRankGRefIdeal.sig) → Buf (Elt Ideal) ℓ) (g' : Dev Cert.AdamRankGRefIdeal.nD → PrngReg), Pre_AdamRankGIdeal m →
    (∀ c : Dev Cert.AdamRankGIdeal.nD,
      m' ((c.tc : Thread Cert.AdamRankGRefIdeal.nD Cert.AdamRankGRefIdeal.τ).loc Cert.AdamRankGRefIdeal.main_arg0) = m ((c.tc : Thread Cert.AdamRankGIdeal.nD Cert.AdamRankGIdeal.τ).loc Cert.AdamRankGIdeal.main_arg0)
      ∧ m' ((c.tc : Thread Cert.AdamRankGRefIdeal.nD Cert.AdamRankGRefIdeal.τ).loc Cert.AdamRankGRefIdeal.main_arg1) = m ((c.tc : Thread Cert.AdamRankGIdeal.nD Cert.AdamRankGIdeal.τ).loc Cert.AdamRankGIdeal.main_arg1)
      ∧ m' ((c.tc : Thread Cert.AdamRankGRefIdeal.nD Cert.AdamRankGRefIdeal.τ).loc Cert.AdamRankGRefIdeal.main_arg2) = m ((c.tc : Thread Cert.AdamRankGIdeal.nD Cert.AdamRankGIdeal.τ).loc Cert.AdamRankGIdeal.main_arg2)
      ∧ m' ((c.tc : Thread Cert.AdamRankGRefIdeal.nD Cert.AdamRankGRefIdeal.τ).loc Cert.AdamRankGRefIdeal.main_arg3) = m ((c.tc : Thread Cert.AdamRankGIdeal.nD Cert.AdamRankGIdeal.τ).loc Cert.AdamRankGIdeal.main_arg3)) →
    ∃ (v0 : (c : Dev Cert.AdamRankGIdeal.nD) → Buf (Elt Ideal) ((c.tc : Thread Cert.AdamRankGIdeal.nD Cert.AdamRankGIdeal.τ).loc Cert.AdamRankGIdeal.main_v0_0)) (v1 : (c : Dev Cert.AdamRankGIdeal.nD) → Buf (Elt Ideal) ((c.tc : Thread Cert.AdamRankGIdeal.nD Cert.AdamRankGIdeal.τ).loc Cert.AdamRankGIdeal.main_v0_1)) (v2 : (c : Dev Cert.AdamRankGIdeal.nD) → Buf (Elt Ideal) ((c.tc : Thread Cert.AdamRankGIdeal.nD Cert.AdamRankGIdeal.τ).loc Cert.AdamRankGIdeal.main_v0_2)) (v3 : (c : Dev Cert.AdamRankGIdeal.nD) → Buf (Elt Ideal) ((c.tc : Thread Cert.AdamRankGIdeal.nD Cert.AdamRankGIdeal.τ).loc Cert.AdamRankGIdeal.main_v0_3)),
      θ_run (Cert.AdamRankGIdeal.defs (F := Ideal)) (onTc (τ := Cert.AdamRankGIdeal.τ) (Cert.AdamRankGIdeal.main (F := Ideal))) ⟨m, fun _ => 0, g⟩ (fun r => ∀ c : Dev Cert.AdamRankGIdeal.nD,
          r.2.mem ((c.tc : Thread Cert.AdamRankGIdeal.nD Cert.AdamRankGIdeal.τ).loc Cert.AdamRankGIdeal.main_v0_0) = v0 c
          ∧ r.2.mem ((c.tc : Thread Cert.AdamRankGIdeal.nD Cert.AdamRankGIdeal.τ).loc Cert.AdamRankGIdeal.main_v0_1) = v1 c
          ∧ r.2.mem ((c.tc : Thread Cert.AdamRankGIdeal.nD Cert.AdamRankGIdeal.τ).loc Cert.AdamRankGIdeal.main_v0_2) = v2 c
          ∧ r.2.mem ((c.tc : Thread Cert.AdamRankGIdeal.nD Cert.AdamRankGIdeal.τ).loc Cert.AdamRankGIdeal.main_v0_3) = v3 c
          ∧ r.2.mem ((c.tc : Thread Cert.AdamRankGIdeal.nD Cert.AdamRankGIdeal.τ).loc Cert.AdamRankGIdeal.main_arg0) = m ((c.tc : Thread Cert.AdamRankGIdeal.nD Cert.AdamRankGIdeal.τ).loc Cert.AdamRankGIdeal.main_arg0)
          ∧ r.2.mem ((c.tc : Thread Cert.AdamRankGIdeal.nD Cert.AdamRankGIdeal.τ).loc Cert.AdamRankGIdeal.main_arg1) = m ((c.tc : Thread Cert.AdamRankGIdeal.nD Cert.AdamRankGIdeal.τ).loc Cert.AdamRankGIdeal.main_arg1)
          ∧ r.2.mem ((c.tc : Thread Cert.AdamRankGIdeal.nD Cert.AdamRankGIdeal.τ).loc Cert.AdamRankGIdeal.main_arg2) = m ((c.tc : Thread Cert.AdamRankGIdeal.nD Cert.AdamRankGIdeal.τ).loc Cert.AdamRankGIdeal.main_arg2)
          ∧ r.2.mem ((c.tc : Thread Cert.AdamRankGIdeal.nD Cert.AdamRankGIdeal.τ).loc Cert.AdamRankGIdeal.main_arg3) = m ((c.tc : Thread Cert.AdamRankGIdeal.nD Cert.AdamRankGIdeal.τ).loc Cert.AdamRankGIdeal.main_arg3))
      ∧ θ_run (Cert.AdamRankGRefIdeal.defs (F := Ideal)) (onTc (τ := Cert.AdamRankGRefIdeal.τ) (Cert.AdamRankGRefIdeal.main (F := Ideal))) ⟨m', fun _ => 0, g'⟩ (fun r => ∀ c : Dev Cert.AdamRankGRefIdeal.nD,
          r.2.mem ((c.tc : Thread Cert.AdamRankGRefIdeal.nD Cert.AdamRankGRefIdeal.τ).loc Cert.AdamRankGRefIdeal.main_v0) = v0 c
          ∧ r.2.mem ((c.tc : Thread Cert.AdamRankGRefIdeal.nD Cert.AdamRankGRefIdeal.τ).loc Cert.AdamRankGRefIdeal.main_v24) = v1 c
          ∧ r.2.mem ((c.tc : Thread Cert.AdamRankGRefIdeal.nD Cert.AdamRankGRefIdeal.τ).loc Cert.AdamRankGRefIdeal.main_v5) = v2 c
          ∧ r.2.mem ((c.tc : Thread Cert.AdamRankGRefIdeal.nD Cert.AdamRankGRefIdeal.τ).loc Cert.AdamRankGRefIdeal.main_v11) = v3 c
          ∧ r.2.mem ((c.tc : Thread Cert.AdamRankGRefIdeal.nD Cert.AdamRankGRefIdeal.τ).loc Cert.AdamRankGRefIdeal.main_arg0) = m' ((c.tc : Thread Cert.AdamRankGRefIdeal.nD Cert.AdamRankGRefIdeal.τ).loc Cert.AdamRankGRefIdeal.main_arg0)
          ∧ r.2.mem ((c.tc : Thread Cert.AdamRankGRefIdeal.nD Cert.AdamRankGRefIdeal.τ).loc Cert.AdamRankGRefIdeal.main_arg1) = m' ((c.tc : Thread Cert.AdamRankGRefIdeal.nD Cert.AdamRankGRefIdeal.τ).loc Cert.AdamRankGRefIdeal.main_arg1)
          ∧ r.2.mem ((c.tc : Thread Cert.AdamRankGRefIdeal.nD Cert.AdamRankGRefIdeal.τ).loc Cert.AdamRankGRefIdeal.main_arg2) = m' ((c.tc : Thread Cert.AdamRankGRefIdeal.nD Cert.AdamRankGRefIdeal.τ).loc Cert.AdamRankGRefIdeal.main_arg2)
          ∧ r.2.mem ((c.tc : Thread Cert.AdamRankGRefIdeal.nD Cert.AdamRankGRefIdeal.τ).loc Cert.AdamRankGRefIdeal.main_arg3) = m' ((c.tc : Thread Cert.AdamRankGRefIdeal.nD Cert.AdamRankGRefIdeal.τ).loc Cert.AdamRankGRefIdeal.main_arg3))

def preserves_AdamConvC_AdamConvCIdeal : Prop :=
  True

def algebraic_AdamConvCIdeal_AdamConvCRefIdeal [hAdamConvCIdeal : Cert.AdamConvCIdeal.Facts] [hAdamConvCRefIdeal : Cert.AdamConvCRefIdeal.Facts] : Prop :=
  ∀ (m : (ℓ : Loc Cert.AdamConvCIdeal.nD Cert.AdamConvCIdeal.τ Cert.AdamConvCIdeal.sig) → Buf (Elt Ideal) ℓ) (g : Dev Cert.AdamConvCIdeal.nD → PrngReg)
    (m' : (ℓ : Loc Cert.AdamConvCRefIdeal.nD Cert.AdamConvCRefIdeal.τ Cert.AdamConvCRefIdeal.sig) → Buf (Elt Ideal) ℓ) (g' : Dev Cert.AdamConvCRefIdeal.nD → PrngReg), Pre_AdamConvCIdeal m →
    (∀ c : Dev Cert.AdamConvCIdeal.nD,
      m' ((c.tc : Thread Cert.AdamConvCRefIdeal.nD Cert.AdamConvCRefIdeal.τ).loc Cert.AdamConvCRefIdeal.main_arg0) = m ((c.tc : Thread Cert.AdamConvCIdeal.nD Cert.AdamConvCIdeal.τ).loc Cert.AdamConvCIdeal.main_arg0)
      ∧ m' ((c.tc : Thread Cert.AdamConvCRefIdeal.nD Cert.AdamConvCRefIdeal.τ).loc Cert.AdamConvCRefIdeal.main_arg1) = m ((c.tc : Thread Cert.AdamConvCIdeal.nD Cert.AdamConvCIdeal.τ).loc Cert.AdamConvCIdeal.main_arg1)
      ∧ m' ((c.tc : Thread Cert.AdamConvCRefIdeal.nD Cert.AdamConvCRefIdeal.τ).loc Cert.AdamConvCRefIdeal.main_arg2) = m ((c.tc : Thread Cert.AdamConvCIdeal.nD Cert.AdamConvCIdeal.τ).loc Cert.AdamConvCIdeal.main_arg2)
      ∧ m' ((c.tc : Thread Cert.AdamConvCRefIdeal.nD Cert.AdamConvCRefIdeal.τ).loc Cert.AdamConvCRefIdeal.main_arg3) = m ((c.tc : Thread Cert.AdamConvCIdeal.nD Cert.AdamConvCIdeal.τ).loc Cert.AdamConvCIdeal.main_arg3)) →
    ∃ (v0 : (c : Dev Cert.AdamConvCIdeal.nD) → Buf (Elt Ideal) ((c.tc : Thread Cert.AdamConvCIdeal.nD Cert.AdamConvCIdeal.τ).loc Cert.AdamConvCIdeal.main_v0_0)) (v1 : (c : Dev Cert.AdamConvCIdeal.nD) → Buf (Elt Ideal) ((c.tc : Thread Cert.AdamConvCIdeal.nD Cert.AdamConvCIdeal.τ).loc Cert.AdamConvCIdeal.main_v0_1)) (v2 : (c : Dev Cert.AdamConvCIdeal.nD) → Buf (Elt Ideal) ((c.tc : Thread Cert.AdamConvCIdeal.nD Cert.AdamConvCIdeal.τ).loc Cert.AdamConvCIdeal.main_v0_2)) (v3 : (c : Dev Cert.AdamConvCIdeal.nD) → Buf (Elt Ideal) ((c.tc : Thread Cert.AdamConvCIdeal.nD Cert.AdamConvCIdeal.τ).loc Cert.AdamConvCIdeal.main_v0_3)),
      θ_run (Cert.AdamConvCIdeal.defs (F := Ideal)) (onTc (τ := Cert.AdamConvCIdeal.τ) (Cert.AdamConvCIdeal.main (F := Ideal))) ⟨m, fun _ => 0, g⟩ (fun r => ∀ c : Dev Cert.AdamConvCIdeal.nD,
          r.2.mem ((c.tc : Thread Cert.AdamConvCIdeal.nD Cert.AdamConvCIdeal.τ).loc Cert.AdamConvCIdeal.main_v0_0) = v0 c
          ∧ r.2.mem ((c.tc : Thread Cert.AdamConvCIdeal.nD Cert.AdamConvCIdeal.τ).loc Cert.AdamConvCIdeal.main_v0_1) = v1 c
          ∧ r.2.mem ((c.tc : Thread Cert.AdamConvCIdeal.nD Cert.AdamConvCIdeal.τ).loc Cert.AdamConvCIdeal.main_v0_2) = v2 c
          ∧ r.2.mem ((c.tc : Thread Cert.AdamConvCIdeal.nD Cert.AdamConvCIdeal.τ).loc Cert.AdamConvCIdeal.main_v0_3) = v3 c
          ∧ r.2.mem ((c.tc : Thread Cert.AdamConvCIdeal.nD Cert.AdamConvCIdeal.τ).loc Cert.AdamConvCIdeal.main_arg0) = m ((c.tc : Thread Cert.AdamConvCIdeal.nD Cert.AdamConvCIdeal.τ).loc Cert.AdamConvCIdeal.main_arg0)
          ∧ r.2.mem ((c.tc : Thread Cert.AdamConvCIdeal.nD Cert.AdamConvCIdeal.τ).loc Cert.AdamConvCIdeal.main_arg1) = m ((c.tc : Thread Cert.AdamConvCIdeal.nD Cert.AdamConvCIdeal.τ).loc Cert.AdamConvCIdeal.main_arg1)
          ∧ r.2.mem ((c.tc : Thread Cert.AdamConvCIdeal.nD Cert.AdamConvCIdeal.τ).loc Cert.AdamConvCIdeal.main_arg2) = m ((c.tc : Thread Cert.AdamConvCIdeal.nD Cert.AdamConvCIdeal.τ).loc Cert.AdamConvCIdeal.main_arg2)
          ∧ r.2.mem ((c.tc : Thread Cert.AdamConvCIdeal.nD Cert.AdamConvCIdeal.τ).loc Cert.AdamConvCIdeal.main_arg3) = m ((c.tc : Thread Cert.AdamConvCIdeal.nD Cert.AdamConvCIdeal.τ).loc Cert.AdamConvCIdeal.main_arg3))
      ∧ θ_run (Cert.AdamConvCRefIdeal.defs (F := Ideal)) (onTc (τ := Cert.AdamConvCRefIdeal.τ) (Cert.AdamConvCRefIdeal.main (F := Ideal))) ⟨m', fun _ => 0, g'⟩ (fun r => ∀ c : Dev Cert.AdamConvCRefIdeal.nD,
          r.2.mem ((c.tc : Thread Cert.AdamConvCRefIdeal.nD Cert.AdamConvCRefIdeal.τ).loc Cert.AdamConvCRefIdeal.main_v0) = v0 c
          ∧ r.2.mem ((c.tc : Thread Cert.AdamConvCRefIdeal.nD Cert.AdamConvCRefIdeal.τ).loc Cert.AdamConvCRefIdeal.main_v24) = v1 c
          ∧ r.2.mem ((c.tc : Thread Cert.AdamConvCRefIdeal.nD Cert.AdamConvCRefIdeal.τ).loc Cert.AdamConvCRefIdeal.main_v5) = v2 c
          ∧ r.2.mem ((c.tc : Thread Cert.AdamConvCRefIdeal.nD Cert.AdamConvCRefIdeal.τ).loc Cert.AdamConvCRefIdeal.main_v11) = v3 c
          ∧ r.2.mem ((c.tc : Thread Cert.AdamConvCRefIdeal.nD Cert.AdamConvCRefIdeal.τ).loc Cert.AdamConvCRefIdeal.main_arg0) = m' ((c.tc : Thread Cert.AdamConvCRefIdeal.nD Cert.AdamConvCRefIdeal.τ).loc Cert.AdamConvCRefIdeal.main_arg0)
          ∧ r.2.mem ((c.tc : Thread Cert.AdamConvCRefIdeal.nD Cert.AdamConvCRefIdeal.τ).loc Cert.AdamConvCRefIdeal.main_arg1) = m' ((c.tc : Thread Cert.AdamConvCRefIdeal.nD Cert.AdamConvCRefIdeal.τ).loc Cert.AdamConvCRefIdeal.main_arg1)
          ∧ r.2.mem ((c.tc : Thread Cert.AdamConvCRefIdeal.nD Cert.AdamConvCRefIdeal.τ).loc Cert.AdamConvCRefIdeal.main_arg2) = m' ((c.tc : Thread Cert.AdamConvCRefIdeal.nD Cert.AdamConvCRefIdeal.τ).loc Cert.AdamConvCRefIdeal.main_arg2)
          ∧ r.2.mem ((c.tc : Thread Cert.AdamConvCRefIdeal.nD Cert.AdamConvCRefIdeal.τ).loc Cert.AdamConvCRefIdeal.main_arg3) = m' ((c.tc : Thread Cert.AdamConvCRefIdeal.nD Cert.AdamConvCRefIdeal.τ).loc Cert.AdamConvCRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v0) = v0 c
          ∧ r.2.mem ((c.tc : Thread Cert.AdamRepRefIdeal.nD Cert.AdamRepRefIdeal.τ).loc Cert.AdamRepRefIdeal.main_v24) = v1 c
          ∧ r.2.mem ((c.tc : Thread Cert.AdamRepRefIdeal.nD Cert.AdamRepRefIdeal.τ).loc Cert.AdamRepRefIdeal.main_v5) = v2 c
          ∧ r.2.mem ((c.tc : Thread Cert.AdamRepRefIdeal.nD Cert.AdamRepRefIdeal.τ).loc Cert.AdamRepRefIdeal.main_v11) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDHf : Cert.DHf.Facts) (hDHfIdeal : Cert.DHfIdeal.Facts) (hDHfRefIdeal : Cert.DHfRefIdeal.Facts) (hDwUp : Cert.DwUp.Facts) (hDwUpIdeal : Cert.DwUpIdeal.Facts) (hDwUpRefIdeal : Cert.DwUpRefIdeal.Facts) (hDCat : Cert.DCat.Facts) (hDCatIdeal : Cert.DCatIdeal.Facts) (hDCatRefIdeal : Cert.DCatRefIdeal.Facts) (hDwOut : Cert.DwOut.Facts) (hDwOutIdeal : Cert.DwOutIdeal.Facts) (hDwOutRefIdeal : Cert.DwOutRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hInSwa : Cert.InSwa.Facts) (hInSwaIdeal : Cert.InSwaIdeal.Facts) (hInSwaRefIdeal : Cert.InSwaRefIdeal.Facts) (hDInSwa : Cert.DInSwa.Facts) (hDInSwaIdeal : Cert.DInSwaIdeal.Facts) (hDInSwaRefIdeal : Cert.DInSwaRefIdeal.Facts) (hDwInSwa : Cert.DwInSwa.Facts) (hDwInSwaIdeal : Cert.DwInSwaIdeal.Facts) (hDwInSwaRefIdeal : Cert.DwInSwaRefIdeal.Facts) (hInRwkv : Cert.InRwkv.Facts) (hInRwkvIdeal : Cert.InRwkvIdeal.Facts) (hInRwkvRefIdeal : Cert.InRwkvRefIdeal.Facts) (hDInRwkv : Cert.DInRwkv.Facts) (hDInRwkvIdeal : Cert.DInRwkvIdeal.Facts) (hDInRwkvRefIdeal : Cert.DInRwkvRefIdeal.Facts) (hDwInRwkv : Cert.DwInRwkv.Facts) (hDwInRwkvIdeal : Cert.DwInRwkvIdeal.Facts) (hDwInRwkvRefIdeal : Cert.DwInRwkvRefIdeal.Facts) (hInGdn : Cert.InGdn.Facts) (hInGdnIdeal : Cert.InGdnIdeal.Facts) (hInGdnRefIdeal : Cert.InGdnRefIdeal.Facts) (hDInGdn : Cert.DInGdn.Facts) (hDInGdnIdeal : Cert.DInGdnIdeal.Facts) (hDInGdnRefIdeal : Cert.DInGdnRefIdeal.Facts) (hDwInGdn : Cert.DwInGdn.Facts) (hDwInGdnIdeal : Cert.DwInGdnIdeal.Facts) (hDwInGdnRefIdeal : Cert.DwInGdnRefIdeal.Facts) (hMemKv : Cert.MemKv.Facts) (hMemKvIdeal : Cert.MemKvIdeal.Facts) (hMemKvRefIdeal : Cert.MemKvRefIdeal.Facts) (hDMemKv : Cert.DMemKv.Facts) (hDMemKvIdeal : Cert.DMemKvIdeal.Facts) (hDMemKvRefIdeal : Cert.DMemKvRefIdeal.Facts) (hDwMemKv : Cert.DwMemKv.Facts) (hDwMemKvIdeal : Cert.DwMemKvIdeal.Facts) (hDwMemKvRefIdeal : Cert.DwMemKvRefIdeal.Facts) (hNormF : Cert.NormF.Facts) (hNormFIdeal : Cert.NormFIdeal.Facts) (hNormFRefIdeal : Cert.NormFRefIdeal.Facts) (hNormM : Cert.NormM.Facts) (hNormMIdeal : Cert.NormMIdeal.Facts) (hNormMRefIdeal : Cert.NormMRefIdeal.Facts) (hNormD : Cert.NormD.Facts) (hNormDIdeal : Cert.NormDIdeal.Facts) (hNormDRefIdeal : Cert.NormDRefIdeal.Facts) (hGateF : Cert.GateF.Facts) (hGateFIdeal : Cert.GateFIdeal.Facts) (hGateFRefIdeal : Cert.GateFRefIdeal.Facts) (hAdam : Cert.Adam.Facts) (hAdamIdeal : Cert.AdamIdeal.Facts) (hAdamRefIdeal : Cert.AdamRefIdeal.Facts) (hLoss : Cert.Loss.Facts) (hLossIdeal : Cert.LossIdeal.Facts) (hLossRefIdeal : Cert.LossRefIdeal.Facts) (hAdamKv : Cert.AdamKv.Facts) (hAdamKvIdeal : Cert.AdamKvIdeal.Facts) (hAdamKvRefIdeal : Cert.AdamKvRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hAdamInSwa : Cert.AdamInSwa.Facts) (hAdamInSwaIdeal : Cert.AdamInSwaIdeal.Facts) (hAdamInSwaRefIdeal : Cert.AdamInSwaRefIdeal.Facts) (hAdamInRwkv : Cert.AdamInRwkv.Facts) (hAdamInRwkvIdeal : Cert.AdamInRwkvIdeal.Facts) (hAdamInRwkvRefIdeal : Cert.AdamInRwkvRefIdeal.Facts) (hAdamInGdn : Cert.AdamInGdn.Facts) (hAdamInGdnIdeal : Cert.AdamInGdnIdeal.Facts) (hAdamInGdnRefIdeal : Cert.AdamInGdnRefIdeal.Facts) (hAdamRank : Cert.AdamRank.Facts) (hAdamRankIdeal : Cert.AdamRankIdeal.Facts) (hAdamRankRefIdeal : Cert.AdamRankRefIdeal.Facts) (hAdamRankG : Cert.AdamRankG.Facts) (hAdamRankGIdeal : Cert.AdamRankGIdeal.Facts) (hAdamRankGRefIdeal : Cert.AdamRankGRefIdeal.Facts) (hAdamConvC : Cert.AdamConvC.Facts) (hAdamConvCIdeal : Cert.AdamConvCIdeal.Facts) (hAdamConvCRefIdeal : Cert.AdamConvCRefIdeal.Facts) (hAdamConv : Cert.AdamConv.Facts) (hAdamConvIdeal : Cert.AdamConvIdeal.Facts) (hAdamConvRefIdeal : Cert.AdamConvRefIdeal.Facts) (hAdamRep : Cert.AdamRep.Facts) (hAdamRepIdeal : Cert.AdamRepIdeal.Facts) (hAdamRepRefIdeal : Cert.AdamRepRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DHf (hDHf := hDHf)
    ∧ quiescent_DHfIdeal (hDHfIdeal := hDHfIdeal)
    ∧ quiescent_DHfRefIdeal (hDHfRefIdeal := hDHfRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DCat (hDCat := hDCat)
    ∧ quiescent_DCatIdeal (hDCatIdeal := hDCatIdeal)
    ∧ quiescent_DCatRefIdeal (hDCatRefIdeal := hDCatRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Norm (hNorm := hNorm)
    ∧ quiescent_NormIdeal (hNormIdeal := hNormIdeal)
    ∧ quiescent_NormRefIdeal (hNormRefIdeal := hNormRefIdeal)
    ∧ quiescent_InSwa (hInSwa := hInSwa)
    ∧ quiescent_InSwaIdeal (hInSwaIdeal := hInSwaIdeal)
    ∧ quiescent_InSwaRefIdeal (hInSwaRefIdeal := hInSwaRefIdeal)
    ∧ quiescent_DInSwa (hDInSwa := hDInSwa)
    ∧ quiescent_DInSwaIdeal (hDInSwaIdeal := hDInSwaIdeal)
    ∧ quiescent_DInSwaRefIdeal (hDInSwaRefIdeal := hDInSwaRefIdeal)
    ∧ quiescent_DwInSwa (hDwInSwa := hDwInSwa)
    ∧ quiescent_DwInSwaIdeal (hDwInSwaIdeal := hDwInSwaIdeal)
    ∧ quiescent_DwInSwaRefIdeal (hDwInSwaRefIdeal := hDwInSwaRefIdeal)
    ∧ quiescent_InRwkv (hInRwkv := hInRwkv)
    ∧ quiescent_InRwkvIdeal (hInRwkvIdeal := hInRwkvIdeal)
    ∧ quiescent_InRwkvRefIdeal (hInRwkvRefIdeal := hInRwkvRefIdeal)
    ∧ quiescent_DInRwkv (hDInRwkv := hDInRwkv)
    ∧ quiescent_DInRwkvIdeal (hDInRwkvIdeal := hDInRwkvIdeal)
    ∧ quiescent_DInRwkvRefIdeal (hDInRwkvRefIdeal := hDInRwkvRefIdeal)
    ∧ quiescent_DwInRwkv (hDwInRwkv := hDwInRwkv)
    ∧ quiescent_DwInRwkvIdeal (hDwInRwkvIdeal := hDwInRwkvIdeal)
    ∧ quiescent_DwInRwkvRefIdeal (hDwInRwkvRefIdeal := hDwInRwkvRefIdeal)
    ∧ quiescent_InGdn (hInGdn := hInGdn)
    ∧ quiescent_InGdnIdeal (hInGdnIdeal := hInGdnIdeal)
    ∧ quiescent_InGdnRefIdeal (hInGdnRefIdeal := hInGdnRefIdeal)
    ∧ quiescent_DInGdn (hDInGdn := hDInGdn)
    ∧ quiescent_DInGdnIdeal (hDInGdnIdeal := hDInGdnIdeal)
    ∧ quiescent_DInGdnRefIdeal (hDInGdnRefIdeal := hDInGdnRefIdeal)
    ∧ quiescent_DwInGdn (hDwInGdn := hDwInGdn)
    ∧ quiescent_DwInGdnIdeal (hDwInGdnIdeal := hDwInGdnIdeal)
    ∧ quiescent_DwInGdnRefIdeal (hDwInGdnRefIdeal := hDwInGdnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_DMemKv (hDMemKv := hDMemKv)
    ∧ quiescent_DMemKvIdeal (hDMemKvIdeal := hDMemKvIdeal)
    ∧ quiescent_DMemKvRefIdeal (hDMemKvRefIdeal := hDMemKvRefIdeal)
    ∧ quiescent_DwMemKv (hDwMemKv := hDwMemKv)
    ∧ quiescent_DwMemKvIdeal (hDwMemKvIdeal := hDwMemKvIdeal)
    ∧ quiescent_DwMemKvRefIdeal (hDwMemKvRefIdeal := hDwMemKvRefIdeal)
    ∧ quiescent_NormF (hNormF := hNormF)
    ∧ quiescent_NormFIdeal (hNormFIdeal := hNormFIdeal)
    ∧ quiescent_NormFRefIdeal (hNormFRefIdeal := hNormFRefIdeal)
    ∧ quiescent_NormM (hNormM := hNormM)
    ∧ quiescent_NormMIdeal (hNormMIdeal := hNormMIdeal)
    ∧ quiescent_NormMRefIdeal (hNormMRefIdeal := hNormMRefIdeal)
    ∧ quiescent_NormD (hNormD := hNormD)
    ∧ quiescent_NormDIdeal (hNormDIdeal := hNormDIdeal)
    ∧ quiescent_NormDRefIdeal (hNormDRefIdeal := hNormDRefIdeal)
    ∧ quiescent_GateF (hGateF := hGateF)
    ∧ quiescent_GateFIdeal (hGateFIdeal := hGateFIdeal)
    ∧ quiescent_GateFRefIdeal (hGateFRefIdeal := hGateFRefIdeal)
    ∧ quiescent_Adam (hAdam := hAdam)
    ∧ quiescent_AdamIdeal (hAdamIdeal := hAdamIdeal)
    ∧ quiescent_AdamRefIdeal (hAdamRefIdeal := hAdamRefIdeal)
    ∧ quiescent_Loss (hLoss := hLoss)
    ∧ quiescent_LossIdeal (hLossIdeal := hLossIdeal)
    ∧ quiescent_LossRefIdeal (hLossRefIdeal := hLossRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamInSwa (hAdamInSwa := hAdamInSwa)
    ∧ quiescent_AdamInSwaIdeal (hAdamInSwaIdeal := hAdamInSwaIdeal)
    ∧ quiescent_AdamInSwaRefIdeal (hAdamInSwaRefIdeal := hAdamInSwaRefIdeal)
    ∧ quiescent_AdamInRwkv (hAdamInRwkv := hAdamInRwkv)
    ∧ quiescent_AdamInRwkvIdeal (hAdamInRwkvIdeal := hAdamInRwkvIdeal)
    ∧ quiescent_AdamInRwkvRefIdeal (hAdamInRwkvRefIdeal := hAdamInRwkvRefIdeal)
    ∧ quiescent_AdamInGdn (hAdamInGdn := hAdamInGdn)
    ∧ quiescent_AdamInGdnIdeal (hAdamInGdnIdeal := hAdamInGdnIdeal)
    ∧ quiescent_AdamInGdnRefIdeal (hAdamInGdnRefIdeal := hAdamInGdnRefIdeal)
    ∧ quiescent_AdamRank (hAdamRank := hAdamRank)
    ∧ quiescent_AdamRankIdeal (hAdamRankIdeal := hAdamRankIdeal)
    ∧ quiescent_AdamRankRefIdeal (hAdamRankRefIdeal := hAdamRankRefIdeal)
    ∧ quiescent_AdamRankG (hAdamRankG := hAdamRankG)
    ∧ quiescent_AdamRankGIdeal (hAdamRankGIdeal := hAdamRankGIdeal)
    ∧ quiescent_AdamRankGRefIdeal (hAdamRankGRefIdeal := hAdamRankGRefIdeal)
    ∧ quiescent_AdamConvC (hAdamConvC := hAdamConvC)
    ∧ quiescent_AdamConvCIdeal (hAdamConvCIdeal := hAdamConvCIdeal)
    ∧ quiescent_AdamConvCRefIdeal (hAdamConvCRefIdeal := hAdamConvCRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DHf_DHfIdeal
    ∧ algebraic_DHfIdeal_DHfRefIdeal (hDHfIdeal := hDHfIdeal) (hDHfRefIdeal := hDHfRefIdeal)
    ∧ preserves_DwUp_DwUpIdeal
    ∧ algebraic_DwUpIdeal_DwUpRefIdeal (hDwUpIdeal := hDwUpIdeal) (hDwUpRefIdeal := hDwUpRefIdeal)
    ∧ preserves_DCat_DCatIdeal
    ∧ algebraic_DCatIdeal_DCatRefIdeal (hDCatIdeal := hDCatIdeal) (hDCatRefIdeal := hDCatRefIdeal)
    ∧ preserves_DwOut_DwOutIdeal
    ∧ algebraic_DwOutIdeal_DwOutRefIdeal (hDwOutIdeal := hDwOutIdeal) (hDwOutRefIdeal := hDwOutRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Norm_NormIdeal
    ∧ algebraic_NormIdeal_NormRefIdeal (hNormIdeal := hNormIdeal) (hNormRefIdeal := hNormRefIdeal)
    ∧ preserves_InSwa_InSwaIdeal
    ∧ algebraic_InSwaIdeal_InSwaRefIdeal (hInSwaIdeal := hInSwaIdeal) (hInSwaRefIdeal := hInSwaRefIdeal)
    ∧ preserves_DInSwa_DInSwaIdeal
    ∧ algebraic_DInSwaIdeal_DInSwaRefIdeal (hDInSwaIdeal := hDInSwaIdeal) (hDInSwaRefIdeal := hDInSwaRefIdeal)
    ∧ preserves_DwInSwa_DwInSwaIdeal
    ∧ algebraic_DwInSwaIdeal_DwInSwaRefIdeal (hDwInSwaIdeal := hDwInSwaIdeal) (hDwInSwaRefIdeal := hDwInSwaRefIdeal)
    ∧ preserves_InRwkv_InRwkvIdeal
    ∧ algebraic_InRwkvIdeal_InRwkvRefIdeal (hInRwkvIdeal := hInRwkvIdeal) (hInRwkvRefIdeal := hInRwkvRefIdeal)
    ∧ preserves_DInRwkv_DInRwkvIdeal
    ∧ algebraic_DInRwkvIdeal_DInRwkvRefIdeal (hDInRwkvIdeal := hDInRwkvIdeal) (hDInRwkvRefIdeal := hDInRwkvRefIdeal)
    ∧ preserves_DwInRwkv_DwInRwkvIdeal
    ∧ algebraic_DwInRwkvIdeal_DwInRwkvRefIdeal (hDwInRwkvIdeal := hDwInRwkvIdeal) (hDwInRwkvRefIdeal := hDwInRwkvRefIdeal)
    ∧ preserves_InGdn_InGdnIdeal
    ∧ algebraic_InGdnIdeal_InGdnRefIdeal (hInGdnIdeal := hInGdnIdeal) (hInGdnRefIdeal := hInGdnRefIdeal)
    ∧ preserves_DInGdn_DInGdnIdeal
    ∧ algebraic_DInGdnIdeal_DInGdnRefIdeal (hDInGdnIdeal := hDInGdnIdeal) (hDInGdnRefIdeal := hDInGdnRefIdeal)
    ∧ preserves_DwInGdn_DwInGdnIdeal
    ∧ algebraic_DwInGdnIdeal_DwInGdnRefIdeal (hDwInGdnIdeal := hDwInGdnIdeal) (hDwInGdnRefIdeal := hDwInGdnRefIdeal)
    ∧ preserves_MemKv_MemKvIdeal
    ∧ algebraic_MemKvIdeal_MemKvRefIdeal (hMemKvIdeal := hMemKvIdeal) (hMemKvRefIdeal := hMemKvRefIdeal)
    ∧ preserves_DMemKv_DMemKvIdeal
    ∧ algebraic_DMemKvIdeal_DMemKvRefIdeal (hDMemKvIdeal := hDMemKvIdeal) (hDMemKvRefIdeal := hDMemKvRefIdeal)
    ∧ preserves_DwMemKv_DwMemKvIdeal
    ∧ algebraic_DwMemKvIdeal_DwMemKvRefIdeal (hDwMemKvIdeal := hDwMemKvIdeal) (hDwMemKvRefIdeal := hDwMemKvRefIdeal)
    ∧ preserves_NormF_NormFIdeal
    ∧ algebraic_NormFIdeal_NormFRefIdeal (hNormFIdeal := hNormFIdeal) (hNormFRefIdeal := hNormFRefIdeal)
    ∧ preserves_NormM_NormMIdeal
    ∧ algebraic_NormMIdeal_NormMRefIdeal (hNormMIdeal := hNormMIdeal) (hNormMRefIdeal := hNormMRefIdeal)
    ∧ preserves_NormD_NormDIdeal
    ∧ algebraic_NormDIdeal_NormDRefIdeal (hNormDIdeal := hNormDIdeal) (hNormDRefIdeal := hNormDRefIdeal)
    ∧ preserves_GateF_GateFIdeal
    ∧ algebraic_GateFIdeal_GateFRefIdeal (hGateFIdeal := hGateFIdeal) (hGateFRefIdeal := hGateFRefIdeal)
    ∧ preserves_Adam_AdamIdeal
    ∧ algebraic_AdamIdeal_AdamRefIdeal (hAdamIdeal := hAdamIdeal) (hAdamRefIdeal := hAdamRefIdeal)
    ∧ preserves_Loss_LossIdeal
    ∧ algebraic_LossIdeal_LossRefIdeal (hLossIdeal := hLossIdeal) (hLossRefIdeal := hLossRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamInSwa_AdamInSwaIdeal
    ∧ algebraic_AdamInSwaIdeal_AdamInSwaRefIdeal (hAdamInSwaIdeal := hAdamInSwaIdeal) (hAdamInSwaRefIdeal := hAdamInSwaRefIdeal)
    ∧ preserves_AdamInRwkv_AdamInRwkvIdeal
    ∧ algebraic_AdamInRwkvIdeal_AdamInRwkvRefIdeal (hAdamInRwkvIdeal := hAdamInRwkvIdeal) (hAdamInRwkvRefIdeal := hAdamInRwkvRefIdeal)
    ∧ preserves_AdamInGdn_AdamInGdnIdeal
    ∧ algebraic_AdamInGdnIdeal_AdamInGdnRefIdeal (hAdamInGdnIdeal := hAdamInGdnIdeal) (hAdamInGdnRefIdeal := hAdamInGdnRefIdeal)
    ∧ preserves_AdamRank_AdamRankIdeal
    ∧ algebraic_AdamRankIdeal_AdamRankRefIdeal (hAdamRankIdeal := hAdamRankIdeal) (hAdamRankRefIdeal := hAdamRankRefIdeal)
    ∧ preserves_AdamRankG_AdamRankGIdeal
    ∧ algebraic_AdamRankGIdeal_AdamRankGRefIdeal (hAdamRankGIdeal := hAdamRankGIdeal) (hAdamRankGRefIdeal := hAdamRankGRefIdeal)
    ∧ preserves_AdamConvC_AdamConvCIdeal
    ∧ algebraic_AdamConvCIdeal_AdamConvCRefIdeal (hAdamConvCIdeal := hAdamConvCIdeal) (hAdamConvCRefIdeal := hAdamConvCRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamRep_AdamRepIdeal
    ∧ algebraic_AdamRepIdeal_AdamRepRefIdeal (hAdamRepIdeal := hAdamRepIdeal) (hAdamRepRefIdeal := hAdamRepRefIdeal)
-- ==== Pre_finite.lean ====
abbrev S2048x2560 : Shape := ⟨2, ![2048, 2560]⟩
abbrev S256x1024 : Shape := ⟨2, ![256, 1024]⟩
abbrev S2048x2048 : Shape := ⟨2, ![2048, 2048]⟩
abbrev S2048x512 : Shape := ⟨2, ![2048, 512]⟩
abbrev S_ : Shape := ⟨0, ![]⟩

class Facts : Prop where
  slices_S2048x2560_S2048x512_0_2048 : S2048x2560.Slices ![0, 2048] S2048x512
  bcast_S_S2048x512 : S_.BroadcastsInDim S2048x512 (![] : Fin 0 → Fin S2048x512.rank)
  bcast_S_S256x1024 : S_.BroadcastsInDim S256x1024 (![] : Fin 0 → Fin S256x1024.rank)
  slices_S2048x2048_S2048x512_0_1536 : S2048x2048.Slices ![0, 1536] S2048x512

variable [Facts]

def fn {F : FTy → Type} [FloatOps F] (main_arg0 : FVec F S2048x2560 .f32) (main_arg1 : FVec F S256x1024 .f32) (main_arg2 : FVec F S2048x2048 .f32) : IVec S2048x512 1 × IVec S256x1024 1 × IVec S2048x512 1 :=
  let main_v0 : FVec F S2048x512 .f32 := (extractStridedSlice S2048x512 ![0, 2048] · slices_S2048x2560_S2048x512_0_2048) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_v7 : FVec F S2048x512 .f32 := (extractStridedSlice S2048x512 ![0, 1536] · slices_S2048x2048_S2048x512_0_1536) main_arg2
  let main_v8 : FVec F S2048x512 .f32 := Host.absf main_v7
  let main_cst_1 : FVec F S_ .f32 := constant S_ .f32 0x7F800000#32
  let main_v9 : FVec F S2048x512 .f32 := broadcastInDim S2048x512 ![] bcast_S_S2048x512 main_cst_1
  let main_v10 : IVec S2048x512 1 := cmpf .olt main_v8 main_v9
  (main_v3, main_v6, main_v10)
-- ==== Pre_finite_gate.lean ====
abbrev S2048x11264 : Shape := ⟨2, ![2048, 11264]⟩
abbrev S3x11264 : Shape := ⟨2, ![3, 11264]⟩
abbrev S2048x5632 : Shape := ⟨2, ![2048, 5632]⟩
abbrev S_ : Shape := ⟨0, ![]⟩

class Facts : Prop where
  bcast_S_S2048x11264 : S_.BroadcastsInDim S2048x11264 (![] : Fin 0 → Fin S2048x11264.rank)
  bcast_S_S3x11264 : S_.BroadcastsInDim S3x11264 (![] : Fin 0 → Fin S3x11264.rank)
  bcast_S_S2048x5632 : S_.BroadcastsInDim S2048x5632 (![] : Fin 0 → Fin S2048x5632.rank)

variable [Facts]

def fn {F : FTy → Type} [FloatOps F] (main_arg0 : FVec F S2048x11264 .f32) (main_arg1 : FVec F S3x11264 .f32) (main_arg2 : FVec F S2048x5632 .f32) : IVec S2048x11264 1 × IVec S3x11264 1 × IVec S2048x5632 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_v3 : FVec F S3x11264 .f32 := Host.absf main_arg1
  let main_cst_0 : FVec F S_ .f32 := constant S_ .f32 0x7F800000#32
  let main_v4 : FVec F S3x11264 .f32 := broadcastInDim S3x11264 ![] bcast_S_S3x11264 main_cst_0
  let main_v5 : IVec S3x11264 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  (main_v2, main_v5, main_v8)
-- ==== Kernel.lean ====
abbrev S2048x2560 : Shape := ⟨2, ![2048, 2560]⟩
abbrev S256x1024 : Shape := ⟨2, ![256, 1024]⟩
abbrev S2048x2048 : Shape := ⟨2, ![2048, 2048]⟩
abbrev S2048x512 : Shape := ⟨2, ![2048, 512]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2560, .f32⟩
  | .hbm, ⟨1, _⟩ => ⟨S256x1024, .f32⟩
  | .hbm, ⟨2, _⟩ => ⟨S2048x2048, .f32⟩
  | .hbm, ⟨3, _⟩ => ⟨S2048x512, .bf16⟩
  | .hbm, ⟨4, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S256x1024, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F]
-- ==== ReferenceIdeal.lean ====
abbrev S2048x2560 : Shape := ⟨2, ![2048, 2560]⟩
abbrev S256x1024 : Shape := ⟨2, ![256, 1024]⟩
abbrev S2048x2048 : Shape := ⟨2, ![2048, 2048]⟩
abbrev S2048x512 : Shape := ⟨2, ![2048, 512]⟩
abbrev S1x2048x512 : Shape := ⟨3, ![1, 2048, 512]⟩
abbrev S1x256x1024 : Shape := ⟨3, ![1, 256, 1024]⟩
abbrev S1x2048x4x128 : Shape := ⟨4, ![1, 2048, 4, 128]⟩
abbrev S1x256x512 : Shape := ⟨3, ![1, 256, 512]⟩
abbrev S1x256x4x128 : Shape := ⟨4, ![1, 256, 4, 128]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x128x2048 : Shape := ⟨4, ![1, 4, 128, 2048]⟩
abbrev S1x4x128x256 : Shape := ⟨4, ![1, 4, 128, 256]⟩
abbrev S4x2048 : Shape := ⟨2, ![4, 2048]⟩
abbrev S1x4x256x128 : Shape := ⟨4, ![1, 4, 256, 128]⟩
abbrev S1x4x2048x128 : Shape := ⟨4, ![1, 4, 2048, 128]⟩

abbrev nBuf : Space → Nat
  | .hbm => 92
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S256x1024, .f32⟩
  | .hbm, ⟨2, _⟩ => ⟨S2048x2048, .f32⟩
  | .hbm, ⟨3, _⟩ => ⟨S2048x512, .f32⟩
  | .hbm, ⟨4, _⟩ => ⟨S1x2048x512, .f32⟩
  | .hbm, ⟨5, _⟩ => ⟨S1x256x1024, .f32⟩
  | .hbm, ⟨6, _⟩ => ⟨S1x2048x4x128, .f32⟩
  | .hbm, ⟨7, _⟩ => ⟨S1x256x512, .f32⟩
  | .hbm, ⟨8, _⟩ => ⟨S1x256x512, .f32⟩
  | .hbm, ⟨9, _⟩ => ⟨S1x256x4x128, .f32⟩
  | .hbm, ⟨10, _⟩ => ⟨S1x256x4x128, .f32⟩
  | .hbm, ⟨11, _⟩ => ⟨S1x4x2048x256, .f32⟩
  | .hbm, ⟨12, _⟩ => ⟨S_, .f32⟩
  | .hbm, ⟨13, _⟩ => ⟨S1x4x2048x256, .f32⟩
  | .hbm, ⟨14, _⟩ => ⟨S1x4x2048x256, .f32⟩
  | .hbm, ⟨15, _⟩ => ⟨S_, .f32⟩
  | .hbm, ⟨16, _⟩ => ⟨S1x4x2048, .f32⟩
  | .hbm, ⟨17, _⟩ => ⟨S1x4x2048x1, .f32⟩
  | .hbm, ⟨18, _⟩ => ⟨S1x4x2048x256, .f32⟩
  | .hbm, ⟨19, _⟩ => ⟨S1x4x2048x256, .i1⟩
  | .hbm, ⟨20, _⟩ => ⟨S1x4x2048x256, .f32⟩
  | .hbm, ⟨21, _⟩ => ⟨S_, .f32⟩
  | .hbm, ⟨22, _⟩ => ⟨S1x4x2048, .f32⟩
  | .hbm, ⟨23, _⟩ => ⟨S_, .f32⟩
  | .hbm, ⟨24, _⟩ => ⟨S1x4x2048, .f32⟩
  | .hbm, ⟨25, _⟩ => ⟨S1x4x2048, .f32⟩
  | .hbm, ⟨26, _⟩ => ⟨S_, .f32⟩
  | .hbm, ⟨27, _⟩ => ⟨S1x4x2048, .f32⟩
  | .hbm, ⟨28, _⟩ => ⟨S1x4x2048, .i1⟩
  | .hbm, ⟨29, _⟩ => ⟨S_, .f32⟩
  | .hbm, ⟨30, _⟩ => ⟨S1x4x2048, .f32⟩
  | .hbm, ⟨31, _⟩ => ⟨S1x4x2048, .i1⟩
  | .hbm, ⟨32, _⟩ => ⟨S_, .f32⟩
  | .hbm, ⟨33, _⟩ => ⟨S1x4x2048, .f32⟩
  | .hbm, ⟨34, _⟩ => ⟨S_, .f32⟩
  | .hbm, ⟨35, _⟩ => ⟨S1x4x2048, .f32⟩
  | .hbm, ⟨36, _⟩ => ⟨S_, .f32⟩
  | .hbm, ⟨37, _⟩ => ⟨S1x4x2048, .f32⟩
  | .hbm, ⟨38, _⟩ => ⟨S1x4x2048, .f32⟩
  | .hbm, ⟨39, _⟩ => ⟨S1x4x2048, .f32⟩
  | .hbm, ⟨40, _⟩ => ⟨S1x4x2048x1, .f32⟩
  | .hbm, ⟨41, _⟩ => ⟨S1x4x2048x256, .f32⟩
  | .hbm, ⟨42, _⟩ => ⟨S1x4x2048x256, .f32⟩
  | .hbm, ⟨43, _⟩ => ⟨S1x4x2048x256, .f32⟩
  | .hbm, ⟨44, _⟩ => ⟨S_, .f32⟩
  | .hbm, ⟨45, _⟩ => ⟨S1x4x2048, .f32⟩
  | .hbm, ⟨46, _⟩ => ⟨S1x4x2048x1, .f32⟩
  | .hbm, ⟨47, _⟩ => ⟨S1x4x2048x256, .f32⟩
  | .hbm, ⟨48, _⟩ => ⟨S1x4x2048x256, .f32⟩
  | .hbm, ⟨49, _⟩ => ⟨S1x4x2048x1, .f32⟩
  | .hbm, ⟨50, _⟩ => ⟨S_, .f32⟩
  | .hbm, ⟨51, _⟩ => ⟨S1x4x2048x1, .f32⟩
  | .hbm, ⟨52, _⟩ => ⟨S1x4x2048x1, .f32⟩
  | .hbm, ⟨53, _⟩ => ⟨S1x4x128x2048, .f32⟩
  | .hbm, ⟨54, _⟩ => ⟨S1x2048x4x128, .f32⟩
  | .hbm, ⟨55, _⟩ => ⟨S1x2048x512, .f32⟩
  | .hbm, ⟨56, _⟩ => ⟨S2048x512, .f32⟩
  | .hbm, ⟨57, _⟩ => ⟨S1x2048x512, .f32⟩
  | .hbm, ⟨58, _⟩ => ⟨S1x2048x4x128, .f32⟩
  | .hbm, ⟨59, _⟩ => ⟨S1x4x128x2048, .f32⟩
  | .hbm, ⟨60, _⟩ => ⟨S1x4x2048x256, .f32⟩
  | .hbm, ⟨61, _⟩ => ⟨S1x4x128x256, .f32⟩
  | .hbm, ⟨62, _⟩ => ⟨S1x256x4x128, .f32⟩
  | .hbm, ⟨63, _⟩ => ⟨S1x4x2048x256, .f32⟩
  | .hbm, ⟨64, _⟩ => ⟨S1x4x2048x256, .f32⟩
  | .hbm, ⟨65, _⟩ => ⟨S1x4x2048x256, .f32⟩
  | .hbm, ⟨66, _⟩ => ⟨S_, .f32⟩
  | .hbm, ⟨67, _⟩ => ⟨S1x4x2048, .f32⟩
  | .hbm, ⟨68, _⟩ => ⟨S1x4x2048x1, .f32⟩
  | .hbm, ⟨69, _⟩ => ⟨S1x4x2048x1, .f32⟩
  | .hbm, ⟨70, _⟩ => ⟨S1x4x2048x256, .f32⟩
  | .hbm, ⟨71, _⟩ => ⟨S1x4x2048x256, .f32⟩
  | .hbm, ⟨72, _⟩ => ⟨S_, .f32⟩
  | .hbm, ⟨73, _⟩ => ⟨S4x2048, .f32⟩
  | .hbm, ⟨74, _⟩ => ⟨S1x4x2048, .f32⟩
  | .hbm, ⟨75, _⟩ => ⟨S1x4x2048x256, .f32⟩
  | .hbm, ⟨76, _⟩ => ⟨S1x4x2048x256, .f32⟩
  | .hbm, ⟨77, _⟩ => ⟨S1x4x2048x256, .f32⟩
  | .hbm, ⟨78, _⟩ => ⟨S_, .f32⟩
  | .hbm, ⟨79, _⟩ => ⟨S1x4x2048x256, .f32⟩
  | .hbm, ⟨80, _⟩ => ⟨S1x4x2048x256, .f32⟩
  | .hbm, ⟨81, _⟩ => ⟨S1x4x256x128, .f32⟩
  | .hbm, ⟨82, _⟩ => ⟨S1x256x4x128, .f32⟩
  | .hbm, ⟨83, _⟩ => ⟨S1x4x2048x128, .f32⟩
  | .hbm, ⟨84, _⟩ => ⟨S1x2048x4x128, .f32⟩
  | .hbm, ⟨85, _⟩ => ⟨S1x256x512, .f32⟩
  | .hbm, ⟨86, _⟩ => ⟨S1x256x512, .f32⟩
  | .hbm, ⟨87, _⟩ => ⟨S1x256x1024, .f32⟩
  | .hbm, ⟨88, _⟩ => ⟨S1x2048x512, .f32⟩
  | .hbm, ⟨89, _⟩ => ⟨S2048x512, .f32⟩
  | .hbm, ⟨90, _⟩ => ⟨S2048x512, .bf16⟩
  | .hbm, ⟨91, _⟩ => ⟨S256x1024, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== DAct.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2048x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwDown.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DHf.lean ====
abbrev S2048x11264 : Shape := ⟨2, ![2048, 11264]⟩
abbrev S2048x2048 : Shape := ⟨2, ![2048, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHfRefIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwUp.lean ====
abbrev S2048x2048 : Shape := ⟨2, ![2048, 2048]⟩
abbrev S2048x11264 : Shape := ⟨2, ![2048, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x8x1408, .bf16⟩
  | .hbm, ⟨11, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DCat.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCatRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S2048x2048 : Shape := ⟨2, ![2048, 2048]⟩
abbrev S2048x11264 : Shape := ⟨2, ![2048, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S2048x2048 : Shape := ⟨2, ![2048, 2048]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gate.lean ====
abbrev S2048x11264 : Shape := ⟨2, ![2048, 11264]⟩
abbrev S3x11264 : Shape := ⟨2, ![3, 11264]⟩
abbrev S2048x5632 : Shape := ⟨2, ![2048, 5632]⟩
abbrev S3x5632 : Shape := ⟨2, ![3, 5632]⟩
abbrev S256x512 : Shape := ⟨2, ![256, 512]⟩
abbrev S8x512 : Shape := ⟨2, ![8, 512]⟩
abbrev S3x512 : Shape := ⟨2, ![3, 512]⟩
abbrev S272x512 : Shape := ⟨2, ![272, 512]⟩
abbrev S1x512 : Shape := ⟨2, ![1, 512]⟩
abbrev S512 : Shape := ⟨1, ![512]⟩

abbrev nBuf : Space → Nat
  | .hbm => 7
  | .vmem => 28
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S3x5632, .f32⟩
  | .hbm, ⟨6, _⟩ => ⟨S3x5632, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S3x512, .f32⟩
  | .local _ .vmem, ⟨25, _⟩ => ⟨S3x512, .f32⟩
  | .local _ .vmem, ⟨26, _⟩ => ⟨S3x512, .f32⟩
  | .local _ .vmem, ⟨27, _⟩ => ⟨S3x512, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c11_i32 : BitVec 32 := 11#32
  let v3 : BitVec 32 := Scalar.addi arg0 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== GateRefIdeal.lean ====
abbrev S2048x11264 : Shape := ⟨2, ![2048, 11264]⟩
abbrev S3x11264 : Shape := ⟨2, ![3, 11264]⟩
abbrev S2048x5632 : Shape := ⟨2, ![2048, 5632]⟩
abbrev S1x2048x11264 : Shape := ⟨3, ![1, 2048, 11264]⟩
abbrev S_ : Shape := ⟨0, ![]⟩
abbrev S1x2x11264 : Shape := ⟨3, ![1, 2, 11264]⟩
abbrev S1x2050x11264 : Shape := ⟨3, ![1, 2050, 11264]⟩
abbrev S1x11264 : Shape := ⟨2, ![1, 11264]⟩
abbrev S11264 : Shape := ⟨1, ![11264]⟩
abbrev S1x1x11264 : Shape := ⟨3, ![1, 1, 11264]⟩
abbrev S1x2048x5632 : Shape := ⟨3, ![1, 2048, 5632]⟩
abbrev S3x5632 : Shape := ⟨2, ![3, 5632]⟩

abbrev nBuf : Space → Nat
  | .hbm => 105
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S2048x5632, .f32⟩
  | .hbm, ⟨3, _⟩ => ⟨S1x2048x11264, .f32⟩
  | .hbm, ⟨4, _⟩ => ⟨S_, .f32⟩
  | .hbm, ⟨5, _⟩ => ⟨S1x2x11264, .f32⟩
  | .hbm, ⟨6, _⟩ => ⟨S1x2050x11264, .f32⟩
  | .hbm, ⟨7, _⟩ => ⟨S_, .f32⟩
  | .hbm, ⟨8, _⟩ => ⟨S1x2x11264, .f32⟩
  | .hbm, ⟨9, _⟩ => ⟨S1x2048x11264, .f32⟩
  | .hbm, ⟨10, _⟩ => ⟨S1x11264, .f32⟩
  | .hbm, ⟨11, _⟩ => ⟨S11264, .f32⟩
  | .hbm, ⟨12, _⟩ => ⟨S1x1x11264, .f32⟩
  | .hbm, ⟨13, _⟩ => ⟨S1x2048x11264, .f32⟩
  | .hbm, ⟨14, _⟩ => ⟨S1x2048x11264, .f32⟩
  | .hbm, ⟨15, _⟩ => ⟨S1x2048x11264, .f32⟩
  | .hbm, ⟨16, _⟩ => ⟨S1x11264, .f32⟩
  | .hbm, ⟨17, _⟩ => ⟨S11264, .f32⟩
  | .hbm, ⟨18, _⟩ => ⟨S1x1x11264, .f32⟩
  | .hbm, ⟨19, _⟩ => ⟨S1x2048x11264, .f32⟩
  | .hbm, ⟨20, _⟩ => ⟨S1x2048x11264, .f32⟩
  | .hbm, ⟨21, _⟩ => ⟨S1x2048x11264, .f32⟩
  | .hbm, ⟨22, _⟩ => ⟨S1x2048x11264, .f32⟩
  | .hbm, ⟨23, _⟩ => ⟨S1x11264, .f32⟩
  | .hbm, ⟨24, _⟩ => ⟨S11264, .f32⟩
  | .hbm, ⟨25, _⟩ => ⟨S1x1x11264, .f32⟩
  | .hbm, ⟨26, _⟩ => ⟨S1x2048x11264, .f32⟩
  | .hbm, ⟨27, _⟩ => ⟨S1x2048x11264, .f32⟩
  | .hbm, ⟨28, _⟩ => ⟨S1x2048x11264, .f32⟩
  | .hbm, ⟨29, _⟩ => ⟨S1x2048x5632, .f32⟩
  | .hbm, ⟨30, _⟩ => ⟨S1x2048x5632, .f32⟩
  | .hbm, ⟨31, _⟩ => ⟨S1x2048x5632, .f32⟩
  | .hbm, ⟨32, _⟩ => ⟨S1x2048x5632, .f32⟩
  | .hbm, ⟨33, _⟩ => ⟨S_, .f32⟩
  | .hbm, ⟨34, _⟩ => ⟨S1x2048x5632, .f32⟩
  | .hbm, ⟨35, _⟩ => ⟨S1x2048x5632, .f32⟩
  | .hbm, ⟨36, _⟩ => ⟨S_, .f32⟩
  | .hbm, ⟨37, _⟩ => ⟨S1x2048x5632, .f32⟩
  | .hbm, ⟨38, _⟩ => ⟨S1x2048x5632, .f32⟩
  | .hbm, ⟨39, _⟩ => ⟨S_, .f32⟩
  | .hbm, ⟨40, _⟩ => ⟨S1x2048x5632, .f32⟩
  | .hbm, ⟨41, _⟩ => ⟨S1x2048x5632, .f32⟩
  | .hbm, ⟨42, _⟩ => ⟨S1x2048x5632, .f32⟩
  | .hbm, ⟨43, _⟩ => ⟨S1x2048x5632, .f32⟩
  | .hbm, ⟨44, _⟩ => ⟨S1x2048x5632, .f32⟩
  | .hbm, ⟨45, _⟩ => ⟨S1x2048x5632, .f32⟩
  | .hbm, ⟨46, _⟩ => ⟨S1x2048x5632, .f32⟩
  | .hbm, ⟨47, _⟩ => ⟨S1x2048x5632, .f32⟩
  | .hbm, ⟨48, _⟩ => ⟨S1x2048x5632, .f32⟩
  | .hbm, ⟨49, _⟩ => ⟨S1x2048x5632, .f32⟩
  | .hbm, ⟨50, _⟩ => ⟨S1x2048x5632, .f32⟩
  | .hbm, ⟨51, _⟩ => ⟨S1x2048x5632, .f32⟩
  | .hbm, ⟨52, _⟩ => ⟨S1x2048x11264, .f32⟩
  | .hbm, ⟨53, _⟩ => ⟨S1x2048x11264, .f32⟩
  | .hbm, ⟨54, _⟩ => ⟨S_, .f32⟩
  | .hbm, ⟨55, _⟩ => ⟨S1x11264, .f32⟩
  | .hbm, ⟨56, _⟩ => ⟨S1x1x11264, .f32⟩
  | .hbm, ⟨57, _⟩ => ⟨S1x2048x11264, .f32⟩
  | .hbm, ⟨58, _⟩ => ⟨S1x2048x11264, .f32⟩
  | .hbm, ⟨59, _⟩ => ⟨S_, .f32⟩
  | .hbm, ⟨60, _⟩ => ⟨S11264, .f32⟩
  | .hbm, ⟨61, _⟩ => ⟨S1x11264, .f32⟩
  | .hbm, ⟨62, _⟩ => ⟨S_, .f32⟩
  | .hbm, ⟨63, _⟩ => ⟨S3x11264, .f32⟩
  | .hbm, ⟨64, _⟩ => ⟨S_, .f32⟩
  | .hbm, ⟨65, _⟩ => ⟨S1x2050x11264, .f32⟩
  | .hbm, ⟨66, _⟩ => ⟨S1x2048x11264, .f32⟩
  | .hbm, ⟨67, _⟩ => ⟨S_, .f32⟩
  | .hbm, ⟨68, _⟩ => ⟨S1x11264, .f32⟩
  | .hbm, ⟨69, _⟩ => ⟨S1x1x11264, .f32⟩
  | .hbm, ⟨70, _⟩ => ⟨S1x2048x11264, .f32⟩
  | .hbm, ⟨71, _⟩ => ⟨S1x2048x11264, .f32⟩
  | .hbm, ⟨72, _⟩ => ⟨S_, .f32⟩
  | .hbm, ⟨73, _⟩ => ⟨S11264, .f32⟩
  | .hbm, ⟨74, _⟩ => ⟨S1x11264, .f32⟩
  | .hbm, ⟨75, _⟩ => ⟨S_, .f32⟩
  | .hbm, ⟨76, _⟩ => ⟨S3x11264, .f32⟩
  | .hbm, ⟨77, _⟩ => ⟨S3x11264, .f32⟩
  | .hbm, ⟨78, _⟩ => ⟨S_, .f32⟩
  | .hbm, ⟨79, _⟩ => ⟨S1x2050x11264, .f32⟩
  | .hbm, ⟨80, _⟩ => ⟨S1x2050x11264, .f32⟩
  | .hbm, ⟨81, _⟩ => ⟨S1x2048x11264, .f32⟩
  | .hbm, ⟨82, _⟩ => ⟨S_, .f32⟩
  | .hbm, ⟨83, _⟩ => ⟨S1x11264, .f32⟩
  | .hbm, ⟨84, _⟩ => ⟨S1x1x11264, .f32⟩
  | .hbm, ⟨85, _⟩ => ⟨S1x2048x11264, .f32⟩
  | .hbm, ⟨86, _⟩ => ⟨S1x2048x11264, .f32⟩
  | .hbm, ⟨87, _⟩ => ⟨S_, .f32⟩
  | .hbm, ⟨88, _⟩ => ⟨S11264, .f32⟩
  | .hbm, ⟨89, _⟩ => ⟨S1x11264, .f32⟩
  | .hbm, ⟨90, _⟩ => ⟨S_, .f32⟩
  | .hbm, ⟨91, _⟩ => ⟨S3x11264, .f32⟩
  | .hbm, ⟨92, _⟩ => ⟨S3x11264, .f32⟩
  | .hbm, ⟨93, _⟩ => ⟨S_, .f32⟩
  | .hbm, ⟨94, _⟩ => ⟨S1x2050x11264, .f32⟩
  | .hbm, ⟨95, _⟩ => ⟨S1x2050x11264, .f32⟩
  | .hbm, ⟨96, _⟩ => ⟨S1x2x11264, .f32⟩
  | .hbm, ⟨97, _⟩ => ⟨S1x2048x11264, .f32⟩
  | .hbm, ⟨98, _⟩ => ⟨S2048x11264, .f32⟩
  | .hbm, ⟨99, _⟩ => ⟨S2048x5632, .f32⟩
  | .hbm, ⟨100, _⟩ => ⟨S2048x5632, .f32⟩
  | .hbm, ⟨101, _⟩ => ⟨S3x5632, .f32⟩
  | .hbm, ⟨102, _⟩ => ⟨S3x5632, .f32⟩
  | .hbm, ⟨103, _⟩ => ⟨S2048x5632, .bf16⟩
  | .hbm, ⟨104, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v26_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v26_1 : Ref sig .tc := ⟨.hbm, 42, rfl⟩
abbrev main_v26_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InSwa.lean ====
abbrev S2048x2048 : Shape := ⟨2, ![2048, 2048]⟩
abbrev S2048x2560 : Shape := ⟨2, ![2048, 2560]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S2048x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSwaIdeal.lean ====
abbrev S2048x2048 : Shape := ⟨2, ![2048, 2048]⟩
abbrev S2048x2560 : Shape := ⟨2, ![2048, 2560]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S2048x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSwaRefIdeal.lean ====
abbrev S2048x2048 : Shape := ⟨2, ![2048, 2048]⟩
abbrev S2048x2560 : Shape := ⟨2, ![2048, 2560]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S2048x2048, .f32⟩
  | .hbm, ⟨3, _⟩ => ⟨S2048x2560, .f32⟩
  | .hbm, ⟨4, _⟩ => ⟨S2048x2560, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DInSwa.lean ====
abbrev S2048x2560 : Shape := ⟨2, ![2048, 2560]⟩
abbrev S2048x2048 : Shape := ⟨2, ![2048, 2048]⟩
abbrev S1024x2560 : Shape := ⟨2, ![1024, 2560]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .bf16⟩
  | .hbm, ⟨2, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInSwaIdeal.lean ====
abbrev S2048x2560 : Shape := ⟨2, ![2048, 2560]⟩
abbrev S2048x2048 : Shape := ⟨2, ![2048, 2048]⟩
abbrev S1024x2560 : Shape := ⟨2, ![1024, 2560]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .bf16⟩
  | .hbm, ⟨2, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInSwaRefIdeal.lean ====
abbrev S2048x2560 : Shape := ⟨2, ![2048, 2560]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .bf16⟩
  | .hbm, ⟨2, _⟩ => ⟨S_, .f32⟩
  | .hbm, ⟨3, _⟩ => ⟨S2048x2048, .f32⟩
  | .hbm, ⟨4, _⟩ => ⟨S2048x2560, .f32⟩
  | .hbm, ⟨5, _⟩ => ⟨S2048x2560, .f32⟩
  | .hbm, ⟨6, _⟩ => ⟨S2048x2560, .f32⟩
  | .hbm, ⟨7, _⟩ => ⟨S2048x2048, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwInSwa.lean ====
abbrev S2048x2048 : Shape := ⟨2, ![2048, 2048]⟩
abbrev S2048x2560 : Shape := ⟨2, ![2048, 2560]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S2048x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInSwaIdeal.lean ====
abbrev S2048x2048 : Shape := ⟨2, ![2048, 2048]⟩
abbrev S2048x2560 : Shape := ⟨2, ![2048, 2560]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S2048x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInSwaRefIdeal.lean ====
abbrev S2048x2048 : Shape := ⟨2, ![2048, 2048]⟩
abbrev S2048x2560 : Shape := ⟨2, ![2048, 2560]⟩
abbrev S_ : Shape := ⟨0, ![]⟩
abbrev S2560x2048 : Shape := ⟨2, ![2560, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S_, .f32⟩
  | .hbm, ⟨3, _⟩ => ⟨S2048x2560, .f32⟩
  | .hbm, ⟨4, _⟩ => ⟨S2048x2048, .f32⟩
  | .hbm, ⟨5, _⟩ => ⟨S2048x2560, .f32⟩
  | .hbm, ⟨6, _⟩ => ⟨S2048x2560, .f32⟩
  | .hbm, ⟨7, _⟩ => ⟨S2560x2048, .f32⟩
  | .hbm, ⟨8, _⟩ => ⟨S2048x2560, .f32⟩
  | .hbm, ⟨9, _⟩ => ⟨S2048x2560, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InRwkv.lean ====
abbrev S2048x2048 : Shape := ⟨2, ![2048, 2048]⟩
abbrev S2048x5632 : Shape := ⟨2, ![2048, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRwkvIdeal.lean ====
abbrev S2048x2048 : Shape := ⟨2, ![2048, 2048]⟩
abbrev S2048x5632 : Shape := ⟨2, ![2048, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRwkvRefIdeal.lean ====
abbrev S2048x2048 : Shape := ⟨2, ![2048, 2048]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DInRwkv.lean ====
abbrev S2048x5632 : Shape := ⟨2, ![2048, 5632]⟩
abbrev S2048x2048 : Shape := ⟨2, ![2048, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRwkvIdeal.lean ====
abbrev S2048x5632 : Shape := ⟨2, ![2048, 5632]⟩
abbrev S2048x2048 : Shape := ⟨2, ![2048, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRwkvRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S_, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwInRwkv.lean ====
abbrev S2048x2048 : Shape := ⟨2, ![2048, 2048]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRwkvIdeal.lean ====
abbrev S2048x2048 : Shape := ⟨2, ![2048, 2048]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRwkvRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InGdn.lean ====
abbrev S2048x2048 : Shape := ⟨2, ![2048, 2048]⟩
abbrev S2048x5376 : Shape := ⟨2, ![2048, 5376]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5376, .bf16⟩
  | .hbm, ⟨2, _⟩ => ⟨S2048x5376, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGdnRefIdeal.lean ====
abbrev S2048x2048 : Shape := ⟨2, ![2048, 2048]⟩
abbrev S2048x5376 : Shape := ⟨2, ![2048, 5376]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5376, .bf16⟩
  | .hbm, ⟨2, _⟩ => ⟨S2048x2048, .f32⟩
  | .hbm, ⟨3, _⟩ => ⟨S2048x5376, .f32⟩
  | .hbm, ⟨4, _⟩ => ⟨S2048x5376, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DInGdn.lean ====
abbrev S2048x5376 : Shape := ⟨2, ![2048, 5376]⟩
abbrev S2048x2048 : Shape := ⟨2, ![2048, 2048]⟩
abbrev S1024x2688 : Shape := ⟨2, ![1024, 2688]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .bf16⟩
  | .hbm, ⟨2, _⟩ => ⟨S2048x2048, .f32⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInGdnRefIdeal.lean ====
abbrev S2048x5376 : Shape := ⟨2, ![2048, 5376]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .bf16⟩
  | .hbm, ⟨2, _⟩ => ⟨S_, .f32⟩
  | .hbm, ⟨3, _⟩ => ⟨S2048x2048, .f32⟩
  | .hbm, ⟨4, _⟩ => ⟨S2048x5376, .f32⟩
  | .hbm, ⟨5, _⟩ => ⟨S2048x5376, .f32⟩
  | .hbm, ⟨6, _⟩ => ⟨S2048x5376, .f32⟩
  | .hbm, ⟨7, _⟩ => ⟨S2048x2048, .f32⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwInGdn.lean ====
abbrev S2048x2048 : Shape := ⟨2, ![2048, 2048]⟩
abbrev S2048x5376 : Shape := ⟨2, ![2048, 5376]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5376, .bf16⟩
  | .hbm, ⟨2, _⟩ => ⟨S2048x5376, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInGdnRefIdeal.lean ====
abbrev S2048x2048 : Shape := ⟨2, ![2048, 2048]⟩
abbrev S2048x5376 : Shape := ⟨2, ![2048, 5376]⟩
abbrev S_ : Shape := ⟨0, ![]⟩
abbrev S5376x2048 : Shape := ⟨2, ![5376, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5376, .bf16⟩
  | .hbm, ⟨2, _⟩ => ⟨S_, .f32⟩
  | .hbm, ⟨3, _⟩ => ⟨S2048x5376, .f32⟩
  | .hbm, ⟨4, _⟩ => ⟨S2048x2048, .f32⟩
  | .hbm, ⟨5, _⟩ => ⟨S2048x5376, .f32⟩
  | .hbm, ⟨6, _⟩ => ⟨S2048x5376, .f32⟩
  | .hbm, ⟨7, _⟩ => ⟨S5376x2048, .f32⟩
  | .hbm, ⟨8, _⟩ => ⟨S2048x5376, .f32⟩
  | .hbm, ⟨9, _⟩ => ⟨S2048x5376, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemKv.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DMemKv.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMemKvRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwMemKv.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMemKvRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormF.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFIdeal.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormM.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormD.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S256x2048, .f32⟩
  | .hbm, ⟨5, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormDRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== GateF.lean ====
abbrev S2048x11264 : Shape := ⟨2, ![2048, 11264]⟩
abbrev S3x11264 : Shape := ⟨2, ![3, 11264]⟩
abbrev S2048x5632 : Shape := ⟨2, ![2048, 5632]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩
abbrev S248x512 : Shape := ⟨2, ![248, 512]⟩

abbrev nBuf : Space → Nat
  | .hbm => 3
  | .vmem => 14
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S2048x5632, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S256x512, .bf16⟩
  | .local _ .vmem, ⟨13, _⟩ => ⟨S256x512, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateFRefIdeal.lean ====
abbrev S2048x11264 : Shape := ⟨2, ![2048, 11264]⟩
abbrev S3x11264 : Shape := ⟨2, ![3, 11264]⟩
abbrev S1x2048x11264 : Shape := ⟨3, ![1, 2048, 11264]⟩
abbrev S_ : Shape := ⟨0, ![]⟩
abbrev S1x2x11264 : Shape := ⟨3, ![1, 2, 11264]⟩
abbrev S1x2050x11264 : Shape := ⟨3, ![1, 2050, 11264]⟩
abbrev S1x11264 : Shape := ⟨2, ![1, 11264]⟩
abbrev S11264 : Shape := ⟨1, ![11264]⟩
abbrev S1x1x11264 : Shape := ⟨3, ![1, 1, 11264]⟩
abbrev S1x2048x5632 : Shape := ⟨3, ![1, 2048, 5632]⟩
abbrev S2048x5632 : Shape := ⟨2, ![2048, 5632]⟩

abbrev nBuf : Space → Nat
  | .hbm => 40
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S1x2048x11264, .f32⟩
  | .hbm, ⟨3, _⟩ => ⟨S_, .f32⟩
  | .hbm, ⟨4, _⟩ => ⟨S1x2x11264, .f32⟩
  | .hbm, ⟨5, _⟩ => ⟨S1x2050x11264, .f32⟩
  | .hbm, ⟨6, _⟩ => ⟨S1x2048x11264, .f32⟩
  | .hbm, ⟨7, _⟩ => ⟨S1x11264, .f32⟩
  | .hbm, ⟨8, _⟩ => ⟨S11264, .f32⟩
  | .hbm, ⟨9, _⟩ => ⟨S1x1x11264, .f32⟩
  | .hbm, ⟨10, _⟩ => ⟨S1x2048x11264, .f32⟩
  | .hbm, ⟨11, _⟩ => ⟨S1x2048x11264, .f32⟩
  | .hbm, ⟨12, _⟩ => ⟨S1x2048x11264, .f32⟩
  | .hbm, ⟨13, _⟩ => ⟨S1x11264, .f32⟩
  | .hbm, ⟨14, _⟩ => ⟨S11264, .f32⟩
  | .hbm, ⟨15, _⟩ => ⟨S1x1x11264, .f32⟩
  | .hbm, ⟨16, _⟩ => ⟨S1x2048x11264, .f32⟩
  | .hbm, ⟨17, _⟩ => ⟨S1x2048x11264, .f32⟩
  | .hbm, ⟨18, _⟩ => ⟨S1x2048x11264, .f32⟩
  | .hbm, ⟨19, _⟩ => ⟨S1x2048x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S1x2048x11264, .f32⟩
  | .hbm, ⟨24, _⟩ => ⟨S1x2048x11264, .f32⟩
  | .hbm, ⟨25, _⟩ => ⟨S1x2048x11264, .f32⟩
  | .hbm, ⟨26, _⟩ => ⟨S1x2048x5632, .f32⟩
  | .hbm, ⟨27, _⟩ => ⟨S1x2048x5632, .f32⟩
  | .hbm, ⟨28, _⟩ => ⟨S1x2048x5632, .f32⟩
  | .hbm, ⟨29, _⟩ => ⟨S1x2048x5632, .f32⟩
  | .hbm, ⟨30, _⟩ => ⟨S_, .f32⟩
  | .hbm, ⟨31, _⟩ => ⟨S1x2048x5632, .f32⟩
  | .hbm, ⟨32, _⟩ => ⟨S1x2048x5632, .f32⟩
  | .hbm, ⟨33, _⟩ => ⟨S_, .f32⟩
  | .hbm, ⟨34, _⟩ => ⟨S1x2048x5632, .f32⟩
  | .hbm, ⟨35, _⟩ => ⟨S1x2048x5632, .f32⟩
  | .hbm, ⟨36, _⟩ => ⟨S1x2048x5632, .f32⟩
  | .hbm, ⟨37, _⟩ => ⟨S1x2048x5632, .f32⟩
  | .hbm, ⟨38, _⟩ => ⟨S2048x5632, .f32⟩
  | .hbm, ⟨39, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Adam.lean ====
abbrev S8x2048x1408 : Shape := ⟨3, ![8, 2048, 1408]⟩
abbrev S2048x1408 : Shape := ⟨2, ![2048, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
abbrev S8x2048x1408 : Shape := ⟨3, ![8, 2048, 1408]⟩
abbrev S2048x1408 : Shape := ⟨2, ![2048, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Loss.lean ====
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S1x128, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S1x128, .f32⟩
  | .hbm, ⟨72, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamKv.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvIdeal.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInSwa.lean ====
abbrev S8x2048x320 : Shape := ⟨3, ![8, 2048, 320]⟩
abbrev S2048x320 : Shape := ⟨2, ![2048, 320]⟩
abbrev S8x128x320 : Shape := ⟨3, ![8, 128, 320]⟩
abbrev S128x320 : Shape := ⟨2, ![128, 320]⟩
abbrev S1x128x320 : Shape := ⟨3, ![1, 128, 320]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x320, .bf16⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .local _ .vmem, ⟨0, _⟩ => ⟨S8x128x320, .bf16⟩
  | .local _ .vmem, ⟨1, _⟩ => ⟨S8x128x320, .bf16⟩
  | .local _ .vmem, ⟨2, _⟩ => ⟨S128x320, .f32⟩
  | .local _ .vmem, ⟨3, _⟩ => ⟨S128x320, .f32⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S128x320, .f32⟩
  | .local _ .vmem, ⟨8, _⟩ => ⟨S128x320, .f32⟩
  | .local _ .vmem, ⟨9, _⟩ => ⟨S128x320, .f32⟩
  | .local _ .vmem, ⟨10, _⟩ => ⟨S128x320, .f32⟩
  | .local _ .vmem, ⟨11, _⟩ => ⟨S128x320, .f32⟩
  | .local _ .vmem, ⟨12, _⟩ => ⟨S128x320, .f32⟩
  | .local _ .vmem, ⟨13, _⟩ => ⟨S128x320, .f32⟩
  | .local _ .vmem, ⟨14, _⟩ => ⟨S128x320, .f32⟩
  | .local _ .vmem, ⟨15, _⟩ => ⟨S128x320, .f32⟩
  | _, _ => ⟨S8x2048x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInSwaIdeal.lean ====
abbrev S8x2048x320 : Shape := ⟨3, ![8, 2048, 320]⟩
abbrev S2048x320 : Shape := ⟨2, ![2048, 320]⟩
abbrev S8x128x320 : Shape := ⟨3, ![8, 128, 320]⟩
abbrev S128x320 : Shape := ⟨2, ![128, 320]⟩
abbrev S1x128x320 : Shape := ⟨3, ![1, 128, 320]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x320, .bf16⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .local _ .vmem, ⟨0, _⟩ => ⟨S8x128x320, .bf16⟩
  | .local _ .vmem, ⟨1, _⟩ => ⟨S8x128x320, .bf16⟩
  | .local _ .vmem, ⟨2, _⟩ => ⟨S128x320, .f32⟩
  | .local _ .vmem, ⟨3, _⟩ => ⟨S128x320, .f32⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S128x320, .f32⟩
  | .local _ .vmem, ⟨8, _⟩ => ⟨S128x320, .f32⟩
  | .local _ .vmem, ⟨9, _⟩ => ⟨S128x320, .f32⟩
  | .local _ .vmem, ⟨10, _⟩ => ⟨S128x320, .f32⟩
  | .local _ .vmem, ⟨11, _⟩ => ⟨S128x320, .f32⟩
  | .local _ .vmem, ⟨12, _⟩ => ⟨S128x320, .f32⟩
  | .local _ .vmem, ⟨13, _⟩ => ⟨S128x320, .f32⟩
  | .local _ .vmem, ⟨14, _⟩ => ⟨S128x320, .f32⟩
  | .local _ .vmem, ⟨15, _⟩ => ⟨S128x320, .f32⟩
  | _, _ => ⟨S8x2048x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInSwaRefIdeal.lean ====
abbrev S8x2048x320 : Shape := ⟨3, ![8, 2048, 320]⟩
abbrev S2048x320 : Shape := ⟨2, ![2048, 320]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x320, .bf16⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S8x2048x320, .f32⟩
  | .hbm, ⟨5, _⟩ => ⟨S_, .f32⟩
  | .hbm, ⟨6, _⟩ => ⟨S2048x320, .f32⟩
  | .hbm, ⟨7, _⟩ => ⟨S_, .f32⟩
  | .hbm, ⟨8, _⟩ => ⟨S2048x320, .f32⟩
  | .hbm, ⟨9, _⟩ => ⟨S2048x320, .f32⟩
  | .hbm, ⟨10, _⟩ => ⟨S_, .f32⟩
  | .hbm, ⟨11, _⟩ => ⟨S2048x320, .f32⟩
  | .hbm, ⟨12, _⟩ => ⟨S2048x320, .f32⟩
  | .hbm, ⟨13, _⟩ => ⟨S2048x320, .f32⟩
  | .hbm, ⟨14, _⟩ => ⟨S_, .f32⟩
  | .hbm, ⟨15, _⟩ => ⟨S2048x320, .f32⟩
  | .hbm, ⟨16, _⟩ => ⟨S2048x320, .f32⟩
  | .hbm, ⟨17, _⟩ => ⟨S2048x320, .f32⟩
  | .hbm, ⟨18, _⟩ => ⟨S_, .f32⟩
  | .hbm, ⟨19, _⟩ => ⟨S2048x320, .f32⟩
  | .hbm, ⟨20, _⟩ => ⟨S2048x320, .f32⟩
  | .hbm, ⟨21, _⟩ => ⟨S2048x320, .f32⟩
  | .hbm, ⟨22, _⟩ => ⟨S_, .f32⟩
  | .hbm, ⟨23, _⟩ => ⟨S2048x320, .f32⟩
  | .hbm, ⟨24, _⟩ => ⟨S2048x320, .f32⟩
  | .hbm, ⟨25, _⟩ => ⟨S_, .f32⟩
  | .hbm, ⟨26, _⟩ => ⟨S2048x320, .f32⟩
  | .hbm, ⟨27, _⟩ => ⟨S2048x320, .f32⟩
  | .hbm, ⟨28, _⟩ => ⟨S2048x320, .f32⟩
  | .hbm, ⟨29, _⟩ => ⟨S_, .f32⟩
  | .hbm, ⟨30, _⟩ => ⟨S2048x320, .f32⟩
  | .hbm, ⟨31, _⟩ => ⟨S2048x320, .f32⟩
  | .hbm, ⟨32, _⟩ => ⟨S2048x320, .f32⟩
  | .hbm, ⟨33, _⟩ => ⟨S_, .f32⟩
  | .hbm, ⟨34, _⟩ => ⟨S2048x320, .f32⟩
  | .hbm, ⟨35, _⟩ => ⟨S2048x320, .f32⟩
  | .hbm, ⟨36, _⟩ => ⟨S2048x320, .f32⟩
  | .hbm, ⟨37, _⟩ => ⟨S_, .f32⟩
  | .hbm, ⟨38, _⟩ => ⟨S2048x320, .f32⟩
  | .hbm, ⟨39, _⟩ => ⟨S2048x320, .f32⟩
  | _, _ => ⟨S8x2048x320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInRwkv.lean ====
abbrev S8x2048x696 : Shape := ⟨3, ![8, 2048, 696]⟩
abbrev S2048x696 : Shape := ⟨2, ![2048, 696]⟩
abbrev S8x128x696 : Shape := ⟨3, ![8, 128, 696]⟩
abbrev S128x696 : Shape := ⟨2, ![128, 696]⟩
abbrev S1x128x696 : Shape := ⟨3, ![1, 128, 696]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x696, .bf16⟩
  | .hbm, ⟨1, _⟩ => ⟨S2048x696, .f32⟩
  | .hbm, ⟨2, _⟩ => ⟨S2048x696, .f32⟩
  | .hbm, ⟨3, _⟩ => ⟨S2048x696, .f32⟩
  | .hbm, ⟨4, _⟩ => ⟨S2048x696, .f32⟩
  | .hbm, ⟨5, _⟩ => ⟨S2048x696, .f32⟩
  | .hbm, ⟨6, _⟩ => ⟨S2048x696, .f32⟩
  | .hbm, ⟨7, _⟩ => ⟨S2048x696, .f32⟩
  | .local _ .vmem, ⟨0, _⟩ => ⟨S8x128x696, .bf16⟩
  | .local _ .vmem, ⟨1, _⟩ => ⟨S8x128x696, .bf16⟩
  | .local _ .vmem, ⟨2, _⟩ => ⟨S128x696, .f32⟩
  | .local _ .vmem, ⟨3, _⟩ => ⟨S128x696, .f32⟩
  | .local _ .vmem, ⟨4, _⟩ => ⟨S128x696, .f32⟩
  | .local _ .vmem, ⟨5, _⟩ => ⟨S128x696, .f32⟩
  | .local _ .vmem, ⟨6, _⟩ => ⟨S128x696, .f32⟩
  | .local _ .vmem, ⟨7, _⟩ => ⟨S128x696, .f32⟩
  | .local _ .vmem, ⟨8, _⟩ => ⟨S128x696, .f32⟩
  | .local _ .vmem, ⟨9, _⟩ => ⟨S128x696, .f32⟩
  | .local _ .vmem, ⟨10, _⟩ => ⟨S128x696, .f32⟩
  | .local _ .vmem, ⟨11, _⟩ => ⟨S128x696, .f32⟩
  | .local _ .vmem, ⟨12, _⟩ => ⟨S128x696, .f32⟩
  | .local _ .vmem, ⟨13, _⟩ => ⟨S128x696, .f32⟩
  | .local _ .vmem, ⟨14, _⟩ => ⟨S128x696, .f32⟩
  | .local _ .vmem, ⟨15, _⟩ => ⟨S128x696, .f32⟩
  | _, _ => ⟨S8x2048x696, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x696 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x696 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x696 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x696 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x696 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x696 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x696 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRwkvIdeal.lean ====
abbrev S8x2048x696 : Shape := ⟨3, ![8, 2048, 696]⟩
abbrev S2048x696 : Shape := ⟨2, ![2048, 696]⟩
abbrev S8x128x696 : Shape := ⟨3, ![8, 128, 696]⟩
abbrev S128x696 : Shape := ⟨2, ![128, 696]⟩
abbrev S1x128x696 : Shape := ⟨3, ![1, 128, 696]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x696, .bf16⟩
  | .hbm, ⟨1, _⟩ => ⟨S2048x696, .f32⟩
  | .hbm, ⟨2, _⟩ => ⟨S2048x696, .f32⟩
  | .hbm, ⟨3, _⟩ => ⟨S2048x696, .f32⟩
  | .hbm, ⟨4, _⟩ => ⟨S2048x696, .f32⟩
  | .hbm, ⟨5, _⟩ => ⟨S2048x696, .f32⟩
  | .hbm, ⟨6, _⟩ => ⟨S2048x696, .f32⟩
  | .hbm, ⟨7, _⟩ => ⟨S2048x696, .f32⟩
  | .local _ .vmem, ⟨0, _⟩ => ⟨S8x128x696, .bf16⟩
  | .local _ .vmem, ⟨1, _⟩ => ⟨S8x128x696, .bf16⟩
  | .local _ .vmem, ⟨2, _⟩ => ⟨S128x696, .f32⟩
  | .local _ .vmem, ⟨3, _⟩ => ⟨S128x696, .f32⟩
  | .local _ .vmem, ⟨4, _⟩ => ⟨S128x696, .f32⟩
  | .local _ .vmem, ⟨5, _⟩ => ⟨S128x696, .f32⟩
  | .local _ .vmem, ⟨6, _⟩ => ⟨S128x696, .f32⟩
  | .local _ .vmem, ⟨7, _⟩ => ⟨S128x696, .f32⟩
  | .local _ .vmem, ⟨8, _⟩ => ⟨S128x696, .f32⟩
  | .local _ .vmem, ⟨9, _⟩ => ⟨S128x696, .f32⟩
  | .local _ .vmem, ⟨10, _⟩ => ⟨S128x696, .f32⟩
  | .local _ .vmem, ⟨11, _⟩ => ⟨S128x696, .f32⟩
  | .local _ .vmem, ⟨12, _⟩ => ⟨S128x696, .f32⟩
  | .local _ .vmem, ⟨13, _⟩ => ⟨S128x696, .f32⟩
  | .local _ .vmem, ⟨14, _⟩ => ⟨S128x696, .f32⟩
  | .local _ .vmem, ⟨15, _⟩ => ⟨S128x696, .f32⟩
  | _, _ => ⟨S8x2048x696, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x696 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x696 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x696 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x696 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x696 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x696 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x696 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRwkvRefIdeal.lean ====
abbrev S8x2048x696 : Shape := ⟨3, ![8, 2048, 696]⟩
abbrev S2048x696 : Shape := ⟨2, ![2048, 696]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x696, .bf16⟩
  | .hbm, ⟨1, _⟩ => ⟨S2048x696, .f32⟩
  | .hbm, ⟨2, _⟩ => ⟨S2048x696, .f32⟩
  | .hbm, ⟨3, _⟩ => ⟨S2048x696, .f32⟩
  | .hbm, ⟨4, _⟩ => ⟨S8x2048x696, .f32⟩
  | .hbm, ⟨5, _⟩ => ⟨S_, .f32⟩
  | .hbm, ⟨6, _⟩ => ⟨S2048x696, .f32⟩
  | .hbm, ⟨7, _⟩ => ⟨S_, .f32⟩
  | .hbm, ⟨8, _⟩ => ⟨S2048x696, .f32⟩
  | .hbm, ⟨9, _⟩ => ⟨S2048x696, .f32⟩
  | .hbm, ⟨10, _⟩ => ⟨S_, .f32⟩
  | .hbm, ⟨11, _⟩ => ⟨S2048x696, .f32⟩
  | .hbm, ⟨12, _⟩ => ⟨S2048x696, .f32⟩
  | .hbm, ⟨13, _⟩ => ⟨S2048x696, .f32⟩
  | .hbm, ⟨14, _⟩ => ⟨S_, .f32⟩
  | .hbm, ⟨15, _⟩ => ⟨S2048x696, .f32⟩
  | .hbm, ⟨16, _⟩ => ⟨S2048x696, .f32⟩
  | .hbm, ⟨17, _⟩ => ⟨S2048x696, .f32⟩
  | .hbm, ⟨18, _⟩ => ⟨S_, .f32⟩
  | .hbm, ⟨19, _⟩ => ⟨S2048x696, .f32⟩
  | .hbm, ⟨20, _⟩ => ⟨S2048x696, .f32⟩
  | .hbm, ⟨21, _⟩ => ⟨S2048x696, .f32⟩
  | .hbm, ⟨22, _⟩ => ⟨S_, .f32⟩
  | .hbm, ⟨23, _⟩ => ⟨S2048x696, .f32⟩
  | .hbm, ⟨24, _⟩ => ⟨S2048x696, .f32⟩
  | .hbm, ⟨25, _⟩ => ⟨S_, .f32⟩
  | .hbm, ⟨26, _⟩ => ⟨S2048x696, .f32⟩
  | .hbm, ⟨27, _⟩ => ⟨S2048x696, .f32⟩
  | .hbm, ⟨28, _⟩ => ⟨S2048x696, .f32⟩
  | .hbm, ⟨29, _⟩ => ⟨S_, .f32⟩
  | .hbm, ⟨30, _⟩ => ⟨S2048x696, .f32⟩
  | .hbm, ⟨31, _⟩ => ⟨S2048x696, .f32⟩
  | .hbm, ⟨32, _⟩ => ⟨S2048x696, .f32⟩
  | .hbm, ⟨33, _⟩ => ⟨S_, .f32⟩
  | .hbm, ⟨34, _⟩ => ⟨S2048x696, .f32⟩
  | .hbm, ⟨35, _⟩ => ⟨S2048x696, .f32⟩
  | .hbm, ⟨36, _⟩ => ⟨S2048x696, .f32⟩
  | .hbm, ⟨37, _⟩ => ⟨S_, .f32⟩
  | .hbm, ⟨38, _⟩ => ⟨S2048x696, .f32⟩
  | .hbm, ⟨39, _⟩ => ⟨S2048x696, .f32⟩
  | _, _ => ⟨S8x2048x696, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInGdn.lean ====
abbrev S8x2048x643 : Shape := ⟨3, ![8, 2048, 643]⟩
abbrev S2048x643 : Shape := ⟨2, ![2048, 643]⟩
abbrev S8x128x643 : Shape := ⟨3, ![8, 128, 643]⟩
abbrev S128x643 : Shape := ⟨2, ![128, 643]⟩
abbrev S1x128x643 : Shape := ⟨3, ![1, 128, 643]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x643, .bf16⟩
  | .hbm, ⟨1, _⟩ => ⟨S2048x643, .f32⟩
  | .hbm, ⟨2, _⟩ => ⟨S2048x643, .f32⟩
  | .hbm, ⟨3, _⟩ => ⟨S2048x643, .f32⟩
  | .hbm, ⟨4, _⟩ => ⟨S2048x643, .f32⟩
  | .hbm, ⟨5, _⟩ => ⟨S2048x643, .f32⟩
  | .hbm, ⟨6, _⟩ => ⟨S2048x643, .f32⟩
  | .hbm, ⟨7, _⟩ => ⟨S2048x643, .f32⟩
  | .local _ .vmem, ⟨0, _⟩ => ⟨S8x128x643, .bf16⟩
  | .local _ .vmem, ⟨1, _⟩ => ⟨S8x128x643, .bf16⟩
  | .local _ .vmem, ⟨2, _⟩ => ⟨S128x643, .f32⟩
  | .local _ .vmem, ⟨3, _⟩ => ⟨S128x643, .f32⟩
  | .local _ .vmem, ⟨4, _⟩ => ⟨S128x643, .f32⟩
  | .local _ .vmem, ⟨5, _⟩ => ⟨S128x643, .f32⟩
  | .local _ .vmem, ⟨6, _⟩ => ⟨S128x643, .f32⟩
  | .local _ .vmem, ⟨7, _⟩ => ⟨S128x643, .f32⟩
  | .local _ .vmem, ⟨8, _⟩ => ⟨S128x643, .f32⟩
  | .local _ .vmem, ⟨9, _⟩ => ⟨S128x643, .f32⟩
  | .local _ .vmem, ⟨10, _⟩ => ⟨S128x643, .f32⟩
  | .local _ .vmem, ⟨11, _⟩ => ⟨S128x643, .f32⟩
  | .local _ .vmem, ⟨12, _⟩ => ⟨S128x643, .f32⟩
  | .local _ .vmem, ⟨13, _⟩ => ⟨S128x643, .f32⟩
  | .local _ .vmem, ⟨14, _⟩ => ⟨S128x643, .f32⟩
  | .local _ .vmem, ⟨15, _⟩ => ⟨S128x643, .f32⟩
  | _, _ => ⟨S8x2048x643, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x643 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x643 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x643 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x643 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x643 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x643 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x643 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x643 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInGdnIdeal.lean ====
abbrev S8x2048x643 : Shape := ⟨3, ![8, 2048, 643]⟩
abbrev S2048x643 : Shape := ⟨2, ![2048, 643]⟩
abbrev S8x128x643 : Shape := ⟨3, ![8, 128, 643]⟩
abbrev S128x643 : Shape := ⟨2, ![128, 643]⟩
abbrev S1x128x643 : Shape := ⟨3, ![1, 128, 643]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x643, .bf16⟩
  | .hbm, ⟨1, _⟩ => ⟨S2048x643, .f32⟩
  | .hbm, ⟨2, _⟩ => ⟨S2048x643, .f32⟩
  | .hbm, ⟨3, _⟩ => ⟨S2048x643, .f32⟩
  | .hbm, ⟨4, _⟩ => ⟨S2048x643, .f32⟩
  | .hbm, ⟨5, _⟩ => ⟨S2048x643, .f32⟩
  | .hbm, ⟨6, _⟩ => ⟨S2048x643, .f32⟩
  | .hbm, ⟨7, _⟩ => ⟨S2048x643, .f32⟩
  | .local _ .vmem, ⟨0, _⟩ => ⟨S8x128x643, .bf16⟩
  | .local _ .vmem, ⟨1, _⟩ => ⟨S8x128x643, .bf16⟩
  | .local _ .vmem, ⟨2, _⟩ => ⟨S128x643, .f32⟩
  | .local _ .vmem, ⟨3, _⟩ => ⟨S128x643, .f32⟩
  | .local _ .vmem, ⟨4, _⟩ => ⟨S128x643, .f32⟩
  | .local _ .vmem, ⟨5, _⟩ => ⟨S128x643, .f32⟩
  | .local _ .vmem, ⟨6, _⟩ => ⟨S128x643, .f32⟩
  | .local _ .vmem, ⟨7, _⟩ => ⟨S128x643, .f32⟩
  | .local _ .vmem, ⟨8, _⟩ => ⟨S128x643, .f32⟩
  | .local _ .vmem, ⟨9, _⟩ => ⟨S128x643, .f32⟩
  | .local _ .vmem, ⟨10, _⟩ => ⟨S128x643, .f32⟩
  | .local _ .vmem, ⟨11, _⟩ => ⟨S128x643, .f32⟩
  | .local _ .vmem, ⟨12, _⟩ => ⟨S128x643, .f32⟩
  | .local _ .vmem, ⟨13, _⟩ => ⟨S128x643, .f32⟩
  | .local _ .vmem, ⟨14, _⟩ => ⟨S128x643, .f32⟩
  | .local _ .vmem, ⟨15, _⟩ => ⟨S128x643, .f32⟩
  | _, _ => ⟨S8x2048x643, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x643 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x643 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x643 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x643 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x643 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x643 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x643 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x643 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInGdnRefIdeal.lean ====
abbrev S8x2048x643 : Shape := ⟨3, ![8, 2048, 643]⟩
abbrev S2048x643 : Shape := ⟨2, ![2048, 643]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x643, .bf16⟩
  | .hbm, ⟨1, _⟩ => ⟨S2048x643, .f32⟩
  | .hbm, ⟨2, _⟩ => ⟨S2048x643, .f32⟩
  | .hbm, ⟨3, _⟩ => ⟨S2048x643, .f32⟩
  | .hbm, ⟨4, _⟩ => ⟨S8x2048x643, .f32⟩
  | .hbm, ⟨5, _⟩ => ⟨S_, .f32⟩
  | .hbm, ⟨6, _⟩ => ⟨S2048x643, .f32⟩
  | .hbm, ⟨7, _⟩ => ⟨S_, .f32⟩
  | .hbm, ⟨8, _⟩ => ⟨S2048x643, .f32⟩
  | .hbm, ⟨9, _⟩ => ⟨S2048x643, .f32⟩
  | .hbm, ⟨10, _⟩ => ⟨S_, .f32⟩
  | .hbm, ⟨11, _⟩ => ⟨S2048x643, .f32⟩
  | .hbm, ⟨12, _⟩ => ⟨S2048x643, .f32⟩
  | .hbm, ⟨13, _⟩ => ⟨S2048x643, .f32⟩
  | .hbm, ⟨14, _⟩ => ⟨S_, .f32⟩
  | .hbm, ⟨15, _⟩ => ⟨S2048x643, .f32⟩
  | .hbm, ⟨16, _⟩ => ⟨S2048x643, .f32⟩
  | .hbm, ⟨17, _⟩ => ⟨S2048x643, .f32⟩
  | .hbm, ⟨18, _⟩ => ⟨S_, .f32⟩
  | .hbm, ⟨19, _⟩ => ⟨S2048x643, .f32⟩
  | .hbm, ⟨20, _⟩ => ⟨S2048x643, .f32⟩
  | .hbm, ⟨21, _⟩ => ⟨S2048x643, .f32⟩
  | .hbm, ⟨22, _⟩ => ⟨S_, .f32⟩
  | .hbm, ⟨23, _⟩ => ⟨S2048x643, .f32⟩
  | .hbm, ⟨24, _⟩ => ⟨S2048x643, .f32⟩
  | .hbm, ⟨25, _⟩ => ⟨S_, .f32⟩
  | .hbm, ⟨26, _⟩ => ⟨S2048x643, .f32⟩
  | .hbm, ⟨27, _⟩ => ⟨S2048x643, .f32⟩
  | .hbm, ⟨28, _⟩ => ⟨S2048x643, .f32⟩
  | .hbm, ⟨29, _⟩ => ⟨S_, .f32⟩
  | .hbm, ⟨30, _⟩ => ⟨S2048x643, .f32⟩
  | .hbm, ⟨31, _⟩ => ⟨S2048x643, .f32⟩
  | .hbm, ⟨32, _⟩ => ⟨S2048x643, .f32⟩
  | .hbm, ⟨33, _⟩ => ⟨S_, .f32⟩
  | .hbm, ⟨34, _⟩ => ⟨S2048x643, .f32⟩
  | .hbm, ⟨35, _⟩ => ⟨S2048x643, .f32⟩
  | .hbm, ⟨36, _⟩ => ⟨S2048x643, .f32⟩
  | .hbm, ⟨37, _⟩ => ⟨S_, .f32⟩
  | .hbm, ⟨38, _⟩ => ⟨S2048x643, .f32⟩
  | .hbm, ⟨39, _⟩ => ⟨S2048x643, .f32⟩
  | _, _ => ⟨S8x2048x643, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRank.lean ====
abbrev S8x96x192 : Shape := ⟨3, ![8, 96, 192]⟩
abbrev S96x192 : Shape := ⟨2, ![96, 192]⟩
abbrev S8x32x192 : Shape := ⟨3, ![8, 32, 192]⟩
abbrev S32x192 : Shape := ⟨2, ![32, 192]⟩
abbrev S1x32x192 : Shape := ⟨3, ![1, 32, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x96x192, .f32⟩
  | .hbm, ⟨1, _⟩ => ⟨S96x192, .f32⟩
  | .hbm, ⟨2, _⟩ => ⟨S96x192, .f32⟩
  | .hbm, ⟨3, _⟩ => ⟨S96x192, .f32⟩
  | .hbm, ⟨4, _⟩ => ⟨S96x192, .f32⟩
  | .hbm, ⟨5, _⟩ => ⟨S96x192, .f32⟩
  | .hbm, ⟨6, _⟩ => ⟨S96x192, .f32⟩
  | .hbm, ⟨7, _⟩ => ⟨S96x192, .f32⟩
  | .local _ .vmem, ⟨0, _⟩ => ⟨S8x32x192, .f32⟩
  | .local _ .vmem, ⟨1, _⟩ => ⟨S8x32x192, .f32⟩
  | .local _ .vmem, ⟨2, _⟩ => ⟨S32x192, .f32⟩
  | .local _ .vmem, ⟨3, _⟩ => ⟨S32x192, .f32⟩
  | .local _ .vmem, ⟨4, _⟩ => ⟨S32x192, .f32⟩
  | .local _ .vmem, ⟨5, _⟩ => ⟨S32x192, .f32⟩
  | .local _ .vmem, ⟨6, _⟩ => ⟨S32x192, .f32⟩
  | .local _ .vmem, ⟨7, _⟩ => ⟨S32x192, .f32⟩
  | .local _ .vmem, ⟨8, _⟩ => ⟨S32x192, .f32⟩
  | .local _ .vmem, ⟨9, _⟩ => ⟨S32x192, .f32⟩
  | .local _ .vmem, ⟨10, _⟩ => ⟨S32x192, .f32⟩
  | .local _ .vmem, ⟨11, _⟩ => ⟨S32x192, .f32⟩
  | .local _ .vmem, ⟨12, _⟩ => ⟨S32x192, .f32⟩
  | .local _ .vmem, ⟨13, _⟩ => ⟨S32x192, .f32⟩
  | .local _ .vmem, ⟨14, _⟩ => ⟨S32x192, .f32⟩
  | .local _ .vmem, ⟨15, _⟩ => ⟨S32x192, .f32⟩
  | _, _ => ⟨S8x96x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRankIdeal.lean ====
abbrev S8x96x192 : Shape := ⟨3, ![8, 96, 192]⟩
abbrev S96x192 : Shape := ⟨2, ![96, 192]⟩
abbrev S8x32x192 : Shape := ⟨3, ![8, 32, 192]⟩
abbrev S32x192 : Shape := ⟨2, ![32, 192]⟩
abbrev S1x32x192 : Shape := ⟨3, ![1, 32, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x96x192, .f32⟩
  | .hbm, ⟨1, _⟩ => ⟨S96x192, .f32⟩
  | .hbm, ⟨2, _⟩ => ⟨S96x192, .f32⟩
  | .hbm, ⟨3, _⟩ => ⟨S96x192, .f32⟩
  | .hbm, ⟨4, _⟩ => ⟨S96x192, .f32⟩
  | .hbm, ⟨5, _⟩ => ⟨S96x192, .f32⟩
  | .hbm, ⟨6, _⟩ => ⟨S96x192, .f32⟩
  | .hbm, ⟨7, _⟩ => ⟨S96x192, .f32⟩
  | .local _ .vmem, ⟨0, _⟩ => ⟨S8x32x192, .f32⟩
  | .local _ .vmem, ⟨1, _⟩ => ⟨S8x32x192, .f32⟩
  | .local _ .vmem, ⟨2, _⟩ => ⟨S32x192, .f32⟩
  | .local _ .vmem, ⟨3, _⟩ => ⟨S32x192, .f32⟩
  | .local _ .vmem, ⟨4, _⟩ => ⟨S32x192, .f32⟩
  | .local _ .vmem, ⟨5, _⟩ => ⟨S32x192, .f32⟩
  | .local _ .vmem, ⟨6, _⟩ => ⟨S32x192, .f32⟩
  | .local _ .vmem, ⟨7, _⟩ => ⟨S32x192, .f32⟩
  | .local _ .vmem, ⟨8, _⟩ => ⟨S32x192, .f32⟩
  | .local _ .vmem, ⟨9, _⟩ => ⟨S32x192, .f32⟩
  | .local _ .vmem, ⟨10, _⟩ => ⟨S32x192, .f32⟩
  | .local _ .vmem, ⟨11, _⟩ => ⟨S32x192, .f32⟩
  | .local _ .vmem, ⟨12, _⟩ => ⟨S32x192, .f32⟩
  | .local _ .vmem, ⟨13, _⟩ => ⟨S32x192, .f32⟩
  | .local _ .vmem, ⟨14, _⟩ => ⟨S32x192, .f32⟩
  | .local _ .vmem, ⟨15, _⟩ => ⟨S32x192, .f32⟩
  | _, _ => ⟨S8x96x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRankRefIdeal.lean ====
abbrev S8x96x192 : Shape := ⟨3, ![8, 96, 192]⟩
abbrev S96x192 : Shape := ⟨2, ![96, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x192, .f32⟩
  | .hbm, ⟨1, _⟩ => ⟨S96x192, .f32⟩
  | .hbm, ⟨2, _⟩ => ⟨S96x192, .f32⟩
  | .hbm, ⟨3, _⟩ => ⟨S96x192, .f32⟩
  | .hbm, ⟨4, _⟩ => ⟨S_, .f32⟩
  | .hbm, ⟨5, _⟩ => ⟨S96x192, .f32⟩
  | .hbm, ⟨6, _⟩ => ⟨S_, .f32⟩
  | .hbm, ⟨7, _⟩ => ⟨S96x192, .f32⟩
  | .hbm, ⟨8, _⟩ => ⟨S96x192, .f32⟩
  | .hbm, ⟨9, _⟩ => ⟨S_, .f32⟩
  | .hbm, ⟨10, _⟩ => ⟨S96x192, .f32⟩
  | .hbm, ⟨11, _⟩ => ⟨S96x192, .f32⟩
  | .hbm, ⟨12, _⟩ => ⟨S96x192, .f32⟩
  | .hbm, ⟨13, _⟩ => ⟨S_, .f32⟩
  | .hbm, ⟨14, _⟩ => ⟨S96x192, .f32⟩
  | .hbm, ⟨15, _⟩ => ⟨S96x192, .f32⟩
  | .hbm, ⟨16, _⟩ => ⟨S96x192, .f32⟩
  | .hbm, ⟨17, _⟩ => ⟨S_, .f32⟩
  | .hbm, ⟨18, _⟩ => ⟨S96x192, .f32⟩
  | .hbm, ⟨19, _⟩ => ⟨S96x192, .f32⟩
  | .hbm, ⟨20, _⟩ => ⟨S96x192, .f32⟩
  | .hbm, ⟨21, _⟩ => ⟨S_, .f32⟩
  | .hbm, ⟨22, _⟩ => ⟨S96x192, .f32⟩
  | .hbm, ⟨23, _⟩ => ⟨S96x192, .f32⟩
  | .hbm, ⟨24, _⟩ => ⟨S_, .f32⟩
  | .hbm, ⟨25, _⟩ => ⟨S96x192, .f32⟩
  | .hbm, ⟨26, _⟩ => ⟨S96x192, .f32⟩
  | .hbm, ⟨27, _⟩ => ⟨S96x192, .f32⟩
  | .hbm, ⟨28, _⟩ => ⟨S_, .f32⟩
  | .hbm, ⟨29, _⟩ => ⟨S96x192, .f32⟩
  | .hbm, ⟨30, _⟩ => ⟨S96x192, .f32⟩
  | .hbm, ⟨31, _⟩ => ⟨S96x192, .f32⟩
  | .hbm, ⟨32, _⟩ => ⟨S_, .f32⟩
  | .hbm, ⟨33, _⟩ => ⟨S96x192, .f32⟩
  | .hbm, ⟨34, _⟩ => ⟨S96x192, .f32⟩
  | .hbm, ⟨35, _⟩ => ⟨S96x192, .f32⟩
  | .hbm, ⟨36, _⟩ => ⟨S_, .f32⟩
  | .hbm, ⟨37, _⟩ => ⟨S96x192, .f32⟩
  | .hbm, ⟨38, _⟩ => ⟨S96x192, .f32⟩
  | _, _ => ⟨S8x96x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamRankG.lean ====
abbrev S8x256x192 : Shape := ⟨3, ![8, 256, 192]⟩
abbrev S256x192 : Shape := ⟨2, ![256, 192]⟩
abbrev S8x128x192 : Shape := ⟨3, ![8, 128, 192]⟩
abbrev S128x192 : Shape := ⟨2, ![128, 192]⟩
abbrev S1x128x192 : Shape := ⟨3, ![1, 128, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S256x192, .f32⟩
  | .hbm, ⟨5, _⟩ => ⟨S256x192, .f32⟩
  | .hbm, ⟨6, _⟩ => ⟨S256x192, .f32⟩
  | .hbm, ⟨7, _⟩ => ⟨S256x192, .f32⟩
  | .local _ .vmem, ⟨0, _⟩ => ⟨S8x128x192, .f32⟩
  | .local _ .vmem, ⟨1, _⟩ => ⟨S8x128x192, .f32⟩
  | .local _ .vmem, ⟨2, _⟩ => ⟨S128x192, .f32⟩
  | .local _ .vmem, ⟨3, _⟩ => ⟨S128x192, .f32⟩
  | .local _ .vmem, ⟨4, _⟩ => ⟨S128x192, .f32⟩
  | .local _ .vmem, ⟨5, _⟩ => ⟨S128x192, .f32⟩
  | .local _ .vmem, ⟨6, _⟩ => ⟨S128x192, .f32⟩
  | .local _ .vmem, ⟨7, _⟩ => ⟨S128x192, .f32⟩
  | .local _ .vmem, ⟨8, _⟩ => ⟨S128x192, .f32⟩
  | .local _ .vmem, ⟨9, _⟩ => ⟨S128x192, .f32⟩
  | .local _ .vmem, ⟨10, _⟩ => ⟨S128x192, .f32⟩
  | .local _ .vmem, ⟨11, _⟩ => ⟨S128x192, .f32⟩
  | .local _ .vmem, ⟨12, _⟩ => ⟨S128x192, .f32⟩
  | .local _ .vmem, ⟨13, _⟩ => ⟨S128x192, .f32⟩
  | .local _ .vmem, ⟨14, _⟩ => ⟨S128x192, .f32⟩
  | .local _ .vmem, ⟨15, _⟩ => ⟨S128x192, .f32⟩
  | _, _ => ⟨S8x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRankGIdeal.lean ====
abbrev S8x256x192 : Shape := ⟨3, ![8, 256, 192]⟩
abbrev S256x192 : Shape := ⟨2, ![256, 192]⟩
abbrev S8x128x192 : Shape := ⟨3, ![8, 128, 192]⟩
abbrev S128x192 : Shape := ⟨2, ![128, 192]⟩
abbrev S1x128x192 : Shape := ⟨3, ![1, 128, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S256x192, .f32⟩
  | .hbm, ⟨5, _⟩ => ⟨S256x192, .f32⟩
  | .hbm, ⟨6, _⟩ => ⟨S256x192, .f32⟩
  | .hbm, ⟨7, _⟩ => ⟨S256x192, .f32⟩
  | .local _ .vmem, ⟨0, _⟩ => ⟨S8x128x192, .f32⟩
  | .local _ .vmem, ⟨1, _⟩ => ⟨S8x128x192, .f32⟩
  | .local _ .vmem, ⟨2, _⟩ => ⟨S128x192, .f32⟩
  | .local _ .vmem, ⟨3, _⟩ => ⟨S128x192, .f32⟩
  | .local _ .vmem, ⟨4, _⟩ => ⟨S128x192, .f32⟩
  | .local _ .vmem, ⟨5, _⟩ => ⟨S128x192, .f32⟩
  | .local _ .vmem, ⟨6, _⟩ => ⟨S128x192, .f32⟩
  | .local _ .vmem, ⟨7, _⟩ => ⟨S128x192, .f32⟩
  | .local _ .vmem, ⟨8, _⟩ => ⟨S128x192, .f32⟩
  | .local _ .vmem, ⟨9, _⟩ => ⟨S128x192, .f32⟩
  | .local _ .vmem, ⟨10, _⟩ => ⟨S128x192, .f32⟩
  | .local _ .vmem, ⟨11, _⟩ => ⟨S128x192, .f32⟩
  | .local _ .vmem, ⟨12, _⟩ => ⟨S128x192, .f32⟩
  | .local _ .vmem, ⟨13, _⟩ => ⟨S128x192, .f32⟩
  | .local _ .vmem, ⟨14, _⟩ => ⟨S128x192, .f32⟩
  | .local _ .vmem, ⟨15, _⟩ => ⟨S128x192, .f32⟩
  | _, _ => ⟨S8x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRankGRefIdeal.lean ====
abbrev S8x256x192 : Shape := ⟨3, ![8, 256, 192]⟩
abbrev S256x192 : Shape := ⟨2, ![256, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S_, .f32⟩
  | .hbm, ⟨5, _⟩ => ⟨S256x192, .f32⟩
  | .hbm, ⟨6, _⟩ => ⟨S_, .f32⟩
  | .hbm, ⟨7, _⟩ => ⟨S256x192, .f32⟩
  | .hbm, ⟨8, _⟩ => ⟨S256x192, .f32⟩
  | .hbm, ⟨9, _⟩ => ⟨S_, .f32⟩
  | .hbm, ⟨10, _⟩ => ⟨S256x192, .f32⟩
  | .hbm, ⟨11, _⟩ => ⟨S256x192, .f32⟩
  | .hbm, ⟨12, _⟩ => ⟨S256x192, .f32⟩
  | .hbm, ⟨13, _⟩ => ⟨S_, .f32⟩
  | .hbm, ⟨14, _⟩ => ⟨S256x192, .f32⟩
  | .hbm, ⟨15, _⟩ => ⟨S256x192, .f32⟩
  | .hbm, ⟨16, _⟩ => ⟨S256x192, .f32⟩
  | .hbm, ⟨17, _⟩ => ⟨S_, .f32⟩
  | .hbm, ⟨18, _⟩ => ⟨S256x192, .f32⟩
  | .hbm, ⟨19, _⟩ => ⟨S256x192, .f32⟩
  | .hbm, ⟨20, _⟩ => ⟨S256x192, .f32⟩
  | .hbm, ⟨21, _⟩ => ⟨S_, .f32⟩
  | .hbm, ⟨22, _⟩ => ⟨S256x192, .f32⟩
  | .hbm, ⟨23, _⟩ => ⟨S256x192, .f32⟩
  | .hbm, ⟨24, _⟩ => ⟨S_, .f32⟩
  | .hbm, ⟨25, _⟩ => ⟨S256x192, .f32⟩
  | .hbm, ⟨26, _⟩ => ⟨S256x192, .f32⟩
  | .hbm, ⟨27, _⟩ => ⟨S256x192, .f32⟩
  | .hbm, ⟨28, _⟩ => ⟨S_, .f32⟩
  | .hbm, ⟨29, _⟩ => ⟨S256x192, .f32⟩
  | .hbm, ⟨30, _⟩ => ⟨S256x192, .f32⟩
  | .hbm, ⟨31, _⟩ => ⟨S256x192, .f32⟩
  | .hbm, ⟨32, _⟩ => ⟨S_, .f32⟩
  | .hbm, ⟨33, _⟩ => ⟨S256x192, .f32⟩
  | .hbm, ⟨34, _⟩ => ⟨S256x192, .f32⟩
  | .hbm, ⟨35, _⟩ => ⟨S256x192, .f32⟩
  | .hbm, ⟨36, _⟩ => ⟨S_, .f32⟩
  | .hbm, ⟨37, _⟩ => ⟨S256x192, .f32⟩
  | .hbm, ⟨38, _⟩ => ⟨S256x192, .f32⟩
  | _, _ => ⟨S8x256x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConvC.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvCIdeal.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvCRefIdeal.lean ====
abbrev S8x4x384 : Shape := ⟨3, ![8, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S8x3x1408 : Shape := ⟨3, ![8, 3, 1408]⟩
abbrev S3x1408 : Shape := ⟨2, ![3, 1408]⟩
abbrev S1x3x1408 : Shape := ⟨3, ![1, 3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S8x3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S8x3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S8x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S8x3x1408 : Shape := ⟨3, ![8, 3, 1408]⟩
abbrev S3x1408 : Shape := ⟨2, ![3, 1408]⟩
abbrev S1x3x1408 : Shape := ⟨3, ![1, 3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S8x3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S8x3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S8x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S8x3x1408 : Shape := ⟨3, ![8, 3, 1408]⟩
abbrev S3x1408 : Shape := ⟨2, ![3, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S_, .f32⟩
  | .hbm, ⟨7, _⟩ => ⟨S3x1408, .f32⟩
  | .hbm, ⟨8, _⟩ => ⟨S3x1408, .f32⟩
  | .hbm, ⟨9, _⟩ => ⟨S_, .f32⟩
  | .hbm, ⟨10, _⟩ => ⟨S3x1408, .f32⟩
  | .hbm, ⟨11, _⟩ => ⟨S3x1408, .f32⟩
  | .hbm, ⟨12, _⟩ => ⟨S3x1408, .f32⟩
  | .hbm, ⟨13, _⟩ => ⟨S_, .f32⟩
  | .hbm, ⟨14, _⟩ => ⟨S3x1408, .f32⟩
  | .hbm, ⟨15, _⟩ => ⟨S3x1408, .f32⟩
  | .hbm, ⟨16, _⟩ => ⟨S3x1408, .f32⟩
  | .hbm, ⟨17, _⟩ => ⟨S_, .f32⟩
  | .hbm, ⟨18, _⟩ => ⟨S3x1408, .f32⟩
  | .hbm, ⟨19, _⟩ => ⟨S3x1408, .f32⟩
  | .hbm, ⟨20, _⟩ => ⟨S3x1408, .f32⟩
  | .hbm, ⟨21, _⟩ => ⟨S_, .f32⟩
  | .hbm, ⟨22, _⟩ => ⟨S3x1408, .f32⟩
  | .hbm, ⟨23, _⟩ => ⟨S3x1408, .f32⟩
  | .hbm, ⟨24, _⟩ => ⟨S_, .f32⟩
  | .hbm, ⟨25, _⟩ => ⟨S3x1408, .f32⟩
  | .hbm, ⟨26, _⟩ => ⟨S3x1408, .f32⟩
  | .hbm, ⟨27, _⟩ => ⟨S3x1408, .f32⟩
  | .hbm, ⟨28, _⟩ => ⟨S_, .f32⟩
  | .hbm, ⟨29, _⟩ => ⟨S3x1408, .f32⟩
  | .hbm, ⟨30, _⟩ => ⟨S3x1408, .f32⟩
  | .hbm, ⟨31, _⟩ => ⟨S3x1408, .f32⟩
  | .hbm, ⟨32, _⟩ => ⟨S_, .f32⟩
  | .hbm, ⟨33, _⟩ => ⟨S3x1408, .f32⟩
  | .hbm, ⟨34, _⟩ => ⟨S3x1408, .f32⟩
  | .hbm, ⟨35, _⟩ => ⟨S3x1408, .f32⟩
  | .hbm, ⟨36, _⟩ => ⟨S_, .f32⟩
  | .hbm, ⟨37, _⟩ => ⟨S3x1408, .f32⟩
  | .hbm, ⟨38, _⟩ => ⟨S3x1408, .f32⟩
  | _, _ => ⟨S8x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamRep.lean ====
abbrev S8x336x128 : Shape := ⟨3, ![8, 336, 128]⟩
abbrev S336x128 : Shape := ⟨2, ![336, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S336x128, .f32⟩
  | .hbm, ⟨5, _⟩ => ⟨S336x128, .f32⟩
  | .hbm, ⟨6, _⟩ => ⟨S336x128, .f32⟩
  | .hbm, ⟨7, _⟩ => ⟨S336x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S8x336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![21], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRepRefIdeal.lean ====
abbrev S8x336x128 : Shape := ⟨3, ![8, 336, 128]⟩
abbrev S336x128 : Shape := ⟨2, ![336, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S_, .f32⟩
  | .hbm, ⟨5, _⟩ => ⟨S336x128, .f32⟩
  | .hbm, ⟨6, _⟩ => ⟨S_, .f32⟩
  | .hbm, ⟨7, _⟩ => ⟨S336x128, .f32⟩
  | .hbm, ⟨8, _⟩ => ⟨S336x128, .f32⟩
  | .hbm, ⟨9, _⟩ => ⟨S_, .f32⟩
  | .hbm, ⟨10, _⟩ => ⟨S336x128, .f32⟩
  | .hbm, ⟨11, _⟩ => ⟨S336x128, .f32⟩
  | .hbm, ⟨12, _⟩ => ⟨S336x128, .f32⟩
  | .hbm, ⟨13, _⟩ => ⟨S_, .f32⟩
  | .hbm, ⟨14, _⟩ => ⟨S336x128, .f32⟩
  | .hbm, ⟨15, _⟩ => ⟨S336x128, .f32⟩
  | .hbm, ⟨16, _⟩ => ⟨S336x128, .f32⟩
  | .hbm, ⟨17, _⟩ => ⟨S_, .f32⟩
  | .hbm, ⟨18, _⟩ => ⟨S336x128, .f32⟩
  | .hbm, ⟨19, _⟩ => ⟨S336x128, .f32⟩
  | .hbm, ⟨20, _⟩ => ⟨S336x128, .f32⟩
  | .hbm, ⟨21, _⟩ => ⟨S_, .f32⟩
  | .hbm, ⟨22, _⟩ => ⟨S336x128, .f32⟩
  | .hbm, ⟨23, _⟩ => ⟨S336x128, .f32⟩
  | .hbm, ⟨24, _⟩ => ⟨S_, .f32⟩
  | .hbm, ⟨25, _⟩ => ⟨S336x128, .f32⟩
  | .hbm, ⟨26, _⟩ => ⟨S336x128, .f32⟩
  | .hbm, ⟨27, _⟩ => ⟨S336x128, .f32⟩
  | .hbm, ⟨28, _⟩ => ⟨S_, .f32⟩
  | .hbm, ⟨29, _⟩ => ⟨S336x128, .f32⟩
  | .hbm, ⟨30, _⟩ => ⟨S336x128, .f32⟩
  | .hbm, ⟨31, _⟩ => ⟨S336x128, .f32⟩
  | .hbm, ⟨32, _⟩ => ⟨S_, .f32⟩
  | .hbm, ⟨33, _⟩ => ⟨S336x128, .f32⟩
  | .hbm, ⟨34, _⟩ => ⟨S336x128, .f32⟩
  | .hbm, ⟨35, _⟩ => ⟨S336x128, .f32⟩
  | .hbm, ⟨36, _⟩ => ⟨S_, .f32⟩
  | .hbm, ⟨37, _⟩ => ⟨S336x128, .f32⟩
  | .hbm, ⟨38, _⟩ => ⟨S336x128, .f32⟩
  | _, _ => ⟨S8x336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Product.lean ====
/-
  The three products of a linear map: forward, by its input, by its weight. Each is the plain sum
  over the shared axis, entry by entry, for arrays of any sizes.
-/
module

public import Idealize.ShloMosaic.Lib.Pipeline.ValueKit
public import Idealize.ShloMosaic.Lib.Pointwise
public import Idealize.ShloMosaic.Lib.IdealHost

@[expose] public section
noncomputable section
namespace Cert.Product
open Idealize.ShloMosaic

variable {M K N : ℕ} {φ₁ φ₂ φ₃ : FTy}

/-- x w. -/
def forward (φ₃ : FTy) (x : FVec Ideal ⟨2, ![M, K]⟩ φ₁) (w : FVec Ideal ⟨2, ![K, N]⟩ φ₂) : FVec Ideal ⟨2, ![M, N]⟩ φ₃ :=
  fun i => ∑ k : Fin K, (x (ix2 (i 0 : Fin M) k) : EReal) * w (ix2 k (i 1 : Fin N))

/-- The gradient of x w by x: the cotangent times the transposed weight. -/
def byInput (φ₃ : FTy) (ct : FVec Ideal ⟨2, ![M, N]⟩ φ₁) (w : FVec Ideal ⟨2, ![K, N]⟩ φ₂) : FVec Ideal ⟨2, ![M, K]⟩ φ₃ :=
  fun i => ∑ n : Fin N, (ct (ix2 (i 0 : Fin M) n) : EReal) * w (ix2 (i 1 : Fin K) n)

/-- The gradient of x w by w: the transposed input times the cotangent. -/
def byWeight (φ₃ : FTy) (x : FVec Ideal ⟨2, ![M, K]⟩ φ₁) (ct : FVec Ideal ⟨2, ![M, N]⟩ φ₂) : FVec Ideal ⟨2, ![K, N]⟩ φ₃ :=
  fun i => ∑ s : Fin M, (x (ix2 s (i 0 : Fin K)) : EReal) * ct (ix2 s (i 1 : Fin N))

theorem forward_apply (x : FVec Ideal ⟨2, ![M, K]⟩ φ₁) (w : FVec Ideal ⟨2, ![K, N]⟩ φ₂) (r : Fin M) (q : Fin N) :
    forward φ₃ x w (ix2 r q) = ∑ k : Fin K, (x (ix2 r k) : EReal) * w (ix2 k q) := rfl
theorem byInput_apply (ct : FVec Ideal ⟨2, ![M, N]⟩ φ₁) (w : FVec Ideal ⟨2, ![K, N]⟩ φ₂) (r : Fin M) (q : Fin K) :
    byInput φ₃ ct w (ix2 r q) = ∑ n : Fin N, (ct (ix2 r n) : EReal) * w (ix2 q n) := rfl
theorem byWeight_apply (x : FVec Ideal ⟨2, ![M, K]⟩ φ₁) (ct : FVec Ideal ⟨2, ![M, N]⟩ φ₂) (r : Fin K) (q : Fin N) :
    byWeight φ₃ x ct (ix2 r q) = ∑ s : Fin M, (x (ix2 s r) : EReal) * ct (ix2 s q) := rfl

/-- x w and what a residual connection adds. -/
def residual (φ₃ : FTy) {φ₄ : FTy} (x : FVec Ideal ⟨2, ![M, K]⟩ φ₁) (w : FVec Ideal ⟨2, ![K, N]⟩ φ₂) (r : FVec Ideal ⟨2, ![M, N]⟩ φ₄) : FVec Ideal ⟨2, ![M, N]⟩ φ₃ :=
  fun i => forward φ₃ x w i + r i

theorem residual_apply {φ₄ : FTy} (x : FVec Ideal ⟨2, ![M, K]⟩ φ₁) (w : FVec Ideal ⟨2, ![K, N]⟩ φ₂) (y : FVec Ideal ⟨2, ![M, N]⟩ φ₄) (r : Fin M) (q : Fin N) :
    residual φ₃ x w y (ix2 r q) = (∑ k : Fin K, (x (ix2 r k) : EReal) * w (ix2 k q)) + y (ix2 r q) := rfl

end Cert.Product
end
-- ==== Proof.DAct.lean ====
/-
  The gradient of the MLP's down projection by its input: the array the call leaves is the
  cotangent times the transposed weight.
-/
module

public import proofs.«01_k».proof.Defs
public import proofs.«01_k».proof.Proof.Gen.DActIdeal.Value
public import proofs.«01_k».proof.Proof.Gen.DActRefIdeal.Run
public import proofs.«01_k».proof.Proof.Gen.DAct.Frame
public import proofs.«01_k».proof.Proof.Product

@[expose] public section
set_option maxRecDepth 16384
noncomputable section
namespace Cert.DActIdeal.Block
open Cert.DActIdeal Cert.DActIdeal.Gen Idealize.ShloMosaic Idealize.ShloMosaic.TcCoe Idealize.SL.Sem Cert.Product

/-- The blocks the windows are on at a point. -/
theorem idx_facts : ∀ t : Fin grid0.N,
    win0_0.index t 0 = t.val / 11 ∧ win0_0.index t 1 = 0 ∧ win0_1.index t 0 = t.val % 11 ∧ win0_1.index t 1 = 0 ∧
    win0_2.index t 0 = t.val / 11 ∧ win0_2.index t 1 = t.val % 11 := by decide +kernel

theorem tlt (t : Fin cfg0.N) : t.val < 22 := t.isLt

/-- One block of the result, from one row block of each argument. -/
theorem out_apply (a : Vec Ideal S1024x2048 .f32) (b : Vec Ideal S512x2048 .bf16) (r : Fin 1024) (q : Fin 512) :
    out0_2 a b (ix2 r q) = ∑ k : Fin 2048, (a (ix2 r k) : EReal) * b (ix2 q k) := by
  have e : out0_2 a b = (matmul (F := Ideal) (φ₁ := .bf16) (φ₂ := .bf16) dot_S1024x2048_S512x2048_S1024x512_1_1_0_0_n_n none (truncf (F := Ideal) (φ := .f32) .bf16 a bitsLt_bf16_f32) b (constant S1024x512 .f32 0x00000000#32) : FVec Ideal S1024x512 .f32) := by
    frame_out
    rfl
  rw [e]
  pointwise

variable (m : (ℓ : Loc nD τ sig) → Buf (Elt Ideal) ℓ) (c : Dev nD)

abbrev argX : FVec Ideal S2048x2048 .f32 := m ((c : Thread nD τ).loc main_arg0)
abbrev argW : FVec Ideal S5632x2048 .bf16 := m ((c : Thread nD τ).loc main_arg1)

theorem blockX (t : Fin cfg0.N) (r : Fin 1024) (k : Fin 2048) :
    iblk m c 0 t (ix2 r k) = argX m c (ix2 ⟨t.val / 11 * 1024 + r.val, by have := tlt t; omega⟩ k) := by
  blk_ext [iblk, V, idx_facts t]
theorem blockW (t : Fin cfg0.N) (q : Fin 512) (k : Fin 2048) :
    iblk m c 1 t (ix2 q k) = argW m c (ix2 ⟨t.val % 11 * 512 + q.val, by omega⟩ k) := by
  blk_ext [iblk, V, idx_facts t]

/-- The array the call leaves. -/
theorem array : (dats m 0 c).arrAt 2 cfg0.N = byInput .f32 (argX m c) (argW m c) := by
  refine (dats m 0 c).arrAt_eq_of_covers 2 _ (by decide +kernel) fun t hf y => ?_
  blk_simp [idx_facts t]
  rw [after0_2]
  obtain ⟨r, q, rfl⟩ : ∃ (r : Fin 1024) (q : Fin 512), y = ix2 r q := ⟨y 0, y 1, eq_ix2 y⟩
  rw [out_apply]
  simp only [blockX, blockW]
  refine (byInput_apply (φ₃ := .f32) (argX m c) (argW m c) _ _).symm.trans ?_
  blk_ext [idx_facts t]

/-- The call and the derivative of the product give the same array. -/
theorem algebra : Cert.algebraic_DActIdeal_DActRefIdeal := by
  intro m g m' g' _ hargs
  refine ⟨fun c => byInput .f32 (argX m c) (argW m c), ?_, ?_⟩
  · exact (θ_run defs _ _).mono (fun r h c => ⟨(h c).1.trans (array m c), (h c).2⟩) (DActIdeal.Value.run_blocks m g)
  · refine (θ_run DActRefIdeal.defs _ _).mono (fun r h c => ⟨(h c).1.trans ?_, (h c).2⟩) (DActRefIdeal.Value.run m' g')
    obtain ⟨e0, e1⟩ := hargs c
    rw [e0, e1]
    show _ = byInput .f32 (argX m c) (argW m c)
    dsimp only [argX, argW]
    generalize m (c.tc.loc main_arg0) = ct
    generalize m (c.tc.loc main_arg1) = w
    funext i
    obtain ⟨r, q, rfl⟩ : ∃ (r : Fin 2048) (q : Fin 5632), i = ix2 r q := ⟨i 0, i 1, eq_ix2 i⟩
    refine Eq.trans ?_ (byInput_apply (φ₃ := .f32) ct w r q).symm
    pointwise

theorem frame_printed : Cert.quiescent_DAct := fun m g _ => Cert.DAct.Gen.frame m g

theorem frame_ideal : Cert.quiescent_DActIdeal := fun m g _ => Cert.DActIdeal.Gen.frame m g

theorem frame_reference : Cert.quiescent_DActRefIdeal := fun m g _ =>
  (θ_run DActRefIdeal.defs _ _).mono (fun r h => And.intro (fun c => (h c).2) (sem_eq_zero_of_no_sems (by decide) r.2))
    (DActRefIdeal.Value.run m g)

end Cert.DActIdeal.Block
end
-- ==== Proof.DwDown.lean ====
/-
  The gradient of the MLP's down projection by its weight: the array the call leaves is the
  transposed activation times the cotangent.
-/
module

public import proofs.«01_k».proof.Defs
public import proofs.«01_k».proof.Proof.Gen.DwDownIdeal.Value
public import proofs.«01_k».proof.Proof.Gen.DwDownRefIdeal.Run
public import proofs.«01_k».proof.Proof.Gen.DwDown.Frame
public import proofs.«01_k».proof.Proof.Product

@[expose] public section
set_option maxRecDepth 16384
noncomputable section
namespace Cert.DwDownIdeal.Block
open Cert.DwDownIdeal Cert.DwDownIdeal.Gen Idealize.ShloMosaic Idealize.ShloMosaic.TcCoe Idealize.SL.Sem Cert.Product

/-- The blocks the windows are on at a point. -/
theorem idx_facts : ∀ t : Fin grid0.N,
    win0_0.index t 0 = 0 ∧ win0_0.index t 1 = t.val / 2 ∧ win0_1.index t 0 = 0 ∧ win0_1.index t 1 = t.val % 2 ∧
    win0_2.index t 0 = t.val / 2 ∧ win0_2.index t 1 = t.val % 2 := by decide +kernel

theorem tlt (t : Fin cfg0.N) : t.val < 22 := t.isLt

/-- One block of the result, from one column block of each argument. -/
theorem out_apply (a : Vec Ideal S2048x512 .bf16) (b : Vec Ideal S2048x1024 .f32) (r : Fin 512) (q : Fin 1024) :
    out0_2 a b (ix2 r q) = ∑ s : Fin 2048, (a (ix2 s r) : EReal) * b (ix2 s q) := by
  have e : out0_2 a b = (truncf (F := Ideal) (φ := .f32) .bf16 (matmul (F := Ideal) (φ₁ := .bf16) (φ₂ := .bf16) dot_S2048x512_S2048x1024_S512x1024_0_0_1_1_n_n none a (truncf (F := Ideal) (φ := .f32) .bf16 b bitsLt_bf16_f32) (constant S512x1024 .f32 0x00000000#32)) bitsLt_bf16_f32 : FVec Ideal S512x1024 .bf16) := by
    frame_out
    rfl
  rw [e]
  pointwise

variable (m : (ℓ : Loc nD τ sig) → Buf (Elt Ideal) ℓ) (c : Dev nD)

abbrev argX : FVec Ideal S2048x5632 .bf16 := m ((c : Thread nD τ).loc main_arg0)
abbrev argC : FVec Ideal S2048x2048 .f32 := m ((c : Thread nD τ).loc main_arg1)

theorem blockX (t : Fin cfg0.N) (s : Fin 2048) (r : Fin 512) :
    iblk m c 0 t (ix2 s r) = argX m c (ix2 s ⟨t.val / 2 * 512 + r.val, by have := tlt t; omega⟩) := by
  blk_ext [iblk, V, idx_facts t]
theorem blockC (t : Fin cfg0.N) (s : Fin 2048) (q : Fin 1024) :
    iblk m c 1 t (ix2 s q) = argC m c (ix2 s ⟨t.val % 2 * 1024 + q.val, by omega⟩) := by
  blk_ext [iblk, V, idx_facts t]

/-- The array the call leaves. -/
theorem array : (dats m 0 c).arrAt 2 cfg0.N = byWeight .bf16 (argX m c) (argC m c) := by
  refine (dats m 0 c).arrAt_eq_of_covers 2 _ (by decide +kernel) fun t hf y => ?_
  blk_simp [idx_facts t]
  rw [after0_2]
  obtain ⟨r, q, rfl⟩ : ∃ (r : Fin 512) (q : Fin 1024), y = ix2 r q := ⟨y 0, y 1, eq_ix2 y⟩
  rw [out_apply]
  simp only [blockX, blockC]
  refine (byWeight_apply (φ₃ := .bf16) (argX m c) (argC m c) _ _).symm.trans ?_
  blk_ext [idx_facts t]

/-- The call and the derivative of the product give the same array. -/
theorem algebra : Cert.algebraic_DwDownIdeal_DwDownRefIdeal := by
  intro m g m' g' _ hargs
  refine ⟨fun c => byWeight .bf16 (argX m c) (argC m c), ?_, ?_⟩
  · exact (θ_run defs _ _).mono (fun r h c => ⟨(h c).1.trans (array m c), (h c).2⟩) (DwDownIdeal.Value.run_blocks m g)
  · refine (θ_run DwDownRefIdeal.defs _ _).mono (fun r h c => ⟨(h c).1.trans ?_, (h c).2⟩) (DwDownRefIdeal.Value.run m' g')
    obtain ⟨e0, e1⟩ := hargs c
    rw [e0, e1]
    show _ = byWeight .bf16 (argX m c) (argC m c)
    dsimp only [argX, argC]
    generalize m (c.tc.loc main_arg0) = x
    generalize m (c.tc.loc main_arg1) = ct
    funext i
    obtain ⟨r, q, rfl⟩ : ∃ (r : Fin 5632) (q : Fin 2048), i = ix2 r q := ⟨i 0, i 1, eq_ix2 i⟩
    refine Eq.trans ?_ (byWeight_apply (φ₃ := .bf16) x ct r q).symm
    pointwise
    exact Finset.sum_congr rfl fun s _ => mul_comm _ _

theorem frame_printed : Cert.quiescent_DwDown := fun m g _ => Cert.DwDown.Gen.frame m g

theorem frame_ideal : Cert.quiescent_DwDownIdeal := fun m g _ => Cert.DwDownIdeal.Gen.frame m g

theorem frame_reference : Cert.quiescent_DwDownRefIdeal := fun m g _ =>
  (θ_run DwDownRefIdeal.defs _ _).mono (fun r h => And.intro (fun c => (h c).2) (sem_eq_zero_of_no_sems (by decide) r.2))
    (DwDownRefIdeal.Value.run m g)

end Cert.DwDownIdeal.Block
end
-- ==== Proof.DHf.lean ====
/-
  The gradient of the MLP's up projection by its input: four grid points each add a stretch of the
  shared axis to the accumulator, the last writes the block.
-/
module

public import proofs.«01_k».proof.Defs
public import proofs.«01_k».proof.Proof.Gen.DHfIdeal.Value
public import proofs.«01_k».proof.Proof.Gen.DHfRefIdeal.Run
public import proofs.«01_k».proof.Proof.Gen.DHf.Frame
public import proofs.«01_k».proof.Proof.Product

@[expose] public section
set_option maxRecDepth 16384
noncomputable section
namespace Cert.DHfIdeal.Block
open Cert.DHfIdeal Cert.DHfIdeal.Gen Idealize.ShloMosaic Idealize.ShloMosaic.TcCoe Idealize.SL.Sem Cert.Product

/-- The blocks the windows are on at a point. -/
theorem idx_facts : ∀ t : Fin grid0.N,
    win0_0.index t 0 = t.val / 8 ∧ win0_0.index t 1 = t.val % 4 ∧ win0_1.index t 0 = t.val / 4 % 2 ∧ win0_1.index t 1 = t.val % 4 ∧
    win0_2.index t 0 = t.val / 8 ∧ win0_2.index t 1 = t.val / 4 % 2 := by decide +kernel

theorem tlt (t : Fin cfg0.N) : t.val < 16 := t.isLt

/-- One stretch of the sum. -/
theorem part_apply (a b : Vec Ideal S1024x2816 .bf16) (r q : Fin 1024) :
    k0_pay1 a b (ix2 r q) = ∑ k : Fin 2816, (a (ix2 r k) : EReal) * b (ix2 q k) := by
  unfold k0_pay1
  pointwise

variable (m : (ℓ : Loc nD τ sig) → Buf (Elt Ideal) ℓ) (c : Dev nD)

abbrev argC : FVec Ideal S2048x11264 .bf16 := m ((c : Thread nD τ).loc main_arg0)
abbrev argW : FVec Ideal S2048x11264 .bf16 := m ((c : Thread nD τ).loc main_arg1)

theorem blockC (t : Fin cfg0.N) (r : Fin 1024) (k : Fin 2816) :
    iblk m c 0 t (ix2 r k) = argC m c (ix2 ⟨t.val / 8 * 1024 + r.val, by have := tlt t; omega⟩ ⟨t.val % 4 * 2816 + k.val, by omega⟩) := by
  blk_ext [iblk, V, idx_facts t]
theorem blockW (t : Fin cfg0.N) (q : Fin 1024) (k : Fin 2816) :
    iblk m c 1 t (ix2 q k) = argW m c (ix2 ⟨t.val / 4 % 2 * 1024 + q.val, by omega⟩ ⟨t.val % 4 * 2816 + k.val, by omega⟩) := by
  blk_ext [iblk, V, idx_facts t]

/-- The accumulator after a point: in the scratch, at a block's last point in the block. -/
def acc (n : ℕ) (h : n < cfg0.N) : S1024x1024.Idx → EReal :=
  if n % 4 = 3 then (outsAt0 m c n h).1 else (outsAt0 m c n h).2

/-- A point's stretch of the sum. -/
def term (t : Fin cfg0.N) : S1024x1024.Idx → EReal := k0_pay1 (iblk m c 0 t) (iblk m c 1 t)

theorem acc_reset (t : Fin cfg0.N) (h : t.val % 4 = 0) (i : S1024x1024.Idx) : acc m c t.val t.isLt i = 0 + term m c t i := by
  rw [acc, if_neg (by omega), outsAt0_A m c t h (by omega) (by omega), zero_add]
  dsimp only
  have e : ∀ (a b : Vec Ideal S1024x2816 .bf16), sout0_A_0 c (grid0.coords t) (ms0_0 t) (hs0_0 t) (ms0_1 t) (hs0_1 t) (ms0_2 t) (hs0_2 t) scM0_0 (Memref.isWhole_whole _) ((hcond0_0 t).mpr h) (fun h1 => by have := (hcond0_1 t).mp h1; omega) (fun h2 => by have := (hcond0_2 t).mp h2; omega) a b = k0_pay1 a b := by
    intro a b
    frame_out
    exact shapeCast_self _ _
  exact congrFun (e _ _) i

theorem acc_step (t : Fin cfg0.N) (h : ¬t.val % 4 = 0) (i : S1024x1024.Idx) :
    acc m c t.val t.isLt i = acc m c (t.val - 1) (Nat.lt_of_le_of_lt (Nat.sub_le _ _) t.isLt) i + term m c t i := by
  rw [acc, acc, if_neg (by omega : ¬(t.val - 1) % 4 = 3)]
  by_cases h2 : t.val % 4 = 3
  · rw [if_pos h2, outsAt0_C m c t h (by omega) h2]
    dsimp only
    generalize (outsAt0 m c (t.val - 1) _).2 = s
    have e : ∀ (a b : Vec Ideal S1024x2816 .bf16) (s : Vec Ideal S1024x1024 .f32), out0_C_2 c (grid0.coords t) (ms0_0 t) (hs0_0 t) (ms0_1 t) (hs0_1 t) (ms0_2 t) (hs0_2 t) scM0_0 (Memref.isWhole_whole _) (fun h0 => h ((hcond0_0 t).mp h0)) (fun h1 => by have := (hcond0_1 t).mp h1; omega) ((hcond0_2 t).mpr h2) a b s = addf s (k0_pay1 a b) := by
      intro a b s
      frame_out
      erw [Memref.IsWhole.read_unread]
      rfl
    exact congrFun (e _ _ _) i
  · rw [if_neg h2, outsAt0_B m c t h (by omega) h2]
    dsimp only
    generalize (outsAt0 m c (t.val - 1) _).2 = s
    have e : ∀ (a b : Vec Ideal S1024x2816 .bf16) (s : Vec Ideal S1024x1024 .f32), sout0_B_0 c (grid0.coords t) (ms0_0 t) (hs0_0 t) (ms0_1 t) (hs0_1 t) (ms0_2 t) (hs0_2 t) scM0_0 (Memref.isWhole_whole _) (fun h0 => h ((hcond0_0 t).mp h0)) ((hcond0_1 t).mpr (by omega)) (fun h3 => h2 ((hcond0_2 t).mp h3)) a b s = addf s (k0_pay1 a b) := by
      intro a b s
      frame_out
      erw [Memref.IsWhole.read_unread]
      exact shapeCast_self _ _
    exact congrFun (e _ _ _) i

/-- At a block's last point the accumulator is the whole sum. -/
theorem acc_last (t : Fin cfg0.N) (h : t.val % 4 = 3) (r q : Fin 1024) :
    (outsAt0 m c t.val t.isLt).1 (ix2 r q) = byInput .f32 (argC m c) (argW m c) (ix2 ⟨t.val / 8 * 1024 + r.val, by have := tlt t; omega⟩ ⟨t.val / 4 % 2 * 1024 + q.val, by omega⟩) := by
  have e := Pipeline.eq_sum_fin_of_reset_step_apply_of_flush (acc m c) 4 (fun _ => 0) (term m c) (acc_reset m c) (acc_step m c) t h (ix2 r q)
  rw [acc, if_pos h, zero_add] at e
  refine e.trans ?_
  rw [byInput_apply]
  rw [← Fin.sum_mul_add_fin (L := 11264) 4 2816]
  refine Finset.sum_congr rfl fun s _ => ?_
  have hs := s.isLt
  have ht := tlt t
  rw [term, part_apply]
  refine Finset.sum_congr rfl fun k _ => ?_
  rw [blockC, blockW]
  refine congrArg₂ (· * ·) (congrArg _ (congrArg₂ ix2 (Fin.ext ?_) (Fin.ext ?_))) (congrArg _ (congrArg₂ ix2 (Fin.ext ?_) (Fin.ext ?_)))
  all_goals dsimp only; omega

/-- The array the call leaves. -/
theorem array : (dats m 0 c).arrAt 2 cfg0.N = byInput .f32 (argC m c) (argW m c) := by
  refine (dats m 0 c).arrAt_eq_of_covers 2 _ (by decide +kernel) fun t hf y => ?_
  have h := (flush0_2 t).mp hf
  blk_simp [idx_facts t]
  rw [after0_2]
  obtain ⟨r, q, rfl⟩ : ∃ (r : Fin 1024) (q : Fin 1024), y = ix2 r q := ⟨y 0, y 1, eq_ix2 y⟩
  rw [acc_last m c t h]
  blk_ext [idx_facts t]

/-- The call and the derivative of the product give the same array. -/
theorem algebra : Cert.algebraic_DHfIdeal_DHfRefIdeal := by
  intro m g m' g' _ hargs
  refine ⟨fun c => byInput .f32 (argC m c) (argW m c), ?_, ?_⟩
  · exact (θ_run defs _ _).mono (fun r h c => ⟨(h c).1.trans (array m c), (h c).2⟩) (DHfIdeal.Value.run_blocks m g)
  · refine (θ_run DHfRefIdeal.defs _ _).mono (fun r h c => ⟨(h c).1.trans ?_, (h c).2⟩) (DHfRefIdeal.Value.run m' g')
    obtain ⟨e0, e1⟩ := hargs c
    rw [e0, e1]
    show _ = byInput .f32 (argC m c) (argW m c)
    dsimp only [argC, argW]
    generalize m (c.tc.loc main_arg0) = ct
    generalize m (c.tc.loc main_arg1) = w
    funext i
    obtain ⟨r, q, rfl⟩ : ∃ (r : Fin 2048) (q : Fin 2048), i = ix2 r q := ⟨i 0, i 1, eq_ix2 i⟩
    refine Eq.trans ?_ (byInput_apply (φ₃ := .f32) ct w r q).symm
    pointwise

theorem frame_printed : Cert.quiescent_DHf := fun m g _ => Cert.DHf.Gen.frame m g

theorem frame_ideal : Cert.quiescent_DHfIdeal := fun m g _ => Cert.DHfIdeal.Gen.frame m g

theorem frame_reference : Cert.quiescent_DHfRefIdeal := fun m g _ =>
  (θ_run DHfRefIdeal.defs _ _).mono (fun r h => And.intro (fun c => (h c).2) (sem_eq_zero_of_no_sems (by decide) r.2))
    (DHfRefIdeal.Value.run m g)

end Cert.DHfIdeal.Block
end
-- ==== Proof.DwUp.lean ====
/-
  The gradient of the MLP's up projection, as eight column shards by its weight: the array the call leaves is the
  transposed input times the cotangent, shard by shard.
-/
module

public import proofs.«01_k».proof.Defs
public import proofs.«01_k».proof.Proof.Gen.DwUpIdeal.Value
public import proofs.«01_k».proof.Proof.Gen.DwUpRefIdeal.Run
public import proofs.«01_k».proof.Proof.Gen.DwUp.Frame
public import proofs.«01_k».proof.Proof.Product

@[expose] public section
set_option maxRecDepth 16384
noncomputable section
namespace Cert.DwUpIdeal.Block
open Cert.DwUpIdeal Cert.DwUpIdeal.Gen Idealize.ShloMosaic Idealize.ShloMosaic.TcCoe Idealize.SL.Sem Cert.Product

/-- The blocks the windows are on at a point. -/
theorem idx_facts : ∀ t : Fin grid0.N,
    win0_0.index t 0 = 0 ∧ win0_0.index t 1 = t.val / 8 ∧ win0_1.index t 0 = 0 ∧ win0_1.index t 1 = t.val % 8 ∧
    win0_2.index t 0 = t.val % 8 ∧ win0_2.index t 1 = t.val / 8 ∧ win0_2.index t 2 = 0 := by decide +kernel

theorem tlt (t : Fin cfg0.N) : t.val < 16 := t.isLt

/-- The gradient as its eight column shards. -/
def shards (x : FVec Ideal S2048x2048 .bf16) (ct : FVec Ideal S2048x11264 .bf16) : FVec Ideal S8x2048x1408 .bf16 :=
  fun i => byWeight .bf16 x ct (ix2 (i 1 : Fin 2048) (⟨(i 0 : Fin 8).val * 1408 + (i 2 : Fin 1408).val, by
    have h0 : (i 0).val < 8 := (i 0).isLt; have h2 : (i 2).val < 1408 := (i 2).isLt; show (i 0).val * 1408 + (i 2).val < 11264; omega⟩ : Fin 11264))

theorem shards_apply (x : FVec Ideal S2048x2048 .bf16) (ct : FVec Ideal S2048x11264 .bf16) (z : Fin 8) (r : Fin 2048) (q : Fin 1408) :
    shards x ct (ix3 z r q) = ∑ s : Fin 2048, (x (ix2 s r) : EReal) * ct (ix2 s ⟨z.val * 1408 + q.val, by omega⟩) := rfl

/-- One block of the result, from one column block of each argument. -/
theorem out_apply (a : Vec Ideal S2048x1024 .bf16) (b : Vec Ideal S2048x1408 .bf16) (z : Fin 1) (r : Fin 1024) (q : Fin 1408) :
    out0_2 a b (ix3 z r q) = ∑ s : Fin 2048, (a (ix2 s r) : EReal) * b (ix2 s q) := by
  have e : out0_2 a b = (shapeCast S1x1024x1408 (truncf (F := Ideal) (φ := .f32) .bf16 (matmul (F := Ideal) (φ₁ := .bf16) (φ₂ := .bf16) dot_S2048x1024_S2048x1408_S1024x1408_0_0_1_1_n_n none a b (constant S1024x1408 .f32 0x00000000#32)) bitsLt_bf16_f32) shapeCasts_S1024x1408_S1x1024x1408 : FVec Ideal S1x1024x1408 .bf16) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argC : FVec Ideal S2048x11264 .bf16 := m ((c : Thread nD τ).loc main_arg1)

theorem blockX (t : Fin cfg0.N) (s : Fin 2048) (r : Fin 1024) :
    iblk m c 0 t (ix2 s r) = argX m c (ix2 s ⟨t.val / 8 * 1024 + r.val, by have := tlt t; omega⟩) := by
  blk_ext [iblk, V, idx_facts t]
theorem blockC (t : Fin cfg0.N) (s : Fin 2048) (q : Fin 1408) :
    iblk m c 1 t (ix2 s q) = argC m c (ix2 s ⟨t.val % 8 * 1408 + q.val, by omega⟩) := by
  blk_ext [iblk, V, idx_facts t]

/-- The array the call leaves. -/
theorem array : (dats m 0 c).arrAt 2 cfg0.N = shards (argX m c) (argC m c) := by
  refine (dats m 0 c).arrAt_eq_of_covers 2 _ (by decide +kernel) fun t hf y => ?_
  blk_simp [idx_facts t]
  rw [after0_2]
  obtain ⟨z, r, q, rfl⟩ : ∃ (z : Fin 1) (r : Fin 1024) (q : Fin 1408), y = ix3 z r q := ⟨y 0, y 1, y 2, eq_ix3 y⟩
  rw [out_apply]
  simp only [blockX, blockC]
  refine (shards_apply (argX m c) (argC m c) ⟨t.val % 8, by omega⟩ _ _).symm.trans ?_
  blk_ext [idx_facts t]

/-- The call and the derivative of the product give the same array. -/
theorem algebra : Cert.algebraic_DwUpIdeal_DwUpRefIdeal := by
  intro m g m' g' _ hargs
  refine ⟨fun c => shards (argX m c) (argC m c), ?_, ?_⟩
  · exact (θ_run defs _ _).mono (fun r h c => ⟨(h c).1.trans (array m c), (h c).2⟩) (DwUpIdeal.Value.run_blocks m g)
  · refine (θ_run DwUpRefIdeal.defs _ _).mono (fun r h c => ⟨(h c).1.trans ?_, (h c).2⟩) (DwUpRefIdeal.Value.run m' g')
    obtain ⟨e0, e1⟩ := hargs c
    rw [e0, e1]
    show _ = shards (argX m c) (argC m c)
    dsimp only [argX, argC]
    generalize m (c.tc.loc main_arg0) = x
    generalize m (c.tc.loc main_arg1) = ct
    funext i
    obtain ⟨z, r, q, rfl⟩ : ∃ (z : Fin 8) (r : Fin 2048) (q : Fin 1408), i = ix3 z r q := ⟨i 0, i 1, i 2, eq_ix3 i⟩
    refine Eq.trans ?_ (shards_apply x ct z r q).symm
    pointwise
    exact Finset.sum_congr rfl fun s _ => mul_comm _ _

theorem frame_printed : Cert.quiescent_DwUp := fun m g _ => Cert.DwUp.Gen.frame m g

theorem frame_ideal : Cert.quiescent_DwUpIdeal := fun m g _ => Cert.DwUpIdeal.Gen.frame m g

theorem frame_reference : Cert.quiescent_DwUpRefIdeal := fun m g _ =>
  (θ_run DwUpRefIdeal.defs _ _).mono (fun r h => And.intro (fun c => (h c).2) (sem_eq_zero_of_no_sems (by decide) r.2))
    (DwUpRefIdeal.Value.run m g)

end Cert.DwUpIdeal.Block
end
-- ==== Proof.DCat.lean ====
/-
  The gradient of the output projection by its input: the array the call leaves is the
  cotangent times the transposed weight.
-/
module

public import proofs.«01_k».proof.Defs
public import proofs.«01_k».proof.Proof.Gen.DCatIdeal.Value
public import proofs.«01_k».proof.Proof.Gen.DCatRefIdeal.Run
public import proofs.«01_k».proof.Proof.Gen.DCat.Frame
public import proofs.«01_k».proof.Proof.Product

@[expose] public section
set_option maxRecDepth 16384
noncomputable section
namespace Cert.DCatIdeal.Block
open Cert.DCatIdeal Cert.DCatIdeal.Gen Idealize.ShloMosaic Idealize.ShloMosaic.TcCoe Idealize.SL.Sem Cert.Product

/-- The blocks the windows are on at a point. -/
theorem idx_facts : ∀ t : Fin grid0.N,
    win0_0.index t 0 = t.val / 2 ∧ win0_0.index t 1 = 0 ∧ win0_1.index t 0 = t.val % 2 ∧ win0_1.index t 1 = 0 ∧
    win0_2.index t 0 = t.val / 2 ∧ win0_2.index t 1 = t.val % 2 := by decide +kernel

theorem tlt (t : Fin cfg0.N) : t.val < 4 := t.isLt

/-- One block of the result, from one row block of each argument. -/
theorem out_apply (a : Vec Ideal S1024x2048 .f32) (b : Vec Ideal S1024x2048 .bf16) (r : Fin 1024) (q : Fin 1024) :
    out0_2 a b (ix2 r q) = ∑ k : Fin 2048, (a (ix2 r k) : EReal) * b (ix2 q k) := by
  have e : out0_2 a b = (matmul (F := Ideal) (φ₁ := .bf16) (φ₂ := .bf16) dot_S1024x2048_S1024x2048_S1024x1024_1_1_0_0_n_n none (truncf (F := Ideal) (φ := .f32) .bf16 a bitsLt_bf16_f32) b (constant S1024x1024 .f32 0x00000000#32) : FVec Ideal S1024x1024 .f32) := by
    frame_out
    rfl
  rw [e]
  pointwise

variable (m : (ℓ : Loc nD τ sig) → Buf (Elt Ideal) ℓ) (c : Dev nD)

abbrev argX : FVec Ideal S2048x2048 .f32 := m ((c : Thread nD τ).loc main_arg0)
abbrev argW : FVec Ideal S2048x2048 .bf16 := m ((c : Thread nD τ).loc main_arg1)

theorem blockX (t : Fin cfg0.N) (r : Fin 1024) (k : Fin 2048) :
    iblk m c 0 t (ix2 r k) = argX m c (ix2 ⟨t.val / 2 * 1024 + r.val, by have := tlt t; omega⟩ k) := by
  blk_ext [iblk, V, idx_facts t]
theorem blockW (t : Fin cfg0.N) (q : Fin 1024) (k : Fin 2048) :
    iblk m c 1 t (ix2 q k) = argW m c (ix2 ⟨t.val % 2 * 1024 + q.val, by omega⟩ k) := by
  blk_ext [iblk, V, idx_facts t]

/-- The array the call leaves. -/
theorem array : (dats m 0 c).arrAt 2 cfg0.N = byInput .f32 (argX m c) (argW m c) := by
  refine (dats m 0 c).arrAt_eq_of_covers 2 _ (by decide +kernel) fun t hf y => ?_
  blk_simp [idx_facts t]
  rw [after0_2]
  obtain ⟨r, q, rfl⟩ : ∃ (r : Fin 1024) (q : Fin 1024), y = ix2 r q := ⟨y 0, y 1, eq_ix2 y⟩
  rw [out_apply]
  simp only [blockX, blockW]
  refine (byInput_apply (φ₃ := .f32) (argX m c) (argW m c) _ _).symm.trans ?_
  blk_ext [idx_facts t]

/-- The call and the derivative of the product give the same array. -/
theorem algebra : Cert.algebraic_DCatIdeal_DCatRefIdeal := by
  intro m g m' g' _ hargs
  refine ⟨fun c => byInput .f32 (argX m c) (argW m c), ?_, ?_⟩
  · exact (θ_run defs _ _).mono (fun r h c => ⟨(h c).1.trans (array m c), (h c).2⟩) (DCatIdeal.Value.run_blocks m g)
  · refine (θ_run DCatRefIdeal.defs _ _).mono (fun r h c => ⟨(h c).1.trans ?_, (h c).2⟩) (DCatRefIdeal.Value.run m' g')
    obtain ⟨e0, e1⟩ := hargs c
    rw [e0, e1]
    show _ = byInput .f32 (argX m c) (argW m c)
    dsimp only [argX, argW]
    generalize m (c.tc.loc main_arg0) = ct
    generalize m (c.tc.loc main_arg1) = w
    funext i
    obtain ⟨r, q, rfl⟩ : ∃ (r : Fin 2048) (q : Fin 2048), i = ix2 r q := ⟨i 0, i 1, eq_ix2 i⟩
    refine Eq.trans ?_ (byInput_apply (φ₃ := .f32) ct w r q).symm
    pointwise

theorem frame_printed : Cert.quiescent_DCat := fun m g _ => Cert.DCat.Gen.frame m g

theorem frame_ideal : Cert.quiescent_DCatIdeal := fun m g _ => Cert.DCatIdeal.Gen.frame m g

theorem frame_reference : Cert.quiescent_DCatRefIdeal := fun m g _ =>
  (θ_run DCatRefIdeal.defs _ _).mono (fun r h => And.intro (fun c => (h c).2) (sem_eq_zero_of_no_sems (by decide) r.2))
    (DCatRefIdeal.Value.run m g)

end Cert.DCatIdeal.Block
end
-- ==== Proof.DwOut.lean ====
/-
  The gradient of the output projection by its weight: the array the call leaves is the
  transposed input times the cotangent.
-/
module

public import proofs.«01_k».proof.Defs
public import proofs.«01_k».proof.Proof.Gen.DwOutIdeal.Value
public import proofs.«01_k».proof.Proof.Gen.DwOutRefIdeal.Run
public import proofs.«01_k».proof.Proof.Gen.DwOut.Frame
public import proofs.«01_k».proof.Proof.Product

@[expose] public section
set_option maxRecDepth 16384
noncomputable section
namespace Cert.DwOutIdeal.Block
open Cert.DwOutIdeal Cert.DwOutIdeal.Gen Idealize.ShloMosaic Idealize.ShloMosaic.TcCoe Idealize.SL.Sem Cert.Product

/-- The blocks the windows are on at a point. -/
theorem idx_facts : ∀ t : Fin grid0.N,
    win0_0.index t 0 = 0 ∧ win0_0.index t 1 = t.val / 2 ∧ win0_1.index t 0 = 0 ∧ win0_1.index t 1 = t.val % 2 ∧
    win0_2.index t 0 = t.val / 2 ∧ win0_2.index t 1 = t.val % 2 := by decide +kernel

theorem tlt (t : Fin cfg0.N) : t.val < 4 := t.isLt

/-- One block of the result, from one column block of each argument. -/
theorem out_apply (a : Vec Ideal S2048x1024 .bf16) (b : Vec Ideal S2048x1024 .f32) (r : Fin 1024) (q : Fin 1024) :
    out0_2 a b (ix2 r q) = ∑ s : Fin 2048, (a (ix2 s r) : EReal) * b (ix2 s q) := by
  have e : out0_2 a b = (truncf (F := Ideal) (φ := .f32) .bf16 (matmul (F := Ideal) (φ₁ := .bf16) (φ₂ := .bf16) dot_S2048x1024_S2048x1024_S1024x1024_0_0_1_1_n_n none a (truncf (F := Ideal) (φ := .f32) .bf16 b bitsLt_bf16_f32) (constant S1024x1024 .f32 0x00000000#32)) bitsLt_bf16_f32 : FVec Ideal S1024x1024 .bf16) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argC : FVec Ideal S2048x2048 .f32 := m ((c : Thread nD τ).loc main_arg1)

theorem blockX (t : Fin cfg0.N) (s : Fin 2048) (r : Fin 1024) :
    iblk m c 0 t (ix2 s r) = argX m c (ix2 s ⟨t.val / 2 * 1024 + r.val, by have := tlt t; omega⟩) := by
  blk_ext [iblk, V, idx_facts t]
theorem blockC (t : Fin cfg0.N) (s : Fin 2048) (q : Fin 1024) :
    iblk m c 1 t (ix2 s q) = argC m c (ix2 s ⟨t.val % 2 * 1024 + q.val, by omega⟩) := by
  blk_ext [iblk, V, idx_facts t]

/-- The array the call leaves. -/
theorem array : (dats m 0 c).arrAt 2 cfg0.N = byWeight .bf16 (argX m c) (argC m c) := by
  refine (dats m 0 c).arrAt_eq_of_covers 2 _ (by decide +kernel) fun t hf y => ?_
  blk_simp [idx_facts t]
  rw [after0_2]
  obtain ⟨r, q, rfl⟩ : ∃ (r : Fin 1024) (q : Fin 1024), y = ix2 r q := ⟨y 0, y 1, eq_ix2 y⟩
  rw [out_apply]
  simp only [blockX, blockC]
  refine (byWeight_apply (φ₃ := .bf16) (argX m c) (argC m c) _ _).symm.trans ?_
  blk_ext [idx_facts t]

/-- The call and the derivative of the product give the same array. -/
theorem algebra : Cert.algebraic_DwOutIdeal_DwOutRefIdeal := by
  intro m g m' g' _ hargs
  refine ⟨fun c => byWeight .bf16 (argX m c) (argC m c), ?_, ?_⟩
  · exact (θ_run defs _ _).mono (fun r h c => ⟨(h c).1.trans (array m c), (h c).2⟩) (DwOutIdeal.Value.run_blocks m g)
  · refine (θ_run DwOutRefIdeal.defs _ _).mono (fun r h c => ⟨(h c).1.trans ?_, (h c).2⟩) (DwOutRefIdeal.Value.run m' g')
    obtain ⟨e0, e1⟩ := hargs c
    rw [e0, e1]
    show _ = byWeight .bf16 (argX m c) (argC m c)
    dsimp only [argX, argC]
    generalize m (c.tc.loc main_arg0) = x
    generalize m (c.tc.loc main_arg1) = ct
    funext i
    obtain ⟨r, q, rfl⟩ : ∃ (r : Fin 2048) (q : Fin 2048), i = ix2 r q := ⟨i 0, i 1, eq_ix2 i⟩
    refine Eq.trans ?_ (byWeight_apply (φ₃ := .bf16) x ct r q).symm
    pointwise
    exact Finset.sum_congr rfl fun s _ => mul_comm _ _

theorem frame_printed : Cert.quiescent_DwOut := fun m g _ => Cert.DwOut.Gen.frame m g

theorem frame_ideal : Cert.quiescent_DwOutIdeal := fun m g _ => Cert.DwOutIdeal.Gen.frame m g

theorem frame_reference : Cert.quiescent_DwOutRefIdeal := fun m g _ =>
  (θ_run DwOutRefIdeal.defs _ _).mono (fun r h => And.intro (fun c => (h c).2) (sem_eq_zero_of_no_sems (by decide) r.2))
    (DwOutRefIdeal.Value.run m g)

end Cert.DwOutIdeal.Block
end
-- ==== Proof.OutProj.lean ====
/-
  The output projection: the array the call leaves is the input times the weight, plus the
  residual.
-/
module

public import proofs.«01_k».proof.Defs
public import proofs.«01_k».proof.Proof.Gen.OutProjIdeal.Value
public import proofs.«01_k».proof.Proof.Gen.OutProjRefIdeal.Run
public import proofs.«01_k».proof.Proof.Gen.OutProj.Frame
public import proofs.«01_k».proof.Proof.Product

@[expose] public section
set_option maxRecDepth 16384
noncomputable section
namespace Cert.OutProjIdeal.Block
open Cert.OutProjIdeal Cert.OutProjIdeal.Gen Idealize.ShloMosaic Idealize.ShloMosaic.TcCoe Idealize.SL.Sem Cert.Product

/-- The blocks the windows are on at a point. -/
theorem idx_facts : ∀ t : Fin grid0.N,
    win0_0.index t 0 = t.val / 2 ∧ win0_0.index t 1 = 0 ∧ win0_1.index t 0 = 0 ∧ win0_1.index t 1 = t.val % 2 ∧
    win0_2.index t 0 = t.val / 2 ∧ win0_2.index t 1 = t.val % 2 ∧ win0_3.index t 0 = t.val / 2 ∧ win0_3.index t 1 = t.val % 2 := by decide +kernel

theorem tlt (t : Fin cfg0.N) : t.val < 4 := t.isLt

/-- One block of the result, from one row block and one column block. -/
theorem out_apply (a : Vec Ideal S1024x2048 .bf16) (b : Vec Ideal S2048x1024 .bf16) (s : Vec Ideal S1024x1024 .f32) (r : Fin 1024) (q : Fin 1024) :
    out0_3 a b s (ix2 r q) = (∑ k : Fin 2048, (a (ix2 r k) : EReal) * b (ix2 k q)) + s (ix2 r q) := by
  have e : out0_3 a b s = (addf (matmul (F := Ideal) (φ₁ := .bf16) (φ₂ := .bf16) dot_S1024x2048_S2048x1024_S1024x1024_1_0_0_1_n_n none a b (constant S1024x1024 .f32 0x00000000#32)) s : FVec Ideal S1024x1024 .f32) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argW : FVec Ideal S2048x2048 .bf16 := m ((c : Thread nD τ).loc main_arg1)
abbrev argR : FVec Ideal S2048x2048 .f32 := m ((c : Thread nD τ).loc main_arg2)

theorem blockX (t : Fin cfg0.N) (r : Fin 1024) (k : Fin 2048) :
    iblk m c 0 t (ix2 r k) = argX m c (ix2 ⟨t.val / 2 * 1024 + r.val, by have := tlt t; omega⟩ k) := by
  blk_ext [iblk, V, idx_facts t]
theorem blockW (t : Fin cfg0.N) (k : Fin 2048) (q : Fin 1024) :
    iblk m c 1 t (ix2 k q) = argW m c (ix2 k ⟨t.val % 2 * 1024 + q.val, by omega⟩) := by
  blk_ext [iblk, V, idx_facts t]
theorem blockR (t : Fin cfg0.N) (r q : Fin 1024) :
    iblk m c 2 t (ix2 r q) = argR m c (ix2 ⟨t.val / 2 * 1024 + r.val, by have := tlt t; omega⟩ ⟨t.val % 2 * 1024 + q.val, by omega⟩) := by
  blk_ext [iblk, V, idx_facts t]

/-- The array the call leaves. -/
theorem array : (dats m 0 c).arrAt 3 cfg0.N = residual .f32 (argX m c) (argW m c) (argR m c) := by
  refine (dats m 0 c).arrAt_eq_of_covers 3 _ (by decide +kernel) fun t hf y => ?_
  blk_simp [idx_facts t]
  rw [after0_3]
  obtain ⟨r, q, rfl⟩ : ∃ (r : Fin 1024) (q : Fin 1024), y = ix2 r q := ⟨y 0, y 1, eq_ix2 y⟩
  rw [out_apply]
  simp only [blockX, blockW, blockR]
  refine (residual_apply (φ₃ := .f32) (argX m c) (argW m c) (argR m c) _ _).symm.trans ?_
  blk_ext [idx_facts t]

/-- The call and the plain product give the same array. -/
theorem algebra : Cert.algebraic_OutProjIdeal_OutProjRefIdeal := by
  intro m g m' g' _ hargs
  refine ⟨fun c => residual .f32 (argX m c) (argW m c) (argR m c), ?_, ?_⟩
  · exact (θ_run defs _ _).mono (fun r h c => ⟨(h c).1.trans (array m c), (h c).2⟩) (OutProjIdeal.Value.run_blocks m g)
  · refine (θ_run OutProjRefIdeal.defs _ _).mono (fun r h c => ⟨(h c).1.trans ?_, (h c).2⟩) (OutProjRefIdeal.Value.run m' g')
    obtain ⟨e0, e1, e2⟩ := hargs c
    rw [e0, e1, e2]
    show _ = residual .f32 (argX m c) (argW m c) (argR m c)
    dsimp only [argX, argW, argR]
    generalize m (c.tc.loc main_arg0) = x
    generalize m (c.tc.loc main_arg1) = w
    generalize m (c.tc.loc main_arg2) = y
    funext i
    obtain ⟨r, q, rfl⟩ : ∃ (r : Fin 2048) (q : Fin 2048), i = ix2 r q := ⟨i 0, i 1, eq_ix2 i⟩
    refine Eq.trans ?_ (residual_apply (φ₃ := .f32) x w y r q).symm
    pointwise
    exact add_comm _ _

theorem frame_printed : Cert.quiescent_OutProj := fun m g _ => Cert.OutProj.Gen.frame m g

theorem frame_ideal : Cert.quiescent_OutProjIdeal := fun m g _ => Cert.OutProjIdeal.Gen.frame m g

theorem frame_reference : Cert.quiescent_OutProjRefIdeal := fun m g _ =>
  (θ_run OutProjRefIdeal.defs _ _).mono (fun r h => And.intro (fun c => (h c).2) (sem_eq_zero_of_no_sems (by decide) r.2))
    (OutProjRefIdeal.Value.run m g)

end Cert.OutProjIdeal.Block
end
-- ==== Proof.FfnUp.lean ====
/-
  The MLP's up projection: the array the call leaves is the input times the weight.
-/
module

public import proofs.«01_k».proof.Defs
public import proofs.«01_k».proof.Proof.Gen.FfnUpIdeal.Value
public import proofs.«01_k».proof.Proof.Gen.FfnUpRefIdeal.Run
public import proofs.«01_k».proof.Proof.Gen.FfnUp.Frame
public import proofs.«01_k».proof.Proof.Product

@[expose] public section
set_option maxRecDepth 16384
noncomputable section
namespace Cert.FfnUpIdeal.Block
open Cert.FfnUpIdeal Cert.FfnUpIdeal.Gen Idealize.ShloMosaic Idealize.ShloMosaic.TcCoe Idealize.SL.Sem Cert.Product

/-- The blocks the windows are on at a point. -/
theorem idx_facts : ∀ t : Fin grid0.N,
    win0_0.index t 0 = t.val / 11 ∧ win0_0.index t 1 = 0 ∧ win0_1.index t 0 = 0 ∧ win0_1.index t 1 = t.val % 11 ∧
    win0_2.index t 0 = t.val / 11 ∧ win0_2.index t 1 = t.val % 11 := by decide +kernel

theorem tlt (t : Fin cfg0.N) : t.val < 22 := t.isLt

/-- One block of the result, from one row block and one column block. -/
theorem out_apply (a : Vec Ideal S1024x2048 .bf16) (b : Vec Ideal S2048x1024 .bf16) (r : Fin 1024) (q : Fin 1024) :
    out0_2 a b (ix2 r q) = ∑ k : Fin 2048, (a (ix2 r k) : EReal) * b (ix2 k q) := by
  have e : out0_2 a b = (matmul (F := Ideal) (φ₁ := .bf16) (φ₂ := .bf16) dot_S1024x2048_S2048x1024_S1024x1024_1_0_0_1_n_n none a b (constant S1024x1024 .f32 0x00000000#32) : FVec Ideal S1024x1024 .f32) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argW : FVec Ideal S2048x11264 .bf16 := m ((c : Thread nD τ).loc main_arg1)

theorem blockX (t : Fin cfg0.N) (r : Fin 1024) (k : Fin 2048) :
    iblk m c 0 t (ix2 r k) = argX m c (ix2 ⟨t.val / 11 * 1024 + r.val, by have := tlt t; omega⟩ k) := by
  blk_ext [iblk, V, idx_facts t]
theorem blockW (t : Fin cfg0.N) (k : Fin 2048) (q : Fin 1024) :
    iblk m c 1 t (ix2 k q) = argW m c (ix2 k ⟨t.val % 11 * 1024 + q.val, by omega⟩) := by
  blk_ext [iblk, V, idx_facts t]

/-- The array the call leaves. -/
theorem array : (dats m 0 c).arrAt 2 cfg0.N = forward .f32 (argX m c) (argW m c) := by
  refine (dats m 0 c).arrAt_eq_of_covers 2 _ (by decide +kernel) fun t hf y => ?_
  blk_simp [idx_facts t]
  rw [after0_2]
  obtain ⟨r, q, rfl⟩ : ∃ (r : Fin 1024) (q : Fin 1024), y = ix2 r q := ⟨y 0, y 1, eq_ix2 y⟩
  rw [out_apply]
  simp only [blockX, blockW]
  refine (forward_apply (φ₃ := .f32) (argX m c) (argW m c) _ _).symm.trans ?_
  blk_ext [idx_facts t]

/-- The call and the plain product give the same array. -/
theorem algebra : Cert.algebraic_FfnUpIdeal_FfnUpRefIdeal := by
  intro m g m' g' _ hargs
  refine ⟨fun c => forward .f32 (argX m c) (argW m c), ?_, ?_⟩
  · exact (θ_run defs _ _).mono (fun r h c => ⟨(h c).1.trans (array m c), (h c).2⟩) (FfnUpIdeal.Value.run_blocks m g)
  · refine (θ_run FfnUpRefIdeal.defs _ _).mono (fun r h c => ⟨(h c).1.trans ?_, (h c).2⟩) (FfnUpRefIdeal.Value.run m' g')
    obtain ⟨e0, e1⟩ := hargs c
    rw [e0, e1]
    show _ = forward .f32 (argX m c) (argW m c)
    dsimp only [argX, argW]
    generalize m (c.tc.loc main_arg0) = x
    generalize m (c.tc.loc main_arg1) = w
    funext i
    obtain ⟨r, q, rfl⟩ : ∃ (r : Fin 2048) (q : Fin 11264), i = ix2 r q := ⟨i 0, i 1, eq_ix2 i⟩
    refine Eq.trans ?_ (forward_apply (φ₃ := .f32) x w r q).symm
    pointwise

theorem frame_printed : Cert.quiescent_FfnUp := fun m g _ => Cert.FfnUp.Gen.frame m g

theorem frame_ideal : Cert.quiescent_FfnUpIdeal := fun m g _ => Cert.FfnUpIdeal.Gen.frame m g

theorem frame_reference : Cert.quiescent_FfnUpRefIdeal := fun m g _ =>
  (θ_run FfnUpRefIdeal.defs _ _).mono (fun r h => And.intro (fun c => (h c).2) (sem_eq_zero_of_no_sems (by decide) r.2))
    (FfnUpRefIdeal.Value.run m g)

end Cert.FfnUpIdeal.Block
end
-- ==== Proof.FfnDown.lean ====
/-
  The MLP's down projection: four grid points each add a stretch of the shared axis to the
  accumulator, the last adds the residual and writes the block.
-/
module

public import proofs.«01_k».proof.Defs
public import proofs.«01_k».proof.Proof.Gen.FfnDownIdeal.Value
public import proofs.«01_k».proof.Proof.Gen.FfnDownRefIdeal.Run
public import proofs.«01_k».proof.Proof.Gen.FfnDown.Frame
public import proofs.«01_k».proof.Proof.Product

@[expose] public section
set_option maxRecDepth 16384
noncomputable section
namespace Cert.FfnDownIdeal.Block
open Cert.FfnDownIdeal Cert.FfnDownIdeal.Gen Idealize.ShloMosaic Idealize.ShloMosaic.TcCoe Idealize.SL.Sem Cert.Product

/-- The blocks the windows are on at a point. -/
theorem idx_facts : ∀ t : Fin grid0.N,
    win0_0.index t 0 = t.val / 8 ∧ win0_0.index t 1 = t.val % 4 ∧ win0_1.index t 0 = t.val % 4 ∧ win0_1.index t 1 = t.val / 4 % 2 ∧
    win0_2.index t 0 = t.val / 8 ∧ win0_2.index t 1 = t.val / 4 % 2 ∧ win0_3.index t 0 = t.val / 8 ∧ win0_3.index t 1 = t.val / 4 % 2 := by decide +kernel

theorem tlt (t : Fin cfg0.N) : t.val < 16 := t.isLt

/-- One stretch of the sum. -/
theorem part_apply (a : Vec Ideal S1024x1408 .bf16) (b : Vec Ideal S1408x1024 .bf16) (r q : Fin 1024) :
    k0_pay1 a b (ix2 r q) = ∑ k : Fin 1408, (a (ix2 r k) : EReal) * b (ix2 k q) := by
  unfold k0_pay1
  pointwise

variable (m : (ℓ : Loc nD τ sig) → Buf (Elt Ideal) ℓ) (c : Dev nD)

abbrev argX : FVec Ideal S2048x5632 .bf16 := m ((c : Thread nD τ).loc main_arg0)
abbrev argW : FVec Ideal S5632x2048 .bf16 := m ((c : Thread nD τ).loc main_arg1)
abbrev argR : FVec Ideal S2048x2048 .f32 := m ((c : Thread nD τ).loc main_arg2)

theorem blockX (t : Fin cfg0.N) (r : Fin 1024) (k : Fin 1408) :
    iblk m c 0 t (ix2 r k) = argX m c (ix2 ⟨t.val / 8 * 1024 + r.val, by have := tlt t; omega⟩ ⟨t.val % 4 * 1408 + k.val, by omega⟩) := by
  blk_ext [iblk, V, idx_facts t]
theorem blockW (t : Fin cfg0.N) (k : Fin 1408) (q : Fin 1024) :
    iblk m c 1 t (ix2 k q) = argW m c (ix2 ⟨t.val % 4 * 1408 + k.val, by omega⟩ ⟨t.val / 4 % 2 * 1024 + q.val, by omega⟩) := by
  blk_ext [iblk, V, idx_facts t]
theorem blockR (t : Fin cfg0.N) (r q : Fin 1024) :
    iblk m c 2 t (ix2 r q) = argR m c (ix2 ⟨t.val / 8 * 1024 + r.val, by have := tlt t; omega⟩ ⟨t.val / 4 % 2 * 1024 + q.val, by omega⟩) := by
  blk_ext [iblk, V, idx_facts t]

/-- A point's stretch of the sum. -/
def term (t : Fin cfg0.N) : S1024x1024.Idx → EReal := k0_pay1 (iblk m c 0 t) (iblk m c 1 t)

/-- The accumulator after a point: in the scratch, at a block's last point on its way to the block. -/
def acc (n : ℕ) (h : n < cfg0.N) : S1024x1024.Idx → EReal :=
  if n % 4 = 3 then fun i => (outsAt0 m c (n - 1) (Nat.lt_of_le_of_lt (Nat.sub_le _ _) h)).2 i + term m c ⟨n, h⟩ i else (outsAt0 m c n h).2

theorem acc_reset (t : Fin cfg0.N) (h : t.val % 4 = 0) (i : S1024x1024.Idx) : acc m c t.val t.isLt i = 0 + term m c t i := by
  rw [acc, if_neg (by omega), outsAt0_A m c t h (by omega) (by omega), zero_add]
  dsimp only
  have e : ∀ (a : Vec Ideal S1024x1408 .bf16) (b : Vec Ideal S1408x1024 .bf16) (y : Vec Ideal S1024x1024 .f32), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h) (fun h1 => by have := (hcond0_1 t).mp h1; omega) (fun h2 => by have := (hcond0_2 t).mp h2; omega) a b y = k0_pay1 a b := by
    intro a b y
    frame_out
    exact shapeCast_self _ _
  exact congrFun (e _ _ _) i

theorem acc_step (t : Fin cfg0.N) (h : ¬t.val % 4 = 0) (i : S1024x1024.Idx) :
    acc m c t.val t.isLt i = acc m c (t.val - 1) (Nat.lt_of_le_of_lt (Nat.sub_le _ _) t.isLt) i + term m c t i := by
  rw [acc, acc, if_neg (by omega : ¬(t.val - 1) % 4 = 3)]
  by_cases h2 : t.val % 4 = 3
  · rw [if_pos h2]
  · rw [if_neg h2, outsAt0_B m c t h (by omega) h2]
    dsimp only
    generalize (outsAt0 m c (t.val - 1) _).2 = s
    have e : ∀ (a : Vec Ideal S1024x1408 .bf16) (b : Vec Ideal S1408x1024 .bf16) (y s : Vec Ideal S1024x1024 .f32), sout0_B_0 c (grid0.coords t) (ms0_0 t) (hs0_0 t) (ms0_1 t) (hs0_1 t) (ms0_2 t) (hs0_2 t) (ms0_3 t) (hs0_3 t) scM0_0 (Memref.isWhole_whole _) (fun h0 => h ((hcond0_0 t).mp h0)) ((hcond0_1 t).mpr (by omega)) (fun h3 => h2 ((hcond0_2 t).mp h3)) a b y s = addf s (k0_pay1 a b) := by
      intro a b y s
      frame_out
      erw [Memref.IsWhole.read_unread]
      exact shapeCast_self _ _
    exact congrFun (e _ _ _ _) i

/-- At a block's last point the block is the accumulator and the residual. -/
theorem out_last (t : Fin cfg0.N) (h : t.val % 4 = 3) (i : S1024x1024.Idx) :
    (outsAt0 m c t.val t.isLt).1 i = acc m c t.val t.isLt i + (iblk m c 2 t i : EReal) := by
  rw [acc, if_pos h, outsAt0_C m c t (by omega) (by omega) h]
  dsimp only
  generalize (outsAt0 m c (t.val - 1) _).2 = s
  have e : ∀ (a : Vec Ideal S1024x1408 .bf16) (b : Vec Ideal S1408x1024 .bf16) (y s : Vec Ideal S1024x1024 .f32), out0_C_3 c (grid0.coords t) (ms0_0 t) (hs0_0 t) (ms0_1 t) (hs0_1 t) (ms0_2 t) (hs0_2 t) (ms0_3 t) (hs0_3 t) scM0_0 (Memref.isWhole_whole _) (fun h0 => by have := (hcond0_0 t).mp h0; omega) (fun h1 => by have := (hcond0_1 t).mp h1; omega) ((hcond0_2 t).mpr h) a b y s = addf (addf s (k0_pay1 a b)) y := by
    intro a b y s
    frame_out
    erw [Memref.IsWhole.read_unread]
    rfl
  exact congrFun (e _ _ _ _) i

/-- At a block's last point the accumulator is the whole sum. -/
theorem acc_last (t : Fin cfg0.N) (h : t.val % 4 = 3) (r q : Fin 1024) :
    acc m c t.val t.isLt (ix2 r q) = forward .f32 (argX m c) (argW m c) (ix2 ⟨t.val / 8 * 1024 + r.val, by have := tlt t; omega⟩ ⟨t.val / 4 % 2 * 1024 + q.val, by omega⟩) := by
  have e := Pipeline.eq_sum_fin_of_reset_step_apply_of_flush (acc m c) 4 (fun _ => 0) (term m c) (acc_reset m c) (acc_step m c) t h (ix2 r q)
  rw [zero_add] at e
  refine e.trans ?_
  rw [forward_apply]
  rw [← Fin.sum_mul_add_fin (L := 5632) 4 1408]
  refine Finset.sum_congr rfl fun s _ => ?_
  have hs := s.isLt
  have ht := tlt t
  rw [term, part_apply]
  refine Finset.sum_congr rfl fun k _ => ?_
  rw [blockX, blockW]
  refine congrArg₂ (· * ·) (congrArg _ (congrArg₂ ix2 (Fin.ext ?_) (Fin.ext ?_))) (congrArg _ (congrArg₂ ix2 (Fin.ext ?_) (Fin.ext ?_)))
  all_goals dsimp only; omega

/-- The array the call leaves. -/
theorem array : (dats m 0 c).arrAt 3 cfg0.N = residual .f32 (argX m c) (argW m c) (argR m c) := by
  refine (dats m 0 c).arrAt_eq_of_covers 3 _ (by decide +kernel) fun t hf y => ?_
  have h := (flush0_3 t).mp hf
  blk_simp [idx_facts t]
  rw [after0_3]
  obtain ⟨r, q, rfl⟩ : ∃ (r : Fin 1024) (q : Fin 1024), y = ix2 r q := ⟨y 0, y 1, eq_ix2 y⟩
  rw [out_last m c t h, acc_last m c t h, blockR]
  refine (residual_apply (φ₃ := .f32) (argX m c) (argW m c) (argR m c) _ _).symm.trans ?_
  blk_ext [idx_facts t]

/-- The call and the plain product give the same array. -/
theorem algebra : Cert.algebraic_FfnDownIdeal_FfnDownRefIdeal := by
  intro m g m' g' _ hargs
  refine ⟨fun c => residual .f32 (argX m c) (argW m c) (argR m c), ?_, ?_⟩
  · exact (θ_run defs _ _).mono (fun r h c => ⟨(h c).1.trans (array m c), (h c).2⟩) (FfnDownIdeal.Value.run_blocks m g)
  · refine (θ_run FfnDownRefIdeal.defs _ _).mono (fun r h c => ⟨(h c).1.trans ?_, (h c).2⟩) (FfnDownRefIdeal.Value.run m' g')
    obtain ⟨e0, e1, e2⟩ := hargs c
    rw [e0, e1, e2]
    show _ = residual .f32 (argX m c) (argW m c) (argR m c)
    dsimp only [argX, argW, argR]
    generalize m (c.tc.loc main_arg0) = x
    generalize m (c.tc.loc main_arg1) = w
    generalize m (c.tc.loc main_arg2) = y
    funext i
    obtain ⟨r, q, rfl⟩ : ∃ (r : Fin 2048) (q : Fin 2048), i = ix2 r q := ⟨i 0, i 1, eq_ix2 i⟩
    refine Eq.trans ?_ (residual_apply (φ₃ := .f32) x w y r q).symm
    pointwise
    exact add_comm _ _

theorem frame_printed : Cert.quiescent_FfnDown := fun m g _ => Cert.FfnDown.Gen.frame m g

theorem frame_ideal : Cert.quiescent_FfnDownIdeal := fun m g _ => Cert.FfnDownIdeal.Gen.frame m g

theorem frame_reference : Cert.quiescent_FfnDownRefIdeal := fun m g _ =>
  (θ_run FfnDownRefIdeal.defs _ _).mono (fun r h => And.intro (fun c => (h c).2) (sem_eq_zero_of_no_sems (by decide) r.2))
    (FfnDownRefIdeal.Value.run m g)

end Cert.FfnDownIdeal.Block
end
-- ==== Proof.Model.lean ====
/-
  The gradient of one head of softmax attention, row by row, over the extended reals: what each intermediate value is,
  and that all of them are real numbers where queries, keys, values and cotangents are.
-/
module

public import Idealize.ShloMosaic.PureOps.Ideal
public import Idealize.ShloMosaic.PureOps.Ideal.Laws

@[expose] public section
noncomputable section
namespace Cert.AttnModel
open Idealize.ShloMosaic

/-- `x` is a real number, not an infinity. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y)
  | ⟨r, hr⟩, ⟨s, hs⟩ => ⟨r + s, by rw [hr, hs, EReal.coe_add]⟩
theorem IsReal.mul {x y : EReal} : IsReal x → IsReal y → IsReal (x * y)
  | ⟨r, hr⟩, ⟨s, hs⟩ => ⟨r * s, by rw [hr, hs, EReal.coe_mul]⟩
theorem IsReal.sub {x y : EReal} : IsReal x → IsReal y → IsReal (x - y)
  | ⟨r, hr⟩, ⟨s, hs⟩ => ⟨r - s, by rw [hr, hs, EReal.coe_sub]⟩
theorem IsReal.neg {x : EReal} : IsReal x → IsReal (-x)
  | ⟨r, hr⟩ => ⟨-r, by rw [hr, EReal.coe_neg]⟩
theorem IsReal.exp {x : EReal} : IsReal x → IsReal (Ideal.exp x)
  | ⟨r, hr⟩ => ⟨Real.exp r, by rw [hr, Ideal.exp_coe]⟩
theorem IsReal.sum {ι : Type*} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih
/-- A quotient by a real other than zero. -/
theorem IsReal.div {x y : EReal} (hx : IsReal x) (hy : IsReal y) (h0 : y ≠ 0) : IsReal (Ideal.div x y) := by
  obtain ⟨s, rfl⟩ := hy
  rw [Ideal.div_coe (by exact_mod_cast h0)]
  exact hx.mul (IsReal.coe _)
/-- A real number less itself is zero. -/
theorem IsReal.sub_self {x : EReal} : IsReal x → x - x = 0
  | ⟨r, hr⟩ => by rw [hr, ← EReal.coe_sub, _root_.sub_self, EReal.coe_zero]

/-- The greatest of finitely many reals, at least one, is one of them. -/
theorem IsReal.fold_max {n : ℕ} (f : Fin (n + 1) → EReal) (h : ∀ i, IsReal (f i)) : IsReal (Finset.univ.fold max ⊥ f) := by
  have key : ∀ s : Finset (Fin (n + 1)), s.Nonempty → IsReal (s.fold max ⊥ f) := by
    classical
    intro s hs
    induction hs using Finset.Nonempty.cons_induction with
    | singleton a => rw [Finset.fold_singleton, max_bot_right]; exact h a
    | cons a s ha hs ih =>
      rw [Finset.fold_cons]
      rcases max_choice (f a) (s.fold max ⊥ f) with e | e <;> rw [e]
      · exact h a
      · exact ih
  exact key _ ⟨0, Finset.mem_univ _⟩

/-- The sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A real exponential is not zero, and neither is a sum of them. -/
theorem sum_exp_ne_zero {n : ℕ} (f : Fin (n + 1) → EReal) (h : ∀ i, IsReal (f i)) : ∑ i, Ideal.exp (f i) ≠ 0 := by
  choose g hg using h
  have e : ∑ i, Ideal.exp (f i) = ((∑ i, Real.exp (g i) : ℝ) : EReal) := by
    rw [coe_sum]
    exact Finset.sum_congr rfl fun i _ => by rw [hg, Ideal.exp_coe]
  rw [e]
  exact_mod_cast (Finset.sum_pos (fun i _ => Real.exp_pos _) ⟨0, Finset.mem_univ _⟩).ne'

/-- Three products of high and low parts add up to the one product where every entry is real: the low parts are zero. -/
theorem three_products {n : ℕ} (a b : Fin n → EReal) (ha : ∀ i, IsReal (a i)) (hb : ∀ i, IsReal (b i)) :
    (∑ i, a i * b i) + ((∑ i, a i * (b i - b i)) + ∑ i, (a i - a i) * b i) = ∑ i, a i * b i := by
  have h1 : ∑ i, a i * (b i - b i) = 0 := Finset.sum_eq_zero fun i _ => by rw [(hb i).sub_self, mul_zero]
  have h2 : ∑ i, (a i - a i) * b i = 0 := Finset.sum_eq_zero fun i _ => by rw [(ha i).sub_self, zero_mul]
  rw [h1, h2, add_zero, add_zero]

section Row
/-! ## One query row against all keys

`q` the query row, `y` its cotangent row, `k` and `v` the keys and values, `c` the scale of the scores. -/
variable {n D : ℕ} (c : EReal) (q y : Fin D → EReal) (k v : Fin (n + 1) → Fin D → EReal)

/-- The scaled scores of the row. -/
def score (j : Fin (n + 1)) : EReal := (∑ d, q d * k j d) * c
/-- Their greatest. -/
def peak : EReal := Finset.univ.fold max ⊥ (score c q k)
/-- The exponentials. -/
def ex (j : Fin (n + 1)) : EReal := Ideal.exp (score c q k j - peak c q k)
/-- Their sum. -/
def den : EReal := ∑ j, ex c q k j
/-- The probabilities. -/
def prob (j : Fin (n + 1)) : EReal := Ideal.div (ex c q k j) (den c q k)
/-- The gradient by the probabilities. -/
def dprob (j : Fin (n + 1)) : EReal := ∑ d, y d * v j d
/-- The gradient by the sum, less its sign. -/
def dden : EReal := ∑ j, dprob y v j * Ideal.div 1 (den c q k * den c q k) * ex c q k j
/-- The gradient by the unscaled scores. -/
def dscore (j : Fin (n + 1)) : EReal := (Ideal.div (dprob y v j) (den c q k) + -dden c q y k v) * ex c q k j * c
/-- The gradient by the query row. -/
def dq (d : Fin D) : EReal := ∑ j, dscore c q y k v j * k j d

variable {c q y k v} (hc : IsReal c) (hq : ∀ d, IsReal (q d)) (hk : ∀ j d, IsReal (k j d)) (hy : ∀ d, IsReal (y d)) (hv : ∀ j d, IsReal (v j d))
include hc hq hk
theorem score_real (j : Fin (n + 1)) : IsReal (score c q k j) := (IsReal.sum _ fun d => (hq d).mul (hk j d)).mul hc
theorem peak_real : IsReal (peak c q k) := IsReal.fold_max _ (score_real hc hq hk)
theorem ex_real (j : Fin (n + 1)) : IsReal (ex c q k j) := ((score_real hc hq hk j).sub (peak_real hc hq hk)).exp
theorem den_real : IsReal (den c q k) := IsReal.sum _ (ex_real hc hq hk)
theorem den_ne_zero : den c q k ≠ 0 := sum_exp_ne_zero _ fun j => (score_real hc hq hk j).sub (peak_real hc hq hk)
theorem prob_real (j : Fin (n + 1)) : IsReal (prob c q k j) := (ex_real hc hq hk j).div (den_real hc hq hk) (den_ne_zero hc hq hk)
omit hc hq hk in
include hy hv in
theorem dprob_real (j : Fin (n + 1)) : IsReal (dprob y v j) := IsReal.sum _ fun d => (hy d).mul (hv j d)
include hy hv
theorem dden_real : IsReal (dden c q y k v) :=
  IsReal.sum _ fun j => ((dprob_real hy hv j).mul ((IsReal.coe 1).div ((den_real hc hq hk).mul (den_real hc hq hk))
    (mul_ne_zero (den_ne_zero hc hq hk) (den_ne_zero hc hq hk)))).mul (ex_real hc hq hk j)
theorem dscore_real (j : Fin (n + 1)) : IsReal (dscore c q y k v j) :=
  ((((dprob_real hy hv j).div (den_real hc hq hk) (den_ne_zero hc hq hk)).add (dden_real hc hq hk hy hv).neg).mul (ex_real hc hq hk j)).mul hc
end Row

section Rows
/-! ## The gradients by keys and values, summed over the query rows -/
variable {n D N : ℕ} (c : EReal) (q y : Fin N → Fin D → EReal) (k v : Fin (n + 1) → Fin D → EReal)
/-- The gradient by key `j`. -/
def dk (j : Fin (n + 1)) (d : Fin D) : EReal := ∑ r, dscore c (q r) (y r) k v j * q r d
/-- The gradient by value `j`. -/
def dv (j : Fin (n + 1)) (d : Fin D) : EReal := ∑ r, prob c (q r) k j * y r d
end Rows

end Cert.AttnModel
end
-- ==== Proof.GateModel.lean ====
/-
  The gradient of the MLP's causal convolution over time and its gate, channel by channel, over the extended reals.
-/
module

public import proofs.«01_k».proof.Proof.Model

@[expose] public section
noncomputable section
namespace Cert.GateModel
open Idealize.ShloMosaic Cert.AttnModel

/-- Row `n` of a channel, zero beyond its last row. -/
def at0 (x : Fin 2048 → EReal) (n : ℕ) : EReal := if h : n < 2048 then x ⟨n, h⟩ else 0
/-- Row `n` of a channel behind two rows of zeros. -/
def pad (x : Fin 2048 → EReal) (n : ℕ) : EReal := if n < 2 then 0 else at0 x (n - 2)
/-- The causal convolution with three taps at row `t`: its own row under the last tap. -/
def conv (x : Fin 2048 → EReal) (w : Fin 3 → EReal) (t : ℕ) : EReal := (w 0 * pad x t + w 1 * pad x (t + 1)) + w 2 * pad x (t + 2)
/-- The logistic function. -/
def sig (u : EReal) : EReal := Ideal.div 1 (1 + Ideal.exp (-u))
/-- The gradient by the gate's convolution at row `t`. -/
def dGate (x y : Fin 2048 → EReal) (w v : Fin 3 → EReal) (d : Fin 2048 → EReal) (t : ℕ) : EReal :=
  (at0 d t * conv y v t) * (sig (conv x w t) * (1 + conv x w t * (1 - sig (conv x w t))))
/-- The gradient by the values' convolution at row `t`. -/
def dVal (x : Fin 2048 → EReal) (w : Fin 3 → EReal) (d : Fin 2048 → EReal) (t : ℕ) : EReal :=
  at0 d t * (conv x w t * sig (conv x w t))
/-- The gradient by the convolution's input at row `t`, `du` the gradient by its result. -/
def dIn (w : Fin 3 → EReal) (du : ℕ → EReal) (t : ℕ) : EReal := (w 2 * du t + w 1 * du (t + 1)) + w 0 * du (t + 2)
/-- The gradient by tap `j`. -/
def dTap (x : Fin 2048 → EReal) (du : ℕ → EReal) (j : Fin 3) : EReal := ∑ t : Fin 2048, du t.val * pad x (t.val + j.val)

theorem at0_lt (x : Fin 2048 → EReal) (t : Fin 2048) : at0 x t.val = x t := dif_pos t.isLt
theorem at0_ge (x : Fin 2048 → EReal) {n : ℕ} (h : 2048 ≤ n) : at0 x n = 0 := dif_neg (by omega)
theorem pad_two (x : Fin 2048 → EReal) (n : ℕ) : pad x (n + 2) = at0 x n := by
  unfold pad
  rw [if_neg (by omega), Nat.add_sub_cancel]
theorem pad_lt (x : Fin 2048 → EReal) {n : ℕ} (h : n < 2) : pad x n = 0 := if_pos h
theorem pad_ge (x : Fin 2048 → EReal) {n : ℕ} (h : 2 ≤ n) : pad x n = at0 x (n - 2) := if_neg (by omega)
theorem dGate_ge (x y : Fin 2048 → EReal) (w v : Fin 3 → EReal) (d : Fin 2048 → EReal) {t : ℕ} (h : 2048 ≤ t) : dGate x y w v d t = 0 := by
  unfold dGate
  rw [at0_ge d h, zero_mul, zero_mul]
theorem dVal_ge (x : Fin 2048 → EReal) (w : Fin 3 → EReal) (d : Fin 2048 → EReal) {t : ℕ} (h : 2048 ≤ t) : dVal x w d t = 0 := by
  unfold dVal
  rw [at0_ge d h, zero_mul]

/-! ## Where the entries are real numbers -/

theorem at0_real {x : Fin 2048 → EReal} (hx : ∀ t, IsReal (x t)) (n : ℕ) : IsReal (at0 x n) := by
  unfold at0
  split
  · exact hx _
  · exact IsReal.zero
theorem pad_real {x : Fin 2048 → EReal} (hx : ∀ t, IsReal (x t)) (n : ℕ) : IsReal (pad x n) := by
  unfold pad
  split
  · exact IsReal.zero
  · exact at0_real hx _
theorem conv_real {x : Fin 2048 → EReal} {w : Fin 3 → EReal} (hx : ∀ t, IsReal (x t)) (hw : ∀ j, IsReal (w j)) (t : ℕ) : IsReal (conv x w t) :=
  (((hw 0).mul (pad_real hx _)).add ((hw 1).mul (pad_real hx _))).add ((hw 2).mul (pad_real hx _))
theorem sig_real {u : EReal} (hu : IsReal u) : IsReal (sig u) := by
  refine (IsReal.coe 1).div ((IsReal.coe 1).add hu.neg.exp) ?_
  obtain ⟨r, rfl⟩ := hu
  rw [← EReal.coe_neg, Ideal.exp_coe, ← EReal.coe_one, ← EReal.coe_add]
  exact_mod_cast (add_pos one_pos (Real.exp_pos _)).ne'

/-- The derivative of `u · sig u`, put together by its factor or by its terms. -/
theorem silu_deriv {c u s : EReal} (hc : IsReal c) (hu : IsReal u) (hs : IsReal s) :
    c * s + (u * c) * (s * (1 - s)) = c * (s * (1 + u * (1 - s))) := by
  obtain ⟨c, rfl⟩ := hc
  obtain ⟨u, rfl⟩ := hu
  obtain ⟨s, rfl⟩ := hs
  rw [← EReal.coe_one]
  simp only [← EReal.coe_mul, ← EReal.coe_sub, ← EReal.coe_add]
  congr 1
  ring

end Cert.GateModel
end
-- ==== Proof.GateBlock.lean ====
/-
  What one grid point of the gate's gradient leaves in its four output blocks.
-/
module

public import proofs.«01_k».proof.Proof.Gen.GateIdeal.Value
public import proofs.«01_k».proof.Proof.GateModel
public import Idealize.ShloMosaic.Lib.Pipeline.ValueKit
public import Idealize.ShloMosaic.Lib.Pointwise

@[expose] public section
noncomputable section
namespace Cert.GateIdeal.Gate
open Cert.GateIdeal Cert.GateIdeal.Gen Idealize.ShloMosaic Idealize.ShloMosaic.TcCoe Idealize.SL.Sem
variable {F : FTy → Type} [FloatOps F]

/-- Row `k` of a block of taps. -/
abbrev tap (x : Vec F S3x512 .f32) (k : ℕ) (h : ∀ b, ![k, 0] b + ![1, 512] b ≤ S3x512.size b := by decide) : Vec F S1x512 .f32 :=
  View.ld x (Rect.unit ![k, 0] ![1, 512] h)

section
variable (i : grid0.Coords) (x0 x1 : Vec F S256x512 .f32) (x2 x3 x4 x5 : Vec F S8x512 .f32) (x6 x7 : Vec F S3x512 .f32) (x8 : Vec F S256x512 .f32) (x9 : Vec F S8x512 .f32)

/-- The gradient by the gate's convolution on the rows of the tile and of its neighbours. -/
def blockU : FVec F S272x512 .f32 :=
  k0_pay16 (k0_pay4 i) k0_pay5 (k0_pay6 i x2 x0 x4) (k0_pay6 i x3 x1 x5) (k0_pay7 i x3 x1 x5) (k0_pay8 i x3 x1 x5)
    (k0_pay12 i x2 x0 x4 (tap x6 0) (tap x6 1)) (tap x6 2) (tap x7 0) (tap x7 1) (tap x7 2) x8 x9
/-- The gradient by the values' convolution there. -/
def blockW : FVec F S272x512 .f32 :=
  k0_pay17 (k0_pay4 i) k0_pay5 (k0_pay6 i x2 x0 x4) (k0_pay12 i x2 x0 x4 (tap x6 0) (tap x6 1)) (tap x6 2) x8 x9
/-- The tile's block of the gradient by the gate's input. -/
def blockG : FVec F S256x512 .bf16 :=
  k0_pay19 (blockU i x0 x1 x2 x3 x4 x5 x6 x7 x8 x9)
    (k0_pay18 (k0_pay4 i) k0_pay5 (k0_pay6 i x2 x0 x4) (k0_pay6 i x3 x1 x5) (k0_pay7 i x3 x1 x5) (k0_pay8 i x3 x1 x5)
      (k0_pay12 i x2 x0 x4 (tap x6 0) (tap x6 1)) (tap x6 2) (tap x7 0) (tap x7 1) (tap x7 2) x8 x9 (tap x6 2)) (tap x6 1) (tap x6 0)
/-- The tile's block of the gradient by the values' input. -/
def blockV : FVec F S256x512 .bf16 := k0_pay20 (blockW i x0 x2 x4 x6 x8 x9) (tap x7 2) (tap x7 1) (tap x7 0)
/-- The gradient by the gate's taps, the tile's part added to `o`. -/
def addG (o : Vec F S3x512 .f32) : FVec F S3x512 .f32 :=
  k0_pay1 (k0_pay6 i x2 x0 x4) (k0_pay8 i x2 x0 x4) o (k0_pay24 (blockU i x0 x1 x2 x3 x4 x5 x6 x7 x8 x9))
    (k0_pay25 (k0_pay7 i x2 x0 x4) (blockU i x0 x1 x2 x3 x4 x5 x6 x7 x8 x9))
/-- The gradient by the values' taps, the tile's part added to `o`. -/
def addV (o : Vec F S3x512 .f32) : FVec F S3x512 .f32 :=
  k0_pay2 (k0_pay6 i x3 x1 x5) (k0_pay7 i x3 x1 x5) (k0_pay8 i x3 x1 x5) (blockW i x0 x2 x4 x6 x8 x9) o
end

variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S256x512 .f32) (harg10 : arg10.IsWhole) (arg11 : Memref sig .tc .vmem S8x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S3x512 .f32) (harg14 : arg14.IsWhole) (arg15 : Memref sig .tc .vmem S3x512 .f32) (harg15 : arg15.IsWhole)
    (x0 x1 : Vec F S256x512 .f32) (x2 x3 x4 x5 : Vec F S8x512 .f32) (x6 x7 : Vec F S3x512 .f32) (x8 : Vec F S256x512 .f32) (x9 : Vec F S8x512 .f32)
    (xo12 xo13 : Vec F S3x512 .f32)

theorem out_A_10 (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = blockG i x0 x1 x2 x3 x4 x5 x6 x7 x8 x9 := by
  frame_out
  rfl
theorem out_B_10 (hc0 : ¬cond0_0 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13
    = blockG i x0 x1 x2 x3 x4 x5 x6 x7 x8 x9 := by
  frame_out
  rfl
theorem out_A_11 (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = blockV i x0 x2 x4 x6 x7 x8 x9 := by
  frame_out
  rfl
theorem out_B_11 (hc0 : ¬cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13
    = blockV i x0 x2 x4 x6 x7 x8 x9 := by
  frame_out
  rfl
theorem out_A_12 (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = addG i x0 x1 x2 x3 x4 x5 x6 x7 x8 x9 k0_pay21 := by
  frame_out
  unfold k0_pay23
  simp only [shapeCast_self]
  rfl
theorem out_B_12 (hc0 : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13
    = addG i x0 x1 x2 x3 x4 x5 x6 x7 x8 x9 xo12 := by
  frame_out
  unfold k0_pay23
  simp only [shapeCast_self]
  rfl
theorem out_A_13 (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = addV i x0 x1 x2 x3 x4 x5 x6 x8 x9 k0_pay22 := by
  frame_out
  rfl
theorem out_B_13 (hc0 : ¬cond0_0 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo12 xo13
    = addV i x0 x1 x2 x3 x4 x5 x6 x8 x9 xo13 := by
  frame_out
  rfl

end Cert.GateIdeal.Gate
end
-- ==== Proof.GateBlockValue.lean ====
/-
  The four blocks of a grid point, entry by entry, where its input blocks are a tile of rows of the arguments and the
  eight rows before and behind it.
-/
module

public import proofs.«01_k».proof.Proof.GateBlock

@[expose] public section
noncomputable section
namespace Cert.GateIdeal.Gate
open Cert.GateIdeal Cert.GateIdeal.Gen Idealize.ShloMosaic Idealize.ShloMosaic.TcCoe Idealize.SL.Sem Cert.GateModel

/-- `b` holds the rows of tile `n`, and, where there are such tiles, `p` the eight rows before it and `e` the eight behind. -/
structure Tile (n : ℕ) (x : Fin 512 → Fin 2048 → EReal) (b : FVec Ideal S256x512 .f32) (p e : FVec Ideal S8x512 .f32) : Prop where
  body : ∀ r q, b (ix2 r q) = at0 (x q) (n * 256 + r.val)
  before : 0 < n → ∀ r q, p (ix2 r q) = at0 (x q) (n * 256 - 8 + r.val)
  behind : n < 7 → ∀ r q, e (ix2 r q) = at0 (x q) (n * 256 + 256 + r.val)

section
/-! ## The convolution's transpose, and the sums for its taps -/
variable {n : ℕ} {u : FVec Ideal S272x512 .f32} {D : Fin 512 → ℕ → EReal} (hu : ∀ (k : Fin 272) (hk : 8 ≤ k.val) q, u (ix2 k q) = D q (n * 256 + (k.val - 8)))
include hu

theorem shift_one (r : Fin 256) (q : Fin 512) : u (ix2 ⟨(8 + r.val + 272 - 271) % 272, by omega⟩ q) = D q (n * 256 + r.val + 1) := by
  rw [hu _ (show 8 ≤ (8 + r.val + 272 - 271) % 272 by omega)]
  exact congrArg _ (show n * 256 + ((8 + r.val + 272 - 271) % 272 - 8) = n * 256 + r.val + 1 by omega)
theorem shift_two (r : Fin 256) (q : Fin 512) : u (ix2 ⟨(8 + r.val + 272 - 270) % 272, by omega⟩ q) = D q (n * 256 + r.val + 2) := by
  rw [hu _ (show 8 ≤ (8 + r.val + 272 - 270) % 272 by omega)]
  exact congrArg _ (show n * 256 + ((8 + r.val + 272 - 270) % 272 - 8) = n * 256 + r.val + 2 by omega)
theorem shift_zero (r : Fin 256) (q : Fin 512) : u (ix2 ⟨8 + r.val, by omega⟩ q) = D q (n * 256 + r.val) := by
  rw [hu _ (show 8 ≤ 8 + r.val by omega)]
  exact congrArg _ (show n * 256 + (8 + r.val - 8) = n * 256 + r.val by omega)

/-- The transpose of the convolution. -/
theorem back_apply (w : FVec Ideal S3x512 .f32) (r : Fin 256) (q : Fin 512) :
    k0_pay20 (F := Ideal) u (tap w 2) (tap w 1) (tap w 0) (ix2 r q) = dIn (fun j => w (ix2 j q)) (D q) (n * 256 + r.val) := by
  pointwise [k0_pay20, tap]
  rw [shift_zero hu, shift_one hu, shift_two hu]
  rfl

/-- The sums over the tile's rows, one for each tap, added to `o`. -/
theorem taps_apply {z : Fin 512 → Fin 2048 → EReal} {a b e : FVec Ideal S272x512 .f32}
    (ha : ∀ (k : Fin 272) (hk : 8 ≤ k.val) q, a (ix2 k q) = pad (z q) (n * 256 + (k.val - 8)))
    (hb : ∀ (k : Fin 272) (hk : 8 ≤ k.val) q, b (ix2 k q) = pad (z q) (n * 256 + (k.val - 8) + 1))
    (he : ∀ (k : Fin 272) (hk : 8 ≤ k.val) q, e (ix2 k q) = pad (z q) (n * 256 + (k.val - 8) + 2)) (o : FVec Ideal S3x512 .f32) (j : Fin 3) (q : Fin 512) :
    k0_pay2 (F := Ideal) e a b u o (ix2 j q) = o (ix2 j q) + ∑ r : Fin 256, D q (n * 256 + r.val) * pad (z q) (n * 256 + r.val + j.val) := by
  have key : ∀ {t : ℕ} {f : FVec Ideal S272x512 .f32} (hf : ∀ (k : Fin 272) (hk : 8 ≤ k.val) q, f (ix2 k q) = pad (z q) (n * 256 + (k.val - 8) + t)),
      ∑ r : Fin 256, u (ix2 ⟨8 + r.val, by omega⟩ q) * f (ix2 ⟨8 + r.val, by omega⟩ q)
        = ∑ r : Fin 256, D q (n * 256 + r.val) * pad (z q) (n * 256 + r.val + t) := fun {t f} hf =>
    Finset.sum_congr rfl fun r _ => congrArg₂ (· * ·) (shift_zero hu r q)
      ((hf _ (show 8 ≤ 8 + r.val by omega) q).trans (congrArg _ (show n * 256 + (8 + r.val - 8) + t = n * 256 + r.val + t by omega)))
  fin_cases j
  · pointwise [k0_pay2]
    exact congrArg _ (key (t := 0) ha)
  · pointwise [k0_pay2]
    exact congrArg _ (key hb)
  · pointwise [k0_pay2]
    exact congrArg _ (key he)
end

/-- The two comparisons of a tile's number, as numbers. -/
theorem first_word : ∀ n : Fin 8, (Scalar.extui (Scalar.cmpi .sgt (BitVec.ofNat 32 n.val) 0#32) : BitVec 32).toInt = if 0 < n.val then 1 else 0 := by decide
theorem last_word : ∀ n : Fin 8, (Scalar.extui (Scalar.cmpi .slt (BitVec.ofNat 32 n.val) 7#32) : BitVec 32).toInt = if n.val < 7 then 1 else 0 := by decide

variable {i : grid0.Coords} {n : ℕ} (hi : (i 1).val = n) (hn : n < 8)
include hi hn

/-- Whether there is a tile before, as a number. -/
theorem first_apply : k0_pay3 (F := Ideal) i = if 0 < n then (1 : EReal) else 0 := by
  have e : k0_pay3 (F := Ideal) i = (((Scalar.extui (Scalar.cmpi .sgt (BitVec.ofNat 32 n) 0#32) : BitVec 32).toInt : ℝ) : EReal) := by
    rw [← hi]; rfl
  rw [e, first_word ⟨n, hn⟩]
  split <;> simp
/-- Whether there is one behind. -/
theorem last_apply : k0_pay4 (F := Ideal) i = if n < 7 then (1 : EReal) else 0 := by
  have e : k0_pay4 (F := Ideal) i = (((Scalar.extui (Scalar.cmpi .slt (BitVec.ofNat 32 n) 7#32) : BitVec 32).toInt : ℝ) : EReal) := by
    rw [← hi]; rfl
  rw [e, last_word ⟨n, hn⟩]
  split <;> simp

/-- The rows of the tile and its neighbours, zero outside the array. -/
theorem rows_apply {x : Fin 512 → Fin 2048 → EReal} {b : FVec Ideal S256x512 .f32} {p e : FVec Ideal S8x512 .f32} (h : Tile n x b p e)
    (k : Fin 272) (q : Fin 512) : k0_pay6 (F := Ideal) i p b e (ix2 k q) = pad (x q) (n * 256 + k.val - 6) := by
  have hf := first_apply hi hn
  have hl := last_apply hi hn
  unfold k0_pay6
  generalize k0_pay3 (F := Ideal) i = f at hf ⊢
  generalize k0_pay4 (F := Ideal) i = l at hl ⊢
  pointwise
  split
  · rename_i h8
    by_cases h0 : 0 < n
    · rw [hf, if_pos h0, mul_one, h.before h0, pad_ge _ (by omega)]
      exact congrArg _ (show n * 256 - 8 + k.val = n * 256 + k.val - 6 - 2 by omega)
    · rw [hf, if_neg h0, mul_zero, pad_lt _ (by omega)]
  · split
    · rw [h.body, pad_ge _ (by omega)]
      exact congrArg _ (show n * 256 + (k.val - 8) = n * 256 + k.val - 6 - 2 by omega)
    · by_cases h7 : n < 7
      · refine (congrArg₂ (· * ·) (h.behind h7 _ _) (hl.trans (if_pos h7))).trans ?_
        rw [mul_one, pad_ge _ (by omega)]
        exact congrArg _ (show n * 256 + 256 + (k.val - 8 - 256) = n * 256 + k.val - 6 - 2 by omega)
      · refine (congrArg (_ * ·) (hl.trans (if_neg h7))).trans ?_
        rw [mul_zero, pad_ge _ (by omega), at0_ge _ (by omega)]

/-- The cotangent's rows from the tile's first on. -/
theorem cot_apply {d : Fin 512 → Fin 2048 → EReal} {b : FVec Ideal S256x512 .f32} {p e : FVec Ideal S8x512 .f32} (h : Tile n d b p e)
    (k : Fin 272) (hk : 8 ≤ k.val) (q : Fin 512) : k0_pay14 (F := Ideal) (k0_pay4 i) k0_pay5 b e (ix2 k q) = at0 (d q) (n * 256 + (k.val - 8)) := by
  have hl := last_apply hi hn
  generalize k0_pay4 (F := Ideal) i = l at hl ⊢
  pointwise [k0_pay14]
  rw [dif_neg (by omega)]
  split
  · rw [h.body]
  · by_cases h7 : n < 7
    · refine (congrArg₂ (· * ·) (h.behind h7 _ _) (hl.trans (if_pos h7))).trans ?_
      rw [mul_one]
      exact congrArg _ (show n * 256 + 256 + (k.val - 8 - 256) = n * 256 + (k.val - 8) by omega)
    · refine (congrArg (_ * ·) (hl.trans (if_neg h7))).trans ?_
      rw [mul_zero, at0_ge _ (by omega)]

section
variable {x : Fin 512 → Fin 2048 → EReal} {b : FVec Ideal S256x512 .f32} {p e : FVec Ideal S8x512 .f32} (h : Tile n x b p e)
include h

/-- The same rows two further on, under the first tap, from the tile's first row on. -/
theorem rows_two_apply (k : Fin 272) (hk : 8 ≤ k.val) (q : Fin 512) : k0_pay7 (F := Ideal) i p b e (ix2 k q) = pad (x q) (n * 256 + (k.val - 8)) := by
  pointwise [k0_pay7]
  rw [rows_apply hi hn h]
  exact congrArg _ (show n * 256 + (k.val + 272 - 2) % 272 - 6 = n * 256 + (k.val - 8) by omega)
/-- One further on, under the second. -/
theorem rows_one_apply (k : Fin 272) (hk : 8 ≤ k.val) (q : Fin 512) : k0_pay8 (F := Ideal) i p b e (ix2 k q) = pad (x q) (n * 256 + (k.val - 8) + 1) := by
  pointwise [k0_pay8]
  rw [rows_apply hi hn h]
  exact congrArg _ (show n * 256 + (k.val + 272 - 1) % 272 - 6 = n * 256 + (k.val - 8) + 1 by omega)
/-- In place, under the third. -/
theorem rows_zero_apply (k : Fin 272) (hk : 8 ≤ k.val) (q : Fin 512) : k0_pay6 (F := Ideal) i p b e (ix2 k q) = pad (x q) (n * 256 + (k.val - 8) + 2) := by
  rw [rows_apply hi hn h]
  exact congrArg _ (show n * 256 + k.val - 6 = n * 256 + (k.val - 8) + 2 by omega)

/-- The convolution of the gate's rows. -/
theorem conv_apply (w : FVec Ideal S3x512 .f32) (k : Fin 272) (hk : 8 ≤ k.val) (q : Fin 512) :
    k0_pay13 (F := Ideal) (k0_pay6 i p b e) (k0_pay12 i p b e (tap w 0) (tap w 1)) (tap w 2) (ix2 k q)
      = conv (x q) (fun j => w (ix2 j q)) (n * 256 + (k.val - 8)) := by
  pointwise [k0_pay13, k0_pay12, tap, rows_two_apply hi hn h k hk, rows_one_apply hi hn h k hk, rows_zero_apply hi hn h k hk]
  rfl
end

omit hi hn in
/-- The logistic function of an entry. -/
theorem sig_apply (a u : FVec Ideal S272x512 .f32) (w : FVec Ideal S1x512 .f32) (k : Fin 272) (q : Fin 512) :
    k0_pay15 (F := Ideal) a u w (ix2 k q) = GateModel.sig (k0_pay13 (F := Ideal) a u w (ix2 k q)) := by
  pointwise [k0_pay15]
  rw [zero_sub]
  rfl

section
variable {x y d : Fin 512 → Fin 2048 → EReal} {x0 x1 : FVec Ideal S256x512 .f32} {x2 x3 x4 x5 : FVec Ideal S8x512 .f32} {x8 : FVec Ideal S256x512 .f32} {x9 p8 : FVec Ideal S8x512 .f32}
    (hx : Tile n x x0 x2 x4) (hy : Tile n y x1 x3 x5) (hd : Tile n d x8 p8 x9) (w v : FVec Ideal S3x512 .f32)
include hx hd

/-- The gradient by the values' convolution, from the tile's first row on. -/
theorem blockW_apply (k : Fin 272) (hk : 8 ≤ k.val) (q : Fin 512) :
    blockW (F := Ideal) i x0 x2 x4 w x8 x9 (ix2 k q) = dVal (x q) (fun j => w (ix2 j q)) (d q) (n * 256 + (k.val - 8)) := by
  unfold blockW
  pointwise [k0_pay17]
  rw [sig_apply, conv_apply hi hn hx w k hk, cot_apply hi hn hd k hk]
  rfl

include hy
/-- The gradient by the gate's convolution, from the tile's first row on. -/
theorem blockU_apply (k : Fin 272) (hk : 8 ≤ k.val) (q : Fin 512) :
    blockU (F := Ideal) i x0 x1 x2 x3 x4 x5 w v x8 x9 (ix2 k q)
      = dGate (x q) (y q) (fun j => w (ix2 j q)) (fun j => v (ix2 j q)) (d q) (n * 256 + (k.val - 8)) := by
  unfold blockU
  pointwise [k0_pay16, tap, rows_two_apply hi hn hy k hk, rows_one_apply hi hn hy k hk, rows_zero_apply hi hn hy k hk]
  rw [sig_apply, conv_apply hi hn hx w k hk, cot_apply hi hn hd k hk]
  rfl

/-- The tile's block of the gradient by the gate's input. -/
theorem blockG_apply (r : Fin 256) (q : Fin 512) : blockG (F := Ideal) i x0 x1 x2 x3 x4 x5 w v x8 x9 (ix2 r q)
    = dIn (fun j => w (ix2 j q)) (dGate (x q) (y q) (fun j => w (ix2 j q)) (fun j => v (ix2 j q)) (d q)) (n * 256 + r.val) :=
  back_apply (D := fun q => dGate (x q) (y q) (fun j => w (ix2 j q)) (fun j => v (ix2 j q)) (d q)) (blockU_apply hi hn hx hy hd w v) w r q
/-- The gate's taps' sums, the tile's part added. -/
theorem addG_apply (o : FVec Ideal S3x512 .f32) (j : Fin 3) (q : Fin 512) : addG (F := Ideal) i x0 x1 x2 x3 x4 x5 w v x8 x9 o (ix2 j q)
    = o (ix2 j q) + ∑ r : Fin 256, dGate (x q) (y q) (fun j => w (ix2 j q)) (fun j => v (ix2 j q)) (d q) (n * 256 + r.val) * pad (x q) (n * 256 + r.val + j.val) := by
  rw [← taps_apply (D := fun q => dGate (x q) (y q) (fun j => w (ix2 j q)) (fun j => v (ix2 j q)) (d q)) (blockU_apply hi hn hx hy hd w v)
    (rows_two_apply hi hn hx) (rows_one_apply hi hn hx) (rows_zero_apply hi hn hx) o j q]
  unfold addG k0_pay1 k0_pay2 k0_pay24 k0_pay25
  simp only [shapeCast_self]
  rfl
omit hy
/-- The tile's block of the gradient by the values' input. -/
theorem blockV_apply (r : Fin 256) (q : Fin 512) : blockV (F := Ideal) i x0 x2 x4 w v x8 x9 (ix2 r q)
    = dIn (fun j => v (ix2 j q)) (dVal (x q) (fun j => w (ix2 j q)) (d q)) (n * 256 + r.val) :=
  back_apply (D := fun q => dVal (x q) (fun j => w (ix2 j q)) (d q)) (blockW_apply hi hn hx hd w) v r q
include hy
/-- The values' taps' sums, the tile's part added. -/
theorem addV_apply (o : FVec Ideal S3x512 .f32) (j : Fin 3) (q : Fin 512) : addV (F := Ideal) i x0 x1 x2 x3 x4 x5 w x8 x9 o (ix2 j q)
    = o (ix2 j q) + ∑ r : Fin 256, dVal (x q) (fun j => w (ix2 j q)) (d q) (n * 256 + r.val) * pad (y q) (n * 256 + r.val + j.val) :=
  taps_apply (D := fun q => dVal (x q) (fun j => w (ix2 j q)) (d q)) (blockW_apply hi hn hx hd w)
    (rows_two_apply hi hn hy) (rows_one_apply hi hn hy) (rows_zero_apply hi hn hy) o j q
end

end Cert.GateIdeal.Gate
end
-- ==== Proof.GateSpec.lean ====
/-
  The gate's gradients as functions of the whole arrays: `u`, the convolution's input (its columns 5632 … the values'),
  `k` its taps, and the cotangent `d`.
-/
module

public import proofs.«01_k».proof.Proof.GateModel
public import Idealize.ShloMosaic.Lib.Pointwise

@[expose] public section
noncomputable section
namespace Cert.GateModel
open Idealize.ShloMosaic Cert.AttnModel

variable (u : FVec Ideal ⟨2, ![2048, 11264]⟩ .f32) (k : FVec Ideal ⟨2, ![3, 11264]⟩ .f32) (d : FVec Ideal ⟨2, ![2048, 5632]⟩ .f32)

/-- A channel's place among the gates' columns, and among the values'. -/
abbrev gcol (q : Fin 5632) : Fin 11264 := ⟨q.val, by omega⟩
abbrev vcol (q : Fin 5632) : Fin 11264 := ⟨5632 + q.val, by omega⟩

/-- A column of the input, its taps, a column of the cotangent. -/
def chan (q : Fin 11264) (t : Fin 2048) : EReal := u (ix2 t q)
def taps (q : Fin 11264) (j : Fin 3) : EReal := k (ix2 j q)
def cots (q : Fin 5632) (t : Fin 2048) : EReal := d (ix2 t q)

/-- A channel's gradients by the two convolutions. -/
def duG (q : Fin 5632) : ℕ → EReal := dGate (chan u (gcol q)) (chan u (vcol q)) (taps k (gcol q)) (taps k (vcol q)) (cots d q)
def duV (q : Fin 5632) : ℕ → EReal := dVal (chan u (gcol q)) (taps k (gcol q)) (cots d q)

/-- The four gradients: by gates and values, and by the taps of either. -/
def gradG : FVec Ideal ⟨2, ![2048, 5632]⟩ .bf16 := fun i => dIn (taps k (gcol (i 1))) (duG u k d (i 1)) (i 0).val
def gradV : FVec Ideal ⟨2, ![2048, 5632]⟩ .bf16 := fun i => dIn (taps k (vcol (i 1))) (duV u k d (i 1)) (i 0).val
def gradTG : FVec Ideal ⟨2, ![3, 5632]⟩ .f32 := fun i => dTap (chan u (gcol (i 1))) (duG u k d (i 1)) (i 0)
def gradTV : FVec Ideal ⟨2, ![3, 5632]⟩ .f32 := fun i => dTap (chan u (vcol (i 1))) (duV u k d (i 1)) (i 0)

end Cert.GateModel
end
-- ==== Proof.GateArray.lean ====
/-
  The four arrays the kernel of the gate's gradient leaves: the gradients of `GateSpec.lean` of its argument arrays.
-/
module

public import proofs.«01_k».proof.Proof.GateBlockValue
public import proofs.«01_k».proof.Proof.GateSpec

@[expose] public section
set_option maxRecDepth 16384
noncomputable section
namespace Cert.GateIdeal.Gate
open Cert.GateIdeal Cert.GateIdeal.Gen Idealize.ShloMosaic Idealize.ShloMosaic.TcCoe Idealize.SL.Sem Cert.GateModel

/-- The blocks the windows are on at point `t`: row tile `t % 8` of channels `512 (t / 8) …`. -/
theorem idx_rows : ∀ t : Fin grid0.N,
    win0_0.index t 0 = t.val % 8 ∧ win0_1.index t 0 = t.val % 8 ∧
    win0_2.index t 0 = t.val % 8 * 32 - 1 ∧ win0_3.index t 0 = t.val % 8 * 32 - 1 ∧
    win0_4.index t 0 = min (t.val % 8 * 32 + 32) 255 ∧ win0_5.index t 0 = min (t.val % 8 * 32 + 32) 255 ∧
    win0_6.index t 0 = 0 ∧ win0_7.index t 0 = 0 ∧ win0_8.index t 0 = t.val % 8 ∧ win0_9.index t 0 = min (t.val % 8 * 32 + 32) 255 ∧
    win0_10.index t 0 = t.val % 8 ∧ win0_11.index t 0 = t.val % 8 ∧ win0_12.index t 0 = 0 ∧ win0_13.index t 0 = 0 := by decide +kernel
theorem idx_cols : ∀ t : Fin grid0.N,
    win0_0.index t 1 = t.val / 8 ∧ win0_1.index t 1 = t.val / 8 + 11 ∧ win0_2.index t 1 = t.val / 8 ∧ win0_3.index t 1 = t.val / 8 + 11 ∧
    win0_4.index t 1 = t.val / 8 ∧ win0_5.index t 1 = t.val / 8 + 11 ∧ win0_6.index t 1 = t.val / 8 ∧ win0_7.index t 1 = t.val / 8 + 11 ∧
    win0_8.index t 1 = t.val / 8 ∧ win0_9.index t 1 = t.val / 8 ∧ win0_10.index t 1 = t.val / 8 ∧ win0_11.index t 1 = t.val / 8 ∧
    win0_12.index t 1 = t.val / 8 ∧ win0_13.index t 1 = t.val / 8 := by decide +kernel
theorem coord_rows : ∀ t : Fin grid0.N, (grid0.coords t 1).val = t.val % 8 := by decide +kernel

theorem tlt (t : Fin cfg0.N) : t.val < 88 := t.isLt

variable (m : (ℓ : Loc nD τ sig) → Buf (Elt Ideal) ℓ) (c : Dev nD)

/-- The argument arrays. -/
abbrev argU : FVec Ideal S2048x11264 .f32 := m ((c : Thread nD τ).loc main_arg0)
abbrev argK : FVec Ideal S3x11264 .f32 := m ((c : Thread nD τ).loc main_arg1)
abbrev argD : FVec Ideal S2048x5632 .f32 := m ((c : Thread nD τ).loc main_arg2)

/-- The channel of column `q` of a point's blocks. -/
abbrev chOf (t : Fin cfg0.N) (q : Fin 512) : Fin 5632 := ⟨t.val / 8 * 512 + q.val, by have := tlt t; omega⟩

theorem at0_eq {x : Fin 2048 → EReal} {n : ℕ} (k : Fin 2048) (h : k.val = n) : x k = at0 x n := by
  subst h
  exact (at0_lt x k).symm

/-- The input blocks of a point are a tile of rows and its neighbours. -/
theorem iblk_g (t : Fin cfg0.N) : Tile (t.val % 8) (fun q => chan (argU m c) (gcol (chOf t q))) (iblk m c 0 t) (iblk m c 2 t) (iblk m c 4 t) := by
  have ht := tlt t
  refine ⟨fun r q => Eq.trans ?_ (at0_eq ⟨t.val % 8 * 256 + r.val, by omega⟩ rfl),
    fun h r q => Eq.trans ?_ (at0_eq ⟨t.val % 8 * 256 - 8 + r.val, by omega⟩ rfl),
    fun h r q => Eq.trans ?_ (at0_eq ⟨t.val % 8 * 256 + 256 + r.val, by omega⟩ rfl)⟩
  all_goals
    unfold chan
    blk_ext [iblk, V, idx_rows t, idx_cols t]
theorem iblk_v (t : Fin cfg0.N) : Tile (t.val % 8) (fun q => chan (argU m c) (vcol (chOf t q))) (iblk m c 1 t) (iblk m c 3 t) (iblk m c 5 t) := by
  have ht := tlt t
  refine ⟨fun r q => Eq.trans ?_ (at0_eq ⟨t.val % 8 * 256 + r.val, by omega⟩ rfl),
    fun h r q => Eq.trans ?_ (at0_eq ⟨t.val % 8 * 256 - 8 + r.val, by omega⟩ rfl),
    fun h r q => Eq.trans ?_ (at0_eq ⟨t.val % 8 * 256 + 256 + r.val, by omega⟩ rfl)⟩
  all_goals
    unfold chan
    blk_ext [iblk, V, idx_rows t, idx_cols t]
/-- The cotangent has no rows before the tile among the blocks. -/
theorem iblk_d (t : Fin cfg0.N) : Tile (t.val % 8) (fun q => cots (argD m c) (chOf t q)) (iblk m c 8 t)
    (fun i => at0 (cots (argD m c) (chOf t (i 1))) (t.val % 8 * 256 - 8 + (i 0).val)) (iblk m c 9 t) := by
  have ht := tlt t
  refine ⟨fun r q => Eq.trans ?_ (at0_eq ⟨t.val % 8 * 256 + r.val, by omega⟩ rfl), fun h r q => rfl,
    fun h r q => Eq.trans ?_ (at0_eq ⟨t.val % 8 * 256 + 256 + r.val, by omega⟩ rfl)⟩
  all_goals
    unfold cots
    blk_ext [iblk, V, idx_rows t, idx_cols t]
/-- The taps of a point's channels. -/
theorem iblk_kg (t : Fin cfg0.N) (q : Fin 512) : (fun j => (iblk m c 6 t : FVec Ideal S3x512 .f32) (ix2 j q)) = taps (argK m c) (gcol (chOf t q)) := by
  have ht := tlt t
  funext j
  unfold taps
  blk_ext [iblk, V, idx_rows t, idx_cols t]
theorem iblk_kv (t : Fin cfg0.N) (q : Fin 512) : (fun j => (iblk m c 7 t : FVec Ideal S3x512 .f32) (ix2 j q)) = taps (argK m c) (vcol (chOf t q)) := by
  have ht := tlt t
  funext j
  unfold taps
  blk_ext [iblk, V, idx_rows t, idx_cols t]

theorem modlt (t : Fin cfg0.N) : t.val % 8 < 8 := Nat.mod_lt _ (by decide)

/-- A point's block of the gradient by the gates, and of that by the values. -/
theorem blockG_value (t : Fin cfg0.N) (r : Fin 256) (q : Fin 512) :
    blockG (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r q)
      = dIn (taps (argK m c) (gcol (chOf t q))) (duG (argU m c) (argK m c) (argD m c) (chOf t q)) (t.val % 8 * 256 + r.val) := by
  rw [blockG_apply (coord_rows t) (modlt t) (iblk_g m c t) (iblk_v m c t) (iblk_d m c t), iblk_kg, iblk_kv]
  rfl
theorem blockV_value (t : Fin cfg0.N) (r : Fin 256) (q : Fin 512) :
    blockV (F := Ideal) (grid0.coords t) (iblk m c 0 t) (iblk m c 2 t) (iblk m c 4 t) (iblk m c 6 t) (iblk m c 7 t) (iblk m c 8 t) (iblk m c 9 t) (ix2 r q)
      = dIn (taps (argK m c) (vcol (chOf t q))) (duV (argU m c) (argK m c) (argD m c) (chOf t q)) (t.val % 8 * 256 + r.val) := by
  rw [blockV_apply (coord_rows t) (modlt t) (iblk_g m c t) (iblk_d m c t), iblk_kg, iblk_kv]
  rfl

/-- A point's parts of the gradients by the taps. -/
def termG (t : Fin cfg0.N) (i : S3x512.Idx) : EReal :=
  ∑ r : Fin 256, duG (argU m c) (argK m c) (argD m c) (chOf t (i 1)) (t.val % 8 * 256 + r.val) * pad (chan (argU m c) (gcol (chOf t (i 1)))) (t.val % 8 * 256 + r.val + (i 0).val)
def termV (t : Fin cfg0.N) (i : S3x512.Idx) : EReal :=
  ∑ r : Fin 256, duV (argU m c) (argK m c) (argD m c) (chOf t (i 1)) (t.val % 8 * 256 + r.val) * pad (chan (argU m c) (vcol (chOf t (i 1)))) (t.val % 8 * 256 + r.val + (i 0).val)

theorem addG_value (t : Fin cfg0.N) (o : FVec Ideal S3x512 .f32) (i : S3x512.Idx) :
    addG (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) o i
      = o i + termG m c t i := by
  obtain ⟨j, q, rfl⟩ : ∃ (j : Fin 3) (q : Fin 512), i = ix2 j q := ⟨i 0, i 1, eq_ix2 i⟩
  rw [addG_apply (coord_rows t) (modlt t) (iblk_g m c t) (iblk_v m c t) (iblk_d m c t), iblk_kg, iblk_kv]
  rfl
theorem addV_value (t : Fin cfg0.N) (o : FVec Ideal S3x512 .f32) (i : S3x512.Idx) :
    addV (F := Ideal) (grid0.coords t) (iblk m c 0 t) (iblk m c 1 t) (iblk m c 2 t) (iblk m c 3 t) (iblk m c 4 t) (iblk m c 5 t) (iblk m c 6 t) (iblk m c 8 t) (iblk m c 9 t) o i
      = o i + termV m c t i := by
  obtain ⟨j, q, rfl⟩ : ∃ (j : Fin 3) (q : Fin 512), i = ix2 j q := ⟨i 0, i 1, eq_ix2 i⟩
  rw [addV_apply (coord_rows t) (modlt t) (iblk_g m c t) (iblk_v m c t) (iblk_d m c t), iblk_kg]
  rfl

/-- The sums of the eight row tiles are the sums over all rows. -/
theorem sum_tiles (f : ℕ → EReal) (a : ℕ) (ha : a < 11) : ∑ s : Fin 8, ∑ r : Fin 256, f ((8 * a + s.val) % 8 * 256 + r.val) = ∑ t : Fin 2048, f t.val := by
  rw [← Fin.sum_mul_add_fin (L := 2048) 8 256]
  refine Finset.sum_congr rfl fun s _ => Finset.sum_congr rfl fun r _ => congrArg f ?_
  have := s.isLt
  dsimp only
  omega

/-- After a channel block's last tile, the gradients by its taps. -/
theorem lastG (t : Fin cfg0.N) (h : t.val % 8 = 7) (j : Fin 3) (q : Fin 512) :
    (outsAt0 m c t.val t.isLt).2.2.1 (ix2 j q) = gradTG (argU m c) (argK m c) (argD m c) (ix2 j (chOf t q)) := by
  have e := Pipeline.eq_sum_fin_of_reset_step_apply_of_flush (fun n h => (outsAt0 m c n h).2.2.1) 8 (fun _ => (0 : EReal)) (termG m c)
    (fun t h j => by rw [outsAt0_A m c t h]; dsimp only; rw [out_A_12, addG_value]; pointwise [k0_pay21])
    (fun t h j => by rw [outsAt0_B m c t h]; dsimp only; rw [out_B_12, addG_value]) t h (ix2 j q)
  have ht := tlt t
  rw [zero_add] at e
  refine e.trans ?_
  refine Eq.trans ?_ (sum_tiles (fun n => duG (argU m c) (argK m c) (argD m c) (chOf t q) n * pad (chan (argU m c) (gcol (chOf t q))) (n + j.val)) (t.val / 8) (by omega))
  refine Finset.sum_congr rfl fun s _ => ?_
  have hs := s.isLt
  have e2 : (8 * (t.val / 8) + s.val) / 8 = t.val / 8 := by omega
  have e3 : chOf ⟨8 * (t.val / 8) + s.val, by omega⟩ q = chOf t q := Fin.ext (by dsimp only; rw [e2])
  show ∑ r : Fin 256, duG (argU m c) (argK m c) (argD m c) (chOf ⟨8 * (t.val / 8) + s.val, by omega⟩ q) ((8 * (t.val / 8) + s.val) % 8 * 256 + r.val)
    * pad (chan (argU m c) (gcol (chOf ⟨8 * (t.val / 8) + s.val, by omega⟩ q))) ((8 * (t.val / 8) + s.val) % 8 * 256 + r.val + j.val) = _
  rw [e3]
theorem lastV (t : Fin cfg0.N) (h : t.val % 8 = 7) (j : Fin 3) (q : Fin 512) :
    (outsAt0 m c t.val t.isLt).2.2.2 (ix2 j q) = gradTV (argU m c) (argK m c) (argD m c) (ix2 j (chOf t q)) := by
  have e := Pipeline.eq_sum_fin_of_reset_step_apply_of_flush (fun n h => (outsAt0 m c n h).2.2.2) 8 (fun _ => (0 : EReal)) (termV m c)
    (fun t h j => by rw [outsAt0_A m c t h]; dsimp only; rw [out_A_13, addV_value]; pointwise [k0_pay22])
    (fun t h j => by rw [outsAt0_B m c t h]; dsimp only; rw [out_B_13, addV_value]) t h (ix2 j q)
  have ht := tlt t
  rw [zero_add] at e
  refine e.trans ?_
  refine Eq.trans ?_ (sum_tiles (fun n => duV (argU m c) (argK m c) (argD m c) (chOf t q) n * pad (chan (argU m c) (vcol (chOf t q))) (n + j.val)) (t.val / 8) (by omega))
  refine Finset.sum_congr rfl fun s _ => ?_
  have hs := s.isLt
  have e2 : (8 * (t.val / 8) + s.val) / 8 = t.val / 8 := by omega
  have e3 : chOf ⟨8 * (t.val / 8) + s.val, by omega⟩ q = chOf t q := Fin.ext (by dsimp only; rw [e2])
  show ∑ r : Fin 256, duV (argU m c) (argK m c) (argD m c) (chOf ⟨8 * (t.val / 8) + s.val, by omega⟩ q) ((8 * (t.val / 8) + s.val) % 8 * 256 + r.val)
    * pad (chan (argU m c) (vcol (chOf ⟨8 * (t.val / 8) + s.val, by omega⟩ q))) ((8 * (t.val / 8) + s.val) % 8 * 256 + r.val + j.val) = _
  rw [e3]

/-- The four arrays. -/
theorem array_g : (dats m 0 c).arrAt 10 cfg0.N = gradG (argU m c) (argK m c) (argD m c) := by
  refine (dats m 0 c).arrAt_eq_of_covers 10 _ (by decide +kernel) fun t hf y => ?_
  have ht := tlt t
  blk_simp [idx_rows t, idx_cols t]
  rw [after0_10]
  have e : (outsAt0 m c t.val t.isLt).1 = blockG (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) := by
    by_cases h : t.val % 8 = 0
    · rw [outsAt0_A m c t h]; dsimp only; rw [out_A_10]
    · rw [outsAt0_B m c t h]; dsimp only; rw [out_B_10]
  rw [e]
  obtain ⟨r, q, rfl⟩ : ∃ (r : Fin 256) (q : Fin 512), y = ix2 r q := ⟨y 0, y 1, eq_ix2 y⟩
  rw [blockG_value]
  refine Eq.trans (b := gradG (argU m c) (argK m c) (argD m c) (ix2 ⟨t.val % 8 * 256 + r.val, by omega⟩ (chOf t q))) rfl ?_
  blk_ext [idx_rows t, idx_cols t]
theorem array_v : (dats m 0 c).arrAt 11 cfg0.N = gradV (argU m c) (argK m c) (argD m c) := by
  refine (dats m 0 c).arrAt_eq_of_covers 11 _ (by decide +kernel) fun t hf y => ?_
  have ht := tlt t
  blk_simp [idx_rows t, idx_cols t]
  rw [after0_11]
  have e : (outsAt0 m c t.val t.isLt).2.1 = blockV (F := Ideal) (grid0.coords t) (iblk m c 0 t) (iblk m c 2 t) (iblk m c 4 t) (iblk m c 6 t) (iblk m c 7 t) (iblk m c 8 t) (iblk m c 9 t) := by
    by_cases h : t.val % 8 = 0
    · rw [outsAt0_A m c t h]; dsimp only; rw [out_A_11]
    · rw [outsAt0_B m c t h]; dsimp only; rw [out_B_11]
  rw [e]
  obtain ⟨r, q, rfl⟩ : ∃ (r : Fin 256) (q : Fin 512), y = ix2 r q := ⟨y 0, y 1, eq_ix2 y⟩
  rw [blockV_value]
  refine Eq.trans (b := gradV (argU m c) (argK m c) (argD m c) (ix2 ⟨t.val % 8 * 256 + r.val, by omega⟩ (chOf t q))) rfl ?_
  blk_ext [idx_rows t, idx_cols t]
theorem array_tg : (dats m 0 c).arrAt 12 cfg0.N = gradTG (argU m c) (argK m c) (argD m c) := by
  refine (dats m 0 c).arrAt_eq_of_covers 12 _ (by decide +kernel) fun t hf y => ?_
  have h := (flush0_12 t).mp hf
  have ht := tlt t
  blk_simp [idx_rows t, idx_cols t]
  rw [after0_12]
  obtain ⟨j, q, rfl⟩ : ∃ (j : Fin 3) (q : Fin 512), y = ix2 j q := ⟨y 0, y 1, eq_ix2 y⟩
  rw [lastG m c t h]
  blk_ext [idx_rows t, idx_cols t]
theorem array_tv : (dats m 0 c).arrAt 13 cfg0.N = gradTV (argU m c) (argK m c) (argD m c) := by
  refine (dats m 0 c).arrAt_eq_of_covers 13 _ (by decide +kernel) fun t hf y => ?_
  have h := (flush0_13 t).mp hf
  have ht := tlt t
  blk_simp [idx_rows t, idx_cols t]
  rw [after0_13]
  obtain ⟨j, q, rfl⟩ : ∃ (j : Fin 3) (q : Fin 512), y = ix2 j q := ⟨y 0, y 1, eq_ix2 y⟩
  rw [lastV m c t h]
  blk_ext [idx_rows t, idx_cols t]

end Cert.GateIdeal.Gate
end
-- ==== Proof.GateRef.lean ====
/-
  What the gate's reference computes, read at an index: the gradients of `GateSpec.lean` of its argument arrays, where
  their entries are real.
-/
module

public import proofs.«01_k».proof.Proof.Gen.GateRefIdeal.Run
public import proofs.«01_k».proof.Proof.GateSpec
public import Idealize.ShloMosaic.Lib.IdealHost

@[expose] public section
set_option maxRecDepth 16384
noncomputable section
namespace Cert.GateRefIdeal.Gate
open Cert.GateRefIdeal Cert.GateRefIdeal.Gen Idealize.ShloMosaic Idealize.ShloMosaic.TcCoe Idealize.SL.Sem Cert.AttnModel
open Cert.GateModel (at0 conv dGate dVal dIn dTap gcol vcol chan taps cots duG duV gradG gradV gradTG gradTV at0_lt at0_ge pad_two pad_lt pad_ge)

variable (u : FVec Ideal S2048x11264 .f32) (k : FVec Ideal S3x11264 .f32) (d : FVec Ideal S2048x5632 .f32)

/-- The input behind two rows of zeros, and what each tap reads of it. -/
def xp : FVec Ideal S1x2050x11264 .f32 :=
  concatenate S1x2050x11264 1 [⟨S1x2x11264, (broadcastInDim S1x2x11264 ![] bcast_S_S1x2x11264 (constant S_ .f32 0x00000000#32))⟩, ⟨S1x2048x11264, (broadcastInDim S1x2048x11264 ![1, 2] bcast_S2048x11264_S1x2048x11264_1_2 u)⟩] concatenates_S1x2x11264_S1x2048x11264_S1x2050x11264_d1
def sh0 : FVec Ideal S1x2048x11264 .f32 := extractStridedSlice S1x2048x11264 ![0, 0, 0] (xp u) slices_S1x2050x11264_S1x2048x11264_0_0_0
def sh1 : FVec Ideal S1x2048x11264 .f32 := extractStridedSlice S1x2048x11264 ![0, 1, 0] (xp u) slices_S1x2050x11264_S1x2048x11264_0_1_0
def sh2 : FVec Ideal S1x2048x11264 .f32 := extractStridedSlice S1x2048x11264 ![0, 2, 0] (xp u) slices_S1x2050x11264_S1x2048x11264_0_2_0

/-- A row of the taps, copied to every row. -/
def tall (w : FVec Ideal S1x11264 .f32) : FVec Ideal S1x2048x11264 .f32 :=
  broadcastInDim S1x2048x11264 ![0, 1, 2] bcast_S1x1x11264_S1x2048x11264_0_1_2 (broadcastInDim S1x1x11264 ![2] bcast_S11264_S1x1x11264_2 (shapeCast _ w shapeCasts_S1x11264_S11264))
def tap0 : FVec Ideal S1x2048x11264 .f32 := tall (extractStridedSlice S1x11264 ![0, 0] k slices_S3x11264_S1x11264_0_0)
def tap1 : FVec Ideal S1x2048x11264 .f32 := tall (extractStridedSlice S1x11264 ![1, 0] k slices_S3x11264_S1x11264_1_0)
def tap2 : FVec Ideal S1x2048x11264 .f32 := tall (extractStridedSlice S1x11264 ![2, 0] k slices_S3x11264_S1x11264_2_0)

/-- The convolution, its halves, the gates' logistic function, the cotangent. -/
def cv : FVec Ideal S1x2048x11264 .f32 := addf (addf (mulf (sh0 u) (tap0 k)) (mulf (sh1 u) (tap1 k))) (mulf (sh2 u) (tap2 k))
def cg : FVec Ideal S1x2048x5632 .f32 := extractStridedSlice S1x2048x5632 ![0, 0, 0] (cv u k) slices_S1x2048x11264_S1x2048x5632_0_0_0
def cl : FVec Ideal S1x2048x5632 .f32 := extractStridedSlice S1x2048x5632 ![0, 0, 5632] (cv u k) slices_S1x2048x11264_S1x2048x5632_0_0_5632
def ones : FVec Ideal S1x2048x5632 .f32 := broadcastInDim S1x2048x5632 ![] bcast_S_S1x2048x5632 (constant S_ .f32 0x3F800000#32)
def sg : FVec Ideal S1x2048x5632 .f32 := Host.divf ones (addf ones (Host.exp (Host.negf (cg u k))))
def d3 : FVec Ideal S1x2048x5632 .f32 := broadcastInDim S1x2048x5632 ![1, 2] bcast_S2048x5632_S1x2048x5632_1_2 d

/-- The gradients by the two halves of the convolution, and side by side. -/
def dug : FVec Ideal S1x2048x5632 .f32 :=
  addf (mulf (mulf (d3 d) (cl u k)) (sg u k)) (mulf (mulf (cg u k) (mulf (d3 d) (cl u k))) (mulf (sg u k) (subf ones (sg u k))))
def duv : FVec Ideal S1x2048x5632 .f32 := mulf (mulf (cg u k) (sg u k)) (d3 d)
def du : FVec Ideal S1x2048x11264 .f32 :=
  concatenate S1x2048x11264 2 [⟨S1x2048x5632, dug u k d⟩, ⟨S1x2048x5632, duv u k d⟩] concatenates_S1x2048x5632_S1x2048x5632_S1x2048x11264_d2

/-- The gradient by the taps and by the input. -/
def colSum (x : FVec Ideal S1x2048x11264 .f32) : FVec Ideal S1x11264 .f32 :=
  broadcastInDim S1x11264 ![1] bcast_S11264_S1x11264_1 (Host.reduceAdd (shapeCast _ (Host.reduceAdd x (constant S_ .f32 0x00000000#32) reducesTo_S1x2048x11264_S1x11264_d1 h_S_) shapeCasts_S1x11264_S1x1x11264) (constant S_ .f32 0x00000000#32) reducesTo_S1x1x11264_S11264_d0_1 h_S_)
def row2 (x : FVec Ideal S1x11264 .f32) : FVec Ideal S3x11264 .f32 := Idealize.ShloMosaic.pad S3x11264 ![2, 0] ![0, 0] ![0, 0] x (constant S_ .f32 0x00000000#32) pads_S1x11264_S3x11264_200_000 h_S_
def row1 (x : FVec Ideal S1x11264 .f32) : FVec Ideal S3x11264 .f32 := Idealize.ShloMosaic.pad S3x11264 ![1, 0] ![1, 0] ![0, 0] x (constant S_ .f32 0x00000000#32) pads_S1x11264_S3x11264_110_000 h_S_
def row0 (x : FVec Ideal S1x11264 .f32) : FVec Ideal S3x11264 .f32 := Idealize.ShloMosaic.pad S3x11264 ![0, 0] ![2, 0] ![0, 0] x (constant S_ .f32 0x00000000#32) pads_S1x11264_S3x11264_020_000 h_S_
def dt : FVec Ideal S3x11264 .f32 :=
  addf (addf (row2 (colSum (mulf (sh2 u) (du u k d)))) (row1 (colSum (mulf (sh1 u) (du u k d))))) (row0 (colSum (mulf (sh0 u) (du u k d))))
def back2 (x : FVec Ideal S1x2048x11264 .f32) : FVec Ideal S1x2050x11264 .f32 := Idealize.ShloMosaic.pad S1x2050x11264 ![0, 2, 0] ![0, 0, 0] ![0, 0, 0] x (constant S_ .f32 0x00000000#32) pads_S1x2048x11264_S1x2050x11264_000_200_000 h_S_
def back1 (x : FVec Ideal S1x2048x11264 .f32) : FVec Ideal S1x2050x11264 .f32 := Idealize.ShloMosaic.pad S1x2050x11264 ![0, 1, 0] ![0, 1, 0] ![0, 0, 0] x (constant S_ .f32 0x00000000#32) pads_S1x2048x11264_S1x2050x11264_000_110_000 h_S_
def back0 (x : FVec Ideal S1x2048x11264 .f32) : FVec Ideal S1x2050x11264 .f32 := Idealize.ShloMosaic.pad S1x2050x11264 ![0, 0, 0] ![0, 2, 0] ![0, 0, 0] x (constant S_ .f32 0x00000000#32) pads_S1x2048x11264_S1x2050x11264_000_020_000 h_S_
def dx : FVec Ideal S2048x11264 .f32 :=
  shapeCast S2048x11264 (extractStridedSlice S1x2048x11264 ![0, 2, 0] (addf (addf (back2 (mulf (du u k d) (tap2 k))) (back1 (mulf (du u k d) (tap1 k)))) (back0 (mulf (du u k d) (tap0 k)))) slices_S1x2050x11264_S1x2048x11264_0_2_0) shapeCasts_S1x2048x11264_S2048x11264

/-- The four results. -/
def outG : FVec Ideal S2048x5632 .bf16 := truncf .bf16 (extractStridedSlice S2048x5632 ![0, 0] (dx u k d) slices_S2048x11264_S2048x5632_0_0) bitsLt_bf16_f32
def outV : FVec Ideal S2048x5632 .bf16 := truncf .bf16 (extractStridedSlice S2048x5632 ![0, 5632] (dx u k d) slices_S2048x11264_S2048x5632_0_5632) bitsLt_bf16_f32
def outTG : FVec Ideal S3x5632 .f32 := extractStridedSlice S3x5632 ![0, 0] (dt u k d) slices_S3x11264_S3x5632_0_0
def outTV : FVec Ideal S3x5632 .f32 := extractStridedSlice S3x5632 ![0, 5632] (dt u k d) slices_S3x11264_S3x5632_0_5632

section
variable (m : (ℓ : Loc nD τ sig) → Buf (Elt Ideal) ℓ) (c : Dev nD)
theorem res0 : Value.res_out0 m c = outG (m ((c.tc : Thread nD τ).loc main_arg0)) (m ((c.tc : Thread nD τ).loc main_arg1)) (m ((c.tc : Thread nD τ).loc main_arg2)) := rfl
theorem res1 : Value.res_out1 m c = outV (m ((c.tc : Thread nD τ).loc main_arg0)) (m ((c.tc : Thread nD τ).loc main_arg1)) (m ((c.tc : Thread nD τ).loc main_arg2)) := rfl
theorem res2 : Value.res_out2 m c = outTG (m ((c.tc : Thread nD τ).loc main_arg0)) (m ((c.tc : Thread nD τ).loc main_arg1)) (m ((c.tc : Thread nD τ).loc main_arg2)) := rfl
theorem res3 : Value.res_out3 m c = outTV (m ((c.tc : Thread nD τ).loc main_arg0)) (m ((c.tc : Thread nD τ).loc main_arg1)) (m ((c.tc : Thread nD τ).loc main_arg2)) := rfl
end

theorem xp_apply (b : Fin 1) (n : Fin 2050) (q : Fin 11264) : xp u (ix3 b n q) = GateModel.pad (chan u q) n.val := by
  unfold xp
  pointwise
  by_cases h : n.val < 2
  · rw [dif_pos h, pad_lt _ h]
  · rw [dif_neg h, pad_ge _ (by omega)]
    unfold at0
    rw [dif_pos (by omega)]
    rfl
theorem sh0_apply (b : Fin 1) (t : Fin 2048) (q : Fin 11264) : sh0 u (ix3 b t q) = GateModel.pad (chan u q) t.val := by
  have h1 := xp_apply u
  unfold sh0
  generalize xp u = x1 at h1
  pointwise [h1]
theorem sh1_apply (b : Fin 1) (t : Fin 2048) (q : Fin 11264) : sh1 u (ix3 b t q) = GateModel.pad (chan u q) (t.val + 1) := by
  have h1 := xp_apply u
  unfold sh1
  generalize xp u = x1 at h1
  pointwise [h1]
  rw [add_comm]
theorem sh2_apply (b : Fin 1) (t : Fin 2048) (q : Fin 11264) : sh2 u (ix3 b t q) = GateModel.pad (chan u q) (t.val + 2) := by
  have h1 := xp_apply u
  unfold sh2
  generalize xp u = x1 at h1
  pointwise [h1]
  rw [add_comm]
theorem tall_apply (w : FVec Ideal S1x11264 .f32) (b : Fin 1) (t : Fin 2048) (q : Fin 11264) : tall w (ix3 b t q) = w (ix2 0 q) := by
  unfold tall
  pointwise
theorem tap0_apply (b : Fin 1) (t : Fin 2048) (q : Fin 11264) : tap0 k (ix3 b t q) = taps k q 0 := by
  unfold tap0 taps
  rw [tall_apply]
  pointwise
theorem tap1_apply (b : Fin 1) (t : Fin 2048) (q : Fin 11264) : tap1 k (ix3 b t q) = taps k q 1 := by
  unfold tap1 taps
  rw [tall_apply]
  pointwise
theorem tap2_apply (b : Fin 1) (t : Fin 2048) (q : Fin 11264) : tap2 k (ix3 b t q) = taps k q 2 := by
  unfold tap2 taps
  rw [tall_apply]
  pointwise
theorem cv_apply (b : Fin 1) (t : Fin 2048) (q : Fin 11264) : cv u k (ix3 b t q) = conv (chan u q) (taps k q) t.val := by
  have e : cv u k (ix3 b t q) = (sh0 u (ix3 b t q) * tap0 k (ix3 b t q) + sh1 u (ix3 b t q) * tap1 k (ix3 b t q)) + sh2 u (ix3 b t q) * tap2 k (ix3 b t q) := rfl
  rw [e, sh0_apply, sh1_apply, sh2_apply, tap0_apply, tap1_apply, tap2_apply, mul_comm, mul_comm (GateModel.pad _ (_ + 1)), mul_comm (GateModel.pad _ (_ + 2))]
  rfl
theorem cg_apply (b : Fin 1) (t : Fin 2048) (q : Fin 5632) : cg u k (ix3 b t q) = conv (chan u (gcol q)) (taps k (gcol q)) t.val := by
  have h1 := cv_apply u k
  unfold cg
  generalize cv u k = x1 at h1
  pointwise [h1]
theorem cl_apply (b : Fin 1) (t : Fin 2048) (q : Fin 5632) : cl u k (ix3 b t q) = conv (chan u (vcol q)) (taps k (vcol q)) t.val := by
  have h1 := cv_apply u k
  unfold cl
  generalize cv u k = x1 at h1
  pointwise [h1]
theorem ones_apply (i : S1x2048x5632.Idx) : ones i = 1 := by
  unfold ones
  pointwise
theorem sg_apply (b : Fin 1) (t : Fin 2048) (q : Fin 5632) : sg u k (ix3 b t q) = GateModel.sig (conv (chan u (gcol q)) (taps k (gcol q)) t.val) := by
  have e : sg u k (ix3 b t q) = Ideal.div (ones (ix3 b t q)) (ones (ix3 b t q) + Ideal.exp (-(cg u k (ix3 b t q)))) := rfl
  rw [e, ones_apply, cg_apply]
  rfl
theorem d3_apply (b : Fin 1) (t : Fin 2048) (q : Fin 5632) : d3 d (ix3 b t q) = at0 (cots d q) t.val := by
  rw [at0_lt]
  unfold d3 cots
  pointwise

variable {u k d} (hu : ∀ i, IsReal (u i)) (hk : ∀ i, IsReal (k i)) (hd : ∀ i, IsReal (d i))
include hu hk hd in
theorem dug_apply (b : Fin 1) (t : Fin 2048) (q : Fin 5632) : dug u k d (ix3 b t q) = duG u k d q t.val := by
  have e : dug u k d (ix3 b t q) = (d3 d (ix3 b t q) * cl u k (ix3 b t q)) * sg u k (ix3 b t q) + (cg u k (ix3 b t q) * (d3 d (ix3 b t q) * cl u k (ix3 b t q))) * (sg u k (ix3 b t q) * (ones (ix3 b t q) - sg u k (ix3 b t q))) := rfl
  have hg := GateModel.conv_real (x := chan u (gcol q)) (w := taps k (gcol q)) (fun _ => hu _) (fun _ => hk _) t.val
  have hv := GateModel.conv_real (x := chan u (vcol q)) (w := taps k (vcol q)) (fun _ => hu _) (fun _ => hk _) t.val
  have hc := GateModel.at0_real (x := cots d q) (fun _ => hd _) t.val
  rw [e, ones_apply, cg_apply, cl_apply, sg_apply, d3_apply]
  exact GateModel.silu_deriv (hc.mul hv) hg (GateModel.sig_real hg)
theorem duv_apply (b : Fin 1) (t : Fin 2048) (q : Fin 5632) : duv u k d (ix3 b t q) = duV u k d q t.val := by
  have e : duv u k d (ix3 b t q) = (cg u k (ix3 b t q) * sg u k (ix3 b t q)) * d3 d (ix3 b t q) := rfl
  rw [e, cg_apply, sg_apply, d3_apply, mul_comm]
  rfl
include hu hk hd in
theorem du_gate (b : Fin 1) (t : Fin 2048) (q : Fin 5632) : du u k d (ix3 b t (gcol q)) = duG u k d q t.val := by
  have h1 := dug_apply hu hk hd
  unfold du
  generalize dug u k d = x1 at h1
  generalize duv u k d = x2
  pointwise [h1]
theorem du_val (b : Fin 1) (t : Fin 2048) (q : Fin 5632) : du u k d (ix3 b t (vcol q)) = duV u k d q t.val := by
  have h1 := duv_apply (u := u) (k := k) (d := d)
  unfold du
  generalize dug u k d = x2
  generalize duv u k d = x1 at h1
  pointwise [h1]

/-! ## The gradients by the taps -/

/-- The host's sum over two axes of extent one is the one entry. -/
theorem sum_unit_axes (x : FVec Ideal S1x1x11264 .f32) (q : Fin 11264) :
    Ideal.hostReduceAdd reducesTo_S1x1x11264_S11264_d0_1 x 0 (ix1 q) = x (ix3 0 0 q) := by
  unfold Ideal.hostReduceAdd
  rw [zero_add]
  refine Finset.sum_eq_single (M := EReal) _ (fun i hi hne => absurd ?_ hne) (fun hn => absurd (Finset.mem_filter.mpr ⟨Finset.mem_univ _, ?_⟩) hn)
  · have e := (Finset.mem_filter.mp hi).2
    have e2 : (i 2).val = q.val := congrArg Fin.val (congrFun e 0)
    have e0 : (i 0).val < 1 := (i 0).isLt
    have e1 : (i 1).val < 1 := (i 1).isLt
    funext a
    apply Fin.ext
    match a with
    | ⟨0, _⟩ => exact Nat.lt_one_iff.mp e0
    | ⟨1, _⟩ => exact Nat.lt_one_iff.mp e1
    | ⟨2, _⟩ => exact e2
  · funext a
    match a with
    | ⟨0, _⟩ => rfl
theorem colSum_apply (x : FVec Ideal S1x2048x11264 .f32) (b : Fin 1) (q : Fin 11264) : colSum x (ix2 b q) = ∑ t, x (ix3 0 t q) := by
  unfold colSum
  pointwise [sum_unit_axes]
theorem row2_apply (x : FVec Ideal S1x11264 .f32) (j : Fin 3) (q : Fin 11264) : row2 x (ix2 j q) = if j = 2 then x (ix2 0 q) else 0 := by
  unfold row2
  match j with
  | 0 => pointwise
  | 1 => pointwise
  | 2 => pointwise
theorem row1_apply (x : FVec Ideal S1x11264 .f32) (j : Fin 3) (q : Fin 11264) : row1 x (ix2 j q) = if j = 1 then x (ix2 0 q) else 0 := by
  unfold row1
  match j with
  | 0 => pointwise
  | 1 => pointwise
  | 2 => pointwise
theorem row0_apply (x : FVec Ideal S1x11264 .f32) (j : Fin 3) (q : Fin 11264) : row0 x (ix2 j q) = if j = 0 then x (ix2 0 q) else 0 := by
  unfold row0
  match j with
  | 0 => pointwise
  | 1 => pointwise
  | 2 => pointwise
/-- The gradient by tap `j` of column `q`, whatever that column's gradient by the convolution. -/
theorem dt_apply (f : ℕ → EReal) (q : Fin 11264) (hf : ∀ (b : Fin 1) (t : Fin 2048), du u k d (ix3 b t q) = f t.val) (j : Fin 3) :
    dt u k d (ix2 j q) = dTap (chan u q) f j := by
  have e : dt u k d (ix2 j q) = (row2 (colSum (mulf (sh2 u) (du u k d))) (ix2 j q) + row1 (colSum (mulf (sh1 u) (du u k d))) (ix2 j q)) + row0 (colSum (mulf (sh0 u) (du u k d))) (ix2 j q) := rfl
  have e2 : ∑ t, mulf (sh2 u) (du u k d) (ix3 0 t q) = dTap (chan u q) f 2 := Finset.sum_congr rfl fun t _ => by
    show sh2 u (ix3 0 t q) * du u k d (ix3 0 t q) = _
    rw [sh2_apply, hf, mul_comm]
    rfl
  have e1 : ∑ t, mulf (sh1 u) (du u k d) (ix3 0 t q) = dTap (chan u q) f 1 := Finset.sum_congr rfl fun t _ => by
    show sh1 u (ix3 0 t q) * du u k d (ix3 0 t q) = _
    rw [sh1_apply, hf, mul_comm]
    rfl
  have e0 : ∑ t, mulf (sh0 u) (du u k d) (ix3 0 t q) = dTap (chan u q) f 0 := Finset.sum_congr rfl fun t _ => by
    show sh0 u (ix3 0 t q) * du u k d (ix3 0 t q) = _
    rw [sh0_apply, hf, mul_comm]
    rfl
  rw [e, row2_apply, row1_apply, row0_apply, colSum_apply, colSum_apply, colSum_apply, e0, e1, e2]
  match j with
  | 0 => rw [if_neg (by decide), if_neg (by decide), if_pos rfl, zero_add, zero_add]
  | 1 => rw [if_neg (by decide), if_pos rfl, if_neg (by decide), zero_add, add_zero]
  | 2 => rw [if_pos rfl, if_neg (by decide), if_neg (by decide), add_zero, add_zero]

/-! ## The gradients by the input -/

theorem back2_apply (x : FVec Ideal S1x2048x11264 .f32) (f : ℕ → EReal) (q : Fin 11264) (hx : ∀ (b : Fin 1) (t : Fin 2048), x (ix3 b t q) = f t.val) (b : Fin 1) (n : Fin 2050) (h : 2 ≤ n.val) :
    back2 x (ix3 b n q) = f (n.val - 2) := by
  unfold back2
  pointwise [hx]
  exact dif_pos (by omega)
theorem back1_apply (x : FVec Ideal S1x2048x11264 .f32) (f : ℕ → EReal) (q : Fin 11264) (hx : ∀ (b : Fin 1) (t : Fin 2048), x (ix3 b t q) = f t.val) (hz : ∀ t, 2048 ≤ t → f t = 0) (b : Fin 1) (n : Fin 2050) (h : 2 ≤ n.val) :
    back1 x (ix3 b n q) = f (n.val - 1) := by
  unfold back1
  pointwise [hx]
  split
  · rfl
  · exact (hz _ (by omega)).symm
theorem back0_apply (x : FVec Ideal S1x2048x11264 .f32) (f : ℕ → EReal) (q : Fin 11264) (hx : ∀ (b : Fin 1) (t : Fin 2048), x (ix3 b t q) = f t.val) (hz : ∀ t, 2048 ≤ t → f t = 0) (b : Fin 1) (n : Fin 2050) :
    back0 x (ix3 b n q) = f n.val := by
  unfold back0
  pointwise [hx]
  split
  · rfl
  · exact (hz _ (by omega)).symm
/-- The gradient by the input's column `q`, whatever that column's gradient by the convolution. -/
theorem dx_apply (f : ℕ → EReal) (q : Fin 11264) (hf : ∀ (b : Fin 1) (t : Fin 2048), du u k d (ix3 b t q) = f t.val) (hz : ∀ t, 2048 ≤ t → f t = 0) (t : Fin 2048) :
    dx u k d (ix2 t q) = dIn (taps k q) f t.val := by
  have p2 : ∀ (b : Fin 1) (t : Fin 2048), mulf (du u k d) (tap2 k) (ix3 b t q) = (fun n => taps k q 2 * f n) t.val := fun b t => by
    show du u k d (ix3 b t q) * tap2 k (ix3 b t q) = _
    rw [hf, tap2_apply, mul_comm]
  have p1 : ∀ (b : Fin 1) (t : Fin 2048), mulf (du u k d) (tap1 k) (ix3 b t q) = (fun n => taps k q 1 * f n) t.val := fun b t => by
    show du u k d (ix3 b t q) * tap1 k (ix3 b t q) = _
    rw [hf, tap1_apply, mul_comm]
  have p0 : ∀ (b : Fin 1) (t : Fin 2048), mulf (du u k d) (tap0 k) (ix3 b t q) = (fun n => taps k q 0 * f n) t.val := fun b t => by
    show du u k d (ix3 b t q) * tap0 k (ix3 b t q) = _
    rw [hf, tap0_apply, mul_comm]
  have b2 := back2_apply _ (fun n => taps k q 2 * f n) q p2 0 ⟨t.val + 2, by omega⟩ (by simp)
  have b1 := back1_apply _ (fun n => taps k q 1 * f n) q p1 (fun t h => by rw [hz t h, mul_zero]) 0 ⟨t.val + 2, by omega⟩ (by simp)
  have b0 := back0_apply _ (fun n => taps k q 0 * f n) q p0 (fun t h => by rw [hz t h, mul_zero]) 0 ⟨t.val + 2, by omega⟩
  unfold dx dIn
  generalize back2 (mulf (du u k d) (tap2 k)) = x2 at b2
  generalize back1 (mulf (du u k d) (tap1 k)) = x1 at b1
  generalize back0 (mulf (du u k d) (tap0 k)) = x0 at b0
  have e : ∀ a : Fin 2050, a.val = 2 + t.val → a = ⟨t.val + 2, by omega⟩ := fun a h => Fin.ext (h.trans (Nat.add_comm _ _))
  pointwise
  rw [e ⟨2 + t.val, _⟩ rfl, b2, b1, b0]
  simp only [Nat.add_sub_cancel]
  rfl

/-! ## The four results -/

include hu hk hd in
theorem outG_eq : outG u k d = gradG u k d := by
  funext i
  obtain ⟨t, q, rfl⟩ : ∃ (t : Fin 2048) (q : Fin 5632), i = ix2 t q := ⟨i 0, i 1, eq_ix2 i⟩
  have h1 := dx_apply (duG u k d q) (gcol q) (fun b t => du_gate hu hk hd b t q) (fun t h => GateModel.dGate_ge _ _ _ _ _ h)
  unfold outG gradG
  generalize dx u k d = x1 at h1
  pointwise [h1]
theorem outV_eq : outV u k d = gradV u k d := by
  funext i
  obtain ⟨t, q, rfl⟩ : ∃ (t : Fin 2048) (q : Fin 5632), i = ix2 t q := ⟨i 0, i 1, eq_ix2 i⟩
  have h1 := dx_apply (duV u k d q) (vcol q) (fun b t => du_val b t q) (fun t h => GateModel.dVal_ge _ _ _ h)
  unfold outV gradV
  generalize dx u k d = x1 at h1
  pointwise [h1]
include hu hk hd in
theorem outTG_eq : outTG u k d = gradTG u k d := by
  funext i
  obtain ⟨j, q, rfl⟩ : ∃ (j : Fin 3) (q : Fin 5632), i = ix2 j q := ⟨i 0, i 1, eq_ix2 i⟩
  have h1 := dt_apply (duG u k d q) (gcol q) (fun b t => du_gate hu hk hd b t q)
  unfold outTG gradTG
  generalize dt u k d = x1 at h1
  pointwise [h1]
theorem outTV_eq : outTV u k d = gradTV u k d := by
  funext i
  obtain ⟨j, q, rfl⟩ : ∃ (j : Fin 3) (q : Fin 5632), i = ix2 j q := ⟨i 0, i 1, eq_ix2 i⟩
  have h1 := dt_apply (duV u k d q) (vcol q) (fun b t => du_val b t q)
  unfold outTV gradTV
  generalize dt u k d = x1 at h1
  pointwise [h1]

end Cert.GateRefIdeal.Gate
end
-- ==== Proof.Finite.lean ====
/-
  The precondition: its masks are all true exactly where the entries the kernel reads are real.
-/
module

public import proofs.«01_k».proof.Defs
public import proofs.«01_k».proof.Proof.Model
public import Idealize.ShloMosaic.Lib.Pointwise

@[expose] public section
set_option maxRecDepth 16384
noncomputable section
namespace Cert.Pre_finite
open Idealize.ShloMosaic Cert.AttnModel

/-- The shape relations the precondition's operations take. -/
theorem facts : Facts := ⟨by decide, by decide, by decide, by decide⟩

/-- The f32 word of +∞. -/
theorem ofBits_inf : Ideal.ofBits .f32 0x7F800000#32 = ⊤ := by
  unfold Ideal.ofBits Ideal.ieee
  dsimp only
  rw [if_pos (by decide), if_pos (by decide), if_neg (by decide)]

/-- An extended real whose absolute value is below +∞ is real. -/
theorem isReal_of_abs_lt {x : EReal} (h : Ideal.cmp .olt (max x (-x)) ⊤ = 1#1) : IsReal x := by
  induction x with
  | bot => exact absurd h (by simp [Ideal.cmp])
  | top => exact absurd h (by simp [Ideal.cmp])
  | coe r => exact ⟨r, rfl⟩

variable [Facts] (p : FVec Ideal S2048x2560 .f32) (kv : FVec Ideal S256x1024 .f32) (y : FVec Ideal S2048x2048 .f32)

/-- Where the first mask holds everywhere, the queries are real. -/
theorem real_p (h : (fn p kv y).1 = fun _ => 1#1) (r : Fin 2048) (q : Fin 512) : IsReal (p (ix2 r ⟨2048 + q.val, by omega⟩)) := by
  have e := congrFun h (ix2 r q)
  unfold fn at e
  dsimp only at e
  pointwise [ofBits_inf] at e
  exact isReal_of_abs_lt e

/-- Where the second mask holds everywhere, keys and values are real. -/
theorem real_kv (h : (fn p kv y).2.1 = fun _ => 1#1) (i : S256x1024.Idx) : IsReal (kv i) := by
  have e := congrFun h i
  unfold fn at e
  dsimp only at e
  pointwise [ofBits_inf] at e
  exact isReal_of_abs_lt e

/-- Where the third mask holds everywhere, the cotangent's part is real. -/
theorem real_y (h : (fn p kv y).2.2 = fun _ => 1#1) (r : Fin 2048) (q : Fin 512) : IsReal (y (ix2 r ⟨1536 + q.val, by omega⟩)) := by
  have e := congrFun h (ix2 r q)
  unfold fn at e
  dsimp only at e
  pointwise [ofBits_inf] at e
  exact isReal_of_abs_lt e

end Cert.Pre_finite
end
-- ==== Proof.GateFinite.lean ====
/-
  The precondition of the gate's gradient: its masks are all true exactly where the entries are real.
-/
module

public import proofs.«01_k».proof.Proof.Finite

@[expose] public section
set_option maxRecDepth 16384
noncomputable section
namespace Cert.Pre_finite_gate
open Idealize.ShloMosaic Cert.AttnModel
open Cert.Pre_finite (ofBits_inf isReal_of_abs_lt)

/-- The shape relations the precondition's operations take. -/
theorem facts : Facts := ⟨by decide, by decide, by decide⟩

variable [Facts] (u : FVec Ideal S2048x11264 .f32) (k : FVec Ideal S3x11264 .f32) (d : FVec Ideal S2048x5632 .f32)

theorem real_u (h : (fn u k d).1 = fun _ => 1#1) (i : S2048x11264.Idx) : IsReal (u i) := by
  have e := congrFun h i
  unfold fn at e
  dsimp only at e
  pointwise [ofBits_inf] at e
  exact isReal_of_abs_lt e
theorem real_k (h : (fn u k d).2.1 = fun _ => 1#1) (i : S3x11264.Idx) : IsReal (k i) := by
  have e := congrFun h i
  unfold fn at e
  dsimp only at e
  pointwise [ofBits_inf] at e
  exact isReal_of_abs_lt e
theorem real_d (h : (fn u k d).2.2 = fun _ => 1#1) (i : S2048x5632.Idx) : IsReal (d i) := by
  have e := congrFun h i
  unfold fn at e
  dsimp only at e
  pointwise [ofBits_inf] at e
  exact isReal_of_abs_lt e

end Cert.Pre_finite_gate
end
-- ==== Proof.GateClaims.lean ====
/-
  The claims of the gate's gradient: it and its reference run and keep their arguments, and over the extended reals,
  where the entries are real, both give the four gradients of `GateSpec.lean`.
-/
module

public import proofs.«01_k».proof.Defs
public import proofs.«01_k».proof.Proof.Gen.Gate.Frame
public import proofs.«01_k».proof.Proof.Gen.GateIdeal.Frame
public import proofs.«01_k».proof.Proof.GateArray
public import proofs.«01_k».proof.Proof.GateRef
public import proofs.«01_k».proof.Proof.GateFinite
public import Idealize.ShloMosaic.Adequacy
public import Idealize.ShloMosaic.Init

@[expose] public section
noncomputable section
namespace Cert.GateIdeal.Gate
open Idealize.ShloMosaic Idealize.SL.Sem Cert.AttnModel
open Cert.GateModel (gradG gradV gradTG gradTV)

attribute [local instance] Cert.Pre_finite_gate.facts

theorem frame_printed : Cert.quiescent_Gate := fun m g _ => Cert.Gate.Gen.frame m g
theorem frame_ideal : Cert.quiescent_GateIdeal := fun m g _ => Cert.GateIdeal.Gen.frame m g
theorem frame_reference : Cert.quiescent_GateRefIdeal := fun m g _ =>
  (θ_run Cert.GateRefIdeal.defs _ _).mono
    (fun r h => And.intro (fun c => (h c).2.2.2.2) (sem_eq_zero_of_no_sems (by decide) r.2))
    (Cert.GateRefIdeal.Value.run (F := Ideal) m g)

theorem algebra : Cert.algebraic_GateIdeal_GateRefIdeal_pre_finite_gate := by
  intro m g m' g' hm hargs
  have hu := fun c => Cert.Pre_finite_gate.real_u _ _ _ (hm c).1
  have hk := fun c => Cert.Pre_finite_gate.real_k _ _ _ (hm c).2.1
  have hd := fun c => Cert.Pre_finite_gate.real_d _ _ _ (hm c).2.2
  refine ⟨fun c => gradG (argU m c) (argK m c) (argD m c), fun c => gradV (argU m c) (argK m c) (argD m c),
    fun c => gradTG (argU m c) (argK m c) (argD m c), fun c => gradTV (argU m c) (argK m c) (argD m c), ?_, ?_⟩
  · refine (θ_run Cert.GateIdeal.defs _ _).mono (fun r h c => ?_) (Cert.GateIdeal.Value.run_blocks (F := Ideal) m g)
    obtain ⟨h0, h1, h2, h3, h4⟩ := h c
    exact ⟨h0.trans (array_g m c), h1.trans (array_v m c), h2.trans (array_tg m c), h3.trans (array_tv m c), h4⟩
  · refine (θ_run Cert.GateRefIdeal.defs _ _).mono (fun r h c => ?_) (Cert.GateRefIdeal.Value.run (F := Ideal) m' g')
    obtain ⟨h0, h1, h2, h3, h4⟩ := h c
    obtain ⟨e0, e1, e2⟩ := hargs c
    refine ⟨h0.trans ?_, h1.trans ?_, h2.trans ?_, h3.trans ?_, h4⟩
    · refine (Cert.GateRefIdeal.Gate.res0 m' c).trans ?_
      rw [e0, e1, e2]
      exact Cert.GateRefIdeal.Gate.outG_eq (hu c) (hk c) (hd c)
    · refine (Cert.GateRefIdeal.Gate.res1 m' c).trans ?_
      rw [e0, e1, e2]
      exact Cert.GateRefIdeal.Gate.outV_eq
    · refine (Cert.GateRefIdeal.Gate.res2 m' c).trans ?_
      rw [e0, e1, e2]
      exact Cert.GateRefIdeal.Gate.outTG_eq (hu c) (hk c) (hd c)
    · refine (Cert.GateRefIdeal.Gate.res3 m' c).trans ?_
      rw [e0, e1, e2]
      exact Cert.GateRefIdeal.Gate.outTV_eq

end Cert.GateIdeal.Gate
end
-- ==== Proof.NormModel.lean ====
/-
  The gradient of an RMS norm by one row, over the extended reals: the kernel's formula and the reference's agree, for
  infinite entries too.
-/
module

public import Idealize.ShloMosaic.PureOps.Ideal
public import Idealize.ShloMosaic.PureOps.Ideal.Laws

@[expose] public section
noncomputable section
namespace Cert.NormModel
open Idealize.ShloMosaic

/-- The row's length, the number added to the mean square, and −1/2. -/
abbrev width : EReal := Ideal.ofBits .f32 0x45000000#32
abbrev eps : EReal := Ideal.ofBits .f32 0x358637BD#32
abbrev mhalf : EReal := Ideal.ofBits .f32 0xBF000000#32

theorem width_eq : width = ((2048 : ℝ) : EReal) := by
  unfold width Ideal.ofBits Ideal.ieee
  dsimp only
  rw [if_neg (by decide), if_neg (by decide)]
  refine congrArg Real.toEReal ?_
  rw [if_neg (by decide)]
  norm_num [Nat.shiftRight_eq_div_pow]
theorem mhalf_eq : mhalf = ((-(1 / 2) : ℝ) : EReal) := by
  unfold mhalf Ideal.ofBits Ideal.ieee
  dsimp only
  rw [if_neg (by decide), if_neg (by decide)]
  refine congrArg Real.toEReal ?_
  rw [if_pos (by decide)]
  norm_num [Nat.shiftRight_eq_div_pow]
theorem eps_pos : ∃ e : ℝ, 0 < e ∧ eps = (e : EReal) := by
  unfold eps Ideal.ofBits Ideal.ieee
  dsimp only
  rw [if_neg (by decide), if_neg (by decide)]
  refine ⟨_, ?_, rfl⟩
  rw [if_neg (by decide)]
  positivity

variable {n : ℕ} (x g y : Fin n → EReal)

/-- The row's mean square with `eps` added, and its reciprocal root. -/
def vari : EReal := Ideal.div (∑ j, x j * x j) width + eps
def rstd : EReal := Ideal.rsqrt (vari x)
/-- The gradient by the row. -/
def dRow (j : Fin n) : EReal :=
  rstd x * (y j * g j - x j * rstd x * Ideal.div (∑ i, y i * g i * (x i * rstd x)) width)
/-- The gradient through the mean square, by the row's squares, as the reference writes it. -/
def dSq : EReal := Ideal.div ((∑ i, x i * (y i * g i)) * (mhalf * Ideal.div (rstd x) (vari x))) width

/-- A non-negative real factor goes out of a sum. -/
theorem sum_mul_real {ι : Type*} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (EReal.coe_nonneg.mpr hr) (EReal.coe_ne_top r)]

/-- Twice a product with a real. -/
theorem add_self_mul (s : EReal) (b : ℝ) : s * (b : EReal) + s * (b : EReal) = s * ((2 * b : ℝ) : EReal) := by
  induction s with
  | coe s => norm_cast; ring
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The two formulas with every number but the cotangents real. -/
theorem formulas (a s : EReal) (x r v : ℝ) (hr : 0 ≤ r) (hv : r * r = 1 / v) :
    (r : EReal) * (a - (x : EReal) * (r : EReal) * (s * (r : EReal) * ((1 / 2048 : ℝ) : EReal)))
      = a * (r : EReal) + (x : EReal) * (s * (((-(1 / 2) : ℝ) : EReal) * ((r : EReal) * ((1 / v : ℝ) : EReal))) * ((1 / 2048 : ℝ) : EReal))
        + s * (((-(1 / 2) : ℝ) : EReal) * ((r : EReal) * ((1 / v : ℝ) : EReal))) * ((1 / 2048 : ℝ) : EReal) * (x : EReal) := by
  have e1 : (x : EReal) * (r : EReal) * (s * (r : EReal) * ((1 / 2048 : ℝ) : EReal)) = s * ((x * r * r * (1 / 2048) : ℝ) : EReal) := by
    rw [EReal.coe_mul, EReal.coe_mul, EReal.coe_mul]
    ac_rfl
  have e2 : s * (((-(1 / 2) : ℝ) : EReal) * ((r : EReal) * ((1 / v : ℝ) : EReal))) * ((1 / 2048 : ℝ) : EReal) * (x : EReal)
      = s * ((-(1 / 2) * (r * (1 / v)) * (1 / 2048) * x : ℝ) : EReal) := by
    rw [EReal.coe_mul, EReal.coe_mul, EReal.coe_mul, EReal.coe_mul]
    ac_rfl
  rw [mul_comm (x : EReal) (s * _ * _), e1, e2, add_assoc, add_self_mul, sub_eq_add_neg,
    EReal.left_distrib_of_nonneg_of_ne_top (EReal.coe_nonneg.mpr hr) (EReal.coe_ne_top r), mul_comm a, ← mul_neg, ← EReal.coe_neg,
    mul_left_comm, ← EReal.coe_mul]
  refine congrArg (fun b : ℝ => (r : EReal) * a + s * (b : EReal)) ?_
  rw [← hv]
  ring

/-- The kernel's formula is the reference's. -/
theorem dRow_eq (j : Fin n) : dRow x g y j = y j * g j * rstd x + x j * dSq x g y + dSq x g y * x j := by
  obtain ⟨e, he, hE⟩ := eps_pos
  have hdiv : ∀ z, Ideal.div z width = z * ((1 / 2048 : ℝ) : EReal) := fun z => by rw [width_eq, Ideal.div_coe (by norm_num)]
  by_cases hx : ∀ i, ∃ r : ℝ, x i = (r : EReal)
  · obtain ⟨f, rfl⟩ : ∃ f : Fin n → ℝ, x = fun i => (f i : EReal) := ⟨fun i => (hx i).choose, funext fun i => (hx i).choose_spec⟩
    have hS : 0 ≤ ∑ i, f i * f i := Finset.sum_nonneg fun i _ => mul_self_nonneg _
    have hv : vari (fun i => (f i : EReal)) = (((∑ i, f i * f i) * (1 / 2048) + e : ℝ) : EReal) := by
      unfold vari
      rw [hdiv, hE, EReal.coe_add, EReal.coe_mul]
      refine congrArg (fun z => z * _ + _) ?_
      exact (map_sum (⟨⟨Real.toEReal, EReal.coe_zero⟩, EReal.coe_add⟩ : ℝ →+ EReal) (fun i => f i * f i) Finset.univ).symm
    have hpos : 0 < (∑ i, f i * f i) * (1 / 2048) + e := by positivity
    generalize (∑ i, f i * f i) * (1 / 2048) + e = v at hv hpos
    have hr : rstd (fun i => (f i : EReal)) = (((Real.sqrt v)⁻¹ : ℝ) : EReal) := by
      unfold rstd
      rw [hv, Ideal.rsqrt_coe, if_neg hpos.le.not_gt, if_neg hpos.ne']
    unfold dRow dSq
    rw [hv, hr, hdiv, hdiv, Ideal.div_coe hpos.ne', mhalf_eq]
    have hs : ∑ i, y i * g i * ((f i : EReal) * (((Real.sqrt v)⁻¹ : ℝ) : EReal)) = (∑ i, (f i : EReal) * (y i * g i)) * (((Real.sqrt v)⁻¹ : ℝ) : EReal) := by
      rw [← sum_mul_real _ _ (by positivity)]
      refine Finset.sum_congr rfl fun i _ => ?_
      ac_rfl
    rw [hs]
    refine formulas _ _ _ _ _ (by positivity) ?_
    rw [← mul_inv, Real.mul_self_sqrt hpos.le, one_div]
  · have hnn : ∀ i, 0 ≤ x i * x i := fun i => by
      rcases le_total 0 (x i) with h | h
      · exact EReal.mul_nonneg h h
      · exact by simpa using EReal.mul_nonneg (EReal.neg_nonneg.mpr h) (EReal.neg_nonneg.mpr h)
    have hv : vari x = ⊤ := by
      push Not at hx
      obtain ⟨i, hi⟩ := hx
      have ht : x i * x i = ⊤ := by
        generalize x i = z at hi
        induction z with
        | coe z => exact absurd rfl (hi z)
        | top => rfl
        | bot => rfl
      have hS : ∑ j, x j * x j = ⊤ := top_le_iff.mp (ht ▸ Finset.single_le_sum (f := fun j => x j * x j) (fun j _ => hnn j) (Finset.mem_univ i))
      unfold vari
      rw [hdiv, hS, hE, EReal.top_mul_coe_of_pos (by norm_num)]
      exact EReal.top_add_coe e
    have hr : rstd x = 0 := by
      unfold rstd
      rw [hv]
      rfl
    unfold dRow dSq
    rw [hr, hv, hdiv, hdiv]
    have h0 : Ideal.div 0 ⊤ = 0 := by
      unfold Ideal.div
      rw [if_neg (by decide), zero_mul]
    rw [h0]
    simp

end Cert.NormModel
end
-- ==== Proof.NormSpec.lean ====
/-
  The gradients of an RMS norm by its input, the residual's added, and by its scale.
-/
module

public import proofs.«01_k».proof.Proof.NormModel
public import Idealize.ShloMosaic.Lib.Pointwise

@[expose] public section
noncomputable section
namespace Cert.NormModel
open Idealize.ShloMosaic

variable (x : FVec Ideal ⟨2, ![2048, 2048]⟩ .f32) (g : FVec Ideal ⟨1, ![2048]⟩ .f32) (y res : FVec Ideal ⟨2, ![2048, 2048]⟩ .f32)

/-- Row `t` of an array, and the scales. -/
def row {n : ℕ} (x : FVec Ideal ⟨2, ![n, 2048]⟩ .f32) (t : Fin n) (q : Fin 2048) : EReal := x (ix2 t q)
def scales (q : Fin 2048) : EReal := g (ix1 q)

def gradX : FVec Ideal ⟨2, ![2048, 2048]⟩ .f32 := fun i => dRow (row x (i 0)) (scales g) (row y (i 0)) (i 1) + res i
def gradG : FVec Ideal ⟨2, ![1, 2048]⟩ .f32 := fun i => ∑ t : Fin 2048, row y t (i 1) * (row x t (i 1) * rstd (row x t))

end Cert.NormModel
end
-- ==== Proof.NormBlock.lean ====
/-
  What one grid point of the norm's gradient leaves in its two output blocks.
-/
module

public import proofs.«01_k».proof.Proof.Gen.NormIdeal.Value
public import proofs.«01_k».proof.Proof.NormSpec
public import Idealize.ShloMosaic.Lib.Pipeline.ValueKit
public import Idealize.ShloMosaic.Lib.Pointwise

@[expose] public section
noncomputable section
namespace Cert.NormIdeal.Norm
open Cert.NormIdeal Cert.NormIdeal.Gen Idealize.ShloMosaic Idealize.ShloMosaic.TcCoe Idealize.SL.Sem Cert.NormModel

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole)
    (x0 : Vec Ideal S256x2048 .f32) (x1 : Vec Ideal S1x2048 .f32) (x2 x3 : Vec Ideal S256x2048 .f32) (xo5 : Vec Ideal S1x2048 .f32)

theorem out_A_4 (hc0 : cond0_0 i) : out0_A_4 c i arg1 harg1 arg2 harg2 arg3 harg3 arg4 harg4 arg5 harg5 arg6 harg6 hc0 x0 x1 x2 x3 = k0_pay4 x0 x2 x1 x3 := by
  frame_out
theorem out_B_4 (hc0 : ¬cond0_0 i) : out0_B_4 c i arg1 harg1 arg2 harg2 arg3 harg3 arg4 harg4 arg5 harg5 arg6 harg6 hc0 x0 x1 x2 x3 xo5 = k0_pay4 x0 x2 x1 x3 := by
  frame_out
theorem out_A_5 (hc0 : cond0_0 i) : out0_A_5 c i arg1 harg1 arg2 harg2 arg3 harg3 arg4 harg4 arg5 harg5 arg6 harg6 hc0 x0 x1 x2 x3 = k0_pay1 (k0_pay6 k0_pay5) (k0_pay7 x0 x2) := by
  frame_out
theorem out_B_5 (hc0 : ¬cond0_0 i) : out0_B_5 c i arg1 harg1 arg2 harg2 arg3 harg3 arg4 harg4 arg5 harg5 arg6 harg6 hc0 x0 x1 x2 x3 xo5 = k0_pay1 (k0_pay6 xo5) (k0_pay7 x0 x2) := by
  frame_out
end

variable (x y res : Vec Ideal S256x2048 .f32) (g o : Vec Ideal S1x2048 .f32)

theorem rstd_apply (r : Fin 256) (z : Fin 1) : k0_pay2 (F := Ideal) x (ix2 r z) = rstd (row x r) := by
  unfold k0_pay2 rstd vari row
  pointwise
theorem xhat_apply (r : Fin 256) (q : Fin 2048) : k0_pay3 (F := Ideal) x (ix2 r q) = row x r q * rstd (row x r) := by
  unfold k0_pay3
  have e := rstd_apply x
  generalize k0_pay2 (F := Ideal) x = v at e
  pointwise [e]
  rfl
theorem block_x (r : Fin 256) (q : Fin 2048) : k0_pay4 (F := Ideal) x y g res (ix2 r q) = dRow (row x r) (row g 0) (row y r) q + res (ix2 r q) := by
  unfold k0_pay4 dRow
  have e := rstd_apply x
  have e2 := xhat_apply x
  generalize k0_pay2 (F := Ideal) x = v at e
  generalize k0_pay3 (F := Ideal) x = w at e2
  pointwise [e, e2]
  rfl
theorem block_g (q : Fin 2048) : k0_pay1 (F := Ideal) (k0_pay6 o) (k0_pay7 x y) (ix2 0 q) = o (ix2 0 q) + ∑ r : Fin 256, row y r q * (row x r q * rstd (row x r)) := by
  unfold k0_pay1 k0_pay6 k0_pay7
  have e2 := xhat_apply x
  generalize k0_pay3 (F := Ideal) x = w at e2
  pointwise [e2]
  rfl

end Cert.NormIdeal.Norm
end
-- ==== Proof.NormArray.lean ====
/-
  The two arrays the kernel of the norm's gradient leaves: the gradients of `NormSpec.lean` of its argument arrays.
-/
module

public import proofs.«01_k».proof.Proof.NormBlock

@[expose] public section
set_option maxRecDepth 16384
noncomputable section
namespace Cert.NormIdeal.Norm
open Cert.NormIdeal Cert.NormIdeal.Gen Idealize.ShloMosaic Idealize.ShloMosaic.TcCoe Idealize.SL.Sem Cert.NormModel

/-- The blocks the windows are on at a point. -/
theorem idx_facts : ∀ t : Fin grid0.N,
    win0_0.index t 0 = t.val ∧ win0_0.index t 1 = 0 ∧ win0_1.index t 0 = 0 ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = 0 ∧ win0_5.index t 1 = 0 := by decide +kernel

theorem tlt (t : Fin cfg0.N) : t.val < 8 := t.isLt

variable (m : (ℓ : Loc nD τ sig) → Buf (Elt Ideal) ℓ) (c : Dev nD)

/-- The argument arrays. -/
abbrev argX : FVec Ideal S2048x2048 .f32 := m ((c : Thread nD τ).loc main_arg0)
abbrev argG : FVec Ideal S2048 .f32 := m ((c : Thread nD τ).loc main_arg1)
abbrev argY : FVec Ideal S2048x2048 .f32 := m ((c : Thread nD τ).loc main_arg2)
abbrev argR : FVec Ideal S2048x2048 .f32 := m ((c : Thread nD τ).loc main_arg3)

/-- The scales as the kernel gets them. -/
theorem V_v0 : V m c main_v0 = shapeCast S1x2048 (argG m c) shapeCasts_S2048_S1x2048 := by
  unfold V hostOps0
  after_results_simp <;> rfl

/-- Row `r` of row block `t`. -/
abbrev rowOf (t : Fin cfg0.N) (r : Fin 256) : Fin 2048 := ⟨t.val * 256 + r.val, by have := tlt t; omega⟩

theorem iblk_x (t : Fin cfg0.N) (r : Fin 256) : row (iblk m c 0 t : FVec Ideal S256x2048 .f32) r = row (argX m c) (rowOf t r) := by
  funext q
  unfold row
  blk_ext [iblk, V_main_arg0 m c, idx_facts t]
theorem iblk_y (t : Fin cfg0.N) (r : Fin 256) : row (iblk m c 2 t : FVec Ideal S256x2048 .f32) r = row (argY m c) (rowOf t r) := by
  funext q
  unfold row
  blk_ext [iblk, V_main_arg2 m c, idx_facts t]
theorem iblk_r (t : Fin cfg0.N) (r : Fin 256) (q : Fin 2048) : (iblk m c 3 t : FVec Ideal S256x2048 .f32) (ix2 r q) = argR m c (ix2 (rowOf t r) q) := by
  blk_ext [iblk, V_main_arg3 m c, idx_facts t]
theorem iblk_g (t : Fin cfg0.N) : row (iblk m c 1 t : FVec Ideal S1x2048 .f32) 0 = scales (argG m c) := by
  funext q
  unfold row scales
  refine Eq.trans (b := V m c main_v0 (ix2 0 q)) ?_ ?_
  · blk_ext [iblk, idx_facts t]
  · rw [V_v0]
    pointwise

/-- A point's part of the gradient by the scale. -/
def term (t : Fin cfg0.N) (i : S1x2048.Idx) : EReal :=
  ∑ r : Fin 256, row (argY m c) (rowOf t r) (i 1) * (row (argX m c) (rowOf t r) (i 1) * rstd (row (argX m c) (rowOf t r)))

theorem add_value (t : Fin cfg0.N) (o : FVec Ideal S1x2048 .f32) (i : S1x2048.Idx) :
    k0_pay1 (F := Ideal) (k0_pay6 o) (k0_pay7 (iblk m c 0 t) (iblk m c 2 t)) i = o i + term m c t i := by
  obtain ⟨z, q, rfl⟩ : ∃ (z : Fin 1) (q : Fin 2048), i = ix2 z q := ⟨i 0, i 1, eq_ix2 i⟩
  obtain rfl : z = 0 := Subsingleton.elim _ _
  rw [block_g]
  unfold term
  simp only [iblk_x, iblk_y]
  rfl

/-- After the last point, the gradient by the scale. -/
theorem last (t : Fin cfg0.N) (h : t.val % 8 = 7) (i : S1x2048.Idx) : (outsAt0 m c t.val t.isLt).2 i = gradG (argX m c) (argY m c) i := by
  have e := Pipeline.eq_sum_fin_of_reset_step_apply_of_flush (fun n h => (outsAt0 m c n h).2) 8 (fun _ => (0 : EReal)) (term m c)
    (fun t h j => by rw [outsAt0_A m c t h]; dsimp only; rw [out_A_5, add_value]; pointwise [k0_pay5])
    (fun t h j => by rw [outsAt0_B m c t h]; dsimp only; rw [out_B_5, add_value]) t h i
  have ht := tlt t
  rw [zero_add] at e
  refine e.trans ?_
  unfold gradG
  rw [← Fin.sum_mul_add_fin (L := 2048) 8 256]
  refine Finset.sum_congr rfl fun s _ => Finset.sum_congr rfl fun r _ => ?_
  have hs := s.isLt
  have e3 : rowOf ⟨8 * (t.val / 8) + s.val, by omega⟩ r = (⟨s.val * 256 + r.val, by omega⟩ : Fin 2048) := Fin.ext (by dsimp only; omega)
  rw [e3]

/-- The array of the gradient by the input. -/
theorem array_x : (dats m 0 c).arrAt 4 cfg0.N = gradX (argX m c) (argG m c) (argY m c) (argR m c) := by
  refine (dats m 0 c).arrAt_eq_of_covers 4 _ (by decide +kernel) fun t hf y => ?_
  blk_simp [idx_facts t]
  rw [after0_4]
  have e : (outsAt0 m c t.val t.isLt).1 = k0_pay4 (iblk m c 0 t) (iblk m c 2 t) (iblk m c 1 t) (iblk m c 3 t) := by
    by_cases h : t.val % 8 = 0
    · rw [outsAt0_A m c t h]; dsimp only; rw [out_A_4]
    · rw [outsAt0_B m c t h]; dsimp only; rw [out_B_4]
  rw [e]
  obtain ⟨r, q, rfl⟩ : ∃ (r : Fin 256) (q : Fin 2048), y = ix2 r q := ⟨y 0, y 1, eq_ix2 y⟩
  rw [block_x, iblk_x, iblk_y, iblk_g, iblk_r]
  refine Eq.trans (b := gradX (argX m c) (argG m c) (argY m c) (argR m c) (ix2 (rowOf t r) q)) rfl ?_
  blk_ext [idx_facts t]

/-- The array of the gradient by the scale. -/
theorem array_g : (dats m 0 c).arrAt 5 cfg0.N = gradG (argX m c) (argY m c) := by
  refine (dats m 0 c).arrAt_eq_of_covers 5 _ (by decide +kernel) fun t hf y => ?_
  have h := (flush0_5 t).mp hf
  blk_simp [idx_facts t]
  rw [after0_5, last m c t (by omega)]
  obtain ⟨z, q, rfl⟩ : ∃ (z : Fin 1) (q : Fin 2048), y = ix2 z q := ⟨y 0, y 1, eq_ix2 y⟩
  blk_ext [idx_facts t]

end Cert.NormIdeal.Norm
end
-- ==== Proof.NormRef.lean ====
/-
  What the norm's reference computes, read at an index: the gradients of `NormSpec.lean` of its argument arrays.
-/
module

public import proofs.«01_k».proof.Proof.Gen.NormRefIdeal.Run
public import proofs.«01_k».proof.Proof.NormSpec
public import Idealize.ShloMosaic.Lib.IdealHost

@[expose] public section
set_option maxRecDepth 16384
noncomputable section
namespace Cert.NormRefIdeal.Norm
open Cert.NormRefIdeal Cert.NormRefIdeal.Gen Idealize.ShloMosaic Idealize.ShloMosaic.TcCoe Idealize.SL.Sem Cert.NormModel

variable (x : FVec Ideal S2048x2048 .f32) (g : FVec Ideal S2048 .f32) (y res : FVec Ideal S2048x2048 .f32)

/-- A number in every row. -/
def const (w : BitVec 32) : FVec Ideal S2048x1 .f32 := broadcastInDim S2048x1 ![] bcast_S_S2048x1 (constant S_ .f32 w)
/-- A column, copied to every column. -/
def wide (v : FVec Ideal S2048x1 .f32) : FVec Ideal S2048x2048 .f32 := broadcastInDim S2048x2048 ![0, 1] bcast_S2048x1_S2048x2048_0_1 v
/-- The sums of the rows. -/
def sums (v : FVec Ideal S2048x2048 .f32) : FVec Ideal S2048 .f32 := Host.reduceAdd v (constant S_ .f32 0x00000000#32) reducesTo_S2048x2048_S2048_d1 h_S_

/-- Each row's mean square with the small number added, its reciprocal root, the derivative of that. -/
def vr : FVec Ideal S2048x1 .f32 := addf (Host.divf (broadcastInDim S2048x1 ![0] bcast_S2048_S2048x1_0 (sums (mulf x x))) (const 0x45000000#32)) (const 0x358637BD#32)
def rs : FVec Ideal S2048x1 .f32 := Host.rsqrt (vr x)
def drs : FVec Ideal S2048x1 .f32 := mulf (const 0xBF000000#32) (Host.divf (rs x) (vr x))
/-- The cotangent by the scaled input. -/
def yg : FVec Ideal S2048x2048 .f32 := mulf y (broadcastInDim S2048x2048 ![0, 1] bcast_S1x2048_S2048x2048_0_1 (broadcastInDim S1x2048 ![1] bcast_S2048_S1x2048_1 g))
/-- The gradient by each row's squares. -/
def sq : FVec Ideal S2048x2048 .f32 :=
  broadcastInDim S2048x2048 ![0] bcast_S2048_S2048x2048_0 (Host.reduceAdd
    (Host.divf (mulf (shapeCast _ (sums (mulf x (yg g y))) shapeCasts_S2048_S2048x1) (drs x)) (const 0x45000000#32))
    (constant S_ .f32 0x00000000#32) reducesTo_S2048x1_S2048_d1 h_S_)
/-- The gradient by the input, alone and with the residual's added. -/
def grad : FVec Ideal S2048x2048 .f32 :=
  addf (addf (mulf (yg g y) (wide (rs x))) (mulf x (sq x g y))) (mulf (sq x g y) x)
def outX : FVec Ideal S2048x2048 .f32 := addf (grad x g y) res
def outG : FVec Ideal S1x2048 .f32 :=
  broadcastInDim S1x2048 ![1] bcast_S2048_S1x2048_1 (Host.reduceAdd
    (shapeCast _ (Host.reduceAdd (mulf (mulf x (wide (rs x))) y) (constant S_ .f32 0x00000000#32) reducesTo_S2048x2048_S2048_d0 h_S_) shapeCasts_S2048_S1x2048)
    (constant S_ .f32 0x00000000#32) reducesTo_S1x2048_S2048_d0 h_S_)

theorem sums_apply (v : FVec Ideal S2048x2048 .f32) (t : Fin 2048) : sums v (ix1 t) = ∑ q, v (ix2 t q) := by
  unfold sums
  pointwise
theorem vr_apply (t : Fin 2048) (z : Fin 1) : vr x (ix2 t z) = vari (row x t) := by
  have e := sums_apply (mulf x x)
  unfold vr const vari row
  generalize sums (mulf x x) = s at e
  pointwise [e]
theorem rs_apply (t : Fin 2048) (z : Fin 1) : rs x (ix2 t z) = rstd (row x t) := by
  unfold rs rstd
  pointwise [vr_apply]
theorem drs_apply (t : Fin 2048) (z : Fin 1) : drs x (ix2 t z) = mhalf * Ideal.div (rstd (row x t)) (vari (row x t)) := by
  unfold drs const
  pointwise [vr_apply, rs_apply]
theorem yg_apply (t q : Fin 2048) : yg g y (ix2 t q) = row y t q * scales g q := by
  unfold yg
  pointwise
  rfl
theorem sq_apply (t q : Fin 2048) : sq x g y (ix2 t q) = dSq (row x t) (scales g) (row y t) := by
  have e := sums_apply (mulf x (yg g y))
  have e2 := drs_apply x
  have e3 := yg_apply g y
  unfold sq const dSq
  generalize sums (mulf x (yg g y)) = s at e
  generalize drs x = d at e2
  generalize yg g y = w at e e3
  pointwise [e, e2, e3]
  exact Fin.sum_univ_one _
theorem grad_apply (t q : Fin 2048) : grad x g y (ix2 t q) = dRow (row x t) (scales g) (row y t) q := by
  rw [dRow_eq]
  unfold grad wide
  pointwise [sq_apply, yg_apply, rs_apply]
  rfl
theorem outX_eq : outX x g y res = gradX x g y res := by
  funext i
  obtain ⟨t, q, rfl⟩ : ∃ (t : Fin 2048) (q : Fin 2048), i = ix2 t q := ⟨i 0, i 1, eq_ix2 i⟩
  have e : gradX x g y res (ix2 t q) = dRow (row x t) (scales g) (row y t) q + res (ix2 t q) := rfl
  rw [e, ← grad_apply]
  rfl
theorem outG_eq : outG x y = gradG x y := by
  funext i
  obtain ⟨z, q, rfl⟩ : ∃ (z : Fin 1) (q : Fin 2048), i = ix2 z q := ⟨i 0, i 1, eq_ix2 i⟩
  unfold outG wide gradG
  pointwise [rs_apply]
  refine (Fin.sum_univ_one _).trans ?_
  refine Finset.sum_congr (M := EReal) rfl fun t _ => ?_
  exact mul_comm _ _

end Cert.NormRefIdeal.Norm
end
-- ==== Proof.NormClaims.lean ====
/-
  The claims of the norm's gradient: it and its reference run and keep their arguments, and over the extended reals
  both give the two gradients of `NormSpec.lean`.
-/
module

public import proofs.«01_k».proof.Defs
public import proofs.«01_k».proof.Proof.Gen.Norm.Frame
public import proofs.«01_k».proof.Proof.Gen.NormIdeal.Frame
public import proofs.«01_k».proof.Proof.NormArray
public import proofs.«01_k».proof.Proof.NormRef
public import Idealize.ShloMosaic.Adequacy
public import Idealize.ShloMosaic.Init

@[expose] public section
noncomputable section
namespace Cert.NormIdeal.Norm
open Idealize.ShloMosaic Idealize.SL.Sem
open Cert.NormModel (gradX gradG)

theorem frame_printed : Cert.quiescent_Norm := fun m g _ => Cert.Norm.Gen.frame m g
theorem frame_ideal : Cert.quiescent_NormIdeal := fun m g _ => Cert.NormIdeal.Gen.frame m g
theorem frame_reference : Cert.quiescent_NormRefIdeal := fun m g _ =>
  (θ_run Cert.NormRefIdeal.defs _ _).mono
    (fun r h => And.intro (fun c => (h c).2.2) (sem_eq_zero_of_no_sems (by decide) r.2))
    (Cert.NormRefIdeal.Value.run (F := Ideal) m g)

theorem algebra : Cert.algebraic_NormIdeal_NormRefIdeal := by
  intro m g m' g' _ hargs
  refine ⟨fun c => gradX (argX m c) (argG m c) (argY m c) (argR m c), fun c => gradG (argX m c) (argY m c), ?_, ?_⟩
  · refine (θ_run Cert.NormIdeal.defs _ _).mono (fun r h c => ?_) (Cert.NormIdeal.Value.run_blocks (F := Ideal) m g)
    obtain ⟨h0, h1, h2⟩ := h c
    exact ⟨h0.trans (array_x m c), h1.trans (array_g m c), h2⟩
  · refine (θ_run Cert.NormRefIdeal.defs _ _).mono (fun r h c => ?_) (Cert.NormRefIdeal.Value.run (F := Ideal) m' g')
    obtain ⟨h0, h1, h2⟩ := h c
    obtain ⟨e0, e1, e2, e3⟩ := hargs c
    refine ⟨h0.trans ?_, h1.trans ?_, h2⟩
    · rw [e0, e1, e2, e3]
      exact Cert.NormRefIdeal.Norm.outX_eq _ _ _ _
    · rw [e0, e2]
      exact Cert.NormRefIdeal.Norm.outG_eq _ _

end Cert.NormIdeal.Norm
end
-- ==== Proof.InSwa.lean ====
/-
  The input projection of the sliding-window layers: the array the call leaves is the input times the weight.
-/
module

public import proofs.«01_k».proof.Defs
public import proofs.«01_k».proof.Proof.Gen.InSwaIdeal.Value
public import proofs.«01_k».proof.Proof.Gen.InSwaRefIdeal.Run
public import proofs.«01_k».proof.Proof.Gen.InSwa.Frame
public import proofs.«01_k».proof.Proof.Product

@[expose] public section
set_option maxRecDepth 16384
noncomputable section
namespace Cert.InSwaIdeal.Block
open Cert.InSwaIdeal Cert.InSwaIdeal.Gen Idealize.ShloMosaic Idealize.ShloMosaic.TcCoe Idealize.SL.Sem Cert.Product

/-- The blocks the windows are on at a point. -/
theorem idx_facts : ∀ t : Fin grid0.N,
    win0_0.index t 0 = t.val / 5 ∧ win0_0.index t 1 = 0 ∧ win0_1.index t 0 = 0 ∧ win0_1.index t 1 = t.val % 5 ∧
    win0_2.index t 0 = t.val / 5 ∧ win0_2.index t 1 = t.val % 5 := by decide +kernel

theorem tlt (t : Fin cfg0.N) : t.val < 10 := t.isLt

/-- One block of the result, from one row block and one column block. -/
theorem out_apply (a : Vec Ideal S1024x2048 .bf16) (b : Vec Ideal S2048x512 .bf16) (r : Fin 1024) (q : Fin 512) :
    out0_2 a b (ix2 r q) = ∑ k : Fin 2048, (a (ix2 r k) : EReal) * b (ix2 k q) := by
  have e : out0_2 a b = (matmul (F := Ideal) (φ₁ := .bf16) (φ₂ := .bf16) dot_S1024x2048_S2048x512_S1024x512_1_0_0_1_n_n none a b (constant S1024x512 .f32 0x00000000#32) : FVec Ideal S1024x512 .f32) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argW : FVec Ideal S2048x2560 .bf16 := m ((c : Thread nD τ).loc main_arg1)

theorem blockX (t : Fin cfg0.N) (r : Fin 1024) (k : Fin 2048) :
    iblk m c 0 t (ix2 r k) = argX m c (ix2 ⟨t.val / 5 * 1024 + r.val, by have := tlt t; omega⟩ k) := by
  blk_ext [iblk, V, idx_facts t]
theorem blockW (t : Fin cfg0.N) (k : Fin 2048) (q : Fin 512) :
    iblk m c 1 t (ix2 k q) = argW m c (ix2 k ⟨t.val % 5 * 512 + q.val, by omega⟩) := by
  blk_ext [iblk, V, idx_facts t]

/-- The array the call leaves. -/
theorem array : (dats m 0 c).arrAt 2 cfg0.N = forward .f32 (argX m c) (argW m c) := by
  refine (dats m 0 c).arrAt_eq_of_covers 2 _ (by decide +kernel) fun t hf y => ?_
  blk_simp [idx_facts t]
  rw [after0_2]
  obtain ⟨r, q, rfl⟩ : ∃ (r : Fin 1024) (q : Fin 512), y = ix2 r q := ⟨y 0, y 1, eq_ix2 y⟩
  rw [out_apply]
  simp only [blockX, blockW]
  refine (forward_apply (φ₃ := .f32) (argX m c) (argW m c) _ _).symm.trans ?_
  blk_ext [idx_facts t]

/-- The call and the plain product give the same array. -/
theorem algebra : Cert.algebraic_InSwaIdeal_InSwaRefIdeal := by
  intro m g m' g' _ hargs
  refine ⟨fun c => forward .f32 (argX m c) (argW m c), ?_, ?_⟩
  · exact (θ_run defs _ _).mono (fun r h c => ⟨(h c).1.trans (array m c), (h c).2⟩) (InSwaIdeal.Value.run_blocks m g)
  · refine (θ_run InSwaRefIdeal.defs _ _).mono (fun r h c => ⟨(h c).1.trans ?_, (h c).2⟩) (InSwaRefIdeal.Value.run m' g')
    obtain ⟨e0, e1⟩ := hargs c
    rw [e0, e1]
    show _ = forward .f32 (argX m c) (argW m c)
    dsimp only [argX, argW]
    generalize m (c.tc.loc main_arg0) = x
    generalize m (c.tc.loc main_arg1) = w
    funext i
    obtain ⟨r, q, rfl⟩ : ∃ (r : Fin 2048) (q : Fin 2560), i = ix2 r q := ⟨i 0, i 1, eq_ix2 i⟩
    refine Eq.trans ?_ (forward_apply (φ₃ := .f32) x w r q).symm
    pointwise

theorem frame_printed : Cert.quiescent_InSwa := fun m g _ => Cert.InSwa.Gen.frame m g

theorem frame_ideal : Cert.quiescent_InSwaIdeal := fun m g _ => Cert.InSwaIdeal.Gen.frame m g

theorem frame_reference : Cert.quiescent_InSwaRefIdeal := fun m g _ =>
  (θ_run InSwaRefIdeal.defs _ _).mono (fun r h => And.intro (fun c => (h c).2) (sem_eq_zero_of_no_sems (by decide) r.2))
    (InSwaRefIdeal.Value.run m g)

end Cert.InSwaIdeal.Block
end
-- ==== Proof.DInSwa.lean ====
/-
  The gradient of the input projection of the sliding-window layers by its input: the array the call leaves is the
  cotangent times the transposed weight.
-/
module

public import proofs.«01_k».proof.Defs
public import proofs.«01_k».proof.Proof.Gen.DInSwaIdeal.Value
public import proofs.«01_k».proof.Proof.Gen.DInSwaRefIdeal.Run
public import proofs.«01_k».proof.Proof.Gen.DInSwa.Frame
public import proofs.«01_k».proof.Proof.Product

@[expose] public section
set_option maxRecDepth 16384
noncomputable section
namespace Cert.DInSwaIdeal.Block
open Cert.DInSwaIdeal Cert.DInSwaIdeal.Gen Idealize.ShloMosaic Idealize.ShloMosaic.TcCoe Idealize.SL.Sem Cert.Product

/-- The blocks the windows are on at a point. -/
theorem idx_facts : ∀ t : Fin grid0.N,
    win0_0.index t 0 = t.val / 2 ∧ win0_0.index t 1 = 0 ∧ win0_1.index t 0 = t.val % 2 ∧ win0_1.index t 1 = 0 ∧
    win0_2.index t 0 = t.val / 2 ∧ win0_2.index t 1 = t.val % 2 := by decide +kernel

theorem tlt (t : Fin cfg0.N) : t.val < 4 := t.isLt

/-- One block of the result, from one row block of each argument. -/
theorem out_apply (a : Vec Ideal S1024x2560 .bf16) (b : Vec Ideal S1024x2560 .bf16) (r : Fin 1024) (q : Fin 1024) :
    out0_2 a b (ix2 r q) = ∑ k : Fin 2560, (a (ix2 r k) : EReal) * b (ix2 q k) := by
  have e : out0_2 a b = (matmul (F := Ideal) (φ₁ := .bf16) (φ₂ := .bf16) dot_S1024x2560_S1024x2560_S1024x1024_1_1_0_0_n_n none a b (constant S1024x1024 .f32 0x00000000#32) : FVec Ideal S1024x1024 .f32) := by
    frame_out
    rfl
  rw [e]
  pointwise

variable (m : (ℓ : Loc nD τ sig) → Buf (Elt Ideal) ℓ) (c : Dev nD)

abbrev argX : FVec Ideal S2048x2560 .bf16 := m ((c : Thread nD τ).loc main_arg0)
abbrev argW : FVec Ideal S2048x2560 .bf16 := m ((c : Thread nD τ).loc main_arg1)

theorem blockX (t : Fin cfg0.N) (r : Fin 1024) (k : Fin 2560) :
    iblk m c 0 t (ix2 r k) = argX m c (ix2 ⟨t.val / 2 * 1024 + r.val, by have := tlt t; omega⟩ k) := by
  blk_ext [iblk, V, idx_facts t]
theorem blockW (t : Fin cfg0.N) (q : Fin 1024) (k : Fin 2560) :
    iblk m c 1 t (ix2 q k) = argW m c (ix2 ⟨t.val % 2 * 1024 + q.val, by omega⟩ k) := by
  blk_ext [iblk, V, idx_facts t]

/-- The array the call leaves. -/
theorem array : (dats m 0 c).arrAt 2 cfg0.N = byInput .f32 (argX m c) (argW m c) := by
  refine (dats m 0 c).arrAt_eq_of_covers 2 _ (by decide +kernel) fun t hf y => ?_
  blk_simp [idx_facts t]
  rw [after0_2]
  obtain ⟨r, q, rfl⟩ : ∃ (r : Fin 1024) (q : Fin 1024), y = ix2 r q := ⟨y 0, y 1, eq_ix2 y⟩
  rw [out_apply]
  simp only [blockX, blockW]
  refine (byInput_apply (φ₃ := .f32) (argX m c) (argW m c) _ _).symm.trans ?_
  blk_ext [idx_facts t]

/-- The call and the derivative of the product give the same array. -/
theorem algebra : Cert.algebraic_DInSwaIdeal_DInSwaRefIdeal := by
  intro m g m' g' _ hargs
  refine ⟨fun c => byInput .f32 (argX m c) (argW m c), ?_, ?_⟩
  · exact (θ_run defs _ _).mono (fun r h c => ⟨(h c).1.trans (array m c), (h c).2⟩) (DInSwaIdeal.Value.run_blocks m g)
  · refine (θ_run DInSwaRefIdeal.defs _ _).mono (fun r h c => ⟨(h c).1.trans ?_, (h c).2⟩) (DInSwaRefIdeal.Value.run m' g')
    obtain ⟨e0, e1⟩ := hargs c
    rw [e0, e1]
    show _ = byInput .f32 (argX m c) (argW m c)
    dsimp only [argX, argW]
    generalize m (c.tc.loc main_arg0) = ct
    generalize m (c.tc.loc main_arg1) = w
    funext i
    obtain ⟨r, q, rfl⟩ : ∃ (r : Fin 2048) (q : Fin 2048), i = ix2 r q := ⟨i 0, i 1, eq_ix2 i⟩
    refine Eq.trans ?_ (byInput_apply (φ₃ := .f32) ct w r q).symm
    pointwise

theorem frame_printed : Cert.quiescent_DInSwa := fun m g _ => Cert.DInSwa.Gen.frame m g

theorem frame_ideal : Cert.quiescent_DInSwaIdeal := fun m g _ => Cert.DInSwaIdeal.Gen.frame m g

theorem frame_reference : Cert.quiescent_DInSwaRefIdeal := fun m g _ =>
  (θ_run DInSwaRefIdeal.defs _ _).mono (fun r h => And.intro (fun c => (h c).2) (sem_eq_zero_of_no_sems (by decide) r.2))
    (DInSwaRefIdeal.Value.run m g)

end Cert.DInSwaIdeal.Block
end
-- ==== Proof.DwInSwa.lean ====
/-
  The gradient of the input projection of the sliding-window layers by its weight: the array the call leaves is the
  transposed input times the cotangent.
-/
module

public import proofs.«01_k».proof.Defs
public import proofs.«01_k».proof.Proof.Gen.DwInSwaIdeal.Value
public import proofs.«01_k».proof.Proof.Gen.DwInSwaRefIdeal.Run
public import proofs.«01_k».proof.Proof.Gen.DwInSwa.Frame
public import proofs.«01_k».proof.Proof.Product

@[expose] public section
set_option maxRecDepth 16384
noncomputable section
namespace Cert.DwInSwaIdeal.Block
open Cert.DwInSwaIdeal Cert.DwInSwaIdeal.Gen Idealize.ShloMosaic Idealize.ShloMosaic.TcCoe Idealize.SL.Sem Cert.Product

/-- The blocks the windows are on at a point. -/
theorem idx_facts : ∀ t : Fin grid0.N,
    win0_0.index t 0 = 0 ∧ win0_0.index t 1 = t.val / 5 ∧ win0_1.index t 0 = 0 ∧ win0_1.index t 1 = t.val % 5 ∧
    win0_2.index t 0 = t.val / 5 ∧ win0_2.index t 1 = t.val % 5 := by decide +kernel

theorem tlt (t : Fin cfg0.N) : t.val < 10 := t.isLt

/-- One block of the result, from one column block of each argument. -/
theorem out_apply (a : Vec Ideal S2048x1024 .bf16) (b : Vec Ideal S2048x512 .bf16) (r : Fin 1024) (q : Fin 512) :
    out0_2 a b (ix2 r q) = ∑ s : Fin 2048, (a (ix2 s r) : EReal) * b (ix2 s q) := by
  have e : out0_2 a b = (truncf (F := Ideal) (φ := .f32) .bf16 (matmul (F := Ideal) (φ₁ := .bf16) (φ₂ := .bf16) dot_S2048x1024_S2048x512_S1024x512_0_0_1_1_n_n none a b (constant S1024x512 .f32 0x00000000#32)) bitsLt_bf16_f32 : FVec Ideal S1024x512 .bf16) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argC : FVec Ideal S2048x2560 .bf16 := m ((c : Thread nD τ).loc main_arg1)

theorem blockX (t : Fin cfg0.N) (s : Fin 2048) (r : Fin 1024) :
    iblk m c 0 t (ix2 s r) = argX m c (ix2 s ⟨t.val / 5 * 1024 + r.val, by have := tlt t; omega⟩) := by
  blk_ext [iblk, V, idx_facts t]
theorem blockC (t : Fin cfg0.N) (s : Fin 2048) (q : Fin 512) :
    iblk m c 1 t (ix2 s q) = argC m c (ix2 s ⟨t.val % 5 * 512 + q.val, by omega⟩) := by
  blk_ext [iblk, V, idx_facts t]

/-- The array the call leaves. -/
theorem array : (dats m 0 c).arrAt 2 cfg0.N = byWeight .bf16 (argX m c) (argC m c) := by
  refine (dats m 0 c).arrAt_eq_of_covers 2 _ (by decide +kernel) fun t hf y => ?_
  blk_simp [idx_facts t]
  rw [after0_2]
  obtain ⟨r, q, rfl⟩ : ∃ (r : Fin 1024) (q : Fin 512), y = ix2 r q := ⟨y 0, y 1, eq_ix2 y⟩
  rw [out_apply]
  simp only [blockX, blockC]
  refine (byWeight_apply (φ₃ := .bf16) (argX m c) (argC m c) _ _).symm.trans ?_
  blk_ext [idx_facts t]

/-- The call and the derivative of the product give the same array. -/
theorem algebra : Cert.algebraic_DwInSwaIdeal_DwInSwaRefIdeal := by
  intro m g m' g' _ hargs
  refine ⟨fun c => byWeight .bf16 (argX m c) (argC m c), ?_, ?_⟩
  · exact (θ_run defs _ _).mono (fun r h c => ⟨(h c).1.trans (array m c), (h c).2⟩) (DwInSwaIdeal.Value.run_blocks m g)
  · refine (θ_run DwInSwaRefIdeal.defs _ _).mono (fun r h c => ⟨(h c).1.trans ?_, (h c).2⟩) (DwInSwaRefIdeal.Value.run m' g')
    obtain ⟨e0, e1⟩ := hargs c
    rw [e0, e1]
    show _ = byWeight .bf16 (argX m c) (argC m c)
    dsimp only [argX, argC]
    generalize m (c.tc.loc main_arg0) = x
    generalize m (c.tc.loc main_arg1) = ct
    funext i
    obtain ⟨r, q, rfl⟩ : ∃ (r : Fin 2048) (q : Fin 2560), i = ix2 r q := ⟨i 0, i 1, eq_ix2 i⟩
    refine Eq.trans ?_ (byWeight_apply (φ₃ := .bf16) x ct r q).symm
    pointwise
    exact Finset.sum_congr rfl fun s _ => mul_comm _ _

theorem frame_printed : Cert.quiescent_DwInSwa := fun m g _ => Cert.DwInSwa.Gen.frame m g

theorem frame_ideal : Cert.quiescent_DwInSwaIdeal := fun m g _ => Cert.DwInSwaIdeal.Gen.frame m g

theorem frame_reference : Cert.quiescent_DwInSwaRefIdeal := fun m g _ =>
  (θ_run DwInSwaRefIdeal.defs _ _).mono (fun r h => And.intro (fun c => (h c).2) (sem_eq_zero_of_no_sems (by decide) r.2))
    (DwInSwaRefIdeal.Value.run m g)

end Cert.DwInSwaIdeal.Block
end
-- ==== Proof.InRwkv.lean ====
/-
  The input projection of the RWKV-7 layer: the array the call leaves is the input times the weight.
-/
module

public import proofs.«01_k».proof.Defs
public import proofs.«01_k».proof.Proof.Gen.InRwkvIdeal.Value
public import proofs.«01_k».proof.Proof.Gen.InRwkvRefIdeal.Run
public import proofs.«01_k».proof.Proof.Gen.InRwkv.Frame
public import proofs.«01_k».proof.Proof.Product

@[expose] public section
set_option maxRecDepth 16384
noncomputable section
namespace Cert.InRwkvIdeal.Block
open Cert.InRwkvIdeal Cert.InRwkvIdeal.Gen Idealize.ShloMosaic Idealize.ShloMosaic.TcCoe Idealize.SL.Sem Cert.Product

/-- The blocks the windows are on at a point. -/
theorem idx_facts : ∀ t : Fin grid0.N,
    win0_0.index t 0 = t.val / 11 ∧ win0_0.index t 1 = 0 ∧ win0_1.index t 0 = 0 ∧ win0_1.index t 1 = t.val % 11 ∧
    win0_2.index t 0 = t.val / 11 ∧ win0_2.index t 1 = t.val % 11 := by decide +kernel

theorem tlt (t : Fin cfg0.N) : t.val < 22 := t.isLt

/-- One block of the result, from one row block and one column block. -/
theorem out_apply (a : Vec Ideal S1024x2048 .bf16) (b : Vec Ideal S2048x512 .bf16) (r : Fin 1024) (q : Fin 512) :
    out0_2 a b (ix2 r q) = ∑ k : Fin 2048, (a (ix2 r k) : EReal) * b (ix2 k q) := by
  have e : out0_2 a b = (matmul (F := Ideal) (φ₁ := .bf16) (φ₂ := .bf16) dot_S1024x2048_S2048x512_S1024x512_1_0_0_1_n_n none a b (constant S1024x512 .f32 0x00000000#32) : FVec Ideal S1024x512 .f32) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argW : FVec Ideal S2048x5632 .bf16 := m ((c : Thread nD τ).loc main_arg1)

theorem blockX (t : Fin cfg0.N) (r : Fin 1024) (k : Fin 2048) :
    iblk m c 0 t (ix2 r k) = argX m c (ix2 ⟨t.val / 11 * 1024 + r.val, by have := tlt t; omega⟩ k) := by
  blk_ext [iblk, V, idx_facts t]
theorem blockW (t : Fin cfg0.N) (k : Fin 2048) (q : Fin 512) :
    iblk m c 1 t (ix2 k q) = argW m c (ix2 k ⟨t.val % 11 * 512 + q.val, by omega⟩) := by
  blk_ext [iblk, V, idx_facts t]

/-- The array the call leaves. -/
theorem array : (dats m 0 c).arrAt 2 cfg0.N = forward .f32 (argX m c) (argW m c) := by
  refine (dats m 0 c).arrAt_eq_of_covers 2 _ (by decide +kernel) fun t hf y => ?_
  blk_simp [idx_facts t]
  rw [after0_2]
  obtain ⟨r, q, rfl⟩ : ∃ (r : Fin 1024) (q : Fin 512), y = ix2 r q := ⟨y 0, y 1, eq_ix2 y⟩
  rw [out_apply]
  simp only [blockX, blockW]
  refine (forward_apply (φ₃ := .f32) (argX m c) (argW m c) _ _).symm.trans ?_
  blk_ext [idx_facts t]

/-- The call and the plain product give the same array. -/
theorem algebra : Cert.algebraic_InRwkvIdeal_InRwkvRefIdeal := by
  intro m g m' g' _ hargs
  refine ⟨fun c => forward .f32 (argX m c) (argW m c), ?_, ?_⟩
  · exact (θ_run defs _ _).mono (fun r h c => ⟨(h c).1.trans (array m c), (h c).2⟩) (InRwkvIdeal.Value.run_blocks m g)
  · refine (θ_run InRwkvRefIdeal.defs _ _).mono (fun r h c => ⟨(h c).1.trans ?_, (h c).2⟩) (InRwkvRefIdeal.Value.run m' g')
    obtain ⟨e0, e1⟩ := hargs c
    rw [e0, e1]
    show _ = forward .f32 (argX m c) (argW m c)
    dsimp only [argX, argW]
    generalize m (c.tc.loc main_arg0) = x
    generalize m (c.tc.loc main_arg1) = w
    funext i
    obtain ⟨r, q, rfl⟩ : ∃ (r : Fin 2048) (q : Fin 5632), i = ix2 r q := ⟨i 0, i 1, eq_ix2 i⟩
    refine Eq.trans ?_ (forward_apply (φ₃ := .f32) x w r q).symm
    pointwise

theorem frame_printed : Cert.quiescent_InRwkv := fun m g _ => Cert.InRwkv.Gen.frame m g

theorem frame_ideal : Cert.quiescent_InRwkvIdeal := fun m g _ => Cert.InRwkvIdeal.Gen.frame m g

theorem frame_reference : Cert.quiescent_InRwkvRefIdeal := fun m g _ =>
  (θ_run InRwkvRefIdeal.defs _ _).mono (fun r h => And.intro (fun c => (h c).2) (sem_eq_zero_of_no_sems (by decide) r.2))
    (InRwkvRefIdeal.Value.run m g)

end Cert.InRwkvIdeal.Block
end
-- ==== Proof.DInRwkv.lean ====
/-
  The gradient of the input projection of the RWKV-7 layer by its input: of two grid points the first
  leaves its half of the shared axis in the accumulator, the second adds its own and writes the block.
-/
module

public import proofs.«01_k».proof.Defs
public import proofs.«01_k».proof.Proof.Gen.DInRwkvIdeal.Value
public import proofs.«01_k».proof.Proof.Gen.DInRwkvRefIdeal.Run
public import proofs.«01_k».proof.Proof.Gen.DInRwkv.Frame
public import proofs.«01_k».proof.Proof.Product

@[expose] public section
set_option maxRecDepth 16384
noncomputable section
namespace Cert.DInRwkvIdeal.Block
open Cert.DInRwkvIdeal Cert.DInRwkvIdeal.Gen Idealize.ShloMosaic Idealize.ShloMosaic.TcCoe Idealize.SL.Sem Cert.Product

/-- The blocks the windows are on at a point. -/
theorem idx_facts : ∀ t : Fin grid0.N,
    win0_0.index t 0 = t.val / 4 ∧ win0_0.index t 1 = t.val % 2 ∧ win0_1.index t 0 = t.val / 2 % 2 ∧ win0_1.index t 1 = t.val % 2 ∧
    win0_2.index t 0 = t.val / 4 ∧ win0_2.index t 1 = t.val / 2 % 2 := by decide +kernel

theorem tlt (t : Fin cfg0.N) : t.val < 8 := t.isLt

/-- One stretch of the sum. -/
theorem part_apply (a b : Vec Ideal S1024x2816 .bf16) (r q : Fin 1024) :
    k0_pay1 a b (ix2 r q) = ∑ k : Fin 2816, (a (ix2 r k) : EReal) * b (ix2 q k) := by
  unfold k0_pay1
  pointwise

variable (m : (ℓ : Loc nD τ sig) → Buf (Elt Ideal) ℓ) (c : Dev nD)

abbrev argC : FVec Ideal S2048x5632 .bf16 := m ((c : Thread nD τ).loc main_arg0)
abbrev argW : FVec Ideal S2048x5632 .bf16 := m ((c : Thread nD τ).loc main_arg1)

theorem blockC (t : Fin cfg0.N) (r : Fin 1024) (k : Fin 2816) :
    iblk m c 0 t (ix2 r k) = argC m c (ix2 ⟨t.val / 4 * 1024 + r.val, by have := tlt t; omega⟩ ⟨t.val % 2 * 2816 + k.val, by omega⟩) := by
  blk_ext [iblk, V, idx_facts t]
theorem blockW (t : Fin cfg0.N) (q : Fin 1024) (k : Fin 2816) :
    iblk m c 1 t (ix2 q k) = argW m c (ix2 ⟨t.val / 2 % 2 * 1024 + q.val, by omega⟩ ⟨t.val % 2 * 2816 + k.val, by omega⟩) := by
  blk_ext [iblk, V, idx_facts t]

/-- The accumulator after a point: in the scratch, at a block's last point in the block. -/
def acc (n : ℕ) (h : n < cfg0.N) : S1024x1024.Idx → EReal :=
  if n % 2 = 1 then (outsAt0 m c n h).1 else (outsAt0 m c n h).2

/-- A point's stretch of the sum. -/
def term (t : Fin cfg0.N) : S1024x1024.Idx → EReal := k0_pay1 (iblk m c 0 t) (iblk m c 1 t)

theorem acc_reset (t : Fin cfg0.N) (h : t.val % 2 = 0) (i : S1024x1024.Idx) : acc m c t.val t.isLt i = 0 + term m c t i := by
  rw [acc, if_neg (by omega), outsAt0_A m c t h (by omega), zero_add]
  dsimp only
  have e : ∀ (a b : Vec Ideal S1024x2816 .bf16), sout0_A_0 c (grid0.coords t) (ms0_0 t) (hs0_0 t) (ms0_1 t) (hs0_1 t) (ms0_2 t) (hs0_2 t) scM0_0 (Memref.isWhole_whole _) ((hcond0_0 t).mpr h) (hcond0_1 t) (fun h2 => by have := (hcond0_2 t).mp h2; omega) a b = k0_pay1 a b := by
    intro a b
    frame_out
    exact shapeCast_self _ _
  exact congrFun (e _ _) i

theorem acc_step (t : Fin cfg0.N) (h : ¬t.val % 2 = 0) (i : S1024x1024.Idx) :
    acc m c t.val t.isLt i = acc m c (t.val - 1) (Nat.lt_of_le_of_lt (Nat.sub_le _ _) t.isLt) i + term m c t i := by
  rw [acc, acc, if_neg (by omega : ¬(t.val - 1) % 2 = 1)]
  have h2 : t.val % 2 = 1 := by omega
  rw [if_pos h2, outsAt0_B m c t h h2]
  dsimp only
  generalize (outsAt0 m c (t.val - 1) _).2 = s
  have e : ∀ (a b : Vec Ideal S1024x2816 .bf16) (s : Vec Ideal S1024x1024 .f32), out0_B_2 c (grid0.coords t) (ms0_0 t) (hs0_0 t) (ms0_1 t) (hs0_1 t) (ms0_2 t) (hs0_2 t) scM0_0 (Memref.isWhole_whole _) (fun h0 => h ((hcond0_0 t).mp h0)) (hcond0_1 t) ((hcond0_2 t).mpr h2) a b s = addf s (k0_pay1 a b) := by
    intro a b s
    frame_out
    erw [Memref.IsWhole.read_unread]
    rfl
  exact congrFun (e _ _ _) i

/-- At a block's last point the accumulator is the whole sum. -/
theorem acc_last (t : Fin cfg0.N) (h : t.val % 2 = 1) (r q : Fin 1024) :
    (outsAt0 m c t.val t.isLt).1 (ix2 r q) = byInput .f32 (argC m c) (argW m c) (ix2 ⟨t.val / 4 * 1024 + r.val, by have := tlt t; omega⟩ ⟨t.val / 2 % 2 * 1024 + q.val, by omega⟩) := by
  have e := Pipeline.eq_sum_fin_of_reset_step_apply_of_flush (acc m c) 2 (fun _ => 0) (term m c) (acc_reset m c) (acc_step m c) t h (ix2 r q)
  rw [acc, if_pos h, zero_add] at e
  refine e.trans ?_
  rw [byInput_apply]
  rw [← Fin.sum_mul_add_fin (L := 5632) 2 2816]
  refine Finset.sum_congr rfl fun s _ => ?_
  have hs := s.isLt
  have ht := tlt t
  rw [term, part_apply]
  refine Finset.sum_congr rfl fun k _ => ?_
  rw [blockC, blockW]
  refine congrArg₂ (· * ·) (congrArg _ (congrArg₂ ix2 (Fin.ext ?_) (Fin.ext ?_))) (congrArg _ (congrArg₂ ix2 (Fin.ext ?_) (Fin.ext ?_)))
  all_goals dsimp only; omega

/-- The array the call leaves. -/
theorem array : (dats m 0 c).arrAt 2 cfg0.N = byInput .f32 (argC m c) (argW m c) := by
  refine (dats m 0 c).arrAt_eq_of_covers 2 _ (by decide +kernel) fun t hf y => ?_
  have h := (flush0_2 t).mp hf
  blk_simp [idx_facts t]
  rw [after0_2]
  obtain ⟨r, q, rfl⟩ : ∃ (r : Fin 1024) (q : Fin 1024), y = ix2 r q := ⟨y 0, y 1, eq_ix2 y⟩
  rw [acc_last m c t h]
  blk_ext [idx_facts t]

/-- The call and the derivative of the product give the same array. -/
theorem algebra : Cert.algebraic_DInRwkvIdeal_DInRwkvRefIdeal := by
  intro m g m' g' _ hargs
  refine ⟨fun c => byInput .f32 (argC m c) (argW m c), ?_, ?_⟩
  · exact (θ_run defs _ _).mono (fun r h c => ⟨(h c).1.trans (array m c), (h c).2⟩) (DInRwkvIdeal.Value.run_blocks m g)
  · refine (θ_run DInRwkvRefIdeal.defs _ _).mono (fun r h c => ⟨(h c).1.trans ?_, (h c).2⟩) (DInRwkvRefIdeal.Value.run m' g')
    obtain ⟨e0, e1⟩ := hargs c
    rw [e0, e1]
    show _ = byInput .f32 (argC m c) (argW m c)
    dsimp only [argC, argW]
    generalize m (c.tc.loc main_arg0) = ct
    generalize m (c.tc.loc main_arg1) = w
    funext i
    obtain ⟨r, q, rfl⟩ : ∃ (r : Fin 2048) (q : Fin 2048), i = ix2 r q := ⟨i 0, i 1, eq_ix2 i⟩
    refine Eq.trans ?_ (byInput_apply (φ₃ := .f32) ct w r q).symm
    pointwise

theorem frame_printed : Cert.quiescent_DInRwkv := fun m g _ => Cert.DInRwkv.Gen.frame m g

theorem frame_ideal : Cert.quiescent_DInRwkvIdeal := fun m g _ => Cert.DInRwkvIdeal.Gen.frame m g

theorem frame_reference : Cert.quiescent_DInRwkvRefIdeal := fun m g _ =>
  (θ_run DInRwkvRefIdeal.defs _ _).mono (fun r h => And.intro (fun c => (h c).2) (sem_eq_zero_of_no_sems (by decide) r.2))
    (DInRwkvRefIdeal.Value.run m g)

end Cert.DInRwkvIdeal.Block
end
-- ==== Proof.DwInRwkv.lean ====
/-
  The gradient of the input projection of the RWKV-7 layer by its weight: the array the call leaves is the
  transposed input times the cotangent.
-/
module

public import proofs.«01_k».proof.Defs
public import proofs.«01_k».proof.Proof.Gen.DwInRwkvIdeal.Value
public import proofs.«01_k».proof.Proof.Gen.DwInRwkvRefIdeal.Run
public import proofs.«01_k».proof.Proof.Gen.DwInRwkv.Frame
public import proofs.«01_k».proof.Proof.Product

@[expose] public section
set_option maxRecDepth 16384
noncomputable section
namespace Cert.DwInRwkvIdeal.Block
open Cert.DwInRwkvIdeal Cert.DwInRwkvIdeal.Gen Idealize.ShloMosaic Idealize.ShloMosaic.TcCoe Idealize.SL.Sem Cert.Product

/-- The blocks the windows are on at a point. -/
theorem idx_facts : ∀ t : Fin grid0.N,
    win0_0.index t 0 = 0 ∧ win0_0.index t 1 = t.val / 11 ∧ win0_1.index t 0 = 0 ∧ win0_1.index t 1 = t.val % 11 ∧
    win0_2.index t 0 = t.val / 11 ∧ win0_2.index t 1 = t.val % 11 := by decide +kernel

theorem tlt (t : Fin cfg0.N) : t.val < 22 := t.isLt

/-- One block of the result, from one column block of each argument. -/
theorem out_apply (a : Vec Ideal S2048x1024 .bf16) (b : Vec Ideal S2048x512 .bf16) (r : Fin 1024) (q : Fin 512) :
    out0_2 a b (ix2 r q) = ∑ s : Fin 2048, (a (ix2 s r) : EReal) * b (ix2 s q) := by
  have e : out0_2 a b = (truncf (F := Ideal) (φ := .f32) .bf16 (matmul (F := Ideal) (φ₁ := .bf16) (φ₂ := .bf16) dot_S2048x1024_S2048x512_S1024x512_0_0_1_1_n_n none a b (constant S1024x512 .f32 0x00000000#32)) bitsLt_bf16_f32 : FVec Ideal S1024x512 .bf16) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argC : FVec Ideal S2048x5632 .bf16 := m ((c : Thread nD τ).loc main_arg1)

theorem blockX (t : Fin cfg0.N) (s : Fin 2048) (r : Fin 1024) :
    iblk m c 0 t (ix2 s r) = argX m c (ix2 s ⟨t.val / 11 * 1024 + r.val, by have := tlt t; omega⟩) := by
  blk_ext [iblk, V, idx_facts t]
theorem blockC (t : Fin cfg0.N) (s : Fin 2048) (q : Fin 512) :
    iblk m c 1 t (ix2 s q) = argC m c (ix2 s ⟨t.val % 11 * 512 + q.val, by omega⟩) := by
  blk_ext [iblk, V, idx_facts t]

/-- The array the call leaves. -/
theorem array : (dats m 0 c).arrAt 2 cfg0.N = byWeight .bf16 (argX m c) (argC m c) := by
  refine (dats m 0 c).arrAt_eq_of_covers 2 _ (by decide +kernel) fun t hf y => ?_
  blk_simp [idx_facts t]
  rw [after0_2]
  obtain ⟨r, q, rfl⟩ : ∃ (r : Fin 1024) (q : Fin 512), y = ix2 r q := ⟨y 0, y 1, eq_ix2 y⟩
  rw [out_apply]
  simp only [blockX, blockC]
  refine (byWeight_apply (φ₃ := .bf16) (argX m c) (argC m c) _ _).symm.trans ?_
  blk_ext [idx_facts t]

/-- The call and the derivative of the product give the same array. -/
theorem algebra : Cert.algebraic_DwInRwkvIdeal_DwInRwkvRefIdeal := by
  intro m g m' g' _ hargs
  refine ⟨fun c => byWeight .bf16 (argX m c) (argC m c), ?_, ?_⟩
  · exact (θ_run defs _ _).mono (fun r h c => ⟨(h c).1.trans (array m c), (h c).2⟩) (DwInRwkvIdeal.Value.run_blocks m g)
  · refine (θ_run DwInRwkvRefIdeal.defs _ _).mono (fun r h c => ⟨(h c).1.trans ?_, (h c).2⟩) (DwInRwkvRefIdeal.Value.run m' g')
    obtain ⟨e0, e1⟩ := hargs c
    rw [e0, e1]
    show _ = byWeight .bf16 (argX m c) (argC m c)
    dsimp only [argX, argC]
    generalize m (c.tc.loc main_arg0) = x
    generalize m (c.tc.loc main_arg1) = ct
    funext i
    obtain ⟨r, q, rfl⟩ : ∃ (r : Fin 2048) (q : Fin 5632), i = ix2 r q := ⟨i 0, i 1, eq_ix2 i⟩
    refine Eq.trans ?_ (byWeight_apply (φ₃ := .bf16) x ct r q).symm
    pointwise
    exact Finset.sum_congr rfl fun s _ => mul_comm _ _

theorem frame_printed : Cert.quiescent_DwInRwkv := fun m g _ => Cert.DwInRwkv.Gen.frame m g

theorem frame_ideal : Cert.quiescent_DwInRwkvIdeal := fun m g _ => Cert.DwInRwkvIdeal.Gen.frame m g

theorem frame_reference : Cert.quiescent_DwInRwkvRefIdeal := fun m g _ =>
  (θ_run DwInRwkvRefIdeal.defs _ _).mono (fun r h => And.intro (fun c => (h c).2) (sem_eq_zero_of_no_sems (by decide) r.2))
    (DwInRwkvRefIdeal.Value.run m g)

end Cert.DwInRwkvIdeal.Block
end
-- ==== Proof.InGdn.lean ====
/-
  The input projection of the gated DeltaNet layer: the array the call leaves is the input times the weight.
-/
module

public import proofs.«01_k».proof.Defs
public import proofs.«01_k».proof.Proof.Gen.InGdnIdeal.Value
public import proofs.«01_k».proof.Proof.Gen.InGdnRefIdeal.Run
public import proofs.«01_k».proof.Proof.Gen.InGdn.Frame
public import proofs.«01_k».proof.Proof.Product

@[expose] public section
set_option maxRecDepth 16384
noncomputable section
namespace Cert.InGdnIdeal.Block
open Cert.InGdnIdeal Cert.InGdnIdeal.Gen Idealize.ShloMosaic Idealize.ShloMosaic.TcCoe Idealize.SL.Sem Cert.Product

/-- The blocks the windows are on at a point. -/
theorem idx_facts : ∀ t : Fin grid0.N,
    win0_0.index t 0 = t.val / 7 ∧ win0_0.index t 1 = 0 ∧ win0_1.index t 0 = 0 ∧ win0_1.index t 1 = t.val % 7 ∧
    win0_2.index t 0 = t.val / 7 ∧ win0_2.index t 1 = t.val % 7 := by decide +kernel

theorem tlt (t : Fin cfg0.N) : t.val < 14 := t.isLt

/-- One block of the result, from one row block and one column block. -/
theorem out_apply (a : Vec Ideal S1024x2048 .bf16) (b : Vec Ideal S2048x768 .bf16) (r : Fin 1024) (q : Fin 768) :
    out0_2 a b (ix2 r q) = ∑ k : Fin 2048, (a (ix2 r k) : EReal) * b (ix2 k q) := by
  have e : out0_2 a b = (matmul (F := Ideal) (φ₁ := .bf16) (φ₂ := .bf16) dot_S1024x2048_S2048x768_S1024x768_1_0_0_1_n_n none a b (constant S1024x768 .f32 0x00000000#32) : FVec Ideal S1024x768 .f32) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argW : FVec Ideal S2048x5376 .bf16 := m ((c : Thread nD τ).loc main_arg1)

theorem blockX (t : Fin cfg0.N) (r : Fin 1024) (k : Fin 2048) :
    iblk m c 0 t (ix2 r k) = argX m c (ix2 ⟨t.val / 7 * 1024 + r.val, by have := tlt t; omega⟩ k) := by
  blk_ext [iblk, V, idx_facts t]
theorem blockW (t : Fin cfg0.N) (k : Fin 2048) (q : Fin 768) :
    iblk m c 1 t (ix2 k q) = argW m c (ix2 k ⟨t.val % 7 * 768 + q.val, by omega⟩) := by
  blk_ext [iblk, V, idx_facts t]

/-- The array the call leaves. -/
theorem array : (dats m 0 c).arrAt 2 cfg0.N = forward .f32 (argX m c) (argW m c) := by
  refine (dats m 0 c).arrAt_eq_of_covers 2 _ (by decide +kernel) fun t hf y => ?_
  blk_simp [idx_facts t]
  rw [after0_2]
  obtain ⟨r, q, rfl⟩ : ∃ (r : Fin 1024) (q : Fin 768), y = ix2 r q := ⟨y 0, y 1, eq_ix2 y⟩
  rw [out_apply]
  simp only [blockX, blockW]
  refine (forward_apply (φ₃ := .f32) (argX m c) (argW m c) _ _).symm.trans ?_
  blk_ext [idx_facts t]

/-- The call and the plain product give the same array. -/
theorem algebra : Cert.algebraic_InGdnIdeal_InGdnRefIdeal := by
  intro m g m' g' _ hargs
  refine ⟨fun c => forward .f32 (argX m c) (argW m c), ?_, ?_⟩
  · exact (θ_run defs _ _).mono (fun r h c => ⟨(h c).1.trans (array m c), (h c).2⟩) (InGdnIdeal.Value.run_blocks m g)
  · refine (θ_run InGdnRefIdeal.defs _ _).mono (fun r h c => ⟨(h c).1.trans ?_, (h c).2⟩) (InGdnRefIdeal.Value.run m' g')
    obtain ⟨e0, e1⟩ := hargs c
    rw [e0, e1]
    show _ = forward .f32 (argX m c) (argW m c)
    dsimp only [argX, argW]
    generalize m (c.tc.loc main_arg0) = x
    generalize m (c.tc.loc main_arg1) = w
    funext i
    obtain ⟨r, q, rfl⟩ : ∃ (r : Fin 2048) (q : Fin 5376), i = ix2 r q := ⟨i 0, i 1, eq_ix2 i⟩
    refine Eq.trans ?_ (forward_apply (φ₃ := .f32) x w r q).symm
    pointwise

theorem frame_printed : Cert.quiescent_InGdn := fun m g _ => Cert.InGdn.Gen.frame m g

theorem frame_ideal : Cert.quiescent_InGdnIdeal := fun m g _ => Cert.InGdnIdeal.Gen.frame m g

theorem frame_reference : Cert.quiescent_InGdnRefIdeal := fun m g _ =>
  (θ_run InGdnRefIdeal.defs _ _).mono (fun r h => And.intro (fun c => (h c).2) (sem_eq_zero_of_no_sems (by decide) r.2))
    (InGdnRefIdeal.Value.run m g)

end Cert.InGdnIdeal.Block
end
-- ==== Proof.DInGdn.lean ====
/-
  The gradient of the input projection of the gated DeltaNet layer by its input: of two grid points the first
  leaves its half of the shared axis in the accumulator, the second adds its own and writes the block.
-/
module

public import proofs.«01_k».proof.Defs
public import proofs.«01_k».proof.Proof.Gen.DInGdnIdeal.Value
public import proofs.«01_k».proof.Proof.Gen.DInGdnRefIdeal.Run
public import proofs.«01_k».proof.Proof.Gen.DInGdn.Frame
public import proofs.«01_k».proof.Proof.Product

@[expose] public section
set_option maxRecDepth 16384
noncomputable section
namespace Cert.DInGdnIdeal.Block
open Cert.DInGdnIdeal Cert.DInGdnIdeal.Gen Idealize.ShloMosaic Idealize.ShloMosaic.TcCoe Idealize.SL.Sem Cert.Product

/-- The blocks the windows are on at a point. -/
theorem idx_facts : ∀ t : Fin grid0.N,
    win0_0.index t 0 = t.val / 4 ∧ win0_0.index t 1 = t.val % 2 ∧ win0_1.index t 0 = t.val / 2 % 2 ∧ win0_1.index t 1 = t.val % 2 ∧
    win0_2.index t 0 = t.val / 4 ∧ win0_2.index t 1 = t.val / 2 % 2 := by decide +kernel

theorem tlt (t : Fin cfg0.N) : t.val < 8 := t.isLt

/-- One stretch of the sum. -/
theorem part_apply (a b : Vec Ideal S1024x2688 .bf16) (r q : Fin 1024) :
    k0_pay1 a b (ix2 r q) = ∑ k : Fin 2688, (a (ix2 r k) : EReal) * b (ix2 q k) := by
  unfold k0_pay1
  pointwise

variable (m : (ℓ : Loc nD τ sig) → Buf (Elt Ideal) ℓ) (c : Dev nD)

abbrev argC : FVec Ideal S2048x5376 .bf16 := m ((c : Thread nD τ).loc main_arg0)
abbrev argW : FVec Ideal S2048x5376 .bf16 := m ((c : Thread nD τ).loc main_arg1)

theorem blockC (t : Fin cfg0.N) (r : Fin 1024) (k : Fin 2688) :
    iblk m c 0 t (ix2 r k) = argC m c (ix2 ⟨t.val / 4 * 1024 + r.val, by have := tlt t; omega⟩ ⟨t.val % 2 * 2688 + k.val, by omega⟩) := by
  blk_ext [iblk, V, idx_facts t]
theorem blockW (t : Fin cfg0.N) (q : Fin 1024) (k : Fin 2688) :
    iblk m c 1 t (ix2 q k) = argW m c (ix2 ⟨t.val / 2 % 2 * 1024 + q.val, by omega⟩ ⟨t.val % 2 * 2688 + k.val, by omega⟩) := by
  blk_ext [iblk, V, idx_facts t]

/-- The accumulator after a point: in the scratch, at a block's last point in the block. -/
def acc (n : ℕ) (h : n < cfg0.N) : S1024x1024.Idx → EReal :=
  if n % 2 = 1 then (outsAt0 m c n h).1 else (outsAt0 m c n h).2

/-- A point's stretch of the sum. -/
def term (t : Fin cfg0.N) : S1024x1024.Idx → EReal := k0_pay1 (iblk m c 0 t) (iblk m c 1 t)

theorem acc_reset (t : Fin cfg0.N) (h : t.val % 2 = 0) (i : S1024x1024.Idx) : acc m c t.val t.isLt i = 0 + term m c t i := by
  rw [acc, if_neg (by omega), outsAt0_A m c t h (by omega), zero_add]
  dsimp only
  have e : ∀ (a b : Vec Ideal S1024x2688 .bf16), sout0_A_0 c (grid0.coords t) (ms0_0 t) (hs0_0 t) (ms0_1 t) (hs0_1 t) (ms0_2 t) (hs0_2 t) scM0_0 (Memref.isWhole_whole _) ((hcond0_0 t).mpr h) (hcond0_1 t) (fun h2 => by have := (hcond0_2 t).mp h2; omega) a b = k0_pay1 a b := by
    intro a b
    frame_out
    exact shapeCast_self _ _
  exact congrFun (e _ _) i

theorem acc_step (t : Fin cfg0.N) (h : ¬t.val % 2 = 0) (i : S1024x1024.Idx) :
    acc m c t.val t.isLt i = acc m c (t.val - 1) (Nat.lt_of_le_of_lt (Nat.sub_le _ _) t.isLt) i + term m c t i := by
  rw [acc, acc, if_neg (by omega : ¬(t.val - 1) % 2 = 1)]
  have h2 : t.val % 2 = 1 := by omega
  rw [if_pos h2, outsAt0_B m c t h h2]
  dsimp only
  generalize (outsAt0 m c (t.val - 1) _).2 = s
  have e : ∀ (a b : Vec Ideal S1024x2688 .bf16) (s : Vec Ideal S1024x1024 .f32), out0_B_2 c (grid0.coords t) (ms0_0 t) (hs0_0 t) (ms0_1 t) (hs0_1 t) (ms0_2 t) (hs0_2 t) scM0_0 (Memref.isWhole_whole _) (fun h0 => h ((hcond0_0 t).mp h0)) (hcond0_1 t) ((hcond0_2 t).mpr h2) a b s = addf s (k0_pay1 a b) := by
    intro a b s
    frame_out
    erw [Memref.IsWhole.read_unread]
    rfl
  exact congrFun (e _ _ _) i

/-- At a block's last point the accumulator is the whole sum. -/
theorem acc_last (t : Fin cfg0.N) (h : t.val % 2 = 1) (r q : Fin 1024) :
    (outsAt0 m c t.val t.isLt).1 (ix2 r q) = byInput .f32 (argC m c) (argW m c) (ix2 ⟨t.val / 4 * 1024 + r.val, by have := tlt t; omega⟩ ⟨t.val / 2 % 2 * 1024 + q.val, by omega⟩) := by
  have e := Pipeline.eq_sum_fin_of_reset_step_apply_of_flush (acc m c) 2 (fun _ => 0) (term m c) (acc_reset m c) (acc_step m c) t h (ix2 r q)
  rw [acc, if_pos h, zero_add] at e
  refine e.trans ?_
  rw [byInput_apply]
  rw [← Fin.sum_mul_add_fin (L := 5376) 2 2688]
  refine Finset.sum_congr rfl fun s _ => ?_
  have hs := s.isLt
  have ht := tlt t
  rw [term, part_apply]
  refine Finset.sum_congr rfl fun k _ => ?_
  rw [blockC, blockW]
  refine congrArg₂ (· * ·) (congrArg _ (congrArg₂ ix2 (Fin.ext ?_) (Fin.ext ?_))) (congrArg _ (congrArg₂ ix2 (Fin.ext ?_) (Fin.ext ?_)))
  all_goals dsimp only; omega

/-- The array the call leaves. -/
theorem array : (dats m 0 c).arrAt 2 cfg0.N = byInput .f32 (argC m c) (argW m c) := by
  refine (dats m 0 c).arrAt_eq_of_covers 2 _ (by decide +kernel) fun t hf y => ?_
  have h := (flush0_2 t).mp hf
  blk_simp [idx_facts t]
  rw [after0_2]
  obtain ⟨r, q, rfl⟩ : ∃ (r : Fin 1024) (q : Fin 1024), y = ix2 r q := ⟨y 0, y 1, eq_ix2 y⟩
  rw [acc_last m c t h]
  blk_ext [idx_facts t]

/-- The call and the derivative of the product give the same array. -/
theorem algebra : Cert.algebraic_DInGdnIdeal_DInGdnRefIdeal := by
  intro m g m' g' _ hargs
  refine ⟨fun c => byInput .f32 (argC m c) (argW m c), ?_, ?_⟩
  · exact (θ_run defs _ _).mono (fun r h c => ⟨(h c).1.trans (array m c), (h c).2⟩) (DInGdnIdeal.Value.run_blocks m g)
  · refine (θ_run DInGdnRefIdeal.defs _ _).mono (fun r h c => ⟨(h c).1.trans ?_, (h c).2⟩) (DInGdnRefIdeal.Value.run m' g')
    obtain ⟨e0, e1⟩ := hargs c
    rw [e0, e1]
    show _ = byInput .f32 (argC m c) (argW m c)
    dsimp only [argC, argW]
    generalize m (c.tc.loc main_arg0) = ct
    generalize m (c.tc.loc main_arg1) = w
    funext i
    obtain ⟨r, q, rfl⟩ : ∃ (r : Fin 2048) (q : Fin 2048), i = ix2 r q := ⟨i 0, i 1, eq_ix2 i⟩
    refine Eq.trans ?_ (byInput_apply (φ₃ := .f32) ct w r q).symm
    pointwise

theorem frame_printed : Cert.quiescent_DInGdn := fun m g _ => Cert.DInGdn.Gen.frame m g

theorem frame_ideal : Cert.quiescent_DInGdnIdeal := fun m g _ => Cert.DInGdnIdeal.Gen.frame m g

theorem frame_reference : Cert.quiescent_DInGdnRefIdeal := fun m g _ =>
  (θ_run DInGdnRefIdeal.defs _ _).mono (fun r h => And.intro (fun c => (h c).2) (sem_eq_zero_of_no_sems (by decide) r.2))
    (DInGdnRefIdeal.Value.run m g)

end Cert.DInGdnIdeal.Block
end
-- ==== Proof.DwInGdn.lean ====
/-
  The gradient of the input projection of the gated DeltaNet layer by its weight: the array the call leaves is the
  transposed input times the cotangent.
-/
module

public import proofs.«01_k».proof.Defs
public import proofs.«01_k».proof.Proof.Gen.DwInGdnIdeal.Value
public import proofs.«01_k».proof.Proof.Gen.DwInGdnRefIdeal.Run
public import proofs.«01_k».proof.Proof.Gen.DwInGdn.Frame
public import proofs.«01_k».proof.Proof.Product

@[expose] public section
set_option maxRecDepth 16384
noncomputable section
namespace Cert.DwInGdnIdeal.Block
open Cert.DwInGdnIdeal Cert.DwInGdnIdeal.Gen Idealize.ShloMosaic Idealize.ShloMosaic.TcCoe Idealize.SL.Sem Cert.Product

/-- The blocks the windows are on at a point. -/
theorem idx_facts : ∀ t : Fin grid0.N,
    win0_0.index t 0 = 0 ∧ win0_0.index t 1 = t.val / 7 ∧ win0_1.index t 0 = 0 ∧ win0_1.index t 1 = t.val % 7 ∧
    win0_2.index t 0 = t.val / 7 ∧ win0_2.index t 1 = t.val % 7 := by decide +kernel

theorem tlt (t : Fin cfg0.N) : t.val < 14 := t.isLt

/-- One block of the result, from one column block of each argument. -/
theorem out_apply (a : Vec Ideal S2048x1024 .bf16) (b : Vec Ideal S2048x768 .bf16) (r : Fin 1024) (q : Fin 768) :
    out0_2 a b (ix2 r q) = ∑ s : Fin 2048, (a (ix2 s r) : EReal) * b (ix2 s q) := by
  have e : out0_2 a b = (truncf (F := Ideal) (φ := .f32) .bf16 (matmul (F := Ideal) (φ₁ := .bf16) (φ₂ := .bf16) dot_S2048x1024_S2048x768_S1024x768_0_0_1_1_n_n none a b (constant S1024x768 .f32 0x00000000#32)) bitsLt_bf16_f32 : FVec Ideal S1024x768 .bf16) := by
    frame_out
    rfl
  rw [e]
  pointwise

variable (m : (ℓ : Loc nD τ sig) → Buf (Elt Ideal) ℓ) (c : Dev nD)

abbrev argX : FVec Ideal S2048x2048 .bf16 := m ((c : Thread nD τ).loc main_arg0)
abbrev argC : FVec Ideal S2048x5376 .bf16 := m ((c : Thread nD τ).loc main_arg1)

theorem blockX (t : Fin cfg0.N) (s : Fin 2048) (r : Fin 1024) :
    iblk m c 0 t (ix2 s r) = argX m c (ix2 s ⟨t.val / 7 * 1024 + r.val, by have := tlt t; omega⟩) := by
  blk_ext [iblk, V, idx_facts t]
theorem blockC (t : Fin cfg0.N) (s : Fin 2048) (q : Fin 768) :
    iblk m c 1 t (ix2 s q) = argC m c (ix2 s ⟨t.val % 7 * 768 + q.val, by omega⟩) := by
  blk_ext [iblk, V, idx_facts t]

/-- The array the call leaves. -/
theorem array : (dats m 0 c).arrAt 2 cfg0.N = byWeight .bf16 (argX m c) (argC m c) := by
  refine (dats m 0 c).arrAt_eq_of_covers 2 _ (by decide +kernel) fun t hf y => ?_
  blk_simp [idx_facts t]
  rw [after0_2]
  obtain ⟨r, q, rfl⟩ : ∃ (r : Fin 1024) (q : Fin 768), y = ix2 r q := ⟨y 0, y 1, eq_ix2 y⟩
  rw [out_apply]
  simp only [blockX, blockC]
  refine (byWeight_apply (φ₃ := .bf16) (argX m c) (argC m c) _ _).symm.trans ?_
  blk_ext [idx_facts t]

/-- The call and the derivative of the product give the same array. -/
theorem algebra : Cert.algebraic_DwInGdnIdeal_DwInGdnRefIdeal := by
  intro m g m' g' _ hargs
  refine ⟨fun c => byWeight .bf16 (argX m c) (argC m c), ?_, ?_⟩
  · exact (θ_run defs _ _).mono (fun r h c => ⟨(h c).1.trans (array m c), (h c).2⟩) (DwInGdnIdeal.Value.run_blocks m g)
  · refine (θ_run DwInGdnRefIdeal.defs _ _).mono (fun r h c => ⟨(h c).1.trans ?_, (h c).2⟩) (DwInGdnRefIdeal.Value.run m' g')
    obtain ⟨e0, e1⟩ := hargs c
    rw [e0, e1]
    show _ = byWeight .bf16 (argX m c) (argC m c)
    dsimp only [argX, argC]
    generalize m (c.tc.loc main_arg0) = x
    generalize m (c.tc.loc main_arg1) = ct
    funext i
    obtain ⟨r, q, rfl⟩ : ∃ (r : Fin 2048) (q : Fin 5376), i = ix2 r q := ⟨i 0, i 1, eq_ix2 i⟩
    refine Eq.trans ?_ (byWeight_apply (φ₃ := .bf16) x ct r q).symm
    pointwise
    exact Finset.sum_congr rfl fun s _ => mul_comm _ _

theorem frame_printed : Cert.quiescent_DwInGdn := fun m g _ => Cert.DwInGdn.Gen.frame m g

theorem frame_ideal : Cert.quiescent_DwInGdnIdeal := fun m g _ => Cert.DwInGdnIdeal.Gen.frame m g

theorem frame_reference : Cert.quiescent_DwInGdnRefIdeal := fun m g _ =>
  (θ_run DwInGdnRefIdeal.defs _ _).mono (fun r h => And.intro (fun c => (h c).2) (sem_eq_zero_of_no_sems (by decide) r.2))
    (DwInGdnRefIdeal.Value.run m g)

end Cert.DwInGdnIdeal.Block
end
-- ==== Proof.MemKv.lean ====
/-
  The projection of the memory to keys and values: the array the call leaves is the input times the weight.
-/
module

public import proofs.«01_k».proof.Defs
public import proofs.«01_k».proof.Proof.Gen.MemKvIdeal.Value
public import proofs.«01_k».proof.Proof.Gen.MemKvRefIdeal.Run
public import proofs.«01_k».proof.Proof.Gen.MemKv.Frame
public import proofs.«01_k».proof.Proof.Product

@[expose] public section
set_option maxRecDepth 16384
noncomputable section
namespace Cert.MemKvIdeal.Block
open Cert.MemKvIdeal Cert.MemKvIdeal.Gen Idealize.ShloMosaic Idealize.ShloMosaic.TcCoe Idealize.SL.Sem Cert.Product

/-- The blocks the windows are on at a point. -/
theorem idx_facts : ∀ t : Fin grid0.N,
    win0_0.index t 0 = t.val ∧ win0_0.index t 1 = 0 ∧ win0_1.index t 0 = 0 ∧ win0_1.index t 1 = t.val ∧
    win0_2.index t 0 = t.val ∧ win0_2.index t 1 = t.val := by decide +kernel

theorem tlt (t : Fin cfg0.N) : t.val < 1 := t.isLt

/-- One block of the result, from one row block and one column block. -/
theorem out_apply (a : Vec Ideal S256x2048 .bf16) (b : Vec Ideal S2048x1024 .bf16) (r : Fin 256) (q : Fin 1024) :
    out0_2 a b (ix2 r q) = ∑ k : Fin 2048, (a (ix2 r k) : EReal) * b (ix2 k q) := by
  have e : out0_2 a b = (matmul (F := Ideal) (φ₁ := .bf16) (φ₂ := .bf16) dot_S256x2048_S2048x1024_S256x1024_1_0_0_1_n_n none a b (constant S256x1024 .f32 0x00000000#32) : FVec Ideal S256x1024 .f32) := by
    frame_out
    rfl
  rw [e]
  pointwise

variable (m : (ℓ : Loc nD τ sig) → Buf (Elt Ideal) ℓ) (c : Dev nD)

abbrev argX : FVec Ideal S256x2048 .bf16 := m ((c : Thread nD τ).loc main_arg0)
abbrev argW : FVec Ideal S2048x1024 .bf16 := m ((c : Thread nD τ).loc main_arg1)

theorem blockX (t : Fin cfg0.N) (r : Fin 256) (k : Fin 2048) :
    iblk m c 0 t (ix2 r k) = argX m c (ix2 ⟨t.val * 256 + r.val, by have := tlt t; omega⟩ k) := by
  blk_ext [iblk, V, idx_facts t]
theorem blockW (t : Fin cfg0.N) (k : Fin 2048) (q : Fin 1024) :
    iblk m c 1 t (ix2 k q) = argW m c (ix2 k ⟨t.val * 1024 + q.val, by have := tlt t; omega⟩) := by
  blk_ext [iblk, V, idx_facts t]

/-- The array the call leaves. -/
theorem array : (dats m 0 c).arrAt 2 cfg0.N = forward .f32 (argX m c) (argW m c) := by
  refine (dats m 0 c).arrAt_eq_of_covers 2 _ (by decide +kernel) fun t hf y => ?_
  blk_simp [idx_facts t]
  rw [after0_2]
  obtain ⟨r, q, rfl⟩ : ∃ (r : Fin 256) (q : Fin 1024), y = ix2 r q := ⟨y 0, y 1, eq_ix2 y⟩
  rw [out_apply]
  simp only [blockX, blockW]
  refine (forward_apply (φ₃ := .f32) (argX m c) (argW m c) _ _).symm.trans ?_
  blk_ext [idx_facts t]

/-- The call and the plain product give the same array. -/
theorem algebra : Cert.algebraic_MemKvIdeal_MemKvRefIdeal := by
  intro m g m' g' _ hargs
  refine ⟨fun c => forward .f32 (argX m c) (argW m c), ?_, ?_⟩
  · exact (θ_run defs _ _).mono (fun r h c => ⟨(h c).1.trans (array m c), (h c).2⟩) (MemKvIdeal.Value.run_blocks m g)
  · refine (θ_run MemKvRefIdeal.defs _ _).mono (fun r h c => ⟨(h c).1.trans ?_, (h c).2⟩) (MemKvRefIdeal.Value.run m' g')
    obtain ⟨e0, e1⟩ := hargs c
    rw [e0, e1]
    show _ = forward .f32 (argX m c) (argW m c)
    dsimp only [argX, argW]
    generalize m (c.tc.loc main_arg0) = x
    generalize m (c.tc.loc main_arg1) = w
    funext i
    obtain ⟨r, q, rfl⟩ : ∃ (r : Fin 256) (q : Fin 1024), i = ix2 r q := ⟨i 0, i 1, eq_ix2 i⟩
    refine Eq.trans ?_ (forward_apply (φ₃ := .f32) x w r q).symm
    pointwise

theorem frame_printed : Cert.quiescent_MemKv := fun m g _ => Cert.MemKv.Gen.frame m g

theorem frame_ideal : Cert.quiescent_MemKvIdeal := fun m g _ => Cert.MemKvIdeal.Gen.frame m g

theorem frame_reference : Cert.quiescent_MemKvRefIdeal := fun m g _ =>
  (θ_run MemKvRefIdeal.defs _ _).mono (fun r h => And.intro (fun c => (h c).2) (sem_eq_zero_of_no_sems (by decide) r.2))
    (MemKvRefIdeal.Value.run m g)

end Cert.MemKvIdeal.Block
end
-- ==== Proof.DMemKv.lean ====
/-
  The gradient of the memory's projection by its input: the array the call leaves is the
  cotangent times the transposed weight.
-/
module

public import proofs.«01_k».proof.Defs
public import proofs.«01_k».proof.Proof.Gen.DMemKvIdeal.Value
public import proofs.«01_k».proof.Proof.Gen.DMemKvRefIdeal.Run
public import proofs.«01_k».proof.Proof.Gen.DMemKv.Frame
public import proofs.«01_k».proof.Proof.Product

@[expose] public section
set_option maxRecDepth 16384
noncomputable section
namespace Cert.DMemKvIdeal.Block
open Cert.DMemKvIdeal Cert.DMemKvIdeal.Gen Idealize.ShloMosaic Idealize.ShloMosaic.TcCoe Idealize.SL.Sem Cert.Product

/-- The blocks the windows are on at a point. -/
theorem idx_facts : ∀ t : Fin grid0.N,
    win0_0.index t 0 = t.val / 2 ∧ win0_0.index t 1 = 0 ∧ win0_1.index t 0 = t.val % 2 ∧ win0_1.index t 1 = 0 ∧
    win0_2.index t 0 = t.val / 2 ∧ win0_2.index t 1 = t.val % 2 := by decide +kernel

theorem tlt (t : Fin cfg0.N) : t.val < 2 := t.isLt

/-- One block of the result, from one row block of each argument. -/
theorem out_apply (a : Vec Ideal S256x1024 .f32) (b : Vec Ideal S1024x1024 .bf16) (r : Fin 256) (q : Fin 1024) :
    out0_2 a b (ix2 r q) = ∑ k : Fin 1024, (a (ix2 r k) : EReal) * b (ix2 q k) := by
  have e : out0_2 a b = (matmul (F := Ideal) (φ₁ := .bf16) (φ₂ := .bf16) dot_S256x1024_S1024x1024_S256x1024_1_1_0_0_n_n none (truncf (F := Ideal) (φ := .f32) .bf16 a bitsLt_bf16_f32) b (constant S256x1024 .f32 0x00000000#32) : FVec Ideal S256x1024 .f32) := by
    frame_out
    rfl
  rw [e]
  pointwise

variable (m : (ℓ : Loc nD τ sig) → Buf (Elt Ideal) ℓ) (c : Dev nD)

abbrev argX : FVec Ideal S256x1024 .f32 := m ((c : Thread nD τ).loc main_arg0)
abbrev argW : FVec Ideal S2048x1024 .bf16 := m ((c : Thread nD τ).loc main_arg1)

theorem blockX (t : Fin cfg0.N) (r : Fin 256) (k : Fin 1024) :
    iblk m c 0 t (ix2 r k) = argX m c (ix2 ⟨t.val / 2 * 256 + r.val, by have := tlt t; omega⟩ k) := by
  blk_ext [iblk, V, idx_facts t]
theorem blockW (t : Fin cfg0.N) (q : Fin 1024) (k : Fin 1024) :
    iblk m c 1 t (ix2 q k) = argW m c (ix2 ⟨t.val % 2 * 1024 + q.val, by omega⟩ k) := by
  blk_ext [iblk, V, idx_facts t]

/-- The array the call leaves. -/
theorem array : (dats m 0 c).arrAt 2 cfg0.N = byInput .f32 (argX m c) (argW m c) := by
  refine (dats m 0 c).arrAt_eq_of_covers 2 _ (by decide +kernel) fun t hf y => ?_
  blk_simp [idx_facts t]
  rw [after0_2]
  obtain ⟨r, q, rfl⟩ : ∃ (r : Fin 256) (q : Fin 1024), y = ix2 r q := ⟨y 0, y 1, eq_ix2 y⟩
  rw [out_apply]
  simp only [blockX, blockW]
  refine (byInput_apply (φ₃ := .f32) (argX m c) (argW m c) _ _).symm.trans ?_
  blk_ext [idx_facts t]

/-- The call and the derivative of the product give the same array. -/
theorem algebra : Cert.algebraic_DMemKvIdeal_DMemKvRefIdeal := by
  intro m g m' g' _ hargs
  refine ⟨fun c => byInput .f32 (argX m c) (argW m c), ?_, ?_⟩
  · exact (θ_run defs _ _).mono (fun r h c => ⟨(h c).1.trans (array m c), (h c).2⟩) (DMemKvIdeal.Value.run_blocks m g)
  · refine (θ_run DMemKvRefIdeal.defs _ _).mono (fun r h c => ⟨(h c).1.trans ?_, (h c).2⟩) (DMemKvRefIdeal.Value.run m' g')
    obtain ⟨e0, e1⟩ := hargs c
    rw [e0, e1]
    show _ = byInput .f32 (argX m c) (argW m c)
    dsimp only [argX, argW]
    generalize m (c.tc.loc main_arg0) = ct
    generalize m (c.tc.loc main_arg1) = w
    funext i
    obtain ⟨r, q, rfl⟩ : ∃ (r : Fin 256) (q : Fin 2048), i = ix2 r q := ⟨i 0, i 1, eq_ix2 i⟩
    refine Eq.trans ?_ (byInput_apply (φ₃ := .f32) ct w r q).symm
    pointwise

theorem frame_printed : Cert.quiescent_DMemKv := fun m g _ => Cert.DMemKv.Gen.frame m g

theorem frame_ideal : Cert.quiescent_DMemKvIdeal := fun m g _ => Cert.DMemKvIdeal.Gen.frame m g

theorem frame_reference : Cert.quiescent_DMemKvRefIdeal := fun m g _ =>
  (θ_run DMemKvRefIdeal.defs _ _).mono (fun r h => And.intro (fun c => (h c).2) (sem_eq_zero_of_no_sems (by decide) r.2))
    (DMemKvRefIdeal.Value.run m g)

end Cert.DMemKvIdeal.Block
end
-- ==== Proof.DwMemKv.lean ====
/-
  The gradient of the memory's projection by its weight: the array the call leaves is the
  transposed input times the cotangent.
-/
module

public import proofs.«01_k».proof.Defs
public import proofs.«01_k».proof.Proof.Gen.DwMemKvIdeal.Value
public import proofs.«01_k».proof.Proof.Gen.DwMemKvRefIdeal.Run
public import proofs.«01_k».proof.Proof.Gen.DwMemKv.Frame
public import proofs.«01_k».proof.Proof.Product

@[expose] public section
set_option maxRecDepth 16384
noncomputable section
namespace Cert.DwMemKvIdeal.Block
open Cert.DwMemKvIdeal Cert.DwMemKvIdeal.Gen Idealize.ShloMosaic Idealize.ShloMosaic.TcCoe Idealize.SL.Sem Cert.Product

/-- The blocks the windows are on at a point. -/
theorem idx_facts : ∀ t : Fin grid0.N,
    win0_0.index t 0 = 0 ∧ win0_0.index t 1 = t.val ∧ win0_1.index t 0 = 0 ∧ win0_1.index t 1 = t.val / 2 ∧
    win0_2.index t 0 = t.val ∧ win0_2.index t 1 = t.val / 2 := by decide +kernel

theorem tlt (t : Fin cfg0.N) : t.val < 2 := t.isLt

/-- One block of the result, from one column block of each argument. -/
theorem out_apply (a : Vec Ideal S256x1024 .bf16) (b : Vec Ideal S256x1024 .f32) (r : Fin 1024) (q : Fin 1024) :
    out0_2 a b (ix2 r q) = ∑ s : Fin 256, (a (ix2 s r) : EReal) * b (ix2 s q) := by
  have e : out0_2 a b = (truncf (F := Ideal) (φ := .f32) .bf16 (matmul (F := Ideal) (φ₁ := .bf16) (φ₂ := .bf16) dot_S256x1024_S256x1024_S1024x1024_0_0_1_1_n_n none a (truncf (F := Ideal) (φ := .f32) .bf16 b bitsLt_bf16_f32) (constant S1024x1024 .f32 0x00000000#32)) bitsLt_bf16_f32 : FVec Ideal S1024x1024 .bf16) := by
    frame_out
    rfl
  rw [e]
  pointwise

variable (m : (ℓ : Loc nD τ sig) → Buf (Elt Ideal) ℓ) (c : Dev nD)

abbrev argX : FVec Ideal S256x2048 .bf16 := m ((c : Thread nD τ).loc main_arg0)
abbrev argC : FVec Ideal S256x1024 .f32 := m ((c : Thread nD τ).loc main_arg1)

theorem blockX (t : Fin cfg0.N) (s : Fin 256) (r : Fin 1024) :
    iblk m c 0 t (ix2 s r) = argX m c (ix2 s ⟨t.val * 1024 + r.val, by have := tlt t; omega⟩) := by
  blk_ext [iblk, V, idx_facts t]
theorem blockC (t : Fin cfg0.N) (s : Fin 256) (q : Fin 1024) :
    iblk m c 1 t (ix2 s q) = argC m c (ix2 s ⟨t.val / 2 * 1024 + q.val, by have := tlt t; omega⟩) := by
  blk_ext [iblk, V, idx_facts t]

/-- The array the call leaves. -/
theorem array : (dats m 0 c).arrAt 2 cfg0.N = byWeight .bf16 (argX m c) (argC m c) := by
  refine (dats m 0 c).arrAt_eq_of_covers 2 _ (by decide +kernel) fun t hf y => ?_
  blk_simp [idx_facts t]
  rw [after0_2]
  obtain ⟨r, q, rfl⟩ : ∃ (r : Fin 1024) (q : Fin 1024), y = ix2 r q := ⟨y 0, y 1, eq_ix2 y⟩
  rw [out_apply]
  simp only [blockX, blockC]
  refine (byWeight_apply (φ₃ := .bf16) (argX m c) (argC m c) _ _).symm.trans ?_
  blk_ext [idx_facts t]

/-- The call and the derivative of the product give the same array. -/
theorem algebra : Cert.algebraic_DwMemKvIdeal_DwMemKvRefIdeal := by
  intro m g m' g' _ hargs
  refine ⟨fun c => byWeight .bf16 (argX m c) (argC m c), ?_, ?_⟩
  · exact (θ_run defs _ _).mono (fun r h c => ⟨(h c).1.trans (array m c), (h c).2⟩) (DwMemKvIdeal.Value.run_blocks m g)
  · refine (θ_run DwMemKvRefIdeal.defs _ _).mono (fun r h c => ⟨(h c).1.trans ?_, (h c).2⟩) (DwMemKvRefIdeal.Value.run m' g')
    obtain ⟨e0, e1⟩ := hargs c
    rw [e0, e1]
    show _ = byWeight .bf16 (argX m c) (argC m c)
    dsimp only [argX, argC]
    generalize m (c.tc.loc main_arg0) = x
    generalize m (c.tc.loc main_arg1) = ct
    funext i
    obtain ⟨r, q, rfl⟩ : ∃ (r : Fin 2048) (q : Fin 1024), i = ix2 r q := ⟨i 0, i 1, eq_ix2 i⟩
    refine Eq.trans ?_ (byWeight_apply (φ₃ := .bf16) x ct r q).symm
    pointwise
    exact Finset.sum_congr rfl fun s _ => mul_comm _ _

theorem frame_printed : Cert.quiescent_DwMemKv := fun m g _ => Cert.DwMemKv.Gen.frame m g

theorem frame_ideal : Cert.quiescent_DwMemKvIdeal := fun m g _ => Cert.DwMemKvIdeal.Gen.frame m g

theorem frame_reference : Cert.quiescent_DwMemKvRefIdeal := fun m g _ =>
  (θ_run DwMemKvRefIdeal.defs _ _).mono (fun r h => And.intro (fun c => (h c).2) (sem_eq_zero_of_no_sems (by decide) r.2))
    (DwMemKvRefIdeal.Value.run m g)

end Cert.DwMemKvIdeal.Block
end
-- ==== Proof.NormF.lean ====
/-
  The RMS norm of the stream, rounded to bf16: the array the call leaves is each row by its reciprocal root mean square and
  the scales.
-/
module

public import proofs.«01_k».proof.Defs
public import proofs.«01_k».proof.Proof.Gen.NormFIdeal.Value
public import proofs.«01_k».proof.Proof.Gen.NormFRefIdeal.Run
public import proofs.«01_k».proof.Proof.Gen.NormF.Frame
public import proofs.«01_k».proof.Proof.NormSpec
public import Idealize.ShloMosaic.Lib.Pipeline.ValueKit
public import Idealize.ShloMosaic.Lib.IdealHost
public import Idealize.ShloMosaic.Adequacy
public import Idealize.ShloMosaic.Init

@[expose] public section
set_option maxRecDepth 16384
noncomputable section
namespace Cert.NormFIdeal.Norm
open Cert.NormFIdeal Cert.NormFIdeal.Gen Idealize.ShloMosaic Idealize.ShloMosaic.TcCoe Idealize.SL.Sem Cert.NormModel

/-- The blocks the windows are on at a point. -/
theorem idx_facts : ∀ t : Fin grid0.N,
    win0_0.index t 0 = t.val ∧ win0_0.index t 1 = 0 ∧ win0_1.index t 0 = 0 ∧ win0_1.index t 1 = 0 ∧
    win0_2.index t 0 = t.val ∧ win0_2.index t 1 = 0 := by decide +kernel

theorem tlt (t : Fin cfg0.N) : t.val < 8 := t.isLt

/-- The norm of an array. -/
def normed (x : FVec Ideal S2048x2048 .f32) (g : FVec Ideal S2048 .f32) : FVec Ideal S2048x2048 .bf16 := fun i =>
  row x (i 0) (i 1) * rstd (row x (i 0)) * scales g (i 1)

/-- One block of the result. -/
theorem out_apply (x : Vec Ideal S256x2048 .f32) (g : Vec Ideal S1x2048 .f32) (r : Fin 256) (q : Fin 2048) :
    out0_2 x g (ix2 r q) = row x r q * rstd (row x r) * row g 0 q := by
  have e : out0_2 x g = k0_pay1 x g := by frame_out
  rw [e]
  unfold k0_pay1 rstd vari row
  pointwise

variable (m : (ℓ : Loc nD τ sig) → Buf (Elt Ideal) ℓ) (c : Dev nD)

abbrev argX : FVec Ideal S2048x2048 .f32 := m ((c : Thread nD τ).loc main_arg0)
abbrev argG : FVec Ideal S2048 .f32 := m ((c : Thread nD τ).loc main_arg1)

/-- The scales as the kernel gets them. -/
theorem V_v0 : V m c main_v0 = shapeCast S1x2048 (argG m c) shapeCasts_S2048_S1x2048 := by
  unfold V hostOps0
  after_results_simp <;> rfl

/-- Row `r` of row block `t`. -/
abbrev rowOf (t : Fin cfg0.N) (r : Fin 256) : Fin 2048 := ⟨t.val * 256 + r.val, by have := tlt t; omega⟩

theorem iblk_x (t : Fin cfg0.N) (r : Fin 256) : row (iblk m c 0 t : FVec Ideal S256x2048 .f32) r = row (argX m c) (rowOf t r) := by
  funext q
  unfold row
  blk_ext [iblk, V_main_arg0 m c, idx_facts t]
theorem iblk_g (t : Fin cfg0.N) : row (iblk m c 1 t : FVec Ideal S1x2048 .f32) 0 = scales (argG m c) := by
  funext q
  unfold row scales
  refine Eq.trans (b := V m c main_v0 (ix2 0 q)) ?_ ?_
  · blk_ext [iblk, idx_facts t]
  · rw [V_v0]
    pointwise

/-- The array the call leaves. -/
theorem array : (dats m 0 c).arrAt 2 cfg0.N = normed (argX m c) (argG m c) := by
  refine (dats m 0 c).arrAt_eq_of_covers 2 _ (by decide +kernel) fun t hf y => ?_
  blk_simp [idx_facts t]
  rw [after0_2]
  obtain ⟨r, q, rfl⟩ : ∃ (r : Fin 256) (q : Fin 2048), y = ix2 r q := ⟨y 0, y 1, eq_ix2 y⟩
  rw [out_apply, iblk_x, iblk_g]
  refine Eq.trans (b := normed (argX m c) (argG m c) (ix2 (rowOf t r) q)) rfl ?_
  blk_ext [idx_facts t]

/-- The call and the norm give the same array. -/
theorem algebra : Cert.algebraic_NormFIdeal_NormFRefIdeal := by
  intro m g m' g' _ hargs
  refine ⟨fun c => normed (argX m c) (argG m c), ?_, ?_⟩
  · exact (θ_run defs _ _).mono (fun r h c => ⟨(h c).1.trans (array m c), (h c).2⟩) (NormFIdeal.Value.run_blocks m g)
  · refine (θ_run NormFRefIdeal.defs _ _).mono (fun r h c => ⟨(h c).1.trans ?_, (h c).2⟩) (NormFRefIdeal.Value.run m' g')
    obtain ⟨e0, e1⟩ := hargs c
    rw [e0, e1]
    show _ = normed (argX m c) (argG m c)
    dsimp only [argX, argG]
    generalize m (c.tc.loc main_arg0) = x
    generalize m (c.tc.loc main_arg1) = s
    funext i
    obtain ⟨r, q, rfl⟩ : ∃ (r : Fin 2048) (q : Fin 2048), i = ix2 r q := ⟨i 0, i 1, eq_ix2 i⟩
    unfold normed rstd vari row scales
    pointwise

theorem frame_printed : Cert.quiescent_NormF := fun m g _ => Cert.NormF.Gen.frame m g

theorem frame_ideal : Cert.quiescent_NormFIdeal := fun m g _ => Cert.NormFIdeal.Gen.frame m g

theorem frame_reference : Cert.quiescent_NormFRefIdeal := fun m g _ =>
  (θ_run NormFRefIdeal.defs _ _).mono (fun r h => And.intro (fun c => (h c).2) (sem_eq_zero_of_no_sems (by decide) r.2))
    (NormFRefIdeal.Value.run m g)

end Cert.NormFIdeal.Norm
end
-- ==== Proof.NormM.lean ====
/-
  The RMS norm of the memory, rounded to bf16: the array the call leaves is each row by its reciprocal root mean square and
  the scales.
-/
module

public import proofs.«01_k».proof.Defs
public import proofs.«01_k».proof.Proof.Gen.NormMIdeal.Value
public import proofs.«01_k».proof.Proof.Gen.NormMRefIdeal.Run
public import proofs.«01_k».proof.Proof.Gen.NormM.Frame
public import proofs.«01_k».proof.Proof.NormSpec
public import Idealize.ShloMosaic.Lib.Pipeline.ValueKit
public import Idealize.ShloMosaic.Lib.IdealHost
public import Idealize.ShloMosaic.Adequacy
public import Idealize.ShloMosaic.Init

@[expose] public section
set_option maxRecDepth 16384
noncomputable section
namespace Cert.NormMIdeal.Norm
open Cert.NormMIdeal Cert.NormMIdeal.Gen Idealize.ShloMosaic Idealize.ShloMosaic.TcCoe Idealize.SL.Sem Cert.NormModel

/-- The blocks the windows are on at a point. -/
theorem idx_facts : ∀ t : Fin grid0.N,
    win0_0.index t 0 = t.val ∧ win0_0.index t 1 = 0 ∧ win0_1.index t 0 = 0 ∧ win0_1.index t 1 = 0 ∧
    win0_2.index t 0 = t.val ∧ win0_2.index t 1 = 0 := by decide +kernel

theorem tlt (t : Fin cfg0.N) : t.val < 1 := t.isLt

/-- The norm of an array. -/
def normed (x : FVec Ideal S256x2048 .f32) (g : FVec Ideal S2048 .f32) : FVec Ideal S256x2048 .bf16 := fun i =>
  row x (i 0) (i 1) * rstd (row x (i 0)) * scales g (i 1)

/-- One block of the result. -/
theorem out_apply (x : Vec Ideal S256x2048 .f32) (g : Vec Ideal S1x2048 .f32) (r : Fin 256) (q : Fin 2048) :
    out0_2 x g (ix2 r q) = row x r q * rstd (row x r) * row g 0 q := by
  have e : out0_2 x g = k0_pay1 x g := by frame_out
  rw [e]
  unfold k0_pay1 rstd vari row
  pointwise

variable (m : (ℓ : Loc nD τ sig) → Buf (Elt Ideal) ℓ) (c : Dev nD)

abbrev argX : FVec Ideal S256x2048 .f32 := m ((c : Thread nD τ).loc main_arg0)
abbrev argG : FVec Ideal S2048 .f32 := m ((c : Thread nD τ).loc main_arg1)

/-- The scales as the kernel gets them. -/
theorem V_v0 : V m c main_v0 = shapeCast S1x2048 (argG m c) shapeCasts_S2048_S1x2048 := by
  unfold V hostOps0
  after_results_simp <;> rfl

/-- Row `r` of row block `t`. -/
abbrev rowOf (t : Fin cfg0.N) (r : Fin 256) : Fin 256 := ⟨t.val * 256 + r.val, by have := tlt t; omega⟩

theorem iblk_x (t : Fin cfg0.N) (r : Fin 256) : row (iblk m c 0 t : FVec Ideal S256x2048 .f32) r = row (argX m c) (rowOf t r) := by
  funext q
  unfold row
  blk_ext [iblk, V_main_arg0 m c, idx_facts t]
theorem iblk_g (t : Fin cfg0.N) : row (iblk m c 1 t : FVec Ideal S1x2048 .f32) 0 = scales (argG m c) := by
  funext q
  unfold row scales
  refine Eq.trans (b := V m c main_v0 (ix2 0 q)) ?_ ?_
  · blk_ext [iblk, idx_facts t]
  · rw [V_v0]
    pointwise

/-- The array the call leaves. -/
theorem array : (dats m 0 c).arrAt 2 cfg0.N = normed (argX m c) (argG m c) := by
  refine (dats m 0 c).arrAt_eq_of_covers 2 _ (by decide +kernel) fun t hf y => ?_
  blk_simp [idx_facts t]
  rw [after0_2]
  obtain ⟨r, q, rfl⟩ : ∃ (r : Fin 256) (q : Fin 2048), y = ix2 r q := ⟨y 0, y 1, eq_ix2 y⟩
  rw [out_apply, iblk_x, iblk_g]
  refine Eq.trans (b := normed (argX m c) (argG m c) (ix2 (rowOf t r) q)) rfl ?_
  blk_ext [idx_facts t]

/-- The call and the norm give the same array. -/
theorem algebra : Cert.algebraic_NormMIdeal_NormMRefIdeal := by
  intro m g m' g' _ hargs
  refine ⟨fun c => normed (argX m c) (argG m c), ?_, ?_⟩
  · exact (θ_run defs _ _).mono (fun r h c => ⟨(h c).1.trans (array m c), (h c).2⟩) (NormMIdeal.Value.run_blocks m g)
  · refine (θ_run NormMRefIdeal.defs _ _).mono (fun r h c => ⟨(h c).1.trans ?_, (h c).2⟩) (NormMRefIdeal.Value.run m' g')
    obtain ⟨e0, e1⟩ := hargs c
    rw [e0, e1]
    show _ = normed (argX m c) (argG m c)
    dsimp only [argX, argG]
    generalize m (c.tc.loc main_arg0) = x
    generalize m (c.tc.loc main_arg1) = s
    funext i
    obtain ⟨r, q, rfl⟩ : ∃ (r : Fin 256) (q : Fin 2048), i = ix2 r q := ⟨i 0, i 1, eq_ix2 i⟩
    unfold normed rstd vari row scales
    pointwise

theorem frame_printed : Cert.quiescent_NormM := fun m g _ => Cert.NormM.Gen.frame m g

theorem frame_ideal : Cert.quiescent_NormMIdeal := fun m g _ => Cert.NormMIdeal.Gen.frame m g

theorem frame_reference : Cert.quiescent_NormMRefIdeal := fun m g _ =>
  (θ_run NormMRefIdeal.defs _ _).mono (fun r h => And.intro (fun c => (h c).2) (sem_eq_zero_of_no_sems (by decide) r.2))
    (NormMRefIdeal.Value.run m g)

end Cert.NormMIdeal.Norm
end
-- ==== Proof.NormD.lean ====
/-
  The gradient of the memory's norm: its kernel leaves, and its reference gives, the gradients by the input and by the
  scale.
-/
module

public import proofs.«01_k».proof.Defs
public import proofs.«01_k».proof.Proof.Gen.NormDIdeal.Value
public import proofs.«01_k».proof.Proof.Gen.NormDRefIdeal.Run
public import proofs.«01_k».proof.Proof.Gen.NormD.Frame
public import proofs.«01_k».proof.Proof.NormSpec
public import Idealize.ShloMosaic.Lib.Pipeline.ValueKit
public import Idealize.ShloMosaic.Lib.IdealHost
public import Idealize.ShloMosaic.Adequacy
public import Idealize.ShloMosaic.Init

@[expose] public section
set_option maxRecDepth 16384
noncomputable section
namespace Cert.NormDModel
open Idealize.ShloMosaic Cert.NormModel

variable (x : FVec Ideal ⟨2, ![256, 2048]⟩ .f32) (g : FVec Ideal ⟨1, ![2048]⟩ .f32) (y : FVec Ideal ⟨2, ![256, 2048]⟩ .f32)

/-- The gradients by the input and by the scale. -/
def dInput : FVec Ideal ⟨2, ![256, 2048]⟩ .f32 := fun i => dRow (row x (i 0)) (scales g) (row y (i 0)) (i 1)
def dScale : FVec Ideal ⟨2, ![1, 2048]⟩ .f32 := fun i => ∑ t : Fin 256, row y t (i 1) * (row x t (i 1) * rstd (row x t))

end Cert.NormDModel

namespace Cert.NormDRefIdeal.Norm
open Cert.NormDRefIdeal Cert.NormDRefIdeal.Gen Idealize.ShloMosaic Idealize.ShloMosaic.TcCoe Idealize.SL.Sem Cert.NormModel Cert.NormDModel

variable (x : FVec Ideal S256x2048 .f32) (g : FVec Ideal S2048 .f32) (y : FVec Ideal S256x2048 .f32)

/-- A number in every row. -/
def const (w : BitVec 32) : FVec Ideal S256x1 .f32 := broadcastInDim S256x1 ![] bcast_S_S256x1 (constant S_ .f32 w)
/-- A column, copied to every column. -/
def wide (v : FVec Ideal S256x1 .f32) : FVec Ideal S256x2048 .f32 := broadcastInDim S256x2048 ![0, 1] bcast_S256x1_S256x2048_0_1 v
/-- The sums of the rows. -/
def sums (v : FVec Ideal S256x2048 .f32) : FVec Ideal S256 .f32 := Host.reduceAdd v (constant S_ .f32 0x00000000#32) reducesTo_S256x2048_S256_d1 h_S_

/-- Each row's mean square with the small number added, its reciprocal root, the derivative of that. -/
def vr : FVec Ideal S256x1 .f32 := addf (Host.divf (broadcastInDim S256x1 ![0] bcast_S256_S256x1_0 (sums (mulf x x))) (const 0x45000000#32)) (const 0x358637BD#32)
def rs : FVec Ideal S256x1 .f32 := Host.rsqrt (vr x)
def drs : FVec Ideal S256x1 .f32 := mulf (const 0xBF000000#32) (Host.divf (rs x) (vr x))
/-- The cotangent by the scaled input. -/
def yg : FVec Ideal S256x2048 .f32 := mulf y (broadcastInDim S256x2048 ![0, 1] bcast_S1x2048_S256x2048_0_1 (broadcastInDim S1x2048 ![1] bcast_S2048_S1x2048_1 g))
/-- The gradient by each row's squares. -/
def sq : FVec Ideal S256x2048 .f32 :=
  broadcastInDim S256x2048 ![0] bcast_S256_S256x2048_0 (Host.reduceAdd
    (Host.divf (mulf (shapeCast _ (sums (mulf x (yg g y))) shapeCasts_S256_S256x1) (drs x)) (const 0x45000000#32))
    (constant S_ .f32 0x00000000#32) reducesTo_S256x1_S256_d1 h_S_)
def outX : FVec Ideal S256x2048 .f32 :=
  addf (addf (mulf (yg g y) (wide (rs x))) (mulf x (sq x g y))) (mulf (sq x g y) x)
def outG : FVec Ideal S1x2048 .f32 :=
  broadcastInDim S1x2048 ![1] bcast_S2048_S1x2048_1 (Host.reduceAdd
    (shapeCast _ (Host.reduceAdd (mulf (mulf x (wide (rs x))) y) (constant S_ .f32 0x00000000#32) reducesTo_S256x2048_S2048_d0 h_S_) shapeCasts_S2048_S1x2048)
    (constant S_ .f32 0x00000000#32) reducesTo_S1x2048_S2048_d0 h_S_)

theorem sums_apply (v : FVec Ideal S256x2048 .f32) (t : Fin 256) : sums v (ix1 t) = ∑ q, v (ix2 t q) := by
  unfold sums
  pointwise
theorem vr_apply (t : Fin 256) (z : Fin 1) : vr x (ix2 t z) = vari (row x t) := by
  have e := sums_apply (mulf x x)
  unfold vr const vari row
  generalize sums (mulf x x) = s at e
  pointwise [e]
theorem rs_apply (t : Fin 256) (z : Fin 1) : rs x (ix2 t z) = rstd (row x t) := by
  unfold rs rstd
  pointwise [vr_apply]
theorem drs_apply (t : Fin 256) (z : Fin 1) : drs x (ix2 t z) = mhalf * Ideal.div (rstd (row x t)) (vari (row x t)) := by
  unfold drs const
  pointwise [vr_apply, rs_apply]
theorem yg_apply (t : Fin 256) (q : Fin 2048) : yg g y (ix2 t q) = row y t q * scales g q := by
  unfold yg
  pointwise
  rfl
theorem sq_apply (t : Fin 256) (q : Fin 2048) : sq x g y (ix2 t q) = dSq (row x t) (scales g) (row y t) := by
  have e := sums_apply (mulf x (yg g y))
  have e2 := drs_apply x
  have e3 := yg_apply g y
  unfold sq const dSq
  generalize sums (mulf x (yg g y)) = s at e
  generalize drs x = d at e2
  generalize yg g y = w at e e3
  pointwise [e, e2, e3]
  exact Fin.sum_univ_one _
theorem outX_eq : outX x g y = dInput x g y := by
  funext i
  obtain ⟨t, q, rfl⟩ : ∃ (t : Fin 256) (q : Fin 2048), i = ix2 t q := ⟨i 0, i 1, eq_ix2 i⟩
  have e : dInput x g y (ix2 t q) = dRow (row x t) (scales g) (row y t) q := rfl
  rw [e, dRow_eq]
  unfold outX wide
  pointwise [sq_apply, yg_apply, rs_apply]
  rfl
theorem outG_eq : outG x y = dScale x y := by
  funext i
  obtain ⟨z, q, rfl⟩ : ∃ (z : Fin 1) (q : Fin 2048), i = ix2 z q := ⟨i 0, i 1, eq_ix2 i⟩
  unfold outG wide dScale
  pointwise [rs_apply]
  refine (Fin.sum_univ_one _).trans ?_
  refine Finset.sum_congr (M := EReal) rfl fun t _ => ?_
  exact mul_comm _ _

end Cert.NormDRefIdeal.Norm

namespace Cert.NormDIdeal.Norm
open Cert.NormDIdeal Cert.NormDIdeal.Gen Idealize.ShloMosaic Idealize.ShloMosaic.TcCoe Idealize.SL.Sem Cert.NormModel Cert.NormDModel

section
variable (x y : Vec Ideal S256x2048 .f32) (g o : Vec Ideal S1x2048 .f32)

theorem rstd_apply (r : Fin 256) (z : Fin 1) : k0_pay1 (F := Ideal) x (ix2 r z) = rstd (row x r) := by
  unfold k0_pay1 rstd vari row
  pointwise
theorem xhat_apply (r : Fin 256) (q : Fin 2048) : k0_pay2 (F := Ideal) x (ix2 r q) = row x r q * rstd (row x r) := by
  unfold k0_pay2
  have e := rstd_apply x
  generalize k0_pay1 (F := Ideal) x = v at e
  pointwise [e]
  rfl
theorem block_x (r : Fin 256) (q : Fin 2048) : k0_pay3 (F := Ideal) x y g (ix2 r q) = dRow (row x r) (row g 0) (row y r) q := by
  unfold k0_pay3 dRow
  have e := rstd_apply x
  have e2 := xhat_apply x
  generalize k0_pay1 (F := Ideal) x = v at e
  generalize k0_pay2 (F := Ideal) x = w at e2
  pointwise [e, e2]
  rfl
theorem block_g (q : Fin 2048) : k0_pay5 (F := Ideal) x y (k0_pay4 (F := Ideal)) (ix2 0 q) = ∑ r : Fin 256, row y r q * (row x r q * rstd (row x r)) := by
  unfold k0_pay5 k0_pay4
  have e2 := xhat_apply x
  generalize k0_pay2 (F := Ideal) x = w at e2
  pointwise [e2]
  rfl
end

/-- The blocks the windows are on at the one point. -/
theorem idx_facts : ∀ t : Fin grid0.N,
    win0_0.index t 0 = 0 ∧ win0_0.index t 1 = 0 ∧ win0_1.index t 0 = 0 ∧ win0_1.index t 1 = 0 ∧
    win0_2.index t 0 = 0 ∧ win0_2.index t 1 = 0 ∧ win0_3.index t 0 = 0 ∧ win0_3.index t 1 = 0 ∧
    win0_4.index t 0 = 0 ∧ win0_4.index t 1 = 0 := by decide +kernel

variable (m : (ℓ : Loc nD τ sig) → Buf (Elt Ideal) ℓ) (c : Dev nD)

abbrev argX : FVec Ideal S256x2048 .f32 := m ((c : Thread nD τ).loc main_arg0)
abbrev argG : FVec Ideal S2048 .f32 := m ((c : Thread nD τ).loc main_arg1)
abbrev argY : FVec Ideal S256x2048 .f32 := m ((c : Thread nD τ).loc main_arg2)

/-- The scales as the kernel gets them. -/
theorem V_v0 : V m c main_v0 = shapeCast S1x2048 (argG m c) shapeCasts_S2048_S1x2048 := by
  unfold V hostOps0
  after_results_simp <;> rfl

theorem iblk_x (t : Fin cfg0.N) (r : Fin 256) : row (iblk m c 0 t : FVec Ideal S256x2048 .f32) r = row (argX m c) r := by
  funext q
  unfold row
  blk_ext [iblk, V_main_arg0 m c, idx_facts t]
theorem iblk_y (t : Fin cfg0.N) (r : Fin 256) : row (iblk m c 2 t : FVec Ideal S256x2048 .f32) r = row (argY m c) r := by
  funext q
  unfold row
  blk_ext [iblk, V_main_arg2 m c, idx_facts t]
theorem iblk_g (t : Fin cfg0.N) : row (iblk m c 1 t : FVec Ideal S1x2048 .f32) 0 = scales (argG m c) := by
  funext q
  unfold row scales
  refine Eq.trans (b := V m c main_v0 (ix2 0 q)) ?_ ?_
  · blk_ext [iblk, idx_facts t]
  · rw [V_v0]
    pointwise

theorem array_x : (dats m 0 c).arrAt 3 cfg0.N = dInput (argX m c) (argG m c) (argY m c) := by
  refine (dats m 0 c).arrAt_eq_of_covers 3 _ (by decide +kernel) fun t hf y => ?_
  blk_simp [idx_facts t]
  rw [after0_3]
  have e : (outsAt0 m c t).1 = k0_pay3 (iblk m c 0 t) (iblk m c 2 t) (iblk m c 1 t) := by
    unfold outsAt0
    dsimp only
    frame_out
  rw [e]
  obtain ⟨r, q, rfl⟩ : ∃ (r : Fin 256) (q : Fin 2048), y = ix2 r q := ⟨y 0, y 1, eq_ix2 y⟩
  rw [block_x, iblk_x, iblk_y, iblk_g]
  refine Eq.trans (b := dInput (argX m c) (argG m c) (argY m c) (ix2 r q)) rfl ?_
  blk_ext [idx_facts t]

theorem array_g : (dats m 0 c).arrAt 4 cfg0.N = dScale (argX m c) (argY m c) := by
  refine (dats m 0 c).arrAt_eq_of_covers 4 _ (by decide +kernel) fun t hf y => ?_
  blk_simp [idx_facts t]
  rw [after0_4]
  have e : (outsAt0 m c t).2 = k0_pay5 (iblk m c 0 t) (iblk m c 2 t) (k0_pay4 (F := Ideal)) := by
    unfold outsAt0
    dsimp only
    frame_out
  rw [e]
  obtain ⟨z, q, rfl⟩ : ∃ (z : Fin 1) (q : Fin 2048), y = ix2 z q := ⟨y 0, y 1, eq_ix2 y⟩
  obtain rfl : z = 0 := Subsingleton.elim _ _
  rw [block_g]
  simp only [iblk_x, iblk_y]
  refine Eq.trans (b := dScale (argX m c) (argY m c) (ix2 0 q)) rfl ?_
  blk_ext [idx_facts t]

theorem frame_printed : Cert.quiescent_NormD := fun m g _ => Cert.NormD.Gen.frame m g
theorem frame_ideal : Cert.quiescent_NormDIdeal := fun m g _ => Cert.NormDIdeal.Gen.frame m g
theorem frame_reference : Cert.quiescent_NormDRefIdeal := fun m g _ =>
  (θ_run Cert.NormDRefIdeal.defs _ _).mono
    (fun r h => And.intro (fun c => (h c).2.2) (sem_eq_zero_of_no_sems (by decide) r.2))
    (Cert.NormDRefIdeal.Value.run (F := Ideal) m g)

theorem algebra : Cert.algebraic_NormDIdeal_NormDRefIdeal := by
  intro m g m' g' _ hargs
  refine ⟨fun c => dInput (argX m c) (argG m c) (argY m c), fun c => dScale (argX m c) (argY m c), ?_, ?_⟩
  · refine (θ_run Cert.NormDIdeal.defs _ _).mono (fun r h c => ?_) (Cert.NormDIdeal.Value.run_blocks (F := Ideal) m g)
    obtain ⟨h0, h1, h2⟩ := h c
    exact ⟨h0.trans (array_x m c), h1.trans (array_g m c), h2⟩
  · refine (θ_run Cert.NormDRefIdeal.defs _ _).mono (fun r h c => ?_) (Cert.NormDRefIdeal.Value.run (F := Ideal) m' g')
    obtain ⟨h0, h1, h2⟩ := h c
    obtain ⟨e0, e1, e2⟩ := hargs c
    refine ⟨h0.trans ?_, h1.trans ?_, h2⟩
    · rw [e0, e1, e2]
      exact Cert.NormDRefIdeal.Norm.outX_eq _ _ _
    · rw [e0, e2]
      exact Cert.NormDRefIdeal.Norm.outG_eq _ _

end Cert.NormDIdeal.Norm
end
-- ==== Proof.GateF.lean ====
/-
  The MLP's activation: the causal convolution of gates and values over time, and their product, the gates through the
  logistic function.
-/
module

public import proofs.«01_k».proof.Defs
public import proofs.«01_k».proof.Proof.Gen.GateF.Frame
public import proofs.«01_k».proof.Proof.Gen.GateFIdeal.Value
public import proofs.«01_k».proof.Proof.Gen.GateFRefIdeal.Run
public import proofs.«01_k».proof.Proof.GateRef
public import proofs.«01_k».proof.Proof.GateSpec
public import Idealize.ShloMosaic.Lib.Pipeline.ValueKit
public import Idealize.ShloMosaic.Lib.Pointwise
public import Idealize.ShloMosaic.Adequacy
public import Idealize.ShloMosaic.Init

@[expose] public section
set_option maxRecDepth 16384
noncomputable section
namespace Cert.GateModel
open Idealize.ShloMosaic

/-- A channel's activation at row `t`, and the activations of the whole arrays. -/
def act (x y : Fin 2048 → EReal) (w v : Fin 3 → EReal) (t : ℕ) : EReal := (conv x w t * sig (conv x w t)) * conv y v t
def acts (u : FVec Ideal ⟨2, ![2048, 11264]⟩ .f32) (k : FVec Ideal ⟨2, ![3, 11264]⟩ .f32) : FVec Ideal ⟨2, ![2048, 5632]⟩ .bf16 :=
  fun i => act (chan u (gcol (i 1))) (chan u (vcol (i 1))) (taps k (gcol (i 1))) (taps k (vcol (i 1))) (i 0).val

end Cert.GateModel

namespace Cert.GateFRefIdeal.Gate
open Cert.GateRefIdeal Cert.GateRefIdeal.Gen Cert.GateRefIdeal.Gate Idealize.ShloMosaic Idealize.ShloMosaic.TcCoe Idealize.SL.Sem Cert.GateModel

variable (u : FVec Ideal S2048x11264 .f32) (k : FVec Ideal S3x11264 .f32)

/-- The reference's result, by the parts of the gradient's reference. -/
def out3 : FVec Ideal S1x2048x5632 .f32 := mulf (mulf (cg u k) (sg u k)) (cl u k)
def out : FVec Ideal S2048x5632 .bf16 := truncf .bf16 (shapeCast S2048x5632 (out3 u k) (by decide)) bitsLt_bf16_f32
theorem out3_apply (b : Fin 1) (t : Fin 2048) (q : Fin 5632) :
    out3 u k (ix3 b t q) = act (chan u (gcol q)) (chan u (vcol q)) (taps k (gcol q)) (taps k (vcol q)) t.val := by
  have e : out3 u k (ix3 b t q) = (cg u k (ix3 b t q) * sg u k (ix3 b t q)) * cl u k (ix3 b t q) := rfl
  rw [e, cg_apply, cl_apply, sg_apply]
  rfl
theorem out_eq : out u k = acts u k := by
  funext i
  obtain ⟨t, q, rfl⟩ : ∃ (t : Fin 2048) (q : Fin 5632), i = ix2 t q := ⟨i 0, i 1, eq_ix2 i⟩
  have h1 := out3_apply u k
  unfold out
  generalize out3 u k = x1 at h1
  pointwise [h1]
  rfl
theorem res_eq (m : (ℓ : Loc Cert.GateFRefIdeal.nD Cert.GateFRefIdeal.τ Cert.GateFRefIdeal.sig) → Buf (Elt Ideal) ℓ) (c : Dev Cert.GateFRefIdeal.nD) :
    Cert.GateFRefIdeal.Value.res_out0 m c = out (m ((c.tc : Thread _ _).loc Cert.GateFRefIdeal.main_arg0)) (m ((c.tc : Thread _ _).loc Cert.GateFRefIdeal.main_arg1)) := rfl

end Cert.GateFRefIdeal.Gate

namespace Cert.GateFIdeal.Gate
open Cert.GateFIdeal Cert.GateFIdeal.Gen Idealize.ShloMosaic Idealize.ShloMosaic.TcCoe Idealize.SL.Sem
open Cert.GateModel (at0 conv act acts gcol vcol chan taps at0_lt pad_lt pad_ge pad_two)

/-! ## A point's block -/

/-- The rows of a tile moved down by `s`, the last of the eight rows before it moved in. -/
def down (s : BitVec 32) (x : FVec Ideal S256x512 .f32) (p : FVec Ideal S8x512 .f32) : FVec Ideal S256x512 .f32 :=
  concatenate S256x512 0 [⟨S8x512, select (cmpi .slt (iota .tc S8x512 32 [0] iota_S8x512_d0_w32) (broadcast S8x512 s)) (dynamicRotate 0 s none p rotates_S8x512_d0) (extractStridedSlice S8x512 ![0, 0] (dynamicRotate 0 s none x rotates_S256x512_d0) slices_S256x512_o0_0_S8x512)⟩,
    ⟨S248x512, extractStridedSlice S248x512 ![8, 0] (dynamicRotate 0 s none x rotates_S256x512_d0) slices_S256x512_o8_0_S248x512⟩] concatenates_S8x512_S248x512_S256x512_d0

/-- A row of the taps, the tile's convolution, the block. -/
abbrev tap (x : Vec Ideal S3x512 .f32) (k : ℕ) (h : ∀ b, ![k, 0] b + ![1, 512] b ≤ S3x512.size b := by decide) : Vec Ideal S1x512 .f32 :=
  View.ld x (Rect.unit ![k, 0] ![1, 512] h)
def convB (x : FVec Ideal S256x512 .f32) (p : FVec Ideal S8x512 .f32) (w0 w1 w2 : FVec Ideal S1x512 .f32) : FVec Ideal S256x512 .f32 :=
  addf (addf (mulf (broadcastTo S256x512 w0 broadcasts_S1x512_S256x512) (down 2#32 x p)) (mulf (broadcastTo S256x512 w1 broadcasts_S1x512_S256x512) (down 1#32 x p)))
    (mulf (broadcastTo S256x512 w2 broadcasts_S1x512_S256x512) x)
def halo (i : grid0.Coords) (p : FVec Ideal S8x512 .f32) : FVec Ideal S8x512 .f32 := mulf p (broadcast S8x512 (k0_pay1 (F := Ideal) i))
def convAt (i : grid0.Coords) (x : FVec Ideal S256x512 .f32) (p : FVec Ideal S8x512 .f32) (w : FVec Ideal S3x512 .f32) : FVec Ideal S256x512 .f32 :=
  convB x (halo i p) (tap w 0) (tap w 1) (tap w 2)
def gated (a b : FVec Ideal S256x512 .f32) : FVec Ideal S256x512 .bf16 :=
  truncf .bf16 (mulf (mulf a (divf (broadcast S256x512 (Scalar.ofBits (F := Ideal) .f32 0x3F800000#32)) (addf (broadcast S256x512 (Scalar.ofBits (F := Ideal) .f32 0x3F800000#32)) (exp (subf (broadcast S256x512 (Scalar.ofBits (F := Ideal) .f32 0x00000000#32)) a))))) b) bitsLt_bf16_f32

theorem block_eq (i : grid0.Coords) (x0 x1 : Vec Ideal S256x512 .f32) (x2 x3 : Vec Ideal S8x512 .f32) (x4 x5 : Vec Ideal S3x512 .f32) :
    out0_6 (F := Ideal) i x0 x1 x2 x3 x4 x5 = gated (convAt i x0 x2 x4) (convAt i x1 x3 x5) := by
  frame_out
  rfl

theorem lt_two : ∀ n : Fin 8, IntOp.cmpi .slt (BitVec.ofNat 32 n.val) 2#32 = if n.val < 2 then 1#1 else 0#1 := by decide
theorem lt_one : ∀ n : Fin 8, IntOp.cmpi .slt (BitVec.ofNat 32 n.val) 1#32 = if n.val < 1 then 1#1 else 0#1 := by decide

section
variable (x : FVec Ideal S256x512 .f32) (p : FVec Ideal S8x512 .f32)
theorem down_two (r : Fin 256) (q : Fin 512) : down 2#32 x p (ix2 r q) = if h : r.val < 2 then p (ix2 ⟨r.val + 6, by omega⟩ q) else x (ix2 ⟨r.val - 2, by omega⟩ q) := by
  unfold down
  pointwise
  by_cases h8 : r.val < 8
  · rw [dif_pos h8, lt_two ⟨r.val, h8⟩]
    by_cases h : r.val < 2
    · rw [dif_pos h, if_pos h]
      exact congrArg p (congrArg (ix2 · q) (Fin.ext (show (r.val + 8 - 2) % 8 = r.val + 6 by omega)))
    · rw [dif_neg h, if_neg h]
      exact congrArg x (congrArg (ix2 · q) (Fin.ext (show (r.val + 256 - 2) % 256 = r.val - 2 by omega)))
  · rw [dif_neg h8, dif_neg (by omega)]
    exact congrArg x (congrArg (ix2 · q) (Fin.ext (show (8 + (r.val - 8) + 256 - 2) % 256 = r.val - 2 by omega)))
theorem down_one (r : Fin 256) (q : Fin 512) : down 1#32 x p (ix2 r q) = if h : r.val < 1 then p (ix2 ⟨r.val + 7, by omega⟩ q) else x (ix2 ⟨r.val - 1, by omega⟩ q) := by
  unfold down
  pointwise
  by_cases h8 : r.val < 8
  · rw [dif_pos h8, lt_one ⟨r.val, h8⟩]
    by_cases h : r.val < 1
    · rw [dif_pos h, if_pos h]
      exact congrArg p (congrArg (ix2 · q) (Fin.ext (show (r.val + 8 - 1) % 8 = r.val + 7 by omega)))
    · rw [dif_neg h, if_neg h]
      exact congrArg x (congrArg (ix2 · q) (Fin.ext (show (r.val + 256 - 1) % 256 = r.val - 1 by omega)))
  · rw [dif_neg h8, dif_neg (by omega)]
    exact congrArg x (congrArg (ix2 · q) (Fin.ext (show (8 + (r.val - 8) + 256 - 1) % 256 = r.val - 1 by omega)))
end

/-- `b` holds the rows of tile `n`, and `p`, where there is a tile before, the eight rows before it. -/
structure Tile (n : ℕ) (x : Fin 512 → Fin 2048 → EReal) (b : FVec Ideal S256x512 .f32) (p : FVec Ideal S8x512 .f32) : Prop where
  body : ∀ r q, b (ix2 r q) = at0 (x q) (n * 256 + r.val)
  before : 0 < n → ∀ r q, p (ix2 r q) = at0 (x q) (n * 256 - 8 + r.val)

theorem first_word : ∀ n : Fin 8, (Scalar.extui (Scalar.cmpi .sgt (BitVec.ofNat 32 n.val) 0#32) : BitVec 32).toInt = if 0 < n.val then 1 else 0 := by decide

section
variable {i : grid0.Coords} {n : ℕ} (hi : (i 1).val = n) (hn : n < 8) {x : Fin 512 → Fin 2048 → EReal} {b : FVec Ideal S256x512 .f32} {p : FVec Ideal S8x512 .f32} (hb : Tile n x b p)
include hi hn

/-- Whether there is a tile before, as a number. -/
theorem first_apply : k0_pay1 (F := Ideal) i = if 0 < n then (1 : EReal) else 0 := by
  have e : k0_pay1 (F := Ideal) i = (((Scalar.extui (Scalar.cmpi .sgt (BitVec.ofNat 32 n) 0#32) : BitVec 32).toInt : ℝ) : EReal) := by
    rw [← hi]; rfl
  rw [e, first_word ⟨n, hn⟩]
  split <;> simp

include hb
theorem halo_apply (r : Fin 8) (q : Fin 512) : halo i p (ix2 r q) = if 0 < n then at0 (x q) (n * 256 - 8 + r.val) else 0 := by
  have e : halo i p (ix2 r q) = p (ix2 r q) * k0_pay1 (F := Ideal) i := rfl
  rw [e, first_apply hi hn]
  by_cases h : 0 < n
  · rw [if_pos h, if_pos h, mul_one, hb.before h]
  · rw [if_neg h, if_neg h, mul_zero]
theorem down_two_apply (r : Fin 256) (q : Fin 512) : down 2#32 b (halo i p) (ix2 r q) = GateModel.pad (x q) (n * 256 + r.val) := by
  rw [down_two]
  by_cases h : r.val < 2
  · rw [dif_pos h, halo_apply hi hn hb]
    by_cases h0 : 0 < n
    · rw [if_pos h0, pad_ge _ (by omega)]
      exact congrArg _ (show n * 256 - 8 + (r.val + 6) = n * 256 + r.val - 2 by omega)
    · rw [if_neg h0, pad_lt _ (by omega)]
  · rw [dif_neg h, hb.body, pad_ge _ (by omega)]
    exact congrArg _ (show n * 256 + (r.val - 2) = n * 256 + r.val - 2 by omega)
theorem down_one_apply (r : Fin 256) (q : Fin 512) : down 1#32 b (halo i p) (ix2 r q) = GateModel.pad (x q) (n * 256 + r.val + 1) := by
  rw [down_one]
  by_cases h : r.val < 1
  · rw [dif_pos h, halo_apply hi hn hb]
    by_cases h0 : 0 < n
    · rw [if_pos h0, pad_ge _ (by omega)]
      exact congrArg _ (show n * 256 - 8 + (r.val + 7) = n * 256 + r.val + 1 - 2 by omega)
    · rw [if_neg h0, pad_lt _ (by omega)]
  · rw [dif_neg h, hb.body, pad_ge _ (by omega)]
    exact congrArg _ (show n * 256 + (r.val - 1) = n * 256 + r.val + 1 - 2 by omega)

/-- The tile's convolution. -/
theorem convAt_apply (w : FVec Ideal S3x512 .f32) (r : Fin 256) (q : Fin 512) : convAt i b p w (ix2 r q) = conv (x q) (fun j => w (ix2 j q)) (n * 256 + r.val) := by
  have h2 := down_two_apply hi hn hb
  have h1 := down_one_apply hi hn hb
  have h0 := hb.body
  unfold convAt convB
  generalize down 2#32 b (halo i p) = x2 at h2
  generalize down 1#32 b (halo i p) = x1 at h1
  pointwise [h2, h1, h0, tap]
  rw [← pad_two]
  rfl
end

theorem gated_apply (a b : FVec Ideal S256x512 .f32) (j : S256x512.Idx) : gated a b j = (a j * GateModel.sig (a j)) * b j := by
  obtain ⟨r, q, rfl⟩ : ∃ (r : Fin 256) (q : Fin 512), j = ix2 r q := ⟨j 0, j 1, eq_ix2 j⟩
  unfold gated GateModel.sig
  pointwise
  rw [zero_sub]

/-! ## The array -/

/-- The blocks the windows are on at point `t`: row tile `t % 8` of channels `512 (t / 8) …`. -/
theorem idx_all : ∀ t : Fin grid0.N,
    (win0_0.index t 0 = t.val % 8 ∧ win0_1.index t 0 = t.val % 8 ∧ win0_2.index t 0 = t.val % 8 * 32 - 1 ∧ win0_3.index t 0 = t.val % 8 * 32 - 1 ∧
      win0_4.index t 0 = 0 ∧ win0_5.index t 0 = 0 ∧ win0_6.index t 0 = t.val % 8) ∧
    (win0_0.index t 1 = t.val / 8 ∧ win0_1.index t 1 = t.val / 8 + 11 ∧ win0_2.index t 1 = t.val / 8 ∧ win0_3.index t 1 = t.val / 8 + 11 ∧
      win0_4.index t 1 = t.val / 8 ∧ win0_5.index t 1 = t.val / 8 + 11 ∧ win0_6.index t 1 = t.val / 8) := by decide +kernel
theorem coord_rows : ∀ t : Fin grid0.N, (grid0.coords t 1).val = t.val % 8 := by decide +kernel
theorem tlt (t : Fin cfg0.N) : t.val < 88 := t.isLt

variable (m : (ℓ : Loc nD τ sig) → Buf (Elt Ideal) ℓ) (c : Dev nD)

/-- The argument arrays. -/
abbrev argU : FVec Ideal S2048x11264 .f32 := m ((c : Thread nD τ).loc main_arg0)
abbrev argK : FVec Ideal S3x11264 .f32 := m ((c : Thread nD τ).loc main_arg1)

/-- The channel of column `q` of a point's blocks. -/
abbrev chOf (t : Fin cfg0.N) (q : Fin 512) : Fin 5632 := ⟨t.val / 8 * 512 + q.val, by have := tlt t; omega⟩

theorem at0_eq {x : Fin 2048 → EReal} {n : ℕ} (k : Fin 2048) (h : k.val = n) : x k = at0 x n := by
  subst h
  exact (at0_lt x k).symm

theorem iblk_g (t : Fin cfg0.N) : Tile (t.val % 8) (fun q => chan (argU m c) (gcol (chOf t q))) (iblk m c 0 t) (iblk m c 2 t) := by
  have ht := tlt t
  refine ⟨fun r q => Eq.trans ?_ (at0_eq ⟨t.val % 8 * 256 + r.val, by omega⟩ rfl),
    fun h r q => Eq.trans ?_ (at0_eq ⟨t.val % 8 * 256 - 8 + r.val, by omega⟩ rfl)⟩
  all_goals
    unfold chan
    blk_ext [iblk, V, (idx_all t).1, (idx_all t).2]
theorem iblk_v (t : Fin cfg0.N) : Tile (t.val % 8) (fun q => chan (argU m c) (vcol (chOf t q))) (iblk m c 1 t) (iblk m c 3 t) := by
  have ht := tlt t
  refine ⟨fun r q => Eq.trans ?_ (at0_eq ⟨t.val % 8 * 256 + r.val, by omega⟩ rfl),
    fun h r q => Eq.trans ?_ (at0_eq ⟨t.val % 8 * 256 - 8 + r.val, by omega⟩ rfl)⟩
  all_goals
    unfold chan
    blk_ext [iblk, V, (idx_all t).1, (idx_all t).2]
theorem iblk_kg (t : Fin cfg0.N) (q : Fin 512) : (fun j => (iblk m c 4 t : FVec Ideal S3x512 .f32) (ix2 j q)) = taps (argK m c) (gcol (chOf t q)) := by
  have ht := tlt t
  funext j
  unfold taps
  blk_ext [iblk, V, (idx_all t).1, (idx_all t).2]
theorem iblk_kv (t : Fin cfg0.N) (q : Fin 512) : (fun j => (iblk m c 5 t : FVec Ideal S3x512 .f32) (ix2 j q)) = taps (argK m c) (vcol (chOf t q)) := by
  have ht := tlt t
  funext j
  unfold taps
  blk_ext [iblk, V, (idx_all t).1, (idx_all t).2]

theorem modlt (t : Fin cfg0.N) : t.val % 8 < 8 := Nat.mod_lt _ (by decide)

theorem block_value (t : Fin cfg0.N) (r : Fin 256) (q : Fin 512) :
    out0_6 (F := Ideal) (grid0.coords t) (iblk m c 0 t) (iblk m c 1 t) (iblk m c 2 t) (iblk m c 3 t) (iblk m c 4 t) (iblk m c 5 t) (ix2 r q)
      = act (chan (argU m c) (gcol (chOf t q))) (chan (argU m c) (vcol (chOf t q))) (taps (argK m c) (gcol (chOf t q))) (taps (argK m c) (vcol (chOf t q))) (t.val % 8 * 256 + r.val) := by
  rw [block_eq, gated_apply, convAt_apply (coord_rows t) (modlt t) (iblk_g m c t), convAt_apply (coord_rows t) (modlt t) (iblk_v m c t), iblk_kg, iblk_kv]
  rfl

theorem array_eq : (dats m 0 c).arrAt 6 cfg0.N = acts (argU m c) (argK m c) := by
  refine (dats m 0 c).arrAt_eq_of_covers 6 _ (by decide +kernel) fun t hf y => ?_
  have ht := tlt t
  blk_simp [(idx_all t).1, (idx_all t).2]
  rw [after0_6]
  obtain ⟨r, q, rfl⟩ : ∃ (r : Fin 256) (q : Fin 512), y = ix2 r q := ⟨y 0, y 1, eq_ix2 y⟩
  rw [block_value]
  refine Eq.trans (b := acts (argU m c) (argK m c) (ix2 ⟨t.val % 8 * 256 + r.val, by omega⟩ (chOf t q))) rfl ?_
  blk_ext [(idx_all t).1, (idx_all t).2]

/-! ## The claims -/

theorem frame_printed : Cert.quiescent_GateF := fun m g _ => Cert.GateF.Gen.frame m g
theorem frame_ideal : Cert.quiescent_GateFIdeal := fun m g _ => Cert.GateFIdeal.Gen.frame m g
theorem frame_reference : Cert.quiescent_GateFRefIdeal := fun m g _ =>
  (θ_run Cert.GateFRefIdeal.defs _ _).mono
    (fun r h => And.intro (fun c => (h c).2) (sem_eq_zero_of_no_sems (by decide) r.2))
    (Cert.GateFRefIdeal.Value.run (F := Ideal) m g)

theorem algebra : Cert.algebraic_GateFIdeal_GateFRefIdeal := by
  intro m g m' g' _ hargs
  refine ⟨fun c => acts (argU m c) (argK m c), ?_, ?_⟩
  · refine (θ_run Cert.GateFIdeal.defs _ _).mono (fun r h c => ?_) (Cert.GateFIdeal.Value.run_blocks (F := Ideal) m g)
    exact ⟨(h c).1.trans (array_eq m c), (h c).2⟩
  · refine (θ_run Cert.GateFRefIdeal.defs _ _).mono (fun r h c => ?_) (Cert.GateFRefIdeal.Value.run (F := Ideal) m' g')
    obtain ⟨e0, e1⟩ := hargs c
    refine ⟨(h c).1.trans ((Cert.GateFRefIdeal.Gate.res_eq m' c).trans ?_), (h c).2⟩
    rw [e0, e1]
    exact Cert.GateFRefIdeal.Gate.out_eq _ _

end Cert.GateFIdeal.Gate
end
-- ==== Proof.AdamModel.lean ====
/-
  The optimiser's step, number by number, and of the whole arrays: the eight gathered gradients added, the two moments and
  the change of the weights.
-/
module

public import Idealize.ShloMosaic.Lib.Pointwise

@[expose] public section
noncomputable section
namespace Cert.AdamModel
open Idealize.ShloMosaic

/-- A number's moments after the step and its change, from its gradient `g`. -/
def mean (m g : EReal) : EReal := Ideal.ofBits .f32 0x3F666666#32 * m + Ideal.ofBits .f32 0x3DCCCCCD#32 * g
def square (v g : EReal) : EReal := Ideal.ofBits .f32 0x3F7FBE77#32 * v + Ideal.ofBits .f32 0x3A83126F#32 * (g * g)
def change (w m v g : EReal) : EReal :=
  Ideal.ofBits .f32 0xBA83126F#32 *
    (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

/-- The sum of the eight gradients, and the step's arrays. -/
def total (d : FTy) {n k : ℕ} (p : FVec Ideal ⟨3, ![8, n, k]⟩ d) (r : Fin n) (q : Fin k) : EReal := ∑ s : Fin 8, p (ix3 s r q)
variable {d : FTy} {n k : ℕ} (p : FVec Ideal ⟨3, ![8, n, k]⟩ d) (w mo v : FVec Ideal ⟨2, ![n, k]⟩ .f32)
def sumA : FVec Ideal ⟨2, ![n, k]⟩ .f32 := fun i => total d p (i 0) (i 1)
def changeA : FVec Ideal ⟨2, ![n, k]⟩ .f32 := fun i => change (w i) (mo i) (v i) (total d p (i 0) (i 1))
def meanA : FVec Ideal ⟨2, ![n, k]⟩ .f32 := fun i => mean (mo i) (total d p (i 0) (i 1))
def squareA : FVec Ideal ⟨2, ![n, k]⟩ .f32 := fun i => square (v i) (total d p (i 0) (i 1))

end Cert.AdamModel
end
-- ==== Proof.Adam.lean ====
/-
  The optimiser's step at the up projection's shard: the eight gathered gradients added, the two moments and the change of
  the weights.
-/
module

public import proofs.«01_k».proof.Defs
public import proofs.«01_k».proof.Proof.AdamModel
public import proofs.«01_k».proof.Proof.Gen.AdamIdeal.Value
public import proofs.«01_k».proof.Proof.Gen.AdamRefIdeal.Run
public import proofs.«01_k».proof.Proof.Gen.Adam.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamRefIdeal.Step
open Cert.AdamRefIdeal Cert.AdamRefIdeal.Gen Idealize.ShloMosaic Idealize.ShloMosaic.TcCoe Idealize.SL.Sem

/-- The reference's sum of the eight gradients. -/
def refSum (p : FVec Ideal S8x2048x1408 .bf16) : FVec Ideal S2048x1408 .f32 :=
  Host.reduceAdd (extf .f32 p bitsLt_bf16_f32) (constant S_ .f32 0x00000000#32) reducesTo_S8x2048x1408_S2048x1408_d0 h_S_
theorem refSum_apply (p : FVec Ideal S8x2048x1408 .bf16) (r : Fin 2048) (q : Fin 1408) : refSum p (ix2 r q) = ∑ k : Fin 8, p (ix3 k r q) := by
  unfold refSum
  pointwise

end Cert.AdamRefIdeal.Step

namespace Cert.AdamIdeal.Step
open Cert.AdamIdeal Cert.AdamIdeal.Gen Idealize.ShloMosaic Idealize.ShloMosaic.TcCoe Idealize.SL.Sem
open Cert.AdamModel

section
variable (x0 : Vec Ideal S8x128x1408 .bf16) (x1 x2 x3 : Vec Ideal S128x1408 .f32)

theorem piece_apply (a : ℕ) (ha : a < 8) (h) (r : Fin 128) (q : Fin 1408) :
    (View.ld x0 (Rect.unit (s := S8x128x1408) ![a, 0, 0] S1x128x1408.size h) : FVec Ideal S1x128x1408 .bf16) (ix3 0 r q) = x0 (ix3 ⟨a, ha⟩ r q) := by
  refine View.ld_unit_apply_of _ _ _ _ _ _ fun b => ?_
  fin_cases b <;> simp

theorem total_apply (r : Fin 128) (q : Fin 1408) : k0_pay5 x0 x1 x2 x3 (ix2 r q) = total .bf16 x0 r q := by
  unfold k0_pay5 k0_pay4 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem out_4 (r : Fin 128) (q : Fin 1408) : out0_4 x0 x1 x2 x3 (ix2 r q) = total .bf16 x0 r q := by
  have e : out0_4 x0 x1 x2 x3 = k0_pay5 x0 x1 x2 x3 := by frame_out
  rw [e, total_apply]
theorem out_5 (r : Fin 128) (q : Fin 1408) : out0_5 x0 x1 x2 x3 (ix2 r q) = change (x1 (ix2 r q)) (x2 (ix2 r q)) (x3 (ix2 r q)) (total .bf16 x0 r q) := by
  have e : out0_5 x0 x1 x2 x3 = k0_pay3 (k0_pay5 x0 x1 x2 x3) x2 (Scalar.ofBits .f32 0x3F666666#32) x3 x1 := by frame_out
  have e2 := total_apply x0 x1 x2 x3
  rw [e]
  unfold k0_pay3 k0_pay1 k0_pay2 change mean square
  generalize k0_pay5 x0 x1 x2 x3 = g at e2
  pointwise [e2]
theorem out_6 (r : Fin 128) (q : Fin 1408) : out0_6 x0 x1 x2 x3 (ix2 r q) = mean (x2 (ix2 r q)) (total .bf16 x0 r q) := by
  have e : out0_6 x0 x1 x2 x3 = k0_pay1 (k0_pay5 x0 x1 x2 x3) x2 (Scalar.ofBits .f32 0x3F666666#32) := by frame_out
  have e2 := total_apply x0 x1 x2 x3
  rw [e]
  unfold k0_pay1 mean
  generalize k0_pay5 x0 x1 x2 x3 = g at e2
  pointwise [e2]
theorem out_7 (r : Fin 128) (q : Fin 1408) : out0_7 x0 x1 x2 x3 (ix2 r q) = square (x3 (ix2 r q)) (total .bf16 x0 r q) := by
  have e : out0_7 x0 x1 x2 x3 = k0_pay2 (k0_pay5 x0 x1 x2 x3) x3 := by frame_out
  have e2 := total_apply x0 x1 x2 x3
  rw [e]
  unfold k0_pay2 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 16 := t.isLt

variable (m : (ℓ : Loc nD τ sig) → Buf (Elt Ideal) ℓ) (c : Dev nD)

abbrev argP : FVec Ideal S8x2048x1408 .bf16 := m ((c : Thread nD τ).loc main_arg0)
abbrev argW : FVec Ideal S2048x1408 .f32 := m ((c : Thread nD τ).loc main_arg1)
abbrev argM : FVec Ideal S2048x1408 .f32 := m ((c : Thread nD τ).loc main_arg2)
abbrev argV : FVec Ideal S2048x1408 .f32 := m ((c : Thread nD τ).loc main_arg3)

/-- Row `r` of row block `t`. -/
abbrev rowOf (t : Fin cfg0.N) (r : Fin 128) : Fin 2048 := ⟨t.val * 128 + r.val, by have := tlt t; omega⟩

theorem iblk_p (t : Fin cfg0.N) (r : Fin 128) (q : Fin 1408) : total .bf16 (iblk m c 0 t : FVec Ideal S8x128x1408 .bf16) r q = total .bf16 (argP m c) (rowOf t r) q := by
  unfold total
  refine Finset.sum_congr (M := EReal) rfl fun k _ => ?_
  blk_ext [iblk, V, idx_facts t]
theorem iblk_w (t : Fin cfg0.N) (r : Fin 128) (q : Fin 1408) : (iblk m c 1 t : FVec Ideal S128x1408 .f32) (ix2 r q) = argW m c (ix2 (rowOf t r) q) := by
  blk_ext [iblk, V, idx_facts t]
theorem iblk_m (t : Fin cfg0.N) (r : Fin 128) (q : Fin 1408) : (iblk m c 2 t : FVec Ideal S128x1408 .f32) (ix2 r q) = argM m c (ix2 (rowOf t r) q) := by
  blk_ext [iblk, V, idx_facts t]
theorem iblk_v (t : Fin cfg0.N) (r : Fin 128) (q : Fin 1408) : (iblk m c 3 t : FVec Ideal S128x1408 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 128) (q : Fin 1408), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 128) (q : Fin 1408), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 128) (q : Fin 1408), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 128) (q : Fin 1408), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_Adam := fun m g _ => Cert.Adam.Gen.frame m g
theorem frame_ideal : Cert.quiescent_AdamIdeal := fun m g _ => Cert.AdamIdeal.Gen.frame m g
theorem frame_reference : Cert.quiescent_AdamRefIdeal := fun m g _ =>
  (θ_run Cert.AdamRefIdeal.defs _ _).mono
    (fun r h => And.intro (fun c => (h c).2.2.2.2) (sem_eq_zero_of_no_sems (by decide) r.2))
    (Cert.AdamRefIdeal.Value.run (F := Ideal) m g)

theorem algebra : Cert.algebraic_AdamIdeal_AdamRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamIdeal.defs _ _).mono (fun r h c => ?_) (Cert.AdamIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamRefIdeal.defs _ _).mono (fun r h c => ?_) (Cert.AdamRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 2048) (q : Fin 1408), AdamRefIdeal.Step.refSum (argP m c) (ix2 r q) = total .bf16 (argP m c) r q := AdamRefIdeal.Step.refSum_apply (argP m c)
    unfold AdamRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 2048) (q : Fin 1408), i = ix2 r q := ⟨i 0, i 1, eq_ix2 i⟩
    · exact es r q
    · unfold changeA change mean square
      pointwise [es]
    · unfold meanA mean
      pointwise [es]
    · unfold squareA square
      pointwise [es]

end Cert.AdamIdeal.Step
end
-- ==== Proof.Loss.lean ====
/-
  The loss and its gradients by the last norm's input and scales: the kernel's three arrays and the reference's.
-/
module

public import proofs.«01_k».proof.Defs
public import proofs.«01_k».proof.Proof.Gen.LossIdeal.Value
public import proofs.«01_k».proof.Proof.Gen.LossRefIdeal.Run
public import proofs.«01_k».proof.Proof.Gen.Loss.Frame
public import proofs.«01_k».proof.Proof.NormRef
public import Idealize.ShloMosaic.Lib.Pipeline.ValueKit
public import Idealize.ShloMosaic.Lib.IdealHost
public import Idealize.ShloMosaic.Adequacy
public import Idealize.ShloMosaic.Init

@[expose] public section
set_option maxRecDepth 16384
noncomputable section
namespace Cert.LossModel
open Idealize.ShloMosaic Cert.NormModel

abbrev half : EReal := Ideal.ofBits .f32 0x3F000000#32
abbrev inv : EReal := Ideal.ofBits .f32 0x3A000000#32
theorem half_eq : half = ((1 / 2 : ℝ) : EReal) := by
  unfold half Ideal.ofBits Ideal.ieee
  dsimp only
  rw [if_neg (by decide), if_neg (by decide)]
  refine congrArg Real.toEReal ?_
  rw [if_neg (by decide)]
  norm_num [Nat.shiftRight_eq_div_pow]
theorem inv_eq : inv = ((1 / 2048 : ℝ) : EReal) := by
  unfold inv Ideal.ofBits Ideal.ieee
  dsimp only
  rw [if_neg (by decide), if_neg (by decide)]
  refine congrArg Real.toEReal ?_
  rw [if_neg (by decide)]
  norm_num [Nat.shiftRight_eq_div_pow]
theorem one_eq : Ideal.ofBits .f32 0x3F800000#32 = ((1 : ℝ) : EReal) := by
  unfold Ideal.ofBits Ideal.ieee
  dsimp only
  rw [if_neg (by decide), if_neg (by decide)]
  refine congrArg Real.toEReal ?_
  rw [if_neg (by decide)]
  norm_num [Nat.shiftRight_eq_div_pow]
theorem two_eq : Ideal.ofBits .f32 0x40000000#32 = ((2 : ℝ) : EReal) := by
  unfold Ideal.ofBits Ideal.ieee
  dsimp only
  rw [if_neg (by decide), if_neg (by decide)]
  refine congrArg Real.toEReal ?_
  rw [if_neg (by decide)]
  norm_num [Nat.shiftRight_eq_div_pow]

section
variable (x g t : Fin 2048 → EReal)
/-- A row's error, the cotangent it gives its norm, and its mean square. -/
def err (q : Fin 2048) : EReal := x q * rstd x * g q - t q
def cot (q : Fin 2048) : EReal := err x g t q * inv
def sqs : EReal := Ideal.div (∑ q, err x g t q * err x g t q) width
end

/-- The cotangent as the reference writes it. -/
theorem cot_eq (e : EReal) : Ideal.div (half * Ideal.ofBits .f32 0x3F800000#32) width * (Ideal.ofBits .f32 0x40000000#32 * e) = e * inv := by
  rw [width_eq, Ideal.div_coe (by norm_num), half_eq, one_eq, two_eq, inv_eq, ← EReal.coe_mul, ← EReal.coe_mul, ← mul_assoc, ← EReal.coe_mul, mul_comm e]
  refine congrArg (fun r : ℝ => (r : EReal) * e) ?_
  norm_num

variable (x : FVec Ideal ⟨2, ![2048, 2048]⟩ .f32) (g : FVec Ideal ⟨1, ![2048]⟩ .f32) (t : FVec Ideal ⟨2, ![2048, 2048]⟩ .f32)
/-- The loss, in a row of equal numbers, and the gradients by the input and by the scales. -/
def loss : FVec Ideal ⟨2, ![1, 128]⟩ .f32 := fun _ => half * ∑ s : Fin 2048, sqs (row x s) (scales g) (row t s)
def dInput : FVec Ideal ⟨2, ![2048, 2048]⟩ .f32 := fun i => dRow (row x (i 0)) (scales g) (cot (row x (i 0)) (scales g) (row t (i 0))) (i 1)
def dScale : FVec Ideal ⟨2, ![1, 2048]⟩ .f32 := fun i =>
  ∑ s : Fin 2048, cot (row x s) (scales g) (row t s) (i 1) * (row x s (i 1) * rstd (row x s))

end Cert.LossModel

namespace Cert.LossRefIdeal.Loss
open Cert.LossRefIdeal Cert.LossRefIdeal.Gen Idealize.ShloMosaic Idealize.ShloMosaic.TcCoe Idealize.SL.Sem Cert.NormModel Cert.LossModel

variable (x : FVec Ideal S2048x2048 .f32) (g : FVec Ideal S2048 .f32) (t : FVec Ideal S2048x2048 .f32)

/-- The error, its cotangent and the loss as the reference writes them. -/
def errs : FVec Ideal S2048x2048 .f32 :=
  subf (mulf (mulf x (NormRefIdeal.Norm.wide (NormRefIdeal.Norm.rs x))) (broadcastInDim S2048x2048 ![0, 1] bcast_S1x2048_S2048x2048_0_1 (broadcastInDim S1x2048 ![1] bcast_S2048_S1x2048_1 g))) t
def cots : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32))))
    (mulf (broadcastInDim S2048x2048 ![] bcast_S_S2048x2048 (constant S_ .f32 0x40000000#32)) (errs x g t))
def lossR : FVec Ideal S1x128 .f32 :=
  broadcastInDim S1x128 ![] bcast_S_S1x128 (mulf (constant S_ .f32 0x3F000000#32) (Host.reduceAdd
    (Host.divf (NormRefIdeal.Norm.sums (mulf (errs x g t) (errs x g t))) (broadcastInDim S2048 ![] bcast_S_S2048 (constant S_ .f32 0x45000000#32)))
    (constant S_ .f32 0x00000000#32) reducesTo_S2048_S_d0 h_S_))

theorem errs_apply (s q : Fin 2048) : errs x g t (ix2 s q) = err (row x s) (scales g) (row t s) q := by
  have e := NormRefIdeal.Norm.rs_apply x
  unfold errs NormRefIdeal.Norm.wide err
  generalize NormRefIdeal.Norm.rs x = v at e
  pointwise [e]
  rfl
theorem cots_apply (s q : Fin 2048) : cots x g t (ix2 s q) = cot (row x s) (scales g) (row t s) q := by
  have e := errs_apply x g t
  unfold cots cot
  rw [← cot_eq]
  generalize errs x g t = v at e
  pointwise [e]
theorem loss_eq : lossR x g t = loss x g t := by
  funext i
  have e := errs_apply x g t
  have e2 := NormRefIdeal.Norm.sums_apply (mulf (errs x g t) (errs x g t))
  obtain ⟨z, q, rfl⟩ : ∃ (z : Fin 1) (q : Fin 128), i = ix2 z q := ⟨i 0, i 1, eq_ix2 i⟩
  unfold lossR loss sqs
  generalize NormRefIdeal.Norm.sums (mulf (errs x g t) (errs x g t)) = s at e2
  generalize errs x g t = v at e e2
  pointwise [e, e2]
theorem dInput_eq : NormRefIdeal.Norm.grad x g (cots x g t) = dInput x g t := by
  funext i
  obtain ⟨s, q, rfl⟩ : ∃ (s : Fin 2048) (q : Fin 2048), i = ix2 s q := ⟨i 0, i 1, eq_ix2 i⟩
  have e : row (cots x g t) s = cot (row x s) (scales g) (row t s) := funext fun q => cots_apply x g t s q
  rw [NormRefIdeal.Norm.grad_apply, e]
  rfl
theorem dScale_eq : NormRefIdeal.Norm.outG x (cots x g t) = dScale x g t := by
  rw [NormRefIdeal.Norm.outG_eq]
  unfold gradG dScale
  have e : ∀ s, row (cots x g t) s = cot (row x s) (scales g) (row t s) := fun s => funext fun q => cots_apply x g t s q
  simp only [e]

end Cert.LossRefIdeal.Loss

namespace Cert.LossIdeal.Loss
open Cert.LossIdeal Cert.LossIdeal.Gen Idealize.ShloMosaic Idealize.ShloMosaic.TcCoe Idealize.SL.Sem Cert.NormModel Cert.LossModel

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S1x128 .f32) (harg4 : arg4.IsWhole) (arg5 : Memref sig .tc .vmem S256x2048 .f32) (harg5 : arg5.IsWhole) (arg6 : Memref sig .tc .vmem S1x2048 .f32) (harg6 : arg6.IsWhole)
    (x0 : Vec Ideal S256x2048 .f32) (x1 : Vec Ideal S1x2048 .f32) (x2 : Vec Ideal S256x2048 .f32) (xo3 : Vec Ideal S1x128 .f32) (xo5 : Vec Ideal S1x2048 .f32)

theorem out_A_3 (hc0 : cond0_0 i) : out0_A_3 c i arg1 harg1 arg2 harg2 arg3 harg3 arg4 harg4 arg5 harg5 arg6 harg6 hc0 x0 x1 x2 = k0_pay2 (k0_pay5 x0 x1 x2) (k0_pay9 (F := Ideal)) := by
  frame_out
theorem out_B_3 (hc0 : ¬cond0_0 i) : out0_B_3 c i arg1 harg1 arg2 harg2 arg3 harg3 arg4 harg4 arg5 harg5 arg6 harg6 hc0 x0 x1 x2 xo3 xo5 = k0_pay2 (k0_pay5 x0 x1 x2) xo3 := by
  frame_out
theorem out_A_4 (hc0 : cond0_0 i) : out0_A_4 c i arg1 harg1 arg2 harg2 arg3 harg3 arg4 harg4 arg5 harg5 arg6 harg6 hc0 x0 x1 x2 = k0_pay7 x0 x1 x2 x1 := by
  frame_out
theorem out_B_4 (hc0 : ¬cond0_0 i) : out0_B_4 c i arg1 harg1 arg2 harg2 arg3 harg3 arg4 harg4 arg5 harg5 arg6 harg6 hc0 x0 x1 x2 xo3 xo5 = k0_pay7 x0 x1 x2 x1 := by
  frame_out
theorem out_A_5 (hc0 : cond0_0 i) : out0_A_5 c i arg1 harg1 arg2 harg2 arg3 harg3 arg4 harg4 arg5 harg5 arg6 harg6 hc0 x0 x1 x2 = k0_pay1 (k0_pay4 x0) (k0_pay6 x0 x1 x2) (k0_pay8 (F := Ideal)) := by
  frame_out
theorem out_B_5 (hc0 : ¬cond0_0 i) : out0_B_5 c i arg1 harg1 arg2 harg2 arg3 harg3 arg4 harg4 arg5 harg5 arg6 harg6 hc0 x0 x1 x2 xo3 xo5 = k0_pay1 (k0_pay4 x0) (k0_pay6 x0 x1 x2) xo5 := by
  frame_out
end

section
variable (x t : Vec Ideal S256x2048 .f32) (g : Vec Ideal S1x2048 .f32) (l : Vec Ideal S1x128 .f32) (o : Vec Ideal S1x2048 .f32)

theorem rstd_apply (r : Fin 256) (z : Fin 1) : k0_pay3 (F := Ideal) x (ix2 r z) = rstd (row x r) := by
  unfold k0_pay3 rstd vari row
  pointwise
theorem xhat_apply (r : Fin 256) (q : Fin 2048) : k0_pay4 (F := Ideal) x (ix2 r q) = row x r q * rstd (row x r) := by
  unfold k0_pay4
  have e := rstd_apply x
  generalize k0_pay3 (F := Ideal) x = v at e
  pointwise [e]
  rfl
theorem err_apply (r : Fin 256) (q : Fin 2048) : k0_pay5 (F := Ideal) x g t (ix2 r q) = err (row x r) (row g 0) (row t r) q := by
  unfold k0_pay5 err
  have e := xhat_apply x
  generalize k0_pay4 (F := Ideal) x = v at e
  pointwise [e]
  rfl
theorem cot_apply (r : Fin 256) (q : Fin 2048) : k0_pay6 (F := Ideal) x g t (ix2 r q) = cot (row x r) (row g 0) (row t r) q := by
  unfold k0_pay6 cot
  have e := err_apply x t g
  generalize k0_pay5 (F := Ideal) x g t = v at e
  pointwise [e]
theorem block_x (r : Fin 256) (q : Fin 2048) : k0_pay7 (F := Ideal) x g t g (ix2 r q) = dRow (row x r) (row g 0) (cot (row x r) (row g 0) (row t r)) q := by
  unfold k0_pay7 dRow
  have e := rstd_apply x
  have e2 := xhat_apply x
  have e3 := cot_apply x t g
  generalize k0_pay3 (F := Ideal) x = v at e
  generalize k0_pay4 (F := Ideal) x = w at e2
  generalize k0_pay6 (F := Ideal) x g t = u at e3
  pointwise [e, e2, e3]
  rfl
theorem block_g (q : Fin 2048) : k0_pay1 (F := Ideal) (k0_pay4 x) (k0_pay6 x g t) o (ix2 0 q)
    = o (ix2 0 q) + ∑ r : Fin 256, cot (row x r) (row g 0) (row t r) q * (row x r q * rstd (row x r)) := by
  unfold k0_pay1
  have e2 := xhat_apply x
  have e3 := cot_apply x t g
  generalize k0_pay4 (F := Ideal) x = w at e2
  generalize k0_pay6 (F := Ideal) x g t = u at e3
  pointwise [e2, e3]
theorem block_l (q : Fin 128) : k0_pay2 (F := Ideal) (k0_pay5 x g t) l (ix2 0 q)
    = l (ix2 0 q) + half * ∑ r : Fin 256, sqs (row x r) (row g 0) (row t r) := by
  unfold k0_pay2 sqs
  have e := err_apply x t g
  generalize k0_pay5 (F := Ideal) x g t = v at e
  pointwise [e]
end

/-- The blocks the windows are on at a point. -/
theorem idx_facts : ∀ t : Fin grid0.N,
    win0_0.index t 0 = t.val ∧ win0_0.index t 1 = 0 ∧ win0_1.index t 0 = 0 ∧ win0_1.index t 1 = 0 ∧
    win0_2.index t 0 = t.val ∧ win0_2.index t 1 = 0 ∧ win0_3.index t 0 = 0 ∧ win0_3.index t 1 = 0 ∧
    win0_4.index t 0 = t.val ∧ win0_4.index t 1 = 0 ∧ win0_5.index t 0 = 0 ∧ win0_5.index t 1 = 0 := by decide +kernel

theorem tlt (t : Fin cfg0.N) : t.val < 8 := t.isLt

variable (m : (ℓ : Loc nD τ sig) → Buf (Elt Ideal) ℓ) (c : Dev nD)

/-- The argument arrays. -/
abbrev argX : FVec Ideal S2048x2048 .f32 := m ((c : Thread nD τ).loc main_arg0)
abbrev argG : FVec Ideal S2048 .f32 := m ((c : Thread nD τ).loc main_arg1)
abbrev argT : FVec Ideal S2048x2048 .f32 := m ((c : Thread nD τ).loc main_arg2)

/-- The scales as the kernel gets them. -/
theorem V_v0 : V m c main_v0 = shapeCast S1x2048 (argG m c) shapeCasts_S2048_S1x2048 := by
  unfold V hostOps0
  after_results_simp <;> rfl

/-- Row `r` of row block `t`. -/
abbrev rowOf (t : Fin cfg0.N) (r : Fin 256) : Fin 2048 := ⟨t.val * 256 + r.val, by have := tlt t; omega⟩

theorem iblk_x (t : Fin cfg0.N) (r : Fin 256) : row (iblk m c 0 t : FVec Ideal S256x2048 .f32) r = row (argX m c) (rowOf t r) := by
  funext q
  unfold row
  blk_ext [iblk, V_main_arg0 m c, idx_facts t]
theorem iblk_t (t : Fin cfg0.N) (r : Fin 256) : row (iblk m c 2 t : FVec Ideal S256x2048 .f32) r = row (argT m c) (rowOf t r) := by
  funext q
  unfold row
  blk_ext [iblk, V_main_arg2 m c, idx_facts t]
theorem iblk_g (t : Fin cfg0.N) : row (iblk m c 1 t : FVec Ideal S1x2048 .f32) 0 = scales (argG m c) := by
  funext q
  unfold row scales
  refine Eq.trans (b := V m c main_v0 (ix2 0 q)) ?_ ?_
  · blk_ext [iblk, idx_facts t]
  · rw [V_v0]
    pointwise

/-- A row's part of the gradient by the scales, and of the loss. -/
def partG (q : Fin 2048) (s : Fin 2048) : EReal :=
  cot (row (argX m c) s) (scales (argG m c)) (row (argT m c) s) q * (row (argX m c) s q * rstd (row (argX m c) s))
def partL (s : Fin 2048) : EReal := sqs (row (argX m c) s) (scales (argG m c)) (row (argT m c) s)
/-- A point's parts. -/
def termG (t : Fin cfg0.N) (i : S1x2048.Idx) : EReal := ∑ r : Fin 256, partG m c (i 1) (rowOf t r)
def termL (t : Fin cfg0.N) (_ : S1x128.Idx) : EReal := half * ∑ r : Fin 256, partL m c (rowOf t r)

theorem add_g (t : Fin cfg0.N) (o : FVec Ideal S1x2048 .f32) (i : S1x2048.Idx) :
    k0_pay1 (F := Ideal) (k0_pay4 (iblk m c 0 t)) (k0_pay6 (iblk m c 0 t) (iblk m c 1 t) (iblk m c 2 t)) o i = o i + termG m c t i := by
  obtain ⟨z, q, rfl⟩ : ∃ (z : Fin 1) (q : Fin 2048), i = ix2 z q := ⟨i 0, i 1, eq_ix2 i⟩
  obtain rfl : z = 0 := Subsingleton.elim _ _
  rw [block_g]
  unfold termG partG
  simp only [iblk_x, iblk_t, iblk_g]
  rfl
theorem add_l (t : Fin cfg0.N) (o : FVec Ideal S1x128 .f32) (i : S1x128.Idx) :
    k0_pay2 (F := Ideal) (k0_pay5 (iblk m c 0 t) (iblk m c 1 t) (iblk m c 2 t)) o i = o i + termL m c t i := by
  obtain ⟨z, q, rfl⟩ : ∃ (z : Fin 1) (q : Fin 128), i = ix2 z q := ⟨i 0, i 1, eq_ix2 i⟩
  obtain rfl : z = 0 := Subsingleton.elim _ _
  rw [block_l]
  unfold termL partL
  simp only [iblk_x, iblk_t, iblk_g]

/-- The eight row blocks' sums are the sum over the rows. -/
theorem blocks (t : Fin cfg0.N) (h : t.val % 8 = 7) (f : Fin 2048 → EReal) :
    (∑ s : Fin 8, ∑ r : Fin 256, f (rowOf ⟨8 * (t.val / 8) + s.val, by have := tlt t; have := s.isLt; show _ < 8; omega⟩ r)) = ∑ s : Fin 2048, f s := by
  have ht := tlt t
  rw [← Fin.sum_mul_add_fin (L := 2048) 8 256]
  refine Finset.sum_congr rfl fun s _ => Finset.sum_congr rfl fun r _ => ?_
  have hs := s.isLt
  have e3 : rowOf ⟨8 * (t.val / 8) + s.val, by show _ < 8; omega⟩ r = (⟨s.val * 256 + r.val, by omega⟩ : Fin 2048) := Fin.ext (by dsimp only; omega)
  rw [e3]

/-- After the last point, the gradient by the scales and the loss. -/
theorem last_g (t : Fin cfg0.N) (h : t.val % 8 = 7) (i : S1x2048.Idx) : (outsAt0 m c t.val t.isLt).2.2 i = dScale (argX m c) (argG m c) (argT m c) i := by
  have e := Pipeline.eq_sum_fin_of_reset_step_apply_of_flush (fun n h => (outsAt0 m c n h).2.2) 8 (fun _ => (0 : EReal)) (termG m c)
    (fun t h j => by rw [outsAt0_A m c t h]; dsimp only; rw [out_A_5, add_g]; pointwise [k0_pay8])
    (fun t h j => by rw [outsAt0_B m c t h]; dsimp only; rw [out_B_5, add_g]) t h i
  rw [zero_add] at e
  exact e.trans (blocks t h (partG m c (i 1)))
theorem last_l (t : Fin cfg0.N) (h : t.val % 8 = 7) (i : S1x128.Idx) : (outsAt0 m c t.val t.isLt).1 i = loss (argX m c) (argG m c) (argT m c) i := by
  have e := Pipeline.eq_sum_fin_of_reset_step_apply_of_flush (fun n h => (outsAt0 m c n h).1) 8 (fun _ => (0 : EReal)) (termL m c)
    (fun t h j => by rw [outsAt0_A m c t h]; dsimp only; rw [out_A_3, add_l]; pointwise [k0_pay9])
    (fun t h j => by rw [outsAt0_B m c t h]; dsimp only; rw [out_B_3, add_l]) t h i
  rw [zero_add] at e
  refine e.trans ?_
  unfold termL loss
  simp only [mul_comm half]
  rw [half_eq, sum_mul_real _ _ (by norm_num), blocks t h (partL m c)]
  rfl

/-- The three arrays. -/
theorem array_l : (dats m 0 c).arrAt 3 cfg0.N = loss (argX m c) (argG m c) (argT m c) := by
  refine (dats m 0 c).arrAt_eq_of_covers 3 _ (by decide +kernel) fun t hf y => ?_
  have h := (flush0_3 t).mp hf
  blk_simp [idx_facts t]
  rw [after0_3, last_l m c t h]
  rfl
theorem array_x : (dats m 0 c).arrAt 4 cfg0.N = dInput (argX m c) (argG m c) (argT m c) := by
  refine (dats m 0 c).arrAt_eq_of_covers 4 _ (by decide +kernel) fun t hf y => ?_
  blk_simp [idx_facts t]
  rw [after0_4]
  have e : (outsAt0 m c t.val t.isLt).2.1 = k0_pay7 (iblk m c 0 t) (iblk m c 1 t) (iblk m c 2 t) (iblk m c 1 t) := by
    by_cases h : t.val % 8 = 0
    · rw [outsAt0_A m c t h]; dsimp only; rw [out_A_4]
    · rw [outsAt0_B m c t h]; dsimp only; rw [out_B_4]
  rw [e]
  obtain ⟨r, q, rfl⟩ : ∃ (r : Fin 256) (q : Fin 2048), y = ix2 r q := ⟨y 0, y 1, eq_ix2 y⟩
  rw [block_x, iblk_x, iblk_t, iblk_g]
  refine Eq.trans (b := dInput (argX m c) (argG m c) (argT m c) (ix2 (rowOf t r) q)) rfl ?_
  blk_ext [idx_facts t]
theorem array_g : (dats m 0 c).arrAt 5 cfg0.N = dScale (argX m c) (argG m c) (argT m c) := by
  refine (dats m 0 c).arrAt_eq_of_covers 5 _ (by decide +kernel) fun t hf y => ?_
  have h := (flush0_5 t).mp hf
  blk_simp [idx_facts t]
  rw [after0_5, last_g m c t h]
  obtain ⟨z, q, rfl⟩ : ∃ (z : Fin 1) (q : Fin 2048), y = ix2 z q := ⟨y 0, y 1, eq_ix2 y⟩
  blk_ext [idx_facts t]

theorem frame_printed : Cert.quiescent_Loss := fun m g _ => Cert.Loss.Gen.frame m g
theorem frame_ideal : Cert.quiescent_LossIdeal := fun m g _ => Cert.LossIdeal.Gen.frame m g
theorem frame_reference : Cert.quiescent_LossRefIdeal := fun m g _ =>
  (θ_run Cert.LossRefIdeal.defs _ _).mono
    (fun r h => And.intro (fun c => (h c).2.2.2) (sem_eq_zero_of_no_sems (by decide) r.2))
    (Cert.LossRefIdeal.Value.run (F := Ideal) m g)

theorem algebra : Cert.algebraic_LossIdeal_LossRefIdeal := by
  intro m g m' g' _ hargs
  refine ⟨fun c => loss (argX m c) (argG m c) (argT m c), fun c => dInput (argX m c) (argG m c) (argT m c),
    fun c => dScale (argX m c) (argG m c) (argT m c), ?_, ?_⟩
  · refine (θ_run Cert.LossIdeal.defs _ _).mono (fun r h c => ?_) (Cert.LossIdeal.Value.run_blocks (F := Ideal) m g)
    obtain ⟨h0, h1, h2, h3⟩ := h c
    exact ⟨h0.trans (array_l m c), h1.trans (array_x m c), h2.trans (array_g m c), h3⟩
  · refine (θ_run Cert.LossRefIdeal.defs _ _).mono (fun r h c => ?_) (Cert.LossRefIdeal.Value.run (F := Ideal) m' g')
    obtain ⟨h0, h1, h2, h3⟩ := h c
    obtain ⟨e0, e1, e2⟩ := hargs c
    unfold LossRefIdeal.Value.res_main_v50 at h1
    rw [e0, e1, e2] at h0 h1 h2
    exact ⟨h0.trans (LossRefIdeal.Loss.loss_eq _ _ _), h1.trans (LossRefIdeal.Loss.dInput_eq _ _ _), h2.trans (LossRefIdeal.Loss.dScale_eq _ _ _), h3⟩

end Cert.LossIdeal.Loss
end
-- ==== Proof.AdamKv.lean ====
/-
  The optimiser's step at the memory projection's shard: the eight gathered gradients added, the two moments and the change of
  the weights.
-/
module

public import proofs.«01_k».proof.Defs
public import proofs.«01_k».proof.Proof.AdamModel
public import proofs.«01_k».proof.Proof.Gen.AdamKvIdeal.Value
public import proofs.«01_k».proof.Proof.Gen.AdamKvRefIdeal.Run
public import proofs.«01_k».proof.Proof.Gen.AdamKv.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamKvRefIdeal.Step
open Cert.AdamKvRefIdeal Cert.AdamKvRefIdeal.Gen Idealize.ShloMosaic Idealize.ShloMosaic.TcCoe Idealize.SL.Sem

/-- The reference's sum of the eight gradients. -/
def refSum (p : FVec Ideal S8x256x1024 .bf16) : FVec Ideal S256x1024 .f32 :=
  Host.reduceAdd (extf .f32 p bitsLt_bf16_f32) (constant S_ .f32 0x00000000#32) reducesTo_S8x256x1024_S256x1024_d0 h_S_
theorem refSum_apply (p : FVec Ideal S8x256x1024 .bf16) (r : Fin 256) (q : Fin 1024) : refSum p (ix2 r q) = ∑ k : Fin 8, p (ix3 k r q) := by
  unfold refSum
  pointwise

end Cert.AdamKvRefIdeal.Step

namespace Cert.AdamKvIdeal.Step
open Cert.AdamKvIdeal Cert.AdamKvIdeal.Gen Idealize.ShloMosaic Idealize.ShloMosaic.TcCoe Idealize.SL.Sem
open Cert.AdamModel

section
variable (x0 : Vec Ideal S8x128x1024 .bf16) (x1 x2 x3 : Vec Ideal S128x1024 .f32)

theorem piece_apply (a : ℕ) (ha : a < 8) (h) (r : Fin 128) (q : Fin 1024) :
    (View.ld x0 (Rect.unit (s := S8x128x1024) ![a, 0, 0] S1x128x1024.size h) : FVec Ideal S1x128x1024 .bf16) (ix3 0 r q) = x0 (ix3 ⟨a, ha⟩ r q) := by
  refine View.ld_unit_apply_of _ _ _ _ _ _ fun b => ?_
  fin_cases b <;> simp

theorem total_apply (r : Fin 128) (q : Fin 1024) : k0_pay5 x0 x1 x2 x3 (ix2 r q) = total .bf16 x0 r q := by
  unfold k0_pay5 k0_pay4 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem out_4 (r : Fin 128) (q : Fin 1024) : out0_4 x0 x1 x2 x3 (ix2 r q) = total .bf16 x0 r q := by
  have e : out0_4 x0 x1 x2 x3 = k0_pay5 x0 x1 x2 x3 := by frame_out
  rw [e, total_apply]
theorem out_5 (r : Fin 128) (q : Fin 1024) : out0_5 x0 x1 x2 x3 (ix2 r q) = change (x1 (ix2 r q)) (x2 (ix2 r q)) (x3 (ix2 r q)) (total .bf16 x0 r q) := by
  have e : out0_5 x0 x1 x2 x3 = k0_pay3 (k0_pay5 x0 x1 x2 x3) x2 (Scalar.ofBits .f32 0x3F666666#32) x3 x1 := by frame_out
  have e2 := total_apply x0 x1 x2 x3
  rw [e]
  unfold k0_pay3 k0_pay1 k0_pay2 change mean square
  generalize k0_pay5 x0 x1 x2 x3 = g at e2
  pointwise [e2]
theorem out_6 (r : Fin 128) (q : Fin 1024) : out0_6 x0 x1 x2 x3 (ix2 r q) = mean (x2 (ix2 r q)) (total .bf16 x0 r q) := by
  have e : out0_6 x0 x1 x2 x3 = k0_pay1 (k0_pay5 x0 x1 x2 x3) x2 (Scalar.ofBits .f32 0x3F666666#32) := by frame_out
  have e2 := total_apply x0 x1 x2 x3
  rw [e]
  unfold k0_pay1 mean
  generalize k0_pay5 x0 x1 x2 x3 = g at e2
  pointwise [e2]
theorem out_7 (r : Fin 128) (q : Fin 1024) : out0_7 x0 x1 x2 x3 (ix2 r q) = square (x3 (ix2 r q)) (total .bf16 x0 r q) := by
  have e : out0_7 x0 x1 x2 x3 = k0_pay2 (k0_pay5 x0 x1 x2 x3) x3 := by frame_out
  have e2 := total_apply x0 x1 x2 x3
  rw [e]
  unfold k0_pay2 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 2 := t.isLt

variable (m : (ℓ : Loc nD τ sig) → Buf (Elt Ideal) ℓ) (c : Dev nD)

abbrev argP : FVec Ideal S8x256x1024 .bf16 := m ((c : Thread nD τ).loc main_arg0)
abbrev argW : FVec Ideal S256x1024 .f32 := m ((c : Thread nD τ).loc main_arg1)
abbrev argM : FVec Ideal S256x1024 .f32 := m ((c : Thread nD τ).loc main_arg2)
abbrev argV : FVec Ideal S256x1024 .f32 := m ((c : Thread nD τ).loc main_arg3)

/-- Row `r` of row block `t`. -/
abbrev rowOf (t : Fin cfg0.N) (r : Fin 128) : Fin 256 := ⟨t.val * 128 + r.val, by have := tlt t; omega⟩

theorem iblk_p (t : Fin cfg0.N) (r : Fin 128) (q : Fin 1024) : total .bf16 (iblk m c 0 t : FVec Ideal S8x128x1024 .bf16) r q = total .bf16 (argP m c) (rowOf t r) q := by
  unfold total
  refine Finset.sum_congr (M := EReal) rfl fun k _ => ?_
  blk_ext [iblk, V, idx_facts t]
theorem iblk_w (t : Fin cfg0.N) (r : Fin 128) (q : Fin 1024) : (iblk m c 1 t : FVec Ideal S128x1024 .f32) (ix2 r q) = argW m c (ix2 (rowOf t r) q) := by
  blk_ext [iblk, V, idx_facts t]
theorem iblk_m (t : Fin cfg0.N) (r : Fin 128) (q : Fin 1024) : (iblk m c 2 t : FVec Ideal S128x1024 .f32) (ix2 r q) = argM m c (ix2 (rowOf t r) q) := by
  blk_ext [iblk, V, idx_facts t]
theorem iblk_v (t : Fin cfg0.N) (r : Fin 128) (q : Fin 1024) : (iblk m c 3 t : FVec Ideal S128x1024 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 128) (q : Fin 1024), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 128) (q : Fin 1024), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 128) (q : Fin 1024), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 128) (q : Fin 1024), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamKv := fun m g _ => Cert.AdamKv.Gen.frame m g
theorem frame_ideal : Cert.quiescent_AdamKvIdeal := fun m g _ => Cert.AdamKvIdeal.Gen.frame m g
theorem frame_reference : Cert.quiescent_AdamKvRefIdeal := fun m g _ =>
  (θ_run Cert.AdamKvRefIdeal.defs _ _).mono
    (fun r h => And.intro (fun c => (h c).2.2.2.2) (sem_eq_zero_of_no_sems (by decide) r.2))
    (Cert.AdamKvRefIdeal.Value.run (F := Ideal) m g)

theorem algebra : Cert.algebraic_AdamKvIdeal_AdamKvRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamKvIdeal.defs _ _).mono (fun r h c => ?_) (Cert.AdamKvIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamKvRefIdeal.defs _ _).mono (fun r h c => ?_) (Cert.AdamKvRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 256) (q : Fin 1024), AdamKvRefIdeal.Step.refSum (argP m c) (ix2 r q) = total .bf16 (argP m c) r q := AdamKvRefIdeal.Step.refSum_apply (argP m c)
    unfold AdamKvRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 256) (q : Fin 1024), i = ix2 r q := ⟨i 0, i 1, eq_ix2 i⟩
    · exact es r q
    · unfold changeA change mean square
      pointwise [es]
    · unfold meanA mean
      pointwise [es]
    · unfold squareA square
      pointwise [es]

end Cert.AdamKvIdeal.Step
end
-- ==== Proof.AdamOut.lean ====
/-
  The optimiser's step at the output projection's shard: the eight gathered gradients added, the two moments and the change of
  the weights.
-/
module

public import proofs.«01_k».proof.Defs
public import proofs.«01_k».proof.Proof.AdamModel
public import proofs.«01_k».proof.Proof.Gen.AdamOutIdeal.Value
public import proofs.«01_k».proof.Proof.Gen.AdamOutRefIdeal.Run
public import proofs.«01_k».proof.Proof.Gen.AdamOut.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamOutRefIdeal.Step
open Cert.AdamOutRefIdeal Cert.AdamOutRefIdeal.Gen Idealize.ShloMosaic Idealize.ShloMosaic.TcCoe Idealize.SL.Sem

/-- The reference's sum of the eight gradients. -/
def refSum (p : FVec Ideal S8x256x2048 .bf16) : FVec Ideal S256x2048 .f32 :=
  Host.reduceAdd (extf .f32 p bitsLt_bf16_f32) (constant S_ .f32 0x00000000#32) reducesTo_S8x256x2048_S256x2048_d0 h_S_
theorem refSum_apply (p : FVec Ideal S8x256x2048 .bf16) (r : Fin 256) (q : Fin 2048) : refSum p (ix2 r q) = ∑ k : Fin 8, p (ix3 k r q) := by
  unfold refSum
  pointwise

end Cert.AdamOutRefIdeal.Step

namespace Cert.AdamOutIdeal.Step
open Cert.AdamOutIdeal Cert.AdamOutIdeal.Gen Idealize.ShloMosaic Idealize.ShloMosaic.TcCoe Idealize.SL.Sem
open Cert.AdamModel

section
variable (x0 : Vec Ideal S8x128x2048 .bf16) (x1 x2 x3 : Vec Ideal S128x2048 .f32)

theorem piece_apply (a : ℕ) (ha : a < 8) (h) (r : Fin 128) (q : Fin 2048) :
    (View.ld x0 (Rect.unit (s := S8x128x2048) ![a, 0, 0] S1x128x2048.size h) : FVec Ideal S1x128x2048 .bf16) (ix3 0 r q) = x0 (ix3 ⟨a, ha⟩ r q) := by
  refine View.ld_unit_apply_of _ _ _ _ _ _ fun b => ?_
  fin_cases b <;> simp

theorem total_apply (r : Fin 128) (q : Fin 2048) : k0_pay5 x0 x1 x2 x3 (ix2 r q) = total .bf16 x0 r q := by
  unfold k0_pay5 k0_pay4 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem out_4 (r : Fin 128) (q : Fin 2048) : out0_4 x0 x1 x2 x3 (ix2 r q) = total .bf16 x0 r q := by
  have e : out0_4 x0 x1 x2 x3 = k0_pay5 x0 x1 x2 x3 := by frame_out
  rw [e, total_apply]
theorem out_5 (r : Fin 128) (q : Fin 2048) : out0_5 x0 x1 x2 x3 (ix2 r q) = change (x1 (ix2 r q)) (x2 (ix2 r q)) (x3 (ix2 r q)) (total .bf16 x0 r q) := by
  have e : out0_5 x0 x1 x2 x3 = k0_pay3 (k0_pay5 x0 x1 x2 x3) x2 (Scalar.ofBits .f32 0x3F666666#32) x3 x1 := by frame_out
  have e2 := total_apply x0 x1 x2 x3
  rw [e]
  unfold k0_pay3 k0_pay1 k0_pay2 change mean square
  generalize k0_pay5 x0 x1 x2 x3 = g at e2
  pointwise [e2]
theorem out_6 (r : Fin 128) (q : Fin 2048) : out0_6 x0 x1 x2 x3 (ix2 r q) = mean (x2 (ix2 r q)) (total .bf16 x0 r q) := by
  have e : out0_6 x0 x1 x2 x3 = k0_pay1 (k0_pay5 x0 x1 x2 x3) x2 (Scalar.ofBits .f32 0x3F666666#32) := by frame_out
  have e2 := total_apply x0 x1 x2 x3
  rw [e]
  unfold k0_pay1 mean
  generalize k0_pay5 x0 x1 x2 x3 = g at e2
  pointwise [e2]
theorem out_7 (r : Fin 128) (q : Fin 2048) : out0_7 x0 x1 x2 x3 (ix2 r q) = square (x3 (ix2 r q)) (total .bf16 x0 r q) := by
  have e : out0_7 x0 x1 x2 x3 = k0_pay2 (k0_pay5 x0 x1 x2 x3) x3 := by frame_out
  have e2 := total_apply x0 x1 x2 x3
  rw [e]
  unfold k0_pay2 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 2 := t.isLt

variable (m : (ℓ : Loc nD τ sig) → Buf (Elt Ideal) ℓ) (c : Dev nD)

abbrev argP : FVec Ideal S8x256x2048 .bf16 := m ((c : Thread nD τ).loc main_arg0)
abbrev argW : FVec Ideal S256x2048 .f32 := m ((c : Thread nD τ).loc main_arg1)
abbrev argM : FVec Ideal S256x2048 .f32 := m ((c : Thread nD τ).loc main_arg2)
abbrev argV : FVec Ideal S256x2048 .f32 := m ((c : Thread nD τ).loc main_arg3)

/-- Row `r` of row block `t`. -/
abbrev rowOf (t : Fin cfg0.N) (r : Fin 128) : Fin 256 := ⟨t.val * 128 + r.val, by have := tlt t; omega⟩

theorem iblk_p (t : Fin cfg0.N) (r : Fin 128) (q : Fin 2048) : total .bf16 (iblk m c 0 t : FVec Ideal S8x128x2048 .bf16) r q = total .bf16 (argP m c) (rowOf t r) q := by
  unfold total
  refine Finset.sum_congr (M := EReal) rfl fun k _ => ?_
  blk_ext [iblk, V, idx_facts t]
theorem iblk_w (t : Fin cfg0.N) (r : Fin 128) (q : Fin 2048) : (iblk m c 1 t : FVec Ideal S128x2048 .f32) (ix2 r q) = argW m c (ix2 (rowOf t r) q) := by
  blk_ext [iblk, V, idx_facts t]
theorem iblk_m (t : Fin cfg0.N) (r : Fin 128) (q : Fin 2048) : (iblk m c 2 t : FVec Ideal S128x2048 .f32) (ix2 r q) = argM m c (ix2 (rowOf t r) q) := by
  blk_ext [iblk, V, idx_facts t]
theorem iblk_v (t : Fin cfg0.N) (r : Fin 128) (q : Fin 2048) : (iblk m c 3 t : FVec Ideal S128x2048 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 128) (q : Fin 2048), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 128) (q : Fin 2048), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 128) (q : Fin 2048), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 128) (q : Fin 2048), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamOut := fun m g _ => Cert.AdamOut.Gen.frame m g
theorem frame_ideal : Cert.quiescent_AdamOutIdeal := fun m g _ => Cert.AdamOutIdeal.Gen.frame m g
theorem frame_reference : Cert.quiescent_AdamOutRefIdeal := fun m g _ =>
  (θ_run Cert.AdamOutRefIdeal.defs _ _).mono
    (fun r h => And.intro (fun c => (h c).2.2.2.2) (sem_eq_zero_of_no_sems (by decide) r.2))
    (Cert.AdamOutRefIdeal.Value.run (F := Ideal) m g)

theorem algebra : Cert.algebraic_AdamOutIdeal_AdamOutRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamOutIdeal.defs _ _).mono (fun r h c => ?_) (Cert.AdamOutIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamOutRefIdeal.defs _ _).mono (fun r h c => ?_) (Cert.AdamOutRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 256) (q : Fin 2048), AdamOutRefIdeal.Step.refSum (argP m c) (ix2 r q) = total .bf16 (argP m c) r q := AdamOutRefIdeal.Step.refSum_apply (argP m c)
    unfold AdamOutRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 256) (q : Fin 2048), i = ix2 r q := ⟨i 0, i 1, eq_ix2 i⟩
    · exact es r q
    · unfold changeA change mean square
      pointwise [es]
    · unfold meanA mean
      pointwise [es]
    · unfold squareA square
      pointwise [es]

end Cert.AdamOutIdeal.Step
end
-- ==== Proof.AdamDown.lean ====
/-
  The optimiser's step at the down projection's shard: the eight gathered gradients added, the two moments and the change of
  the weights.
-/
module

public import proofs.«01_k».proof.Defs
public import proofs.«01_k».proof.Proof.AdamModel
public import proofs.«01_k».proof.Proof.Gen.AdamDownIdeal.Value
public import proofs.«01_k».proof.Proof.Gen.AdamDownRefIdeal.Run
public import proofs.«01_k».proof.Proof.Gen.AdamDown.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamDownRefIdeal.Step
open Cert.AdamDownRefIdeal Cert.AdamDownRefIdeal.Gen Idealize.ShloMosaic Idealize.ShloMosaic.TcCoe Idealize.SL.Sem

/-- The reference's sum of the eight gradients. -/
def refSum (p : FVec Ideal S8x704x2048 .bf16) : FVec Ideal S704x2048 .f32 :=
  Host.reduceAdd (extf .f32 p bitsLt_bf16_f32) (constant S_ .f32 0x00000000#32) reducesTo_S8x704x2048_S704x2048_d0 h_S_
theorem refSum_apply (p : FVec Ideal S8x704x2048 .bf16) (r : Fin 704) (q : Fin 2048) : refSum p (ix2 r q) = ∑ k : Fin 8, p (ix3 k r q) := by
  unfold refSum
  pointwise

end Cert.AdamDownRefIdeal.Step

namespace Cert.AdamDownIdeal.Step
open Cert.AdamDownIdeal Cert.AdamDownIdeal.Gen Idealize.ShloMosaic Idealize.ShloMosaic.TcCoe Idealize.SL.Sem
open Cert.AdamModel

section
variable (x0 : Vec Ideal S8x64x2048 .bf16) (x1 x2 x3 : Vec Ideal S64x2048 .f32)

theorem piece_apply (a : ℕ) (ha : a < 8) (h) (r : Fin 64) (q : Fin 2048) :
    (View.ld x0 (Rect.unit (s := S8x64x2048) ![a, 0, 0] S1x64x2048.size h) : FVec Ideal S1x64x2048 .bf16) (ix3 0 r q) = x0 (ix3 ⟨a, ha⟩ r q) := by
  refine View.ld_unit_apply_of _ _ _ _ _ _ fun b => ?_
  fin_cases b <;> simp

theorem total_apply (r : Fin 64) (q : Fin 2048) : k0_pay5 x0 x1 x2 x3 (ix2 r q) = total .bf16 x0 r q := by
  unfold k0_pay5 k0_pay4 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem out_4 (r : Fin 64) (q : Fin 2048) : out0_4 x0 x1 x2 x3 (ix2 r q) = total .bf16 x0 r q := by
  have e : out0_4 x0 x1 x2 x3 = k0_pay5 x0 x1 x2 x3 := by frame_out
  rw [e, total_apply]
theorem out_5 (r : Fin 64) (q : Fin 2048) : out0_5 x0 x1 x2 x3 (ix2 r q) = change (x1 (ix2 r q)) (x2 (ix2 r q)) (x3 (ix2 r q)) (total .bf16 x0 r q) := by
  have e : out0_5 x0 x1 x2 x3 = k0_pay3 (k0_pay5 x0 x1 x2 x3) x2 (Scalar.ofBits .f32 0x3F666666#32) x3 x1 := by frame_out
  have e2 := total_apply x0 x1 x2 x3
  rw [e]
  unfold k0_pay3 k0_pay1 k0_pay2 change mean square
  generalize k0_pay5 x0 x1 x2 x3 = g at e2
  pointwise [e2]
theorem out_6 (r : Fin 64) (q : Fin 2048) : out0_6 x0 x1 x2 x3 (ix2 r q) = mean (x2 (ix2 r q)) (total .bf16 x0 r q) := by
  have e : out0_6 x0 x1 x2 x3 = k0_pay1 (k0_pay5 x0 x1 x2 x3) x2 (Scalar.ofBits .f32 0x3F666666#32) := by frame_out
  have e2 := total_apply x0 x1 x2 x3
  rw [e]
  unfold k0_pay1 mean
  generalize k0_pay5 x0 x1 x2 x3 = g at e2
  pointwise [e2]
theorem out_7 (r : Fin 64) (q : Fin 2048) : out0_7 x0 x1 x2 x3 (ix2 r q) = square (x3 (ix2 r q)) (total .bf16 x0 r q) := by
  have e : out0_7 x0 x1 x2 x3 = k0_pay2 (k0_pay5 x0 x1 x2 x3) x3 := by frame_out
  have e2 := total_apply x0 x1 x2 x3
  rw [e]
  unfold k0_pay2 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 11 := t.isLt

variable (m : (ℓ : Loc nD τ sig) → Buf (Elt Ideal) ℓ) (c : Dev nD)

abbrev argP : FVec Ideal S8x704x2048 .bf16 := m ((c : Thread nD τ).loc main_arg0)
abbrev argW : FVec Ideal S704x2048 .f32 := m ((c : Thread nD τ).loc main_arg1)
abbrev argM : FVec Ideal S704x2048 .f32 := m ((c : Thread nD τ).loc main_arg2)
abbrev argV : FVec Ideal S704x2048 .f32 := m ((c : Thread nD τ).loc main_arg3)

/-- Row `r` of row block `t`. -/
abbrev rowOf (t : Fin cfg0.N) (r : Fin 64) : Fin 704 := ⟨t.val * 64 + r.val, by have := tlt t; omega⟩

theorem iblk_p (t : Fin cfg0.N) (r : Fin 64) (q : Fin 2048) : total .bf16 (iblk m c 0 t : FVec Ideal S8x64x2048 .bf16) r q = total .bf16 (argP m c) (rowOf t r) q := by
  unfold total
  refine Finset.sum_congr (M := EReal) rfl fun k _ => ?_
  blk_ext [iblk, V, idx_facts t]
theorem iblk_w (t : Fin cfg0.N) (r : Fin 64) (q : Fin 2048) : (iblk m c 1 t : FVec Ideal S64x2048 .f32) (ix2 r q) = argW m c (ix2 (rowOf t r) q) := by
  blk_ext [iblk, V, idx_facts t]
theorem iblk_m (t : Fin cfg0.N) (r : Fin 64) (q : Fin 2048) : (iblk m c 2 t : FVec Ideal S64x2048 .f32) (ix2 r q) = argM m c (ix2 (rowOf t r) q) := by
  blk_ext [iblk, V, idx_facts t]
theorem iblk_v (t : Fin cfg0.N) (r : Fin 64) (q : Fin 2048) : (iblk m c 3 t : FVec Ideal S64x2048 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 64) (q : Fin 2048), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 64) (q : Fin 2048), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 64) (q : Fin 2048), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 64) (q : Fin 2048), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamDown := fun m g _ => Cert.AdamDown.Gen.frame m g
theorem frame_ideal : Cert.quiescent_AdamDownIdeal := fun m g _ => Cert.AdamDownIdeal.Gen.frame m g
theorem frame_reference : Cert.quiescent_AdamDownRefIdeal := fun m g _ =>
  (θ_run Cert.AdamDownRefIdeal.defs _ _).mono
    (fun r h => And.intro (fun c => (h c).2.2.2.2) (sem_eq_zero_of_no_sems (by decide) r.2))
    (Cert.AdamDownRefIdeal.Value.run (F := Ideal) m g)

theorem algebra : Cert.algebraic_AdamDownIdeal_AdamDownRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamDownIdeal.defs _ _).mono (fun r h c => ?_) (Cert.AdamDownIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamDownRefIdeal.defs _ _).mono (fun r h c => ?_) (Cert.AdamDownRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 704) (q : Fin 2048), AdamDownRefIdeal.Step.refSum (argP m c) (ix2 r q) = total .bf16 (argP m c) r q := AdamDownRefIdeal.Step.refSum_apply (argP m c)
    unfold AdamDownRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 704) (q : Fin 2048), i = ix2 r q := ⟨i 0, i 1, eq_ix2 i⟩
    · exact es r q
    · unfold changeA change mean square
      pointwise [es]
    · unfold meanA mean
      pointwise [es]
    · unfold squareA square
      pointwise [es]

end Cert.AdamDownIdeal.Step
end
-- ==== Proof.AdamInSwa.lean ====
/-
  The optimiser's step at the sliding-window layers' input projection's shard: the eight gathered gradients added, the two moments and the change of
  the weights.
-/
module

public import proofs.«01_k».proof.Defs
public import proofs.«01_k».proof.Proof.AdamModel
public import proofs.«01_k».proof.Proof.Gen.AdamInSwaIdeal.Value
public import proofs.«01_k».proof.Proof.Gen.AdamInSwaRefIdeal.Run
public import proofs.«01_k».proof.Proof.Gen.AdamInSwa.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamInSwaRefIdeal.Step
open Cert.AdamInSwaRefIdeal Cert.AdamInSwaRefIdeal.Gen Idealize.ShloMosaic Idealize.ShloMosaic.TcCoe Idealize.SL.Sem

/-- The reference's sum of the eight gradients. -/
def refSum (p : FVec Ideal S8x2048x320 .bf16) : FVec Ideal S2048x320 .f32 :=
  Host.reduceAdd (extf .f32 p bitsLt_bf16_f32) (constant S_ .f32 0x00000000#32) reducesTo_S8x2048x320_S2048x320_d0 h_S_
theorem refSum_apply (p : FVec Ideal S8x2048x320 .bf16) (r : Fin 2048) (q : Fin 320) : refSum p (ix2 r q) = ∑ k : Fin 8, p (ix3 k r q) := by
  unfold refSum
  pointwise

end Cert.AdamInSwaRefIdeal.Step

namespace Cert.AdamInSwaIdeal.Step
open Cert.AdamInSwaIdeal Cert.AdamInSwaIdeal.Gen Idealize.ShloMosaic Idealize.ShloMosaic.TcCoe Idealize.SL.Sem
open Cert.AdamModel

section
variable (x0 : Vec Ideal S8x128x320 .bf16) (x1 x2 x3 : Vec Ideal S128x320 .f32)

theorem piece_apply (a : ℕ) (ha : a < 8) (h) (r : Fin 128) (q : Fin 320) :
    (View.ld x0 (Rect.unit (s := S8x128x320) ![a, 0, 0] S1x128x320.size h) : FVec Ideal S1x128x320 .bf16) (ix3 0 r q) = x0 (ix3 ⟨a, ha⟩ r q) := by
  refine View.ld_unit_apply_of _ _ _ _ _ _ fun b => ?_
  fin_cases b <;> simp

theorem total_apply (r : Fin 128) (q : Fin 320) : k0_pay5 x0 x1 x2 x3 (ix2 r q) = total .bf16 x0 r q := by
  unfold k0_pay5 k0_pay4 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem out_4 (r : Fin 128) (q : Fin 320) : out0_4 x0 x1 x2 x3 (ix2 r q) = total .bf16 x0 r q := by
  have e : out0_4 x0 x1 x2 x3 = k0_pay5 x0 x1 x2 x3 := by frame_out
  rw [e, total_apply]
theorem out_5 (r : Fin 128) (q : Fin 320) : out0_5 x0 x1 x2 x3 (ix2 r q) = change (x1 (ix2 r q)) (x2 (ix2 r q)) (x3 (ix2 r q)) (total .bf16 x0 r q) := by
  have e : out0_5 x0 x1 x2 x3 = k0_pay3 (k0_pay5 x0 x1 x2 x3) x2 (Scalar.ofBits .f32 0x3F666666#32) x3 x1 := by frame_out
  have e2 := total_apply x0 x1 x2 x3
  rw [e]
  unfold k0_pay3 k0_pay1 k0_pay2 change mean square
  generalize k0_pay5 x0 x1 x2 x3 = g at e2
  pointwise [e2]
theorem out_6 (r : Fin 128) (q : Fin 320) : out0_6 x0 x1 x2 x3 (ix2 r q) = mean (x2 (ix2 r q)) (total .bf16 x0 r q) := by
  have e : out0_6 x0 x1 x2 x3 = k0_pay1 (k0_pay5 x0 x1 x2 x3) x2 (Scalar.ofBits .f32 0x3F666666#32) := by frame_out
  have e2 := total_apply x0 x1 x2 x3
  rw [e]
  unfold k0_pay1 mean
  generalize k0_pay5 x0 x1 x2 x3 = g at e2
  pointwise [e2]
theorem out_7 (r : Fin 128) (q : Fin 320) : out0_7 x0 x1 x2 x3 (ix2 r q) = square (x3 (ix2 r q)) (total .bf16 x0 r q) := by
  have e : out0_7 x0 x1 x2 x3 = k0_pay2 (k0_pay5 x0 x1 x2 x3) x3 := by frame_out
  have e2 := total_apply x0 x1 x2 x3
  rw [e]
  unfold k0_pay2 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 16 := t.isLt

variable (m : (ℓ : Loc nD τ sig) → Buf (Elt Ideal) ℓ) (c : Dev nD)

abbrev argP : FVec Ideal S8x2048x320 .bf16 := m ((c : Thread nD τ).loc main_arg0)
abbrev argW : FVec Ideal S2048x320 .f32 := m ((c : Thread nD τ).loc main_arg1)
abbrev argM : FVec Ideal S2048x320 .f32 := m ((c : Thread nD τ).loc main_arg2)
abbrev argV : FVec Ideal S2048x320 .f32 := m ((c : Thread nD τ).loc main_arg3)

/-- Row `r` of row block `t`. -/
abbrev rowOf (t : Fin cfg0.N) (r : Fin 128) : Fin 2048 := ⟨t.val * 128 + r.val, by have := tlt t; omega⟩

theorem iblk_p (t : Fin cfg0.N) (r : Fin 128) (q : Fin 320) : total .bf16 (iblk m c 0 t : FVec Ideal S8x128x320 .bf16) r q = total .bf16 (argP m c) (rowOf t r) q := by
  unfold total
  refine Finset.sum_congr (M := EReal) rfl fun k _ => ?_
  blk_ext [iblk, V, idx_facts t]
theorem iblk_w (t : Fin cfg0.N) (r : Fin 128) (q : Fin 320) : (iblk m c 1 t : FVec Ideal S128x320 .f32) (ix2 r q) = argW m c (ix2 (rowOf t r) q) := by
  blk_ext [iblk, V, idx_facts t]
theorem iblk_m (t : Fin cfg0.N) (r : Fin 128) (q : Fin 320) : (iblk m c 2 t : FVec Ideal S128x320 .f32) (ix2 r q) = argM m c (ix2 (rowOf t r) q) := by
  blk_ext [iblk, V, idx_facts t]
theorem iblk_v (t : Fin cfg0.N) (r : Fin 128) (q : Fin 320) : (iblk m c 3 t : FVec Ideal S128x320 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 128) (q : Fin 320), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 128) (q : Fin 320), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 128) (q : Fin 320), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 128) (q : Fin 320), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamInSwa := fun m g _ => Cert.AdamInSwa.Gen.frame m g
theorem frame_ideal : Cert.quiescent_AdamInSwaIdeal := fun m g _ => Cert.AdamInSwaIdeal.Gen.frame m g
theorem frame_reference : Cert.quiescent_AdamInSwaRefIdeal := fun m g _ =>
  (θ_run Cert.AdamInSwaRefIdeal.defs _ _).mono
    (fun r h => And.intro (fun c => (h c).2.2.2.2) (sem_eq_zero_of_no_sems (by decide) r.2))
    (Cert.AdamInSwaRefIdeal.Value.run (F := Ideal) m g)

theorem algebra : Cert.algebraic_AdamInSwaIdeal_AdamInSwaRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamInSwaIdeal.defs _ _).mono (fun r h c => ?_) (Cert.AdamInSwaIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamInSwaRefIdeal.defs _ _).mono (fun r h c => ?_) (Cert.AdamInSwaRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 2048) (q : Fin 320), AdamInSwaRefIdeal.Step.refSum (argP m c) (ix2 r q) = total .bf16 (argP m c) r q := AdamInSwaRefIdeal.Step.refSum_apply (argP m c)
    unfold AdamInSwaRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 2048) (q : Fin 320), i = ix2 r q := ⟨i 0, i 1, eq_ix2 i⟩
    · exact es r q
    · unfold changeA change mean square
      pointwise [es]
    · unfold meanA mean
      pointwise [es]
    · unfold squareA square
      pointwise [es]

end Cert.AdamInSwaIdeal.Step
end
-- ==== Proof.AdamInRwkv.lean ====
/-
  The optimiser's step at the RWKV-7 layer's input projection's shard: the eight gathered gradients added, the two moments and the change of
  the weights.
-/
module

public import proofs.«01_k».proof.Defs
public import proofs.«01_k».proof.Proof.AdamModel
public import proofs.«01_k».proof.Proof.Gen.AdamInRwkvIdeal.Value
public import proofs.«01_k».proof.Proof.Gen.AdamInRwkvRefIdeal.Run
public import proofs.«01_k».proof.Proof.Gen.AdamInRwkv.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamInRwkvRefIdeal.Step
open Cert.AdamInRwkvRefIdeal Cert.AdamInRwkvRefIdeal.Gen Idealize.ShloMosaic Idealize.ShloMosaic.TcCoe Idealize.SL.Sem

/-- The reference's sum of the eight gradients. -/
def refSum (p : FVec Ideal S8x2048x696 .bf16) : FVec Ideal S2048x696 .f32 :=
  Host.reduceAdd (extf .f32 p bitsLt_bf16_f32) (constant S_ .f32 0x00000000#32) reducesTo_S8x2048x696_S2048x696_d0 h_S_
theorem refSum_apply (p : FVec Ideal S8x2048x696 .bf16) (r : Fin 2048) (q : Fin 696) : refSum p (ix2 r q) = ∑ k : Fin 8, p (ix3 k r q) := by
  unfold refSum
  pointwise

end Cert.AdamInRwkvRefIdeal.Step

namespace Cert.AdamInRwkvIdeal.Step
open Cert.AdamInRwkvIdeal Cert.AdamInRwkvIdeal.Gen Idealize.ShloMosaic Idealize.ShloMosaic.TcCoe Idealize.SL.Sem
open Cert.AdamModel

section
variable (x0 : Vec Ideal S8x128x696 .bf16) (x1 x2 x3 : Vec Ideal S128x696 .f32)

theorem piece_apply (a : ℕ) (ha : a < 8) (h) (r : Fin 128) (q : Fin 696) :
    (View.ld x0 (Rect.unit (s := S8x128x696) ![a, 0, 0] S1x128x696.size h) : FVec Ideal S1x128x696 .bf16) (ix3 0 r q) = x0 (ix3 ⟨a, ha⟩ r q) := by
  refine View.ld_unit_apply_of _ _ _ _ _ _ fun b => ?_
  fin_cases b <;> simp

theorem total_apply (r : Fin 128) (q : Fin 696) : k0_pay5 x0 x1 x2 x3 (ix2 r q) = total .bf16 x0 r q := by
  unfold k0_pay5 k0_pay4 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem out_4 (r : Fin 128) (q : Fin 696) : out0_4 x0 x1 x2 x3 (ix2 r q) = total .bf16 x0 r q := by
  have e : out0_4 x0 x1 x2 x3 = k0_pay5 x0 x1 x2 x3 := by frame_out
  rw [e, total_apply]
theorem out_5 (r : Fin 128) (q : Fin 696) : out0_5 x0 x1 x2 x3 (ix2 r q) = change (x1 (ix2 r q)) (x2 (ix2 r q)) (x3 (ix2 r q)) (total .bf16 x0 r q) := by
  have e : out0_5 x0 x1 x2 x3 = k0_pay3 (k0_pay5 x0 x1 x2 x3) x2 (Scalar.ofBits .f32 0x3F666666#32) x3 x1 := by frame_out
  have e2 := total_apply x0 x1 x2 x3
  rw [e]
  unfold k0_pay3 k0_pay1 k0_pay2 change mean square
  generalize k0_pay5 x0 x1 x2 x3 = g at e2
  pointwise [e2]
theorem out_6 (r : Fin 128) (q : Fin 696) : out0_6 x0 x1 x2 x3 (ix2 r q) = mean (x2 (ix2 r q)) (total .bf16 x0 r q) := by
  have e : out0_6 x0 x1 x2 x3 = k0_pay1 (k0_pay5 x0 x1 x2 x3) x2 (Scalar.ofBits .f32 0x3F666666#32) := by frame_out
  have e2 := total_apply x0 x1 x2 x3
  rw [e]
  unfold k0_pay1 mean
  generalize k0_pay5 x0 x1 x2 x3 = g at e2
  pointwise [e2]
theorem out_7 (r : Fin 128) (q : Fin 696) : out0_7 x0 x1 x2 x3 (ix2 r q) = square (x3 (ix2 r q)) (total .bf16 x0 r q) := by
  have e : out0_7 x0 x1 x2 x3 = k0_pay2 (k0_pay5 x0 x1 x2 x3) x3 := by frame_out
  have e2 := total_apply x0 x1 x2 x3
  rw [e]
  unfold k0_pay2 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 16 := t.isLt

variable (m : (ℓ : Loc nD τ sig) → Buf (Elt Ideal) ℓ) (c : Dev nD)

abbrev argP : FVec Ideal S8x2048x696 .bf16 := m ((c : Thread nD τ).loc main_arg0)
abbrev argW : FVec Ideal S2048x696 .f32 := m ((c : Thread nD τ).loc main_arg1)
abbrev argM : FVec Ideal S2048x696 .f32 := m ((c : Thread nD τ).loc main_arg2)
abbrev argV : FVec Ideal S2048x696 .f32 := m ((c : Thread nD τ).loc main_arg3)

/-- Row `r` of row block `t`. -/
abbrev rowOf (t : Fin cfg0.N) (r : Fin 128) : Fin 2048 := ⟨t.val * 128 + r.val, by have := tlt t; omega⟩

theorem iblk_p (t : Fin cfg0.N) (r : Fin 128) (q : Fin 696) : total .bf16 (iblk m c 0 t : FVec Ideal S8x128x696 .bf16) r q = total .bf16 (argP m c) (rowOf t r) q := by
  unfold total
  refine Finset.sum_congr (M := EReal) rfl fun k _ => ?_
  blk_ext [iblk, V, idx_facts t]
theorem iblk_w (t : Fin cfg0.N) (r : Fin 128) (q : Fin 696) : (iblk m c 1 t : FVec Ideal S128x696 .f32) (ix2 r q) = argW m c (ix2 (rowOf t r) q) := by
  blk_ext [iblk, V, idx_facts t]
theorem iblk_m (t : Fin cfg0.N) (r : Fin 128) (q : Fin 696) : (iblk m c 2 t : FVec Ideal S128x696 .f32) (ix2 r q) = argM m c (ix2 (rowOf t r) q) := by
  blk_ext [iblk, V, idx_facts t]
theorem iblk_v (t : Fin cfg0.N) (r : Fin 128) (q : Fin 696) : (iblk m c 3 t : FVec Ideal S128x696 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 128) (q : Fin 696), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 128) (q : Fin 696), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 128) (q : Fin 696), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 128) (q : Fin 696), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamInRwkv := fun m g _ => Cert.AdamInRwkv.Gen.frame m g
theorem frame_ideal : Cert.quiescent_AdamInRwkvIdeal := fun m g _ => Cert.AdamInRwkvIdeal.Gen.frame m g
theorem frame_reference : Cert.quiescent_AdamInRwkvRefIdeal := fun m g _ =>
  (θ_run Cert.AdamInRwkvRefIdeal.defs _ _).mono
    (fun r h => And.intro (fun c => (h c).2.2.2.2) (sem_eq_zero_of_no_sems (by decide) r.2))
    (Cert.AdamInRwkvRefIdeal.Value.run (F := Ideal) m g)

theorem algebra : Cert.algebraic_AdamInRwkvIdeal_AdamInRwkvRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamInRwkvIdeal.defs _ _).mono (fun r h c => ?_) (Cert.AdamInRwkvIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamInRwkvRefIdeal.defs _ _).mono (fun r h c => ?_) (Cert.AdamInRwkvRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 2048) (q : Fin 696), AdamInRwkvRefIdeal.Step.refSum (argP m c) (ix2 r q) = total .bf16 (argP m c) r q := AdamInRwkvRefIdeal.Step.refSum_apply (argP m c)
    unfold AdamInRwkvRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 2048) (q : Fin 696), i = ix2 r q := ⟨i 0, i 1, eq_ix2 i⟩
    · exact es r q
    · unfold changeA change mean square
      pointwise [es]
    · unfold meanA mean
      pointwise [es]
    · unfold squareA square
      pointwise [es]

end Cert.AdamInRwkvIdeal.Step
end
-- ==== Proof.AdamInGdn.lean ====
/-
  The optimiser's step at the gated DeltaNet layer's input projection's shard: the eight gathered gradients added, the two moments and the change of
  the weights.
-/
module

public import proofs.«01_k».proof.Defs
public import proofs.«01_k».proof.Proof.AdamModel
public import proofs.«01_k».proof.Proof.Gen.AdamInGdnIdeal.Value
public import proofs.«01_k».proof.Proof.Gen.AdamInGdnRefIdeal.Run
public import proofs.«01_k».proof.Proof.Gen.AdamInGdn.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamInGdnRefIdeal.Step
open Cert.AdamInGdnRefIdeal Cert.AdamInGdnRefIdeal.Gen Idealize.ShloMosaic Idealize.ShloMosaic.TcCoe Idealize.SL.Sem

/-- The reference's sum of the eight gradients. -/
def refSum (p : FVec Ideal S8x2048x643 .bf16) : FVec Ideal S2048x643 .f32 :=
  Host.reduceAdd (extf .f32 p bitsLt_bf16_f32) (constant S_ .f32 0x00000000#32) reducesTo_S8x2048x643_S2048x643_d0 h_S_
theorem refSum_apply (p : FVec Ideal S8x2048x643 .bf16) (r : Fin 2048) (q : Fin 643) : refSum p (ix2 r q) = ∑ k : Fin 8, p (ix3 k r q) := by
  unfold refSum
  pointwise

end Cert.AdamInGdnRefIdeal.Step

namespace Cert.AdamInGdnIdeal.Step
open Cert.AdamInGdnIdeal Cert.AdamInGdnIdeal.Gen Idealize.ShloMosaic Idealize.ShloMosaic.TcCoe Idealize.SL.Sem
open Cert.AdamModel

section
variable (x0 : Vec Ideal S8x128x643 .bf16) (x1 x2 x3 : Vec Ideal S128x643 .f32)

theorem piece_apply (a : ℕ) (ha : a < 8) (h) (r : Fin 128) (q : Fin 643) :
    (View.ld x0 (Rect.unit (s := S8x128x643) ![a, 0, 0] S1x128x643.size h) : FVec Ideal S1x128x643 .bf16) (ix3 0 r q) = x0 (ix3 ⟨a, ha⟩ r q) := by
  refine View.ld_unit_apply_of _ _ _ _ _ _ fun b => ?_
  fin_cases b <;> simp

theorem total_apply (r : Fin 128) (q : Fin 643) : k0_pay5 x0 x1 x2 x3 (ix2 r q) = total .bf16 x0 r q := by
  unfold k0_pay5 k0_pay4 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem out_4 (r : Fin 128) (q : Fin 643) : out0_4 x0 x1 x2 x3 (ix2 r q) = total .bf16 x0 r q := by
  have e : out0_4 x0 x1 x2 x3 = k0_pay5 x0 x1 x2 x3 := by frame_out
  rw [e, total_apply]
theorem out_5 (r : Fin 128) (q : Fin 643) : out0_5 x0 x1 x2 x3 (ix2 r q) = change (x1 (ix2 r q)) (x2 (ix2 r q)) (x3 (ix2 r q)) (total .bf16 x0 r q) := by
  have e : out0_5 x0 x1 x2 x3 = k0_pay3 (k0_pay5 x0 x1 x2 x3) x2 (Scalar.ofBits .f32 0x3F666666#32) x3 x1 := by frame_out
  have e2 := total_apply x0 x1 x2 x3
  rw [e]
  unfold k0_pay3 k0_pay1 k0_pay2 change mean square
  generalize k0_pay5 x0 x1 x2 x3 = g at e2
  pointwise [e2]
theorem out_6 (r : Fin 128) (q : Fin 643) : out0_6 x0 x1 x2 x3 (ix2 r q) = mean (x2 (ix2 r q)) (total .bf16 x0 r q) := by
  have e : out0_6 x0 x1 x2 x3 = k0_pay1 (k0_pay5 x0 x1 x2 x3) x2 (Scalar.ofBits .f32 0x3F666666#32) := by frame_out
  have e2 := total_apply x0 x1 x2 x3
  rw [e]
  unfold k0_pay1 mean
  generalize k0_pay5 x0 x1 x2 x3 = g at e2
  pointwise [e2]
theorem out_7 (r : Fin 128) (q : Fin 643) : out0_7 x0 x1 x2 x3 (ix2 r q) = square (x3 (ix2 r q)) (total .bf16 x0 r q) := by
  have e : out0_7 x0 x1 x2 x3 = k0_pay2 (k0_pay5 x0 x1 x2 x3) x3 := by frame_out
  have e2 := total_apply x0 x1 x2 x3
  rw [e]
  unfold k0_pay2 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 16 := t.isLt

variable (m : (ℓ : Loc nD τ sig) → Buf (Elt Ideal) ℓ) (c : Dev nD)

abbrev argP : FVec Ideal S8x2048x643 .bf16 := m ((c : Thread nD τ).loc main_arg0)
abbrev argW : FVec Ideal S2048x643 .f32 := m ((c : Thread nD τ).loc main_arg1)
abbrev argM : FVec Ideal S2048x643 .f32 := m ((c : Thread nD τ).loc main_arg2)
abbrev argV : FVec Ideal S2048x643 .f32 := m ((c : Thread nD τ).loc main_arg3)

/-- Row `r` of row block `t`. -/
abbrev rowOf (t : Fin cfg0.N) (r : Fin 128) : Fin 2048 := ⟨t.val * 128 + r.val, by have := tlt t; omega⟩

theorem iblk_p (t : Fin cfg0.N) (r : Fin 128) (q : Fin 643) : total .bf16 (iblk m c 0 t : FVec Ideal S8x128x643 .bf16) r q = total .bf16 (argP m c) (rowOf t r) q := by
  unfold total
  refine Finset.sum_congr (M := EReal) rfl fun k _ => ?_
  blk_ext [iblk, V, idx_facts t]
theorem iblk_w (t : Fin cfg0.N) (r : Fin 128) (q : Fin 643) : (iblk m c 1 t : FVec Ideal S128x643 .f32) (ix2 r q) = argW m c (ix2 (rowOf t r) q) := by
  blk_ext [iblk, V, idx_facts t]
theorem iblk_m (t : Fin cfg0.N) (r : Fin 128) (q : Fin 643) : (iblk m c 2 t : FVec Ideal S128x643 .f32) (ix2 r q) = argM m c (ix2 (rowOf t r) q) := by
  blk_ext [iblk, V, idx_facts t]
theorem iblk_v (t : Fin cfg0.N) (r : Fin 128) (q : Fin 643) : (iblk m c 3 t : FVec Ideal S128x643 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 128) (q : Fin 643), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 128) (q : Fin 643), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 128) (q : Fin 643), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 128) (q : Fin 643), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamInGdn := fun m g _ => Cert.AdamInGdn.Gen.frame m g
theorem frame_ideal : Cert.quiescent_AdamInGdnIdeal := fun m g _ => Cert.AdamInGdnIdeal.Gen.frame m g
theorem frame_reference : Cert.quiescent_AdamInGdnRefIdeal := fun m g _ =>
  (θ_run Cert.AdamInGdnRefIdeal.defs _ _).mono
    (fun r h => And.intro (fun c => (h c).2.2.2.2) (sem_eq_zero_of_no_sems (by decide) r.2))
    (Cert.AdamInGdnRefIdeal.Value.run (F := Ideal) m g)

theorem algebra : Cert.algebraic_AdamInGdnIdeal_AdamInGdnRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamInGdnIdeal.defs _ _).mono (fun r h c => ?_) (Cert.AdamInGdnIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamInGdnRefIdeal.defs _ _).mono (fun r h c => ?_) (Cert.AdamInGdnRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 2048) (q : Fin 643), AdamInGdnRefIdeal.Step.refSum (argP m c) (ix2 r q) = total .bf16 (argP m c) r q := AdamInGdnRefIdeal.Step.refSum_apply (argP m c)
    unfold AdamInGdnRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 2048) (q : Fin 643), i = ix2 r q := ⟨i 0, i 1, eq_ix2 i⟩
    · exact es r q
    · unfold changeA change mean square
      pointwise [es]
    · unfold meanA mean
      pointwise [es]
    · unfold squareA square
      pointwise [es]

end Cert.AdamInGdnIdeal.Step
end
-- ==== Proof.AdamRank.lean ====
/-
  The optimiser's step at the shard of the RWKV-7 decay and rate projections: the eight gathered gradients added, the two moments and the change of
  the weights.
-/
module

public import proofs.«01_k».proof.Defs
public import proofs.«01_k».proof.Proof.AdamModel
public import proofs.«01_k».proof.Proof.Gen.AdamRankIdeal.Value
public import proofs.«01_k».proof.Proof.Gen.AdamRankRefIdeal.Run
public import proofs.«01_k».proof.Proof.Gen.AdamRank.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamRankRefIdeal.Step
open Cert.AdamRankRefIdeal Cert.AdamRankRefIdeal.Gen Idealize.ShloMosaic Idealize.ShloMosaic.TcCoe Idealize.SL.Sem

/-- The reference's sum of the eight gradients. -/
def refSum (p : FVec Ideal S8x96x192 .f32) : FVec Ideal S96x192 .f32 :=
  Host.reduceAdd p (constant S_ .f32 0x00000000#32) reducesTo_S8x96x192_S96x192_d0 h_S_
theorem refSum_apply (p : FVec Ideal S8x96x192 .f32) (r : Fin 96) (q : Fin 192) : refSum p (ix2 r q) = ∑ k : Fin 8, p (ix3 k r q) := by
  unfold refSum
  pointwise

end Cert.AdamRankRefIdeal.Step

namespace Cert.AdamRankIdeal.Step
open Cert.AdamRankIdeal Cert.AdamRankIdeal.Gen Idealize.ShloMosaic Idealize.ShloMosaic.TcCoe Idealize.SL.Sem
open Cert.AdamModel

section
variable (x0 : Vec Ideal S8x32x192 .f32) (x1 x2 x3 : Vec Ideal S32x192 .f32)

theorem piece_apply (a : ℕ) (ha : a < 8) (h) (r : Fin 32) (q : Fin 192) :
    (View.ld x0 (Rect.unit (s := S8x32x192) ![a, 0, 0] S1x32x192.size h) : FVec Ideal S1x32x192 .f32) (ix3 0 r q) = x0 (ix3 ⟨a, ha⟩ r q) := by
  refine View.ld_unit_apply_of _ _ _ _ _ _ fun b => ?_
  fin_cases b <;> simp

theorem total_apply (r : Fin 32) (q : Fin 192) : k0_pay5 x0 x1 x2 x3 (ix2 r q) = total .f32 x0 r q := by
  unfold k0_pay5 k0_pay3 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem mean_apply (r : Fin 32) (q : Fin 192) : k0_pay6 x0 x1 x2 x3 (ix2 r q) = mean (x2 (ix2 r q)) (total .f32 x0 r q) := by
  have e2 := total_apply x0 x1 x2 x3
  have e : k0_pay6 x0 x1 x2 x3 = addf (mulf (broadcast S32x192 (Scalar.ofBits (F := Ideal) .f32 0x3F666666#32)) x2) (mulf (broadcast S32x192 (Scalar.ofBits (F := Ideal) .f32 0x3DCCCCCD#32)) (k0_pay5 x0 x1 x2 x3)) := by
    unfold k0_pay6 k0_pay4 k0_pay5
    rw [show View.ld x2 r0_8 = x2 from View.ld_unit_zero (by funext a; fin_cases a <;> rfl) _ x2]
  rw [e]
  unfold mean
  generalize k0_pay5 x0 x1 x2 x3 = g at e2
  pointwise [e2]
theorem out_4 (r : Fin 32) (q : Fin 192) : out0_4 x0 x1 x2 x3 (ix2 r q) = total .f32 x0 r q := by
  have e : out0_4 x0 x1 x2 x3 = k0_pay5 x0 x1 x2 x3 := by frame_out
  rw [e, total_apply]
theorem out_5 (r : Fin 32) (q : Fin 192) : out0_5 x0 x1 x2 x3 (ix2 r q) = change (x1 (ix2 r q)) (x2 (ix2 r q)) (x3 (ix2 r q)) (total .f32 x0 r q) := by
  have e : out0_5 x0 x1 x2 x3 = k0_pay2 (k0_pay5 x0 x1 x2 x3) (k0_pay6 x0 x1 x2 x3) x3 x1 := by frame_out
  have e2 := total_apply x0 x1 x2 x3
  have e3 := mean_apply x0 x1 x2 x3
  rw [e]
  unfold k0_pay2 k0_pay1 change square
  generalize k0_pay5 x0 x1 x2 x3 = g at e2
  generalize k0_pay6 x0 x1 x2 x3 = g2 at e3
  pointwise [e2, e3]
theorem out_6 (r : Fin 32) (q : Fin 192) : out0_6 x0 x1 x2 x3 (ix2 r q) = mean (x2 (ix2 r q)) (total .f32 x0 r q) := by
  have e : out0_6 x0 x1 x2 x3 = k0_pay6 x0 x1 x2 x3 := by frame_out
  rw [e, mean_apply]
theorem out_7 (r : Fin 32) (q : Fin 192) : out0_7 x0 x1 x2 x3 (ix2 r q) = square (x3 (ix2 r q)) (total .f32 x0 r q) := by
  have e : out0_7 x0 x1 x2 x3 = k0_pay1 (k0_pay5 x0 x1 x2 x3) x3 := by frame_out
  have e2 := total_apply x0 x1 x2 x3
  rw [e]
  unfold k0_pay1 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 3 := t.isLt

variable (m : (ℓ : Loc nD τ sig) → Buf (Elt Ideal) ℓ) (c : Dev nD)

abbrev argP : FVec Ideal S8x96x192 .f32 := m ((c : Thread nD τ).loc main_arg0)
abbrev argW : FVec Ideal S96x192 .f32 := m ((c : Thread nD τ).loc main_arg1)
abbrev argM : FVec Ideal S96x192 .f32 := m ((c : Thread nD τ).loc main_arg2)
abbrev argV : FVec Ideal S96x192 .f32 := m ((c : Thread nD τ).loc main_arg3)

/-- Row `r` of row block `t`. -/
abbrev rowOf (t : Fin cfg0.N) (r : Fin 32) : Fin 96 := ⟨t.val * 32 + r.val, by have := tlt t; omega⟩

theorem iblk_p (t : Fin cfg0.N) (r : Fin 32) (q : Fin 192) : total .f32 (iblk m c 0 t : FVec Ideal S8x32x192 .f32) r q = total .f32 (argP m c) (rowOf t r) q := by
  unfold total
  refine Finset.sum_congr (M := EReal) rfl fun k _ => ?_
  blk_ext [iblk, V, idx_facts t]
theorem iblk_w (t : Fin cfg0.N) (r : Fin 32) (q : Fin 192) : (iblk m c 1 t : FVec Ideal S32x192 .f32) (ix2 r q) = argW m c (ix2 (rowOf t r) q) := by
  blk_ext [iblk, V, idx_facts t]
theorem iblk_m (t : Fin cfg0.N) (r : Fin 32) (q : Fin 192) : (iblk m c 2 t : FVec Ideal S32x192 .f32) (ix2 r q) = argM m c (ix2 (rowOf t r) q) := by
  blk_ext [iblk, V, idx_facts t]
theorem iblk_v (t : Fin cfg0.N) (r : Fin 32) (q : Fin 192) : (iblk m c 3 t : FVec Ideal S32x192 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 32) (q : Fin 192), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 32) (q : Fin 192), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 32) (q : Fin 192), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 32) (q : Fin 192), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamRank := fun m g _ => Cert.AdamRank.Gen.frame m g
theorem frame_ideal : Cert.quiescent_AdamRankIdeal := fun m g _ => Cert.AdamRankIdeal.Gen.frame m g
theorem frame_reference : Cert.quiescent_AdamRankRefIdeal := fun m g _ =>
  (θ_run Cert.AdamRankRefIdeal.defs _ _).mono
    (fun r h => And.intro (fun c => (h c).2.2.2.2) (sem_eq_zero_of_no_sems (by decide) r.2))
    (Cert.AdamRankRefIdeal.Value.run (F := Ideal) m g)

theorem algebra : Cert.algebraic_AdamRankIdeal_AdamRankRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamRankIdeal.defs _ _).mono (fun r h c => ?_) (Cert.AdamRankIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamRankRefIdeal.defs _ _).mono (fun r h c => ?_) (Cert.AdamRankRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 96) (q : Fin 192), AdamRankRefIdeal.Step.refSum (argP m c) (ix2 r q) = total .f32 (argP m c) r q := AdamRankRefIdeal.Step.refSum_apply (argP m c)
    unfold AdamRankRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 96) (q : Fin 192), i = ix2 r q := ⟨i 0, i 1, eq_ix2 i⟩
    · exact es r q
    · unfold changeA change mean square
      pointwise [es]
    · unfold meanA mean
      pointwise [es]
    · unfold squareA square
      pointwise [es]

end Cert.AdamRankIdeal.Step
end
-- ==== Proof.AdamRankG.lean ====
/-
  The optimiser's step at the RWKV-7 gate projection's shard: the eight gathered gradients added, the two moments and the change of
  the weights.
-/
module

public import proofs.«01_k».proof.Defs
public import proofs.«01_k».proof.Proof.AdamModel
public import proofs.«01_k».proof.Proof.Gen.AdamRankGIdeal.Value
public import proofs.«01_k».proof.Proof.Gen.AdamRankGRefIdeal.Run
public import proofs.«01_k».proof.Proof.Gen.AdamRankG.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamRankGRefIdeal.Step
open Cert.AdamRankGRefIdeal Cert.AdamRankGRefIdeal.Gen Idealize.ShloMosaic Idealize.ShloMosaic.TcCoe Idealize.SL.Sem

/-- The reference's sum of the eight gradients. -/
def refSum (p : FVec Ideal S8x256x192 .f32) : FVec Ideal S256x192 .f32 :=
  Host.reduceAdd p (constant S_ .f32 0x00000000#32) reducesTo_S8x256x192_S256x192_d0 h_S_
theorem refSum_apply (p : FVec Ideal S8x256x192 .f32) (r : Fin 256) (q : Fin 192) : refSum p (ix2 r q) = ∑ k : Fin 8, p (ix3 k r q) := by
  unfold refSum
  pointwise

end Cert.AdamRankGRefIdeal.Step

namespace Cert.AdamRankGIdeal.Step
open Cert.AdamRankGIdeal Cert.AdamRankGIdeal.Gen Idealize.ShloMosaic Idealize.ShloMosaic.TcCoe Idealize.SL.Sem
open Cert.AdamModel

section
variable (x0 : Vec Ideal S8x128x192 .f32) (x1 x2 x3 : Vec Ideal S128x192 .f32)

theorem piece_apply (a : ℕ) (ha : a < 8) (h) (r : Fin 128) (q : Fin 192) :
    (View.ld x0 (Rect.unit (s := S8x128x192) ![a, 0, 0] S1x128x192.size h) : FVec Ideal S1x128x192 .f32) (ix3 0 r q) = x0 (ix3 ⟨a, ha⟩ r q) := by
  refine View.ld_unit_apply_of _ _ _ _ _ _ fun b => ?_
  fin_cases b <;> simp

theorem total_apply (r : Fin 128) (q : Fin 192) : k0_pay5 x0 x1 x2 x3 (ix2 r q) = total .f32 x0 r q := by
  unfold k0_pay5 k0_pay3 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem mean_apply (r : Fin 128) (q : Fin 192) : k0_pay6 x0 x1 x2 x3 (ix2 r q) = mean (x2 (ix2 r q)) (total .f32 x0 r q) := by
  have e2 := total_apply x0 x1 x2 x3
  have e : k0_pay6 x0 x1 x2 x3 = addf (mulf (broadcast S128x192 (Scalar.ofBits (F := Ideal) .f32 0x3F666666#32)) x2) (mulf (broadcast S128x192 (Scalar.ofBits (F := Ideal) .f32 0x3DCCCCCD#32)) (k0_pay5 x0 x1 x2 x3)) := by
    unfold k0_pay6 k0_pay4 k0_pay5
    rw [show View.ld x2 r0_8 = x2 from View.ld_unit_zero (by funext a; fin_cases a <;> rfl) _ x2]
  rw [e]
  unfold mean
  generalize k0_pay5 x0 x1 x2 x3 = g at e2
  pointwise [e2]
theorem out_4 (r : Fin 128) (q : Fin 192) : out0_4 x0 x1 x2 x3 (ix2 r q) = total .f32 x0 r q := by
  have e : out0_4 x0 x1 x2 x3 = k0_pay5 x0 x1 x2 x3 := by frame_out
  rw [e, total_apply]
theorem out_5 (r : Fin 128) (q : Fin 192) : out0_5 x0 x1 x2 x3 (ix2 r q) = change (x1 (ix2 r q)) (x2 (ix2 r q)) (x3 (ix2 r q)) (total .f32 x0 r q) := by
  have e : out0_5 x0 x1 x2 x3 = k0_pay2 (k0_pay5 x0 x1 x2 x3) (k0_pay6 x0 x1 x2 x3) x3 x1 := by frame_out
  have e2 := total_apply x0 x1 x2 x3
  have e3 := mean_apply x0 x1 x2 x3
  rw [e]
  unfold k0_pay2 k0_pay1 change square
  generalize k0_pay5 x0 x1 x2 x3 = g at e2
  generalize k0_pay6 x0 x1 x2 x3 = g2 at e3
  pointwise [e2, e3]
theorem out_6 (r : Fin 128) (q : Fin 192) : out0_6 x0 x1 x2 x3 (ix2 r q) = mean (x2 (ix2 r q)) (total .f32 x0 r q) := by
  have e : out0_6 x0 x1 x2 x3 = k0_pay6 x0 x1 x2 x3 := by frame_out
  rw [e, mean_apply]
theorem out_7 (r : Fin 128) (q : Fin 192) : out0_7 x0 x1 x2 x3 (ix2 r q) = square (x3 (ix2 r q)) (total .f32 x0 r q) := by
  have e : out0_7 x0 x1 x2 x3 = k0_pay1 (k0_pay5 x0 x1 x2 x3) x3 := by frame_out
  have e2 := total_apply x0 x1 x2 x3
  rw [e]
  unfold k0_pay1 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 2 := t.isLt

variable (m : (ℓ : Loc nD τ sig) → Buf (Elt Ideal) ℓ) (c : Dev nD)

abbrev argP : FVec Ideal S8x256x192 .f32 := m ((c : Thread nD τ).loc main_arg0)
abbrev argW : FVec Ideal S256x192 .f32 := m ((c : Thread nD τ).loc main_arg1)
abbrev argM : FVec Ideal S256x192 .f32 := m ((c : Thread nD τ).loc main_arg2)
abbrev argV : FVec Ideal S256x192 .f32 := m ((c : Thread nD τ).loc main_arg3)

/-- Row `r` of row block `t`. -/
abbrev rowOf (t : Fin cfg0.N) (r : Fin 128) : Fin 256 := ⟨t.val * 128 + r.val, by have := tlt t; omega⟩

theorem iblk_p (t : Fin cfg0.N) (r : Fin 128) (q : Fin 192) : total .f32 (iblk m c 0 t : FVec Ideal S8x128x192 .f32) r q = total .f32 (argP m c) (rowOf t r) q := by
  unfold total
  refine Finset.sum_congr (M := EReal) rfl fun k _ => ?_
  blk_ext [iblk, V, idx_facts t]
theorem iblk_w (t : Fin cfg0.N) (r : Fin 128) (q : Fin 192) : (iblk m c 1 t : FVec Ideal S128x192 .f32) (ix2 r q) = argW m c (ix2 (rowOf t r) q) := by
  blk_ext [iblk, V, idx_facts t]
theorem iblk_m (t : Fin cfg0.N) (r : Fin 128) (q : Fin 192) : (iblk m c 2 t : FVec Ideal S128x192 .f32) (ix2 r q) = argM m c (ix2 (rowOf t r) q) := by
  blk_ext [iblk, V, idx_facts t]
theorem iblk_v (t : Fin cfg0.N) (r : Fin 128) (q : Fin 192) : (iblk m c 3 t : FVec Ideal S128x192 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 128) (q : Fin 192), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 128) (q : Fin 192), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 128) (q : Fin 192), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 128) (q : Fin 192), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamRankG := fun m g _ => Cert.AdamRankG.Gen.frame m g
theorem frame_ideal : Cert.quiescent_AdamRankGIdeal := fun m g _ => Cert.AdamRankGIdeal.Gen.frame m g
theorem frame_reference : Cert.quiescent_AdamRankGRefIdeal := fun m g _ =>
  (θ_run Cert.AdamRankGRefIdeal.defs _ _).mono
    (fun r h => And.intro (fun c => (h c).2.2.2.2) (sem_eq_zero_of_no_sems (by decide) r.2))
    (Cert.AdamRankGRefIdeal.Value.run (F := Ideal) m g)

theorem algebra : Cert.algebraic_AdamRankGIdeal_AdamRankGRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamRankGIdeal.defs _ _).mono (fun r h c => ?_) (Cert.AdamRankGIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamRankGRefIdeal.defs _ _).mono (fun r h c => ?_) (Cert.AdamRankGRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 256) (q : Fin 192), AdamRankGRefIdeal.Step.refSum (argP m c) (ix2 r q) = total .f32 (argP m c) r q := AdamRankGRefIdeal.Step.refSum_apply (argP m c)
    unfold AdamRankGRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 256) (q : Fin 192), i = ix2 r q := ⟨i 0, i 1, eq_ix2 i⟩
    · exact es r q
    · unfold changeA change mean square
      pointwise [es]
    · unfold meanA mean
      pointwise [es]
    · unfold squareA square
      pointwise [es]

end Cert.AdamRankGIdeal.Step
end
-- ==== Proof.AdamConvC.lean ====
/-
  The optimiser's step at the gated DeltaNet's convolution's shard: the eight gathered gradients added, the two moments and the change of
  the weights.
-/
module

public import proofs.«01_k».proof.Defs
public import proofs.«01_k».proof.Proof.AdamModel
public import proofs.«01_k».proof.Proof.Gen.AdamConvCIdeal.Value
public import proofs.«01_k».proof.Proof.Gen.AdamConvCRefIdeal.Run
public import proofs.«01_k».proof.Proof.Gen.AdamConvC.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamConvCRefIdeal.Step
open Cert.AdamConvCRefIdeal Cert.AdamConvCRefIdeal.Gen Idealize.ShloMosaic Idealize.ShloMosaic.TcCoe Idealize.SL.Sem

/-- The reference's sum of the eight gradients. -/
def refSum (p : FVec Ideal S8x4x384 .f32) : FVec Ideal S4x384 .f32 :=
  Host.reduceAdd p (constant S_ .f32 0x00000000#32) reducesTo_S8x4x384_S4x384_d0 h_S_
theorem refSum_apply (p : FVec Ideal S8x4x384 .f32) (r : Fin 4) (q : Fin 384) : refSum p (ix2 r q) = ∑ k : Fin 8, p (ix3 k r q) := by
  unfold refSum
  pointwise

end Cert.AdamConvCRefIdeal.Step

namespace Cert.AdamConvCIdeal.Step
open Cert.AdamConvCIdeal Cert.AdamConvCIdeal.Gen Idealize.ShloMosaic Idealize.ShloMosaic.TcCoe Idealize.SL.Sem
open Cert.AdamModel

section
variable (x0 : Vec Ideal S8x4x384 .f32) (x1 x2 x3 : Vec Ideal S4x384 .f32)

theorem piece_apply (a : ℕ) (ha : a < 8) (h) (r : Fin 4) (q : Fin 384) :
    (View.ld x0 (Rect.unit (s := S8x4x384) ![a, 0, 0] S1x4x384.size h) : FVec Ideal S1x4x384 .f32) (ix3 0 r q) = x0 (ix3 ⟨a, ha⟩ r q) := by
  refine View.ld_unit_apply_of _ _ _ _ _ _ fun b => ?_
  fin_cases b <;> simp

theorem total_apply (r : Fin 4) (q : Fin 384) : k0_pay5 x0 x1 x2 x3 (ix2 r q) = total .f32 x0 r q := by
  unfold k0_pay5 k0_pay3 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem mean_apply (r : Fin 4) (q : Fin 384) : k0_pay6 x0 x1 x2 x3 (ix2 r q) = mean (x2 (ix2 r q)) (total .f32 x0 r q) := by
  have e2 := total_apply x0 x1 x2 x3
  have e : k0_pay6 x0 x1 x2 x3 = addf (mulf (broadcast S4x384 (Scalar.ofBits (F := Ideal) .f32 0x3F666666#32)) x2) (mulf (broadcast S4x384 (Scalar.ofBits (F := Ideal) .f32 0x3DCCCCCD#32)) (k0_pay5 x0 x1 x2 x3)) := by
    unfold k0_pay6 k0_pay4 k0_pay5
    rw [show View.ld x2 r0_8 = x2 from View.ld_unit_zero (by funext a; fin_cases a <;> rfl) _ x2]
  rw [e]
  unfold mean
  generalize k0_pay5 x0 x1 x2 x3 = g at e2
  pointwise [e2]
theorem out_4 (r : Fin 4) (q : Fin 384) : out0_4 x0 x1 x2 x3 (ix2 r q) = total .f32 x0 r q := by
  have e : out0_4 x0 x1 x2 x3 = k0_pay5 x0 x1 x2 x3 := by frame_out
  rw [e, total_apply]
theorem out_5 (r : Fin 4) (q : Fin 384) : out0_5 x0 x1 x2 x3 (ix2 r q) = change (x1 (ix2 r q)) (x2 (ix2 r q)) (x3 (ix2 r q)) (total .f32 x0 r q) := by
  have e : out0_5 x0 x1 x2 x3 = k0_pay2 (k0_pay5 x0 x1 x2 x3) (k0_pay6 x0 x1 x2 x3) x3 x1 := by frame_out
  have e2 := total_apply x0 x1 x2 x3
  have e3 := mean_apply x0 x1 x2 x3
  rw [e]
  unfold k0_pay2 k0_pay1 change square
  generalize k0_pay5 x0 x1 x2 x3 = g at e2
  generalize k0_pay6 x0 x1 x2 x3 = g2 at e3
  pointwise [e2, e3]
theorem out_6 (r : Fin 4) (q : Fin 384) : out0_6 x0 x1 x2 x3 (ix2 r q) = mean (x2 (ix2 r q)) (total .f32 x0 r q) := by
  have e : out0_6 x0 x1 x2 x3 = k0_pay6 x0 x1 x2 x3 := by frame_out
  rw [e, mean_apply]
theorem out_7 (r : Fin 4) (q : Fin 384) : out0_7 x0 x1 x2 x3 (ix2 r q) = square (x3 (ix2 r q)) (total .f32 x0 r q) := by
  have e : out0_7 x0 x1 x2 x3 = k0_pay1 (k0_pay5 x0 x1 x2 x3) x3 := by frame_out
  have e2 := total_apply x0 x1 x2 x3
  rw [e]
  unfold k0_pay1 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 1 := t.isLt

variable (m : (ℓ : Loc nD τ sig) → Buf (Elt Ideal) ℓ) (c : Dev nD)

abbrev argP : FVec Ideal S8x4x384 .f32 := m ((c : Thread nD τ).loc main_arg0)
abbrev argW : FVec Ideal S4x384 .f32 := m ((c : Thread nD τ).loc main_arg1)
abbrev argM : FVec Ideal S4x384 .f32 := m ((c : Thread nD τ).loc main_arg2)
abbrev argV : FVec Ideal S4x384 .f32 := m ((c : Thread nD τ).loc main_arg3)

/-- Row `r` of row block `t`. -/
abbrev rowOf (t : Fin cfg0.N) (r : Fin 4) : Fin 4 := ⟨t.val * 4 + r.val, by have := tlt t; omega⟩

theorem iblk_p (t : Fin cfg0.N) (r : Fin 4) (q : Fin 384) : total .f32 (iblk m c 0 t : FVec Ideal S8x4x384 .f32) r q = total .f32 (argP m c) (rowOf t r) q := by
  unfold total
  refine Finset.sum_congr (M := EReal) rfl fun k _ => ?_
  blk_ext [iblk, V, idx_facts t]
theorem iblk_w (t : Fin cfg0.N) (r : Fin 4) (q : Fin 384) : (iblk m c 1 t : FVec Ideal S4x384 .f32) (ix2 r q) = argW m c (ix2 (rowOf t r) q) := by
  blk_ext [iblk, V, idx_facts t]
theorem iblk_m (t : Fin cfg0.N) (r : Fin 4) (q : Fin 384) : (iblk m c 2 t : FVec Ideal S4x384 .f32) (ix2 r q) = argM m c (ix2 (rowOf t r) q) := by
  blk_ext [iblk, V, idx_facts t]
theorem iblk_v (t : Fin cfg0.N) (r : Fin 4) (q : Fin 384) : (iblk m c 3 t : FVec Ideal S4x384 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 4) (q : Fin 384), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 4) (q : Fin 384), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 4) (q : Fin 384), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 4) (q : Fin 384), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamConvC := fun m g _ => Cert.AdamConvC.Gen.frame m g
theorem frame_ideal : Cert.quiescent_AdamConvCIdeal := fun m g _ => Cert.AdamConvCIdeal.Gen.frame m g
theorem frame_reference : Cert.quiescent_AdamConvCRefIdeal := fun m g _ =>
  (θ_run Cert.AdamConvCRefIdeal.defs _ _).mono
    (fun r h => And.intro (fun c => (h c).2.2.2.2) (sem_eq_zero_of_no_sems (by decide) r.2))
    (Cert.AdamConvCRefIdeal.Value.run (F := Ideal) m g)

theorem algebra : Cert.algebraic_AdamConvCIdeal_AdamConvCRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamConvCIdeal.defs _ _).mono (fun r h c => ?_) (Cert.AdamConvCIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamConvCRefIdeal.defs _ _).mono (fun r h c => ?_) (Cert.AdamConvCRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 4) (q : Fin 384), AdamConvCRefIdeal.Step.refSum (argP m c) (ix2 r q) = total .f32 (argP m c) r q := AdamConvCRefIdeal.Step.refSum_apply (argP m c)
    unfold AdamConvCRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 4) (q : Fin 384), i = ix2 r q := ⟨i 0, i 1, eq_ix2 i⟩
    · exact es r q
    · unfold changeA change mean square
      pointwise [es]
    · unfold meanA mean
      pointwise [es]
    · unfold squareA square
      pointwise [es]

end Cert.AdamConvCIdeal.Step
end
-- ==== Proof.AdamConv.lean ====
/-
  The optimiser's step at the MLP's convolution's shard: the eight gathered gradients added, the two moments and the change of
  the weights.
-/
module

public import proofs.«01_k».proof.Defs
public import proofs.«01_k».proof.Proof.AdamModel
public import proofs.«01_k».proof.Proof.Gen.AdamConvIdeal.Value
public import proofs.«01_k».proof.Proof.Gen.AdamConvRefIdeal.Run
public import proofs.«01_k».proof.Proof.Gen.AdamConv.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamConvRefIdeal.Step
open Cert.AdamConvRefIdeal Cert.AdamConvRefIdeal.Gen Idealize.ShloMosaic Idealize.ShloMosaic.TcCoe Idealize.SL.Sem

/-- The reference's sum of the eight gradients. -/
def refSum (p : FVec Ideal S8x3x1408 .f32) : FVec Ideal S3x1408 .f32 :=
  Host.reduceAdd p (constant S_ .f32 0x00000000#32) reducesTo_S8x3x1408_S3x1408_d0 h_S_
theorem refSum_apply (p : FVec Ideal S8x3x1408 .f32) (r : Fin 3) (q : Fin 1408) : refSum p (ix2 r q) = ∑ k : Fin 8, p (ix3 k r q) := by
  unfold refSum
  pointwise

end Cert.AdamConvRefIdeal.Step

namespace Cert.AdamConvIdeal.Step
open Cert.AdamConvIdeal Cert.AdamConvIdeal.Gen Idealize.ShloMosaic Idealize.ShloMosaic.TcCoe Idealize.SL.Sem
open Cert.AdamModel

section
variable (x0 : Vec Ideal S8x3x1408 .f32) (x1 x2 x3 : Vec Ideal S3x1408 .f32)

theorem piece_apply (a : ℕ) (ha : a < 8) (h) (r : Fin 3) (q : Fin 1408) :
    (View.ld x0 (Rect.unit (s := S8x3x1408) ![a, 0, 0] S1x3x1408.size h) : FVec Ideal S1x3x1408 .f32) (ix3 0 r q) = x0 (ix3 ⟨a, ha⟩ r q) := by
  refine View.ld_unit_apply_of _ _ _ _ _ _ fun b => ?_
  fin_cases b <;> simp

theorem total_apply (r : Fin 3) (q : Fin 1408) : k0_pay5 x0 x1 x2 x3 (ix2 r q) = total .f32 x0 r q := by
  unfold k0_pay5 k0_pay3 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem mean_apply (r : Fin 3) (q : Fin 1408) : k0_pay6 x0 x1 x2 x3 (ix2 r q) = mean (x2 (ix2 r q)) (total .f32 x0 r q) := by
  have e2 := total_apply x0 x1 x2 x3
  have e : k0_pay6 x0 x1 x2 x3 = addf (mulf (broadcast S3x1408 (Scalar.ofBits (F := Ideal) .f32 0x3F666666#32)) x2) (mulf (broadcast S3x1408 (Scalar.ofBits (F := Ideal) .f32 0x3DCCCCCD#32)) (k0_pay5 x0 x1 x2 x3)) := by
    unfold k0_pay6 k0_pay4 k0_pay5
    rw [show View.ld x2 r0_8 = x2 from View.ld_unit_zero (by funext a; fin_cases a <;> rfl) _ x2]
  rw [e]
  unfold mean
  generalize k0_pay5 x0 x1 x2 x3 = g at e2
  pointwise [e2]
theorem out_4 (r : Fin 3) (q : Fin 1408) : out0_4 x0 x1 x2 x3 (ix2 r q) = total .f32 x0 r q := by
  have e : out0_4 x0 x1 x2 x3 = k0_pay5 x0 x1 x2 x3 := by frame_out
  rw [e, total_apply]
theorem out_5 (r : Fin 3) (q : Fin 1408) : out0_5 x0 x1 x2 x3 (ix2 r q) = change (x1 (ix2 r q)) (x2 (ix2 r q)) (x3 (ix2 r q)) (total .f32 x0 r q) := by
  have e : out0_5 x0 x1 x2 x3 = k0_pay2 (k0_pay5 x0 x1 x2 x3) (k0_pay6 x0 x1 x2 x3) x3 x1 := by frame_out
  have e2 := total_apply x0 x1 x2 x3
  have e3 := mean_apply x0 x1 x2 x3
  rw [e]
  unfold k0_pay2 k0_pay1 change square
  generalize k0_pay5 x0 x1 x2 x3 = g at e2
  generalize k0_pay6 x0 x1 x2 x3 = g2 at e3
  pointwise [e2, e3]
theorem out_6 (r : Fin 3) (q : Fin 1408) : out0_6 x0 x1 x2 x3 (ix2 r q) = mean (x2 (ix2 r q)) (total .f32 x0 r q) := by
  have e : out0_6 x0 x1 x2 x3 = k0_pay6 x0 x1 x2 x3 := by frame_out
  rw [e, mean_apply]
theorem out_7 (r : Fin 3) (q : Fin 1408) : out0_7 x0 x1 x2 x3 (ix2 r q) = square (x3 (ix2 r q)) (total .f32 x0 r q) := by
  have e : out0_7 x0 x1 x2 x3 = k0_pay1 (k0_pay5 x0 x1 x2 x3) x3 := by frame_out
  have e2 := total_apply x0 x1 x2 x3
  rw [e]
  unfold k0_pay1 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 1 := t.isLt

variable (m : (ℓ : Loc nD τ sig) → Buf (Elt Ideal) ℓ) (c : Dev nD)

abbrev argP : FVec Ideal S8x3x1408 .f32 := m ((c : Thread nD τ).loc main_arg0)
abbrev argW : FVec Ideal S3x1408 .f32 := m ((c : Thread nD τ).loc main_arg1)
abbrev argM : FVec Ideal S3x1408 .f32 := m ((c : Thread nD τ).loc main_arg2)
abbrev argV : FVec Ideal S3x1408 .f32 := m ((c : Thread nD τ).loc main_arg3)

/-- Row `r` of row block `t`. -/
abbrev rowOf (t : Fin cfg0.N) (r : Fin 3) : Fin 3 := ⟨t.val * 3 + r.val, by have := tlt t; omega⟩

theorem iblk_p (t : Fin cfg0.N) (r : Fin 3) (q : Fin 1408) : total .f32 (iblk m c 0 t : FVec Ideal S8x3x1408 .f32) r q = total .f32 (argP m c) (rowOf t r) q := by
  unfold total
  refine Finset.sum_congr (M := EReal) rfl fun k _ => ?_
  blk_ext [iblk, V, idx_facts t]
theorem iblk_w (t : Fin cfg0.N) (r : Fin 3) (q : Fin 1408) : (iblk m c 1 t : FVec Ideal S3x1408 .f32) (ix2 r q) = argW m c (ix2 (rowOf t r) q) := by
  blk_ext [iblk, V, idx_facts t]
theorem iblk_m (t : Fin cfg0.N) (r : Fin 3) (q : Fin 1408) : (iblk m c 2 t : FVec Ideal S3x1408 .f32) (ix2 r q) = argM m c (ix2 (rowOf t r) q) := by
  blk_ext [iblk, V, idx_facts t]
theorem iblk_v (t : Fin cfg0.N) (r : Fin 3) (q : Fin 1408) : (iblk m c 3 t : FVec Ideal S3x1408 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 3) (q : Fin 1408), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 3) (q : Fin 1408), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 3) (q : Fin 1408), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 3) (q : Fin 1408), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamConv := fun m g _ => Cert.AdamConv.Gen.frame m g
theorem frame_ideal : Cert.quiescent_AdamConvIdeal := fun m g _ => Cert.AdamConvIdeal.Gen.frame m g
theorem frame_reference : Cert.quiescent_AdamConvRefIdeal := fun m g _ =>
  (θ_run Cert.AdamConvRefIdeal.defs _ _).mono
    (fun r h => And.intro (fun c => (h c).2.2.2.2) (sem_eq_zero_of_no_sems (by decide) r.2))
    (Cert.AdamConvRefIdeal.Value.run (F := Ideal) m g)

theorem algebra : Cert.algebraic_AdamConvIdeal_AdamConvRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamConvIdeal.defs _ _).mono (fun r h c => ?_) (Cert.AdamConvIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamConvRefIdeal.defs _ _).mono (fun r h c => ?_) (Cert.AdamConvRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 3) (q : Fin 1408), AdamConvRefIdeal.Step.refSum (argP m c) (ix2 r q) = total .f32 (argP m c) r q := AdamConvRefIdeal.Step.refSum_apply (argP m c)
    unfold AdamConvRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 3) (q : Fin 1408), i = ix2 r q := ⟨i 0, i 1, eq_ix2 i⟩
    · exact es r q
    · unfold changeA change mean square
      pointwise [es]
    · unfold meanA mean
      pointwise [es]
    · unfold squareA square
      pointwise [es]

end Cert.AdamConvIdeal.Step
end
-- ==== Proof.AdamRep.lean ====
/-
  The optimiser's step at the packed array of the weights that every device holds whole: the eight gathered gradients added, the two moments and the change of
  the weights.
-/
module

public import proofs.«01_k».proof.Defs
public import proofs.«01_k».proof.Proof.AdamModel
public import proofs.«01_k».proof.Proof.Gen.AdamRepIdeal.Value
public import proofs.«01_k».proof.Proof.Gen.AdamRepRefIdeal.Run
public import proofs.«01_k».proof.Proof.Gen.AdamRep.Frame
public import Idealize.ShloMosaic.Lib.Pipeline.ValueKit
public import Idealize.ShloMosaic.Lib.Pointwise
public import Idealize.ShloMosaic.Lib.IdealHost
public import Idealize.ShloMosaic.Adequacy
public import Idealize.ShloMosaic.Init

@[expose] public section
set_option maxRecDepth 16384
noncomputable section
namespace Cert.AdamRepRefIdeal.Step
open Cert.AdamRepRefIdeal Cert.AdamRepRefIdeal.Gen Idealize.ShloMosaic Idealize.ShloMosaic.TcCoe Idealize.SL.Sem

/-- The reference's sum of the eight gradients. -/
def refSum (p : FVec Ideal S8x336x128 .f32) : FVec Ideal S336x128 .f32 :=
  Host.reduceAdd p (constant S_ .f32 0x00000000#32) reducesTo_S8x336x128_S336x128_d0 h_S_
theorem refSum_apply (p : FVec Ideal S8x336x128 .f32) (r : Fin 336) (q : Fin 128) : refSum p (ix2 r q) = ∑ k : Fin 8, p (ix3 k r q) := by
  unfold refSum
  pointwise

end Cert.AdamRepRefIdeal.Step

namespace Cert.AdamRepIdeal.Step
open Cert.AdamRepIdeal Cert.AdamRepIdeal.Gen Idealize.ShloMosaic Idealize.ShloMosaic.TcCoe Idealize.SL.Sem
open Cert.AdamModel

section
variable (x0 : Vec Ideal S8x16x128 .f32) (x1 x2 x3 : Vec Ideal S16x128 .f32)

theorem piece_apply (a : ℕ) (ha : a < 8) (h) (r : Fin 16) (q : Fin 128) :
    (View.ld x0 (Rect.unit (s := S8x16x128) ![a, 0, 0] S1x16x128.size h) : FVec Ideal S1x16x128 .f32) (ix3 0 r q) = x0 (ix3 ⟨a, ha⟩ r q) := by
  refine View.ld_unit_apply_of _ _ _ _ _ _ fun b => ?_
  fin_cases b <;> simp

theorem total_apply (r : Fin 16) (q : Fin 128) : k0_pay5 x0 x1 x2 x3 (ix2 r q) = total .f32 x0 r q := by
  unfold k0_pay5 k0_pay3 total
  rw [Fin.sum_univ_eight]
  have e := fun (a : ℕ) (ha : a < 8) h => piece_apply x0 a ha h r q
  pointwise [e 0 (by omega), e 1 (by omega), e 2 (by omega), e 3 (by omega), e 4 (by omega), e 5 (by omega), e 6 (by omega), e 7 (by omega)]
theorem mean_apply (r : Fin 16) (q : Fin 128) : k0_pay6 x0 x1 x2 x3 (ix2 r q) = mean (x2 (ix2 r q)) (total .f32 x0 r q) := by
  have e2 := total_apply x0 x1 x2 x3
  have e : k0_pay6 x0 x1 x2 x3 = addf (mulf (broadcast S16x128 (Scalar.ofBits (F := Ideal) .f32 0x3F666666#32)) x2) (mulf (broadcast S16x128 (Scalar.ofBits (F := Ideal) .f32 0x3DCCCCCD#32)) (k0_pay5 x0 x1 x2 x3)) := by
    unfold k0_pay6 k0_pay4 k0_pay5
    rw [show View.ld x2 r0_8 = x2 from View.ld_unit_zero (by funext a; fin_cases a <;> rfl) _ x2]
  rw [e]
  unfold mean
  generalize k0_pay5 x0 x1 x2 x3 = g at e2
  pointwise [e2]
theorem out_4 (r : Fin 16) (q : Fin 128) : out0_4 x0 x1 x2 x3 (ix2 r q) = total .f32 x0 r q := by
  have e : out0_4 x0 x1 x2 x3 = k0_pay5 x0 x1 x2 x3 := by frame_out
  rw [e, total_apply]
theorem out_5 (r : Fin 16) (q : Fin 128) : out0_5 x0 x1 x2 x3 (ix2 r q) = change (x1 (ix2 r q)) (x2 (ix2 r q)) (x3 (ix2 r q)) (total .f32 x0 r q) := by
  have e : out0_5 x0 x1 x2 x3 = k0_pay2 (k0_pay5 x0 x1 x2 x3) (k0_pay6 x0 x1 x2 x3) x3 x1 := by frame_out
  have e2 := total_apply x0 x1 x2 x3
  have e3 := mean_apply x0 x1 x2 x3
  rw [e]
  unfold k0_pay2 k0_pay1 change square
  generalize k0_pay5 x0 x1 x2 x3 = g at e2
  generalize k0_pay6 x0 x1 x2 x3 = g2 at e3
  pointwise [e2, e3]
theorem out_6 (r : Fin 16) (q : Fin 128) : out0_6 x0 x1 x2 x3 (ix2 r q) = mean (x2 (ix2 r q)) (total .f32 x0 r q) := by
  have e : out0_6 x0 x1 x2 x3 = k0_pay6 x0 x1 x2 x3 := by frame_out
  rw [e, mean_apply]
theorem out_7 (r : Fin 16) (q : Fin 128) : out0_7 x0 x1 x2 x3 (ix2 r q) = square (x3 (ix2 r q)) (total .f32 x0 r q) := by
  have e : out0_7 x0 x1 x2 x3 = k0_pay1 (k0_pay5 x0 x1 x2 x3) x3 := by frame_out
  have e2 := total_apply x0 x1 x2 x3
  rw [e]
  unfold k0_pay1 square
  generalize k0_pay5 x0 x1 x2 x3 = g at e2
  pointwise [e2]
end

/-- The blocks the windows are on at a point. -/
theorem idx_facts : ∀ t : Fin grid0.N,
    win0_0.index t 0 = 0 ∧ win0_0.index t 1 = t.val ∧ win0_0.index t 2 = 0 ∧ win0_1.index t 0 = t.val ∧ win0_1.index t 1 = 0 ∧
    win0_2.index t 0 = t.val ∧ win0_2.index t 1 = 0 ∧ win0_3.index t 0 = t.val ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 := by decide +kernel

theorem tlt (t : Fin cfg0.N) : t.val < 21 := t.isLt

variable (m : (ℓ : Loc nD τ sig) → Buf (Elt Ideal) ℓ) (c : Dev nD)

abbrev argP : FVec Ideal S8x336x128 .f32 := m ((c : Thread nD τ).loc main_arg0)
abbrev argW : FVec Ideal S336x128 .f32 := m ((c : Thread nD τ).loc main_arg1)
abbrev argM : FVec Ideal S336x128 .f32 := m ((c : Thread nD τ).loc main_arg2)
abbrev argV : FVec Ideal S336x128 .f32 := m ((c : Thread nD τ).loc main_arg3)

/-- Row `r` of row block `t`. -/
abbrev rowOf (t : Fin cfg0.N) (r : Fin 16) : Fin 336 := ⟨t.val * 16 + r.val, by have := tlt t; omega⟩

theorem iblk_p (t : Fin cfg0.N) (r : Fin 16) (q : Fin 128) : total .f32 (iblk m c 0 t : FVec Ideal S8x16x128 .f32) r q = total .f32 (argP m c) (rowOf t r) q := by
  unfold total
  refine Finset.sum_congr (M := EReal) rfl fun k _ => ?_
  blk_ext [iblk, V, idx_facts t]
theorem iblk_w (t : Fin cfg0.N) (r : Fin 16) (q : Fin 128) : (iblk m c 1 t : FVec Ideal S16x128 .f32) (ix2 r q) = argW m c (ix2 (rowOf t r) q) := by
  blk_ext [iblk, V, idx_facts t]
theorem iblk_m (t : Fin cfg0.N) (r : Fin 16) (q : Fin 128) : (iblk m c 2 t : FVec Ideal S16x128 .f32) (ix2 r q) = argM m c (ix2 (rowOf t r) q) := by
  blk_ext [iblk, V, idx_facts t]
theorem iblk_v (t : Fin cfg0.N) (r : Fin 16) (q : Fin 128) : (iblk m c 3 t : FVec Ideal S16x128 .f32) (ix2 r q) = argV m c (ix2 (rowOf t r) q) := by
  blk_ext [iblk, V, idx_facts t]

theorem array_4 : (dats m 0 c).arrAt 4 cfg0.N = sumA (argP m c) := by
  refine (dats m 0 c).arrAt_eq_of_covers 4 _ (by decide +kernel) fun t hf y => ?_
  blk_simp [idx_facts t]
  rw [after0_4]
  obtain ⟨r, q, rfl⟩ : ∃ (r : Fin 16) (q : Fin 128), y = ix2 r q := ⟨y 0, y 1, eq_ix2 y⟩
  rw [out_4, iblk_p]
  refine Eq.trans (b := sumA (argP m c) (ix2 (rowOf t r) q)) rfl ?_
  blk_ext [idx_facts t]
theorem array_5 : (dats m 0 c).arrAt 5 cfg0.N = changeA (argP m c) (argW m c) (argM m c) (argV m c) := by
  refine (dats m 0 c).arrAt_eq_of_covers 5 _ (by decide +kernel) fun t hf y => ?_
  blk_simp [idx_facts t]
  rw [after0_5]
  obtain ⟨r, q, rfl⟩ : ∃ (r : Fin 16) (q : Fin 128), y = ix2 r q := ⟨y 0, y 1, eq_ix2 y⟩
  rw [out_5, iblk_p, iblk_w, iblk_m, iblk_v]
  refine Eq.trans (b := changeA (argP m c) (argW m c) (argM m c) (argV m c) (ix2 (rowOf t r) q)) rfl ?_
  blk_ext [idx_facts t]
theorem array_6 : (dats m 0 c).arrAt 6 cfg0.N = meanA (argP m c) (argM m c) := by
  refine (dats m 0 c).arrAt_eq_of_covers 6 _ (by decide +kernel) fun t hf y => ?_
  blk_simp [idx_facts t]
  rw [after0_6]
  obtain ⟨r, q, rfl⟩ : ∃ (r : Fin 16) (q : Fin 128), y = ix2 r q := ⟨y 0, y 1, eq_ix2 y⟩
  rw [out_6, iblk_p, iblk_m]
  refine Eq.trans (b := meanA (argP m c) (argM m c) (ix2 (rowOf t r) q)) rfl ?_
  blk_ext [idx_facts t]
theorem array_7 : (dats m 0 c).arrAt 7 cfg0.N = squareA (argP m c) (argV m c) := by
  refine (dats m 0 c).arrAt_eq_of_covers 7 _ (by decide +kernel) fun t hf y => ?_
  blk_simp [idx_facts t]
  rw [after0_7]
  obtain ⟨r, q, rfl⟩ : ∃ (r : Fin 16) (q : Fin 128), y = ix2 r q := ⟨y 0, y 1, eq_ix2 y⟩
  rw [out_7, iblk_p, iblk_v]
  refine Eq.trans (b := squareA (argP m c) (argV m c) (ix2 (rowOf t r) q)) rfl ?_
  blk_ext [idx_facts t]

theorem frame_printed : Cert.quiescent_AdamRep := fun m g _ => Cert.AdamRep.Gen.frame m g
theorem frame_ideal : Cert.quiescent_AdamRepIdeal := fun m g _ => Cert.AdamRepIdeal.Gen.frame m g
theorem frame_reference : Cert.quiescent_AdamRepRefIdeal := fun m g _ =>
  (θ_run Cert.AdamRepRefIdeal.defs _ _).mono
    (fun r h => And.intro (fun c => (h c).2.2.2.2) (sem_eq_zero_of_no_sems (by decide) r.2))
    (Cert.AdamRepRefIdeal.Value.run (F := Ideal) m g)

theorem algebra : Cert.algebraic_AdamRepIdeal_AdamRepRefIdeal := by
  intro m g m' g' _ hargs
  refine ⟨fun c => sumA (argP m c), fun c => changeA (argP m c) (argW m c) (argM m c) (argV m c), fun c => meanA (argP m c) (argM m c),
    fun c => squareA (argP m c) (argV m c), ?_, ?_⟩
  · refine (θ_run Cert.AdamRepIdeal.defs _ _).mono (fun r h c => ?_) (Cert.AdamRepIdeal.Value.run_blocks (F := Ideal) m g)
    obtain ⟨h0, h1, h2, h3, h4⟩ := h c
    exact ⟨h0.trans (array_4 m c), h1.trans (array_5 m c), h2.trans (array_6 m c), h3.trans (array_7 m c), h4⟩
  · refine (θ_run Cert.AdamRepRefIdeal.defs _ _).mono (fun r h c => ?_) (Cert.AdamRepRefIdeal.Value.run (F := Ideal) m' g')
    obtain ⟨h0, h1, h2, h3, h4⟩ := h c
    obtain ⟨e0, e1, e2, e3⟩ := hargs c
    rw [e0] at h0 h1 h2 h3
    rw [e1] at h1
    rw [e2] at h1 h2
    rw [e3] at h1 h3
    have es : ∀ (r : Fin 336) (q : Fin 128), AdamRepRefIdeal.Step.refSum (argP m c) (ix2 r q) = total .f32 (argP m c) r q := AdamRepRefIdeal.Step.refSum_apply (argP m c)
    unfold AdamRepRefIdeal.Step.refSum at es
    refine ⟨h0.trans ?_, h1.trans ?_, h2.trans ?_, h3.trans ?_, h4⟩
    all_goals
      dsimp only [argP, argW, argM, argV] at es ⊢
      generalize m (c.tc.loc main_arg0) = p at es ⊢
      generalize m (c.tc.loc main_arg1) = w
      generalize m (c.tc.loc main_arg2) = mo
      generalize m (c.tc.loc main_arg3) = v
      generalize Host.reduceAdd (F := Ideal) _ _ _ _ = s at es ⊢
      funext i
      obtain ⟨r, q, rfl⟩ : ∃ (r : Fin 336) (q : Fin 128), i = ix2 r q := ⟨i 0, i 1, eq_ix2 i⟩
    · exact es r q
    · unfold changeA change mean square
      pointwise [es]
    · unfold meanA mean
      pointwise [es]
    · unfold squareA square
      pointwise [es]

end Cert.AdamRepIdeal.Step
end
-- ==== Proof.Head.lean ====
/-
  One head of the memory attention's gradient on one block of 256 query rows, written once as vector operations: the
  kernel writes the same text out for each of its four heads.
-/
module

public import proofs.«01_k».proof.Proof.Gen.KernelIdeal.Skeleton

@[expose] public section
noncomputable section
namespace Cert.KernelIdeal.Head
open Cert.KernelIdeal Cert.KernelIdeal.Gen Idealize.ShloMosaic
variable {F : FTy → Type} [FloatOps F]

/-- The high bf16 half of a vector, as f32. -/
def top {s : Shape} (x : FVec F s .f32) : FVec F s .f32 := extf .f32 (truncf .bf16 x)
/-- The high half as the bf16 operand of a product. -/
def hi {s : Shape} (x : FVec F s .f32) : FVec F s .bf16 := truncf .bf16 (top x) bitsLt_bf16_f32
/-- What the high half leaves, as the bf16 operand of a product. -/
def lo {s : Shape} (x : FVec F s .f32) : FVec F s .bf16 := truncf .bf16 (subf x (top x)) bitsLt_bf16_f32

/-- A product of two f32 operands in three bf16 products: high by high, plus high by low and low by high. -/
def dot3 {sl sr so : Shape} (d : DotDims sl sr so) (a : FVec F sl .f32) (b : FVec F sr .f32) : FVec F so .f32 :=
  addf (matmul d none (hi a) (hi b) (constant so .f32 0x00000000#32))
    (addf (matmul d none (hi a) (lo b) (constant so .f32 0x00000000#32)) (matmul d none (lo a) (hi b) (constant so .f32 0x00000000#32)))

abbrev nt : DotDims S256x128 S256x128 S256x256 := dot_S256x128_S256x128_S256x256_1_1_0_0_n_n
abbrev tn : DotDims S256x256 S256x128 S256x128 := dot_S256x256_S256x128_S256x128_0_0_1_1_n_n
abbrev nn : DotDims S256x256 S256x128 S256x128 := dot_S256x256_S256x128_S256x128_1_0_0_1_n_n

variable (q k v y : FVec F S256x128 .f32)

/-- The scores of the head. -/
def score : FVec F S256x256 .f32 := mulf (dot3 nt q k) (broadcast S256x256 (Scalar.ofBits .f32 0x3DB504F3#32))
/-- The exponentials of the scores less their row's maximum. -/
def ex : FVec F S256x256 .f32 :=
  exp (subf (score q k) (broadcastTo S256x256 (shapeCast S256x1 (multiReduction .maximumf [1] S256 (score q k) 0xFF800000#32 reduces_S256x256_S256 (.inl rfl) rfl) shapeCasts_S256_S256x1) broadcasts_S256x1_S256x256))
/-- The row sums of the exponentials. -/
def den : FVec F S256x1 .f32 := shapeCast S256x1 (multiReduction .add [1] S256 (ex q k) 0x00000000#32 reduces_S256x256_S256 (.inl rfl) rfl) shapeCasts_S256_S256x1
/-- The probabilities. -/
def prob : FVec F S256x256 .f32 := divf (ex q k) (broadcastTo S256x256 (den q k) broadcasts_S256x1_S256x256)
/-- The reciprocal of the squared row sum. -/
def isq : FVec F S256x1 .f32 := divf (broadcast S256x1 (Scalar.ofBits .f32 0x3F800000#32)) (mulf (den q k) (den q k))
/-- The gradient by the probabilities. -/
def dprob : FVec F S256x256 .f32 := dot3 nt y v
/-- The gradient by the row sum. -/
def dden : FVec F S256x1 .f32 :=
  subf (broadcast S256x1 (Scalar.ofBits .f32 0x00000000#32))
    (shapeCast S256x1 (multiReduction .add [1] S256 (mulf (mulf (dprob v y) (broadcastTo S256x256 (isq q k) broadcasts_S256x1_S256x256)) (ex q k)) 0x00000000#32 reduces_S256x256_S256 (.inl rfl) rfl) shapeCasts_S256_S256x1)
/-- The gradient by the unscaled scores. -/
def dscore : FVec F S256x256 .f32 :=
  mulf (mulf (addf (divf (dprob v y) (broadcastTo S256x256 (den q k) broadcasts_S256x1_S256x256))
    (broadcastTo S256x256 (shapeCast S256x1 (multiReduction .add [1] S256 (dden q k v y) 0x00000000#32 reduces_S256x1_S256 (.inl rfl) rfl) shapeCasts_S256_S256x1) broadcasts_S256x1_S256x256)) (ex q k))
    (broadcast S256x256 (Scalar.ofBits .f32 0x3DB504F3#32))
/-- The gradient by the queries. -/
def dq : FVec F S256x128 .f32 := dot3 nn (dscore q k v y) k
/-- This block's part of the gradient by the keys. -/
def dk : FVec F S256x128 .f32 := dot3 tn (dscore q k v y) q
/-- This block's part of the gradient by the values. -/
def dv : FVec F S256x128 .f32 := dot3 tn (prob q k) y

end Cert.KernelIdeal.Head
end
-- ==== Proof.Block.lean ====
/-
  What one grid point of the memory attention's gradient leaves in its two output blocks, head by head.
-/
module

public import proofs.«01_k».proof.Proof.Gen.KernelIdeal.Value
public import proofs.«01_k».proof.Proof.Head
public import Idealize.ShloMosaic.Lib.Pipeline.ValueKit
public import Idealize.ShloMosaic.Lib.Pointwise

@[expose] public section
noncomputable section
namespace Cert.KernelIdeal.Head
open Cert.KernelIdeal Cert.KernelIdeal.Gen Idealize.ShloMosaic Idealize.ShloMosaic.TcCoe Idealize.SL.Sem
variable {F : FTy → Type} [FloatOps F]

/-- Columns `a …` of a block of queries, or of cotangents, as wide as one head. -/
abbrev colQ (x : Vec F S256x512 .f32) (a : ℕ) (h : ∀ b, ![0, a] b + ![256, 128] b ≤ S256x512.size b := by decide) : FVec F S256x128 .f32 :=
  View.ld x (Rect.unit ![0, a] ![256, 128] h)
/-- Columns `a …` of the keys and values, as wide as one head. -/
abbrev colK (x : Vec F S256x1024 .f32) (a : ℕ) (h : ∀ b, ![0, a] b + ![256, 128] b ≤ S256x1024.size b := by decide) : FVec F S256x128 .f32 :=
  View.ld x (Rect.unit ![0, a] ![256, 128] h)

/-- A block of the gradient by the queries: the four heads side by side. -/
def blockDq (x0 : Vec F S256x512 .f32) (x1 : Vec F S256x1024 .f32) (x2 : Vec F S256x512 .f32) : FVec F S256x512 .bf16 :=
  truncf .bf16 (concatenate S256x512 1 [⟨S256x128, dq (colQ x0 0) (colK x1 0) (colK x1 512) (colQ x2 0)⟩,
    ⟨S256x128, dq (colQ x0 128) (colK x1 128) (colK x1 640) (colQ x2 128)⟩,
    ⟨S256x128, dq (colQ x0 256) (colK x1 256) (colK x1 768) (colQ x2 256)⟩,
    ⟨S256x128, dq (colQ x0 384) (colK x1 384) (colK x1 896) (colQ x2 384)⟩] concatenates_S256x128_S256x128_S256x128_S256x128_S256x512_d1) bitsLt_bf16_f32

/-- One block's part of the gradient by keys and values: four heads' keys, then four heads' values. -/
def blockDkv (x0 : Vec F S256x512 .f32) (x1 : Vec F S256x1024 .f32) (x2 : Vec F S256x512 .f32) : FVec F S256x1024 .f32 :=
  concatenate S256x1024 1 [⟨S256x128, dk (colQ x0 0) (colK x1 0) (colK x1 512) (colQ x2 0)⟩,
    ⟨S256x128, dk (colQ x0 128) (colK x1 128) (colK x1 640) (colQ x2 128)⟩,
    ⟨S256x128, dk (colQ x0 256) (colK x1 256) (colK x1 768) (colQ x2 256)⟩,
    ⟨S256x128, dk (colQ x0 384) (colK x1 384) (colK x1 896) (colQ x2 384)⟩,
    ⟨S256x128, dv (colQ x0 0) (colK x1 0) (colQ x2 0)⟩,
    ⟨S256x128, dv (colQ x0 128) (colK x1 128) (colQ x2 128)⟩,
    ⟨S256x128, dv (colQ x0 256) (colK x1 256) (colQ x2 256)⟩,
    ⟨S256x128, dv (colQ x0 384) (colK x1 384) (colQ x2 384)⟩] concatenates_S256x128_S256x128_S256x128_S256x128_S256x128_S256x128_S256x128_S256x128_S256x1024_d1

variable (c : Dev nD) (i : grid0.Coords) (arg1 : Memref sig .tc .vmem S256x512 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x1024 .f32) (harg5 : arg5.IsWhole)
    (x0 : Vec F S256x512 .f32) (x1 : Vec F S256x1024 .f32) (x2 : Vec F S256x512 .f32) (xo4 : Vec F S256x1024 .f32)

/-- The first point leaves its own block of the gradient by the queries. -/
theorem out_A_3 (hc0 : cond0_0 i) : out0_A_3 c i arg1 harg1 arg2 harg2 arg3 harg3 arg4 harg4 arg5 harg5 hc0 x0 x1 x2 = blockDq x0 x1 x2 := by
  frame_out
  rfl

/-- So does every later point. -/
theorem out_B_3 (hc0 : ¬cond0_0 i) : out0_B_3 c i arg1 harg1 arg2 harg2 arg3 harg3 arg4 harg4 arg5 harg5 hc0 x0 x1 x2 xo4 = blockDq x0 x1 x2 := by
  frame_out
  rfl

/-- The first point leaves its part of the gradient by keys and values on top of zeros. -/
theorem out_A_4 (hc0 : cond0_0 i) : out0_A_4 c i arg1 harg1 arg2 harg2 arg3 harg3 arg4 harg4 arg5 harg5 hc0 x0 x1 x2
    = addf (broadcast S256x1024 (Scalar.ofBits .f32 0x00000000#32)) (blockDkv x0 x1 x2) := by
  frame_out
  unfold k0_pay3 k0_pay2
  simp only [shapeCast_self]
  rfl

/-- A later point adds its part to what the point before left. -/
theorem out_B_4 (hc0 : ¬cond0_0 i) : out0_B_4 c i arg1 harg1 arg2 harg2 arg3 harg3 arg4 harg4 arg5 harg5 hc0 x0 x1 x2 xo4 = addf xo4 (blockDkv x0 x1 x2) := by
  frame_out
  unfold k0_pay3
  simp only [shapeCast_self]
  rfl

end Cert.KernelIdeal.Head
end
-- ==== Proof.Spec.lean ====
/-
  The memory attention's gradients as functions of the whole arrays: `p` (its columns 2048 … the queries), `kv` (keys,
  then values) and the cotangent (its columns 1536 … the attention's), each head 128 columns wide.
-/
module

public import proofs.«01_k».proof.Proof.Model
public import Idealize.ShloMosaic.Lib.Pointwise

@[expose] public section
noncomputable section
namespace Cert.AttnModel
open Idealize.ShloMosaic

/-- The scale of the scores, the f32 number nearest to 1/√128. -/
abbrev scale : EReal := Ideal.ofBits .f32 0x3DB504F3#32

theorem scale_real : IsReal scale := by
  unfold scale Ideal.ofBits Ideal.ieee
  dsimp only
  rw [if_neg (by decide), if_neg (by decide)]
  exact ⟨_, rfl⟩

/-- The f32 word of −∞. -/
theorem ofBits_neg_inf : Ideal.ofBits .f32 0xFF800000#32 = ⊥ := by
  unfold Ideal.ofBits Ideal.ieee
  dsimp only
  rw [if_pos (by decide), if_pos (by decide), if_pos (by decide)]

/-- Column `d` of head `h` among the 512 columns of the heads, `o` columns further on. -/
abbrev col (n o : ℕ) (h : Fin 4) (d : Fin 128) (ho : o + 512 ≤ n := by decide) : Fin n := ⟨o + (128 * h.val + d.val), by omega⟩
/-- The head of a column, and the column within it. -/
abbrev headOf (c : ℕ) (hc : c < 512) : Fin 4 := ⟨c / 128, by omega⟩
abbrev within (c : ℕ) : Fin 128 := ⟨c % 128, by omega⟩

variable (p : FVec Ideal ⟨2, ![2048, 2560]⟩ .f32) (kv : FVec Ideal ⟨2, ![256, 1024]⟩ .f32) (y : FVec Ideal ⟨2, ![2048, 2048]⟩ .f32)

/-- A head's queries, keys, values and cotangents. -/
def qs (h : Fin 4) (r : Fin 2048) (d : Fin 128) : EReal := p (ix2 r (col 2560 2048 h d))
def ks (h : Fin 4) (j : Fin 256) (d : Fin 128) : EReal := kv (ix2 j (col 1024 0 h d))
def vs (h : Fin 4) (j : Fin 256) (d : Fin 128) : EReal := kv (ix2 j (col 1024 512 h d))
def ys (h : Fin 4) (r : Fin 2048) (d : Fin 128) : EReal := y (ix2 r (col 2048 1536 h d))

/-- One head's gradients by a query, a key and a value. -/
def headQ (h : Fin 4) (r : Fin 2048) (d : Fin 128) : EReal := dq scale (qs p h r) (ys y h r) (ks kv h) (vs kv h) d
def headK (h : Fin 4) (j : Fin 256) (d : Fin 128) : EReal := dk scale (qs p h) (ys y h) (ks kv h) (vs kv h) j d
def headV (h : Fin 4) (j : Fin 256) (d : Fin 128) : EReal := dv scale (qs p h) (ys y h) (ks kv h) j d

/-- The gradient by the queries. -/
def gradQ : FVec Ideal ⟨2, ![2048, 512]⟩ .bf16 := fun i => headQ p kv y (headOf (i 1).val (i 1).isLt) (i 0) (within (i 1).val)

theorem sub_lt (c : Fin 1024) : c.val - 512 < 512 := by omega

/-- The gradient by keys and values. -/
def gradKV : FVec Ideal ⟨2, ![256, 1024]⟩ .f32 := fun i =>
  if hc : (i 1).val < 512 then headK p kv y (headOf (i 1).val hc) (i 0) (within (i 1).val)
  else headV p kv y (headOf ((i 1).val - 512) (sub_lt (i 1))) (i 0) (within ((i 1).val - 512))

/-- `gradQ` at column `d` of head `h`. -/
theorem gradQ_apply (r : Fin 2048) (h : Fin 4) (d : Fin 128) : gradQ p kv y (ix2 r (col 512 0 h d)) = headQ p kv y h r d := by
  have e1 : headOf (col 512 0 h d).val (col 512 0 h d).isLt = h := Fin.ext (by simp only [headOf, col]; omega)
  have e2 : within (col 512 0 h d).val = d := Fin.ext (by simp only [within, col]; omega)
  show headQ p kv y (headOf (col 512 0 h d).val (col 512 0 h d).isLt) r (within (col 512 0 h d).val) = _
  rw [e1, e2]

/-- `gradKV` at column `d` of the keys of head `h`. -/
theorem gradKV_key (j : Fin 256) (h : Fin 4) (d : Fin 128) : gradKV p kv y (ix2 j (col 1024 0 h d)) = headK p kv y h j d := by
  have hc : (col 1024 0 h d).val < 512 := by simp only [col]; omega
  have e1 : headOf (col 1024 0 h d).val hc = h := Fin.ext (by simp only [headOf, col]; omega)
  have e2 : within (col 1024 0 h d).val = d := Fin.ext (by simp only [within, col]; omega)
  refine (dif_pos hc).trans ?_
  show headK p kv y (headOf (col 1024 0 h d).val hc) j (within (col 1024 0 h d).val) = _
  rw [e1, e2]

/-- `gradKV` at column `d` of the values of head `h`. -/
theorem gradKV_value (j : Fin 256) (h : Fin 4) (d : Fin 128) : gradKV p kv y (ix2 j (col 1024 512 h d)) = headV p kv y h j d := by
  have hc : ¬(col 1024 512 h d).val < 512 := by simp only [col]; omega
  have hc' : (col 1024 512 h d).val - 512 < 512 := by simp only [col]; omega
  have e1 : headOf ((col 1024 512 h d).val - 512) hc' = h := Fin.ext (by simp only [headOf, col]; omega)
  have e2 : within ((col 1024 512 h d).val - 512) = d := Fin.ext (by simp only [within, col]; omega)
  refine (dif_neg hc).trans ?_
  show headV p kv y (headOf ((col 1024 512 h d).val - 512) hc') j (within ((col 1024 512 h d).val - 512)) = _
  rw [e1, e2]

/-- Every column of 512 is a column of one head. -/
theorem exists_col (c : Fin 512) : ∃ h d, c = col 512 0 h d :=
  ⟨headOf c.val c.isLt, within c.val, Fin.ext (by simp only [headOf, within, col]; omega)⟩

/-- Every column of 1024 is one of one head's keys or values. -/
theorem exists_col_kv (c : Fin 1024) : ∃ h d, c = col 1024 0 h d ∨ c = col 1024 512 h d := by
  by_cases hc : c.val < 512
  · exact ⟨headOf c.val hc, within c.val, .inl (Fin.ext (by simp only [headOf, within, col]; omega))⟩
  · exact ⟨headOf (c.val - 512) (by omega), within (c.val - 512), .inr (Fin.ext (by simp only [headOf, within, col]; omega))⟩

end Cert.AttnModel
end
-- ==== Proof.HeadValue.lean ====
/-
  The vector operations of one head, read at an index over the extended reals: they are the row formulas of
  `Model.lean` where the block's entries are real.
-/
module

public import proofs.«01_k».proof.Proof.Head
public import proofs.«01_k».proof.Proof.Spec
public import Idealize.ShloMosaic.Lib.Pointwise
public import Idealize.ShloMosaic.Lib.IdealHost

@[expose] public section
set_option maxRecDepth 16384
noncomputable section
namespace Cert.KernelIdeal.Head
open Cert.KernelIdeal Cert.KernelIdeal.Gen Idealize.ShloMosaic Cert.AttnModel

/-- A block's rows. -/
abbrev rows {n D : ℕ} (x : FVec Ideal ⟨2, ![n, D]⟩ .f32) : Fin n → Fin D → EReal := fun r d => x (ix2 r d)

variable {a b : FVec Ideal S256x128 .f32} {w : FVec Ideal S256x256 .f32}

/-- A product along the head's columns. -/
theorem dot3_nt (ha : ∀ i, IsReal (a i)) (hb : ∀ i, IsReal (b i)) (r j : Fin 256) :
    dot3 nt a b (ix2 r j) = ∑ d : Fin 128, a (ix2 r d) * b (ix2 j d) := by
  rw [← three_products _ _ (fun d => ha (ix2 r d)) (fun d => hb (ix2 j d))]
  pointwise [dot3, hi, lo, top]

/-- A product along the columns of a matrix of scores. -/
theorem dot3_nn (hw : ∀ i, IsReal (w i)) (hb : ∀ i, IsReal (b i)) (r : Fin 256) (d : Fin 128) :
    dot3 nn w b (ix2 r d) = ∑ j : Fin 256, w (ix2 r j) * b (ix2 j d) := by
  rw [← three_products _ _ (fun j => hw (ix2 r j)) (fun j => hb (ix2 j d))]
  pointwise [dot3, hi, lo, top]

/-- A product along the rows of a matrix of scores. -/
theorem dot3_tn (hw : ∀ i, IsReal (w i)) (hb : ∀ i, IsReal (b i)) (j : Fin 256) (d : Fin 128) :
    dot3 tn w b (ix2 j d) = ∑ r : Fin 256, w (ix2 r j) * b (ix2 r d) := by
  rw [← three_products _ _ (fun r => hw (ix2 r j)) (fun r => hb (ix2 r d))]
  pointwise [dot3, hi, lo, top]

variable {q k v y : FVec Ideal S256x128 .f32} (hq : ∀ i, IsReal (q i)) (hk : ∀ i, IsReal (k i))
  (hv : ∀ i, IsReal (v i)) (hy : ∀ i, IsReal (y i))
include hq hk

/-- The scores. -/
theorem score_apply (r j : Fin 256) : score q k (ix2 r j) = AttnModel.score scale (rows q r) (rows k) j := by
  have h := dot3_nt hq hk r j
  unfold score AttnModel.score
  generalize dot3 nt q k = x at h
  pointwise [h]

/-- The exponentials. -/
theorem ex_apply (r j : Fin 256) : ex q k (ix2 r j) = AttnModel.ex scale (rows q r) (rows k) j := by
  have h := fun j => score_apply hq hk r j
  unfold ex AttnModel.ex AttnModel.peak
  generalize score q k = x at h
  pointwise [h, ofBits_neg_inf]

/-- Their row sums. -/
theorem den_apply (r : Fin 256) (z : Fin 1) : den q k (ix2 r z) = AttnModel.den scale (rows q r) (rows k) := by
  have h := fun j => ex_apply hq hk r j
  unfold den AttnModel.den
  generalize ex q k = x at h
  pointwise [h]

/-- The probabilities. -/
theorem prob_apply (r j : Fin 256) : prob q k (ix2 r j) = AttnModel.prob scale (rows q r) (rows k) j := by
  have h := ex_apply hq hk r j
  have h' := den_apply hq hk r
  unfold prob AttnModel.prob
  generalize ex q k = x at h
  generalize den q k = x' at h'
  pointwise [h, h']

/-- The reciprocals of the squared row sums. -/
theorem isq_apply (r : Fin 256) (z : Fin 1) : isq q k (ix2 r z)
    = Ideal.div 1 (AttnModel.den scale (rows q r) (rows k) * AttnModel.den scale (rows q r) (rows k)) := by
  have h' := den_apply hq hk r
  unfold isq
  generalize den q k = x' at h'
  pointwise [h', Ideal.ofBits_one_f32]

omit hq hk in
include hv hy in
/-- The gradient by the probabilities. -/
theorem dprob_apply (r j : Fin 256) : dprob v y (ix2 r j) = AttnModel.dprob (rows y r) (rows v) j := dot3_nt hy hv r j

include hv hy
/-- The gradient by the row sums. -/
theorem dden_apply (r : Fin 256) (z : Fin 1) : dden q k v y (ix2 r z) = -AttnModel.dden scale (rows q r) (rows y r) (rows k) (rows v) := by
  have h := fun j => ex_apply hq hk r j
  have h' := isq_apply hq hk r
  have h'' := fun j => dprob_apply hv hy r j
  unfold dden AttnModel.dden
  generalize ex q k = x at h
  generalize isq q k = x' at h'
  generalize dprob v y = x'' at h''
  pointwise [h, h', h'', zero_sub]

/-- The gradient by the unscaled scores. -/
theorem dscore_apply (r j : Fin 256) : dscore q k v y (ix2 r j) = AttnModel.dscore scale (rows q r) (rows y r) (rows k) (rows v) j := by
  have h1 := fun j => ex_apply hq hk r j
  have h2 := den_apply hq hk r
  have h3 := fun j => dprob_apply hv hy r j
  have h4 := dden_apply hq hk hv hy r
  unfold dscore AttnModel.dscore
  generalize ex q k = x1 at h1
  generalize den q k = x2 at h2
  generalize dprob v y = x3 at h3
  generalize dden q k v y = x4 at h4
  pointwise [h1, h2, h3, h4, Finset.univ_unique, Finset.sum_singleton]

omit hv hy in
/-- The probabilities are real. -/
theorem prob_isReal (i : S256x256.Idx) : IsReal (prob q k i) := by
  have e : prob q k i = _ := (congrArg _ (eq_ix2 i)).trans (prob_apply hq hk (i 0) (i 1))
  rw [e]
  exact AttnModel.prob_real scale_real (fun _ => hq _) (fun _ _ => hk _) _

/-- The gradient by the scores is real. -/
theorem dscore_isReal (i : S256x256.Idx) : IsReal (dscore q k v y i) := by
  have e : dscore q k v y i = _ := (congrArg _ (eq_ix2 i)).trans (dscore_apply hq hk hv hy (i 0) (i 1))
  rw [e]
  exact AttnModel.dscore_real scale_real (fun _ => hq _) (fun _ _ => hk _) (fun _ => hy _) (fun _ _ => hv _) _

/-- The gradient by a query row. -/
theorem dq_apply (r : Fin 256) (d : Fin 128) : dq q k v y (ix2 r d) = AttnModel.dq scale (rows q r) (rows y r) (rows k) (rows v) d := by
  unfold dq AttnModel.dq
  rw [dot3_nn (dscore_isReal hq hk hv hy) hk]
  simp only [dscore_apply hq hk hv hy]

/-- The block's part of the gradient by a key. -/
theorem dk_apply (j : Fin 256) (d : Fin 128) : dk q k v y (ix2 j d) = AttnModel.dk scale (rows q) (rows y) (rows k) (rows v) j d := by
  unfold dk AttnModel.dk
  rw [dot3_tn (dscore_isReal hq hk hv hy) hq]
  simp only [dscore_apply hq hk hv hy]

omit hv in
/-- The block's part of the gradient by a value. -/
theorem dv_apply (j : Fin 256) (d : Fin 128) : dv q k y (ix2 j d) = AttnModel.dv scale (rows q) (rows y) (rows k) j d := by
  unfold dv AttnModel.dv
  rw [dot3_tn (prob_isReal hq hk) hy]
  simp only [prob_apply hq hk]

end Cert.KernelIdeal.Head
end
-- ==== Proof.BlockValue.lean ====
/-
  What one grid point adds to, read at an index: each column of a block belongs to one head.
-/
module

public import proofs.«01_k».proof.Proof.Block
public import proofs.«01_k».proof.Proof.HeadValue

@[expose] public section
set_option maxRecDepth 16384
noncomputable section
namespace Cert.KernelIdeal.Head
open Cert.KernelIdeal Cert.KernelIdeal.Gen Idealize.ShloMosaic Idealize.ShloMosaic.TcCoe Idealize.SL.Sem Cert.AttnModel

variable (x0 : Vec Ideal S256x512 .f32) (x1 : Vec Ideal S256x1024 .f32) (x2 : Vec Ideal S256x512 .f32)
variable (h0 : ∀ i, IsReal (x0 i)) (h1 : ∀ i, IsReal (x1 i)) (h2 : ∀ i, IsReal (x2 i))

/-- Head `h`'s columns of a block. -/
abbrev blkQ (x : Vec Ideal S256x512 .f32) (h : Fin 4) : FVec Ideal S256x128 .f32 := fun i => x (ix2 (i 0) (col 512 0 h (i 1)))
abbrev blkK (x : Vec Ideal S256x1024 .f32) (h : Fin 4) : FVec Ideal S256x128 .f32 := fun i => x (ix2 (i 0) (col 1024 0 h (i 1)))
abbrev blkV (x : Vec Ideal S256x1024 .f32) (h : Fin 4) : FVec Ideal S256x128 .f32 := fun i => x (ix2 (i 0) (col 1024 512 h (i 1)))

theorem colQ_eq (x : Vec Ideal S256x512 .f32) (h : Fin 4) (a : ℕ) (ha : a = 128 * h.val) (hb) : colQ x a hb = blkQ x h := by
  funext i
  subst ha
  refine View.ld_unit_apply_of _ _ _ _ _ _ fun b => ?_
  fin_cases b <;> simp [Nat.add_assoc]
theorem colK_eq (x : Vec Ideal S256x1024 .f32) (h : Fin 4) (a : ℕ) (ha : a = 128 * h.val) (hb) : colK x a hb = blkK x h := by
  funext i
  subst ha
  refine View.ld_unit_apply_of _ _ _ _ _ _ fun b => ?_
  fin_cases b <;> simp [Nat.add_assoc]
theorem colV_eq (x : Vec Ideal S256x1024 .f32) (h : Fin 4) (a : ℕ) (ha : a = 512 + 128 * h.val) (hb) : colK x a hb = blkV x h := by
  funext i
  subst ha
  refine View.ld_unit_apply_of _ _ _ _ _ _ fun b => ?_
  fin_cases b <;> simp [Nat.add_assoc]

/-- The block of the gradient by the queries, head by head. -/
theorem blockDq_head (r : Fin 256) (h : Fin 4) (d : Fin 128) :
    blockDq x0 x1 x2 (ix2 r (col 512 0 h d)) = dq (blkQ x0 h) (blkK x1 h) (blkV x1 h) (blkQ x2 h) (ix2 r d) := by
  unfold blockDq
  rw [colQ_eq x0 0 0 rfl, colQ_eq x0 1 128 rfl, colQ_eq x0 2 256 rfl, colQ_eq x0 3 384 rfl, colQ_eq x2 0 0 rfl, colQ_eq x2 1 128 rfl, colQ_eq x2 2 256 rfl, colQ_eq x2 3 384 rfl,
    colK_eq x1 0 0 rfl, colK_eq x1 1 128 rfl, colK_eq x1 2 256 rfl, colK_eq x1 3 384 rfl, colV_eq x1 0 512 rfl, colV_eq x1 1 640 rfl, colV_eq x1 2 768 rfl, colV_eq x1 3 896 rfl]
  refine (concatenate_ofFn_apply 1 (fun h => dq (blkQ x0 h) (blkK x1 h) (blkV x1 h) (blkQ x2 h)) concatenates_S256x128_S256x128_S256x128_S256x128_S256x512_d1 rfl 128 rfl (ix2 r (col 512 0 h d)) h ?_ (ix2 r d) ?_ ?_)
  · simp; omega
  · simp; omega
  · intro b hb
    fin_cases b
    · rfl
    · exact absurd rfl hb

/-- Eight pieces of the gradient by keys and values: four heads' keys, then four heads' values. -/
def piece (n : Fin 8) : FVec Ideal S256x128 .f32 :=
  if n.val < 4 then dk (blkQ x0 ⟨n.val % 4, by omega⟩) (blkK x1 ⟨n.val % 4, by omega⟩) (blkV x1 ⟨n.val % 4, by omega⟩) (blkQ x2 ⟨n.val % 4, by omega⟩)
  else dv (blkQ x0 ⟨n.val % 4, by omega⟩) (blkK x1 ⟨n.val % 4, by omega⟩) (blkQ x2 ⟨n.val % 4, by omega⟩)

/-- A block's part of the gradient by keys and values, piece by piece. -/
theorem blockDkv_piece (j : Fin 256) (n : Fin 8) (d : Fin 128) (c : Fin 1024) (hc : c.val = 128 * n.val + d.val) :
    blockDkv x0 x1 x2 (ix2 j c) = piece x0 x1 x2 n (ix2 j d) := by
  unfold blockDkv
  rw [colQ_eq x0 0 0 rfl, colQ_eq x0 1 128 rfl, colQ_eq x0 2 256 rfl, colQ_eq x0 3 384 rfl, colQ_eq x2 0 0 rfl, colQ_eq x2 1 128 rfl, colQ_eq x2 2 256 rfl, colQ_eq x2 3 384 rfl,
    colK_eq x1 0 0 rfl, colK_eq x1 1 128 rfl, colK_eq x1 2 256 rfl, colK_eq x1 3 384 rfl, colV_eq x1 0 512 rfl, colV_eq x1 1 640 rfl, colV_eq x1 2 768 rfl, colV_eq x1 3 896 rfl]
  refine (concatenate_ofFn_apply 1 (piece x0 x1 x2) concatenates_S256x128_S256x128_S256x128_S256x128_S256x128_S256x128_S256x128_S256x128_S256x1024_d1 rfl 128 rfl (ix2 j c) n ?_ (ix2 j d) ?_ ?_)
  · simp; omega
  · simp; omega
  · intro b hb
    fin_cases b
    · rfl
    · exact absurd rfl hb

theorem blockDkv_key (j : Fin 256) (h : Fin 4) (d : Fin 128) :
    blockDkv x0 x1 x2 (ix2 j (col 1024 0 h d)) = dk (blkQ x0 h) (blkK x1 h) (blkV x1 h) (blkQ x2 h) (ix2 j d) := by
  rw [blockDkv_piece x0 x1 x2 j ⟨h.val, by omega⟩ d _ (by simp)]
  unfold piece
  rw [if_pos (show h.val < 4 from h.isLt)]
  have e : (⟨h.val % 4, by omega⟩ : Fin 4) = h := Fin.ext (by simp)
  simp only [e]

theorem blockDkv_value (j : Fin 256) (h : Fin 4) (d : Fin 128) :
    blockDkv x0 x1 x2 (ix2 j (col 1024 512 h d)) = dv (blkQ x0 h) (blkK x1 h) (blkQ x2 h) (ix2 j d) := by
  rw [blockDkv_piece x0 x1 x2 j ⟨4 + h.val, by omega⟩ d _ (by simp; omega)]
  unfold piece
  rw [if_neg (show ¬4 + h.val < 4 by omega)]
  have e : (⟨(4 + h.val) % 4, by omega⟩ : Fin 4) = h := Fin.ext (by simp)
  simp only [e]

end Cert.KernelIdeal.Head
end
-- ==== Proof.KernelArray.lean ====
/-
  The two arrays the kernel leaves: the gradients of `Spec.lean` of its argument arrays.
-/
module

public import proofs.«01_k».proof.Proof.BlockValue

@[expose] public section
set_option maxRecDepth 16384
noncomputable section
namespace Cert.KernelIdeal.Head
open Cert.KernelIdeal Cert.KernelIdeal.Gen Idealize.ShloMosaic Idealize.ShloMosaic.TcCoe Idealize.SL.Sem Cert.AttnModel

/-- The blocks the windows are on at a point: row block `t` of `p` (column block 4), of the cotangent (column block 3) and of
    the gradient by the queries. -/
theorem idx_facts : ∀ t : Fin grid0.N,
    win0_0.index t 0 = t.val ∧ win0_0.index t 1 = 4 ∧ win0_1.index t 0 = 0 ∧ win0_1.index t 1 = 0 ∧
    win0_2.index t 0 = t.val ∧ win0_2.index t 1 = 3 ∧ win0_3.index t 0 = t.val ∧ win0_3.index t 1 = 0 := by decide +kernel

variable (m : (ℓ : Loc nD τ sig) → Buf (Elt Ideal) ℓ) (c : Dev nD)

/-- The argument arrays. -/
abbrev argP : FVec Ideal S2048x2560 .f32 := m ((c : Thread nD τ).loc main_arg0)
abbrev argKV : FVec Ideal S256x1024 .f32 := m ((c : Thread nD τ).loc main_arg1)
abbrev argY : FVec Ideal S2048x2048 .f32 := m ((c : Thread nD τ).loc main_arg2)

/-- Row `r` of row block `n`. -/
abbrev rowOf (n : ℕ) (hn : n < 8) (r : Fin 256) : Fin 2048 := ⟨n * 256 + r.val, by omega⟩

theorem tlt (t : Fin cfg0.N) : t.val < 8 := t.isLt

/-- The blocks of the three arguments at a point. -/
theorem iblk_p (t : Fin cfg0.N) (r : Fin 256) (q : Fin 512) :
    iblk m c 0 t (ix2 r q) = argP m c (ix2 (rowOf t.val (tlt t) r) ⟨2048 + q.val, by omega⟩) := by
  blk_ext [iblk, V, idx_facts t]
theorem iblk_kv (t : Fin cfg0.N) : iblk m c 1 t = argKV m c := by
  funext i
  blk_ext [iblk, V, idx_facts t]
theorem iblk_y (t : Fin cfg0.N) (r : Fin 256) (q : Fin 512) :
    iblk m c 2 t (ix2 r q) = argY m c (ix2 (rowOf t.val (tlt t) r) ⟨1536 + q.val, by omega⟩) := by
  blk_ext [iblk, V, idx_facts t]

/-- Every entry the kernel reads is real. -/
structure Reals : Prop where
  p : ∀ r (q : Fin 512), IsReal (argP m c (ix2 r ⟨2048 + q.val, by omega⟩))
  kv : ∀ i, IsReal (argKV m c i)
  y : ∀ r (q : Fin 512), IsReal (argY m c (ix2 r ⟨1536 + q.val, by omega⟩))

variable {m c} (H : Reals m c)
include H

theorem real_q (t : Fin cfg0.N) (h : Fin 4) (i : S256x128.Idx) : IsReal (blkQ (iblk m c 0 t) h i) := by
  have e := iblk_p m c t (i 0) (col 512 0 h (i 1))
  exact (congrArg IsReal e).mpr (H.p _ _)
theorem real_y (t : Fin cfg0.N) (h : Fin 4) (i : S256x128.Idx) : IsReal (blkQ (iblk m c 2 t) h i) := by
  have e := iblk_y m c t (i 0) (col 512 0 h (i 1))
  exact (congrArg IsReal e).mpr (H.y _ _)
theorem real_k (t : Fin cfg0.N) (h : Fin 4) (i : S256x128.Idx) : IsReal (blkK (iblk m c 1 t) h i) := (iblk_kv m c t).symm ▸ H.kv _
theorem real_v (t : Fin cfg0.N) (h : Fin 4) (i : S256x128.Idx) : IsReal (blkV (iblk m c 1 t) h i) := (iblk_kv m c t).symm ▸ H.kv _

omit H
theorem rows_q (t : Fin cfg0.N) (h : Fin 4) (r : Fin 256) : rows (blkQ (iblk m c 0 t) h) r = qs (argP m c) h (rowOf t.val (tlt t) r) :=
  funext fun d => (iblk_p m c t r (col 512 0 h d)).trans (congrArg (fun q => argP m c (ix2 _ q)) (Fin.ext (by simp)))
theorem rows_y (t : Fin cfg0.N) (h : Fin 4) (r : Fin 256) : rows (blkQ (iblk m c 2 t) h) r = ys (argY m c) h (rowOf t.val (tlt t) r) :=
  funext fun d => (iblk_y m c t r (col 512 0 h d)).trans (congrArg (fun q => argY m c (ix2 _ q)) (Fin.ext (by simp)))
theorem rows_k (t : Fin cfg0.N) (h : Fin 4) : rows (blkK (iblk m c 1 t) h) = ks (argKV m c) h := by rw [iblk_kv]; rfl
theorem rows_v (t : Fin cfg0.N) (h : Fin 4) : rows (blkV (iblk m c 1 t) h) = vs (argKV m c) h := by rw [iblk_kv]; rfl
include H

/-- A point's block of the gradient by the queries. -/
theorem blockDq_value (t : Fin cfg0.N) (r : Fin 256) (q : Fin 512) :
    blockDq (iblk m c 0 t) (iblk m c 1 t) (iblk m c 2 t) (ix2 r q) = gradQ (argP m c) (argKV m c) (argY m c) (ix2 (rowOf t.val (tlt t) r) q) := by
  obtain ⟨h, d, rfl⟩ := exists_col q
  rw [blockDq_head, dq_apply (real_q H t h) (real_k H t h) (real_v H t h) (real_y H t h), rows_q, rows_y, rows_k, rows_v, gradQ_apply]
  rfl

/-- A point's part of the gradient by keys and values: the sum over its rows only. -/
def part (m : (ℓ : Loc nD τ sig) → Buf (Elt Ideal) ℓ) (c : Dev nD) (n : ℕ) (i : S256x1024.Idx) : EReal :=
  if hn : n < 8 then
    (blockDkv (iblk m c 0 ⟨n, hn⟩) (iblk m c 1 ⟨n, hn⟩) (iblk m c 2 ⟨n, hn⟩) : FVec Ideal S256x1024 .f32) i
  else 0

omit H in
theorem part_eq (t : Fin cfg0.N) (i : S256x1024.Idx) :
    part m c t.val i = (blockDkv (iblk m c 0 t) (iblk m c 1 t) (iblk m c 2 t) : FVec Ideal S256x1024 .f32) i := dif_pos (tlt t)

omit H in
/-- The array of keys' and values' gradients collects the eight points' parts. -/
theorem after_last (i : S256x1024.Idx) : (outsAt0 m c t0_7.val t0_7.isLt).2 i = ∑ k ∈ Finset.range 8, part m c k i := by
  have e := Pipeline.eq_sum_of_reset_step_apply (fun n h => (outsAt0 m c n h).2) 8 (fun _ => (0 : EReal)) (part m c)
    (fun t h j => by rw [outsAt0_A m c t h]; dsimp only; rw [out_A_4, part_eq]; pointwise)
    (fun t h j => by rw [outsAt0_B m c t h]; dsimp only; rw [out_B_4, part_eq]; rfl) t0_7 i
  refine e.trans ?_
  rw [zero_add]
  exact Finset.sum_congr rfl fun k _ => by rw [show 8 * (t0_7.val / 8) + k = k from by rw [Nat.div_eq_of_lt (tlt t0_7), Nat.mul_zero, Nat.zero_add]]

omit H in
/-- A sum over the rows of eight blocks is the sum over all rows. -/
theorem sum_blocks (g : Fin 8 → EReal) (f : Fin 2048 → EReal) (hg : ∀ n : Fin 8, g n = ∑ r, f (rowOf n.val n.isLt r)) : ∑ n, g n = ∑ r, f r := by
  simp only [hg]
  exact Fin.sum_mul_add_fin 8 256 f

/-- A point's part at a key's column, and at a value's: the sum over the point's rows. -/
theorem part_key (t : Fin cfg0.N) (j : Fin 256) (h : Fin 4) (d : Fin 128) : part m c t.val (ix2 j (col 1024 0 h d)) =
    ∑ r, AttnModel.dscore scale (qs (argP m c) h (rowOf t.val (tlt t) r)) (ys (argY m c) h (rowOf t.val (tlt t) r)) (ks (argKV m c) h) (vs (argKV m c) h) j
      * qs (argP m c) h (rowOf t.val (tlt t) r) d := by
  rw [part_eq, blockDkv_key, dk_apply (real_q H t h) (real_k H t h) (real_v H t h) (real_y H t h), rows_k, rows_v]
  refine Finset.sum_congr rfl fun r _ => ?_
  rw [rows_q, rows_y]
theorem part_value (t : Fin cfg0.N) (j : Fin 256) (h : Fin 4) (d : Fin 128) : part m c t.val (ix2 j (col 1024 512 h d)) =
    ∑ r, AttnModel.prob scale (qs (argP m c) h (rowOf t.val (tlt t) r)) (ks (argKV m c) h) j * ys (argY m c) h (rowOf t.val (tlt t) r) d := by
  rw [part_eq, blockDkv_value, dv_apply (real_q H t h) (real_k H t h) (real_y H t h), rows_k]
  refine Finset.sum_congr rfl fun r _ => ?_
  rw [rows_q, rows_y]

/-- The eight points' parts together are the gradient by keys and values. -/
theorem sum_parts (i : S256x1024.Idx) : ∑ k ∈ Finset.range 8, part m c k i = gradKV (argP m c) (argKV m c) (argY m c) i := by
  rw [Finset.sum_range]
  obtain ⟨j, q, rfl⟩ : ∃ (j : Fin 256) (q : Fin 1024), i = ix2 j q := ⟨i 0, i 1, eq_ix2 i⟩
  obtain ⟨h, d, rfl | rfl⟩ := exists_col_kv q
  · rw [gradKV_key]
    exact sum_blocks _ (fun r => AttnModel.dscore scale (qs (argP m c) h r) (ys (argY m c) h r) (ks (argKV m c) h) (vs (argKV m c) h) j * qs (argP m c) h r d)
      fun n => part_key H n j h d
  · rw [gradKV_value]
    exact sum_blocks _ (fun r => AttnModel.prob scale (qs (argP m c) h r) (ks (argKV m c) h) j * ys (argY m c) h r d) fun n => part_value H n j h d

/-- The array the kernel leaves for keys and values. -/
theorem array_kv : (dats m 0 c).arrAt 4 cfg0.N = gradKV (argP m c) (argKV m c) (argY m c) := by
  refine (dats m 0 c).arrAt_eq_of_after_last 4 t0_7 (by decide +kernel) _ fun j => ?_
  blk_simp
  rw [after0_4]
  exact (after_last _).trans (sum_parts H _)

/-- The array the kernel leaves for the queries. -/
theorem array_q : (dats m 0 c).arrAt 3 cfg0.N = gradQ (argP m c) (argKV m c) (argY m c) := by
  refine (dats m 0 c).arrAt_eq_of_covers 3 _ (by decide +kernel) fun t hf y => ?_
  blk_simp [idx_facts t]
  rw [after0_3]
  have e : (outsAt0 m c t.val t.isLt).1 = blockDq (iblk m c 0 t) (iblk m c 1 t) (iblk m c 2 t) := by
    by_cases h : t.val % 8 = 0
    · rw [outsAt0_A m c t h]; dsimp only; rw [out_A_3]
    · rw [outsAt0_B m c t h]; dsimp only; rw [out_B_3]
  rw [e]
  obtain ⟨r, q, rfl⟩ : ∃ (r : Fin 256) (q : Fin 512), y = ix2 r q := ⟨y 0, y 1, eq_ix2 y⟩
  rw [blockDq_value H]
  blk_ext [idx_facts t]

end Cert.KernelIdeal.Head
end
-- ==== Proof.RefValue.lean ====
/-
  What the reference computes, read at an index: the gradients of `Spec.lean` of its argument arrays.
-/
module

public import proofs.«01_k».proof.Proof.Gen.ReferenceIdeal.Run
public import proofs.«01_k».proof.Proof.Spec
public import Idealize.ShloMosaic.Lib.IdealHost

@[expose] public section
set_option maxRecDepth 16384
noncomputable section
namespace Cert.ReferenceIdeal.Attn
open Cert.ReferenceIdeal Cert.ReferenceIdeal.Gen Idealize.ShloMosaic Idealize.ShloMosaic.TcCoe Idealize.SL.Sem Cert.AttnModel

variable (p : FVec Ideal S2048x2560 .f32) (kv : FVec Ideal S256x1024 .f32) (y : FVec Ideal S2048x2048 .f32)

/-- The reference's queries, keys, values and cotangents, head by head. -/
def q4 : FVec Ideal S1x2048x4x128 .f32 :=
  shapeCast S1x2048x4x128 (broadcastInDim S1x2048x512 ![1, 2] bcast_S2048x512_S1x2048x512_1_2 (extractStridedSlice S2048x512 ![0, 2048] p slices_S2048x2560_S2048x512_0_2048)) shapeCasts_S1x2048x512_S1x2048x4x128
def k4 : FVec Ideal S1x256x4x128 .f32 :=
  shapeCast S1x256x4x128 (extractStridedSlice S1x256x512 ![0, 0, 0] (broadcastInDim S1x256x1024 ![1, 2] bcast_S256x1024_S1x256x1024_1_2 kv) slices_S1x256x1024_S1x256x512_0_0_0) shapeCasts_S1x256x512_S1x256x4x128
def v4 : FVec Ideal S1x256x4x128 .f32 :=
  shapeCast S1x256x4x128 (extractStridedSlice S1x256x512 ![0, 0, 512] (broadcastInDim S1x256x1024 ![1, 2] bcast_S256x1024_S1x256x1024_1_2 kv) slices_S1x256x1024_S1x256x512_0_0_512) shapeCasts_S1x256x512_S1x256x4x128
def y4 : FVec Ideal S1x4x128x2048 .f32 :=
  transpose S1x4x128x2048 [0, 2, 3, 1] (shapeCast S1x2048x4x128 (broadcastInDim S1x2048x512 ![1, 2] bcast_S2048x512_S1x2048x512_1_2 (extractStridedSlice S2048x512 ![0, 1536] y slices_S2048x2048_S2048x512_0_1536)) shapeCasts_S1x2048x512_S1x2048x4x128) transposes_S1x2048x4x128_S1x4x128x2048_0_2_3_1

theorem q4_apply (b : Fin 1) (r : Fin 2048) (h : Fin 4) (d : Fin 128) : q4 p (ix4 b r h d) = qs p h r d := by
  unfold q4 qs
  pointwise
  exact congrArg (fun q => p (ix2 r q)) (Fin.ext (by simp; omega))
theorem k4_apply (b : Fin 1) (j : Fin 256) (h : Fin 4) (d : Fin 128) : k4 kv (ix4 b j h d) = ks kv h j d := by
  unfold k4 ks
  pointwise
  exact congrArg (fun q => kv (ix2 j q)) (Fin.ext (by simp; omega))
theorem v4_apply (b : Fin 1) (j : Fin 256) (h : Fin 4) (d : Fin 128) : v4 kv (ix4 b j h d) = vs kv h j d := by
  unfold v4 vs
  pointwise
  exact congrArg (fun q => kv (ix2 j q)) (Fin.ext (by simp; omega))
theorem y4_apply (b : Fin 1) (r : Fin 2048) (h : Fin 4) (d : Fin 128) : y4 y (ix4 b h d r) = ys y h r d := by
  unfold y4 ys
  pointwise
  exact congrArg (fun q => y (ix2 r q)) (Fin.ext (by simp; omega))

/-- The scores. -/
def s4 : FVec Ideal S1x4x2048x256 .f32 :=
  mulf (Host.dotGeneral dot_S1x2048x4x128_S1x256x4x128_S1x4x2048x256_3_3_1_1_02_02 none (q4 p) (k4 kv)) (broadcastInDim S1x4x2048x256 ![] bcast_S_S1x4x2048x256 (constant S_ .f32 0x3DB504F3#32))
/-- Their row maxima. -/
def m3 : FVec Ideal S1x4x2048 .f32 :=
  maximumf (broadcastInDim S1x4x2048 ![] bcast_S_S1x4x2048 (constant S_ .f32 0xFF800000#32)) (Host.reduce FloatOps.maximumf (s4 p kv) (constant S_ .f32 0xFF800000#32) reducesTo_S1x4x2048x256_S1x4x2048_d3 h_S_)
/-- The exponentials of the scores less their row's maximum. -/
def e4 : FVec Ideal S1x4x2048x256 .f32 :=
  Host.exp (subf (s4 p kv) (broadcastInDim S1x4x2048x256 ![0, 1, 2, 3] bcast_S1x4x2048x1_S1x4x2048x256_0_1_2_3 (broadcastInDim S1x4x2048x1 ![0, 1, 2] bcast_S1x4x2048_S1x4x2048x1_0_1_2 (m3 p kv))))
/-- Their row sums. -/
def n4 : FVec Ideal S1x4x2048x1 .f32 :=
  broadcastInDim S1x4x2048x1 ![0, 1, 2] bcast_S1x4x2048_S1x4x2048x1_0_1_2 (Host.reduceAdd (e4 p kv) (constant S_ .f32 0x00000000#32) reducesTo_S1x4x2048x256_S1x4x2048_d3 h_S_)
/-- The probabilities. -/
def p4 : FVec Ideal S1x4x2048x256 .f32 :=
  Host.divf (e4 p kv) (broadcastInDim S1x4x2048x256 ![0, 1, 2, 3] bcast_S1x4x2048x1_S1x4x2048x256_0_1_2_3 (n4 p kv))
/-- The gradient by the probabilities. -/
def dp4 : FVec Ideal S1x4x2048x256 .f32 :=
  Host.dotGeneral dot_S1x4x128x2048_S1x256x4x128_S1x4x2048x256_2_3_3_1_01_02 none (y4 y) (v4 kv)
/-- The gradient by the row sums. -/
def dn4 : FVec Ideal S1x4x2048x1 .f32 :=
  Host.negf (shapeCast S1x4x2048x1 (Host.reduceAdd (mulf (mulf (dp4 kv y) (broadcastInDim S1x4x2048x256 ![0, 1, 2, 3] bcast_S1x4x2048x1_S1x4x2048x256_0_1_2_3
    (Host.divf (broadcastInDim S1x4x2048x1 ![] bcast_S_S1x4x2048x1 (constant S_ .f32 0x3F800000#32)) (mulf (n4 p kv) (n4 p kv))))) (e4 p kv))
    (constant S_ .f32 0x00000000#32) reducesTo_S1x4x2048x256_S1x4x2048_d3 h_S_) shapeCasts_S1x4x2048_S1x4x2048x1)
/-- The gradient by the unscaled scores. -/
def ds4 : FVec Ideal S1x4x2048x256 .f32 :=
  mulf (mulf (addf (Host.divf (dp4 kv y) (broadcastInDim S1x4x2048x256 ![0, 1, 2, 3] bcast_S1x4x2048x1_S1x4x2048x256_0_1_2_3 (n4 p kv)))
    (broadcastInDim S1x4x2048x256 ![0, 1, 2] bcast_S1x4x2048_S1x4x2048x256_0_1_2 (broadcastInDim S1x4x2048 ![1, 2] bcast_S4x2048_S1x4x2048_1_2
      (Host.reduceAdd (dn4 p kv y) (constant S_ .f32 0x00000000#32) reducesTo_S1x4x2048x1_S4x2048_d0_3 h_S_)))) (e4 p kv))
    (broadcastInDim S1x4x2048x256 ![] bcast_S_S1x4x2048x256 (constant S_ .f32 0x3DB504F3#32))
/-- The gradients by queries, keys and values. -/
def dq4 : FVec Ideal S1x4x2048x128 .f32 := Host.dotGeneral dot_S1x4x2048x256_S1x256x4x128_S1x4x2048x128_3_1_2_3_01_02 none (ds4 p kv y) (k4 kv)
def dk4 : FVec Ideal S1x4x256x128 .f32 := Host.dotGeneral dot_S1x4x2048x256_S1x2048x4x128_S1x4x256x128_2_1_3_3_01_02 none (ds4 p kv y) (q4 p)
def dv4 : FVec Ideal S1x4x128x256 .f32 := Host.dotGeneral dot_S1x4x128x2048_S1x4x2048x256_S1x4x128x256_3_2_2_3_01_01 none (y4 y) (p4 p kv)
/-- The two results. -/
def outQ : FVec Ideal S2048x512 .bf16 :=
  truncf .bf16 (shapeCast S2048x512 (shapeCast S1x2048x512 (transpose S1x2048x4x128 [0, 2, 1, 3] (dq4 p kv y) transposes_S1x4x2048x128_S1x2048x4x128_0_2_1_3) shapeCasts_S1x2048x4x128_S1x2048x512) shapeCasts_S1x2048x512_S2048x512) bitsLt_bf16_f32
def outKV : FVec Ideal S256x1024 .f32 :=
  shapeCast S256x1024 (concatenate S1x256x1024 2 [⟨S1x256x512, shapeCast S1x256x512 (transpose S1x256x4x128 [0, 2, 1, 3] (dk4 p kv y) transposes_S1x4x256x128_S1x256x4x128_0_2_1_3) shapeCasts_S1x256x4x128_S1x256x512⟩,
    ⟨S1x256x512, shapeCast S1x256x512 (transpose S1x256x4x128 [0, 3, 1, 2] (dv4 p kv y) transposes_S1x4x128x256_S1x256x4x128_0_3_1_2) shapeCasts_S1x256x4x128_S1x256x512⟩] concatenates_S1x256x512_S1x256x512_S1x256x1024_d2) shapeCasts_S1x256x1024_S256x1024

variable (m : (ℓ : Loc nD τ sig) → Buf (Elt Ideal) ℓ) (c : Dev nD)
/-- The reference's results are these. -/
theorem res_q : Value.res_out0 m c = outQ (m ((c.tc : Thread nD τ).loc main_arg0)) (m ((c.tc : Thread nD τ).loc main_arg1)) (m ((c.tc : Thread nD τ).loc main_arg2)) := by
  unfold Value.res_out0 Value.res_main_v73 outQ dq4 ds4 dn4 dp4 n4 e4 m3 s4 y4 v4 k4 q4
  rfl
theorem res_kv : Value.res_out1 m c = outKV (m ((c.tc : Thread nD τ).loc main_arg0)) (m ((c.tc : Thread nD τ).loc main_arg1)) (m ((c.tc : Thread nD τ).loc main_arg2)) := by
  unfold Value.res_out1 Value.res_main_v74 outKV dk4 dv4 ds4 dn4 dp4 p4 n4 e4 m3 s4 y4 v4 k4 q4
  rfl

/-- The host's sum over two axes of extent one is the one entry. -/
theorem sum_unit_axes (x : FVec Ideal S1x4x2048x1 .f32) (h : Fin 4) (r : Fin 2048) :
    Ideal.hostReduceAdd reducesTo_S1x4x2048x1_S4x2048_d0_3 x 0 (ix2 h r) = x (ix4 0 h r 0) := by
  unfold Ideal.hostReduceAdd
  rw [zero_add]
  refine Finset.sum_eq_single (M := EReal) _ (fun i hi hne => absurd ?_ hne) (fun hn => absurd (Finset.mem_filter.mpr ⟨Finset.mem_univ _, ?_⟩) hn)
  · have e := (Finset.mem_filter.mp hi).2
    have e1 : (i 1).val = h.val := congrArg Fin.val (congrFun e 0)
    have e2 : (i 2).val = r.val := congrArg Fin.val (congrFun e 1)
    have e0 : (i 0).val < 1 := (i 0).isLt
    have e3 : (i 3).val < 1 := (i 3).isLt
    funext a
    apply Fin.ext
    match a with
    | ⟨0, _⟩ => exact Nat.lt_one_iff.mp e0
    | ⟨1, _⟩ => exact e1
    | ⟨2, _⟩ => exact e2
    | ⟨3, _⟩ => exact Nat.lt_one_iff.mp e3
  · funext a
    match a with
    | ⟨0, _⟩ => rfl
    | ⟨1, _⟩ => rfl

theorem s4_apply (b : Fin 1) (h : Fin 4) (r : Fin 2048) (j : Fin 256) : s4 p kv (ix4 b h r j) = score scale (qs p h r) (ks kv h) j := by
  have h1 := q4_apply p
  have h2 := k4_apply kv
  unfold s4 score
  generalize q4 p = x1 at h1
  generalize k4 kv = x2 at h2
  pointwise [h1, h2]
/-- The host's row maxima, row sums and the copies of a column of row values. -/
theorem reduce_max (x : FVec Ideal S1x4x2048x256 .f32) (b : Fin 1) (h : Fin 4) (r : Fin 2048) :
    Host.reduce FloatOps.maximumf x (constant S_ .f32 0xFF800000#32) reducesTo_S1x4x2048x256_S1x4x2048_d3 h_S_ (ix3 b h r) = Finset.univ.fold max ⊥ fun j => x (ix4 0 h r j) := by
  pointwise [ofBits_neg_inf]
theorem reduce_sum (x : FVec Ideal S1x4x2048x256 .f32) (b : Fin 1) (h : Fin 4) (r : Fin 2048) :
    Host.reduceAdd x (constant S_ .f32 0x00000000#32) reducesTo_S1x4x2048x256_S1x4x2048_d3 h_S_ (ix3 b h r) = ∑ j, x (ix4 0 h r j) := by
  pointwise
theorem bcast_rows (x : FVec Ideal S1x4x2048 .f32) (b : Fin 1) (h : Fin 4) (r : Fin 2048) (z : Fin 1) :
    broadcastInDim S1x4x2048x1 ![0, 1, 2] bcast_S1x4x2048_S1x4x2048x1_0_1_2 x (ix4 b h r z) = x (ix3 0 h r) := by
  pointwise
theorem bcast_row (x : FVec Ideal S1x4x2048x1 .f32) (b : Fin 1) (h : Fin 4) (r : Fin 2048) (j : Fin 256) :
    broadcastInDim S1x4x2048x256 ![0, 1, 2, 3] bcast_S1x4x2048x1_S1x4x2048x256_0_1_2_3 x (ix4 b h r j) = x (ix4 0 h r 0) := by
  pointwise

theorem max_rows (x : FVec Ideal S1x4x2048 .f32) (i : S1x4x2048.Idx) :
    maximumf (broadcastInDim S1x4x2048 ![] bcast_S_S1x4x2048 (constant S_ .f32 0xFF800000#32)) x i = max ⊥ (x i) := by
  pointwise [ofBits_neg_inf]

theorem m3_apply (b : Fin 1) (h : Fin 4) (r : Fin 2048) : m3 p kv (ix3 b h r) = peak scale (qs p h r) (ks kv h) := by
  unfold m3
  rw [max_rows, reduce_max, max_eq_right bot_le]
  exact congrArg (fun f => Finset.univ.fold max ⊥ f) (funext fun j => s4_apply p kv 0 h r j)
theorem e4_apply (b : Fin 1) (h : Fin 4) (r : Fin 2048) (j : Fin 256) : e4 p kv (ix4 b h r j) = ex scale (qs p h r) (ks kv h) j := by
  have e : e4 p kv (ix4 b h r j) = Ideal.exp (s4 p kv (ix4 b h r j) - broadcastInDim S1x4x2048x256 ![0, 1, 2, 3] bcast_S1x4x2048x1_S1x4x2048x256_0_1_2_3 (broadcastInDim S1x4x2048x1 ![0, 1, 2] bcast_S1x4x2048_S1x4x2048x1_0_1_2 (m3 p kv)) (ix4 b h r j)) := rfl
  rw [e, bcast_row, bcast_rows, m3_apply, s4_apply]
  rfl
theorem n4_apply (b : Fin 1) (h : Fin 4) (r : Fin 2048) (z : Fin 1) : n4 p kv (ix4 b h r z) = den scale (qs p h r) (ks kv h) := by
  unfold n4
  rw [bcast_rows, reduce_sum]
  exact Finset.sum_congr rfl fun j _ => e4_apply p kv 0 h r j
theorem p4_apply (b : Fin 1) (h : Fin 4) (r : Fin 2048) (j : Fin 256) : p4 p kv (ix4 b h r j) = prob scale (qs p h r) (ks kv h) j := by
  have h1 := e4_apply p kv
  have h2 := n4_apply p kv
  unfold p4 prob
  generalize e4 p kv = x1 at h1
  generalize n4 p kv = x2 at h2
  pointwise [h1, h2]
theorem dp4_apply (b : Fin 1) (h : Fin 4) (r : Fin 2048) (j : Fin 256) : dp4 kv y (ix4 b h r j) = dprob (ys y h r) (vs kv h) j := by
  have h1 := y4_apply y
  have h2 := v4_apply kv
  unfold dp4 dprob
  generalize y4 y = x1 at h1
  generalize v4 kv = x2 at h2
  pointwise [h1, h2]
theorem dn4_apply (b : Fin 1) (h : Fin 4) (r : Fin 2048) (z : Fin 1) : dn4 p kv y (ix4 b h r z) = -dden scale (qs p h r) (ys y h r) (ks kv h) (vs kv h) := by
  have h1 := e4_apply p kv
  have h2 := n4_apply p kv
  have h3 := dp4_apply kv y
  unfold dn4 dden
  generalize e4 p kv = x1 at h1
  generalize n4 p kv = x2 at h2
  generalize dp4 kv y = x3 at h3
  pointwise [h1, h2, h3, Ideal.ofBits_one_f32]
theorem ds4_apply (b : Fin 1) (h : Fin 4) (r : Fin 2048) (j : Fin 256) : ds4 p kv y (ix4 b h r j) = dscore scale (qs p h r) (ys y h r) (ks kv h) (vs kv h) j := by
  have h1 := e4_apply p kv
  have h2 := n4_apply p kv
  have h3 := dp4_apply kv y
  have h4 := dn4_apply p kv y
  unfold ds4 dscore
  generalize e4 p kv = x1 at h1
  generalize n4 p kv = x2 at h2
  generalize dp4 kv y = x3 at h3
  generalize dn4 p kv y = x4 at h4
  pointwise [h1, h2, h3, h4, sum_unit_axes]
theorem dq4_apply (b : Fin 1) (h : Fin 4) (r : Fin 2048) (d : Fin 128) : dq4 p kv y (ix4 b h r d) = headQ p kv y h r d := by
  have h1 := ds4_apply p kv y
  have h2 := k4_apply kv
  unfold dq4 headQ dq
  generalize ds4 p kv y = x1 at h1
  generalize k4 kv = x2 at h2
  pointwise [h1, h2]
theorem dk4_apply (b : Fin 1) (h : Fin 4) (j : Fin 256) (d : Fin 128) : dk4 p kv y (ix4 b h j d) = headK p kv y h j d := by
  have h1 := ds4_apply p kv y
  have h2 := q4_apply p
  unfold dk4 headK dk
  generalize ds4 p kv y = x1 at h1
  generalize q4 p = x2 at h2
  pointwise [h1, h2]
theorem dv4_apply (b : Fin 1) (h : Fin 4) (j : Fin 256) (d : Fin 128) : dv4 p kv y (ix4 b h d j) = headV p kv y h j d := by
  have h1 := p4_apply p kv
  have h2 := y4_apply y
  unfold dv4 headV dv
  generalize p4 p kv = x1 at h1
  generalize y4 y = x2 at h2
  pointwise [h1, h2]
  exact Finset.sum_congr rfl fun r _ => mul_comm _ _

/-- The reference's gradient by the queries. -/
theorem outQ_eq : outQ p kv y = gradQ p kv y := by
  funext i
  obtain ⟨r, q, rfl⟩ : ∃ (r : Fin 2048) (q : Fin 512), i = ix2 r q := ⟨i 0, i 1, eq_ix2 i⟩
  have h1 := dq4_apply p kv y
  unfold outQ gradQ
  generalize dq4 p kv y = x1 at h1
  pointwise [h1]
/-- The reference's gradient by keys and values. -/
theorem outKV_eq : outKV p kv y = gradKV p kv y := by
  funext i
  obtain ⟨r, q, rfl⟩ : ∃ (r : Fin 256) (q : Fin 1024), i = ix2 r q := ⟨i 0, i 1, eq_ix2 i⟩
  have h1 := dk4_apply p kv y
  have h2 := dv4_apply p kv y
  unfold outKV gradKV
  generalize dk4 p kv y = x1 at h1
  generalize dv4 p kv y = x2 at h2
  pointwise [h1, h2]

end Cert.ReferenceIdeal.Attn
end
-- ==== Proof.lean ====
/-
  The claims of this certificate, assembled from the modules under Proof/: what one block of the
  memory attention's backward call computes, what its two arrays hold after the grid, what the
  derivative of the attention is, and the equation between them; the products of the MLP, of the
  output projection, of the mixers' input projections and of the memory's projection, forward and
  backward; the MLP's convolution and gate, and the norms, forward and backward; the loss; and the
  optimiser's step at every weight.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.DAct
public import proofs.«01_k».proof.Proof.DwDown
public import proofs.«01_k».proof.Proof.DHf
public import proofs.«01_k».proof.Proof.DwUp
public import proofs.«01_k».proof.Proof.DCat
public import proofs.«01_k».proof.Proof.DwOut
public import proofs.«01_k».proof.Proof.OutProj
public import proofs.«01_k».proof.Proof.FfnUp
public import proofs.«01_k».proof.Proof.FfnDown
public import proofs.«01_k».proof.Proof.GateClaims
public import proofs.«01_k».proof.Proof.NormClaims
public import proofs.«01_k».proof.Proof.InSwa
public import proofs.«01_k».proof.Proof.DInSwa
public import proofs.«01_k».proof.Proof.DwInSwa
public import proofs.«01_k».proof.Proof.InRwkv
public import proofs.«01_k».proof.Proof.DInRwkv
public import proofs.«01_k».proof.Proof.DwInRwkv
public import proofs.«01_k».proof.Proof.InGdn
public import proofs.«01_k».proof.Proof.DInGdn
public import proofs.«01_k».proof.Proof.DwInGdn
public import proofs.«01_k».proof.Proof.MemKv
public import proofs.«01_k».proof.Proof.DMemKv
public import proofs.«01_k».proof.Proof.DwMemKv
public import proofs.«01_k».proof.Proof.NormF
public import proofs.«01_k».proof.Proof.NormM
public import proofs.«01_k».proof.Proof.NormD
public import proofs.«01_k».proof.Proof.GateF
public import proofs.«01_k».proof.Proof.Adam
public import proofs.«01_k».proof.Proof.Loss
public import proofs.«01_k».proof.Proof.AdamKv
public import proofs.«01_k».proof.Proof.AdamOut
public import proofs.«01_k».proof.Proof.AdamDown
public import proofs.«01_k».proof.Proof.AdamInSwa
public import proofs.«01_k».proof.Proof.AdamInRwkv
public import proofs.«01_k».proof.Proof.AdamInGdn
public import proofs.«01_k».proof.Proof.AdamRank
public import proofs.«01_k».proof.Proof.AdamRankG
public import proofs.«01_k».proof.Proof.AdamConvC
public import proofs.«01_k».proof.Proof.AdamConv
public import proofs.«01_k».proof.Proof.AdamRep
public import proofs.«01_k».proof.Proof.Finite
public import proofs.«01_k».proof.Proof.KernelArray
public import proofs.«01_k».proof.Proof.RefValue
public import Idealize.ShloMosaic.Adequacy
public import Idealize.ShloMosaic.Init

@[expose] public section

noncomputable section

namespace Cert.Proof

open Idealize.ShloMosaic Idealize.SL.Sem Cert.AttnModel

attribute [local instance] Cert.Pre_finite.facts

/-- Under the precondition the arrays that the attention's backward call reads are real. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Head.Reals m c where
  p := Cert.Pre_finite.real_p _ _ _ (h c).1
  kv := Cert.Pre_finite.real_kv _ _ _ (h c).2.1
  y := Cert.Pre_finite.real_y _ _ _ (h c).2.2

/-- The attention's derivative runs, keeps its arguments, and declares no semaphore. -/
theorem frame_reference : Cert.quiescent_ReferenceIdeal := fun m g _ =>
  (θ_run Cert.ReferenceIdeal.defs _ _).mono
    (fun r h => And.intro (fun c => (h c).2.2) (sem_eq_zero_of_no_sems (by decide) r.2))
    (Cert.ReferenceIdeal.Value.run (F := Ideal) m g)

/-- The attention's backward call and the attention's derivative give the same two arrays. -/
theorem attention : Cert.algebraic_KernelIdeal_ReferenceIdeal_pre_finite := by
  intro m g m' g' hm hargs
  refine ⟨fun c => gradQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => gradKV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks (F := Ideal) m g)
    obtain ⟨h1, h2, h3⟩ := h c
    exact ⟨h1.trans (Cert.KernelIdeal.Head.array_q (reals m hm c)), h2.trans (Cert.KernelIdeal.Head.array_kv (reals m hm c)), h3⟩
  · refine (θ_run Cert.ReferenceIdeal.defs _ _).mono (fun r h c => ?_) (Cert.ReferenceIdeal.Value.run (F := Ideal) m' g')
    obtain ⟨h1, h2, h3⟩ := h c
    obtain ⟨e0, e1, e2⟩ := hargs c
    refine ⟨h1.trans ?_, h2.trans ?_, h3⟩
    · refine (Cert.ReferenceIdeal.Attn.res_q m' c).trans ((Cert.ReferenceIdeal.Attn.outQ_eq _ _ _).trans ?_)
      rw [e0, e1, e2]
    · refine (Cert.ReferenceIdeal.Attn.res_kv m' c).trans ((Cert.ReferenceIdeal.Attn.outKV_eq _ _ _).trans ?_)
      rw [e0, e1, e2]

theorem claim : Cert.Claim :=
  ⟨Cert.Kernel.Gen.facts, Cert.KernelIdeal.Gen.facts, Cert.ReferenceIdeal.Gen.facts,
    Cert.DAct.Gen.facts, Cert.DActIdeal.Gen.facts, Cert.DActRefIdeal.Gen.facts, Cert.DwDown.Gen.facts, Cert.DwDownIdeal.Gen.facts, Cert.DwDownRefIdeal.Gen.facts, Cert.DHf.Gen.facts, Cert.DHfIdeal.Gen.facts, Cert.DHfRefIdeal.Gen.facts, Cert.DwUp.Gen.facts, Cert.DwUpIdeal.Gen.facts, Cert.DwUpRefIdeal.Gen.facts,
    Cert.DCat.Gen.facts, Cert.DCatIdeal.Gen.facts, Cert.DCatRefIdeal.Gen.facts, Cert.DwOut.Gen.facts, Cert.DwOutIdeal.Gen.facts, Cert.DwOutRefIdeal.Gen.facts, Cert.OutProj.Gen.facts, Cert.OutProjIdeal.Gen.facts, Cert.OutProjRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts,
    Cert.Gate.Gen.facts, Cert.GateIdeal.Gen.facts, Cert.GateRefIdeal.Gen.facts, Cert.Norm.Gen.facts, Cert.NormIdeal.Gen.facts, Cert.NormRefIdeal.Gen.facts,
    Cert.InSwa.Gen.facts, Cert.InSwaIdeal.Gen.facts, Cert.InSwaRefIdeal.Gen.facts, Cert.DInSwa.Gen.facts, Cert.DInSwaIdeal.Gen.facts, Cert.DInSwaRefIdeal.Gen.facts, Cert.DwInSwa.Gen.facts, Cert.DwInSwaIdeal.Gen.facts, Cert.DwInSwaRefIdeal.Gen.facts,
    Cert.InRwkv.Gen.facts, Cert.InRwkvIdeal.Gen.facts, Cert.InRwkvRefIdeal.Gen.facts, Cert.DInRwkv.Gen.facts, Cert.DInRwkvIdeal.Gen.facts, Cert.DInRwkvRefIdeal.Gen.facts, Cert.DwInRwkv.Gen.facts, Cert.DwInRwkvIdeal.Gen.facts, Cert.DwInRwkvRefIdeal.Gen.facts,
    Cert.InGdn.Gen.facts, Cert.InGdnIdeal.Gen.facts, Cert.InGdnRefIdeal.Gen.facts, Cert.DInGdn.Gen.facts, Cert.DInGdnIdeal.Gen.facts, Cert.DInGdnRefIdeal.Gen.facts, Cert.DwInGdn.Gen.facts, Cert.DwInGdnIdeal.Gen.facts, Cert.DwInGdnRefIdeal.Gen.facts,
    Cert.MemKv.Gen.facts, Cert.MemKvIdeal.Gen.facts, Cert.MemKvRefIdeal.Gen.facts, Cert.DMemKv.Gen.facts, Cert.DMemKvIdeal.Gen.facts, Cert.DMemKvRefIdeal.Gen.facts, Cert.DwMemKv.Gen.facts, Cert.DwMemKvIdeal.Gen.facts, Cert.DwMemKvRefIdeal.Gen.facts,
    Cert.NormF.Gen.facts, Cert.NormFIdeal.Gen.facts, Cert.NormFRefIdeal.Gen.facts, Cert.NormM.Gen.facts, Cert.NormMIdeal.Gen.facts, Cert.NormMRefIdeal.Gen.facts, Cert.NormD.Gen.facts, Cert.NormDIdeal.Gen.facts, Cert.NormDRefIdeal.Gen.facts,
    Cert.GateF.Gen.facts, Cert.GateFIdeal.Gen.facts, Cert.GateFRefIdeal.Gen.facts, Cert.Adam.Gen.facts, Cert.AdamIdeal.Gen.facts, Cert.AdamRefIdeal.Gen.facts, Cert.Loss.Gen.facts, Cert.LossIdeal.Gen.facts, Cert.LossRefIdeal.Gen.facts,
    Cert.AdamKv.Gen.facts, Cert.AdamKvIdeal.Gen.facts, Cert.AdamKvRefIdeal.Gen.facts, Cert.AdamOut.Gen.facts, Cert.AdamOutIdeal.Gen.facts, Cert.AdamOutRefIdeal.Gen.facts, Cert.AdamDown.Gen.facts, Cert.AdamDownIdeal.Gen.facts, Cert.AdamDownRefIdeal.Gen.facts,
    Cert.AdamInSwa.Gen.facts, Cert.AdamInSwaIdeal.Gen.facts, Cert.AdamInSwaRefIdeal.Gen.facts, Cert.AdamInRwkv.Gen.facts, Cert.AdamInRwkvIdeal.Gen.facts, Cert.AdamInRwkvRefIdeal.Gen.facts, Cert.AdamInGdn.Gen.facts, Cert.AdamInGdnIdeal.Gen.facts, Cert.AdamInGdnRefIdeal.Gen.facts,
    Cert.AdamRank.Gen.facts, Cert.AdamRankIdeal.Gen.facts, Cert.AdamRankRefIdeal.Gen.facts, Cert.AdamRankG.Gen.facts, Cert.AdamRankGIdeal.Gen.facts, Cert.AdamRankGRefIdeal.Gen.facts, Cert.AdamConvC.Gen.facts, Cert.AdamConvCIdeal.Gen.facts, Cert.AdamConvCRefIdeal.Gen.facts,
    Cert.AdamConv.Gen.facts, Cert.AdamConvIdeal.Gen.facts, Cert.AdamConvRefIdeal.Gen.facts, Cert.AdamRep.Gen.facts, Cert.AdamRepIdeal.Gen.facts, Cert.AdamRepRefIdeal.Gen.facts,
    Cert.Pre_finite.facts, Cert.Pre_finite_gate.facts,
    fun m g _ => Cert.Kernel.Gen.frame m g, fun m g _ => Cert.KernelIdeal.Gen.frame m g, fun m g _ => Cert.KernelIdeal.Gen.frame m g,
    frame_reference, fun m g _ => frame_reference m g trivial,
    Cert.DActIdeal.Block.frame_printed, Cert.DActIdeal.Block.frame_ideal, Cert.DActIdeal.Block.frame_reference,
    Cert.DwDownIdeal.Block.frame_printed, Cert.DwDownIdeal.Block.frame_ideal, Cert.DwDownIdeal.Block.frame_reference,
    Cert.DHfIdeal.Block.frame_printed, Cert.DHfIdeal.Block.frame_ideal, Cert.DHfIdeal.Block.frame_reference,
    Cert.DwUpIdeal.Block.frame_printed, Cert.DwUpIdeal.Block.frame_ideal, Cert.DwUpIdeal.Block.frame_reference,
    Cert.DCatIdeal.Block.frame_printed, Cert.DCatIdeal.Block.frame_ideal, Cert.DCatIdeal.Block.frame_reference,
    Cert.DwOutIdeal.Block.frame_printed, Cert.DwOutIdeal.Block.frame_ideal, Cert.DwOutIdeal.Block.frame_reference,
    Cert.OutProjIdeal.Block.frame_printed, Cert.OutProjIdeal.Block.frame_ideal, Cert.OutProjIdeal.Block.frame_reference,
    Cert.FfnUpIdeal.Block.frame_printed, Cert.FfnUpIdeal.Block.frame_ideal, Cert.FfnUpIdeal.Block.frame_reference,
    Cert.FfnDownIdeal.Block.frame_printed, Cert.FfnDownIdeal.Block.frame_ideal, Cert.FfnDownIdeal.Block.frame_reference,
    Cert.GateIdeal.Gate.frame_printed, Cert.GateIdeal.Gate.frame_ideal, fun m g _ => Cert.GateIdeal.Gate.frame_ideal m g trivial,
    Cert.GateIdeal.Gate.frame_reference, fun m g _ => Cert.GateIdeal.Gate.frame_reference m g trivial,
    Cert.NormIdeal.Norm.frame_printed, Cert.NormIdeal.Norm.frame_ideal, Cert.NormIdeal.Norm.frame_reference,
    Cert.InSwaIdeal.Block.frame_printed, Cert.InSwaIdeal.Block.frame_ideal, Cert.InSwaIdeal.Block.frame_reference,
    Cert.DInSwaIdeal.Block.frame_printed, Cert.DInSwaIdeal.Block.frame_ideal, Cert.DInSwaIdeal.Block.frame_reference,
    Cert.DwInSwaIdeal.Block.frame_printed, Cert.DwInSwaIdeal.Block.frame_ideal, Cert.DwInSwaIdeal.Block.frame_reference,
    Cert.InRwkvIdeal.Block.frame_printed, Cert.InRwkvIdeal.Block.frame_ideal, Cert.InRwkvIdeal.Block.frame_reference,
    Cert.DInRwkvIdeal.Block.frame_printed, Cert.DInRwkvIdeal.Block.frame_ideal, Cert.DInRwkvIdeal.Block.frame_reference,
    Cert.DwInRwkvIdeal.Block.frame_printed, Cert.DwInRwkvIdeal.Block.frame_ideal, Cert.DwInRwkvIdeal.Block.frame_reference,
    Cert.InGdnIdeal.Block.frame_printed, Cert.InGdnIdeal.Block.frame_ideal, Cert.InGdnIdeal.Block.frame_reference,
    Cert.DInGdnIdeal.Block.frame_printed, Cert.DInGdnIdeal.Block.frame_ideal, Cert.DInGdnIdeal.Block.frame_reference,
    Cert.DwInGdnIdeal.Block.frame_printed, Cert.DwInGdnIdeal.Block.frame_ideal, Cert.DwInGdnIdeal.Block.frame_reference,
    Cert.MemKvIdeal.Block.frame_printed, Cert.MemKvIdeal.Block.frame_ideal, Cert.MemKvIdeal.Block.frame_reference,
    Cert.DMemKvIdeal.Block.frame_printed, Cert.DMemKvIdeal.Block.frame_ideal, Cert.DMemKvIdeal.Block.frame_reference,
    Cert.DwMemKvIdeal.Block.frame_printed, Cert.DwMemKvIdeal.Block.frame_ideal, Cert.DwMemKvIdeal.Block.frame_reference,
    Cert.NormFIdeal.Norm.frame_printed, Cert.NormFIdeal.Norm.frame_ideal, Cert.NormFIdeal.Norm.frame_reference,
    Cert.NormMIdeal.Norm.frame_printed, Cert.NormMIdeal.Norm.frame_ideal, Cert.NormMIdeal.Norm.frame_reference,
    Cert.NormDIdeal.Norm.frame_printed, Cert.NormDIdeal.Norm.frame_ideal, Cert.NormDIdeal.Norm.frame_reference,
    Cert.GateFIdeal.Gate.frame_printed, Cert.GateFIdeal.Gate.frame_ideal, Cert.GateFIdeal.Gate.frame_reference,
    Cert.AdamIdeal.Step.frame_printed, Cert.AdamIdeal.Step.frame_ideal, Cert.AdamIdeal.Step.frame_reference,
    Cert.LossIdeal.Loss.frame_printed, Cert.LossIdeal.Loss.frame_ideal, Cert.LossIdeal.Loss.frame_reference,
    Cert.AdamKvIdeal.Step.frame_printed, Cert.AdamKvIdeal.Step.frame_ideal, Cert.AdamKvIdeal.Step.frame_reference,
    Cert.AdamOutIdeal.Step.frame_printed, Cert.AdamOutIdeal.Step.frame_ideal, Cert.AdamOutIdeal.Step.frame_reference,
    Cert.AdamDownIdeal.Step.frame_printed, Cert.AdamDownIdeal.Step.frame_ideal, Cert.AdamDownIdeal.Step.frame_reference,
    Cert.AdamInSwaIdeal.Step.frame_printed, Cert.AdamInSwaIdeal.Step.frame_ideal, Cert.AdamInSwaIdeal.Step.frame_reference,
    Cert.AdamInRwkvIdeal.Step.frame_printed, Cert.AdamInRwkvIdeal.Step.frame_ideal, Cert.AdamInRwkvIdeal.Step.frame_reference,
    Cert.AdamInGdnIdeal.Step.frame_printed, Cert.AdamInGdnIdeal.Step.frame_ideal, Cert.AdamInGdnIdeal.Step.frame_reference,
    Cert.AdamRankIdeal.Step.frame_printed, Cert.AdamRankIdeal.Step.frame_ideal, Cert.AdamRankIdeal.Step.frame_reference,
    Cert.AdamRankGIdeal.Step.frame_printed, Cert.AdamRankGIdeal.Step.frame_ideal, Cert.AdamRankGIdeal.Step.frame_reference,
    Cert.AdamConvCIdeal.Step.frame_printed, Cert.AdamConvCIdeal.Step.frame_ideal, Cert.AdamConvCIdeal.Step.frame_reference,
    Cert.AdamConvIdeal.Step.frame_printed, Cert.AdamConvIdeal.Step.frame_ideal, Cert.AdamConvIdeal.Step.frame_reference,
    Cert.AdamRepIdeal.Step.frame_printed, Cert.AdamRepIdeal.Step.frame_ideal, Cert.AdamRepIdeal.Step.frame_reference,
    ⟨IdealRules.bf16_pack.statement _, IdealRules.bf16_pack.statement _⟩, attention,
    trivial, Cert.DActIdeal.Block.algebra, trivial, Cert.DwDownIdeal.Block.algebra, trivial, Cert.DHfIdeal.Block.algebra, trivial, Cert.DwUpIdeal.Block.algebra,
    trivial, Cert.DCatIdeal.Block.algebra, trivial, Cert.DwOutIdeal.Block.algebra, trivial, Cert.OutProjIdeal.Block.algebra, trivial, Cert.FfnUpIdeal.Block.algebra, trivial, Cert.FfnDownIdeal.Block.algebra,
    trivial, Cert.GateIdeal.Gate.algebra, trivial, Cert.NormIdeal.Norm.algebra,
    trivial, Cert.InSwaIdeal.Block.algebra, trivial, Cert.DInSwaIdeal.Block.algebra, trivial, Cert.DwInSwaIdeal.Block.algebra,
    trivial, Cert.InRwkvIdeal.Block.algebra, trivial, Cert.DInRwkvIdeal.Block.algebra, trivial, Cert.DwInRwkvIdeal.Block.algebra,
    trivial, Cert.InGdnIdeal.Block.algebra, trivial, Cert.DInGdnIdeal.Block.algebra, trivial, Cert.DwInGdnIdeal.Block.algebra,
    trivial, Cert.MemKvIdeal.Block.algebra, trivial, Cert.DMemKvIdeal.Block.algebra, trivial, Cert.DwMemKvIdeal.Block.algebra,
    trivial, Cert.NormFIdeal.Norm.algebra, trivial, Cert.NormMIdeal.Norm.algebra, trivial, Cert.NormDIdeal.Norm.algebra,
    trivial, Cert.GateFIdeal.Gate.algebra, trivial, Cert.AdamIdeal.Step.algebra, trivial, Cert.LossIdeal.Loss.algebra,
    trivial, Cert.AdamKvIdeal.Step.algebra, trivial, Cert.AdamOutIdeal.Step.algebra, trivial, Cert.AdamDownIdeal.Step.algebra,
    trivial, Cert.AdamInSwaIdeal.Step.algebra, trivial, Cert.AdamInRwkvIdeal.Step.algebra, trivial, Cert.AdamInGdnIdeal.Step.algebra,
    trivial, Cert.AdamRankIdeal.Step.algebra, trivial, Cert.AdamRankGIdeal.Step.algebra, trivial, Cert.AdamConvCIdeal.Step.algebra,
    trivial, Cert.AdamConvIdeal.Step.algebra, trivial, Cert.AdamRepIdeal.Step.algebra⟩

end Cert.Proof

end
